-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.1 = (fun _ => 1#1)
    ∧ (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.2.2.1 = (fun _ => 1#1)
    ∧ (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_finite [hPre_down_finite : Cert.Pre_down_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.2.2.2.1 = (fun _ => 1#1)
    ∧ (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.2.2.2.2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))).2.2.2 = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).2.1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).2.2.1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))).2.2.2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).2.1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).2.2.1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.2.2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.2.2.2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))).2.2.2.2.2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.2.2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.2.2.2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.2.2.2.2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.2.2.2.2.2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))).2.2.2.2.2.2.2.2.2.2 = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_mid_finite [hPre_mid_finite : Cert.Pre_mid_finite.Facts] (m : (ℓ : Loc Cert.MidIdeal.nD Cert.MidIdeal.τ Cert.MidIdeal.sig) → Buf (Elt Ideal) ℓ) : Prop :=
  ∀ c : Dev Cert.MidIdeal.nD,
    (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12)) (m ((c.tc : Thread Cert.MidIdeal.nD Cert.MidIdeal.τ).loc Cert.MidIdeal.main_arg13)) (m ((c.tc : Thread Cert.MidIdeal.nD Cert.MidIdeal.τ).loc Cert.MidIdeal.main_arg14)) (m ((c.tc : Thread Cert.MidIdeal.nD Cert.MidIdeal.τ).loc Cert.MidIdeal.main_arg15)) (m ((c.tc : Thread Cert.MidIdeal.nD Cert.MidIdeal.τ).loc Cert.MidIdeal.main_arg16)) (m ((c.tc : Thread Cert.MidIdeal.nD Cert.MidIdeal.τ).loc Cert.MidIdeal.main_arg17)) (m ((c.tc : Thread Cert.MidIdeal.nD Cert.MidIdeal.τ).loc Cert.MidIdeal.main_arg18)) (m ((c.tc : Thread Cert.MidIdeal.nD Cert.MidIdeal.τ).loc Cert.MidIdeal.main_arg19)) (m ((c.tc : Thread Cert.MidIdeal.nD Cert.MidIdeal.τ).loc Cert.MidIdeal.main_arg20)) (m ((c.tc : Thread Cert.MidIdeal.nD Cert.MidIdeal.τ).loc Cert.MidIdeal.main_arg21))).1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12)) (m ((c.tc : Thread Cert.MidIdeal.nD Cert.MidIdeal.τ).loc Cert.MidIdeal.main_arg13)) (m ((c.tc : Thread Cert.MidIdeal.nD Cert.MidIdeal.τ).loc Cert.MidIdeal.main_arg14)) (m ((c.tc : Thread Cert.MidIdeal.nD Cert.MidIdeal.τ).loc Cert.MidIdeal.main_arg15)) (m ((c.tc : Thread Cert.MidIdeal.nD Cert.MidIdeal.τ).loc Cert.MidIdeal.main_arg16)) (m ((c.tc : Thread Cert.MidIdeal.nD Cert.MidIdeal.τ).loc Cert.MidIdeal.main_arg17)) (m ((c.tc : Thread Cert.MidIdeal.nD Cert.MidIdeal.τ).loc Cert.MidIdeal.main_arg18)) (m ((c.tc : Thread Cert.MidIdeal.nD Cert.MidIdeal.τ).loc Cert.MidIdeal.main_arg19)) (m ((c.tc : Thread Cert.MidIdeal.nD Cert.MidIdeal.τ).loc Cert.MidIdeal.main_arg20)) (m ((c.tc : Thread Cert.MidIdeal.nD Cert.MidIdeal.τ).loc Cert.MidIdeal.main_arg21))).2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12)) (m ((c.tc : Thread Cert.MidIdeal.nD Cert.MidIdeal.τ).loc Cert.MidIdeal.main_arg13)) (m ((c.tc : Thread Cert.MidIdeal.nD Cert.MidIdeal.τ).loc Cert.MidIdeal.main_arg14)) (m ((c.tc : Thread Cert.MidIdeal.nD Cert.MidIdeal.τ).loc Cert.MidIdeal.main_arg15)) (m ((c.tc : Thread Cert.MidIdeal.nD Cert.MidIdeal.τ).loc Cert.MidIdeal.main_arg16)) (m ((c.tc : Thread Cert.MidIdeal.nD Cert.MidIdeal.τ).loc Cert.MidIdeal.main_arg17)) (m ((c.tc : Thread Cert.MidIdeal.nD Cert.MidIdeal.τ).loc Cert.MidIdeal.main_arg18)) (m ((c.tc : Thread Cert.MidIdeal.nD Cert.MidIdeal.τ).loc Cert.MidIdeal.main_arg19)) (m ((c.tc : Thread Cert.MidIdeal.nD Cert.MidIdeal.τ).loc Cert.MidIdeal.main_arg20)) (m ((c.tc : Thread Cert.MidIdeal.nD Cert.MidIdeal.τ).loc Cert.MidIdeal.main_arg21))).2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12)) (m ((c.tc : Thread Cert.MidIdeal.nD Cert.MidIdeal.τ).loc Cert.MidIdeal.main_arg13)) (m ((c.tc : Thread Cert.MidIdeal.nD Cert.MidIdeal.τ).loc Cert.MidIdeal.main_arg14)) (m ((c.tc : Thread Cert.MidIdeal.nD Cert.MidIdeal.τ).loc Cert.MidIdeal.main_arg15)) (m ((c.tc : Thread Cert.MidIdeal.nD Cert.MidIdeal.τ).loc Cert.MidIdeal.main_arg16)) (m ((c.tc : Thread Cert.MidIdeal.nD Cert.MidIdeal.τ).loc Cert.MidIdeal.main_arg17)) (m ((c.tc : Thread Cert.MidIdeal.nD Cert.MidIdeal.τ).loc Cert.MidIdeal.main_arg18)) (m ((c.tc : Thread Cert.MidIdeal.nD Cert.MidIdeal.τ).loc Cert.MidIdeal.main_arg19)) (m ((c.tc : Thread Cert.MidIdeal.nD Cert.MidIdeal.τ).loc Cert.MidIdeal.main_arg20)) (m ((c.tc : Thread Cert.MidIdeal.nD Cert.MidIdeal.τ).loc Cert.MidIdeal.main_arg21))).2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12)) (m ((c.tc : Thread Cert.MidIdeal.nD Cert.MidIdeal.τ).loc Cert.MidIdeal.main_arg13)) (m ((c.tc : Thread Cert.MidIdeal.nD Cert.MidIdeal.τ).loc Cert.MidIdeal.main_arg14)) (m ((c.tc : Thread Cert.MidIdeal.nD Cert.MidIdeal.τ).loc Cert.MidIdeal.main_arg15)) (m ((c.tc : Thread Cert.MidIdeal.nD Cert.MidIdeal.τ).loc Cert.MidIdeal.main_arg16)) (m ((c.tc : Thread Cert.MidIdeal.nD Cert.MidIdeal.τ).loc Cert.MidIdeal.main_arg17)) (m ((c.tc : Thread Cert.MidIdeal.nD Cert.MidIdeal.τ).loc Cert.MidIdeal.main_arg18)) (m ((c.tc : Thread Cert.MidIdeal.nD Cert.MidIdeal.τ).loc Cert.MidIdeal.main_arg19)) (m ((c.tc : Thread Cert.MidIdeal.nD Cert.MidIdeal.τ).loc Cert.MidIdeal.main_arg20)) (m ((c.tc : Thread Cert.MidIdeal.nD Cert.MidIdeal.τ).loc Cert.MidIdeal.main_arg21))).2.2.2.2.1 = (fun _ => 1#1)
    ∧ (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12)) (m ((c.tc : Thread Cert.MidIdeal.nD Cert.MidIdeal.τ).loc Cert.MidIdeal.main_arg13)) (m ((c.tc : Thread Cert.MidIdeal.nD Cert.MidIdeal.τ).loc Cert.MidIdeal.main_arg14)) (m ((c.tc : Thread Cert.MidIdeal.nD Cert.MidIdeal.τ).loc Cert.MidIdeal.main_arg15)) (m ((c.tc : Thread Cert.MidIdeal.nD Cert.MidIdeal.τ).loc Cert.MidIdeal.main_arg16)) (m ((c.tc : Thread Cert.MidIdeal.nD Cert.MidIdeal.τ).loc Cert.MidIdeal.main_arg17)) (m ((c.tc : Thread Cert.MidIdeal.nD Cert.MidIdeal.τ).loc Cert.MidIdeal.main_arg18)) (m ((c.tc : Thread Cert.MidIdeal.nD Cert.MidIdeal.τ).loc Cert.MidIdeal.main_arg19)) (m ((c.tc : Thread Cert.MidIdeal.nD Cert.MidIdeal.τ).loc Cert.MidIdeal.main_arg20)) (m ((c.tc : Thread Cert.MidIdeal.nD Cert.MidIdeal.τ).loc Cert.MidIdeal.main_arg21))).2.2.2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_mid_finite [hPre_mid_finite : Cert.Pre_mid_finite.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12)) (m ((c.tc : Thread Cert.MidRefIdeal.nD Cert.MidRefIdeal.τ).loc Cert.MidRefIdeal.main_arg13)) (m ((c.tc : Thread Cert.MidRefIdeal.nD Cert.MidRefIdeal.τ).loc Cert.MidRefIdeal.main_arg14)) (m ((c.tc : Thread Cert.MidRefIdeal.nD Cert.MidRefIdeal.τ).loc Cert.MidRefIdeal.main_arg15)) (m ((c.tc : Thread Cert.MidRefIdeal.nD Cert.MidRefIdeal.τ).loc Cert.MidRefIdeal.main_arg16)) (m ((c.tc : Thread Cert.MidRefIdeal.nD Cert.MidRefIdeal.τ).loc Cert.MidRefIdeal.main_arg17)) (m ((c.tc : Thread Cert.MidRefIdeal.nD Cert.MidRefIdeal.τ).loc Cert.MidRefIdeal.main_arg18)) (m ((c.tc : Thread Cert.MidRefIdeal.nD Cert.MidRefIdeal.τ).loc Cert.MidRefIdeal.main_arg19)) (m ((c.tc : Thread Cert.MidRefIdeal.nD Cert.MidRefIdeal.τ).loc Cert.MidRefIdeal.main_arg20)) (m ((c.tc : Thread Cert.MidRefIdeal.nD Cert.MidRefIdeal.τ).loc Cert.MidRefIdeal.main_arg21))).1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12)) (m ((c.tc : Thread Cert.MidRefIdeal.nD Cert.MidRefIdeal.τ).loc Cert.MidRefIdeal.main_arg13)) (m ((c.tc : Thread Cert.MidRefIdeal.nD Cert.MidRefIdeal.τ).loc Cert.MidRefIdeal.main_arg14)) (m ((c.tc : Thread Cert.MidRefIdeal.nD Cert.MidRefIdeal.τ).loc Cert.MidRefIdeal.main_arg15)) (m ((c.tc : Thread Cert.MidRefIdeal.nD Cert.MidRefIdeal.τ).loc Cert.MidRefIdeal.main_arg16)) (m ((c.tc : Thread Cert.MidRefIdeal.nD Cert.MidRefIdeal.τ).loc Cert.MidRefIdeal.main_arg17)) (m ((c.tc : Thread Cert.MidRefIdeal.nD Cert.MidRefIdeal.τ).loc Cert.MidRefIdeal.main_arg18)) (m ((c.tc : Thread Cert.MidRefIdeal.nD Cert.MidRefIdeal.τ).loc Cert.MidRefIdeal.main_arg19)) (m ((c.tc : Thread Cert.MidRefIdeal.nD Cert.MidRefIdeal.τ).loc Cert.MidRefIdeal.main_arg20)) (m ((c.tc : Thread Cert.MidRefIdeal.nD Cert.MidRefIdeal.τ).loc Cert.MidRefIdeal.main_arg21))).2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12)) (m ((c.tc : Thread Cert.MidRefIdeal.nD Cert.MidRefIdeal.τ).loc Cert.MidRefIdeal.main_arg13)) (m ((c.tc : Thread Cert.MidRefIdeal.nD Cert.MidRefIdeal.τ).loc Cert.MidRefIdeal.main_arg14)) (m ((c.tc : Thread Cert.MidRefIdeal.nD Cert.MidRefIdeal.τ).loc Cert.MidRefIdeal.main_arg15)) (m ((c.tc : Thread Cert.MidRefIdeal.nD Cert.MidRefIdeal.τ).loc Cert.MidRefIdeal.main_arg16)) (m ((c.tc : Thread Cert.MidRefIdeal.nD Cert.MidRefIdeal.τ).loc Cert.MidRefIdeal.main_arg17)) (m ((c.tc : Thread Cert.MidRefIdeal.nD Cert.MidRefIdeal.τ).loc Cert.MidRefIdeal.main_arg18)) (m ((c.tc : Thread Cert.MidRefIdeal.nD Cert.MidRefIdeal.τ).loc Cert.MidRefIdeal.main_arg19)) (m ((c.tc : Thread Cert.MidRefIdeal.nD Cert.MidRefIdeal.τ).loc Cert.MidRefIdeal.main_arg20)) (m ((c.tc : Thread Cert.MidRefIdeal.nD Cert.MidRefIdeal.τ).loc Cert.MidRefIdeal.main_arg21))).2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12)) (m ((c.tc : Thread Cert.MidRefIdeal.nD Cert.MidRefIdeal.τ).loc Cert.MidRefIdeal.main_arg13)) (m ((c.tc : Thread Cert.MidRefIdeal.nD Cert.MidRefIdeal.τ).loc Cert.MidRefIdeal.main_arg14)) (m ((c.tc : Thread Cert.MidRefIdeal.nD Cert.MidRefIdeal.τ).loc Cert.MidRefIdeal.main_arg15)) (m ((c.tc : Thread Cert.MidRefIdeal.nD Cert.MidRefIdeal.τ).loc Cert.MidRefIdeal.main_arg16)) (m ((c.tc : Thread Cert.MidRefIdeal.nD Cert.MidRefIdeal.τ).loc Cert.MidRefIdeal.main_arg17)) (m ((c.tc : Thread Cert.MidRefIdeal.nD Cert.MidRefIdeal.τ).loc Cert.MidRefIdeal.main_arg18)) (m ((c.tc : Thread Cert.MidRefIdeal.nD Cert.MidRefIdeal.τ).loc Cert.MidRefIdeal.main_arg19)) (m ((c.tc : Thread Cert.MidRefIdeal.nD Cert.MidRefIdeal.τ).loc Cert.MidRefIdeal.main_arg20)) (m ((c.tc : Thread Cert.MidRefIdeal.nD Cert.MidRefIdeal.τ).loc Cert.MidRefIdeal.main_arg21))).2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12)) (m ((c.tc : Thread Cert.MidRefIdeal.nD Cert.MidRefIdeal.τ).loc Cert.MidRefIdeal.main_arg13)) (m ((c.tc : Thread Cert.MidRefIdeal.nD Cert.MidRefIdeal.τ).loc Cert.MidRefIdeal.main_arg14)) (m ((c.tc : Thread Cert.MidRefIdeal.nD Cert.MidRefIdeal.τ).loc Cert.MidRefIdeal.main_arg15)) (m ((c.tc : Thread Cert.MidRefIdeal.nD Cert.MidRefIdeal.τ).loc Cert.MidRefIdeal.main_arg16)) (m ((c.tc : Thread Cert.MidRefIdeal.nD Cert.MidRefIdeal.τ).loc Cert.MidRefIdeal.main_arg17)) (m ((c.tc : Thread Cert.MidRefIdeal.nD Cert.MidRefIdeal.τ).loc Cert.MidRefIdeal.main_arg18)) (m ((c.tc : Thread Cert.MidRefIdeal.nD Cert.MidRefIdeal.τ).loc Cert.MidRefIdeal.main_arg19)) (m ((c.tc : Thread Cert.MidRefIdeal.nD Cert.MidRefIdeal.τ).loc Cert.MidRefIdeal.main_arg20)) (m ((c.tc : Thread Cert.MidRefIdeal.nD Cert.MidRefIdeal.τ).loc Cert.MidRefIdeal.main_arg21))).2.2.2.2.1 = (fun _ => 1#1)
    ∧ (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12)) (m ((c.tc : Thread Cert.MidRefIdeal.nD Cert.MidRefIdeal.τ).loc Cert.MidRefIdeal.main_arg13)) (m ((c.tc : Thread Cert.MidRefIdeal.nD Cert.MidRefIdeal.τ).loc Cert.MidRefIdeal.main_arg14)) (m ((c.tc : Thread Cert.MidRefIdeal.nD Cert.MidRefIdeal.τ).loc Cert.MidRefIdeal.main_arg15)) (m ((c.tc : Thread Cert.MidRefIdeal.nD Cert.MidRefIdeal.τ).loc Cert.MidRefIdeal.main_arg16)) (m ((c.tc : Thread Cert.MidRefIdeal.nD Cert.MidRefIdeal.τ).loc Cert.MidRefIdeal.main_arg17)) (m ((c.tc : Thread Cert.MidRefIdeal.nD Cert.MidRefIdeal.τ).loc Cert.MidRefIdeal.main_arg18)) (m ((c.tc : Thread Cert.MidRefIdeal.nD Cert.MidRefIdeal.τ).loc Cert.MidRefIdeal.main_arg19)) (m ((c.tc : Thread Cert.MidRefIdeal.nD Cert.MidRefIdeal.τ).loc Cert.MidRefIdeal.main_arg20)) (m ((c.tc : Thread Cert.MidRefIdeal.nD Cert.MidRefIdeal.τ).loc Cert.MidRefIdeal.main_arg21))).2.2.2.2.2 = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_DownRefIdeal_pre_down_finite [hDownRefIdeal : Cert.DownRefIdeal.Facts] [hPre_down_finite : Cert.Pre_down_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12)
      ∧ r.2.mem ((c.tc : Thread Cert.Mid.nD Cert.Mid.τ).loc Cert.Mid.main_arg13) = m ((c.tc : Thread Cert.Mid.nD Cert.Mid.τ).loc Cert.Mid.main_arg13)
      ∧ r.2.mem ((c.tc : Thread Cert.Mid.nD Cert.Mid.τ).loc Cert.Mid.main_arg14) = m ((c.tc : Thread Cert.Mid.nD Cert.Mid.τ).loc Cert.Mid.main_arg14)
      ∧ r.2.mem ((c.tc : Thread Cert.Mid.nD Cert.Mid.τ).loc Cert.Mid.main_arg15) = m ((c.tc : Thread Cert.Mid.nD Cert.Mid.τ).loc Cert.Mid.main_arg15)
      ∧ r.2.mem ((c.tc : Thread Cert.Mid.nD Cert.Mid.τ).loc Cert.Mid.main_arg16) = m ((c.tc : Thread Cert.Mid.nD Cert.Mid.τ).loc Cert.Mid.main_arg16)
      ∧ r.2.mem ((c.tc : Thread Cert.Mid.nD Cert.Mid.τ).loc Cert.Mid.main_arg17) = m ((c.tc : Thread Cert.Mid.nD Cert.Mid.τ).loc Cert.Mid.main_arg17)
      ∧ r.2.mem ((c.tc : Thread Cert.Mid.nD Cert.Mid.τ).loc Cert.Mid.main_arg18) = m ((c.tc : Thread Cert.Mid.nD Cert.Mid.τ).loc Cert.Mid.main_arg18)
      ∧ r.2.mem ((c.tc : Thread Cert.Mid.nD Cert.Mid.τ).loc Cert.Mid.main_arg19) = m ((c.tc : Thread Cert.Mid.nD Cert.Mid.τ).loc Cert.Mid.main_arg19)
      ∧ r.2.mem ((c.tc : Thread Cert.Mid.nD Cert.Mid.τ).loc Cert.Mid.main_arg20) = m ((c.tc : Thread Cert.Mid.nD Cert.Mid.τ).loc Cert.Mid.main_arg20)
      ∧ r.2.mem ((c.tc : Thread Cert.Mid.nD Cert.Mid.τ).loc Cert.Mid.main_arg21) = m ((c.tc : Thread Cert.Mid.nD Cert.Mid.τ).loc Cert.Mid.main_arg21))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
      ∧ r.2.mem ((c.tc : Thread Cert.MidIdeal.nD Cert.MidIdeal.τ).loc Cert.MidIdeal.main_arg13) = m ((c.tc : Thread Cert.MidIdeal.nD Cert.MidIdeal.τ).loc Cert.MidIdeal.main_arg13)
      ∧ r.2.mem ((c.tc : Thread Cert.MidIdeal.nD Cert.MidIdeal.τ).loc Cert.MidIdeal.main_arg14) = m ((c.tc : Thread Cert.MidIdeal.nD Cert.MidIdeal.τ).loc Cert.MidIdeal.main_arg14)
      ∧ r.2.mem ((c.tc : Thread Cert.MidIdeal.nD Cert.MidIdeal.τ).loc Cert.MidIdeal.main_arg15) = m ((c.tc : Thread Cert.MidIdeal.nD Cert.MidIdeal.τ).loc Cert.MidIdeal.main_arg15)
      ∧ r.2.mem ((c.tc : Thread Cert.MidIdeal.nD Cert.MidIdeal.τ).loc Cert.MidIdeal.main_arg16) = m ((c.tc : Thread Cert.MidIdeal.nD Cert.MidIdeal.τ).loc Cert.MidIdeal.main_arg16)
      ∧ r.2.mem ((c.tc : Thread Cert.MidIdeal.nD Cert.MidIdeal.τ).loc Cert.MidIdeal.main_arg17) = m ((c.tc : Thread Cert.MidIdeal.nD Cert.MidIdeal.τ).loc Cert.MidIdeal.main_arg17)
      ∧ r.2.mem ((c.tc : Thread Cert.MidIdeal.nD Cert.MidIdeal.τ).loc Cert.MidIdeal.main_arg18) = m ((c.tc : Thread Cert.MidIdeal.nD Cert.MidIdeal.τ).loc Cert.MidIdeal.main_arg18)
      ∧ r.2.mem ((c.tc : Thread Cert.MidIdeal.nD Cert.MidIdeal.τ).loc Cert.MidIdeal.main_arg19) = m ((c.tc : Thread Cert.MidIdeal.nD Cert.MidIdeal.τ).loc Cert.MidIdeal.main_arg19)
      ∧ r.2.mem ((c.tc : Thread Cert.MidIdeal.nD Cert.MidIdeal.τ).loc Cert.MidIdeal.main_arg20) = m ((c.tc : Thread Cert.MidIdeal.nD Cert.MidIdeal.τ).loc Cert.MidIdeal.main_arg20)
      ∧ r.2.mem ((c.tc : Thread Cert.MidIdeal.nD Cert.MidIdeal.τ).loc Cert.MidIdeal.main_arg21) = m ((c.tc : Thread Cert.MidIdeal.nD Cert.MidIdeal.τ).loc Cert.MidIdeal.main_arg21))
      ∧ r.2.sem = fun _ => 0)

def quiescent_MidIdeal_pre_mid_finite [hMidIdeal : Cert.MidIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg), Pre_MidIdeal_mid_finite m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
      ∧ r.2.mem ((c.tc : Thread Cert.MidIdeal.nD Cert.MidIdeal.τ).loc Cert.MidIdeal.main_arg13) = m ((c.tc : Thread Cert.MidIdeal.nD Cert.MidIdeal.τ).loc Cert.MidIdeal.main_arg13)
      ∧ r.2.mem ((c.tc : Thread Cert.MidIdeal.nD Cert.MidIdeal.τ).loc Cert.MidIdeal.main_arg14) = m ((c.tc : Thread Cert.MidIdeal.nD Cert.MidIdeal.τ).loc Cert.MidIdeal.main_arg14)
      ∧ r.2.mem ((c.tc : Thread Cert.MidIdeal.nD Cert.MidIdeal.τ).loc Cert.MidIdeal.main_arg15) = m ((c.tc : Thread Cert.MidIdeal.nD Cert.MidIdeal.τ).loc Cert.MidIdeal.main_arg15)
      ∧ r.2.mem ((c.tc : Thread Cert.MidIdeal.nD Cert.MidIdeal.τ).loc Cert.MidIdeal.main_arg16) = m ((c.tc : Thread Cert.MidIdeal.nD Cert.MidIdeal.τ).loc Cert.MidIdeal.main_arg16)
      ∧ r.2.mem ((c.tc : Thread Cert.MidIdeal.nD Cert.MidIdeal.τ).loc Cert.MidIdeal.main_arg17) = m ((c.tc : Thread Cert.MidIdeal.nD Cert.MidIdeal.τ).loc Cert.MidIdeal.main_arg17)
      ∧ r.2.mem ((c.tc : Thread Cert.MidIdeal.nD Cert.MidIdeal.τ).loc Cert.MidIdeal.main_arg18) = m ((c.tc : Thread Cert.MidIdeal.nD Cert.MidIdeal.τ).loc Cert.MidIdeal.main_arg18)
      ∧ r.2.mem ((c.tc : Thread Cert.MidIdeal.nD Cert.MidIdeal.τ).loc Cert.MidIdeal.main_arg19) = m ((c.tc : Thread Cert.MidIdeal.nD Cert.MidIdeal.τ).loc Cert.MidIdeal.main_arg19)
      ∧ r.2.mem ((c.tc : Thread Cert.MidIdeal.nD Cert.MidIdeal.τ).loc Cert.MidIdeal.main_arg20) = m ((c.tc : Thread Cert.MidIdeal.nD Cert.MidIdeal.τ).loc Cert.MidIdeal.main_arg20)
      ∧ r.2.mem ((c.tc : Thread Cert.MidIdeal.nD Cert.MidIdeal.τ).loc Cert.MidIdeal.main_arg21) = m ((c.tc : Thread Cert.MidIdeal.nD Cert.MidIdeal.τ).loc Cert.MidIdeal.main_arg21))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12)
      ∧ r.2.mem ((c.tc : Thread Cert.MidRefIdeal.nD Cert.MidRefIdeal.τ).loc Cert.MidRefIdeal.main_arg13) = m ((c.tc : Thread Cert.MidRefIdeal.nD Cert.MidRefIdeal.τ).loc Cert.MidRefIdeal.main_arg13)
      ∧ r.2.mem ((c.tc : Thread Cert.MidRefIdeal.nD Cert.MidRefIdeal.τ).loc Cert.MidRefIdeal.main_arg14) = m ((c.tc : Thread Cert.MidRefIdeal.nD Cert.MidRefIdeal.τ).loc Cert.MidRefIdeal.main_arg14)
      ∧ r.2.mem ((c.tc : Thread Cert.MidRefIdeal.nD Cert.MidRefIdeal.τ).loc Cert.MidRefIdeal.main_arg15) = m ((c.tc : Thread Cert.MidRefIdeal.nD Cert.MidRefIdeal.τ).loc Cert.MidRefIdeal.main_arg15)
      ∧ r.2.mem ((c.tc : Thread Cert.MidRefIdeal.nD Cert.MidRefIdeal.τ).loc Cert.MidRefIdeal.main_arg16) = m ((c.tc : Thread Cert.MidRefIdeal.nD Cert.MidRefIdeal.τ).loc Cert.MidRefIdeal.main_arg16)
      ∧ r.2.mem ((c.tc : Thread Cert.MidRefIdeal.nD Cert.MidRefIdeal.τ).loc Cert.MidRefIdeal.main_arg17) = m ((c.tc : Thread Cert.MidRefIdeal.nD Cert.MidRefIdeal.τ).loc Cert.MidRefIdeal.main_arg17)
      ∧ r.2.mem ((c.tc : Thread Cert.MidRefIdeal.nD Cert.MidRefIdeal.τ).loc Cert.MidRefIdeal.main_arg18) = m ((c.tc : Thread Cert.MidRefIdeal.nD Cert.MidRefIdeal.τ).loc Cert.MidRefIdeal.main_arg18)
      ∧ r.2.mem ((c.tc : Thread Cert.MidRefIdeal.nD Cert.MidRefIdeal.τ).loc Cert.MidRefIdeal.main_arg19) = m ((c.tc : Thread Cert.MidRefIdeal.nD Cert.MidRefIdeal.τ).loc Cert.MidRefIdeal.main_arg19)
      ∧ r.2.mem ((c.tc : Thread Cert.MidRefIdeal.nD Cert.MidRefIdeal.τ).loc Cert.MidRefIdeal.main_arg20) = m ((c.tc : Thread Cert.MidRefIdeal.nD Cert.MidRefIdeal.τ).loc Cert.MidRefIdeal.main_arg20)
      ∧ r.2.mem ((c.tc : Thread Cert.MidRefIdeal.nD Cert.MidRefIdeal.τ).loc Cert.MidRefIdeal.main_arg21) = m ((c.tc : Thread Cert.MidRefIdeal.nD Cert.MidRefIdeal.τ).loc Cert.MidRefIdeal.main_arg21))
      ∧ r.2.sem = fun _ => 0)

def quiescent_MidRefIdeal_pre_mid_finite [hMidRefIdeal : Cert.MidRefIdeal.Facts] [hPre_mid_finite : Cert.Pre_mid_finite.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_mid_finite m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12)
      ∧ r.2.mem ((c.tc : Thread Cert.MidRefIdeal.nD Cert.MidRefIdeal.τ).loc Cert.MidRefIdeal.main_arg13) = m ((c.tc : Thread Cert.MidRefIdeal.nD Cert.MidRefIdeal.τ).loc Cert.MidRefIdeal.main_arg13)
      ∧ r.2.mem ((c.tc : Thread Cert.MidRefIdeal.nD Cert.MidRefIdeal.τ).loc Cert.MidRefIdeal.main_arg14) = m ((c.tc : Thread Cert.MidRefIdeal.nD Cert.MidRefIdeal.τ).loc Cert.MidRefIdeal.main_arg14)
      ∧ r.2.mem ((c.tc : Thread Cert.MidRefIdeal.nD Cert.MidRefIdeal.τ).loc Cert.MidRefIdeal.main_arg15) = m ((c.tc : Thread Cert.MidRefIdeal.nD Cert.MidRefIdeal.τ).loc Cert.MidRefIdeal.main_arg15)
      ∧ r.2.mem ((c.tc : Thread Cert.MidRefIdeal.nD Cert.MidRefIdeal.τ).loc Cert.MidRefIdeal.main_arg16) = m ((c.tc : Thread Cert.MidRefIdeal.nD Cert.MidRefIdeal.τ).loc Cert.MidRefIdeal.main_arg16)
      ∧ r.2.mem ((c.tc : Thread Cert.MidRefIdeal.nD Cert.MidRefIdeal.τ).loc Cert.MidRefIdeal.main_arg17) = m ((c.tc : Thread Cert.MidRefIdeal.nD Cert.MidRefIdeal.τ).loc Cert.MidRefIdeal.main_arg17)
      ∧ r.2.mem ((c.tc : Thread Cert.MidRefIdeal.nD Cert.MidRefIdeal.τ).loc Cert.MidRefIdeal.main_arg18) = m ((c.tc : Thread Cert.MidRefIdeal.nD Cert.MidRefIdeal.τ).loc Cert.MidRefIdeal.main_arg18)
      ∧ r.2.mem ((c.tc : Thread Cert.MidRefIdeal.nD Cert.MidRefIdeal.τ).loc Cert.MidRefIdeal.main_arg19) = m ((c.tc : Thread Cert.MidRefIdeal.nD Cert.MidRefIdeal.τ).loc Cert.MidRefIdeal.main_arg19)
      ∧ r.2.mem ((c.tc : Thread Cert.MidRefIdeal.nD Cert.MidRefIdeal.τ).loc Cert.MidRefIdeal.main_arg20) = m ((c.tc : Thread Cert.MidRefIdeal.nD Cert.MidRefIdeal.τ).loc Cert.MidRefIdeal.main_arg20)
      ∧ r.2.mem ((c.tc : Thread Cert.MidRefIdeal.nD Cert.MidRefIdeal.τ).loc Cert.MidRefIdeal.main_arg21) = m ((c.tc : Thread Cert.MidRefIdeal.nD Cert.MidRefIdeal.τ).loc Cert.MidRefIdeal.main_arg21))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_v39) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Inproj_InprojIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v57_0)) (v1 : (c : Dev Cert.InprojIdeal.nD) → Buf (Elt Ideal) ((c.tc : Thread Cert.InprojIdeal.nD Cert.InprojIdeal.τ).loc Cert.InprojIdeal.main_v57_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v57_0) = v0 c
          ∧ r.2.mem ((c.tc : Thread Cert.InprojIdeal.nD Cert.InprojIdeal.τ).loc Cert.InprojIdeal.main_v57_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v38) = v0 c
          ∧ r.2.mem ((c.tc : Thread Cert.InprojRefIdeal.nD Cert.InprojRefIdeal.τ).loc Cert.InprojRefIdeal.main_v39) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Down_DownIdeal : Prop :=
  True

def algebraic_DownIdeal_DownRefIdeal_pre_down_finite [hDownIdeal : Cert.DownIdeal.Facts] [hDownRefIdeal : Cert.DownRefIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_finite m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)) (v2 : (c : Dev Cert.DownIdeal.nD) → Buf (Elt Ideal) ((c.tc : Thread Cert.DownIdeal.nD Cert.DownIdeal.τ).loc Cert.DownIdeal.main_v5_0)) (v3 : (c : Dev Cert.DownIdeal.nD) → Buf (Elt Ideal) ((c.tc : Thread Cert.DownIdeal.nD Cert.DownIdeal.τ).loc Cert.DownIdeal.main_v5_1)) (v4 : (c : Dev Cert.DownIdeal.nD) → Buf (Elt Ideal) ((c.tc : Thread Cert.DownIdeal.nD Cert.DownIdeal.τ).loc Cert.DownIdeal.main_v6_0)) (v5 : (c : Dev Cert.DownIdeal.nD) → Buf (Elt Ideal) ((c.tc : Thread Cert.DownIdeal.nD Cert.DownIdeal.τ).loc Cert.DownIdeal.main_v6_1)) (v6 : (c : Dev Cert.DownIdeal.nD) → Buf (Elt Ideal) ((c.tc : Thread Cert.DownIdeal.nD Cert.DownIdeal.τ).loc Cert.DownIdeal.main_v6_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_v5_0) = v2 c
          ∧ r.2.mem ((c.tc : Thread Cert.DownIdeal.nD Cert.DownIdeal.τ).loc Cert.DownIdeal.main_v5_1) = v3 c
          ∧ r.2.mem ((c.tc : Thread Cert.DownIdeal.nD Cert.DownIdeal.τ).loc Cert.DownIdeal.main_v6_0) = v4 c
          ∧ r.2.mem ((c.tc : Thread Cert.DownIdeal.nD Cert.DownIdeal.τ).loc Cert.DownIdeal.main_v6_1) = v5 c
          ∧ r.2.mem ((c.tc : Thread Cert.DownIdeal.nD Cert.DownIdeal.τ).loc Cert.DownIdeal.main_v6_2) = v6 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v63) = v0 c
          ∧ r.2.mem ((c.tc : Thread Cert.DownRefIdeal.nD Cert.DownRefIdeal.τ).loc Cert.DownRefIdeal.main_v66) = v1 c
          ∧ r.2.mem ((c.tc : Thread Cert.DownRefIdeal.nD Cert.DownRefIdeal.τ).loc Cert.DownRefIdeal.main_v21) = v2 c
          ∧ r.2.mem ((c.tc : Thread Cert.DownRefIdeal.nD Cert.DownRefIdeal.τ).loc Cert.DownRefIdeal.main_v38) = v3 c
          ∧ r.2.mem ((c.tc : Thread Cert.DownRefIdeal.nD Cert.DownRefIdeal.τ).loc Cert.DownRefIdeal.main_v67) = v4 c
          ∧ r.2.mem ((c.tc : Thread Cert.DownRefIdeal.nD Cert.DownRefIdeal.τ).loc Cert.DownRefIdeal.main_v68) = v5 c
          ∧ r.2.mem ((c.tc : Thread Cert.DownRefIdeal.nD Cert.DownRefIdeal.τ).loc Cert.DownRefIdeal.main_v69) = v6 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Mla_MlaIdeal : Prop :=
  IdealRules.named_const.Statement Cert.MlaIdeal.κ "log2e" .f32 0x3FB8AA3B#32 (((Real.log 2)⁻¹ : ℝ) : EReal)
  ∧ IdealRules.named_const.Statement Cert.MlaIdeal.κ "scale_mla" .f32 0x3DD105EC#32 (((Real.sqrt 96)⁻¹ : ℝ) : EReal)
  ∧ IdealRules.named_const.Statement Cert.MlaIdeal.κ "ln2" .f32 0x3F317218#32 ((Real.log 2 : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v46)) (v1 : (c : Dev Cert.MlaIdeal.nD) → Buf (Elt Ideal) ((c.tc : Thread Cert.MlaIdeal.nD Cert.MlaIdeal.τ).loc Cert.MlaIdeal.main_v56)) (v2 : (c : Dev Cert.MlaIdeal.nD) → Buf (Elt Ideal) ((c.tc : Thread Cert.MlaIdeal.nD Cert.MlaIdeal.τ).loc Cert.MlaIdeal.main_v67)) (v3 : (c : Dev Cert.MlaIdeal.nD) → Buf (Elt Ideal) ((c.tc : Thread Cert.MlaIdeal.nD Cert.MlaIdeal.τ).loc Cert.MlaIdeal.main_v72)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v46) = v0 c
          ∧ r.2.mem ((c.tc : Thread Cert.MlaIdeal.nD Cert.MlaIdeal.τ).loc Cert.MlaIdeal.main_v56) = v1 c
          ∧ r.2.mem ((c.tc : Thread Cert.MlaIdeal.nD Cert.MlaIdeal.τ).loc Cert.MlaIdeal.main_v67) = v2 c
          ∧ r.2.mem ((c.tc : Thread Cert.MlaIdeal.nD Cert.MlaIdeal.τ).loc Cert.MlaIdeal.main_v72) = v3 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v36) = v0 c
          ∧ r.2.mem ((c.tc : Thread Cert.MlaRefIdeal.nD Cert.MlaRefIdeal.τ).loc Cert.MlaRefIdeal.main_v59) = v1 c
          ∧ r.2.mem ((c.tc : Thread Cert.MlaRefIdeal.nD Cert.MlaRefIdeal.τ).loc Cert.MlaRefIdeal.main_v57) = v2 c
          ∧ r.2.mem ((c.tc : Thread Cert.MlaRefIdeal.nD Cert.MlaRefIdeal.τ).loc Cert.MlaRefIdeal.main_v41) = v3 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Gqa_GqaIdeal : Prop :=
  IdealRules.named_const.Statement Cert.GqaIdeal.κ "log2e" .f32 0x3FB8AA3B#32 (((Real.log 2)⁻¹ : ℝ) : EReal)
  ∧ IdealRules.named_const.Statement Cert.GqaIdeal.κ "ln2" .f32 0x3F317218#32 ((Real.log 2 : ℝ) : EReal)

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)) →
    ∃ (v0 : (c : Dev Cert.GqaIdeal.nD) → Buf (Elt Ideal) ((c.tc : Thread Cert.GqaIdeal.nD Cert.GqaIdeal.τ).loc Cert.GqaIdeal.main_v38)) (v1 : (c : Dev Cert.GqaIdeal.nD) → Buf (Elt Ideal) ((c.tc : Thread Cert.GqaIdeal.nD Cert.GqaIdeal.τ).loc Cert.GqaIdeal.main_v44)) (v2 : (c : Dev Cert.GqaIdeal.nD) → Buf (Elt Ideal) ((c.tc : Thread Cert.GqaIdeal.nD Cert.GqaIdeal.τ).loc Cert.GqaIdeal.main_v51)) (v3 : (c : Dev Cert.GqaIdeal.nD) → Buf (Elt Ideal) ((c.tc : Thread Cert.GqaIdeal.nD Cert.GqaIdeal.τ).loc Cert.GqaIdeal.main_v56)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v38) = v0 c
          ∧ r.2.mem ((c.tc : Thread Cert.GqaIdeal.nD Cert.GqaIdeal.τ).loc Cert.GqaIdeal.main_v44) = v1 c
          ∧ r.2.mem ((c.tc : Thread Cert.GqaIdeal.nD Cert.GqaIdeal.τ).loc Cert.GqaIdeal.main_v51) = v2 c
          ∧ r.2.mem ((c.tc : Thread Cert.GqaIdeal.nD Cert.GqaIdeal.τ).loc Cert.GqaIdeal.main_v56) = v3 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v37) = v0 c
          ∧ r.2.mem ((c.tc : Thread Cert.GqaRefIdeal.nD Cert.GqaRefIdeal.τ).loc Cert.GqaRefIdeal.main_v59) = v1 c
          ∧ r.2.mem ((c.tc : Thread Cert.GqaRefIdeal.nD Cert.GqaRefIdeal.τ).loc Cert.GqaRefIdeal.main_v61) = v2 c
          ∧ r.2.mem ((c.tc : Thread Cert.GqaRefIdeal.nD Cert.GqaRefIdeal.τ).loc Cert.GqaRefIdeal.main_v42) = v3 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v30_0)) (v1 : (c : Dev Cert.MergeIdeal.nD) → Buf (Elt Ideal) ((c.tc : Thread Cert.MergeIdeal.nD Cert.MergeIdeal.τ).loc Cert.MergeIdeal.main_v30_2)) (v2 : (c : Dev Cert.MergeIdeal.nD) → Buf (Elt Ideal) ((c.tc : Thread Cert.MergeIdeal.nD Cert.MergeIdeal.τ).loc Cert.MergeIdeal.main_v49_0)) (v3 : (c : Dev Cert.MergeIdeal.nD) → Buf (Elt Ideal) ((c.tc : Thread Cert.MergeIdeal.nD Cert.MergeIdeal.τ).loc Cert.MergeIdeal.main_v49_1)) (v4 : (c : Dev Cert.MergeIdeal.nD) → Buf (Elt Ideal) ((c.tc : Thread Cert.MergeIdeal.nD Cert.MergeIdeal.τ).loc Cert.MergeIdeal.main_v49_2)) (v5 : (c : Dev Cert.MergeIdeal.nD) → Buf (Elt Ideal) ((c.tc : Thread Cert.MergeIdeal.nD Cert.MergeIdeal.τ).loc Cert.MergeIdeal.main_v49_3)) (v6 : (c : Dev Cert.MergeIdeal.nD) → Buf (Elt Ideal) ((c.tc : Thread Cert.MergeIdeal.nD Cert.MergeIdeal.τ).loc Cert.MergeIdeal.main_v49_4)) (v7 : (c : Dev Cert.MergeIdeal.nD) → Buf (Elt Ideal) ((c.tc : Thread Cert.MergeIdeal.nD Cert.MergeIdeal.τ).loc Cert.MergeIdeal.main_v50_0)) (v8 : (c : Dev Cert.MergeIdeal.nD) → Buf (Elt Ideal) ((c.tc : Thread Cert.MergeIdeal.nD Cert.MergeIdeal.τ).loc Cert.MergeIdeal.main_v50_1)) (v9 : (c : Dev Cert.MergeIdeal.nD) → Buf (Elt Ideal) ((c.tc : Thread Cert.MergeIdeal.nD Cert.MergeIdeal.τ).loc Cert.MergeIdeal.main_v50_2)) (v10 : (c : Dev Cert.MergeIdeal.nD) → Buf (Elt Ideal) ((c.tc : Thread Cert.MergeIdeal.nD Cert.MergeIdeal.τ).loc Cert.MergeIdeal.main_v50_3)) (v11 : (c : Dev Cert.MergeIdeal.nD) → Buf (Elt Ideal) ((c.tc : Thread Cert.MergeIdeal.nD Cert.MergeIdeal.τ).loc Cert.MergeIdeal.main_v53)) (v12 : (c : Dev Cert.MergeIdeal.nD) → Buf (Elt Ideal) ((c.tc : Thread Cert.MergeIdeal.nD Cert.MergeIdeal.τ).loc Cert.MergeIdeal.main_v56)) (v13 : (c : Dev Cert.MergeIdeal.nD) → Buf (Elt Ideal) ((c.tc : Thread Cert.MergeIdeal.nD Cert.MergeIdeal.τ).loc Cert.MergeIdeal.main_v50_6)) (v14 : (c : Dev Cert.MergeIdeal.nD) → Buf (Elt Ideal) ((c.tc : Thread Cert.MergeIdeal.nD Cert.MergeIdeal.τ).loc Cert.MergeIdeal.main_v50_7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v30_0) = v0 c
          ∧ r.2.mem ((c.tc : Thread Cert.MergeIdeal.nD Cert.MergeIdeal.τ).loc Cert.MergeIdeal.main_v30_2) = v1 c
          ∧ r.2.mem ((c.tc : Thread Cert.MergeIdeal.nD Cert.MergeIdeal.τ).loc Cert.MergeIdeal.main_v49_0) = v2 c
          ∧ r.2.mem ((c.tc : Thread Cert.MergeIdeal.nD Cert.MergeIdeal.τ).loc Cert.MergeIdeal.main_v49_1) = v3 c
          ∧ r.2.mem ((c.tc : Thread Cert.MergeIdeal.nD Cert.MergeIdeal.τ).loc Cert.MergeIdeal.main_v49_2) = v4 c
          ∧ r.2.mem ((c.tc : Thread Cert.MergeIdeal.nD Cert.MergeIdeal.τ).loc Cert.MergeIdeal.main_v49_3) = v5 c
          ∧ r.2.mem ((c.tc : Thread Cert.MergeIdeal.nD Cert.MergeIdeal.τ).loc Cert.MergeIdeal.main_v49_4) = v6 c
          ∧ r.2.mem ((c.tc : Thread Cert.MergeIdeal.nD Cert.MergeIdeal.τ).loc Cert.MergeIdeal.main_v50_0) = v7 c
          ∧ r.2.mem ((c.tc : Thread Cert.MergeIdeal.nD Cert.MergeIdeal.τ).loc Cert.MergeIdeal.main_v50_1) = v8 c
          ∧ r.2.mem ((c.tc : Thread Cert.MergeIdeal.nD Cert.MergeIdeal.τ).loc Cert.MergeIdeal.main_v50_2) = v9 c
          ∧ r.2.mem ((c.tc : Thread Cert.MergeIdeal.nD Cert.MergeIdeal.τ).loc Cert.MergeIdeal.main_v50_3) = v10 c
          ∧ r.2.mem ((c.tc : Thread Cert.MergeIdeal.nD Cert.MergeIdeal.τ).loc Cert.MergeIdeal.main_v53) = v11 c
          ∧ r.2.mem ((c.tc : Thread Cert.MergeIdeal.nD Cert.MergeIdeal.τ).loc Cert.MergeIdeal.main_v56) = v12 c
          ∧ r.2.mem ((c.tc : Thread Cert.MergeIdeal.nD Cert.MergeIdeal.τ).loc Cert.MergeIdeal.main_v50_6) = v13 c
          ∧ r.2.mem ((c.tc : Thread Cert.MergeIdeal.nD Cert.MergeIdeal.τ).loc Cert.MergeIdeal.main_v50_7) = v14 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v86) = v0 c
          ∧ r.2.mem ((c.tc : Thread Cert.MergeRefIdeal.nD Cert.MergeRefIdeal.τ).loc Cert.MergeRefIdeal.main_v87) = v1 c
          ∧ r.2.mem ((c.tc : Thread Cert.MergeRefIdeal.nD Cert.MergeRefIdeal.τ).loc Cert.MergeRefIdeal.main_v88) = v2 c
          ∧ r.2.mem ((c.tc : Thread Cert.MergeRefIdeal.nD Cert.MergeRefIdeal.τ).loc Cert.MergeRefIdeal.main_v89) = v3 c
          ∧ r.2.mem ((c.tc : Thread Cert.MergeRefIdeal.nD Cert.MergeRefIdeal.τ).loc Cert.MergeRefIdeal.main_v90) = v4 c
          ∧ r.2.mem ((c.tc : Thread Cert.MergeRefIdeal.nD Cert.MergeRefIdeal.τ).loc Cert.MergeRefIdeal.main_v34) = v5 c
          ∧ r.2.mem ((c.tc : Thread Cert.MergeRefIdeal.nD Cert.MergeRefIdeal.τ).loc Cert.MergeRefIdeal.main_v51) = v6 c
          ∧ r.2.mem ((c.tc : Thread Cert.MergeRefIdeal.nD Cert.MergeRefIdeal.τ).loc Cert.MergeRefIdeal.main_v91) = v7 c
          ∧ r.2.mem ((c.tc : Thread Cert.MergeRefIdeal.nD Cert.MergeRefIdeal.τ).loc Cert.MergeRefIdeal.main_v92) = v8 c
          ∧ r.2.mem ((c.tc : Thread Cert.MergeRefIdeal.nD Cert.MergeRefIdeal.τ).loc Cert.MergeRefIdeal.main_v93) = v9 c
          ∧ r.2.mem ((c.tc : Thread Cert.MergeRefIdeal.nD Cert.MergeRefIdeal.τ).loc Cert.MergeRefIdeal.main_v94) = v10 c
          ∧ r.2.mem ((c.tc : Thread Cert.MergeRefIdeal.nD Cert.MergeRefIdeal.τ).loc Cert.MergeRefIdeal.main_v95) = v11 c
          ∧ r.2.mem ((c.tc : Thread Cert.MergeRefIdeal.nD Cert.MergeRefIdeal.τ).loc Cert.MergeRefIdeal.main_v96) = v12 c
          ∧ r.2.mem ((c.tc : Thread Cert.MergeRefIdeal.nD Cert.MergeRefIdeal.τ).loc Cert.MergeRefIdeal.main_v97) = v13 c
          ∧ r.2.mem ((c.tc : Thread Cert.MergeRefIdeal.nD Cert.MergeRefIdeal.τ).loc Cert.MergeRefIdeal.main_v98) = v14 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Mid_MidIdeal : Prop :=
  IdealRules.named_const.Statement Cert.MidIdeal.κ "inv_rank" .f32 0x3B2AAAAB#32 ((384⁻¹ : ℝ) : EReal)

def algebraic_MidIdeal_MidRefIdeal_pre_mid_finite [hMidIdeal : Cert.MidIdeal.Facts] [hMidRefIdeal : Cert.MidRefIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_mid_finite m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)
      ∧ m' ((c.tc : Thread Cert.MidRefIdeal.nD Cert.MidRefIdeal.τ).loc Cert.MidRefIdeal.main_arg12) = m ((c.tc : Thread Cert.MidIdeal.nD Cert.MidIdeal.τ).loc Cert.MidIdeal.main_arg12)
      ∧ m' ((c.tc : Thread Cert.MidRefIdeal.nD Cert.MidRefIdeal.τ).loc Cert.MidRefIdeal.main_arg13) = m ((c.tc : Thread Cert.MidIdeal.nD Cert.MidIdeal.τ).loc Cert.MidIdeal.main_arg13)
      ∧ m' ((c.tc : Thread Cert.MidRefIdeal.nD Cert.MidRefIdeal.τ).loc Cert.MidRefIdeal.main_arg14) = m ((c.tc : Thread Cert.MidIdeal.nD Cert.MidIdeal.τ).loc Cert.MidIdeal.main_arg14)
      ∧ m' ((c.tc : Thread Cert.MidRefIdeal.nD Cert.MidRefIdeal.τ).loc Cert.MidRefIdeal.main_arg15) = m ((c.tc : Thread Cert.MidIdeal.nD Cert.MidIdeal.τ).loc Cert.MidIdeal.main_arg15)
      ∧ m' ((c.tc : Thread Cert.MidRefIdeal.nD Cert.MidRefIdeal.τ).loc Cert.MidRefIdeal.main_arg16) = m ((c.tc : Thread Cert.MidIdeal.nD Cert.MidIdeal.τ).loc Cert.MidIdeal.main_arg16)
      ∧ m' ((c.tc : Thread Cert.MidRefIdeal.nD Cert.MidRefIdeal.τ).loc Cert.MidRefIdeal.main_arg17) = m ((c.tc : Thread Cert.MidIdeal.nD Cert.MidIdeal.τ).loc Cert.MidIdeal.main_arg17)
      ∧ m' ((c.tc : Thread Cert.MidRefIdeal.nD Cert.MidRefIdeal.τ).loc Cert.MidRefIdeal.main_arg18) = m ((c.tc : Thread Cert.MidIdeal.nD Cert.MidIdeal.τ).loc Cert.MidIdeal.main_arg18)
      ∧ m' ((c.tc : Thread Cert.MidRefIdeal.nD Cert.MidRefIdeal.τ).loc Cert.MidRefIdeal.main_arg19) = m ((c.tc : Thread Cert.MidIdeal.nD Cert.MidIdeal.τ).loc Cert.MidIdeal.main_arg19)
      ∧ m' ((c.tc : Thread Cert.MidRefIdeal.nD Cert.MidRefIdeal.τ).loc Cert.MidRefIdeal.main_arg20) = m ((c.tc : Thread Cert.MidIdeal.nD Cert.MidIdeal.τ).loc Cert.MidIdeal.main_arg20)
      ∧ m' ((c.tc : Thread Cert.MidRefIdeal.nD Cert.MidRefIdeal.τ).loc Cert.MidRefIdeal.main_arg21) = m ((c.tc : Thread Cert.MidIdeal.nD Cert.MidIdeal.τ).loc Cert.MidIdeal.main_arg21)) →
    ∃ (v0 : (c : Dev Cert.MidIdeal.nD) → Buf (Elt Ideal) ((c.tc : Thread Cert.MidIdeal.nD Cert.MidIdeal.τ).loc Cert.MidIdeal.main_v118)) (v1 : (c : Dev Cert.MidIdeal.nD) → Buf (Elt Ideal) ((c.tc : Thread Cert.MidIdeal.nD Cert.MidIdeal.τ).loc Cert.MidIdeal.main_v128)) (v2 : (c : Dev Cert.MidIdeal.nD) → Buf (Elt Ideal) ((c.tc : Thread Cert.MidIdeal.nD Cert.MidIdeal.τ).loc Cert.MidIdeal.main_v117_6)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v118) = v0 c
          ∧ r.2.mem ((c.tc : Thread Cert.MidIdeal.nD Cert.MidIdeal.τ).loc Cert.MidIdeal.main_v128) = v1 c
          ∧ r.2.mem ((c.tc : Thread Cert.MidIdeal.nD Cert.MidIdeal.τ).loc Cert.MidIdeal.main_v117_6) = v2 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
          ∧ r.2.mem ((c.tc : Thread Cert.MidIdeal.nD Cert.MidIdeal.τ).loc Cert.MidIdeal.main_arg13) = m ((c.tc : Thread Cert.MidIdeal.nD Cert.MidIdeal.τ).loc Cert.MidIdeal.main_arg13)
          ∧ r.2.mem ((c.tc : Thread Cert.MidIdeal.nD Cert.MidIdeal.τ).loc Cert.MidIdeal.main_arg14) = m ((c.tc : Thread Cert.MidIdeal.nD Cert.MidIdeal.τ).loc Cert.MidIdeal.main_arg14)
          ∧ r.2.mem ((c.tc : Thread Cert.MidIdeal.nD Cert.MidIdeal.τ).loc Cert.MidIdeal.main_arg15) = m ((c.tc : Thread Cert.MidIdeal.nD Cert.MidIdeal.τ).loc Cert.MidIdeal.main_arg15)
          ∧ r.2.mem ((c.tc : Thread Cert.MidIdeal.nD Cert.MidIdeal.τ).loc Cert.MidIdeal.main_arg16) = m ((c.tc : Thread Cert.MidIdeal.nD Cert.MidIdeal.τ).loc Cert.MidIdeal.main_arg16)
          ∧ r.2.mem ((c.tc : Thread Cert.MidIdeal.nD Cert.MidIdeal.τ).loc Cert.MidIdeal.main_arg17) = m ((c.tc : Thread Cert.MidIdeal.nD Cert.MidIdeal.τ).loc Cert.MidIdeal.main_arg17)
          ∧ r.2.mem ((c.tc : Thread Cert.MidIdeal.nD Cert.MidIdeal.τ).loc Cert.MidIdeal.main_arg18) = m ((c.tc : Thread Cert.MidIdeal.nD Cert.MidIdeal.τ).loc Cert.MidIdeal.main_arg18)
          ∧ r.2.mem ((c.tc : Thread Cert.MidIdeal.nD Cert.MidIdeal.τ).loc Cert.MidIdeal.main_arg19) = m ((c.tc : Thread Cert.MidIdeal.nD Cert.MidIdeal.τ).loc Cert.MidIdeal.main_arg19)
          ∧ r.2.mem ((c.tc : Thread Cert.MidIdeal.nD Cert.MidIdeal.τ).loc Cert.MidIdeal.main_arg20) = m ((c.tc : Thread Cert.MidIdeal.nD Cert.MidIdeal.τ).loc Cert.MidIdeal.main_arg20)
          ∧ r.2.mem ((c.tc : Thread Cert.MidIdeal.nD Cert.MidIdeal.τ).loc Cert.MidIdeal.main_arg21) = m ((c.tc : Thread Cert.MidIdeal.nD Cert.MidIdeal.τ).loc Cert.MidIdeal.main_arg21))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v88) = v0 c
          ∧ r.2.mem ((c.tc : Thread Cert.MidRefIdeal.nD Cert.MidRefIdeal.τ).loc Cert.MidRefIdeal.main_v89) = v1 c
          ∧ r.2.mem ((c.tc : Thread Cert.MidRefIdeal.nD Cert.MidRefIdeal.τ).loc Cert.MidRefIdeal.main_v90) = v2 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11)
          ∧ r.2.mem ((c.tc : Thread Cert.MidRefIdeal.nD Cert.MidRefIdeal.τ).loc Cert.MidRefIdeal.main_arg12) = m' ((c.tc : Thread Cert.MidRefIdeal.nD Cert.MidRefIdeal.τ).loc Cert.MidRefIdeal.main_arg12)
          ∧ r.2.mem ((c.tc : Thread Cert.MidRefIdeal.nD Cert.MidRefIdeal.τ).loc Cert.MidRefIdeal.main_arg13) = m' ((c.tc : Thread Cert.MidRefIdeal.nD Cert.MidRefIdeal.τ).loc Cert.MidRefIdeal.main_arg13)
          ∧ r.2.mem ((c.tc : Thread Cert.MidRefIdeal.nD Cert.MidRefIdeal.τ).loc Cert.MidRefIdeal.main_arg14) = m' ((c.tc : Thread Cert.MidRefIdeal.nD Cert.MidRefIdeal.τ).loc Cert.MidRefIdeal.main_arg14)
          ∧ r.2.mem ((c.tc : Thread Cert.MidRefIdeal.nD Cert.MidRefIdeal.τ).loc Cert.MidRefIdeal.main_arg15) = m' ((c.tc : Thread Cert.MidRefIdeal.nD Cert.MidRefIdeal.τ).loc Cert.MidRefIdeal.main_arg15)
          ∧ r.2.mem ((c.tc : Thread Cert.MidRefIdeal.nD Cert.MidRefIdeal.τ).loc Cert.MidRefIdeal.main_arg16) = m' ((c.tc : Thread Cert.MidRefIdeal.nD Cert.MidRefIdeal.τ).loc Cert.MidRefIdeal.main_arg16)
          ∧ r.2.mem ((c.tc : Thread Cert.MidRefIdeal.nD Cert.MidRefIdeal.τ).loc Cert.MidRefIdeal.main_arg17) = m' ((c.tc : Thread Cert.MidRefIdeal.nD Cert.MidRefIdeal.τ).loc Cert.MidRefIdeal.main_arg17)
          ∧ r.2.mem ((c.tc : Thread Cert.MidRefIdeal.nD Cert.MidRefIdeal.τ).loc Cert.MidRefIdeal.main_arg18) = m' ((c.tc : Thread Cert.MidRefIdeal.nD Cert.MidRefIdeal.τ).loc Cert.MidRefIdeal.main_arg18)
          ∧ r.2.mem ((c.tc : Thread Cert.MidRefIdeal.nD Cert.MidRefIdeal.τ).loc Cert.MidRefIdeal.main_arg19) = m' ((c.tc : Thread Cert.MidRefIdeal.nD Cert.MidRefIdeal.τ).loc Cert.MidRefIdeal.main_arg19)
          ∧ r.2.mem ((c.tc : Thread Cert.MidRefIdeal.nD Cert.MidRefIdeal.τ).loc Cert.MidRefIdeal.main_arg20) = m' ((c.tc : Thread Cert.MidRefIdeal.nD Cert.MidRefIdeal.τ).loc Cert.MidRefIdeal.main_arg20)
          ∧ r.2.mem ((c.tc : Thread Cert.MidRefIdeal.nD Cert.MidRefIdeal.τ).loc Cert.MidRefIdeal.main_arg21) = m' ((c.tc : Thread Cert.MidRefIdeal.nD Cert.MidRefIdeal.τ).loc Cert.MidRefIdeal.main_arg21))

def Claim : Prop :=
  ∃ (hLoss : Cert.Loss.Facts) (hLossIdeal : Cert.LossIdeal.Facts) (hLossRefIdeal : Cert.LossRefIdeal.Facts) (hUp : Cert.Up.Facts) (hUpIdeal : Cert.UpIdeal.Facts) (hUpRefIdeal : Cert.UpRefIdeal.Facts) (hInproj : Cert.Inproj.Facts) (hInprojIdeal : Cert.InprojIdeal.Facts) (hInprojRefIdeal : Cert.InprojRefIdeal.Facts) (hDown : Cert.Down.Facts) (hDownIdeal : Cert.DownIdeal.Facts) (hDownRefIdeal : Cert.DownRefIdeal.Facts) (hMla : Cert.Mla.Facts) (hMlaIdeal : Cert.MlaIdeal.Facts) (hMlaRefIdeal : Cert.MlaRefIdeal.Facts) (hGqa : Cert.Gqa.Facts) (hGqaIdeal : Cert.GqaIdeal.Facts) (hGqaRefIdeal : Cert.GqaRefIdeal.Facts) (hMerge : Cert.Merge.Facts) (hMergeIdeal : Cert.MergeIdeal.Facts) (hMergeRefIdeal : Cert.MergeRefIdeal.Facts) (hMid : Cert.Mid.Facts) (hMidIdeal : Cert.MidIdeal.Facts) (hMidRefIdeal : Cert.MidRefIdeal.Facts) (hPre_up_finite : Cert.Pre_up_finite.Facts) (hPre_inproj_finite : Cert.Pre_inproj_finite.Facts) (hPre_down_finite : Cert.Pre_down_finite.Facts) (hPre_mla_finite : Cert.Pre_mla_finite.Facts) (hPre_gqa_finite : Cert.Pre_gqa_finite.Facts) (hPre_merge_finite : Cert.Pre_merge_finite.Facts) (hPre_mid_finite : Cert.Pre_mid_finite.Facts),
    quiescent_Loss (hLoss := hLoss)
    ∧ quiescent_LossIdeal (hLossIdeal := hLossIdeal)
    ∧ quiescent_LossRefIdeal (hLossRefIdeal := hLossRefIdeal)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_Down (hDown := hDown)
    ∧ quiescent_DownIdeal (hDownIdeal := hDownIdeal)
    ∧ quiescent_DownIdeal_pre_down_finite (hDownIdeal := hDownIdeal) (hPre_down_finite := hPre_down_finite)
    ∧ quiescent_DownRefIdeal (hDownRefIdeal := hDownRefIdeal)
    ∧ quiescent_DownRefIdeal_pre_down_finite (hDownRefIdeal := hDownRefIdeal) (hPre_down_finite := hPre_down_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_Mid (hMid := hMid)
    ∧ quiescent_MidIdeal (hMidIdeal := hMidIdeal)
    ∧ quiescent_MidIdeal_pre_mid_finite (hMidIdeal := hMidIdeal) (hPre_mid_finite := hPre_mid_finite)
    ∧ quiescent_MidRefIdeal (hMidRefIdeal := hMidRefIdeal)
    ∧ quiescent_MidRefIdeal_pre_mid_finite (hMidRefIdeal := hMidRefIdeal) (hPre_mid_finite := hPre_mid_finite)
    ∧ preserves_Loss_LossIdeal
    ∧ algebraic_LossIdeal_LossRefIdeal (hLossIdeal := hLossIdeal) (hLossRefIdeal := hLossRefIdeal)
    ∧ preserves_Up_UpIdeal
    ∧ algebraic_UpIdeal_UpRefIdeal_pre_up_finite (hUpIdeal := hUpIdeal) (hUpRefIdeal := hUpRefIdeal) (hPre_up_finite := hPre_up_finite)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
    ∧ preserves_Down_DownIdeal
    ∧ algebraic_DownIdeal_DownRefIdeal_pre_down_finite (hDownIdeal := hDownIdeal) (hDownRefIdeal := hDownRefIdeal) (hPre_down_finite := hPre_down_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_Mid_MidIdeal
    ∧ algebraic_MidIdeal_MidRefIdeal_pre_mid_finite (hMidIdeal := hMidIdeal) (hMidRefIdeal := hMidRefIdeal) (hPre_mid_finite := hPre_mid_finite)
-- ==== Pre_down_finite.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8192x1024 .f32) (main_arg1 : FVec F S1024 .f32) (main_arg2 : FVec F S1024x4096 .f32) (main_arg3 : FVec F S4096x1024 .f32) (main_arg4 : FVec F S1024 .f32) (main_arg5 : FVec F S8192x1024 .f32) : IVec S8192x1024 1 × IVec S1024 1 × IVec S1024x4096 1 × IVec S4096x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_gqa_finite.lean ====
abbrev S8192x2x4x64 : Shape := ⟨4, ![8192, 2, 4, 64]⟩
abbrev S8192x2x64 : Shape := ⟨3, ![8192, 2, 64]⟩
abbrev S8192x512 : Shape := ⟨2, ![8192, 512]⟩
abbrev S_ : Shape := ⟨0, ![]⟩

class Facts : Prop where
  bcast_S_S8192x2x4x64 : S_.BroadcastsInDim S8192x2x4x64 (![] : Fin 0 → Fin S8192x2x4x64.rank)
  bcast_S_S8192x2x64 : S_.BroadcastsInDim S8192x2x64 (![] : Fin 0 → Fin S8192x2x64.rank)
  bcast_S_S8192x512 : S_.BroadcastsInDim S8192x512 (![] : Fin 0 → Fin S8192x512.rank)

variable [Facts]

def fn {F : FTy → Type} [FloatOps F] (main_arg0 : FVec F S8192x2x4x64 .f32) (main_arg1 : FVec F S8192x2x64 .f32) (main_arg2 : FVec F S8192x2x64 .f32) (main_arg3 : FVec F S8192x512 .f32) : IVec S8192x2x4x64 1 × IVec S8192x2x64 1 × IVec S8192x2x64 1 × IVec S8192x512 1 :=
  let main_v0 : FVec F S8192x2x4x64 .f32 := Host.absf main_arg0
  let main_cst : FVec F S_ .f32 := constant S_ .f32 0x7F800000#32
  let main_v1 : FVec F S8192x2x4x64 .f32 := broadcastInDim S8192x2x4x64 ![] bcast_S_S8192x2x4x64 main_cst
  let main_v2 : IVec S8192x2x4x64 1 := cmpf .olt main_v0 main_v1
  let main_v3 : FVec F S8192x2x64 .f32 := Host.absf main_arg1
  let main_cst_0 : FVec F S_ .f32 := constant S_ .f32 0x7F800000#32
  let main_v4 : FVec F S8192x2x64 .f32 := broadcastInDim S8192x2x64 ![] bcast_S_S8192x2x64 main_cst_0
  let main_v5 : IVec S8192x2x64 1 := cmpf .olt main_v3 main_v4
  let main_v6 : FVec F S8192x2x64 .f32 := Host.absf main_arg2
  let main_cst_1 : FVec F S_ .f32 := constant S_ .f32 0x7F800000#32
  let main_v7 : FVec F S8192x2x64 .f32 := broadcastInDim S8192x2x64 ![] bcast_S_S8192x2x64 main_cst_1
  let main_v8 : IVec S8192x2x64 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_inproj_finite.lean ====
abbrev S8192x1024 : Shape := ⟨2, ![8192, 1024]⟩
abbrev S1024 : Shape := ⟨1, ![1024]⟩
abbrev S1024x3488 : Shape := ⟨2, ![1024, 3488]⟩
abbrev S8192x3488 : Shape := ⟨2, ![8192, 3488]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x3488 : S_.BroadcastsInDim S1024x3488 (![] : Fin 0 → Fin S1024x3488.rank)
  bcast_S_S8192x3488 : S_.BroadcastsInDim S8192x3488 (![] : Fin 0 → Fin S8192x3488.rank)

variable [Facts]

def fn {F : FTy → Type} [FloatOps F] (main_arg0 : FVec F S8192x1024 .f32) (main_arg1 : FVec F S1024 .f32) (main_arg2 : FVec F S1024x3488 .f32) (main_arg3 : FVec F S8192x3488 .f32) (main_arg4 : FVec F S8192x1024 .f32) : IVec S8192x1024 1 × IVec S1024 1 × IVec S1024x3488 1 × IVec S8192x3488 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3488 .f32 := Host.absf main_arg2
  let main_cst_1 : FVec F S_ .f32 := constant S_ .f32 0x7F800000#32
  let main_v7 : FVec F S1024x3488 .f32 := broadcastInDim S1024x3488 ![] bcast_S_S1024x3488 main_cst_1
  let main_v8 : IVec S1024x3488 1 := cmpf .olt main_v6 main_v7
  let main_v9 : FVec F S8192x3488 .f32 := Host.absf main_arg3
  let main_cst_2 : FVec F S_ .f32 := constant S_ .f32 0x7F800000#32
  let main_v10 : FVec F S8192x3488 .f32 := broadcastInDim S8192x3488 ![] bcast_S_S8192x3488 main_cst_2
  let main_v11 : IVec S8192x3488 1 := cmpf .olt main_v9 main_v10
  (main_v2, main_v5, main_v8, main_v11)
-- ==== Pre_merge_finite.lean ====
abbrev S8192x1024 : Shape := ⟨2, ![8192, 1024]⟩
abbrev S1024 : Shape := ⟨1, ![1024]⟩
abbrev S1024x3488 : Shape := ⟨2, ![1024, 3488]⟩
abbrev S2048 : Shape := ⟨1, ![2048]⟩
abbrev S8192x512 : Shape := ⟨2, ![8192, 512]⟩
abbrev S512x1024 : Shape := ⟨2, ![512, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x3488 : S_.BroadcastsInDim S1024x3488 (![] : Fin 0 → Fin S1024x3488.rank)
  bcast_S_S2048 : S_.BroadcastsInDim S2048 (![] : Fin 0 → Fin S2048.rank)
  bcast_S_S8192x512 : S_.BroadcastsInDim S8192x512 (![] : Fin 0 → Fin S8192x512.rank)
  bcast_S_S512x1024 : S_.BroadcastsInDim S512x1024 (![] : Fin 0 → Fin S512x1024.rank)
  bcast_S_S1024x1024 : S_.BroadcastsInDim S1024x1024 (![] : Fin 0 → Fin S1024x1024.rank)

variable [Facts]

def fn_part1 {F : FTy → Type} [FloatOps F] (main_arg6 : FVec F S512x1024 .f32) (main_arg7 : FVec F S512x1024 .f32) (main_arg8 : FVec F S1024x1024 .f32) (main_arg9 : FVec F S1024 .f32) (main_arg10 : FVec F S8192x1024 .f32) (main_v2 : IVec S8192x1024 1) (main_v5 : IVec S1024 1) (main_v8 : IVec S1024x3488 1) (main_v11 : IVec S2048 1) (main_v14 : IVec S8192x512 1) (main_v17 : IVec S8192x512 1) : IVec S8192x1024 1 × IVec S1024 1 × IVec S1024x3488 1 × IVec S2048 1 × IVec S8192x512 1 × IVec S8192x512 1 × IVec S512x1024 1 × IVec S512x1024 1 × IVec S1024x1024 1 × IVec S1024 1 × IVec S8192x1024 1 :=
  let main_v18 : FVec F S512x1024 .f32 := Host.absf main_arg6
  let main_cst_5 : FVec F S_ .f32 := constant S_ .f32 0x7F800000#32
  let main_v19 : FVec F S512x1024 .f32 := broadcastInDim S512x1024 ![] bcast_S_S512x1024 main_cst_5
  let main_v20 : IVec S512x1024 1 := cmpf .olt main_v18 main_v19
  let main_v21 : FVec F S512x1024 .f32 := Host.absf main_arg7
  let main_cst_6 : FVec F S_ .f32 := constant S_ .f32 0x7F800000#32
  let main_v22 : FVec F S512x1024 .f32 := broadcastInDim S512x1024 ![] bcast_S_S512x1024 main_cst_6
  let main_v23 : IVec S512x1024 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S1024 .f32 := Host.absf main_arg9
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  let main_v30 : FVec F S8192x1024 .f32 := Host.absf main_arg10
  let main_cst_9 : FVec F S_ .f32 := constant S_ .f32 0x7F800000#32
  let main_v31 : FVec F S8192x1024 .f32 := broadcastInDim S8192x1024 ![] bcast_S_S8192x1024 main_cst_9
  let main_v32 : IVec S8192x1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S1024 .f32) (main_arg2 : FVec F S1024x3488 .f32) (main_arg3 : FVec F S2048 .f32) (main_arg4 : FVec F S8192x512 .f32) (main_arg5 : FVec F S8192x512 .f32) (main_arg6 : FVec F S512x1024 .f32) (main_arg7 : FVec F S512x1024 .f32) (main_arg8 : FVec F S1024x1024 .f32) (main_arg9 : FVec F S1024 .f32) (main_arg10 : FVec F S8192x1024 .f32) : IVec S8192x1024 1 × IVec S1024 1 × IVec S1024x3488 1 × IVec S2048 1 × IVec S8192x512 1 × IVec S8192x512 1 × IVec S512x1024 1 × IVec S512x1024 1 × IVec S1024x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3488 .f32 := Host.absf main_arg2
  let main_cst_1 : FVec F S_ .f32 := constant S_ .f32 0x7F800000#32
  let main_v7 : FVec F S1024x3488 .f32 := broadcastInDim S1024x3488 ![] bcast_S_S1024x3488 main_cst_1
  let main_v8 : IVec S1024x3488 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_arg9 main_arg10 main_v2 main_v5 main_v8 main_v11 main_v14 main_v17
-- ==== Pre_mid_finite.lean ====
abbrev S8192x512 : Shape := ⟨2, ![8192, 512]⟩
abbrev S8192x128 : Shape := ⟨2, ![8192, 128]⟩
abbrev S8192x384 : Shape := ⟨2, ![8192, 384]⟩
abbrev S8192x256 : Shape := ⟨2, ![8192, 256]⟩
abbrev S8192x32 : Shape := ⟨2, ![8192, 32]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S8192x64 : Shape := ⟨2, ![8192, 64]⟩
abbrev S8192x8x96 : Shape := ⟨3, ![8192, 8, 96]⟩
abbrev S_ : Shape := ⟨0, ![]⟩

class Facts : Prop where
  bcast_S_S8192x384 : S_.BroadcastsInDim S8192x384 (![] : Fin 0 → Fin S8192x384.rank)
  bcast_S_S384 : S_.BroadcastsInDim S384 (![] : Fin 0 → Fin S384.rank)
  bcast_S_S384x768 : S_.BroadcastsInDim S384x768 (![] : Fin 0 → Fin S384x768.rank)
  bcast_S_S8192x32 : S_.BroadcastsInDim S8192x32 (![] : Fin 0 → Fin S8192x32.rank)
  bcast_S_S8192x8x96 : S_.BroadcastsInDim S8192x8x96 (![] : Fin 0 → Fin S8192x8x96.rank)

variable [Facts]

def fn {F : FTy → Type} [FloatOps F] (main_arg0 : FVec F S8192x512 .f32) (main_arg1 : FVec F S8192x128 .f32) (main_arg2 : FVec F S8192x128 .f32) (main_arg3 : FVec F S8192x384 .f32) (main_arg4 : FVec F S8192x256 .f32) (main_arg5 : FVec F S8192x32 .f32) (main_arg6 : FVec F S64 .f32) (main_arg7 : FVec F S64 .f32) (main_arg8 : FVec F S384 .f32) (main_arg9 : FVec F S256 .f32) (main_arg10 : FVec F S384x768 .f32) (main_arg11 : FVec F S256x1024 .f32) (main_arg12 : FVec F S8192x64 .f32) (main_arg13 : FVec F S8192x64 .f32) (main_arg14 : FVec F S8192x32 .f32) (main_arg15 : FVec F S8192x32 .f32) (main_arg16 : FVec F S8192x512 .f32) (main_arg17 : FVec F S8192x128 .f32) (main_arg18 : FVec F S8192x128 .f32) (main_arg19 : FVec F S8192x8x96 .f32) (main_arg20 : FVec F S8192x8x96 .f32) (main_arg21 : FVec F S8192x512 .f32) : IVec S8192x384 1 × IVec S384 1 × IVec S384x768 1 × IVec S8192x32 1 × IVec S8192x32 1 × IVec S8192x8x96 1 :=
  let main_v0 : FVec F S8192x384 .f32 := Host.absf main_arg3
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_v3 : FVec F S384 .f32 := Host.absf main_arg8
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S384x768 .f32 := Host.absf main_arg10
  let main_cst_1 : FVec F S_ .f32 := constant S_ .f32 0x7F800000#32
  let main_v7 : FVec F S384x768 .f32 := broadcastInDim S384x768 ![] bcast_S_S384x768 main_cst_1
  let main_v8 : IVec S384x768 1 := cmpf .olt main_v6 main_v7
  let main_v9 : FVec F S8192x32 .f32 := Host.absf main_arg14
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_v12 : FVec F S8192x32 .f32 := Host.absf main_arg15
  let main_cst_3 : FVec F S_ .f32 := constant S_ .f32 0x7F800000#32
  let main_v13 : FVec F S8192x32 .f32 := broadcastInDim S8192x32 ![] bcast_S_S8192x32 main_cst_3
  let main_v14 : IVec S8192x32 1 := cmpf .olt main_v12 main_v13
  let main_v15 : FVec F S8192x8x96 .f32 := Host.absf main_arg19
  let main_cst_4 : FVec F S_ .f32 := constant S_ .f32 0x7F800000#32
  let main_v16 : FVec F S8192x8x96 .f32 := broadcastInDim S8192x8x96 ![] bcast_S_S8192x8x96 main_cst_4
  let main_v17 : IVec S8192x8x96 1 := cmpf .olt main_v15 main_v16
  (main_v2, main_v5, main_v8, main_v11, main_v14, main_v17)
-- ==== Pre_mla_finite.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)
  bcast_S_S8192x512 : S_.BroadcastsInDim S8192x512 (![] : Fin 0 → Fin S8192x512.rank)

variable [Facts]

def fn {F : FTy → Type} [FloatOps F] (main_arg0 : FVec F S8192x8x96 .f32) (main_arg1 : FVec F S8192x8x96 .f32) (main_arg2 : FVec F S8192x8x64 .f32) (main_arg3 : FVec F S8192x512 .f32) : IVec S8192x8x96 1 × IVec S8192x8x96 1 × IVec S8192x8x64 1 × IVec S8192x512 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_up_finite.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1024x4096 .f32) (main_arg3 : FVec F S8192x4096 .f32) (main_arg4 : FVec F S8192x1024 .f32) : IVec S8192x1024 1 × IVec S1024 1 × IVec S1024x4096 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S8192x4096 .f32 := Host.absf main_arg3
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  (main_v2, main_v5, main_v8, main_v11)
-- ==== Loss.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Up.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== UpRefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Inproj.lean ====
abbrev S8192x1024 : Shape := ⟨2, ![8192, 1024]⟩
abbrev S1024 : Shape := ⟨1, ![1024]⟩
abbrev S1024x3488 : Shape := ⟨2, ![1024, 3488]⟩
abbrev S8192x3488 : Shape := ⟨2, ![8192, 3488]⟩
abbrev S1024x512 : Shape := ⟨2, ![1024, 512]⟩
abbrev S1024x8x2x2x16 : Shape := ⟨5, ![1024, 8, 2, 2, 16]⟩
abbrev S1024x8x2x32 : Shape := ⟨4, ![1024, 8, 2, 32]⟩
abbrev S_ : Shape := ⟨0, ![]⟩
abbrev S1024x8x2x64 : Shape := ⟨4, ![1024, 8, 2, 64]⟩
abbrev S1024x1024 : Shape := ⟨2, ![1024, 1024]⟩
abbrev S1024x128 : Shape := ⟨2, ![1024, 128]⟩
abbrev S1024x2x2x2x16 : Shape := ⟨5, ![1024, 2, 2, 2, 16]⟩
abbrev S1024x2x2x32 : Shape := ⟨4, ![1024, 2, 2, 32]⟩
abbrev S1024x2x2x64 : Shape := ⟨4, ![1024, 2, 2, 64]⟩
abbrev S1024x256 : Shape := ⟨2, ![1024, 256]⟩
abbrev S1024x2x64 : Shape := ⟨3, ![1024, 2, 64]⟩
abbrev S1024x2x128 : Shape := ⟨3, ![1024, 2, 128]⟩
abbrev S1024x384 : Shape := ⟨2, ![1024, 384]⟩
abbrev S1024x32 : Shape := ⟨2, ![1024, 32]⟩
abbrev S1024x1x2x2x8 : Shape := ⟨5, ![1024, 1, 2, 2, 8]⟩
abbrev S1024x1x2x16 : Shape := ⟨4, ![1024, 1, 2, 16]⟩
abbrev S1024x1x2x64 : Shape := ⟨4, ![1024, 1, 2, 64]⟩
abbrev S1024x2304 : Shape := ⟨2, ![1024, 2304]⟩
abbrev S1024x2048 : Shape := ⟨2, ![1024, 2048]⟩
abbrev S8192x512 : Shape := ⟨2, ![8192, 512]⟩
abbrev S8192x8x2x2x16 : Shape := ⟨5, ![8192, 8, 2, 2, 16]⟩
abbrev S8192x8x2x32 : Shape := ⟨4, ![8192, 8, 2, 32]⟩
abbrev S8192x8x2x64 : Shape := ⟨4, ![8192, 8, 2, 64]⟩
abbrev S8192x128 : Shape := ⟨2, ![8192, 128]⟩
abbrev S8192x2x2x2x16 : Shape := ⟨5, ![8192, 2, 2, 2, 16]⟩
abbrev S8192x2x2x32 : Shape := ⟨4, ![8192, 2, 2, 32]⟩
abbrev S8192x2x2x64 : Shape := ⟨4, ![8192, 2, 2, 64]⟩
abbrev S8192x256 : Shape := ⟨2, ![8192, 256]⟩
abbrev S8192x2x64 : Shape := ⟨3, ![8192, 2, 64]⟩
abbrev S8192x2x128 : Shape := ⟨3, ![8192, 2, 128]⟩
abbrev S8192x384 : Shape := ⟨2, ![8192, 384]⟩
abbrev S8192x32 : Shape := ⟨2, ![8192, 32]⟩
abbrev S8192x1x2x2x8 : Shape := ⟨5, ![8192, 1, 2, 2, 8]⟩
abbrev S8192x1x2x16 : Shape := ⟨4, ![8192, 1, 2, 16]⟩
abbrev S8192x1x2x64 : Shape := ⟨4, ![8192, 1, 2, 64]⟩
abbrev S8192x2304 : Shape := ⟨2, ![8192, 2304]⟩
abbrev S8192x2048 : Shape := ⟨2, ![8192, 2048]⟩
abbrev S1x1024 : Shape := ⟨2, ![1, 1024]⟩
abbrev S512x2304 : Shape := ⟨2, ![512, 2304]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 80
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3488, .f32⟩
  | .hbm, ⟨3, _⟩ => ⟨S8192x3488, .f32⟩
  | .hbm, ⟨4, _⟩ => ⟨S8192x1024, .f32⟩
  | .hbm, ⟨5, _⟩ => ⟨S1024x512, .f32⟩
  | .hbm, ⟨6, _⟩ => ⟨S1024x8x2x2x16, .f32⟩
  | .hbm, ⟨7, _⟩ => ⟨S1024x8x2x2x16, .f32⟩
  | .hbm, ⟨8, _⟩ => ⟨S1024x8x2x32, .f32⟩
  | .hbm, ⟨9, _⟩ => ⟨S_, .f32⟩
  | .hbm, ⟨10, _⟩ => ⟨S_, .f32⟩
  | .hbm, ⟨11, _⟩ => ⟨S1024x8x2x64, .f32⟩
  | .hbm, ⟨12, _⟩ => ⟨S1024x1024, .f32⟩
  | .hbm, ⟨13, _⟩ => ⟨S1024x128, .f32⟩
  | .hbm, ⟨14, _⟩ => ⟨S1024x2x2x2x16, .f32⟩
  | .hbm, ⟨15, _⟩ => ⟨S1024x2x2x2x16, .f32⟩
  | .hbm, ⟨16, _⟩ => ⟨S1024x2x2x32, .f32⟩
  | .hbm, ⟨17, _⟩ => ⟨S_, .f32⟩
  | .hbm, ⟨18, _⟩ => ⟨S_, .f32⟩
  | .hbm, ⟨19, _⟩ => ⟨S1024x2x2x64, .f32⟩
  | .hbm, ⟨20, _⟩ => ⟨S1024x256, .f32⟩
  | .hbm, ⟨21, _⟩ => ⟨S1024x128, .f32⟩
  | .hbm, ⟨22, _⟩ => ⟨S1024x2x64, .f32⟩
  | .hbm, ⟨23, _⟩ => ⟨S_, .i32⟩
  | .hbm, ⟨24, _⟩ => ⟨S_, .f32⟩
  | .hbm, ⟨25, _⟩ => ⟨S1024x2x128, .f32⟩
  | .hbm, ⟨26, _⟩ => ⟨S1024x256, .f32⟩
  | .hbm, ⟨27, _⟩ => ⟨S1024x384, .f32⟩
  | .hbm, ⟨28, _⟩ => ⟨S1024x256, .f32⟩
  | .hbm, ⟨29, _⟩ => ⟨S1024x32, .f32⟩
  | .hbm, ⟨30, _⟩ => ⟨S1024x1x2x2x8, .f32⟩
  | .hbm, ⟨31, _⟩ => ⟨S1024x1x2x2x8, .f32⟩
  | .hbm, ⟨32, _⟩ => ⟨S1024x1x2x16, .f32⟩
  | .hbm, ⟨33, _⟩ => ⟨S_, .f32⟩
  | .hbm, ⟨34, _⟩ => ⟨S_, .f32⟩
  | .hbm, ⟨35, _⟩ => ⟨S1024x1x2x64, .f32⟩
  | .hbm, ⟨36, _⟩ => ⟨S1024x128, .f32⟩
  | .hbm, ⟨37, _⟩ => ⟨S1024x2304, .f32⟩
  | .hbm, ⟨38, _⟩ => ⟨S1024x2048, .f32⟩
  | .hbm, ⟨39, _⟩ => ⟨S8192x512, .f32⟩
  | .hbm, ⟨40, _⟩ => ⟨S8192x8x2x2x16, .f32⟩
  | .hbm, ⟨41, _⟩ => ⟨S8192x8x2x2x16, .f32⟩
  | .hbm, ⟨42, _⟩ => ⟨S8192x8x2x32, .f32⟩
  | .hbm, ⟨43, _⟩ => ⟨S_, .f32⟩
  | .hbm, ⟨44, _⟩ => ⟨S_, .f32⟩
  | .hbm, ⟨45, _⟩ => ⟨S8192x8x2x64, .f32⟩
  | .hbm, ⟨46, _⟩ => ⟨S8192x1024, .f32⟩
  | .hbm, ⟨47, _⟩ => ⟨S8192x128, .f32⟩
  | .hbm, ⟨48, _⟩ => ⟨S8192x2x2x2x16, .f32⟩
  | .hbm, ⟨49, _⟩ => ⟨S8192x2x2x2x16, .f32⟩
  | .hbm, ⟨50, _⟩ => ⟨S8192x2x2x32, .f32⟩
  | .hbm, ⟨51, _⟩ => ⟨S_, .f32⟩
  | .hbm, ⟨52, _⟩ => ⟨S_, .f32⟩
  | .hbm, ⟨53, _⟩ => ⟨S8192x2x2x64, .f32⟩
  | .hbm, ⟨54, _⟩ => ⟨S8192x256, .f32⟩
  | .hbm, ⟨55, _⟩ => ⟨S8192x128, .f32⟩
  | .hbm, ⟨56, _⟩ => ⟨S8192x2x64, .f32⟩
  | .hbm, ⟨57, _⟩ => ⟨S_, .i32⟩
  | .hbm, ⟨58, _⟩ => ⟨S_, .f32⟩
  | .hbm, ⟨59, _⟩ => ⟨S8192x2x128, .f32⟩
  | .hbm, ⟨60, _⟩ => ⟨S8192x256, .f32⟩
  | .hbm, ⟨61, _⟩ => ⟨S8192x384, .f32⟩
  | .hbm, ⟨62, _⟩ => ⟨S8192x256, .f32⟩
  | .hbm, ⟨63, _⟩ => ⟨S8192x32, .f32⟩
  | .hbm, ⟨64, _⟩ => ⟨S8192x1x2x2x8, .f32⟩
  | .hbm, ⟨65, _⟩ => ⟨S8192x1x2x2x8, .f32⟩
  | .hbm, ⟨66, _⟩ => ⟨S8192x1x2x16, .f32⟩
  | .hbm, ⟨67, _⟩ => ⟨S_, .f32⟩
  | .hbm, ⟨68, _⟩ => ⟨S_, .f32⟩
  | .hbm, ⟨69, _⟩ => ⟨S8192x1x2x64, .f32⟩
  | .hbm, ⟨70, _⟩ => ⟨S8192x128, .f32⟩
  | .hbm, ⟨71, _⟩ => ⟨S8192x2304, .f32⟩
  | .hbm, ⟨72, _⟩ => ⟨S8192x2048, .f32⟩
  | .hbm, ⟨73, _⟩ => ⟨S8192x2304, .bf16⟩
  | .hbm, ⟨74, _⟩ => ⟨S8192x2048, .bf16⟩
  | .hbm, ⟨75, _⟩ => ⟨S1024x2304, .bf16⟩
  | .hbm, ⟨76, _⟩ => ⟨S1024x2048, .bf16⟩
  | .hbm, ⟨77, _⟩ => ⟨S1x1024, .f32⟩
  | .hbm, ⟨78, _⟩ => ⟨S8192x1024, .f32⟩
  | .hbm, ⟨79, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S512x2048, .bf16⟩
  | .local _ .vmem, ⟨3, _⟩ => ⟨S512x2048, .bf16⟩
  | .local _ .vmem, ⟨4, _⟩ => ⟨S1024x2304, .bf16⟩
  | .local _ .vmem, ⟨5, _⟩ => ⟨S1024x2048, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call2_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_call3_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_call4_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_call5_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_call6_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_call7_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57_0 : Ref sig .tc := ⟨.hbm, 78, rfl⟩
abbrev main_v57_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InprojRefIdeal.lean ====
abbrev S8192x1024 : Shape := ⟨2, ![8192, 1024]⟩
abbrev S1024 : Shape := ⟨1, ![1024]⟩
abbrev S1024x3488 : Shape := ⟨2, ![1024, 3488]⟩
abbrev S8192x3488 : Shape := ⟨2, ![8192, 3488]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3488, .f32⟩
  | .hbm, ⟨3, _⟩ => ⟨S8192x3488, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3488, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Down.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 18
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S1024x4096, .bf16⟩
  | .hbm, ⟨10, _⟩ => ⟨S8192x1024, .bf16⟩
  | .hbm, ⟨11, _⟩ => ⟨S8192x4096, .bf16⟩
  | .hbm, ⟨12, _⟩ => ⟨S8192x4096, .bf16⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S8192x4096, .bf16⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S4096x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S4096x1024, .bf16⟩
  | .local _ .vmem, ⟨26, _⟩ => ⟨S512x4096, .bf16⟩
  | .local _ .vmem, ⟨27, _⟩ => ⟨S512x4096, .bf16⟩
  | .local _ .vmem, ⟨28, _⟩ => ⟨S512x1024, .bf16⟩
  | .local _ .vmem, ⟨29, _⟩ => ⟨S512x1024, .bf16⟩
  | .local _ .vmem, ⟨30, _⟩ => ⟨S512x4096, .bf16⟩
  | .local _ .vmem, ⟨31, _⟩ => ⟨S512x4096, .bf16⟩
  | .local _ .vmem, ⟨32, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5_0 : Ref sig .tc := ⟨.hbm, 13, rfl⟩
abbrev main_v5_1 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x4096 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]
-- ==== DownRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .i1⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x4096, .f32⟩
  | .hbm, ⟨83, _⟩ => ⟨S8192x4096, .f32⟩
  | .hbm, ⟨84, _⟩ => ⟨S_, .f32⟩
  | .hbm, ⟨85, _⟩ => ⟨S8192x4096, .f32⟩
  | .hbm, ⟨86, _⟩ => ⟨S8192x4096, .f32⟩
  | .hbm, ⟨87, _⟩ => ⟨S8192x1024, .bf16⟩
  | .hbm, ⟨88, _⟩ => ⟨S_, .f32⟩
  | .hbm, ⟨89, _⟩ => ⟨S8192x4096, .f32⟩
  | .hbm, ⟨90, _⟩ => ⟨S8192x4096, .f32⟩
  | .hbm, ⟨91, _⟩ => ⟨S8192x4096, .f32⟩
  | .hbm, ⟨92, _⟩ => ⟨S8192x4096, .bf16⟩
  | .hbm, ⟨93, _⟩ => ⟨S8192x1024, .bf16⟩
  | .hbm, ⟨94, _⟩ => ⟨S8192x4096, .bf16⟩
  | .hbm, ⟨95, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Mla.lean ====
abbrev S8192x8x96 : Shape := ⟨3, ![8192, 8, 96]⟩
abbrev S8192x8x64 : Shape := ⟨3, ![8192, 8, 64]⟩
abbrev S8192x512 : Shape := ⟨2, ![8192, 512]⟩
abbrev S8192x8x32 : Shape := ⟨3, ![8192, 8, 32]⟩
abbrev S8192x256 : Shape := ⟨2, ![8192, 256]⟩
abbrev S8192x8x2x2x8 : Shape := ⟨5, ![8192, 8, 2, 2, 8]⟩
abbrev S8192x8x2x16 : Shape := ⟨4, ![8192, 8, 2, 16]⟩
abbrev S8192x8x2x32 : Shape := ⟨4, ![8192, 8, 2, 32]⟩
abbrev S8192x8x2x48 : Shape := ⟨4, ![8192, 8, 2, 48]⟩
abbrev S_ : Shape := ⟨0, ![]⟩
abbrev S8192x8x2x64 : Shape := ⟨4, ![8192, 8, 2, 64]⟩
abbrev S8192x1024 : Shape := ⟨2, ![8192, 1024]⟩
abbrev S8192x8x128 : Shape := ⟨3, ![8192, 8, 128]⟩
abbrev S1024x128 : Shape := ⟨2, ![1024, 128]⟩
abbrev S8192x128 : Shape := ⟨2, ![8192, 128]⟩
abbrev S256x128 : Shape := ⟨2, ![256, 128]⟩
abbrev S256x8192 : Shape := ⟨2, ![256, 8192]⟩
abbrev S256 : Shape := ⟨1, ![256]⟩
abbrev S256x1 : Shape := ⟨2, ![256, 1]⟩
abbrev S1024x8192 : Shape := ⟨2, ![1024, 8192]⟩
abbrev S512x128 : Shape := ⟨2, ![512, 128]⟩
abbrev S128x8192 : Shape := ⟨2, ![128, 8192]⟩
abbrev S128x256 : Shape := ⟨2, ![128, 256]⟩

abbrev nBuf : Space → Nat
  | .hbm => 116
  | .vmem => 28
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8192x8x32, .f32⟩
  | .hbm, ⟨5, _⟩ => ⟨S8192x256, .f32⟩
  | .hbm, ⟨6, _⟩ => ⟨S8192x8x2x2x8, .f32⟩
  | .hbm, ⟨7, _⟩ => ⟨S8192x8x2x2x8, .f32⟩
  | .hbm, ⟨8, _⟩ => ⟨S8192x8x2x16, .f32⟩
  | .hbm, ⟨9, _⟩ => ⟨S8192x8x64, .f32⟩
  | .hbm, ⟨10, _⟩ => ⟨S8192x8x2x32, .f32⟩
  | .hbm, ⟨11, _⟩ => ⟨S8192x8x2x48, .f32⟩
  | .hbm, ⟨12, _⟩ => ⟨S_, .f32⟩
  | .hbm, ⟨13, _⟩ => ⟨S_, .f32⟩
  | .hbm, ⟨14, _⟩ => ⟨S8192x8x2x64, .f32⟩
  | .hbm, ⟨15, _⟩ => ⟨S8192x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x8x32, .f32⟩
  | .hbm, ⟨27, _⟩ => ⟨S8192x256, .f32⟩
  | .hbm, ⟨28, _⟩ => ⟨S8192x8x2x2x8, .f32⟩
  | .hbm, ⟨29, _⟩ => ⟨S8192x8x2x2x8, .f32⟩
  | .hbm, ⟨30, _⟩ => ⟨S8192x8x2x16, .f32⟩
  | .hbm, ⟨31, _⟩ => ⟨S8192x8x64, .f32⟩
  | .hbm, ⟨32, _⟩ => ⟨S8192x8x2x32, .f32⟩
  | .hbm, ⟨33, _⟩ => ⟨S8192x8x2x48, .f32⟩
  | .hbm, ⟨34, _⟩ => ⟨S_, .f32⟩
  | .hbm, ⟨35, _⟩ => ⟨S_, .f32⟩
  | .hbm, ⟨36, _⟩ => ⟨S8192x8x2x64, .f32⟩
  | .hbm, ⟨37, _⟩ => ⟨S8192x1024, .f32⟩
  | .hbm, ⟨38, _⟩ => ⟨S8192x1024, .bf16⟩
  | .hbm, ⟨39, _⟩ => ⟨S8192x1024, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S8192x1024, .i32⟩
  | .hbm, ⟨47, _⟩ => ⟨S8192x1024, .i32⟩
  | .hbm, ⟨48, _⟩ => ⟨S_, .i32⟩
  | .hbm, ⟨49, _⟩ => ⟨S8192x1024, .i32⟩
  | .hbm, ⟨50, _⟩ => ⟨S8192x1024, .i1⟩
  | .hbm, ⟨51, _⟩ => ⟨S_, .i32⟩
  | .hbm, ⟨52, _⟩ => ⟨S8192x1024, .i32⟩
  | .hbm, ⟨53, _⟩ => ⟨S8192x1024, .i1⟩
  | .hbm, ⟨54, _⟩ => ⟨S_, .i32⟩
  | .hbm, ⟨55, _⟩ => ⟨S_, .i1⟩
  | .hbm, ⟨56, _⟩ => ⟨S8192x1024, .i1⟩
  | .hbm, ⟨57, _⟩ => ⟨S8192x1024, .i1⟩
  | .hbm, ⟨58, _⟩ => ⟨S8192x1024, .i1⟩
  | .hbm, ⟨59, _⟩ => ⟨S8192x1024, .i32⟩
  | .hbm, ⟨60, _⟩ => ⟨S8192x1024, .i32⟩
  | .hbm, ⟨61, _⟩ => ⟨S8192x1024, .i32⟩
  | .hbm, ⟨62, _⟩ => ⟨S_, .i32⟩
  | .hbm, ⟨63, _⟩ => ⟨S8192x1024, .i32⟩
  | .hbm, ⟨64, _⟩ => ⟨S8192x1024, .i1⟩
  | .hbm, ⟨65, _⟩ => ⟨S8192x512, .f32⟩
  | .hbm, ⟨66, _⟩ => ⟨S8192x8x64, .f32⟩
  | .hbm, ⟨67, _⟩ => ⟨S_, .i32⟩
  | .hbm, ⟨68, _⟩ => ⟨S_, .f32⟩
  | .hbm, ⟨69, _⟩ => ⟨S8192x8x128, .f32⟩
  | .hbm, ⟨70, _⟩ => ⟨S8192x1024, .f32⟩
  | .hbm, ⟨71, _⟩ => ⟨S_, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S8192x8x64, .f32⟩
  | .hbm, ⟨77, _⟩ => ⟨S_, .i32⟩
  | .hbm, ⟨78, _⟩ => ⟨S_, .f32⟩
  | .hbm, ⟨79, _⟩ => ⟨S8192x8x128, .f32⟩
  | .hbm, ⟨80, _⟩ => ⟨S8192x1024, .f32⟩
  | .hbm, ⟨81, _⟩ => ⟨S8192x1024, .bf16⟩
  | .hbm, ⟨82, _⟩ => ⟨S8192x1024, .bf16⟩
  | .hbm, ⟨83, _⟩ => ⟨S8192x1024, .f32⟩
  | .hbm, ⟨84, _⟩ => ⟨S8192x1024, .f32⟩
  | .hbm, ⟨85, _⟩ => ⟨S1024x8192, .f32⟩
  | .hbm, ⟨86, _⟩ => ⟨S1024x8192, .f32⟩
  | .hbm, ⟨87, _⟩ => ⟨S8192x8x128, .bf16⟩
  | .hbm, ⟨88, _⟩ => ⟨S8192x8x64, .bf16⟩
  | .hbm, ⟨89, _⟩ => ⟨S8192x512, .bf16⟩
  | .hbm, ⟨90, _⟩ => ⟨S8192x8x2x64, .f32⟩
  | .hbm, ⟨91, _⟩ => ⟨S8192x8x2x16, .f32⟩
  | .hbm, ⟨92, _⟩ => ⟨S8192x8x2x2x8, .f32⟩
  | .hbm, ⟨93, _⟩ => ⟨S8192x8x2x2x8, .f32⟩
  | .hbm, ⟨94, _⟩ => ⟨S8192x256, .f32⟩
  | .hbm, ⟨95, _⟩ => ⟨S8192x8x32, .f32⟩
  | .hbm, ⟨96, _⟩ => ⟨S8192x8x2x64, .f32⟩
  | .hbm, ⟨97, _⟩ => ⟨S8192x8x2x32, .f32⟩
  | .hbm, ⟨98, _⟩ => ⟨S8192x8x64, .f32⟩
  | .hbm, ⟨99, _⟩ => ⟨S8192x8x96, .f32⟩
  | .hbm, ⟨100, _⟩ => ⟨S8192x1024, .f32⟩
  | .hbm, ⟨101, _⟩ => ⟨S8192x8x2x64, .f32⟩
  | .hbm, ⟨102, _⟩ => ⟨S8192x8x2x16, .f32⟩
  | .hbm, ⟨103, _⟩ => ⟨S8192x8x2x2x8, .f32⟩
  | .hbm, ⟨104, _⟩ => ⟨S8192x8x2x2x8, .f32⟩
  | .hbm, ⟨105, _⟩ => ⟨S8192x256, .f32⟩
  | .hbm, ⟨106, _⟩ => ⟨S8192x8x32, .f32⟩
  | .hbm, ⟨107, _⟩ => ⟨S8192x8x2x64, .f32⟩
  | .hbm, ⟨108, _⟩ => ⟨S8192x8x2x32, .f32⟩
  | .hbm, ⟨109, _⟩ => ⟨S8192x8x64, .f32⟩
  | .hbm, ⟨110, _⟩ => ⟨S8192x8x96, .f32⟩
  | .hbm, ⟨111, _⟩ => ⟨S8192x1024, .f32⟩
  | .hbm, ⟨112, _⟩ => ⟨S8192x8x128, .f32⟩
  | .hbm, ⟨113, _⟩ => ⟨S8192x8x64, .f32⟩
  | .hbm, ⟨114, _⟩ => ⟨S8192x512, .f32⟩
  | .hbm, ⟨115, _⟩ => ⟨S8192x8x64, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S8192x128, .bf16⟩
  | .local _ .vmem, ⟨19, _⟩ => ⟨S8192x128, .bf16⟩
  | .local _ .vmem, ⟨20, _⟩ => ⟨S8192x128, .bf16⟩
  | .local _ .vmem, ⟨21, _⟩ => ⟨S8192x128, .bf16⟩
  | .local _ .vmem, ⟨22, _⟩ => ⟨S512x128, .f32⟩
  | .local _ .vmem, ⟨23, _⟩ => ⟨S512x128, .f32⟩
  | .local _ .vmem, ⟨24, _⟩ => ⟨S128x8192, .f32⟩
  | .local _ .vmem, ⟨25, _⟩ => ⟨S128x8192, .f32⟩
  | .local _ .vmem, ⟨26, _⟩ => ⟨S128x8192, .f32⟩
  | .local _ .vmem, ⟨27, _⟩ => ⟨S128x8192, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_call1_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_call2_v0 : Ref sig .tc := ⟨.hbm, 41, rfl⟩
abbrev main_call2_c : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_c_1 : Ref sig .tc := ⟨.hbm, 48, rfl⟩
abbrev main_call2_v5 : Ref sig .tc := ⟨.hbm, 49, rfl⟩
abbrev main_call2_v6 : Ref sig .tc := ⟨.hbm, 50, rfl⟩
abbrev main_call2_c_2 : Ref sig .tc := ⟨.hbm, 51, rfl⟩
abbrev main_call2_v7 : Ref sig .tc := ⟨.hbm, 52, rfl⟩
abbrev main_call2_v8 : Ref sig .tc := ⟨.hbm, 53, rfl⟩
abbrev main_call2_c_3 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_v29 : Ref sig .tc := ⟨.hbm, 61, rfl⟩
abbrev main_c_4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_5 : Ref sig .tc := ⟨.hbm, 67, rfl⟩
abbrev main_call3_v0 : Ref sig .tc := ⟨.hbm, 68, rfl⟩
abbrev main_v34 : Ref sig .tc := ⟨.hbm, 69, rfl⟩
abbrev main_v35 : Ref sig .tc := ⟨.hbm, 70, rfl⟩
abbrev main_cst_6 : Ref sig .tc := ⟨.hbm, 71, rfl⟩
abbrev main_call4_v0 : Ref sig .tc := ⟨.hbm, 72, rfl⟩
abbrev main_call4_v1 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_7 : Ref sig .tc := ⟨.hbm, 77, rfl⟩
abbrev main_call5_v0 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42_0 : Ref sig .tc := ⟨.hbm, 82, rfl⟩
abbrev main_v42_1 : Ref sig .tc := ⟨.hbm, 83, rfl⟩
abbrev main_v43_0 : Ref sig .tc := ⟨.hbm, 84, rfl⟩
abbrev main_v43_1 : Ref sig .tc := ⟨.hbm, 85, rfl⟩
abbrev main_v43_2 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 1, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S8192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S8192x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S128x8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S128x8192 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== MlaIdeal.lean ====
variable {F : FTy → Type} [FloatOps F] [Named F]
def κ : String → Option EReal := fun
  | "ln2" => some ((Real.log 2 : ℝ) : EReal)
  | "log2e" => some (((Real.log 2)⁻¹ : ℝ) : EReal)
  | "scale_mla" => some (((Real.sqrt 96)⁻¹ : ℝ) : EReal)
  | _ => none
-- ==== MlaRefIdeal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 78
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S8x8192x8192, .f32⟩
  | .hbm, ⟨15, _⟩ => ⟨S8x8192x8192, .i1⟩
  | .hbm, ⟨16, _⟩ => ⟨S8x8192x8192, .f32⟩
  | .hbm, ⟨17, _⟩ => ⟨S_, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .i1⟩
  | .hbm, ⟨25, _⟩ => ⟨S_, .f32⟩
  | .hbm, ⟨26, _⟩ => ⟨S8x8192, .f32⟩
  | .hbm, ⟨27, _⟩ => ⟨S8x8192, .i1⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S8x64x8192, .f32⟩
  | .hbm, ⟨50, _⟩ => ⟨S8192x8x64, .f32⟩
  | .hbm, ⟨51, _⟩ => ⟨S8192x512, .f32⟩
  | .hbm, ⟨52, _⟩ => ⟨S8192x512, .bf16⟩
  | .hbm, ⟨53, _⟩ => ⟨S8192x8x64, .f32⟩
  | .hbm, ⟨54, _⟩ => ⟨S8x64x8192, .f32⟩
  | .hbm, ⟨55, _⟩ => ⟨S8x8192x8192, .f32⟩
  | .hbm, ⟨56, _⟩ => ⟨S8x64x8192, .f32⟩
  | .hbm, ⟨57, _⟩ => ⟨S8192x8x64, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x1, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S8x8192x96, .f32⟩
  | .hbm, ⟨75, _⟩ => ⟨S8192x8x96, .f32⟩
  | .hbm, ⟨76, _⟩ => ⟨S8x8192x96, .f32⟩
  | .hbm, ⟨77, _⟩ => ⟨S8192x8x96, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Gqa.lean ====
abbrev S8192x2x4x64 : Shape := ⟨4, ![8192, 2, 4, 64]⟩
abbrev S8192x2x64 : Shape := ⟨3, ![8192, 2, 64]⟩
abbrev S8192x512 : Shape := ⟨2, ![8192, 512]⟩
abbrev S8192x8x2x2x16 : Shape := ⟨5, ![8192, 8, 2, 2, 16]⟩
abbrev S8192x8x2x32 : Shape := ⟨4, ![8192, 8, 2, 32]⟩
abbrev S_ : Shape := ⟨0, ![]⟩
abbrev S8192x8x2x64 : Shape := ⟨4, ![8192, 8, 2, 64]⟩
abbrev S8192x1024 : Shape := ⟨2, ![8192, 1024]⟩
abbrev S8192x128 : Shape := ⟨2, ![8192, 128]⟩
abbrev S8192x2x2x2x16 : Shape := ⟨5, ![8192, 2, 2, 2, 16]⟩
abbrev S8192x2x2x32 : Shape := ⟨4, ![8192, 2, 2, 32]⟩
abbrev S8192x2x2x64 : Shape := ⟨4, ![8192, 2, 2, 64]⟩
abbrev S8192x256 : Shape := ⟨2, ![8192, 256]⟩
abbrev S8192x2x128 : Shape := ⟨3, ![8192, 2, 128]⟩
abbrev S8192x8x64 : Shape := ⟨3, ![8192, 8, 64]⟩
abbrev S8192x8x128 : Shape := ⟨3, ![8192, 8, 128]⟩
abbrev S1024x128 : Shape := ⟨2, ![1024, 128]⟩
abbrev S256x128 : Shape := ⟨2, ![256, 128]⟩
abbrev S256x8192 : Shape := ⟨2, ![256, 8192]⟩
abbrev S256 : Shape := ⟨1, ![256]⟩
abbrev S256x1 : Shape := ⟨2, ![256, 1]⟩
abbrev S512x128 : Shape := ⟨2, ![512, 128]⟩
abbrev S128x8192 : Shape := ⟨2, ![128, 8192]⟩
abbrev S128x256 : Shape := ⟨2, ![128, 256]⟩

abbrev nBuf : Space → Nat
  | .hbm => 100
  | .vmem => 28
  | .smem => 0
  | _ => 0

abbrev bufTy : (tb : Table) → Fin (tcTables nBuf tb) → BufTy
  | .hbm, ⟨0, _⟩ => ⟨S8192x2x4x64, .f32⟩
  | .hbm, ⟨1, _⟩ => ⟨S8192x2x64, .f32⟩
  | .hbm, ⟨2, _⟩ => ⟨S8192x2x64, .f32⟩
  | .hbm, ⟨3, _⟩ => ⟨S8192x512, .f32⟩
  | .hbm, ⟨4, _⟩ => ⟨S8192x512, .f32⟩
  | .hbm, ⟨5, _⟩ => ⟨S8192x8x2x2x16, .f32⟩
  | .hbm, ⟨6, _⟩ => ⟨S8192x8x2x2x16, .f32⟩
  | .hbm, ⟨7, _⟩ => ⟨S8192x8x2x32, .f32⟩
  | .hbm, ⟨8, _⟩ => ⟨S_, .f32⟩
  | .hbm, ⟨9, _⟩ => ⟨S_, .f32⟩
  | .hbm, ⟨10, _⟩ => ⟨S8192x8x2x64, .f32⟩
  | .hbm, ⟨11, _⟩ => ⟨S8192x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x128, .f32⟩
  | .hbm, ⟨23, _⟩ => ⟨S8192x2x2x2x16, .f32⟩
  | .hbm, ⟨24, _⟩ => ⟨S8192x2x2x2x16, .f32⟩
  | .hbm, ⟨25, _⟩ => ⟨S8192x2x2x32, .f32⟩
  | .hbm, ⟨26, _⟩ => ⟨S_, .f32⟩
  | .hbm, ⟨27, _⟩ => ⟨S_, .f32⟩
  | .hbm, ⟨28, _⟩ => ⟨S8192x2x2x64, .f32⟩
  | .hbm, ⟨29, _⟩ => ⟨S8192x256, .f32⟩
  | .hbm, ⟨30, _⟩ => ⟨S8192x256, .bf16⟩
  | .hbm, ⟨31, _⟩ => ⟨S8192x256, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S8192x256, .i32⟩
  | .hbm, ⟨39, _⟩ => ⟨S8192x256, .i32⟩
  | .hbm, ⟨40, _⟩ => ⟨S_, .i32⟩
  | .hbm, ⟨41, _⟩ => ⟨S8192x256, .i32⟩
  | .hbm, ⟨42, _⟩ => ⟨S8192x256, .i1⟩
  | .hbm, ⟨43, _⟩ => ⟨S_, .i32⟩
  | .hbm, ⟨44, _⟩ => ⟨S8192x256, .i32⟩
  | .hbm, ⟨45, _⟩ => ⟨S8192x256, .i1⟩
  | .hbm, ⟨46, _⟩ => ⟨S_, .i32⟩
  | .hbm, ⟨47, _⟩ => ⟨S_, .i1⟩
  | .hbm, ⟨48, _⟩ => ⟨S8192x256, .i1⟩
  | .hbm, ⟨49, _⟩ => ⟨S8192x256, .i1⟩
  | .hbm, ⟨50, _⟩ => ⟨S8192x256, .i1⟩
  | .hbm, ⟨51, _⟩ => ⟨S8192x256, .i32⟩
  | .hbm, ⟨52, _⟩ => ⟨S8192x256, .i32⟩
  | .hbm, ⟨53, _⟩ => ⟨S8192x256, .i32⟩
  | .hbm, ⟨54, _⟩ => ⟨S_, .i32⟩
  | .hbm, ⟨55, _⟩ => ⟨S8192x256, .i32⟩
  | .hbm, ⟨56, _⟩ => ⟨S8192x256, .i1⟩
  | .hbm, ⟨57, _⟩ => ⟨S8192x128, .f32⟩
  | .hbm, ⟨58, _⟩ => ⟨S8192x2x64, .f32⟩
  | .hbm, ⟨59, _⟩ => ⟨S_, .i32⟩
  | .hbm, ⟨60, _⟩ => ⟨S_, .f32⟩
  | .hbm, ⟨61, _⟩ => ⟨S8192x2x128, .f32⟩
  | .hbm, ⟨62, _⟩ => ⟨S8192x256, .f32⟩
  | .hbm, ⟨63, _⟩ => ⟨S_, .f32⟩
  | .hbm, ⟨64, _⟩ => ⟨S_, .f32⟩
  | .hbm, ⟨65, _⟩ => ⟨S8192x256, .f32⟩
  | .hbm, ⟨66, _⟩ => ⟨S8192x256, .f32⟩
  | .hbm, ⟨67, _⟩ => ⟨S8192x256, .bf16⟩
  | .hbm, ⟨68, _⟩ => ⟨S8192x8x64, .f32⟩
  | .hbm, ⟨69, _⟩ => ⟨S_, .i32⟩
  | .hbm, ⟨70, _⟩ => ⟨S_, .f32⟩
  | .hbm, ⟨71, _⟩ => ⟨S8192x8x128, .f32⟩
  | .hbm, ⟨72, _⟩ => ⟨S8192x1024, .f32⟩
  | .hbm, ⟨73, _⟩ => ⟨S8192x1024, .bf16⟩
  | .hbm, ⟨74, _⟩ => ⟨S8192x1024, .bf16⟩
  | .hbm, ⟨75, _⟩ => ⟨S8192x1024, .f32⟩
  | .hbm, ⟨76, _⟩ => ⟨S8192x1024, .f32⟩
  | .hbm, ⟨77, _⟩ => ⟨S256x8192, .f32⟩
  | .hbm, ⟨78, _⟩ => ⟨S256x8192, .f32⟩
  | .hbm, ⟨79, _⟩ => ⟨S8192x8x128, .bf16⟩
  | .hbm, ⟨80, _⟩ => ⟨S8192x8x64, .bf16⟩
  | .hbm, ⟨81, _⟩ => ⟨S8192x512, .bf16⟩
  | .hbm, ⟨82, _⟩ => ⟨S8192x8x2x64, .f32⟩
  | .hbm, ⟨83, _⟩ => ⟨S8192x8x2x32, .f32⟩
  | .hbm, ⟨84, _⟩ => ⟨S8192x8x2x2x16, .f32⟩
  | .hbm, ⟨85, _⟩ => ⟨S8192x8x2x2x16, .f32⟩
  | .hbm, ⟨86, _⟩ => ⟨S8192x512, .f32⟩
  | .hbm, ⟨87, _⟩ => ⟨S8192x2x4x64, .f32⟩
  | .hbm, ⟨88, _⟩ => ⟨S8192x256, .f32⟩
  | .hbm, ⟨89, _⟩ => ⟨S8192x2x2x64, .f32⟩
  | .hbm, ⟨90, _⟩ => ⟨S8192x2x2x32, .f32⟩
  | .hbm, ⟨91, _⟩ => ⟨S8192x2x2x2x16, .f32⟩
  | .hbm, ⟨92, _⟩ => ⟨S8192x2x2x2x16, .f32⟩
  | .hbm, ⟨93, _⟩ => ⟨S8192x128, .f32⟩
  | .hbm, ⟨94, _⟩ => ⟨S8192x2x64, .f32⟩
  | .hbm, ⟨95, _⟩ => ⟨S8192x256, .f32⟩
  | .hbm, ⟨96, _⟩ => ⟨S8192x2x128, .f32⟩
  | .hbm, ⟨97, _⟩ => ⟨S8192x2x64, .f32⟩
  | .hbm, ⟨98, _⟩ => ⟨S8192x128, .f32⟩
  | .hbm, ⟨99, _⟩ => ⟨S8192x2x64, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S8192x128, .bf16⟩
  | .local _ .vmem, ⟨19, _⟩ => ⟨S8192x128, .bf16⟩
  | .local _ .vmem, ⟨20, _⟩ => ⟨S8192x128, .bf16⟩
  | .local _ .vmem, ⟨21, _⟩ => ⟨S8192x128, .bf16⟩
  | .local _ .vmem, ⟨22, _⟩ => ⟨S512x128, .f32⟩
  | .local _ .vmem, ⟨23, _⟩ => ⟨S512x128, .f32⟩
  | .local _ .vmem, ⟨24, _⟩ => ⟨S128x8192, .f32⟩
  | .local _ .vmem, ⟨25, _⟩ => ⟨S128x8192, .f32⟩
  | .local _ .vmem, ⟨26, _⟩ => ⟨S128x8192, .f32⟩
  | .local _ .vmem, ⟨27, _⟩ => ⟨S128x8192, .f32⟩
  | _, _ => ⟨S8192x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_call1_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call2_v0 : Ref sig .tc := ⟨.hbm, 33, rfl⟩
abbrev main_call2_c : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_c_1 : Ref sig .tc := ⟨.hbm, 40, rfl⟩
abbrev main_call2_v5 : Ref sig .tc := ⟨.hbm, 41, rfl⟩
abbrev main_call2_v6 : Ref sig .tc := ⟨.hbm, 42, rfl⟩
abbrev main_call2_c_2 : Ref sig .tc := ⟨.hbm, 43, rfl⟩
abbrev main_call2_v7 : Ref sig .tc := ⟨.hbm, 44, rfl⟩
abbrev main_call2_v8 : Ref sig .tc := ⟨.hbm, 45, rfl⟩
abbrev main_call2_c_3 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_v21 : Ref sig .tc := ⟨.hbm, 53, rfl⟩
abbrev main_c_4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_call3_v0 : Ref sig .tc := ⟨.hbm, 60, rfl⟩
abbrev main_v26 : Ref sig .tc := ⟨.hbm, 61, rfl⟩
abbrev main_v27 : Ref sig .tc := ⟨.hbm, 62, rfl⟩
abbrev main_cst_6 : Ref sig .tc := ⟨.hbm, 63, rfl⟩
abbrev main_call4_v0 : Ref sig .tc := ⟨.hbm, 64, rfl⟩
abbrev main_call4_v1 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_7 : Ref sig .tc := ⟨.hbm, 69, rfl⟩
abbrev main_call5_v0 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34_0 : Ref sig .tc := ⟨.hbm, 74, rfl⟩
abbrev main_v34_1 : Ref sig .tc := ⟨.hbm, 75, rfl⟩
abbrev main_v35_0 : Ref sig .tc := ⟨.hbm, 76, rfl⟩
abbrev main_v35_1 : Ref sig .tc := ⟨.hbm, 77, rfl⟩
abbrev main_v35_2 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 4, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S8192x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S8192x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S128x8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S128x8192 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== GqaIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== GqaRefIdeal.lean ====
abbrev S8192x2x4x64 : Shape := ⟨4, ![8192, 2, 4, 64]⟩
abbrev S8192x2x64 : Shape := ⟨3, ![8192, 2, 64]⟩
abbrev S8192x512 : Shape := ⟨2, ![8192, 512]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x64x8192 : Shape := ⟨3, ![2, 64, 8192]⟩
abbrev S2x8192x4x64 : Shape := ⟨4, ![2, 8192, 4, 64]⟩
abbrev S2x8192x64 : Shape := ⟨3, ![2, 8192, 64]⟩

abbrev nBuf : Space → Nat
  | .hbm => 80
  | .vmem => 0
  | .smem => 0
  | _ => 0

abbrev bufTy : (tb : Table) → Fin (tcTables nBuf tb) → BufTy
  | .hbm, ⟨0, _⟩ => ⟨S8192x2x4x64, .f32⟩
  | .hbm, ⟨1, _⟩ => ⟨S8192x2x64, .f32⟩
  | .hbm, ⟨2, _⟩ => ⟨S8192x2x64, .f32⟩
  | .hbm, ⟨3, _⟩ => ⟨S8192x512, .f32⟩
  | .hbm, ⟨4, _⟩ => ⟨S2x8192x8192x4, .f32⟩
  | .hbm, ⟨5, _⟩ => ⟨S2x4x8192x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x4x8192x8192, .f32⟩
  | .hbm, ⟨11, _⟩ => ⟨S2x4x8192x8192, .f32⟩
  | .hbm, ⟨12, _⟩ => ⟨S_, .f32⟩
  | .hbm, ⟨13, _⟩ => ⟨S2x4x8192, .f32⟩
  | .hbm, ⟨14, _⟩ => ⟨S2x4x8192x1, .f32⟩
  | .hbm, ⟨15, _⟩ => ⟨S2x4x8192x8192, .f32⟩
  | .hbm, ⟨16, _⟩ => ⟨S2x4x8192x8192, .i1⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S2x4x8192, .i1⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8192, .f32⟩
  | .hbm, ⟨39, _⟩ => ⟨S2x4x8192x8192, .f32⟩
  | .hbm, ⟨40, _⟩ => ⟨S2x4x8192x8192, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8192, .f32⟩
  | .hbm, ⟨45, _⟩ => ⟨S2x4x8192x8192, .f32⟩
  | .hbm, ⟨46, _⟩ => ⟨S2x4x8192x1, .f32⟩
  | .hbm, ⟨47, _⟩ => ⟨S_, .f32⟩
  | .hbm, ⟨48, _⟩ => ⟨S2x4x8192x1, .f32⟩
  | .hbm, ⟨49, _⟩ => ⟨S2x4x8192x1, .f32⟩
  | .hbm, ⟨50, _⟩ => ⟨S2x64x4x8192, .f32⟩
  | .hbm, ⟨51, _⟩ => ⟨S8192x2x4x64, .f32⟩
  | .hbm, ⟨52, _⟩ => ⟨S8192x512, .f32⟩
  | .hbm, ⟨53, _⟩ => ⟨S8192x512, .bf16⟩
  | .hbm, ⟨54, _⟩ => ⟨S8192x2x4x64, .f32⟩
  | .hbm, ⟨55, _⟩ => ⟨S2x64x4x8192, .f32⟩
  | .hbm, ⟨56, _⟩ => ⟨S2x4x8192x8192, .f32⟩
  | .hbm, ⟨57, _⟩ => ⟨S2x64x8192, .f32⟩
  | .hbm, ⟨58, _⟩ => ⟨S8192x2x64, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S_, .f32⟩
  | .hbm, ⟨63, _⟩ => ⟨S2x4x8192, .f32⟩
  | .hbm, ⟨64, _⟩ => ⟨S2x4x8192x1, .f32⟩
  | .hbm, ⟨65, _⟩ => ⟨S2x4x8192x1, .f32⟩
  | .hbm, ⟨66, _⟩ => ⟨S2x4x8192x8192, .f32⟩
  | .hbm, ⟨67, _⟩ => ⟨S2x4x8192x8192, .f32⟩
  | .hbm, ⟨68, _⟩ => ⟨S_, .f32⟩
  | .hbm, ⟨69, _⟩ => ⟨S2x4x8192, .f32⟩
  | .hbm, ⟨70, _⟩ => ⟨S2x4x8192x8192, .f32⟩
  | .hbm, ⟨71, _⟩ => ⟨S2x4x8192x8192, .f32⟩
  | .hbm, ⟨72, _⟩ => ⟨S2x4x8192x8192, .f32⟩
  | .hbm, ⟨73, _⟩ => ⟨S2x4x8192x8192, .f32⟩
  | .hbm, ⟨74, _⟩ => ⟨S2x4x8192x8192, .f32⟩
  | .hbm, ⟨75, _⟩ => ⟨S2x8192x8192x4, .f32⟩
  | .hbm, ⟨76, _⟩ => ⟨S2x8192x4x64, .f32⟩
  | .hbm, ⟨77, _⟩ => ⟨S8192x2x4x64, .f32⟩
  | .hbm, ⟨78, _⟩ => ⟨S2x8192x64, .f32⟩
  | .hbm, ⟨79, _⟩ => ⟨S8192x2x64, .f32⟩
  | _, _ => ⟨S8192x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Merge.lean ====
abbrev S8192x1024 : Shape := ⟨2, ![8192, 1024]⟩
abbrev S1024 : Shape := ⟨1, ![1024]⟩
abbrev S1024x3488 : Shape := ⟨2, ![1024, 3488]⟩
abbrev S2048 : Shape := ⟨1, ![2048]⟩
abbrev S8192x512 : Shape := ⟨2, ![8192, 512]⟩
abbrev S512x1024 : Shape := ⟨2, ![512, 1024]⟩
abbrev S1024x1024 : Shape := ⟨2, ![1024, 1024]⟩
abbrev S1024x512 : Shape := ⟨2, ![1024, 512]⟩
abbrev S1024x8x2x2x16 : Shape := ⟨5, ![1024, 8, 2, 2, 16]⟩
abbrev S1024x8x2x32 : Shape := ⟨4, ![1024, 8, 2, 32]⟩
abbrev S_ : Shape := ⟨0, ![]⟩
abbrev S1024x8x2x64 : Shape := ⟨4, ![1024, 8, 2, 64]⟩
abbrev S1024x128 : Shape := ⟨2, ![1024, 128]⟩
abbrev S1024x2x2x2x16 : Shape := ⟨5, ![1024, 2, 2, 2, 16]⟩
abbrev S1024x2x2x32 : Shape := ⟨4, ![1024, 2, 2, 32]⟩
abbrev S1024x2x2x64 : Shape := ⟨4, ![1024, 2, 2, 64]⟩
abbrev S1024x256 : Shape := ⟨2, ![1024, 256]⟩
abbrev S1024x2x64 : Shape := ⟨3, ![1024, 2, 64]⟩
abbrev S1024x2x128 : Shape := ⟨3, ![1024, 2, 128]⟩
abbrev S1024x384 : Shape := ⟨2, ![1024, 384]⟩
abbrev S1024x32 : Shape := ⟨2, ![1024, 32]⟩
abbrev S1024x1x2x2x8 : Shape := ⟨5, ![1024, 1, 2, 2, 8]⟩
abbrev S1024x1x2x16 : Shape := ⟨4, ![1024, 1, 2, 16]⟩
abbrev S1024x1x2x64 : Shape := ⟨4, ![1024, 1, 2, 64]⟩
abbrev S1024x2304 : Shape := ⟨2, ![1024, 2304]⟩
abbrev S1024x2048 : Shape := ⟨2, ![1024, 2048]⟩
abbrev S1x1024 : Shape := ⟨2, ![1, 1024]⟩
abbrev S1x2048 : Shape := ⟨2, ![1, 2048]⟩
abbrev S8192x2304 : Shape := ⟨2, ![8192, 2304]⟩
abbrev S8192x2048 : Shape := ⟨2, ![8192, 2048]⟩
abbrev S512x2304 : Shape := ⟨2, ![512, 2304]⟩
abbrev S512x2048 : Shape := ⟨2, ![512, 2048]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S512x512 : Shape := ⟨2, ![512, 512]⟩
abbrev S1x512 : Shape := ⟨2, ![1, 512]⟩
abbrev S8192x8x64 : Shape := ⟨3, ![8192, 8, 64]⟩
abbrev S8192x8x128 : Shape := ⟨3, ![8192, 8, 128]⟩
abbrev S8x64x1024 : Shape := ⟨3, ![8, 64, 1024]⟩
abbrev S8x128x1024 : Shape := ⟨3, ![8, 128, 1024]⟩

abbrev nBuf : Space → Nat
  | .hbm => 97
  | .vmem => 62
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3488, .f32⟩
  | .hbm, ⟨3, _⟩ => ⟨S2048, .f32⟩
  | .hbm, ⟨4, _⟩ => ⟨S8192x512, .f32⟩
  | .hbm, ⟨5, _⟩ => ⟨S8192x512, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S1024x512, .f32⟩
  | .hbm, ⟨12, _⟩ => ⟨S1024x8x2x2x16, .f32⟩
  | .hbm, ⟨13, _⟩ => ⟨S1024x8x2x2x16, .f32⟩
  | .hbm, ⟨14, _⟩ => ⟨S1024x8x2x32, .f32⟩
  | .hbm, ⟨15, _⟩ => ⟨S_, .f32⟩
  | .hbm, ⟨16, _⟩ => ⟨S_, .f32⟩
  | .hbm, ⟨17, _⟩ => ⟨S1024x8x2x64, .f32⟩
  | .hbm, ⟨18, _⟩ => ⟨S1024x1024, .f32⟩
  | .hbm, ⟨19, _⟩ => ⟨S1024x128, .f32⟩
  | .hbm, ⟨20, _⟩ => ⟨S1024x2x2x2x16, .f32⟩
  | .hbm, ⟨21, _⟩ => ⟨S1024x2x2x2x16, .f32⟩
  | .hbm, ⟨22, _⟩ => ⟨S1024x2x2x32, .f32⟩
  | .hbm, ⟨23, _⟩ => ⟨S_, .f32⟩
  | .hbm, ⟨24, _⟩ => ⟨S_, .f32⟩
  | .hbm, ⟨25, _⟩ => ⟨S1024x2x2x64, .f32⟩
  | .hbm, ⟨26, _⟩ => ⟨S1024x256, .f32⟩
  | .hbm, ⟨27, _⟩ => ⟨S1024x128, .f32⟩
  | .hbm, ⟨28, _⟩ => ⟨S1024x2x64, .f32⟩
  | .hbm, ⟨29, _⟩ => ⟨S_, .i32⟩
  | .hbm, ⟨30, _⟩ => ⟨S_, .f32⟩
  | .hbm, ⟨31, _⟩ => ⟨S1024x2x128, .f32⟩
  | .hbm, ⟨32, _⟩ => ⟨S1024x256, .f32⟩
  | .hbm, ⟨33, _⟩ => ⟨S1024x384, .f32⟩
  | .hbm, ⟨34, _⟩ => ⟨S1024x256, .f32⟩
  | .hbm, ⟨35, _⟩ => ⟨S1024x32, .f32⟩
  | .hbm, ⟨36, _⟩ => ⟨S1024x1x2x2x8, .f32⟩
  | .hbm, ⟨37, _⟩ => ⟨S1024x1x2x2x8, .f32⟩
  | .hbm, ⟨38, _⟩ => ⟨S1024x1x2x16, .f32⟩
  | .hbm, ⟨39, _⟩ => ⟨S_, .f32⟩
  | .hbm, ⟨40, _⟩ => ⟨S_, .f32⟩
  | .hbm, ⟨41, _⟩ => ⟨S1024x1x2x64, .f32⟩
  | .hbm, ⟨42, _⟩ => ⟨S1024x128, .f32⟩
  | .hbm, ⟨43, _⟩ => ⟨S1024x2304, .f32⟩
  | .hbm, ⟨44, _⟩ => ⟨S1024x2048, .f32⟩
  | .hbm, ⟨45, _⟩ => ⟨S1x1024, .f32⟩
  | .hbm, ⟨46, _⟩ => ⟨S1024x2304, .bf16⟩
  | .hbm, ⟨47, _⟩ => ⟨S1024x2048, .bf16⟩
  | .hbm, ⟨48, _⟩ => ⟨S1x2048, .f32⟩
  | .hbm, ⟨49, _⟩ => ⟨S8192x1024, .bf16⟩
  | .hbm, ⟨50, _⟩ => ⟨S8192x2304, .f32⟩
  | .hbm, ⟨51, _⟩ => ⟨S8192x2048, .bf16⟩
  | .hbm, ⟨52, _⟩ => ⟨S8192x8x64, .f32⟩
  | .hbm, ⟨53, _⟩ => ⟨S_, .i32⟩
  | .hbm, ⟨54, _⟩ => ⟨S_, .f32⟩
  | .hbm, ⟨55, _⟩ => ⟨S8192x8x128, .f32⟩
  | .hbm, ⟨56, _⟩ => ⟨S8192x1024, .f32⟩
  | .hbm, ⟨57, _⟩ => ⟨S8192x1024, .bf16⟩
  | .hbm, ⟨58, _⟩ => ⟨S8192x8x64, .f32⟩
  | .hbm, ⟨59, _⟩ => ⟨S_, .i32⟩
  | .hbm, ⟨60, _⟩ => ⟨S_, .f32⟩
  | .hbm, ⟨61, _⟩ => ⟨S8192x8x128, .f32⟩
  | .hbm, ⟨62, _⟩ => ⟨S8192x1024, .f32⟩
  | .hbm, ⟨63, _⟩ => ⟨S8192x1024, .bf16⟩
  | .hbm, ⟨64, _⟩ => ⟨S8x64x1024, .f32⟩
  | .hbm, ⟨65, _⟩ => ⟨S_, .i32⟩
  | .hbm, ⟨66, _⟩ => ⟨S_, .f32⟩
  | .hbm, ⟨67, _⟩ => ⟨S8x128x1024, .f32⟩
  | .hbm, ⟨68, _⟩ => ⟨S1024x1024, .f32⟩
  | .hbm, ⟨69, _⟩ => ⟨S1024x1024, .bf16⟩
  | .hbm, ⟨70, _⟩ => ⟨S8x64x1024, .f32⟩
  | .hbm, ⟨71, _⟩ => ⟨S_, .i32⟩
  | .hbm, ⟨72, _⟩ => ⟨S_, .f32⟩
  | .hbm, ⟨73, _⟩ => ⟨S8x128x1024, .f32⟩
  | .hbm, ⟨74, _⟩ => ⟨S1024x1024, .f32⟩
  | .hbm, ⟨75, _⟩ => ⟨S1024x1024, .bf16⟩
  | .hbm, ⟨76, _⟩ => ⟨S1024x1024, .bf16⟩
  | .hbm, ⟨77, _⟩ => ⟨S1x1024, .f32⟩
  | .hbm, ⟨78, _⟩ => ⟨S8192x1024, .bf16⟩
  | .hbm, ⟨79, _⟩ => ⟨S8192x1024, .bf16⟩
  | .hbm, ⟨80, _⟩ => ⟨S8192x1024, .bf16⟩
  | .hbm, ⟨81, _⟩ => ⟨S8192x1024, .f32⟩
  | .hbm, ⟨82, _⟩ => ⟨S8192x1024, .f32⟩
  | .hbm, ⟨83, _⟩ => ⟨S8192x1024, .bf16⟩
  | .hbm, ⟨84, _⟩ => ⟨S8192x1024, .bf16⟩
  | .hbm, ⟨85, _⟩ => ⟨S8192x1024, .bf16⟩
  | .hbm, ⟨86, _⟩ => ⟨S8192x2048, .bf16⟩
  | .hbm, ⟨87, _⟩ => ⟨S8192x1024, .bf16⟩
  | .hbm, ⟨88, _⟩ => ⟨S8192x1024, .bf16⟩
  | .hbm, ⟨89, _⟩ => ⟨S1x1024, .f32⟩
  | .hbm, ⟨90, _⟩ => ⟨S1x2048, .f32⟩
  | .hbm, ⟨91, _⟩ => ⟨S8192x8x128, .bf16⟩
  | .hbm, ⟨92, _⟩ => ⟨S8192x8x64, .bf16⟩
  | .hbm, ⟨93, _⟩ => ⟨S8192x512, .bf16⟩
  | .hbm, ⟨94, _⟩ => ⟨S8192x8x128, .bf16⟩
  | .hbm, ⟨95, _⟩ => ⟨S8192x8x64, .bf16⟩
  | .hbm, ⟨96, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1024x2048, .bf16⟩
  | .local _ .vmem, ⟨5, _⟩ => ⟨S1x2048, .f32⟩
  | .local _ .vmem, ⟨6, _⟩ => ⟨S512x1024, .bf16⟩
  | .local _ .vmem, ⟨7, _⟩ => ⟨S512x1024, .bf16⟩
  | .local _ .vmem, ⟨8, _⟩ => ⟨S512x2304, .f32⟩
  | .local _ .vmem, ⟨9, _⟩ => ⟨S512x2304, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S1x1024, .f32⟩
  | .local _ .vmem, ⟨39, _⟩ => ⟨S1024x1024, .bf16⟩
  | .local _ .vmem, ⟨40, _⟩ => ⟨S512x2048, .bf16⟩
  | .local _ .vmem, ⟨41, _⟩ => ⟨S512x2048, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S1024x1024, .bf16⟩
  | .local _ .vmem, ⟨47, _⟩ => ⟨S1024x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x1024, .bf16⟩
  | .local _ .vmem, ⟨54, _⟩ => ⟨S512x2048, .bf16⟩
  | .local _ .vmem, ⟨55, _⟩ => ⟨S512x2048, .bf16⟩
  | .local _ .vmem, ⟨56, _⟩ => ⟨S512x1024, .bf16⟩
  | .local _ .vmem, ⟨57, _⟩ => ⟨S512x1024, .bf16⟩
  | .local _ .vmem, ⟨58, _⟩ => ⟨S512x1024, .bf16⟩
  | .local _ .vmem, ⟨59, _⟩ => ⟨S512x1024, .bf16⟩
  | .local _ .vmem, ⟨60, _⟩ => ⟨S1x1024, .f32⟩
  | .local _ .vmem, ⟨61, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_call2_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_call3_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_v30_2 : Ref sig .tc := ⟨.hbm, 51, rfl⟩
abbrev main_v31 : Ref sig .tc := ⟨.hbm, 52, rfl⟩
abbrev main_c_2 : Ref sig .tc := ⟨.hbm, 53, rfl⟩
abbrev main_call4_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_3 : Ref sig .tc := ⟨.hbm, 59, rfl⟩
abbrev main_call5_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_4 : Ref sig .tc := ⟨.hbm, 65, rfl⟩
abbrev main_call6_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_5 : Ref sig .tc := ⟨.hbm, 71, rfl⟩
abbrev main_call7_v0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_v49_3 : Ref sig .tc := ⟨.hbm, 81, rfl⟩
abbrev main_v49_4 : Ref sig .tc := ⟨.hbm, 82, rfl⟩
abbrev main_v50_0 : Ref sig .tc := ⟨.hbm, 83, rfl⟩
abbrev main_v50_1 : Ref sig .tc := ⟨.hbm, 84, rfl⟩
abbrev main_v50_2 : Ref sig .tc := ⟨.hbm, 85, rfl⟩
abbrev main_v50_3 : Ref sig .tc := ⟨.hbm, 86, rfl⟩
abbrev main_v50_4 : Ref sig .tc := ⟨.hbm, 87, rfl⟩
abbrev main_v50_5 : Ref sig .tc := ⟨.hbm, 88, rfl⟩
abbrev main_v50_6 : Ref sig .tc := ⟨.hbm, 89, rfl⟩
abbrev main_v50_7 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg9_1 : Ref sig .tc := ⟨.vmem, 49, rfl⟩
abbrev cc2_stg10_0 : Ref sig .tc := ⟨.vmem, 50, rfl⟩
abbrev cc2_stg10_1 : Ref sig .tc := ⟨.vmem, 51, rfl⟩
abbrev cc2_stg11_0 : Ref sig .tc := ⟨.vmem, 52, rfl⟩
abbrev cc2_stg11_1 : Ref sig .tc := ⟨.vmem, 53, rfl⟩
abbrev cc2_stg12_0 : Ref sig .tc := ⟨.vmem, 54, rfl⟩
abbrev cc2_stg12_1 : Ref sig .tc := ⟨.vmem, 55, rfl⟩
abbrev cc2_stg13_0 : Ref sig .tc := ⟨.vmem, 56, rfl⟩
abbrev cc2_stg13_1 : Ref sig .tc := ⟨.vmem, 57, rfl⟩
abbrev cc2_stg14_0 : Ref sig .tc := ⟨.vmem, 58, rfl⟩
abbrev cc2_stg14_1 : Ref sig .tc := ⟨.vmem, 59, rfl⟩
abbrev cc2_stg15_0 : Ref sig .tc := ⟨.vmem, 60, rfl⟩
abbrev cc2_stg16_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem8_0 : DmaSem sig := 47
abbrev cc2_sem9_0 : DmaSem sig := 48
abbrev cc2_sem9_1 : DmaSem sig := 49
abbrev cc2_sem10_0 : DmaSem sig := 50
abbrev cc2_sem10_1 : DmaSem sig := 51
abbrev cc2_sem11_0 : DmaSem sig := 52
abbrev cc2_sem11_1 : DmaSem sig := 53
abbrev cc2_sem12_0 : DmaSem sig := 54
abbrev cc2_sem12_1 : DmaSem sig := 55
abbrev cc2_sem13_0 : DmaSem sig := 56
abbrev cc2_sem13_1 : DmaSem sig := 57
abbrev cc2_sem14_0 : DmaSem sig := 58
abbrev cc2_sem14_1 : DmaSem sig := 59
abbrev cc2_sem15_0 : DmaSem sig := 60
abbrev cc2_sem16_0 : DmaSem sig := 61

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x1024 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x1024 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S512x2048 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S512x1024 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S512x1024 .bf16 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 1 → Memref sig .tc .vmem S1x1024 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x2048 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]
-- ==== MergeRefIdeal.lean ====
abbrev S8192x1024 : Shape := ⟨2, ![8192, 1024]⟩
abbrev S1024 : Shape := ⟨1, ![1024]⟩
abbrev S1024x3488 : Shape := ⟨2, ![1024, 3488]⟩
abbrev S2048 : Shape := ⟨1, ![2048]⟩
abbrev S8192x512 : Shape := ⟨2, ![8192, 512]⟩
abbrev S512x1024 : Shape := ⟨2, ![512, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2048 : Shape := ⟨2, ![1024, 2048]⟩
abbrev S8192x2048 : Shape := ⟨2, ![8192, 2048]⟩
abbrev S1x2048 : Shape := ⟨2, ![1, 2048]⟩

abbrev nBuf : Space → Nat
  | .hbm => 129
  | .vmem => 0
  | .smem => 0
  | _ => 0

abbrev hbmTy0_0 (i : Nat) : BufTy := match i % 128 with
  | 0 => ⟨S8192x1024, .f32⟩
  | 1 => ⟨S1024, .f32⟩
  | 2 => ⟨S1024x3488, .f32⟩
  | 3 => ⟨S2048, .f32⟩
  | 4 => ⟨S8192x512, .f32⟩
  | 5 => ⟨S8192x512, .f32⟩
  | 6 => ⟨S512x1024, .f32⟩
  | 7 => ⟨S512x1024, .f32⟩
  | 8 => ⟨S1024x1024, .f32⟩
  | 9 => ⟨S1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S1024x2048, .f32⟩
  | 28 => ⟨S8192x2048, .f32⟩
  | 29 => ⟨S1x2048, .f32⟩
  | 30 => ⟨S8192x2048, .f32⟩
  | 31 => ⟨S8192x2048, .f32⟩
  | 32 => ⟨S8192x2048, .f32⟩
  | 33 => ⟨S8192x2048, .f32⟩
  | 34 => ⟨S_, .f32⟩
  | 35 => ⟨S8192x2048, .f32⟩
  | 36 => ⟨S8192x2048, .f32⟩
  | 37 => ⟨S_, .f32⟩
  | 38 => ⟨S8192x2048, .f32⟩
  | 39 => ⟨S8192x2048, .f32⟩
  | 40 => ⟨S_, .f32⟩
  | 41 => ⟨S8192x2048, .f32⟩
  | 42 => ⟨S8192x2048, .f32⟩
  | 43 => ⟨S8192x2048, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S1x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S8192x1024, .f32⟩
  | 82 => ⟨S_, .f32⟩
  | 83 => ⟨S8192, .f32⟩
  | 84 => ⟨S8192x1, .f32⟩
  | 85 => ⟨S8192x1024, .f32⟩
  | 86 => ⟨S8192x1024, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S8192x2048, .f32⟩
  | 103 => ⟨S8192x1024, .f32⟩
  | 104 => ⟨S8192x1024, .f32⟩
  | 105 => ⟨S_, .f32⟩
  | 106 => ⟨S8192x2048, .f32⟩
  | 107 => ⟨S8192x2048, .f32⟩
  | 108 => ⟨S8192x2048, .f32⟩
  | 109 => ⟨S_, .f32⟩
  | 110 => ⟨S2048, .f32⟩
  | 111 => ⟨S1x2048, .f32⟩
  | 112 => ⟨S_, .f32⟩
  | 113 => ⟨S2048, .f32⟩
  | 114 => ⟨S8192x512, .f32⟩
  | 115 => ⟨S8192x512, .f32⟩
  | 116 => ⟨S8192x1024, .bf16⟩
  | 117 => ⟨S8192x2048, .bf16⟩
  | 118 => ⟨S8192x1024, .bf16⟩
  | 119 => ⟨S8192x1024, .bf16⟩
  | 120 => ⟨S8192x1024, .bf16⟩
  | 121 => ⟨S8192x1024, .bf16⟩
  | 122 => ⟨S8192x1024, .bf16⟩
  | 123 => ⟨S8192x1024, .bf16⟩
  | 124 => ⟨S8192x2048, .bf16⟩
  | 125 => ⟨S8192x512, .bf16⟩
  | 126 => ⟨S8192x512, .bf16⟩
  | 127 => ⟨S1x1024, .f32⟩
  | _ => ⟨S8192x1024, .f32⟩

abbrev hbmTy0_1 (i : Nat) : BufTy := match i % 128 with
  | 0 => ⟨S1x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]
-- ==== Mid.lean ====
abbrev S8192x512 : Shape := ⟨2, ![8192, 512]⟩
abbrev S8192x128 : Shape := ⟨2, ![8192, 128]⟩
abbrev S8192x384 : Shape := ⟨2, ![8192, 384]⟩
abbrev S8192x256 : Shape := ⟨2, ![8192, 256]⟩
abbrev S8192x32 : Shape := ⟨2, ![8192, 32]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S8192x64 : Shape := ⟨2, ![8192, 64]⟩
abbrev S8192x8x96 : Shape := ⟨3, ![8192, 8, 96]⟩
abbrev S8192x8x2x2x16 : Shape := ⟨5, ![8192, 8, 2, 2, 16]⟩
abbrev S8192x8x2x32 : Shape := ⟨4, ![8192, 8, 2, 32]⟩
abbrev S_ : Shape := ⟨0, ![]⟩
abbrev S8192x8x2x64 : Shape := ⟨4, ![8192, 8, 2, 64]⟩
abbrev S8192x1024 : Shape := ⟨2, ![8192, 1024]⟩
abbrev S8192x2x2x2x16 : Shape := ⟨5, ![8192, 2, 2, 2, 16]⟩
abbrev S8192x2x2x32 : Shape := ⟨4, ![8192, 2, 2, 32]⟩
abbrev S8192x2x2x64 : Shape := ⟨4, ![8192, 2, 2, 64]⟩
abbrev S8192x2x64 : Shape := ⟨3, ![8192, 2, 64]⟩
abbrev S8192x2x128 : Shape := ⟨3, ![8192, 2, 128]⟩
abbrev S8192x1x2x2x8 : Shape := ⟨5, ![8192, 1, 2, 2, 8]⟩
abbrev S8192x1x2x16 : Shape := ⟨4, ![8192, 1, 2, 16]⟩
abbrev S8192x1x2x64 : Shape := ⟨4, ![8192, 1, 2, 64]⟩
abbrev S8192x2304 : Shape := ⟨2, ![8192, 2304]⟩
abbrev S1x64 : Shape := ⟨2, ![1, 64]⟩
abbrev S1x1x2x2x16 : Shape := ⟨5, ![1, 1, 2, 2, 16]⟩
abbrev S1x1x2x32 : Shape := ⟨4, ![1, 1, 2, 32]⟩
abbrev S1x1x2x64 : Shape := ⟨4, ![1, 1, 2, 64]⟩
abbrev S1x128 : Shape := ⟨2, ![1, 128]⟩
abbrev S8192x1x2x2x16 : Shape := ⟨5, ![8192, 1, 2, 2, 16]⟩
abbrev S8192x1x2x32 : Shape := ⟨4, ![8192, 1, 2, 32]⟩
abbrev S256x8x128 : Shape := ⟨3, ![256, 8, 128]⟩
abbrev S256x8x64 : Shape := ⟨3, ![256, 8, 64]⟩
abbrev S256x8x2x32 : Shape := ⟨4, ![256, 8, 2, 32]⟩
abbrev S256x8x2x64 : Shape := ⟨4, ![256, 8, 2, 64]⟩
abbrev S256x512 : Shape := ⟨2, ![256, 512]⟩
abbrev S384x8x96 : Shape := ⟨3, ![384, 8, 96]⟩
abbrev S384x8x32 : Shape := ⟨3, ![384, 8, 32]⟩
abbrev S384x256 : Shape := ⟨2, ![384, 256]⟩
abbrev S384x8x2x2x8 : Shape := ⟨5, ![384, 8, 2, 2, 8]⟩
abbrev S384x8x2x16 : Shape := ⟨4, ![384, 8, 2, 16]⟩
abbrev S384x8x64 : Shape := ⟨3, ![384, 8, 64]⟩
abbrev S384x8x2x32 : Shape := ⟨4, ![384, 8, 2, 32]⟩
abbrev S384x8x2x48 : Shape := ⟨4, ![384, 8, 2, 48]⟩
abbrev S384x8x2x64 : Shape := ⟨4, ![384, 8, 2, 64]⟩
abbrev S384x1024 : Shape := ⟨2, ![384, 1024]⟩
abbrev S256x8192 : Shape := ⟨2, ![256, 8192]⟩
abbrev S8192x8x64 : Shape := ⟨3, ![8192, 8, 64]⟩
abbrev S8192x8x128 : Shape := ⟨3, ![8192, 8, 128]⟩
abbrev S1024x8192 : Shape := ⟨2, ![1024, 8192]⟩
abbrev S8192x8x32 : Shape := ⟨3, ![8192, 8, 32]⟩
abbrev S8192x8x2x2x8 : Shape := ⟨5, ![8192, 8, 2, 2, 8]⟩
abbrev S8192x8x2x16 : Shape := ⟨4, ![8192, 8, 2, 16]⟩
abbrev S8192x8x2x48 : Shape := ⟨4, ![8192, 8, 2, 48]⟩
abbrev S1x384 : Shape := ⟨2, ![1, 384]⟩
abbrev S1x256 : Shape := ⟨2, ![1, 256]⟩
abbrev S512x2304 : Shape := ⟨2, ![512, 2304]⟩
abbrev S512x1024 : Shape := ⟨2, ![512, 1024]⟩
abbrev S1024x512 : Shape := ⟨2, ![1024, 512]⟩
abbrev S512x128 : Shape := ⟨2, ![512, 128]⟩
abbrev S512 : Shape := ⟨1, ![512]⟩
abbrev S512x1 : Shape := ⟨2, ![512, 1]⟩
abbrev S128 : Shape := ⟨1, ![128]⟩
abbrev S128x512 : Shape := ⟨2, ![128, 512]⟩
abbrev S512x384 : Shape := ⟨2, ![512, 384]⟩
abbrev S512x256 : Shape := ⟨2, ![512, 256]⟩

abbrev nBuf : Space → Nat
  | .hbm => 196
  | .vmem => 41
  | .smem => 0
  | _ => 0

abbrev hbmTy0_0 (i : Nat) : BufTy := match i % 128 with
  | 0 => ⟨S8192x512, .f32⟩
  | 1 => ⟨S8192x128, .f32⟩
  | 2 => ⟨S8192x128, .f32⟩
  | 3 => ⟨S8192x384, .f32⟩
  | 4 => ⟨S8192x256, .f32⟩
  | 5 => ⟨S8192x32, .f32⟩
  | 6 => ⟨S64, .f32⟩
  | 7 => ⟨S64, .f32⟩
  | 8 => ⟨S384, .f32⟩
  | 9 => ⟨S256, .f32⟩
  | 10 => ⟨S384x768, .f32⟩
  | 11 => ⟨S256x1024, .f32⟩
  | 12 => ⟨S8192x64, .f32⟩
  | 13 => ⟨S8192x64, .f32⟩
  | 14 => ⟨S8192x32, .f32⟩
  | 15 => ⟨S8192x32, .f32⟩
  | 16 => ⟨S8192x512, .f32⟩
  | 17 => ⟨S8192x128, .f32⟩
  | 18 => ⟨S8192x128, .f32⟩
  | 19 => ⟨S8192x8x96, .f32⟩
  | 20 => ⟨S8192x8x96, .f32⟩
  | 21 => ⟨S8192x512, .f32⟩
  | 22 => ⟨S8192x8x2x2x16, .f32⟩
  | 23 => ⟨S8192x8x2x2x16, .f32⟩
  | 24 => ⟨S8192x8x2x32, .f32⟩
  | 25 => ⟨S_, .f32⟩
  | 26 => ⟨S_, .f32⟩
  | 27 => ⟨S8192x8x2x64, .f32⟩
  | 28 => ⟨S8192x1024, .f32⟩
  | 29 => ⟨S8192x2x2x2x16, .f32⟩
  | 30 => ⟨S8192x2x2x2x16, .f32⟩
  | 31 => ⟨S8192x2x2x32, .f32⟩
  | 32 => ⟨S_, .f32⟩
  | 33 => ⟨S_, .f32⟩
  | 34 => ⟨S8192x2x2x64, .f32⟩
  | 35 => ⟨S8192x256, .f32⟩
  | 36 => ⟨S8192x2x64, .f32⟩
  | 37 => ⟨S_, .i32⟩
  | 38 => ⟨S_, .f32⟩
  | 39 => ⟨S8192x2x128, .f32⟩
  | 40 => ⟨S8192x256, .f32⟩
  | 41 => ⟨S8192x1x2x2x8, .f32⟩
  | 42 => ⟨S8192x1x2x2x8, .f32⟩
  | 43 => ⟨S8192x1x2x16, .f32⟩
  | 44 => ⟨S_, .f32⟩
  | 45 => ⟨S_, .f32⟩
  | 46 => ⟨S8192x1x2x64, .f32⟩
  | 47 => ⟨S8192x128, .f32⟩
  | 48 => ⟨S8192x2304, .f32⟩
  | 49 => ⟨S1x64, .f32⟩
  | 50 => ⟨S1x1x2x2x16, .f32⟩
  | 51 => ⟨S1x1x2x2x16, .f32⟩
  | 52 => ⟨S1x1x2x32, .f32⟩
  | 53 => ⟨S_, .f32⟩
  | 54 => ⟨S_, .f32⟩
  | 55 => ⟨S1x1x2x64, .f32⟩
  | 56 => ⟨S1x128, .f32⟩
  | 57 => ⟨S1x64, .f32⟩
  | 58 => ⟨S1x1x2x2x16, .f32⟩
  | 59 => ⟨S1x1x2x2x16, .f32⟩
  | 60 => ⟨S1x1x2x32, .f32⟩
  | 61 => ⟨S_, .f32⟩
  | 62 => ⟨S_, .f32⟩
  | 63 => ⟨S1x1x2x64, .f32⟩
  | 64 => ⟨S1x128, .f32⟩
  | 65 => ⟨S8192x1x2x2x16, .f32⟩
  | 66 => ⟨S8192x1x2x2x16, .f32⟩
  | 67 => ⟨S8192x1x2x32, .f32⟩
  | 68 => ⟨S_, .f32⟩
  | 69 => ⟨S_, .f32⟩
  | 70 => ⟨S8192x1x2x64, .f32⟩
  | 71 => ⟨S8192x128, .f32⟩
  | 72 => ⟨S8192x1x2x2x16, .f32⟩
  | 73 => ⟨S8192x1x2x2x16, .f32⟩
  | 74 => ⟨S8192x1x2x32, .f32⟩
  | 75 => ⟨S_, .f32⟩
  | 76 => ⟨S_, .f32⟩
  | 77 => ⟨S8192x1x2x64, .f32⟩
  | 78 => ⟨S8192x128, .f32⟩
  | 79 => ⟨S8192x1x2x2x8, .f32⟩
  | 80 => ⟨S8192x1x2x2x8, .f32⟩
  | 81 => ⟨S8192x1x2x16, .f32⟩
  | 82 => ⟨S_, .f32⟩
  | 83 => ⟨S_, .f32⟩
  | 84 => ⟨S8192x1x2x64, .f32⟩
  | 85 => ⟨S8192x128, .f32⟩
  | 86 => ⟨S8192x1x2x2x8, .f32⟩
  | 87 => ⟨S8192x1x2x2x8, .f32⟩
  | 88 => ⟨S8192x1x2x16, .f32⟩
  | 89 => ⟨S_, .f32⟩
  | 90 => ⟨S_, .f32⟩
  | 91 => ⟨S8192x1x2x64, .f32⟩
  | 92 => ⟨S8192x128, .f32⟩
  | 93 => ⟨S256x8x128, .f32⟩
  | 94 => ⟨S256x8x64, .f32⟩
  | 95 => ⟨S256x8x2x32, .f32⟩
  | 96 => ⟨S_, .f32⟩
  | 97 => ⟨S_, .f32⟩
  | 98 => ⟨S256x8x2x64, .f32⟩
  | 99 => ⟨S256x1024, .f32⟩
  | 100 => ⟨S256x8x64, .f32⟩
  | 101 => ⟨S256x512, .f32⟩
  | 102 => ⟨S256x8x64, .f32⟩
  | 103 => ⟨S_, .i32⟩
  | 104 => ⟨S_, .f32⟩
  | 105 => ⟨S256x8x128, .f32⟩
  | 106 => ⟨S256x1024, .f32⟩
  | 107 => ⟨S384x8x96, .f32⟩
  | 108 => ⟨S384x8x32, .f32⟩
  | 109 => ⟨S384x256, .f32⟩
  | 110 => ⟨S384x8x2x2x8, .f32⟩
  | 111 => ⟨S384x8x2x2x8, .f32⟩
  | 112 => ⟨S384x8x2x16, .f32⟩
  | 113 => ⟨S384x8x64, .f32⟩
  | 114 => ⟨S384x8x2x32, .f32⟩
  | 115 => ⟨S384x8x2x48, .f32⟩
  | 116 => ⟨S_, .f32⟩
  | 117 => ⟨S_, .f32⟩
  | 118 => ⟨S384x8x2x64, .f32⟩
  | 119 => ⟨S384x1024, .f32⟩
  | 120 => ⟨S8192x8x2x2x16, .f32⟩
  | 121 => ⟨S8192x8x2x2x16, .f32⟩
  | 122 => ⟨S8192x8x2x32, .f32⟩
  | 123 => ⟨S_, .f32⟩
  | 124 => ⟨S_, .f32⟩
  | 125 => ⟨S8192x8x2x64, .f32⟩
  | 126 => ⟨S8192x1024, .f32⟩
  | 127 => ⟨S8192x2x2x2x16, .f32⟩
  | _ => ⟨S8192x512, .f32⟩

abbrev hbmTy0_1 (i : Nat) : BufTy := match i % 128 with
  | 0 => ⟨S8192x2x2x2x16, .f32⟩
  | 1 => ⟨S8192x2x2x32, .f32⟩
  | 2 => ⟨S_, .f32⟩
  | 3 => ⟨S_, .f32⟩
  | 4 => ⟨S8192x2x2x64, .f32⟩
  | 5 => ⟨S8192x256, .f32⟩
  | 6 => ⟨S256x8192, .f32⟩
  | 7 => ⟨S8192x2x64, .f32⟩
  | 8 => ⟨S_, .i32⟩
  | 9 => ⟨S_, .f32⟩
  | 10 => ⟨S8192x2x128, .f32⟩
  | 11 => ⟨S8192x256, .f32⟩
  | 12 => ⟨S256x8192, .f32⟩
  | 13 => ⟨S8192x8x64, .f32⟩
  | 14 => ⟨S_, .i32⟩
  | 15 => ⟨S_, .f32⟩
  | 16 => ⟨S8192x8x128, .f32⟩
  | 17 => ⟨S8192x1024, .f32⟩
  | 18 => ⟨S1024x8192, .f32⟩
  | 19 => ⟨S8192x8x32, .f32⟩
  | 20 => ⟨S8192x256, .f32⟩
  | 21 => ⟨S8192x8x2x2x8, .f32⟩
  | 22 => ⟨S8192x8x2x2x8, .f32⟩
  | 23 => ⟨S8192x8x2x16, .f32⟩
  | 24 => ⟨S8192x8x64, .f32⟩
  | 25 => ⟨S8192x8x2x32, .f32⟩
  | 26 => ⟨S8192x8x2x48, .f32⟩
  | 27 => ⟨S_, .f32⟩
  | 28 => ⟨S_, .f32⟩
  | 29 => ⟨S8192x8x2x64, .f32⟩
  | 30 => ⟨S8192x1024, .f32⟩
  | 31 => ⟨S8192x8x32, .f32⟩
  | 32 => ⟨S8192x256, .f32⟩
  | 33 => ⟨S8192x8x2x2x8, .f32⟩
  | 34 => ⟨S8192x8x2x2x8, .f32⟩
  | 35 => ⟨S8192x8x2x16, .f32⟩
  | 36 => ⟨S8192x8x64, .f32⟩
  | 37 => ⟨S8192x8x2x32, .f32⟩
  | 38 => ⟨S8192x8x2x48, .f32⟩
  | 39 => ⟨S_, .f32⟩
  | 40 => ⟨S_, .f32⟩
  | 41 => ⟨S8192x8x2x64, .f32⟩
  | 42 => ⟨S8192x1024, .f32⟩
  | 43 => ⟨S1024x8192, .f32⟩
  | 44 => ⟨S1x384, .f32⟩
  | 45 => ⟨S1x256, .f32⟩
  | 46 => ⟨S384x1024, .bf16⟩
  | 47 => ⟨S256x1024, .bf16⟩
  | 48 => ⟨S256x1024, .bf16⟩
  | 49 => ⟨S8192x2304, .bf16⟩
  | 50 => ⟨S8192x1024, .bf16⟩
  | 51 => ⟨S8192x1024, .bf16⟩
  | 52 => ⟨S8192x1024, .bf16⟩
  | 53 => ⟨S1x128, .f32⟩
  | 54 => ⟨S1x128, .f32⟩
  | 55 => ⟨S1x384, .f32⟩
  | 56 => ⟨S1x256, .f32⟩
  | 57 => ⟨S8192x384, .bf16⟩
  | 58 => ⟨S8192x8x2x64, .bf16⟩
  | 59 => ⟨S8192x8x2x16, .bf16⟩
  | 60 => ⟨S8192x8x2x2x8, .bf16⟩
  | 61 => ⟨S8192x8x2x2x8, .bf16⟩
  | 62 => ⟨S8192x256, .bf16⟩
  | 63 => ⟨S8192x8x32, .bf16⟩
  | 64 => ⟨S8192x8x2x64, .bf16⟩
  | 65 => ⟨S8192x8x2x32, .bf16⟩
  | 66 => ⟨S8192x8x64, .bf16⟩
  | 67 => ⟨S8192x8x96, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x2304, .f32⟩
  | .local _ .vmem, ⟨1, _⟩ => ⟨S512x2304, .f32⟩
  | .local _ .vmem, ⟨2, _⟩ => ⟨S512x1024, .f32⟩
  | .local _ .vmem, ⟨3, _⟩ => ⟨S512x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S512x1024, .f32⟩
  | .local _ .vmem, ⟨9, _⟩ => ⟨S512x1024, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1x128, .f32⟩
  | .local _ .vmem, ⟨15, _⟩ => ⟨S1x128, .f32⟩
  | .local _ .vmem, ⟨16, _⟩ => ⟨S1x384, .f32⟩
  | .local _ .vmem, ⟨17, _⟩ => ⟨S1x256, .f32⟩
  | .local _ .vmem, ⟨18, _⟩ => ⟨S384x1024, .bf16⟩
  | .local _ .vmem, ⟨19, _⟩ => ⟨S256x1024, .bf16⟩
  | .local _ .vmem, ⟨20, _⟩ => ⟨S256x1024, .bf16⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x2304, .bf16⟩
  | .local _ .vmem, ⟨30, _⟩ => ⟨S512x2304, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S1x128, .f32⟩
  | .local _ .vmem, ⟨38, _⟩ => ⟨S1x128, .f32⟩
  | .local _ .vmem, ⟨39, _⟩ => ⟨S1x384, .f32⟩
  | .local _ .vmem, ⟨40, _⟩ => ⟨S1x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_call0_v0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_call1_v0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c : Ref sig .tc := ⟨.hbm, 37, rfl⟩
abbrev main_call2_v0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_call3_v0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_2 : Ref sig .tc := ⟨.hbm, 53, rfl⟩
abbrev main_call4_v0 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_call5_v0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_4 : Ref sig .tc := ⟨.hbm, 68, rfl⟩
abbrev main_call6_v0 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_5 : Ref sig .tc := ⟨.hbm, 75, rfl⟩
abbrev main_call7_v0 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_call8_v0 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_7 : Ref sig .tc := ⟨.hbm, 89, rfl⟩
abbrev main_call9_v0 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_8 : Ref sig .tc := ⟨.hbm, 96, rfl⟩
abbrev main_call10_v0 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_9 : Ref sig .tc := ⟨.hbm, 103, rfl⟩
abbrev main_call11_v0 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_10 : Ref sig .tc := ⟨.hbm, 116, rfl⟩
abbrev main_call12_v0 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_11 : Ref sig .tc := ⟨.hbm, 123, rfl⟩
abbrev main_call13_v0 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_12 : Ref sig .tc := ⟨.hbm, 130, rfl⟩
abbrev main_call14_v0 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_13 : Ref sig .tc := ⟨.hbm, 136, rfl⟩
abbrev main_call15_v0 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_14 : Ref sig .tc := ⟨.hbm, 142, rfl⟩
abbrev main_call16_v0 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_15 : Ref sig .tc := ⟨.hbm, 155, rfl⟩
abbrev main_call17_v0 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_16 : Ref sig .tc := ⟨.hbm, 167, rfl⟩
abbrev main_call18_v0 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117_0 : Ref sig .tc := ⟨.hbm, 177, rfl⟩
abbrev main_v117_1 : Ref sig .tc := ⟨.hbm, 178, rfl⟩
abbrev main_v117_2 : Ref sig .tc := ⟨.hbm, 179, rfl⟩
abbrev main_v117_3 : Ref sig .tc := ⟨.hbm, 180, rfl⟩
abbrev main_v117_4 : Ref sig .tc := ⟨.hbm, 181, rfl⟩
abbrev main_v117_5 : Ref sig .tc := ⟨.hbm, 182, rfl⟩
abbrev main_v117_6 : Ref sig .tc := ⟨.hbm, 183, rfl⟩
abbrev main_v117_7 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg25_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem23_0 : DmaSem sig := 38
abbrev cc0_sem24_0 : DmaSem sig := 39
abbrev cc0_sem25_0 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2304 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x384 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== MidIdeal.lean ====
variable {F : FTy → Type} [FloatOps F] [Named F]
def κ : String → Option EReal := fun
  | "inv_rank" => some ((384⁻¹ : ℝ) : EReal)
  | _ => none
-- ==== MidRefIdeal.lean ====
abbrev S8192x512 : Shape := ⟨2, ![8192, 512]⟩
abbrev S8192x128 : Shape := ⟨2, ![8192, 128]⟩
abbrev S8192x384 : Shape := ⟨2, ![8192, 384]⟩
abbrev S8192x256 : Shape := ⟨2, ![8192, 256]⟩
abbrev S8192x32 : Shape := ⟨2, ![8192, 32]⟩
abbrev S64 : Shape := ⟨1, ![64]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S8192x64 : Shape := ⟨2, ![8192, 64]⟩
abbrev S8192x8x96 : Shape := ⟨3, ![8192, 8, 96]⟩
abbrev S_ : Shape := ⟨0, ![]⟩
abbrev S8192 : Shape := ⟨1, ![8192]⟩
abbrev S8192x1 : Shape := ⟨2, ![8192, 1]⟩
abbrev S1x384 : Shape := ⟨2, ![1, 384]⟩
abbrev S8192x768 : Shape := ⟨2, ![8192, 768]⟩
abbrev S8192x8x64 : Shape := ⟨3, ![8192, 8, 64]⟩
abbrev S8192x8x32 : Shape := ⟨3, ![8192, 8, 32]⟩
abbrev S8192x8x16 : Shape := ⟨3, ![8192, 8, 16]⟩
abbrev S8192x1x32 : Shape := ⟨3, ![8192, 1, 32]⟩
abbrev S8192x8x8 : Shape := ⟨3, ![8192, 8, 8]⟩

abbrev nBuf : Space → Nat
  | .hbm => 130
  | .vmem => 0
  | .smem => 0
  | _ => 0

abbrev hbmTy0_0 (i : Nat) : BufTy := match i % 128 with
  | 0 => ⟨S8192x512, .f32⟩
  | 1 => ⟨S8192x128, .f32⟩
  | 2 => ⟨S8192x128, .f32⟩
  | 3 => ⟨S8192x384, .f32⟩
  | 4 => ⟨S8192x256, .f32⟩
  | 5 => ⟨S8192x32, .f32⟩
  | 6 => ⟨S64, .f32⟩
  | 7 => ⟨S64, .f32⟩
  | 8 => ⟨S384, .f32⟩
  | 9 => ⟨S256, .f32⟩
  | 10 => ⟨S384x768, .f32⟩
  | 11 => ⟨S256x1024, .f32⟩
  | 12 => ⟨S8192x64, .f32⟩
  | 13 => ⟨S8192x64, .f32⟩
  | 14 => ⟨S8192x32, .f32⟩
  | 15 => ⟨S8192x32, .f32⟩
  | 16 => ⟨S8192x512, .f32⟩
  | 17 => ⟨S8192x128, .f32⟩
  | 18 => ⟨S8192x128, .f32⟩
  | 19 => ⟨S8192x8x96, .f32⟩
  | 20 => ⟨S8192x8x96, .f32⟩
  | 21 => ⟨S8192x512, .f32⟩
  | 22 => ⟨S8192x384, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x384, .f32⟩
  | 38 => ⟨S8192x384, .f32⟩
  | 39 => ⟨S1x384, .f32⟩
  | 40 => ⟨S8192x384, .f32⟩
  | 41 => ⟨S8192x384, .f32⟩
  | 42 => ⟨S8192x768, .f32⟩
  | 43 => ⟨S8192x8x96, .f32⟩
  | 44 => ⟨S8192x8x64, .f32⟩
  | 45 => ⟨S8192x8x32, .f32⟩
  | 46 => ⟨S8192x8x16, .f32⟩
  | 47 => ⟨S8192x8x16, .f32⟩
  | 48 => ⟨S8192x1x32, .f32⟩
  | 49 => ⟨S8192x8x32, .f32⟩
  | 50 => ⟨S8192x8x32, .f32⟩
  | 51 => ⟨S8192x8x8, .f32⟩
  | 52 => ⟨S8192x8x8, .f32⟩
  | 53 => ⟨S8192x8x8, .f32⟩
  | 54 => ⟨S8192x8x16, .f32⟩
  | 55 => ⟨S8192x8x8, .f32⟩
  | 56 => ⟨S8192x8x8, .f32⟩
  | 57 => ⟨S8192x8x8, .f32⟩
  | 58 => ⟨S8192x8x16, .f32⟩
  | 59 => ⟨S8192x8x32, .f32⟩
  | 60 => ⟨S8192x1x32, .f32⟩
  | 61 => ⟨S8192x8x32, .f32⟩
  | 62 => ⟨S8192x8x32, .f32⟩
  | 63 => ⟨S8192x8x32, .f32⟩
  | 64 => ⟨S8192x8x96, .f32⟩
  | 65 => ⟨S8192x8x64, .f32⟩
  | 66 => ⟨S8192x8x32, .f32⟩
  | 67 => ⟨S8192x8x32, .f32⟩
  | 68 => ⟨S8192x8x32, .f32⟩
  | 69 => ⟨S8192x8x16, .f32⟩
  | 70 => ⟨S8192x8x16, .f32⟩
  | 71 => ⟨S8192x8x8, .f32⟩
  | 72 => ⟨S8192x8x8, .f32⟩
  | 73 => ⟨S_, .f32⟩
  | 74 => ⟨S8192x8x16, .f32⟩
  | 75 => ⟨S8192x8x8, .f32⟩
  | 76 => ⟨S_, .f32⟩
  | 77 => ⟨S8192x8x16, .f32⟩
  | 78 => ⟨S8192x8x16, .f32⟩
  | 79 => ⟨S8192x8x8, .f32⟩
  | 80 => ⟨S8192x8x8, .f32⟩
  | 81 => ⟨S_, .f32⟩
  | 82 => ⟨S8192x8x16, .f32⟩
  | 83 => ⟨S8192x8x8, .f32⟩
  | 84 => ⟨S_, .f32⟩
  | 85 => ⟨S8192x8x16, .f32⟩
  | 86 => ⟨S8192x8x16, .f32⟩
  | 87 => ⟨S8192x8x32, .f32⟩
  | 88 => ⟨S8192x8x32, .f32⟩
  | 89 => ⟨S_, .f32⟩
  | 90 => ⟨S8192x8x32, .f32⟩
  | 91 => ⟨S8192x8x32, .f32⟩
  | 92 => ⟨S_, .f32⟩
  | 93 => ⟨S8192x8x32, .f32⟩
  | 94 => ⟨S8192x8x32, .f32⟩
  | 95 => ⟨S_, .f32⟩
  | 96 => ⟨S8192x8x96, .f32⟩
  | 97 => ⟨S_, .f32⟩
  | 98 => ⟨S8192x8x96, .f32⟩
  | 99 => ⟨S8192x8x96, .f32⟩
  | 100 => ⟨S8192x768, .f32⟩
  | 101 => ⟨S8192x384, .f32⟩
  | 102 => ⟨S8192x384, .f32⟩
  | 103 => ⟨S_, .f32⟩
  | 104 => ⟨S384, .f32⟩
  | 105 => ⟨S1x384, .f32⟩
  | 106 => ⟨S8192x384, .f32⟩
  | 107 => ⟨S8192x384, .f32⟩
  | 108 => ⟨S_, .f32⟩
  | 109 => ⟨S384, .f32⟩
  | 110 => ⟨S8192x384, .f32⟩
  | 111 => ⟨S_, .f32⟩
  | 112 => ⟨S8192, .f32⟩
  | 113 => ⟨S8192x1, .f32⟩
  | 114 => ⟨S8192x384, .f32⟩
  | 115 => ⟨S8192x384, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x384, .f32⟩
  | 123 => ⟨S8192x384, .f32⟩
  | 124 => ⟨S8192x384, .f32⟩
  | 125 => ⟨S8192x384, .f32⟩
  | 126 => ⟨S8192x384, .f32⟩
  | 127 => ⟨S8192x384, .bf16⟩
  | _ => ⟨S8192x512, .f32⟩

abbrev hbmTy0_1 (i : Nat) : BufTy := match i % 128 with
  | 0 => ⟨S8192x8x96, .bf16⟩
  | 1 => ⟨S1x384, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_cst_4 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_cst_13 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]
-- ==== Proof.Rows.lean ====
/-
  Rows of an array of 8192 rows cut in 16 tiles of 512, sums over them, and the extended-real facts that
  the row sums need.
-/
module

public import Idealize.ShloMosaic.Lib.Pointwise
public import Idealize.ShloMosaic.Lib.Pipeline.Value
public import Idealize.ShloMosaic.PureOps.Ideal.Laws

@[expose] public section

noncomputable section

namespace Cert.Rows

open Idealize.ShloMosaic

/-- The zero offsets of a whole two-axis block. -/
theorem hz : (![0, 0] : Fin 2 → Nat) = fun _ => 0 := funext fun a => by fin_cases a <;> rfl

/-- A load of a whole two-axis block is the block. -/
theorem ld_all {Val : EltTy → Type} {a b : ℕ} {ty : EltTy} (X : (⟨2, ![a, b]⟩ : Shape).Idx → Val ty)
    (hin : ∀ k, (![0, 0] : Fin 2 → Nat) k + (![a, b] : Fin 2 → Nat) k ≤ (![a, b] : Fin 2 → Nat) k) :
    View.ld X (Rect.unit (s := (⟨2, ![a, b]⟩ : Shape)) ![0, 0] ![a, b] hin) = X :=
  View.ld_unit_zero (S := (⟨2, ![a, b]⟩ : Shape)) hz hin X

/-- Row `j` of tile `t`. -/
def row (t : ℕ) (j : Fin 512) : Fin 8192 := ⟨(t * 512 + j) % 8192, Nat.mod_lt _ (by decide)⟩

/-- Row `r`'s place in its tile. -/
def place (r : Fin 8192) : Fin 512 := ⟨r % 512, Nat.mod_lt _ (by decide)⟩

theorem row_val {t : ℕ} (ht : t < 16) (j : Fin 512) : (row t j : ℕ) = t * 512 + j := by
  have := j.isLt
  exact Nat.mod_eq_of_lt (by omega)

theorem row_place (r : Fin 8192) : row (r / 512) (place r) = r := by
  have := r.isLt
  apply Fin.ext
  rw [row_val (by omega)]
  show (r : ℕ) / 512 * 512 + r % 512 = r
  omega

/-- A sum over the rows is the sum over the tiles of the sums over each tile's rows. -/
theorem sum_rows {M : Type*} [AddCommMonoid M] (f : Fin 8192 → M) :
    ∑ t ∈ Finset.range 16, ∑ j : Fin 512, f (row t j) = ∑ r : Fin 8192, f r := by
  rw [Finset.sum_range fun t => ∑ j : Fin 512, f (row t j), ← Fintype.sum_prod_type']
  refine Fintype.sum_equiv (finProdFinEquiv (m := 16) (n := 512)) _ _ fun p => congrArg f (Fin.ext ?_)
  rw [row_val p.1.isLt, finProdFinEquiv_apply_val]
  ring

/-- A positive real factor goes into a finite sum of extended reals. -/
theorem coe_mul_sum {ι : Type*} {a : ℝ} (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr ha) (EReal.coe_ne_top a) _ _

theorem sum_mul_coe {ι : Type*} {a : ℝ} (ha : 0 ≤ a) (s : Finset ι) (f : ι → EReal) :
    (∑ i ∈ s, f i) * (a : EReal) = ∑ i ∈ s, f i * (a : EReal) := by
  rw [mul_comm, coe_mul_sum ha]
  exact Finset.sum_congr rfl fun _ _ => mul_comm _ _

/-- The float words of the constants, as real numbers. -/
theorem ofBits_half : Ideal.ofBits .f32 0x3F000000#32 = (((1 / 2 : ℝ)) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = (((1 / 1024 : ℝ)) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The integer zero as a float. -/
theorem sitofp_zero : FloatOps.sitofp (F := Ideal) .f32 (0#32) = 0 := by
  show (((0#32 : BitVec 32).toInt : ℝ) : EReal) = 0
  simp

theorem div_1024 (x : EReal) : Ideal.div x ((1024 : ℝ) : EReal) = x * ((1 / 1024 : ℝ) : EReal) :=
  Ideal.div_coe (by norm_num) x

end Cert.Rows

end
-- ==== Proof.LossBlock.lean ====
/-
  The loss call of the kernel, read: what each tile of rows leaves in the two results, and the two result arrays
  after the last tile.
-/
module

public import proofs.«01_k».proof.Proof.Rows
public import proofs.«01_k».proof.Proof.Gen.LossIdeal.Value
public import Idealize.ShloMosaic.Lib.Tactic

@[expose] public section

set_option maxRecDepth 16384

noncomputable section

namespace Cert.LossIdeal.Result

open Cert.LossIdeal Cert.LossIdeal.Gen Cert.Rows Idealize.ShloMosaic Idealize.ShloMosaic.TcCoe Idealize.SL.Sem
open Idealize.ShloMosaic.Pointwise
open Idealize.ShloMosaic.Pipeline (Dat)

section AnyFloat

variable {F : FTy → Type} [FloatOps F]
variable (m : (ℓ : Loc nD τ sig) → Buf (Elt F) ℓ)

/-- The gradient block of a tile at the first grid point. -/
theorem out_A_2 (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .f32) (h3 : a3.IsWhole)
    (a4 : Memref sig .tc .vmem S8x128 .f32) (h4 : a4.IsWhole) (hc : cond0_0 i) (x0 x1 : Vec F S512x1024 .f32) :
    out0_A_2 c i a1 h1 a2 h2 a3 h3 a4 h4 hc x0 x1 = k0_pay2 x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S512x1024) hz]

/-- The same at a later point. -/
theorem out_B_2 (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .f32) (h3 : a3.IsWhole)
    (a4 : Memref sig .tc .vmem S8x128 .f32) (h4 : a4.IsWhole) (hc : ¬cond0_0 i) (x0 x1 : Vec F S512x1024 .f32) (xo : Vec F S8x128 .f32) :
    out0_B_2 c i a1 h1 a2 h2 a3 h3 a4 h4 hc x0 x1 xo = k0_pay2 x0 x1 := by
  unfold out0_B_2
  rw [View.read_writes_eq_canon _ _ _ (cover0_B_2 c i a1 h1 a2 h2 a3 h3 a4 h4 hc x0 x1 xo)]
  unfold kernelRun0_B
  dsimp only
  sl_unfold_words
  rw [View.canon_unit_zero hz]
  simp only [View.readAt_eq_ld, h1.read_unread, h2.read_unread, View.ld_unit_zero (S := S512x1024) hz]

/-- The loss block after the first tile: the tile's sum over a block of zeros. -/
theorem out_A_3 (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .f32) (h3 : a3.IsWhole)
    (a4 : Memref sig .tc .vmem S8x128 .f32) (h4 : a4.IsWhole) (hc : cond0_0 i) (x0 x1 : Vec F S512x1024 .f32) :
    out0_A_3 c i a1 h1 a2 h2 a3 h3 a4 h4 hc x0 x1 = k0_pay4 x0 x1 k0_pay3 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S8x128) hz, View.readCov_unit_zero (S := S8x128) _ hz]
  simp only [View.readAt_eq_ld, h1.read_unread, h2.read_unread, View.ld_unit_zero (S := S512x1024) hz]

/-- The loss block after a later tile: the tile's sum over what the tile before left. -/
theorem out_B_3 (c : Dev nD) (i : grid0.Coords) (a1 : Memref sig .tc .vmem S512x1024 .f32) (h1 : a1.IsWhole)
    (a2 : Memref sig .tc .vmem S512x1024 .f32) (h2 : a2.IsWhole) (a3 : Memref sig .tc .vmem S512x1024 .f32) (h3 : a3.IsWhole)
    (a4 : Memref sig .tc .vmem S8x128 .f32) (h4 : a4.IsWhole) (hc : ¬cond0_0 i) (x0 x1 : Vec F S512x1024 .f32) (xo : Vec F S8x128 .f32) :
    out0_B_3 c i a1 h1 a2 h2 a3 h3 a4 h4 hc x0 x1 xo = k0_pay4 x0 x1 xo := by
  unfold out0_B_3
  rw [View.read_writes_eq_canon _ _ _ (cover0_B_3 c i a1 h1 a2 h2 a3 h3 a4 h4 hc x0 x1 xo)]
  unfold kernelRun0_B
  dsimp only
  sl_unfold_words
  rw [View.canon_unit_zero hz]
  simp only [View.readAt_eq_ld, h1.read_unread, h2.read_unread, h4.read_unread, View.ld_unit_zero (S := S512x1024) hz,
    View.ld_unit_zero (S := S8x128) hz]

/-- The index maps in closed form: row windows move by one tile a point. -/
theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel

/-- A tile of an input is its rows. -/
theorem iblk0 (c : Dev nD) (t : Fin cfg0.N) (j : Fin 512) (l : Fin 1024) :
    (iblk m c 0 t : Vec F S512x1024 .f32) (ix2 j l) = (m ((c : Thread nD τ).loc main_arg0) : Vec F S8192x1024 .f32) (ix2 (row t j) l) := by
  unfold iblk
  rw [View.read_apply]
  show V m c main_arg0 _ = m (c.tc.loc main_arg0) _
  unfold V
  congr 1
  funext a
  apply Fin.ext
  match a with
  | ⟨0, _⟩ => show win0_0.index t 0 * 512 + 1 * j.val = (row t j).val; rw [(idx0 t).1, row_val (lt_of_lt_of_eq t.isLt N_0)]; omega
  | ⟨1, _⟩ => show win0_0.index t 1 * 1024 + 1 * l.val = l.val; rw [(idx0 t).2]; omega

theorem iblk1 (c : Dev nD) (t : Fin cfg0.N) (j : Fin 512) (l : Fin 1024) :
    (iblk m c 1 t : Vec F S512x1024 .f32) (ix2 j l) = (m ((c : Thread nD τ).loc main_arg1) : Vec F S8192x1024 .f32) (ix2 (row t j) l) := by
  unfold iblk
  rw [View.read_apply]
  show V m c main_arg1 _ = m (c.tc.loc main_arg1) _
  unfold V
  congr 1
  funext a
  apply Fin.ext
  match a with
  | ⟨0, _⟩ => show win0_1.index t 0 * 512 + 1 * j.val = (row t j).val; rw [(idx1 t).1, row_val (lt_of_lt_of_eq t.isLt N_0)]; omega
  | ⟨1, _⟩ => show win0_1.index t 1 * 1024 + 1 * l.val = l.val; rw [(idx1 t).2]; omega

/-- After any point the gradient's block is that point's tile's. -/
theorem outs_2 (c : Dev nD) (t : Fin cfg0.N) : (outsAt0 m c t.val t.isLt).1 = k0_pay2 (iblk m c 0 t) (iblk m c 1 t) := by
  by_cases h : t.val % 16 = 0
  · rw [outsAt0_A m c t h, out_A_2]
  · rw [outsAt0_B m c t h, out_B_2]

/-- After the first point the loss's block is the first tile's part over zeros, -/
theorem outs_3_zero (c : Dev nD) (h : 0 < cfg0.N) :
    (outsAt0 m c 0 h).2 = k0_pay4 (iblk m c 0 ⟨0, h⟩) (iblk m c 1 ⟨0, h⟩) k0_pay3 := by
  refine (congrArg Prod.snd (outsAt0_A m c ⟨0, h⟩ (Nat.zero_mod _))).trans ?_
  dsimp only
  rw [out_A_3]

/-- and after a later point that tile's part over what was there. -/
theorem outs_3_succ (c : Dev nD) (n : ℕ) (h : n + 1 < cfg0.N) :
    (outsAt0 m c (n + 1) h).2 = k0_pay4 (iblk m c 0 ⟨n + 1, h⟩) (iblk m c 1 ⟨n + 1, h⟩) (outsAt0 m c n (Nat.lt_of_succ_lt h)).2 := by
  have hN : cfg0.N = 16 := N_0
  have hB : ¬(⟨n + 1, h⟩ : Fin cfg0.N).val % 16 = 0 := by dsimp only; omega
  refine (congrArg Prod.snd (outsAt0_B m c ⟨n + 1, h⟩ hB)).trans ?_
  dsimp only
  rw [out_B_3]
  rfl

/-- The gradient's array after the run, row by row. -/
theorem final_2 (c : Dev nD) (t : Fin cfg0.N) (j : Fin 512) (l : Fin 1024) :
    ((dats m 0 c).arrAt 2 cfg0.N : Vec F S8192x1024 .f32) (ix2 (row t j) l) = k0_pay2 (iblk m c 0 t) (iblk m c 1 t) (ix2 j l) := by
  have h := (dats m 0 c).arrAt_emb_eq_flushed 2 Value.disjoint2 t (flush0_2 t) (ix2 j l)
  rw [Value.flushed2, outs_2] at h
  refine Eq.trans (congrArg _ (funext fun a => Fin.ext ?_)) h
  match a with
  | ⟨0, _⟩ => show (row t j).val = win0_2.index t 0 * 512 + 1 * j.val; rw [(idx2 t).1, row_val (lt_of_lt_of_eq t.isLt N_0)]; omega
  | ⟨1, _⟩ => show l.val = win0_2.index t 1 * 1024 + 1 * l.val; rw [(idx2 t).2]; omega

end AnyFloat

end Cert.LossIdeal.Result

end
-- ==== Proof.LossValue.lean ====
/-
  The loss and its gradient over the extended reals: the kernel's two results and the reference's are the same arrays.
-/
module

public import proofs.«01_k».proof.Proof.LossBlock
public import proofs.«01_k».proof.Proof.Gen.LossRefIdeal.Read

@[expose] public section

set_option maxRecDepth 16384

noncomputable section

namespace Cert.LossIdeal.Result

open Cert.LossIdeal Cert.LossIdeal.Gen Cert.Rows Idealize.ShloMosaic Idealize.ShloMosaic.TcCoe Idealize.SL.Sem
open Idealize.ShloMosaic.Pointwise
open Idealize.ShloMosaic.Pipeline (Dat)

/-- An element of the gradient's block. -/
theorem pay_grad (x0 x1 : Vec Ideal S512x1024 .f32) (j : Fin 512) (l : Fin 1024) :
    k0_pay2 (F := Ideal) x0 x1 (ix2 j l) = (x0 (ix2 j l) - x1 (ix2 j l)) * ((1 / 1024 : ℝ) : EReal) := by
  pointwise [k0_pay2, k0_pay1, ofBits_inv1024]

/-- An element of the loss's block: what was there plus the tile's part. -/
theorem pay_loss (x0 x1 : Vec Ideal S512x1024 .f32) (xo : Vec Ideal S8x128 .f32) (a : Fin 8) (b : Fin 128) :
    k0_pay4 (F := Ideal) x0 x1 xo (ix2 a b) = xo (ix2 a b)
      + ((1 / 2 : ℝ) : EReal) * ∑ j : Fin 512, (∑ l : Fin 1024, (x0 (ix2 j l) - x1 (ix2 j l)) * (x0 (ix2 j l) - x1 (ix2 j l))) * ((1 / 1024 : ℝ) : EReal) := by
  pointwise [k0_pay4, k0_pay1, ofBits_inv1024, ofBits_half]

theorem pay_zero (a : Fin 8) (b : Fin 128) : k0_pay3 (F := Ideal) (ix2 a b) = 0 := by
  pointwise [k0_pay3]

variable (m : (ℓ : Loc nD τ sig) → Buf (Elt Ideal) ℓ)

/-- The two arguments. -/
abbrev Y (c : Dev nD) : Vec Ideal S8192x1024 .f32 := m ((c : Thread nD τ).loc main_arg0)
abbrev T (c : Dev nD) : Vec Ideal S8192x1024 .f32 := m ((c : Thread nD τ).loc main_arg1)

/-- A row's mean squared error. -/
def mse (y t : Vec Ideal S8192x1024 .f32) (r : Fin 8192) : EReal :=
  (∑ l : Fin 1024, (y (ix2 r l) - t (ix2 r l)) * (y (ix2 r l) - t (ix2 r l))) * ((1 / 1024 : ℝ) : EReal)

/-- The loss block after point `n` holds half the sum of the mean squared errors of the rows so far. -/
theorem outs_3 (c : Dev nD) (a : Fin 8) (b : Fin 128) : ∀ (n : ℕ) (h : n < cfg0.N),
    ((outsAt0 m c n h).2 : Vec Ideal S8x128 .f32) (ix2 a b)
      = ∑ t ∈ Finset.range (n + 1), ((1 / 2 : ℝ) : EReal) * ∑ j : Fin 512, mse (Y m c) (T m c) (row t j)
  | 0, h => by
    rw [outs_3_zero, pay_loss, pay_zero, zero_add, Finset.sum_range_one]
    simp only [iblk0, iblk1]
    rfl
  | n + 1, h => by
    rw [outs_3_succ, pay_loss, Finset.sum_range_succ]
    simp only [iblk0, iblk1]
    exact congrArg (· + _) (outs_3 c a b n _)

/-- The gradient's array. -/
theorem grad (c : Dev nD) (r : Fin 8192) (l : Fin 1024) :
    ((dats m 0 c).arrAt 2 cfg0.N : Vec Ideal S8192x1024 .f32) (ix2 r l)
      = (Y m c (ix2 r l) - T m c (ix2 r l)) * ((1 / 1024 : ℝ) : EReal) := by
  have ht : (r : ℕ) / 512 < cfg0.N := by rw [show cfg0.N = 16 from N_0]; have := r.isLt; omega
  have h := final_2 m c ⟨r / 512, ht⟩ (place r) l
  rw [pay_grad, iblk0, iblk1] at h
  simpa only [row_place] using h

/-- The last point. -/
abbrev tl : Fin cfg0.N := ⟨15, by rw [show cfg0.N = 16 from N_0]; decide⟩

theorem idx3 : ∀ t : Fin grid0.N, win0_3.index t 0 = 0 ∧ win0_3.index t 1 = 0 := by decide +kernel

theorem disjoint3 : ∀ t t' : Fin cfg0.N, (cfg0.win 3).flush t = true → (cfg0.win 3).flush t' = true → t ≠ t' →
    Disjoint ((cfg0.win 3).blk t).view.set ((cfg0.win 3).blk t').view.set := fun t t' h h' hne => by
  have hN : cfg0.N = 16 := N_0
  have h1 := (flush0_3 t).mp h
  have h2 := (flush0_3 t').mp h'
  exact absurd (Fin.ext (by omega)) hne

/-- The loss's array. -/
theorem loss (c : Dev nD) (a : Fin 8) (b : Fin 128) :
    ((dats m 0 c).arrAt 3 cfg0.N : Vec Ideal S8x128 .f32) (ix2 a b)
      = ((1 / 2 : ℝ) : EReal) * ∑ r : Fin 8192, mse (Y m c) (T m c) r := by
  have h := (dats m 0 c).arrAt_emb_eq_flushed 3 disjoint3 tl ((flush0_3 tl).mpr rfl) (ix2 a b)
  rw [Value.flushed3] at h
  refine Eq.trans (congrArg _ (funext fun ax => Fin.ext ?_)) (h.trans ?_)
  · match ax with
    | ⟨0, _⟩ => show a.val = win0_3.index tl 0 * 8 + 1 * a.val; rw [(idx3 tl).1]; omega
    | ⟨1, _⟩ => show b.val = win0_3.index tl 1 * 128 + 1 * b.val; rw [(idx3 tl).2]; omega
  · show ((outsAt0 m c 15 _).2 : Vec Ideal S8x128 .f32) (ix2 a b) = _
    rw [outs_3 m c a b 15, ← coe_mul_sum (by norm_num), sum_rows]

end Cert.LossIdeal.Result

namespace Cert.LossRefIdeal.Result

open Cert.LossRefIdeal Cert.LossRefIdeal.Read Cert.Rows Idealize.ShloMosaic Idealize.ShloMosaic.TcCoe
open Idealize.ShloMosaic.Pointwise Idealize.ShloMosaic.StableHlo

/-- The reference's gradient at an element. -/
theorem grad (y t : Vec Ideal S8192x1024 .f32) (r : Fin 8192) (l : Fin 1024) :
    val_main_v14 (F := Ideal) y t (ix2 r l) = (y (ix2 r l) - t (ix2 r l)) * ((1 / 1024 : ℝ) : EReal) := by
  simp only [val_main_v14_apply, val_main_v13_apply, val_main_v12_apply, val_main_v11_apply, val_main_v10_apply, val_main_v9_apply,
    val_main_cst_4_apply, val_main_cst_5_apply, val_main_cst_6_apply, val_main_v3_apply, val_main_v2_apply, val_main_cst_apply,
    val_main_v0_apply, Ideal.ofBits_def, Ideal.mulf_def, Ideal.subf_def, Ideal.hostDivf_def, ofBits_half, ofBits_one, ofBits_two,
    ofBits_1024, div_1024]
  rw [← EReal.coe_mul, ← EReal.coe_mul, ← mul_assoc, ← EReal.coe_mul, mul_comm]
  norm_num

/-- The reference's loss. -/
theorem loss (y t : Vec Ideal S8192x1024 .f32) (a : Fin 8) (b : Fin 128) :
    val_main_v15 (F := Ideal) y t (ix2 a b) = ((1 / 2 : ℝ) : EReal) * ∑ r : Fin 8192, Cert.LossIdeal.Result.mse y t r := by
  simp only [val_main_v15_apply, val_main_v8_apply, val_main_cst_3_apply, val_main_v7_apply, val_main_cst_2_apply, val_main_v6_apply,
    val_main_v5_apply, val_main_cst_1_apply, val_main_v4_apply, val_main_cst_0_apply, val_main_v1_apply, val_main_v0_apply,
    Ideal.ofBits_def, Ideal.mulf_def, Ideal.subf_def, Ideal.hostDivf_def, ofBits_half, ofBits_1024, div_1024, Ideal.ofBits_zero_f32, zero_add]
  refine congrArg (((1 / 2 : ℝ) : EReal) * ·) ?_
  refine Fintype.sum_equiv (⟨fun j => j 0, fun r => ix1 r, fun j => by idx_ext, fun _ => rfl⟩ : S8192.Idx ≃ Fin 8192) _ _ fun j => ?_
  unfold Cert.LossIdeal.Result.mse
  refine congrArg (· * ((1 / 1024 : ℝ) : EReal)) ?_
  refine Finset.sum_congr rfl fun k _ => ?_
  rw [show idx_main_v4 j k = ix2 (j 0) k from by idx_ext]
  rfl

end Cert.LossRefIdeal.Result

end
-- ==== Proof.LossClaim.lean ====
/-
  The loss call's claims: the frames, the ideal reading, and the equation of the kernel with the reference.
-/
module

public import proofs.«01_k».proof.Defs
public import proofs.«01_k».proof.Proof.LossValue
public import proofs.«01_k».proof.Proof.Gen.Loss.Frame
public import proofs.«01_k».proof.Proof.Gen.LossRefIdeal.Run
public import Idealize.ShloMosaic.Lib.Quiescent

@[expose] public section

noncomputable section

namespace Cert.Proof.Loss

open Idealize.ShloMosaic Idealize.ShloMosaic.TcCoe Idealize.ShloMosaic.Pointwise Idealize.SL.Sem

theorem frame : Cert.quiescent_Loss (hLoss := Cert.Loss.Gen.facts) := fun m ρ _ => Cert.Loss.Gen.frame m ρ

theorem frameIdeal : Cert.quiescent_LossIdeal (hLossIdeal := Cert.LossIdeal.Gen.facts) := fun m ρ _ => Cert.LossIdeal.Gen.frame m ρ

/-- The reference is host operations alone: it has no semaphores. -/
theorem frameRef : Cert.quiescent_LossRefIdeal (hLossRefIdeal := Cert.LossRefIdeal.Gen.facts) := fun m ρ _ =>
  (θ_run Cert.LossRefIdeal.defs _ _).mono (fun r h => ⟨fun c => (h c).2.2, sem_eq_zero_of_no_sems (by decide) r.2⟩)
    (Cert.LossRefIdeal.Value.run m ρ)

/-- Over the extended reals the call's gradient and loss are the reference's. -/
theorem value : Cert.algebraic_LossIdeal_LossRefIdeal (hLossIdeal := Cert.LossIdeal.Gen.facts)
    (hLossRefIdeal := Cert.LossRefIdeal.Gen.facts) := fun m g m' g' _ hag => by
  refine ⟨fun c => (Cert.LossIdeal.Gen.dats m 0 c).arrAt 2 Cert.LossIdeal.cfg0.N,
    fun c => (Cert.LossIdeal.Gen.dats m 0 c).arrAt 3 Cert.LossIdeal.cfg0.N, Cert.LossIdeal.Value.run_blocks m g, ?_⟩
  refine (θ_run Cert.LossRefIdeal.defs _ _).mono (fun r h c => ⟨(h c).1.trans ?_, (h c).2.1.trans ?_, (h c).2.2⟩)
    (Cert.LossRefIdeal.Value.run m' g')
  · rw [(hag c).1, (hag c).2]
    refine (Cert.LossRefIdeal.Read.val_main_v14_eq (F := Ideal) _ _).trans (funext fun i => ?_)
    rw [eq_ix2 i]
    exact (Cert.LossRefIdeal.Result.grad _ _ _ _).trans (Cert.LossIdeal.Result.grad m c _ _).symm
  · rw [(hag c).1, (hag c).2]
    refine (Cert.LossRefIdeal.Read.val_main_v15_eq (F := Ideal) _ _).trans (funext fun i => ?_)
    rw [eq_ix2 i]
    exact (Cert.LossRefIdeal.Result.loss _ _ _ _).trans (Cert.LossIdeal.Result.loss m c _ _).symm

end Cert.Proof.Loss

end
-- ==== Proof.UpBlock.lean ====
/-
  The call that ends the feed-forward block's gradient, read: what each tile of rows leaves in the two results.
-/
module

public import proofs.«01_k».proof.Proof.Rows
public import proofs.«01_k».proof.Proof.Gen.UpIdeal.Value
public import Idealize.ShloMosaic.Lib.Tactic

@[expose] public section

set_option maxRecDepth 16384

noncomputable section

namespace Cert.UpIdeal.Result

open Cert.UpIdeal Cert.UpIdeal.Gen Cert.Rows Idealize.ShloMosaic Idealize.ShloMosaic.TcCoe Idealize.SL.Sem
open Idealize.ShloMosaic.Pointwise
open Idealize.ShloMosaic.Pipeline (Dat)

variable {F : FTy → Type} [FloatOps F]
variable (m : (ℓ : Loc nD τ sig) → Buf (Elt F) ℓ)

/-- After any point the first result's block is that point's tile's gradient plus the other one's. -/
theorem outs_dx (c : Dev nD) (t : Fin cfg0.N) : (outsAt0 m c t.val t.isLt).1
    = k0_pay1 (k0_pay5 (iblk m c 0 t) (iblk m c 1 t) (iblk m c 2 t) (iblk m c 3 t)) (iblk m c 4 t) := by
  by_cases h : t.val % 16 = 0
  · rw [outsAt0_A m c t h]
    dsimp only
    unfold out0_A_5
    rw [View.read_writes_eq_canon _ _ _ (fun _ => cover0_A_5 ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, ld_all]
  · rw [outsAt0_B m c t h]
    dsimp only
    unfold out0_B_5
    rw [View.read_writes_eq_canon _ _ _ (fun _ => cover0_B_5 ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread,
      (hs0_4 t).read_unread, ld_all]

/-- After the first point the gain's gradient is the first tile's part over zeros, -/
theorem outs_dg_zero (c : Dev nD) (h : 0 < cfg0.N) : (outsAt0 m c 0 h).2
    = k0_pay7 (iblk m c 0 ⟨0, h⟩) (iblk m c 1 ⟨0, h⟩) (iblk m c 2 ⟨0, h⟩) k0_pay6 := by
  refine (congrArg Prod.snd (outsAt0_A m c ⟨0, h⟩ (Nat.zero_mod _))).trans ?_
  dsimp only
  unfold out0_A_6
  rw [View.read_writes_eq_canon _ _ _ (fun _ => cover0_A_6 ..)]
  unfold kernelRun0_A
  dsimp only
  sl_unfold_words
  rw [View.canon_cons_unit_zero hz, View.readCov_unit_zero _ hz]
  simp only [View.readAt_eq_ld, (hs0_0 _).read_unread, (hs0_1 _).read_unread, (hs0_2 _).read_unread, ld_all]

/-- and after a later point that tile's part over what was there. -/
theorem outs_dg_succ (c : Dev nD) (n : ℕ) (h : n + 1 < cfg0.N) : (outsAt0 m c (n + 1) h).2
    = k0_pay7 (iblk m c 0 ⟨n + 1, h⟩) (iblk m c 1 ⟨n + 1, h⟩) (iblk m c 2 ⟨n + 1, h⟩) (outsAt0 m c n (Nat.lt_of_succ_lt h)).2 := by
  have hN : cfg0.N = 16 := N_0
  have hB : ¬(⟨n + 1, h⟩ : Fin cfg0.N).val % 16 = 0 := by dsimp only; omega
  refine (congrArg Prod.snd (outsAt0_B m c ⟨n + 1, h⟩ hB)).trans ?_
  dsimp only
  unfold out0_B_6
  rw [View.read_writes_eq_canon _ _ _ (fun _ => cover0_B_6 ..)]
  unfold kernelRun0_B
  dsimp only
  sl_unfold_words
  rw [View.canon_unit_zero hz]
  simp only [View.readAt_eq_ld, (hs0_0 _).read_unread, (hs0_1 _).read_unread, (hs0_2 _).read_unread, (hs0_6 _).read_unread, ld_all]
  rfl

/-- The arrays that the call reads, as functions of the program's arguments. -/
theorem V_dh (c : Dev nD) : V m c main_v0 = truncf .bf16 (m ((c : Thread nD τ).loc main_arg3)) bitsLt_bf16_f32 := by
  unfold V hostOps0
  after_results

theorem V_w (c : Dev nD) : V m c main_v1 = truncf .bf16 (m ((c : Thread nD τ).loc main_arg2)) bitsLt_bf16_f32 := by
  unfold V hostOps0
  after_results

theorem V_g (c : Dev nD) : V m c main_v2 = shapeCast _ (m ((c : Thread nD τ).loc main_arg1)) shapeCasts_S1024_S1x1024 := by
  unfold V hostOps0
  after_results
  rfl

/-- The index maps in closed form: the row windows move by one tile a point, the others stay. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) := by decide +kernel

/-- A tile of a row window is its rows; the other windows hold their whole arrays. -/
theorem iblk0 (c : Dev nD) (t : Fin cfg0.N) (j : Fin 512) (k : Fin 4096) :
    (iblk m c 0 t : Vec F S512x4096 .bf16) (ix2 j k) = (V m c main_v0 : Vec F S8192x4096 .bf16) (ix2 (row t j) k) := by
  unfold iblk
  rw [View.read_apply]
  refine congrArg (V m c main_v0 : Vec F S8192x4096 .bf16) (funext fun a => Fin.ext ?_)
  match a with
  | ⟨0, _⟩ => show win0_0.index t 0 * 512 + 1 * j.val = (row t j).val; rw [(idx t).1.1, row_val (lt_of_lt_of_eq t.isLt N_0)]; omega
  | ⟨1, _⟩ => show win0_0.index t 1 * 4096 + 1 * k.val = k.val; rw [(idx t).1.2]; omega

theorem iblk1 (c : Dev nD) (t : Fin cfg0.N) (l : Fin 1024) (k : Fin 4096) :
    (iblk m c 1 t : Vec F S1024x4096 .bf16) (ix2 l k) = (V m c main_v1 : Vec F S1024x4096 .bf16) (ix2 l k) := by
  unfold iblk
  rw [View.read_apply]
  refine congrArg (V m c main_v1 : Vec F S1024x4096 .bf16) (funext fun a => Fin.ext ?_)
  match a with
  | ⟨0, _⟩ => show win0_1.index t 0 * 1024 + 1 * l.val = l.val; rw [(idx t).2.1.1]; omega
  | ⟨1, _⟩ => show win0_1.index t 1 * 4096 + 1 * k.val = k.val; rw [(idx t).2.1.2]; omega

theorem iblk2 (c : Dev nD) (t : Fin cfg0.N) (j : Fin 512) (l : Fin 1024) :
    (iblk m c 2 t : Vec F S512x1024 .f32) (ix2 j l) = (V m c main_arg0 : Vec F S8192x1024 .f32) (ix2 (row t j) l) := by
  unfold iblk
  rw [View.read_apply]
  refine congrArg (V m c main_arg0 : Vec F S8192x1024 .f32) (funext fun a => Fin.ext ?_)
  match a with
  | ⟨0, _⟩ => show win0_2.index t 0 * 512 + 1 * j.val = (row t j).val; rw [(idx t).2.2.1.1, row_val (lt_of_lt_of_eq t.isLt N_0)]; omega
  | ⟨1, _⟩ => show win0_2.index t 1 * 1024 + 1 * l.val = l.val; rw [(idx t).2.2.1.2]; omega

theorem iblk3 (c : Dev nD) (t : Fin cfg0.N) (z : Fin 1) (l : Fin 1024) :
    (iblk m c 3 t : Vec F S1x1024 .f32) (ix2 z l) = (V m c main_v2 : Vec F S1x1024 .f32) (ix2 z l) := by
  unfold iblk
  rw [View.read_apply]
  refine congrArg (V m c main_v2 : Vec F S1x1024 .f32) (funext fun a => Fin.ext ?_)
  match a with
  | ⟨0, _⟩ => show win0_3.index t 0 * 1 + 1 * z.val = z.val; rw [(idx t).2.2.2.1.1]; omega
  | ⟨1, _⟩ => show win0_3.index t 1 * 1024 + 1 * l.val = l.val; rw [(idx t).2.2.2.1.2]; omega

theorem iblk4 (c : Dev nD) (t : Fin cfg0.N) (j : Fin 512) (l : Fin 1024) :
    (iblk m c 4 t : Vec F S512x1024 .f32) (ix2 j l) = (V m c main_arg4 : Vec F S8192x1024 .f32) (ix2 (row t j) l) := by
  unfold iblk
  rw [View.read_apply]
  refine congrArg (V m c main_arg4 : Vec F S8192x1024 .f32) (funext fun a => Fin.ext ?_)
  match a with
  | ⟨0, _⟩ => show win0_4.index t 0 * 512 + 1 * j.val = (row t j).val; rw [(idx t).2.2.2.2.1.1, row_val (lt_of_lt_of_eq t.isLt N_0)]; omega
  | ⟨1, _⟩ => show win0_4.index t 1 * 1024 + 1 * l.val = l.val; rw [(idx t).2.2.2.2.1.2]; omega

/-- The first result's array after the run, row by row. -/
theorem final_dx (c : Dev nD) (t : Fin cfg0.N) (j : Fin 512) (l : Fin 1024) :
    ((dats m 0 c).arrAt 5 cfg0.N : Vec F S8192x1024 .f32) (ix2 (row t j) l)
      = k0_pay1 (k0_pay5 (iblk m c 0 t) (iblk m c 1 t) (iblk m c 2 t) (iblk m c 3 t)) (iblk m c 4 t) (ix2 j l) := by
  have h := (dats m 0 c).arrAt_emb_eq_flushed 5 Value.disjoint5 t (flush0_5 t) (ix2 j l)
  rw [Value.flushed5, outs_dx] at h
  refine Eq.trans (congrArg _ (funext fun a => Fin.ext ?_)) h
  match a with
  | ⟨0, _⟩ => show (row t j).val = win0_5.index t 0 * 512 + 1 * j.val; rw [(idx t).2.2.2.2.2.1.1, row_val (lt_of_lt_of_eq t.isLt N_0)]; omega
  | ⟨1, _⟩ => show l.val = win0_5.index t 1 * 1024 + 1 * l.val; rw [(idx t).2.2.2.2.2.1.2]; omega

/-- The last point, the only one that writes the gain's gradient back. -/
abbrev tl : Fin cfg0.N := ⟨15, by rw [show cfg0.N = 16 from N_0]; decide⟩

theorem disjoint_dg : ∀ t t' : Fin cfg0.N, (cfg0.win 6).flush t = true → (cfg0.win 6).flush t' = true → t ≠ t' →
    Disjoint ((cfg0.win 6).blk t).view.set ((cfg0.win 6).blk t').view.set := fun t t' h h' hne => by
  have hN : cfg0.N = 16 := N_0
  have h1 := (flush0_6 t).mp h
  have h2 := (flush0_6 t').mp h'
  exact absurd (Fin.ext (by omega)) hne

/-- The gain's gradient after the run is what the last point left. -/
theorem final_dg (c : Dev nD) (z : Fin 1) (l : Fin 1024) :
    ((dats m 0 c).arrAt 6 cfg0.N : Vec F S1x1024 .f32) (ix2 z l) = (outsAt0 m c tl.val tl.isLt).2 (ix2 z l) := by
  have h := (dats m 0 c).arrAt_emb_eq_flushed 6 disjoint_dg tl ((flush0_6 tl).mpr rfl) (ix2 z l)
  rw [Value.flushed6] at h
  refine Eq.trans (congrArg _ (funext fun a => Fin.ext ?_)) h
  match a with
  | ⟨0, _⟩ => show z.val = win0_6.index tl 0 * 1 + 1 * z.val; rw [(idx tl).2.2.2.2.2.2.1]; omega
  | ⟨1, _⟩ => show l.val = win0_6.index tl 1 * 1024 + 1 * l.val; rw [(idx tl).2.2.2.2.2.2.2]; omega

end Cert.UpIdeal.Result

end
-- ==== Proof.Norm.lean ====
/-
  The gradient of a row's root-mean-square norm, over the reals: the kernels' form of it and the derivative's.
-/
module

public import proofs.«01_k».proof.Proof.Rows

@[expose] public section

noncomputable section

namespace Cert.Norm

open Idealize.ShloMosaic Cert.Rows

/-- An extended real that is a real number. -/
def IsReal (x : EReal) : Prop := ∃ r : ℝ, x = (r : EReal)

theorem IsReal.coe (r : ℝ) : IsReal (r : EReal) := ⟨r, rfl⟩

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

/-- A sum of real numbers is one. -/
theorem coe_sum {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- An array of real numbers is the image of one. -/
theorem exists_real {ι : Type*} {f : ι → EReal} (h : ∀ i, IsReal (f i)) : ∃ g : ι → ℝ, f = fun i => (g i : EReal) := by
  choose g hg using h
  exact ⟨g, funext hg⟩

theorem IsReal.sum {ι : Type*} (s : Finset ι) {f : ι → EReal} (h : ∀ i, IsReal (f i)) : IsReal (∑ i ∈ s, f i) := by
  obtain ⟨g, rfl⟩ := exists_real h
  exact ⟨_, coe_sum s g⟩

/-- What a precondition's comparison says of an element: its absolute value is below infinity. -/
theorem isReal_of_abs_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

/-- The number that the norms add to a mean square: the float word nearest to a millionth. -/
def eps : ℝ := 8796093 / 2 ^ 43

theorem ofBits_eps : Ideal.ofBits .f32 0x358637BD#32 = (eps : EReal) := by
  unfold eps
  simp [Ideal.ofBits, Ideal.ieee, -EReal.coe_mul]; norm_num

/-- A cut at zero of a real number is real. -/
theorem IsReal.max_zero {x : EReal} (h : IsReal x) : IsReal (max x 0) := by
  rcases max_choice x 0 with e | e <;> rw [e]
  · exact h
  · exact IsReal.coe 0

theorem eps_pos : 0 < eps := by unfold eps; norm_num

variable {n : ℕ}

/-- The reciprocal root of a row's mean square; `q` is the reciprocal of the row's length. -/
def rstd (q : ℝ) (x : Fin n → EReal) : EReal := Ideal.rsqrt ((∑ l, x l * x l) * (q : EReal) + (eps : EReal))

/-- The gradient at the norm's input, as the kernels write it, for the gradient `e` at the normed row. -/
def back (q : ℝ) (x e : Fin n → EReal) (l : Fin n) : EReal :=
  rstd q x * (e l - x l * rstd q x * ((∑ k, e k * (x k * rstd q x)) * (q : EReal)))

/-- The norm's result: a row times its factor times the gain. -/
def normed (q : ℝ) (x g : Fin n → EReal) (l : Fin n) : EReal := x l * rstd q x * g l

/-- The factor of the row in the derivative: the part of the gradient that comes from the mean square. -/
def msPart (q : ℝ) (x e : Fin n → EReal) : EReal :=
  (∑ k, x k * e k) * (((-(1 / 2) : ℝ) : EReal) * Ideal.div (rstd q x) ((∑ l, x l * x l) * (q : EReal) + (eps : EReal))) * (q : EReal)

theorem arg_pos {q : ℝ} (hq : 0 ≤ q) (x : Fin n → ℝ) : 0 < (∑ l, x l * x l) * q + eps :=
  add_pos_of_nonneg_of_pos (mul_nonneg (Finset.sum_nonneg fun _ _ => mul_self_nonneg _) hq) eps_pos

theorem arg_coe {q : ℝ} (x : Fin n → ℝ) :
    (∑ l, (x l : EReal) * (x l : EReal)) * (q : EReal) + (eps : EReal) = (((∑ l, x l * x l) * q + eps : ℝ) : EReal) := by
  simp only [← EReal.coe_mul, coe_sum, ← EReal.coe_add]

theorem rstd_coe {q : ℝ} (hq : 0 ≤ q) (x : Fin n → ℝ) :
    rstd q (fun l => (x l : EReal)) = (((Real.sqrt ((∑ l, x l * x l) * q + eps))⁻¹ : ℝ) : EReal) := by
  have h := arg_pos hq x
  rw [rstd, arg_coe, Ideal.rsqrt_coe, if_neg (not_lt.mpr h.le), if_neg h.ne']

theorem rstd_real {q : ℝ} (hq : 0 ≤ q) {x : Fin n → EReal} (hx : ∀ l, IsReal (x l)) : IsReal (rstd q x) := by
  obtain ⟨x, rfl⟩ := exists_real hx
  rw [rstd_coe hq]
  exact IsReal.coe _

theorem normed_real {q : ℝ} (hq : 0 ≤ q) {x g : Fin n → EReal} (hx : ∀ l, IsReal (x l)) (hg : ∀ l, IsReal (g l)) (l : Fin n) :
    IsReal (normed q x g l) := ((hx l).mul (rstd_real hq hx)).mul (hg l)

/-- The derivative of the norm is the kernels' gradient: for real rows. -/
theorem back_eq {q : ℝ} (hq : 0 ≤ q) {x e : Fin n → EReal} (hx : ∀ l, IsReal (x l)) (he : ∀ l, IsReal (e l)) (l : Fin n) :
    e l * rstd q x + x l * msPart q x e + msPart q x e * x l = back q x e l := by
  obtain ⟨x, rfl⟩ := exists_real hx
  obtain ⟨e, rfl⟩ := exists_real he
  have h := arg_pos hq x
  unfold msPart back
  rw [rstd_coe hq, arg_coe, Ideal.div_coe h.ne']
  simp only [← EReal.coe_mul, coe_sum, ← EReal.coe_add, ← EReal.coe_sub]
  refine congrArg _ ?_
  have hs : (Real.sqrt ((∑ l, x l * x l) * q + eps))⁻¹ * (Real.sqrt ((∑ l, x l * x l) * q + eps))⁻¹ = 1 / ((∑ l, x l * x l) * q + eps) := by
    rw [← mul_inv, Real.mul_self_sqrt h.le, one_div]
  rw [← hs]
  clear hs
  generalize (Real.sqrt ((∑ l, x l * x l) * q + eps))⁻¹ = r
  have hc : ∑ k, e k * (x k * r) = (∑ k, x k * e k) * r := by
    rw [Finset.sum_mul]
    exact Finset.sum_congr rfl fun _ _ => by ring
  rw [hc]
  ring

end Cert.Norm

end
-- ==== Proof.UpValue.lean ====
/-
  The two results of the call that ends the feed-forward block's gradient, over the extended reals.
-/
module

public import proofs.«01_k».proof.Proof.UpBlock
public import proofs.«01_k».proof.Proof.Norm
public import proofs.«01_k».proof.Proof.Gen.UpRefIdeal.Read

@[expose] public section

set_option maxRecDepth 16384

noncomputable section

namespace Cert.UpIdeal.Result

open Cert.UpIdeal Cert.UpIdeal.Gen Cert.Rows Cert.Norm Idealize.ShloMosaic Idealize.ShloMosaic.TcCoe Idealize.SL.Sem
open Idealize.ShloMosaic.Pointwise
open Idealize.ShloMosaic.Pipeline (Dat)

/-- An element of a tile's product with the weight's transpose. -/
theorem pay_dot (a : Vec Ideal S512x4096 .bf16) (w : Vec Ideal S1024x4096 .bf16) (j : Fin 512) (l : Fin 1024) :
    k0_pay2 (F := Ideal) a w (ix2 j l) = ∑ k : Fin 4096, a (ix2 j k) * w (ix2 l k) := by
  pointwise [k0_pay2]

theorem pay_rstd (x : Vec Ideal S512x1024 .f32) (j : Fin 512) (z : Fin 1) :
    k0_pay3 (F := Ideal) x (ix2 j z) = rstd (1 / 1024) fun l : Fin 1024 => x (ix2 j l) := by
  pointwise [k0_pay3, ofBits_inv1024, ofBits_eps, rstd]

theorem pay_normed (x : Vec Ideal S512x1024 .f32) (j : Fin 512) (l : Fin 1024) :
    k0_pay4 (F := Ideal) x (ix2 j l) = x (ix2 j l) * rstd (1 / 1024) fun l : Fin 1024 => x (ix2 j l) := by
  pointwise [k0_pay4, pay_rstd]

theorem pay_back (a : Vec Ideal S512x4096 .bf16) (w : Vec Ideal S1024x4096 .bf16) (x : Vec Ideal S512x1024 .f32) (g : Vec Ideal S1x1024 .f32)
    (j : Fin 512) (l : Fin 1024) : k0_pay5 (F := Ideal) a w x g (ix2 j l)
      = back (1 / 1024) (fun l => x (ix2 j l)) (fun l => (∑ k : Fin 4096, a (ix2 j k) * w (ix2 l k)) * g (ix2 0 l)) l := by
  pointwise [k0_pay5, pay_dot, pay_normed, pay_rstd, ofBits_inv1024, back]

theorem pay_sum (v x : Vec Ideal S512x1024 .f32) (j : Fin 512) (l : Fin 1024) :
    k0_pay1 (F := Ideal) v x (ix2 j l) = x (ix2 j l) + v (ix2 j l) := by
  pointwise [k0_pay1]

theorem pay_zero (z : Fin 1) (l : Fin 1024) : k0_pay6 (F := Ideal) (ix2 z l) = 0 := by
  pointwise [k0_pay6]

theorem pay_gain (a : Vec Ideal S512x4096 .bf16) (w : Vec Ideal S1024x4096 .bf16) (x : Vec Ideal S512x1024 .f32) (o : Vec Ideal S1x1024 .f32)
    (z : Fin 1) (l : Fin 1024) : k0_pay7 (F := Ideal) a w x o (ix2 z l)
      = o (ix2 z l) + ∑ j : Fin 512, (∑ k : Fin 4096, a (ix2 j k) * w (ix2 l k)) * (x (ix2 j l) * rstd (1 / 1024) fun l : Fin 1024 => x (ix2 j l)) := by
  pointwise [k0_pay7, pay_dot, pay_normed]

/-- The gradient at the normed rows: the product of the cotangent with the weight's transpose. -/
def dn (w : Vec Ideal S1024x4096 .f32) (dh : Vec Ideal S8192x4096 .f32) (r : Fin 8192) (l : Fin 1024) : EReal :=
  ∑ k : Fin 4096, dh (ix2 r k) * w (ix2 l k)

/-- The gradient of the block's input: the residual's part and the norm's. -/
def dx (x : Vec Ideal S8192x1024 .f32) (g : Vec Ideal S1024 .f32) (w : Vec Ideal S1024x4096 .f32) (dh : Vec Ideal S8192x4096 .f32)
    (dx2 : Vec Ideal S8192x1024 .f32) (r : Fin 8192) (l : Fin 1024) : EReal :=
  dx2 (ix2 r l) + back (1 / 1024) (fun l => x (ix2 r l)) (fun l => dn w dh r l * g (ix1 l)) l

/-- The gain's gradient: a sum over all rows. -/
def dg (x : Vec Ideal S8192x1024 .f32) (w : Vec Ideal S1024x4096 .f32) (dh : Vec Ideal S8192x4096 .f32) (l : Fin 1024) : EReal :=
  ∑ r : Fin 8192, dn w dh r l * (x (ix2 r l) * rstd (1 / 1024) fun l : Fin 1024 => x (ix2 r l))

section

variable (m : (ℓ : Loc nD τ sig) → Buf (Elt Ideal) ℓ)

/-- The program's arguments. -/
abbrev X (c : Dev nD) : Vec Ideal S8192x1024 .f32 := m ((c : Thread nD τ).loc main_arg0)
abbrev G (c : Dev nD) : Vec Ideal S1024 .f32 := m ((c : Thread nD τ).loc main_arg1)
abbrev W (c : Dev nD) : Vec Ideal S1024x4096 .f32 := m ((c : Thread nD τ).loc main_arg2)
abbrev DH (c : Dev nD) : Vec Ideal S8192x4096 .f32 := m ((c : Thread nD τ).loc main_arg3)
abbrev DX2 (c : Dev nD) : Vec Ideal S8192x1024 .f32 := m ((c : Thread nD τ).loc main_arg4)

/-- What the call's windows hold at a point, from the program's arguments. -/
theorem blk_dh (c : Dev nD) (t : Fin cfg0.N) (j : Fin 512) (k : Fin 4096) :
    (iblk m c 0 t : Vec Ideal S512x4096 .bf16) (ix2 j k) = DH m c (ix2 (row t j) k) := by
  rw [iblk0, V_dh]; rfl

theorem blk_w (c : Dev nD) (t : Fin cfg0.N) (l : Fin 1024) (k : Fin 4096) :
    (iblk m c 1 t : Vec Ideal S1024x4096 .bf16) (ix2 l k) = W m c (ix2 l k) := by
  rw [iblk1, V_w]; rfl

theorem blk_x (c : Dev nD) (t : Fin cfg0.N) (j : Fin 512) (l : Fin 1024) :
    (iblk m c 2 t : Vec Ideal S512x1024 .f32) (ix2 j l) = X m c (ix2 (row t j) l) := by
  rw [iblk2, V_main_arg0]

theorem blk_g (c : Dev nD) (t : Fin cfg0.N) (l : Fin 1024) :
    (iblk m c 3 t : Vec Ideal S1x1024 .f32) (ix2 0 l) = G m c (ix1 l) := by
  rw [iblk3, V_g]
  pointwise []

theorem blk_dx2 (c : Dev nD) (t : Fin cfg0.N) (j : Fin 512) (l : Fin 1024) :
    (iblk m c 4 t : Vec Ideal S512x1024 .f32) (ix2 j l) = DX2 m c (ix2 (row t j) l) := by
  rw [iblk4, V_main_arg4]

/-- The first result's array. -/
theorem result_dx (c : Dev nD) (r : Fin 8192) (l : Fin 1024) :
    ((dats m 0 c).arrAt 5 cfg0.N : Vec Ideal S8192x1024 .f32) (ix2 r l) = dx (X m c) (G m c) (W m c) (DH m c) (DX2 m c) r l := by
  have ht : (r : ℕ) / 512 < cfg0.N := by rw [show cfg0.N = 16 from N_0]; have := r.isLt; omega
  have h := final_dx m c ⟨r / 512, ht⟩ (place r) l
  rw [pay_sum, pay_back] at h
  simp only [blk_dh, blk_w, blk_x, blk_g, blk_dx2, row_place] at h
  exact h

/-- The gain's gradient after point `n`: the sum over the rows so far. -/
theorem outs_dg (c : Dev nD) (z : Fin 1) (l : Fin 1024) : ∀ (n : ℕ) (h : n < cfg0.N),
    ((outsAt0 m c n h).2 : Vec Ideal S1x1024 .f32) (ix2 z l) = ∑ t ∈ Finset.range (n + 1), ∑ j : Fin 512,
      dn (W m c) (DH m c) (row t j) l * (X m c (ix2 (row t j) l) * rstd (1 / 1024) fun l : Fin 1024 => X m c (ix2 (row t j) l))
  | 0, h => by
    rw [outs_dg_zero, pay_gain, pay_zero, zero_add, Finset.sum_range_one]
    simp only [blk_dh, blk_w, blk_x]
    rfl
  | n + 1, h => by
    rw [outs_dg_succ, pay_gain, Finset.sum_range_succ]
    simp only [blk_dh, blk_w, blk_x]
    exact congrArg (· + _) (outs_dg c z l n _)

/-- The second result's array. -/
theorem result_dg (c : Dev nD) (z : Fin 1) (l : Fin 1024) :
    ((dats m 0 c).arrAt 6 cfg0.N : Vec Ideal S1x1024 .f32) (ix2 z l) = dg (X m c) (W m c) (DH m c) l := by
  rw [final_dg, outs_dg m c z l 15]
  exact sum_rows fun r => dn (W m c) (DH m c) r l * (X m c (ix2 r l) * rstd (1 / 1024) fun l : Fin 1024 => X m c (ix2 r l))

end

end Cert.UpIdeal.Result

namespace Cert.UpRefIdeal.Result

open Cert.UpRefIdeal Cert.UpRefIdeal.Read Cert.Rows Cert.Norm Idealize.ShloMosaic Idealize.ShloMosaic.TcCoe
open Idealize.ShloMosaic.Pointwise Idealize.ShloMosaic.StableHlo
open Cert.UpIdeal.Result (dn dx dg)

/-- The reference's norm factor of a row. -/
theorem ref_rstd (x : Vec Ideal S8192x1024 .f32) (r : Fin 8192) (z : Fin 1) :
    val_main_v7 (F := Ideal) x (ix2 r z) = rstd (1 / 1024) fun l : Fin 1024 => x (ix2 r l) := by
  pointwise [val_main_v7, val_main_v6, val_main_v5, val_main_v4, val_main_v3, val_main_v2, val_main_v1, val_main_v0,
    val_main_cst, val_main_cst_0, val_main_cst_1, ofBits_1024, ofBits_eps, div_1024, rstd]

/-- The reference's gradient at the normed rows. -/
theorem ref_dn (w : Vec Ideal S1024x4096 .f32) (dh : Vec Ideal S8192x4096 .f32) (r : Fin 8192) (l : Fin 1024) :
    val_main_v17 (F := Ideal) w dh (ix2 r l) = dn w dh r l := by
  pointwise [val_main_v17, dn]

/-- The factor of a row that comes from the mean square. -/
theorem ref_slope (x : Vec Ideal S8192x1024 .f32) (g : Vec Ideal S1024 .f32) (w : Vec Ideal S1024x4096 .f32) (dh : Vec Ideal S8192x4096 .f32)
    (r : Fin 8192) (l : Fin 1024) : val_main_v34 (F := Ideal) x g w dh (ix2 r l)
      = msPart (1 / 1024) (fun l : Fin 1024 => x (ix2 r l)) (fun l => dn w dh r l * g (ix1 l)) := by
  pointwise [val_main_v34, val_main_v33, val_main_v32, val_main_v31, val_main_v30, val_main_v26, val_main_v25, val_main_v24, val_main_v22,
    val_main_v21, val_main_v13, val_main_v10, val_main_v9, val_main_v8, val_main_cst_7, val_main_cst_6, val_main_cst_5, val_main_cst_2,
    ref_rstd, ref_dn, val_main_v6, val_main_v5, val_main_v4, val_main_v3, val_main_v2, val_main_v1, val_main_v0,
    val_main_cst, val_main_cst_0, val_main_cst_1, ofBits_1024, ofBits_eps, ofBits_neg_half, div_1024, msPart, Fin.sum_univ_one]

/-- The reference's first result. -/
theorem ref_dx {x : Vec Ideal S8192x1024 .f32} {g : Vec Ideal S1024 .f32} {w : Vec Ideal S1024x4096 .f32} {dh : Vec Ideal S8192x4096 .f32}
    (dx2 : Vec Ideal S8192x1024 .f32) (hx : ∀ i, IsReal (x i)) (hg : ∀ i, IsReal (g i)) (hw : ∀ i, IsReal (w i)) (hd : ∀ i, IsReal (dh i))
    (r : Fin 8192) (l : Fin 1024) : val_main_v38 (F := Ideal) x g w dh dx2 (ix2 r l) = dx x g w dh dx2 r l := by
  have h : val_main_v38 (F := Ideal) x g w dh dx2 (ix2 r l) = dx2 (ix2 r l)
      + dn w dh r l * g (ix1 l) * (rstd (1 / 1024) fun l : Fin 1024 => x (ix2 r l))
      + x (ix2 r l) * val_main_v34 (F := Ideal) x g w dh (ix2 r l) + val_main_v34 (F := Ideal) x g w dh (ix2 r l) * x (ix2 r l) := by
    pointwise [val_main_v38, val_main_v37, val_main_v36, val_main_v35, val_main_v29, val_main_v28, val_main_v27, val_main_v22, val_main_v21,
      val_main_v13, ref_rstd, ref_dn]
  rw [h, ref_slope, add_assoc, add_assoc, ← add_assoc (_ * _ * _)]
  exact congrArg _ (back_eq (by norm_num) (fun l => hx (ix2 r l))
    (fun l => (IsReal.sum _ fun k => (hd (ix2 r k)).mul (hw (ix2 l k))).mul (hg (ix1 l))) l)

/-- The reference's second result. -/
theorem ref_dg (x : Vec Ideal S8192x1024 .f32) (w : Vec Ideal S1024x4096 .f32) (dh : Vec Ideal S8192x4096 .f32)
    (z : Fin 1) (l : Fin 1024) : val_main_v39 (F := Ideal) x w dh (ix2 z l) = dg x w dh l := by
  unfold dg
  simp only [mul_comm (dn w dh _ l)]
  pointwise [val_main_v39, val_main_v23, val_main_v20, val_main_v19, val_main_v18, val_main_v12, val_main_v11, val_main_cst_4, val_main_cst_3,
    ref_rstd, ref_dn, Fin.sum_univ_one]

end Cert.UpRefIdeal.Result

end
-- ==== Proof.UpClaim.lean ====
/-
  The claims of the call that ends the feed-forward block's gradient: the frames, and the equation with the reference.
-/
module

public import proofs.«01_k».proof.Defs
public import proofs.«01_k».proof.Proof.UpValue
public import proofs.«01_k».proof.Proof.Gen.Up.Frame
public import proofs.«01_k».proof.Proof.Gen.UpRefIdeal.Run
public import Idealize.ShloMosaic.Lib.Quiescent

@[expose] public section

noncomputable section

namespace Cert.Proof.Up

open Idealize.ShloMosaic Idealize.ShloMosaic.TcCoe Idealize.ShloMosaic.Pointwise Idealize.SL.Sem

/-- The shapes of the precondition's broadcasts fit. -/
theorem preFacts : Cert.Pre_up_finite.Facts where
  bcast_S_S8192x1024 := by decide
  bcast_S_S1024 := by decide
  bcast_S_S1024x4096 := by decide
  bcast_S_S8192x4096 := by decide

theorem frame : Cert.quiescent_Up (hUp := Cert.Up.Gen.facts) := fun m ρ _ => Cert.Up.Gen.frame m ρ

theorem frameIdeal : Cert.quiescent_UpIdeal (hUpIdeal := Cert.UpIdeal.Gen.facts) := fun m ρ _ => Cert.UpIdeal.Gen.frame m ρ

theorem frameIdealPre : Cert.quiescent_UpIdeal_pre_up_finite (hUpIdeal := Cert.UpIdeal.Gen.facts) (hPre_up_finite := preFacts) :=
  fun m ρ _ => Cert.UpIdeal.Gen.frame m ρ

/-- The reference is host operations alone: it has no semaphores. -/
theorem frameRef : Cert.quiescent_UpRefIdeal (hUpRefIdeal := Cert.UpRefIdeal.Gen.facts) := fun m ρ _ =>
  (θ_run Cert.UpRefIdeal.defs _ _).mono (fun r h => ⟨fun c => (h c).2.2, sem_eq_zero_of_no_sems (by decide) r.2⟩)
    (Cert.UpRefIdeal.Value.run m ρ)

theorem frameRefPre : Cert.quiescent_UpRefIdeal_pre_up_finite (hUpRefIdeal := Cert.UpRefIdeal.Gen.facts) (hPre_up_finite := preFacts) :=
  fun m ρ _ => frameRef m ρ trivial

/-- Over the extended reals the call's two gradients are the reference's, where the block's input, its gain, its weight and
    the cotangent of the product are real. -/
theorem value : Cert.algebraic_UpIdeal_UpRefIdeal_pre_up_finite (hUpIdeal := Cert.UpIdeal.Gen.facts)
    (hUpRefIdeal := Cert.UpRefIdeal.Gen.facts) (hPre_up_finite := preFacts) := fun m g m' g' hpre hag => by
  refine ⟨fun c => (Cert.UpIdeal.Gen.dats m 0 c).arrAt 5 Cert.UpIdeal.cfg0.N,
    fun c => (Cert.UpIdeal.Gen.dats m 0 c).arrAt 6 Cert.UpIdeal.cfg0.N, Cert.UpIdeal.Value.run_blocks m g, ?_⟩
  refine (θ_run Cert.UpRefIdeal.defs _ _).mono (fun r h c => ⟨(h c).1.trans ?_, (h c).2.1.trans ?_, (h c).2.2⟩)
    (Cert.UpRefIdeal.Value.run m' g')
  · obtain ⟨h0, h1, h2, h3⟩ := hpre c
    rw [Cert.UpRefIdeal.Read.val_main_v38_eq, (hag c).1, (hag c).2.1, (hag c).2.2.1, (hag c).2.2.2.1, (hag c).2.2.2.2]
    refine funext fun i => ?_
    rw [eq_ix2 i]
    exact (Cert.UpRefIdeal.Result.ref_dx _ (fun i => Cert.Norm.isReal_of_abs_lt (congrFun h0 i))
      (fun i => Cert.Norm.isReal_of_abs_lt (congrFun h1 i)) (fun i => Cert.Norm.isReal_of_abs_lt (congrFun h2 i))
      (fun i => Cert.Norm.isReal_of_abs_lt (congrFun h3 i)) _ _).trans (Cert.UpIdeal.Result.result_dx m c _ _).symm
  · rw [(hag c).1, (hag c).2.2.1, (hag c).2.2.2.1]
    refine (Cert.UpRefIdeal.Read.val_main_v39_eq (F := Ideal) _ _ _).trans (funext fun i => ?_)
    rw [eq_ix2 i]
    exact (Cert.UpRefIdeal.Result.ref_dg _ _ _ _ _).trans (Cert.UpIdeal.Result.result_dg m c _ _).symm

end Cert.Proof.Up

end
-- ==== Proof.Pack.lean ====
/-
  The order in which the combined projection's columns lie in the kernels' lanes, and sums over it.
-/
module

public import proofs.«01_k».proof.Proof.Rows

@[expose] public section

noncomputable section

namespace Cert.Pack

open Idealize.ShloMosaic

/-- The column in lane `p` of a part of rotated heads, whose columns start at `b` and whose quarter of a head's rotated columns is
    `q` columns wide: a head's 128 lanes are two halves of 64, of which the first `2 * q` are used; no column is 3488. -/
def rotCol (b q p : ℕ) : ℕ := if p % 64 < 2 * q then b + p / 128 * (4 * q) + p % 64 / q * (2 * q) + p / 64 % 2 * q + p % q else 3488

/-- The column in lane `p` of a part of plain heads: 64 of a head's 128 lanes are used. -/
def plainCol (b p : ℕ) : ℕ := if p % 128 < 64 then b + p / 128 * 64 + p % 128 else 3488

/-- The column in lane `p`. -/
def col (p : ℕ) : ℕ :=
  if p < 1024 then rotCol 0 16 p else if p < 1280 then rotCol 512 16 (p - 1024) else if p < 1536 then plainCol 640 (p - 1280)
  else if p < 2176 then p - 768 else rotCol 1408 8 (p - 2176)

/-- The lane of a column of a part of rotated heads that starts at lane `s` and at column `b`. -/
def rotLane (s b q j : ℕ) : ℕ := s + (j - b) / (4 * q) * 128 + (j - b) / q % 2 * 64 + (j - b) / (2 * q) % 2 * q + (j - b) % q

/-- The lane of column `j`. -/
def lane (j : ℕ) : ℕ :=
  if j < 512 then rotLane 0 0 16 j else if j < 640 then rotLane 1024 512 16 j
  else if j < 768 then 1280 + (j - 640) / 64 * 128 + (j - 640) % 64 else if j < 1408 then j + 768 else rotLane 2176 1408 8 j

theorem lane_lt : ∀ j : Fin 1440, lane j < 2304 := by decide +kernel
theorem col_lane : ∀ j : Fin 1440, col (lane j) = j := by decide +kernel
theorem lane_col : ∀ p : Fin 2304, col p < 3488 → col p < 1440 ∧ lane (col p) = p := by decide +kernel

/-- Element `k` of a row of 3488 columns, zero where there is none. -/
def pick {R : ℕ} (A : Vec Ideal ⟨2, ![R, 3488]⟩ .f32) (r : Fin R) (k : ℕ) : EReal := if h : k < 3488 then A (ix2 r ⟨k, h⟩) else 0

/-- Six parts side by side, each in its own columns, are the row in the order of the lanes. -/
theorem pick_parts {R : ℕ} (A : Vec Ideal ⟨2, ![R, 3488]⟩ .f32) (r : Fin R) (p : Fin 2304) {f₁ : Fin 1024 → EReal} {f₂ f₃ f₅ : Fin 256 → EReal}
    {f₄ : Fin 384 → EReal} {f₆ : Fin 128 → EReal} (h₁ : ∀ p, f₁ p = pick A r (rotCol 0 16 p)) (h₂ : ∀ p, f₂ p = pick A r (rotCol 512 16 p))
    (h₃ : ∀ p, f₃ p = pick A r (plainCol 640 p)) (h₄ : ∀ p, f₄ p = pick A r (768 + p)) (h₅ : ∀ p, f₅ p = pick A r (1152 + p))
    (h₆ : ∀ p, f₆ p = pick A r (rotCol 1408 8 p)) :
    (if h : (p : ℕ) < 1024 then f₁ ⟨p, h⟩ else if h : (p : ℕ) - 1024 < 256 then f₂ ⟨p - 1024, h⟩
      else if h : (p : ℕ) - 1024 - 256 < 256 then f₃ ⟨p - 1024 - 256, h⟩
      else if h : (p : ℕ) - 1024 - 256 - 256 < 384 then f₄ ⟨p - 1024 - 256 - 256, h⟩
      else if h : (p : ℕ) - 1024 - 256 - 256 - 384 < 256 then f₅ ⟨p - 1024 - 256 - 256 - 384, h⟩
      else f₆ ⟨p - 1024 - 256 - 256 - 384 - 256, by omega⟩) = pick A r (col p) := by
  have hp := p.isLt
  unfold col
  by_cases c₁ : (p : ℕ) < 1024
  · rw [dif_pos c₁, if_pos c₁, h₁]
  rw [dif_neg c₁, if_neg c₁]
  by_cases c₂ : (p : ℕ) - 1024 < 256
  · rw [dif_pos c₂, if_pos (by omega), h₂]
  rw [dif_neg c₂, if_neg (by omega)]
  by_cases c₃ : (p : ℕ) - 1024 - 256 < 256
  · rw [dif_pos c₃, if_pos (by omega), h₃]
    exact congrArg (fun k => pick A r (plainCol 640 k)) (show (p : ℕ) - 1024 - 256 = p - 1280 by omega)
  rw [dif_neg c₃, if_neg (by omega)]
  by_cases c₄ : (p : ℕ) - 1024 - 256 - 256 < 384
  · rw [dif_pos c₄, if_pos (by omega), h₄]
    exact congrArg (pick A r) (show 768 + ((p : ℕ) - 1024 - 256 - 256) = p - 768 by omega)
  rw [dif_neg c₄]
  by_cases c₅ : (p : ℕ) - 1024 - 256 - 256 - 384 < 256
  · rw [dif_pos c₅, if_pos (by omega), h₅]
    exact congrArg (pick A r) (show 1152 + ((p : ℕ) - 1024 - 256 - 256 - 384) = p - 768 by omega)
  rw [dif_neg c₅, if_neg (by omega), h₆]
  exact congrArg (fun k => pick A r (rotCol 1408 8 k)) (show (p : ℕ) - 1024 - 256 - 256 - 384 - 256 = p - 2176 by omega)

/-- A row's product over the lanes and over the gates is the product over the columns. -/
theorem sum_lanes {R S : ℕ} (A : Vec Ideal ⟨2, ![R, 3488]⟩ .f32) (B : Vec Ideal ⟨2, ![S, 3488]⟩ .f32) (r : Fin R) (s : Fin S) :
    ∑ p : Fin 2304, pick A r (col p) * pick B s (col p)
        + ∑ k : Fin 2048, A (ix2 r ⟨1440 + k, by omega⟩) * B (ix2 s ⟨1440 + k, by omega⟩)
      = ∑ j : Fin 3488, A (ix2 r j) * B (ix2 s j) := by
  refine Eq.trans ?_ (Fin.sum_univ_add (a := 1440) (b := 2048) fun j => A (ix2 r j) * B (ix2 s j)).symm
  refine congrArg₂ _ (Fintype.sum_of_injective (fun j : Fin 1440 => (⟨lane j, lane_lt j⟩ : Fin 2304)) (fun i j h => ?_) _ _ (fun p hp => ?_)
    fun j => ?_).symm rfl
  · have h' : lane i = lane j := congrArg Fin.val h
    exact Fin.ext (by rw [← col_lane i, ← col_lane j, h'])
  · have hn : ¬ col p < 3488 := fun h => hp ⟨⟨col p, (lane_col p h).1⟩, Fin.ext (lane_col p h).2⟩
    simp only [pick, hn, dite_false, zero_mul]
  · have h : (j : ℕ) < 3488 := by omega
    simp only [pick, col_lane, h, dite_true]
    rfl

end Cert.Pack

end
-- ==== Proof.Host.lean ====
/-
  Reading a line of host operations: what an operation leaves, from what the line leaves in its operands.
-/
module

public import Idealize.ShloMosaic.Lib.StableHlo.RunRead

@[expose] public section

noncomputable section

namespace Cert.Host

open Idealize.ShloMosaic Idealize.ShloMosaic.StableHlo Idealize.SL.Sem

variable {τ : Topo} {sig : RefSig} {Val : EltTy → Type}

/-- A line in two parts: the second from what the first left. -/
theorem after_parts : ∀ (a b : List (HloOp τ sig Val)) (V), after (a ++ b) V = after b (after a V)
  | [], _, _ => rfl
  | _ :: a, b, V => after_parts a b _

theorem after_drop {ops : List (HloOp τ sig Val)} (i : ℕ) {op : HloOp τ sig Val} {rest : List (HloOp τ sig Val)}
    (hseg : ops.drop i = op :: rest) (V : Valuation τ sig Val) : after ops V = after rest (op.result (after (ops.take i) V)) := by
  conv_lhs => rw [← List.take_append_drop i ops, after_parts, hseg]
  rfl

/-- After a line whose operation at place `i` writes `y` from the family `xs`, and which writes none of these later,
    `y` holds that operation's function of what the family holds. -/
theorem after_nary {n : ℕ} {xs : Fin n → Ref sig .tc} {y : Ref sig .tc}
    {f : ((k : Fin n) → (xs k).ty.Contents Val) → y.ty.Contents Val} {hxs hy} {ops : List (HloOp τ sig Val)} (i : ℕ)
    {rest : List (HloOp τ sig Val)} (hseg : ops.drop i = nary (τ := τ) xs y f hxs hy :: rest)
    (hr : ∀ op ∈ rest, Proc.devRef (τ := τ) .tc y ∉ op.writes)
    (hx : ∀ k, xs k ≠ y) (hxr : ∀ k, ∀ op ∈ rest, Proc.devRef (τ := τ) .tc (xs k) ∉ op.writes)
    (V : Valuation τ sig Val) :
    after ops V (Proc.devRef .tc y) = f fun k => after ops V (Proc.devRef .tc (xs k)) := by
  simp only [after_drop i hseg]
  rw [after_of_forall_not_mem _ _ hr, nary_result]
  refine congrArg f (funext fun k => ?_)
  rw [after_of_forall_not_mem _ _ (hxr k)]
  exact (nary_result_ne y xs f hxs hy _ (hx k)).symm

/-- The same of an operation of one operand. -/
theorem after_unary {x y : Ref sig .tc} {f : x.ty.Contents Val → y.ty.Contents Val} {hx hy} {ops : List (HloOp τ sig Val)} (i : ℕ)
    {rest : List (HloOp τ sig Val)} (hseg : ops.drop i = unary (τ := τ) x y f hx hy :: rest)
    (hr : ∀ op ∈ rest, Proc.devRef (τ := τ) .tc y ∉ op.writes)
    (hne : x ≠ y) (hxr : ∀ op ∈ rest, Proc.devRef (τ := τ) .tc x ∉ op.writes) (V : Valuation τ sig Val) :
    after ops V (Proc.devRef .tc y) = f (after ops V (Proc.devRef .tc x)) := by
  simp only [after_drop i hseg]
  rw [after_of_forall_not_mem _ _ hr, unary_result]
  rw [after_of_forall_not_mem _ _ hxr]
  exact congrArg f (unary_result_ne x y f hx hy _ hne).symm

end Cert.Host

end
-- ==== Proof.InprojBlock.lean ====
/-
  The call that ends the layer's gradient, read: what each tile of rows leaves in the two results, and the arrays that it reads.
-/
module

public import proofs.«01_k».proof.Proof.Pack
public import proofs.«01_k».proof.Proof.Host
public import proofs.«01_k».proof.Proof.Gen.InprojIdeal.Value
public import Idealize.ShloMosaic.Lib.Tactic

@[expose] public section

set_option maxRecDepth 16384

noncomputable section

namespace Cert.InprojIdeal.Result

open Cert.InprojIdeal Cert.InprojIdeal.Gen Cert.Rows Idealize.ShloMosaic Idealize.ShloMosaic.TcCoe Idealize.SL.Sem
open Idealize.ShloMosaic.Pointwise
open Idealize.ShloMosaic.Pipeline (Dat)

variable {F : FTy → Type} [FloatOps F]
variable (m : (ℓ : Loc nD τ sig) → Buf (Elt F) ℓ)

/-- After any point the first result's block is that point's tile's gradient plus the residual's. -/
theorem outs_dx (c : Dev nD) (t : Fin cfg0.N) : (outsAt0 m c t.val t.isLt).1
    = k0_pay3 (k0_pay8 (iblk m c 0 t) (iblk m c 2 t) (iblk m c 1 t) (iblk m c 3 t) (iblk m c 4 t) (iblk m c 5 t)) (iblk m c 6 t) := by
  by_cases h : t.val % 16 = 0
  · rw [outsAt0_A m c t h]
    dsimp only
    unfold out0_A_7
    rw [View.read_writes_eq_canon _ _ _ (fun _ => cover0_A_7 ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, ld_all]
  · rw [outsAt0_B m c t h]
    dsimp only
    unfold out0_B_7
    rw [View.read_writes_eq_canon _ _ _ (fun _ => cover0_B_7 ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, ld_all]

/-- After the first point the gain's gradient is the first tile's part over zeros, -/
theorem outs_dg_zero (c : Dev nD) (h : 0 < cfg0.N) : (outsAt0 m c 0 h).2
    = k0_pay2 (k0_pay7 (iblk m c 0 ⟨0, h⟩) (iblk m c 2 ⟨0, h⟩) (iblk m c 1 ⟨0, h⟩) (iblk m c 3 ⟨0, h⟩) (iblk m c 4 ⟨0, h⟩)) k0_pay1 := by
  refine (congrArg Prod.snd (outsAt0_A m c ⟨0, h⟩ (Nat.zero_mod _))).trans ?_
  dsimp only
  unfold out0_A_8
  rw [View.read_writes_eq_canon _ _ _ (fun _ => cover0_A_8 ..)]
  unfold kernelRun0_A
  dsimp only
  sl_unfold_words
  rw [View.canon_cons_unit_zero hz, View.readCov_unit_zero _ hz]
  simp only [View.readAt_eq_ld, (hs0_0 _).read_unread, (hs0_1 _).read_unread, (hs0_2 _).read_unread, (hs0_3 _).read_unread, (hs0_4 _).read_unread, ld_all]

/-- and after a later point that tile's part over what was there. -/
theorem outs_dg_succ (c : Dev nD) (n : ℕ) (h : n + 1 < cfg0.N) : (outsAt0 m c (n + 1) h).2
    = k0_pay2 (k0_pay7 (iblk m c 0 ⟨n + 1, h⟩) (iblk m c 2 ⟨n + 1, h⟩) (iblk m c 1 ⟨n + 1, h⟩) (iblk m c 3 ⟨n + 1, h⟩) (iblk m c 4 ⟨n + 1, h⟩))
        (outsAt0 m c n (Nat.lt_of_succ_lt h)).2 := by
  have hN : cfg0.N = 16 := N_0
  have hB : ¬(⟨n + 1, h⟩ : Fin cfg0.N).val % 16 = 0 := by dsimp only; omega
  refine (congrArg Prod.snd (outsAt0_B m c ⟨n + 1, h⟩ hB)).trans ?_
  dsimp only
  unfold out0_B_8
  rw [View.read_writes_eq_canon _ _ _ (fun _ => cover0_B_8 ..)]
  unfold kernelRun0_B
  dsimp only
  sl_unfold_words
  rw [View.canon_unit_zero hz]
  simp only [View.readAt_eq_ld, (hs0_0 _).read_unread, (hs0_1 _).read_unread, (hs0_2 _).read_unread, (hs0_3 _).read_unread, (hs0_4 _).read_unread, (hs0_8 _).read_unread, ld_all]
  rfl

/-- The index maps in closed form: the row windows move by one tile a point, the others stay. -/
theorem idx : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ (win0_8.index t 0 = 0 ∧ win0_8.index t 1 = 0) := by decide +kernel

/-- A tile of a row window is its rows; the other windows hold their whole arrays. -/
theorem iblk0 (c : Dev nD) (t : Fin cfg0.N) (j : Fin 512) (k : Fin 2304) :
    (iblk m c 0 t : Vec F S512x2304 .bf16) (ix2 j k) = (V m c main_v52 : Vec F S8192x2304 .bf16) (ix2 (row t j) k) := by
  unfold iblk
  rw [View.read_apply]
  refine congrArg (V m c main_v52 : Vec F S8192x2304 .bf16) (funext fun a => Fin.ext ?_)
  match a with
  | ⟨0, _⟩ => show win0_0.index t 0 * 512 + 1 * j.val = (row t j).val; rw [(idx t).1.1, row_val (lt_of_lt_of_eq t.isLt N_0)]; omega
  | ⟨1, _⟩ => show win0_0.index t 1 * 2304 + 1 * k.val = k.val; rw [(idx t).1.2]; omega

theorem iblk1 (c : Dev nD) (t : Fin cfg0.N) (j : Fin 512) (k : Fin 2048) :
    (iblk m c 1 t : Vec F S512x2048 .bf16) (ix2 j k) = (V m c main_v53 : Vec F S8192x2048 .bf16) (ix2 (row t j) k) := by
  unfold iblk
  rw [View.read_apply]
  refine congrArg (V m c main_v53 : Vec F S8192x2048 .bf16) (funext fun a => Fin.ext ?_)
  match a with
  | ⟨0, _⟩ => show win0_1.index t 0 * 512 + 1 * j.val = (row t j).val; rw [(idx t).2.1.1, row_val (lt_of_lt_of_eq t.isLt N_0)]; omega
  | ⟨1, _⟩ => show win0_1.index t 1 * 2048 + 1 * k.val = k.val; rw [(idx t).2.1.2]; omega

theorem iblk2 (c : Dev nD) (t : Fin cfg0.N) (j : Fin 1024) (k : Fin 2304) :
    (iblk m c 2 t : Vec F S1024x2304 .bf16) (ix2 j k) = (V m c main_v54 : Vec F S1024x2304 .bf16) (ix2 j k) := by
  unfold iblk
  rw [View.read_apply]
  refine congrArg (V m c main_v54 : Vec F S1024x2304 .bf16) (funext fun a => Fin.ext ?_)
  match a with
  | ⟨0, _⟩ => show win0_2.index t 0 * 1024 + 1 * j.val = j.val; rw [(idx t).2.2.1.1]; omega
  | ⟨1, _⟩ => show win0_2.index t 1 * 2304 + 1 * k.val = k.val; rw [(idx t).2.2.1.2]; omega

theorem iblk3 (c : Dev nD) (t : Fin cfg0.N) (j : Fin 1024) (k : Fin 2048) :
    (iblk m c 3 t : Vec F S1024x2048 .bf16) (ix2 j k) = (V m c main_v55 : Vec F S1024x2048 .bf16) (ix2 j k) := by
  unfold iblk
  rw [View.read_apply]
  refine congrArg (V m c main_v55 : Vec F S1024x2048 .bf16) (funext fun a => Fin.ext ?_)
  match a with
  | ⟨0, _⟩ => show win0_3.index t 0 * 1024 + 1 * j.val = j.val; rw [(idx t).2.2.2.1.1]; omega
  | ⟨1, _⟩ => show win0_3.index t 1 * 2048 + 1 * k.val = k.val; rw [(idx t).2.2.2.1.2]; omega

theorem iblk4 (c : Dev nD) (t : Fin cfg0.N) (j : Fin 512) (k : Fin 1024) :
    (iblk m c 4 t : Vec F S512x1024 .f32) (ix2 j k) = (V m c main_arg0 : Vec F S8192x1024 .f32) (ix2 (row t j) k) := by
  unfold iblk
  rw [View.read_apply]
  refine congrArg (V m c main_arg0 : Vec F S8192x1024 .f32) (funext fun a => Fin.ext ?_)
  match a with
  | ⟨0, _⟩ => show win0_4.index t 0 * 512 + 1 * j.val = (row t j).val; rw [(idx t).2.2.2.2.1.1, row_val (lt_of_lt_of_eq t.isLt N_0)]; omega
  | ⟨1, _⟩ => show win0_4.index t 1 * 1024 + 1 * k.val = k.val; rw [(idx t).2.2.2.2.1.2]; omega

theorem iblk5 (c : Dev nD) (t : Fin cfg0.N) (j : Fin 1) (k : Fin 1024) :
    (iblk m c 5 t : Vec F S1x1024 .f32) (ix2 j k) = (V m c main_v56 : Vec F S1x1024 .f32) (ix2 j k) := by
  unfold iblk
  rw [View.read_apply]
  refine congrArg (V m c main_v56 : Vec F S1x1024 .f32) (funext fun a => Fin.ext ?_)
  match a with
  | ⟨0, _⟩ => show win0_5.index t 0 * 1 + 1 * j.val = j.val; rw [(idx t).2.2.2.2.2.1.1]; omega
  | ⟨1, _⟩ => show win0_5.index t 1 * 1024 + 1 * k.val = k.val; rw [(idx t).2.2.2.2.2.1.2]; omega

theorem iblk6 (c : Dev nD) (t : Fin cfg0.N) (j : Fin 512) (k : Fin 1024) :
    (iblk m c 6 t : Vec F S512x1024 .f32) (ix2 j k) = (V m c main_arg4 : Vec F S8192x1024 .f32) (ix2 (row t j) k) := by
  unfold iblk
  rw [View.read_apply]
  refine congrArg (V m c main_arg4 : Vec F S8192x1024 .f32) (funext fun a => Fin.ext ?_)
  match a with
  | ⟨0, _⟩ => show win0_6.index t 0 * 512 + 1 * j.val = (row t j).val; rw [(idx t).2.2.2.2.2.2.1.1, row_val (lt_of_lt_of_eq t.isLt N_0)]; omega
  | ⟨1, _⟩ => show win0_6.index t 1 * 1024 + 1 * k.val = k.val; rw [(idx t).2.2.2.2.2.2.1.2]; omega

/-- The first result's array after the run, row by row. -/
theorem final_dx (c : Dev nD) (t : Fin cfg0.N) (j : Fin 512) (l : Fin 1024) :
    ((dats m 0 c).arrAt 7 cfg0.N : Vec F S8192x1024 .f32) (ix2 (row t j) l)
      = k0_pay3 (k0_pay8 (iblk m c 0 t) (iblk m c 2 t) (iblk m c 1 t) (iblk m c 3 t) (iblk m c 4 t) (iblk m c 5 t)) (iblk m c 6 t) (ix2 j l) := by
  have h := (dats m 0 c).arrAt_emb_eq_flushed 7 Value.disjoint7 t (flush0_7 t) (ix2 j l)
  rw [Value.flushed7, outs_dx] at h
  refine Eq.trans (congrArg _ (funext fun a => Fin.ext ?_)) h
  match a with
  | ⟨0, _⟩ => show (row t j).val = win0_7.index t 0 * 512 + 1 * j.val; rw [(idx t).2.2.2.2.2.2.2.1.1, row_val (lt_of_lt_of_eq t.isLt N_0)]; omega
  | ⟨1, _⟩ => show l.val = win0_7.index t 1 * 1024 + 1 * l.val; rw [(idx t).2.2.2.2.2.2.2.1.2]; omega

/-- The last point, the only one that writes the gain's gradient back. -/
abbrev tl : Fin cfg0.N := ⟨15, by rw [show cfg0.N = 16 from N_0]; decide⟩

theorem disjoint_dg : ∀ t t' : Fin cfg0.N, (cfg0.win 8).flush t = true → (cfg0.win 8).flush t' = true → t ≠ t' →
    Disjoint ((cfg0.win 8).blk t).view.set ((cfg0.win 8).blk t').view.set := fun t t' h h' hne => by
  have hN : cfg0.N = 16 := N_0
  have h1 := (flush0_8 t).mp h
  have h2 := (flush0_8 t').mp h'
  exact absurd (Fin.ext (by omega)) hne

/-- The gain's gradient after the run is what the last point left. -/
theorem final_dg (c : Dev nD) (z : Fin 1) (l : Fin 1024) :
    ((dats m 0 c).arrAt 8 cfg0.N : Vec F S1x1024 .f32) (ix2 z l) = (outsAt0 m c tl.val tl.isLt).2 (ix2 z l) := by
  have h := (dats m 0 c).arrAt_emb_eq_flushed 8 disjoint_dg tl ((flush0_8 tl).mpr rfl) (ix2 z l)
  rw [Value.flushed8] at h
  refine Eq.trans (congrArg _ (funext fun a => Fin.ext ?_)) h
  match a with
  | ⟨0, _⟩ => show z.val = win0_8.index tl 0 * 1 + 1 * z.val; rw [(idx tl).2.2.2.2.2.2.2.2.1]; omega
  | ⟨1, _⟩ => show l.val = win0_8.index tl 1 * 1024 + 1 * l.val; rw [(idx tl).2.2.2.2.2.2.2.2.2]; omega

end Cert.InprojIdeal.Result

end
-- ==== Proof.InprojPack.lean ====
/-
  The packed weight and the packed cotangent of the combined projection, element by element.
-/
module

public import proofs.«01_k».proof.Proof.InprojBlock

@[expose] public section

set_option maxRecDepth 16384

noncomputable section

namespace Cert.InprojIdeal.Result

open Cert.InprojIdeal Cert.InprojIdeal.Gen Cert.Rows Cert.Pack Idealize.ShloMosaic Idealize.ShloMosaic.TcCoe Idealize.SL.Sem
open Idealize.ShloMosaic.Pointwise

variable (m : (ℓ : Loc nD τ sig) → Buf (Elt Ideal) ℓ)

/-- The weight and the cotangent, in the problem's own columns. -/
abbrev W (c : Dev nD) : Vec Ideal S1024x3488 .f32 := m ((c : Thread nD τ).loc main_arg2)
abbrev DZ (c : Dev nD) : Vec Ideal S8192x3488 .f32 := m ((c : Thread nD τ).loc main_arg3)

/-- The host's operations before the call, in order. -/
abbrev line : List (HloOp τ sig (Elt Ideal)) :=
  List.flatten [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16]

/-- A test on an element's column and the element of that column or zero, as `pick`. -/
theorem pick_of {R : ℕ} (A : Vec Ideal ⟨2, ![R, 3488]⟩ .f32) (r : Fin R) {P : Prop} [Decidable P] {k : ℕ} {a : P → ℕ} {z : EReal} (hz : z = 0)
    (ha : ∀ h, a h < 3488) (hk : ∀ h : P, a h = k) (hn : ¬P → k = 3488) :
    (if h : P then A (ix2 r ⟨a h, ha h⟩) else z) = pick A r k := by
  unfold pick
  by_cases h : P
  · rw [dif_pos h, dif_pos (by rw [← hk h]; exact ha h)]
    exact congrArg (fun k => A (ix2 r k)) (Fin.ext (hk h))
  · rw [dif_neg h, hz, dif_neg (by rw [hn h]; omega)]

theorem pick_val {R : ℕ} (A : Vec Ideal ⟨2, ![R, 3488]⟩ .f32) (r : Fin R) {a k : ℕ} (ha : a < 3488) (h : a = k) :
    A (ix2 r ⟨a, ha⟩) = pick A r k := by
  subst h
  rw [pick, dif_pos ha]

/-- The parts of the packed weight: the two parts of rotated heads and the plain heads, -/
theorem W_v5 (c : Dev nD) (r : Fin 1024) (p : Fin 1024) :
    (V m c main_v5 : Vec Ideal S1024x1024 .f32) (ix2 r p) = pick (W m c) r (rotCol 0 16 p) := by
  simp only [V, List.flatten_cons, List.flatten_nil, List.append_nil, List.cons_append, List.nil_append]
  after_reads_simp
  try simp only [StableHlo.TRef.toBuf, StableHlo.TRef.ofBuf, cast_eq, id_eq]
  pointwise []
  exact pick_of (W m c) r (by first | rfl | simp [Ideal.ofBits, Ideal.ieee] | exact sitofp_zero) _ (fun h => by unfold rotCol; rw [if_pos (by omega)]; omega) (fun h => by unfold rotCol; rw [if_neg (by omega)])

theorem W_v11 (c : Dev nD) (r : Fin 1024) (p : Fin 256) :
    (V m c main_v11 : Vec Ideal S1024x256 .f32) (ix2 r p) = pick (W m c) r (rotCol 512 16 p) := by
  simp only [V, List.flatten_cons, List.flatten_nil, List.append_nil, List.cons_append, List.nil_append]
  after_reads_simp
  try simp only [StableHlo.TRef.toBuf, StableHlo.TRef.ofBuf, cast_eq, id_eq]
  pointwise []
  exact pick_of (W m c) r (by first | rfl | simp [Ideal.ofBits, Ideal.ieee] | exact sitofp_zero) _ (fun h => by unfold rotCol; rw [if_pos (by omega)]; omega) (fun h => by unfold rotCol; rw [if_neg (by omega)])

theorem W_v15 (c : Dev nD) (r : Fin 1024) (p : Fin 256) :
    (V m c main_v15 : Vec Ideal S1024x256 .f32) (ix2 r p) = pick (W m c) r (plainCol 640 p) := by
  simp only [V, List.flatten_cons, List.flatten_nil, List.append_nil, List.cons_append, List.nil_append]
  after_reads_simp
  try simp only [StableHlo.TRef.toBuf, StableHlo.TRef.ofBuf, cast_eq, id_eq]
  pointwise []
  exact pick_of (W m c) r (by first | rfl | simp [Ideal.ofBits, Ideal.ieee] | exact sitofp_zero) _ (fun h => by unfold plainCol; rw [if_pos (by omega)]; omega) (fun h => by unfold plainCol; rw [if_neg (by omega)])

/-- the two latents, -/
theorem W_v16 (c : Dev nD) (r : Fin 1024) (p : Fin 384) :
    (V m c main_v16 : Vec Ideal S1024x384 .f32) (ix2 r p) = pick (W m c) r (768 + p) := by
  simp only [V, List.flatten_cons, List.flatten_nil, List.append_nil, List.cons_append, List.nil_append]
  after_reads_simp
  try simp only [StableHlo.TRef.toBuf, StableHlo.TRef.ofBuf, cast_eq, id_eq]
  pointwise []
  exact pick_val (W m c) r _ (by omega)

theorem W_v17 (c : Dev nD) (r : Fin 1024) (p : Fin 256) :
    (V m c main_v17 : Vec Ideal S1024x256 .f32) (ix2 r p) = pick (W m c) r (1152 + p) := by
  simp only [V, List.flatten_cons, List.flatten_nil, List.append_nil, List.cons_append, List.nil_append]
  after_reads_simp
  try simp only [StableHlo.TRef.toBuf, StableHlo.TRef.ofBuf, cast_eq, id_eq]
  pointwise []
  exact pick_val (W m c) r _ (by omega)

/-- and the shared rotated key. -/
theorem W_v23 (c : Dev nD) (r : Fin 1024) (p : Fin 128) :
    (V m c main_v23 : Vec Ideal S1024x128 .f32) (ix2 r p) = pick (W m c) r (rotCol 1408 8 p) := by
  simp only [V, List.flatten_cons, List.flatten_nil, List.append_nil, List.cons_append, List.nil_append]
  after_reads_simp
  try simp only [StableHlo.TRef.toBuf, StableHlo.TRef.ofBuf, cast_eq, id_eq]
  pointwise []
  exact pick_of (W m c) r (by first | rfl | simp [Ideal.ofBits, Ideal.ieee] | exact sitofp_zero) _ (fun h => by unfold rotCol; rw [if_pos (by omega)]; omega) (fun h => by unfold rotCol; rw [if_neg (by omega)])

/-- The packed weight is its parts side by side, -/
theorem W_parts (c : Dev nD) : (V m c main_v24 : Vec Ideal S1024x2304 .f32)
    = concatenate S1024x2304 1 [⟨S1024x1024, V m c main_v5⟩, ⟨S1024x256, V m c main_v11⟩, ⟨S1024x256, V m c main_v15⟩,
        ⟨S1024x384, V m c main_v16⟩, ⟨S1024x256, V m c main_v17⟩, ⟨S1024x128, V m c main_v23⟩]
        concatenates_S1024x1024_S1024x256_S1024x256_S1024x384_S1024x256_S1024x128_S1024x2304_d1 := by
  refine Host.after_nary (ops := line) (xs := ![main_v5, main_v11, main_v15, main_v16, main_v17, main_v23]) (y := main_v24) 32 rfl ?_ ?_ ?_ _ <;> decide

/-- so that its lane `p` is column `col p`. -/
theorem W_packed (c : Dev nD) (r : Fin 1024) (p : Fin 2304) :
    (V m c main_v24 : Vec Ideal S1024x2304 .f32) (ix2 r p) = pick (W m c) r (col p) := by
  rw [W_parts]
  pointwise []
  have h := pick_parts (W m c) r p (W_v5 m c r) (W_v11 m c r) (W_v15 m c r) (W_v16 m c r) (W_v17 m c r) (W_v23 m c r)
  exact h

theorem W_lanes (c : Dev nD) (r : Fin 1024) (p : Fin 2304) :
    (V m c main_v54 : Vec Ideal S1024x2304 .bf16) (ix2 r p) = pick (W m c) r (col p) := by
  have h : (V m c main_v54 : Vec Ideal S1024x2304 .bf16) = truncf (F := Ideal) .bf16 (V m c main_v24 : Vec Ideal S1024x2304 .f32) bitsLt_bf16_f32 := by
    refine Host.after_unary (ops := line) (x := main_v24) (y := main_v54) 70 rfl ?_ ?_ ?_ _ <;> decide
  rw [h]
  exact W_packed m c r p

/-- The gates' columns are the last ones. -/
theorem W_gates (c : Dev nD) (r : Fin 1024) (k : Fin 2048) :
    (V m c main_v55 : Vec Ideal S1024x2048 .bf16) (ix2 r k) = W m c (ix2 r ⟨1440 + k, by omega⟩) := by
  simp only [V, List.flatten_cons, List.flatten_nil, List.append_nil, List.cons_append, List.nil_append]
  after_reads_simp
  try simp only [StableHlo.TRef.toBuf, StableHlo.TRef.ofBuf, cast_eq, id_eq]
  pointwise []

/-- The parts of the packed cotangent: the two parts of rotated heads and the plain heads, -/
theorem DZ_v31 (c : Dev nD) (r : Fin 8192) (p : Fin 1024) :
    (V m c main_v31 : Vec Ideal S8192x1024 .f32) (ix2 r p) = pick (DZ m c) r (rotCol 0 16 p) := by
  simp only [V, List.flatten_cons, List.flatten_nil, List.append_nil, List.cons_append, List.nil_append]
  after_reads_simp
  try simp only [StableHlo.TRef.toBuf, StableHlo.TRef.ofBuf, cast_eq, id_eq]
  pointwise []
  exact pick_of (DZ m c) r (by first | rfl | simp [Ideal.ofBits, Ideal.ieee] | exact sitofp_zero) _ (fun h => by unfold rotCol; rw [if_pos (by omega)]; omega) (fun h => by unfold rotCol; rw [if_neg (by omega)])

theorem DZ_v37 (c : Dev nD) (r : Fin 8192) (p : Fin 256) :
    (V m c main_v37 : Vec Ideal S8192x256 .f32) (ix2 r p) = pick (DZ m c) r (rotCol 512 16 p) := by
  simp only [V, List.flatten_cons, List.flatten_nil, List.append_nil, List.cons_append, List.nil_append]
  after_reads_simp
  try simp only [StableHlo.TRef.toBuf, StableHlo.TRef.ofBuf, cast_eq, id_eq]
  pointwise []
  exact pick_of (DZ m c) r (by first | rfl | simp [Ideal.ofBits, Ideal.ieee] | exact sitofp_zero) _ (fun h => by unfold rotCol; rw [if_pos (by omega)]; omega) (fun h => by unfold rotCol; rw [if_neg (by omega)])

theorem DZ_v41 (c : Dev nD) (r : Fin 8192) (p : Fin 256) :
    (V m c main_v41 : Vec Ideal S8192x256 .f32) (ix2 r p) = pick (DZ m c) r (plainCol 640 p) := by
  simp only [V, List.flatten_cons, List.flatten_nil, List.append_nil, List.cons_append, List.nil_append]
  after_reads_simp
  try simp only [StableHlo.TRef.toBuf, StableHlo.TRef.ofBuf, cast_eq, id_eq]
  pointwise []
  exact pick_of (DZ m c) r (by first | rfl | simp [Ideal.ofBits, Ideal.ieee] | exact sitofp_zero) _ (fun h => by unfold plainCol; rw [if_pos (by omega)]; omega) (fun h => by unfold plainCol; rw [if_neg (by omega)])

/-- the two latents, -/
theorem DZ_v42 (c : Dev nD) (r : Fin 8192) (p : Fin 384) :
    (V m c main_v42 : Vec Ideal S8192x384 .f32) (ix2 r p) = pick (DZ m c) r (768 + p) := by
  simp only [V, List.flatten_cons, List.flatten_nil, List.append_nil, List.cons_append, List.nil_append]
  after_reads_simp
  try simp only [StableHlo.TRef.toBuf, StableHlo.TRef.ofBuf, cast_eq, id_eq]
  pointwise []
  exact pick_val (DZ m c) r _ (by omega)

theorem DZ_v43 (c : Dev nD) (r : Fin 8192) (p : Fin 256) :
    (V m c main_v43 : Vec Ideal S8192x256 .f32) (ix2 r p) = pick (DZ m c) r (1152 + p) := by
  simp only [V, List.flatten_cons, List.flatten_nil, List.append_nil, List.cons_append, List.nil_append]
  after_reads_simp
  try simp only [StableHlo.TRef.toBuf, StableHlo.TRef.ofBuf, cast_eq, id_eq]
  pointwise []
  exact pick_val (DZ m c) r _ (by omega)

/-- and the shared rotated key. -/
theorem DZ_v49 (c : Dev nD) (r : Fin 8192) (p : Fin 128) :
    (V m c main_v49 : Vec Ideal S8192x128 .f32) (ix2 r p) = pick (DZ m c) r (rotCol 1408 8 p) := by
  simp only [V, List.flatten_cons, List.flatten_nil, List.append_nil, List.cons_append, List.nil_append]
  after_reads_simp
  try simp only [StableHlo.TRef.toBuf, StableHlo.TRef.ofBuf, cast_eq, id_eq]
  pointwise []
  exact pick_of (DZ m c) r (by first | rfl | simp [Ideal.ofBits, Ideal.ieee] | exact sitofp_zero) _ (fun h => by unfold rotCol; rw [if_pos (by omega)]; omega) (fun h => by unfold rotCol; rw [if_neg (by omega)])

/-- The packed cotangent is its parts side by side, -/
theorem DZ_parts (c : Dev nD) : (V m c main_v50 : Vec Ideal S8192x2304 .f32)
    = concatenate S8192x2304 1 [⟨S8192x1024, V m c main_v31⟩, ⟨S8192x256, V m c main_v37⟩, ⟨S8192x256, V m c main_v41⟩,
        ⟨S8192x384, V m c main_v42⟩, ⟨S8192x256, V m c main_v43⟩, ⟨S8192x128, V m c main_v49⟩]
        concatenates_S8192x1024_S8192x256_S8192x256_S8192x384_S8192x256_S8192x128_S8192x2304_d1 := by
  refine Host.after_nary (ops := line) (xs := ![main_v31, main_v37, main_v41, main_v42, main_v43, main_v49]) (y := main_v50) 66 rfl ?_ ?_ ?_ _ <;> decide

/-- so that its lane `p` is column `col p`. -/
theorem DZ_packed (c : Dev nD) (r : Fin 8192) (p : Fin 2304) :
    (V m c main_v50 : Vec Ideal S8192x2304 .f32) (ix2 r p) = pick (DZ m c) r (col p) := by
  rw [DZ_parts]
  pointwise []
  have h := pick_parts (DZ m c) r p (DZ_v31 m c r) (DZ_v37 m c r) (DZ_v41 m c r) (DZ_v42 m c r) (DZ_v43 m c r) (DZ_v49 m c r)
  exact h

theorem DZ_lanes (c : Dev nD) (r : Fin 8192) (p : Fin 2304) :
    (V m c main_v52 : Vec Ideal S8192x2304 .bf16) (ix2 r p) = pick (DZ m c) r (col p) := by
  have h : (V m c main_v52 : Vec Ideal S8192x2304 .bf16) = truncf (F := Ideal) .bf16 (V m c main_v50 : Vec Ideal S8192x2304 .f32) bitsLt_bf16_f32 := by
    refine Host.after_unary (ops := line) (x := main_v50) (y := main_v52) 68 rfl ?_ ?_ ?_ _ <;> decide
  rw [h]
  exact DZ_packed m c r p

/-- The gates' columns are the last ones. -/
theorem DZ_gates (c : Dev nD) (r : Fin 8192) (k : Fin 2048) :
    (V m c main_v53 : Vec Ideal S8192x2048 .bf16) (ix2 r k) = DZ m c (ix2 r ⟨1440 + k, by omega⟩) := by
  simp only [V, List.flatten_cons, List.flatten_nil, List.append_nil, List.cons_append, List.nil_append]
  after_reads_simp
  try simp only [StableHlo.TRef.toBuf, StableHlo.TRef.ofBuf, cast_eq, id_eq]
  pointwise []

/-- The gain. -/
theorem gain (c : Dev nD) (z : Fin 1) (l : Fin 1024) :
    (V m c main_v56 : Vec Ideal S1x1024 .f32) (ix2 z l) = (m ((c : Thread nD τ).loc main_arg1) : Vec Ideal S1024 .f32) (ix1 l) := by
  simp only [V, List.flatten_cons, List.flatten_nil, List.append_nil, List.cons_append, List.nil_append]
  after_reads_simp
  try simp only [StableHlo.TRef.toBuf, StableHlo.TRef.ofBuf, cast_eq, id_eq]
  pointwise []

end Cert.InprojIdeal.Result

end
-- ==== Proof.InprojValue.lean ====
/-
  The two results of the call that ends the layer's gradient, over the extended reals.
-/
module

public import proofs.«01_k».proof.Proof.InprojPack
public import proofs.«01_k».proof.Proof.Norm
public import proofs.«01_k».proof.Proof.Gen.InprojRefIdeal.Read

@[expose] public section

set_option maxRecDepth 16384

noncomputable section

namespace Cert.InprojIdeal.Result

open Cert.InprojIdeal Cert.InprojIdeal.Gen Cert.Rows Cert.Norm Cert.Pack Idealize.ShloMosaic Idealize.ShloMosaic.TcCoe Idealize.SL.Sem
open Idealize.ShloMosaic.Pointwise

/-- An element of a tile's product with the packed weight's transpose: the lanes' part and the gates'. -/
def dot (a : Vec Ideal S512x2304 .bf16) (w : Vec Ideal S1024x2304 .bf16) (b : Vec Ideal S512x2048 .bf16) (v : Vec Ideal S1024x2048 .bf16)
    (j : Fin 512) (l : Fin 1024) : EReal :=
  ∑ p : Fin 2304, a (ix2 j p) * w (ix2 l p) + ∑ k : Fin 2048, b (ix2 j k) * v (ix2 l k)

theorem pay_dot (a : Vec Ideal S512x2304 .bf16) (w : Vec Ideal S1024x2304 .bf16) (b : Vec Ideal S512x2048 .bf16) (v : Vec Ideal S1024x2048 .bf16)
    (j : Fin 512) (l : Fin 1024) : k0_pay4 (F := Ideal) a w b v (ix2 j l) = dot a w b v j l := by
  pointwise [k0_pay4, dot]

theorem pay_rstd (x : Vec Ideal S512x1024 .f32) (j : Fin 512) (z : Fin 1) :
    k0_pay5 (F := Ideal) x (ix2 j z) = rstd (1 / 1024) fun l : Fin 1024 => x (ix2 j l) := by
  pointwise [k0_pay5, ofBits_inv1024, ofBits_eps, rstd]

theorem pay_normed (x : Vec Ideal S512x1024 .f32) (j : Fin 512) (l : Fin 1024) :
    k0_pay6 (F := Ideal) x (ix2 j l) = x (ix2 j l) * rstd (1 / 1024) fun l : Fin 1024 => x (ix2 j l) := by
  pointwise [k0_pay6, pay_rstd]

theorem pay_back (a : Vec Ideal S512x2304 .bf16) (w : Vec Ideal S1024x2304 .bf16) (b : Vec Ideal S512x2048 .bf16) (v : Vec Ideal S1024x2048 .bf16)
    (x : Vec Ideal S512x1024 .f32) (g : Vec Ideal S1x1024 .f32) (j : Fin 512) (l : Fin 1024) : k0_pay8 (F := Ideal) a w b v x g (ix2 j l)
      = back (1 / 1024) (fun l => x (ix2 j l)) (fun l => dot a w b v j l * g (ix2 0 l)) l := by
  pointwise [k0_pay8, pay_dot, pay_normed, pay_rstd, ofBits_inv1024, back]

theorem pay_sum (v x : Vec Ideal S512x1024 .f32) (j : Fin 512) (l : Fin 1024) :
    k0_pay3 (F := Ideal) v x (ix2 j l) = x (ix2 j l) + v (ix2 j l) := by
  pointwise [k0_pay3]

theorem pay_zero (z : Fin 1) (l : Fin 1024) : k0_pay1 (F := Ideal) (ix2 z l) = 0 := by
  pointwise [k0_pay1]

theorem pay_gain (a : Vec Ideal S512x2304 .bf16) (w : Vec Ideal S1024x2304 .bf16) (b : Vec Ideal S512x2048 .bf16) (v : Vec Ideal S1024x2048 .bf16)
    (x : Vec Ideal S512x1024 .f32) (o : Vec Ideal S1x1024 .f32) (z : Fin 1) (l : Fin 1024) :
    k0_pay2 (F := Ideal) (k0_pay7 a w b v x) o (ix2 z l)
      = o (ix2 z l) + ∑ j : Fin 512, dot a w b v j l * (x (ix2 j l) * rstd (1 / 1024) fun l : Fin 1024 => x (ix2 j l)) := by
  pointwise [k0_pay2, k0_pay7, pay_dot, pay_normed]

/-- The gradient at the normed rows: the product of the cotangent with the weight's transpose, over the problem's own columns. -/
def dn (w : Vec Ideal S1024x3488 .f32) (dz : Vec Ideal S8192x3488 .f32) (r : Fin 8192) (l : Fin 1024) : EReal :=
  ∑ k : Fin 3488, dz (ix2 r k) * w (ix2 l k)

/-- The gradient of the layer's input: the residual's part and the norm's. -/
def dx (x : Vec Ideal S8192x1024 .f32) (g : Vec Ideal S1024 .f32) (w : Vec Ideal S1024x3488 .f32) (dz : Vec Ideal S8192x3488 .f32)
    (dx1 : Vec Ideal S8192x1024 .f32) (r : Fin 8192) (l : Fin 1024) : EReal :=
  dx1 (ix2 r l) + back (1 / 1024) (fun l => x (ix2 r l)) (fun l => dn w dz r l * g (ix1 l)) l

/-- The gain's gradient: a sum over all rows. -/
def dg (x : Vec Ideal S8192x1024 .f32) (w : Vec Ideal S1024x3488 .f32) (dz : Vec Ideal S8192x3488 .f32) (l : Fin 1024) : EReal :=
  ∑ r : Fin 8192, dn w dz r l * (x (ix2 r l) * rstd (1 / 1024) fun l : Fin 1024 => x (ix2 r l))

section

variable (m : (ℓ : Loc nD τ sig) → Buf (Elt Ideal) ℓ)

/-- The program's other arguments. -/
abbrev X (c : Dev nD) : Vec Ideal S8192x1024 .f32 := m ((c : Thread nD τ).loc main_arg0)
abbrev G (c : Dev nD) : Vec Ideal S1024 .f32 := m ((c : Thread nD τ).loc main_arg1)
abbrev DX1 (c : Dev nD) : Vec Ideal S8192x1024 .f32 := m ((c : Thread nD τ).loc main_arg4)

/-- What the call's windows hold at a point, from the program's arguments: the product is that over the problem's columns. -/
theorem blk_dot (c : Dev nD) (t : Fin cfg0.N) (j : Fin 512) (l : Fin 1024) :
    dot (iblk m c 0 t) (iblk m c 2 t) (iblk m c 1 t) (iblk m c 3 t) j l = dn (W m c) (DZ m c) (row t j) l := by
  unfold dot dn
  have h := sum_lanes (DZ m c) (W m c) (row t j) l
  refine Eq.trans (congrArg₂ _ (Finset.sum_congr rfl fun p _ => ?_) (Finset.sum_congr rfl fun k _ => ?_)) h
  · rw [iblk0, iblk2]
    exact congrArg₂ _ (DZ_lanes m c _ p) (W_lanes m c l p)
  · rw [iblk1, iblk3]
    exact congrArg₂ _ (DZ_gates m c _ k) (W_gates m c l k)

theorem blk_x (c : Dev nD) (t : Fin cfg0.N) (j : Fin 512) (l : Fin 1024) :
    (iblk m c 4 t : Vec Ideal S512x1024 .f32) (ix2 j l) = X m c (ix2 (row t j) l) := by
  rw [iblk4, V_main_arg0]

theorem blk_g (c : Dev nD) (t : Fin cfg0.N) (l : Fin 1024) :
    (iblk m c 5 t : Vec Ideal S1x1024 .f32) (ix2 0 l) = G m c (ix1 l) := by
  rw [iblk5, gain]

theorem blk_dx1 (c : Dev nD) (t : Fin cfg0.N) (j : Fin 512) (l : Fin 1024) :
    (iblk m c 6 t : Vec Ideal S512x1024 .f32) (ix2 j l) = DX1 m c (ix2 (row t j) l) := by
  rw [iblk6, V_main_arg4]

/-- The first result's array. -/
theorem result_dx (c : Dev nD) (r : Fin 8192) (l : Fin 1024) :
    ((dats m 0 c).arrAt 7 cfg0.N : Vec Ideal S8192x1024 .f32) (ix2 r l) = dx (X m c) (G m c) (W m c) (DZ m c) (DX1 m c) r l := by
  have ht : (r : ℕ) / 512 < cfg0.N := by rw [show cfg0.N = 16 from N_0]; have := r.isLt; omega
  have h := final_dx m c ⟨r / 512, ht⟩ (place r) l
  rw [pay_sum, pay_back] at h
  simp only [blk_dot, blk_x, blk_g, blk_dx1, row_place] at h
  exact h

/-- The gain's gradient after point `n`: the sum over the rows so far. -/
theorem outs_dg (c : Dev nD) (z : Fin 1) (l : Fin 1024) : ∀ (n : ℕ) (h : n < cfg0.N),
    ((outsAt0 m c n h).2 : Vec Ideal S1x1024 .f32) (ix2 z l) = ∑ t ∈ Finset.range (n + 1), ∑ j : Fin 512,
      dn (W m c) (DZ m c) (row t j) l * (X m c (ix2 (row t j) l) * rstd (1 / 1024) fun l : Fin 1024 => X m c (ix2 (row t j) l))
  | 0, h => by
    rw [outs_dg_zero, pay_gain, pay_zero, zero_add, Finset.sum_range_one]
    simp only [blk_dot, blk_x]
  | n + 1, h => by
    rw [outs_dg_succ, pay_gain, Finset.sum_range_succ]
    simp only [blk_dot, blk_x]
    exact congrArg (· + _) (outs_dg c z l n _)

/-- The second result's array. -/
theorem result_dg (c : Dev nD) (z : Fin 1) (l : Fin 1024) :
    ((dats m 0 c).arrAt 8 cfg0.N : Vec Ideal S1x1024 .f32) (ix2 z l) = dg (X m c) (W m c) (DZ m c) l := by
  rw [final_dg, outs_dg m c z l 15]
  exact sum_rows fun r => dn (W m c) (DZ m c) r l * (X m c (ix2 r l) * rstd (1 / 1024) fun l : Fin 1024 => X m c (ix2 r l))

end

end Cert.InprojIdeal.Result

namespace Cert.InprojRefIdeal.Result

open Cert.InprojRefIdeal Cert.InprojRefIdeal.Read Cert.Rows Cert.Norm Idealize.ShloMosaic Idealize.ShloMosaic.TcCoe
open Idealize.ShloMosaic.Pointwise Idealize.ShloMosaic.StableHlo
open Cert.InprojIdeal.Result (dn dx dg)

/-- The reference's norm factor of a row. -/
theorem ref_rstd (x : Vec Ideal S8192x1024 .f32) (r : Fin 8192) (z : Fin 1) :
    val_main_v7 (F := Ideal) x (ix2 r z) = rstd (1 / 1024) fun l : Fin 1024 => x (ix2 r l) := by
  pointwise [val_main_v7, val_main_v6, val_main_v5, val_main_v4, val_main_v3, val_main_v2, val_main_v1, val_main_v0,
    val_main_cst, val_main_cst_0, val_main_cst_1, ofBits_1024, ofBits_eps, div_1024, rstd]

/-- The reference's gradient at the normed rows. -/
theorem ref_dn (w : Vec Ideal S1024x3488 .f32) (dz : Vec Ideal S8192x3488 .f32) (r : Fin 8192) (l : Fin 1024) :
    val_main_v17 (F := Ideal) w dz (ix2 r l) = dn w dz r l := by
  pointwise [val_main_v17, dn]

/-- The factor of a row that comes from the mean square. -/
theorem ref_slope (x : Vec Ideal S8192x1024 .f32) (g : Vec Ideal S1024 .f32) (w : Vec Ideal S1024x3488 .f32) (dz : Vec Ideal S8192x3488 .f32)
    (r : Fin 8192) (l : Fin 1024) : val_main_v34 (F := Ideal) x g w dz (ix2 r l)
      = msPart (1 / 1024) (fun l : Fin 1024 => x (ix2 r l)) (fun l => dn w dz r l * g (ix1 l)) := by
  pointwise [val_main_v34, val_main_v33, val_main_v32, val_main_v31, val_main_v30, val_main_v26, val_main_v25, val_main_v24, val_main_v22,
    val_main_v21, val_main_v13, val_main_v10, val_main_v9, val_main_v8, val_main_cst_7, val_main_cst_6, val_main_cst_5, val_main_cst_2,
    ref_rstd, ref_dn, val_main_v6, val_main_v5, val_main_v4, val_main_v3, val_main_v2, val_main_v1, val_main_v0,
    val_main_cst, val_main_cst_0, val_main_cst_1, ofBits_1024, ofBits_eps, ofBits_neg_half, div_1024, msPart, Fin.sum_univ_one]

/-- The reference's first result. -/
theorem ref_dx {x : Vec Ideal S8192x1024 .f32} {g : Vec Ideal S1024 .f32} {w : Vec Ideal S1024x3488 .f32} {dz : Vec Ideal S8192x3488 .f32}
    (dx1 : Vec Ideal S8192x1024 .f32) (hx : ∀ i, IsReal (x i)) (hg : ∀ i, IsReal (g i)) (hw : ∀ i, IsReal (w i)) (hd : ∀ i, IsReal (dz i))
    (r : Fin 8192) (l : Fin 1024) : val_main_v38 (F := Ideal) x g w dz dx1 (ix2 r l) = dx x g w dz dx1 r l := by
  have h : val_main_v38 (F := Ideal) x g w dz dx1 (ix2 r l) = dx1 (ix2 r l)
      + dn w dz r l * g (ix1 l) * (rstd (1 / 1024) fun l : Fin 1024 => x (ix2 r l))
      + x (ix2 r l) * val_main_v34 (F := Ideal) x g w dz (ix2 r l) + val_main_v34 (F := Ideal) x g w dz (ix2 r l) * x (ix2 r l) := by
    pointwise [val_main_v38, val_main_v37, val_main_v36, val_main_v35, val_main_v29, val_main_v28, val_main_v27, val_main_v22, val_main_v21,
      val_main_v13, ref_rstd, ref_dn]
  rw [h, ref_slope, add_assoc, add_assoc, ← add_assoc (_ * _ * _)]
  exact congrArg _ (back_eq (by norm_num) (fun l => hx (ix2 r l))
    (fun l => (IsReal.sum _ fun k => (hd (ix2 r k)).mul (hw (ix2 l k))).mul (hg (ix1 l))) l)

/-- The reference's second result. -/
theorem ref_dg (x : Vec Ideal S8192x1024 .f32) (w : Vec Ideal S1024x3488 .f32) (dz : Vec Ideal S8192x3488 .f32)
    (z : Fin 1) (l : Fin 1024) : val_main_v39 (F := Ideal) x w dz (ix2 z l) = dg x w dz l := by
  unfold dg
  simp only [mul_comm (dn w dz _ l)]
  pointwise [val_main_v39, val_main_v23, val_main_v20, val_main_v19, val_main_v18, val_main_v12, val_main_v11, val_main_cst_4, val_main_cst_3,
    ref_rstd, ref_dn, Fin.sum_univ_one]

end Cert.InprojRefIdeal.Result

end
-- ==== Proof.InprojClaim.lean ====
/-
  The claims of the call that ends the layer's gradient: the frames, and the equation with the reference.
-/
module

public import proofs.«01_k».proof.Defs
public import proofs.«01_k».proof.Proof.InprojValue
public import proofs.«01_k».proof.Proof.Gen.Inproj.Frame
public import proofs.«01_k».proof.Proof.Gen.InprojRefIdeal.Run
public import Idealize.ShloMosaic.Lib.Quiescent

@[expose] public section

noncomputable section

namespace Cert.Proof.Inproj

open Idealize.ShloMosaic Idealize.ShloMosaic.TcCoe Idealize.ShloMosaic.Pointwise Idealize.SL.Sem

/-- The shapes of the precondition's broadcasts fit. -/
theorem preFacts : Cert.Pre_inproj_finite.Facts where
  bcast_S_S8192x1024 := by decide
  bcast_S_S1024 := by decide
  bcast_S_S1024x3488 := by decide
  bcast_S_S8192x3488 := by decide

theorem frame : Cert.quiescent_Inproj (hInproj := Cert.Inproj.Gen.facts) := fun m ρ _ => Cert.Inproj.Gen.frame m ρ

theorem frameIdeal : Cert.quiescent_InprojIdeal (hInprojIdeal := Cert.InprojIdeal.Gen.facts) := fun m ρ _ => Cert.InprojIdeal.Gen.frame m ρ

theorem frameIdealPre : Cert.quiescent_InprojIdeal_pre_inproj_finite (hInprojIdeal := Cert.InprojIdeal.Gen.facts) (hPre_inproj_finite := preFacts) :=
  fun m ρ _ => Cert.InprojIdeal.Gen.frame m ρ

/-- The reference is host operations alone: it has no semaphores. -/
theorem frameRef : Cert.quiescent_InprojRefIdeal (hInprojRefIdeal := Cert.InprojRefIdeal.Gen.facts) := fun m ρ _ =>
  (θ_run Cert.InprojRefIdeal.defs _ _).mono (fun r h => ⟨fun c => (h c).2.2, sem_eq_zero_of_no_sems (by decide) r.2⟩)
    (Cert.InprojRefIdeal.Value.run m ρ)

theorem frameRefPre : Cert.quiescent_InprojRefIdeal_pre_inproj_finite (hInprojRefIdeal := Cert.InprojRefIdeal.Gen.facts) (hPre_inproj_finite := preFacts) :=
  fun m ρ _ => frameRef m ρ trivial

/-- Over the extended reals the call's two gradients are the reference's, where the layer's input, its gain, its weight and
    the cotangent of the product are real. -/
theorem value : Cert.algebraic_InprojIdeal_InprojRefIdeal_pre_inproj_finite (hInprojIdeal := Cert.InprojIdeal.Gen.facts)
    (hInprojRefIdeal := Cert.InprojRefIdeal.Gen.facts) (hPre_inproj_finite := preFacts) := fun m g m' g' hpre hag => by
  refine ⟨fun c => (Cert.InprojIdeal.Gen.dats m 0 c).arrAt 7 Cert.InprojIdeal.cfg0.N,
    fun c => (Cert.InprojIdeal.Gen.dats m 0 c).arrAt 8 Cert.InprojIdeal.cfg0.N, Cert.InprojIdeal.Value.run_blocks m g, ?_⟩
  refine (θ_run Cert.InprojRefIdeal.defs _ _).mono (fun r h c => ⟨(h c).1.trans ?_, (h c).2.1.trans ?_, (h c).2.2⟩)
    (Cert.InprojRefIdeal.Value.run m' g')
  · obtain ⟨h0, h1, h2, h3⟩ := hpre c
    rw [Cert.InprojRefIdeal.Read.val_main_v38_eq, (hag c).1, (hag c).2.1, (hag c).2.2.1, (hag c).2.2.2.1, (hag c).2.2.2.2]
    refine funext fun i => ?_
    rw [eq_ix2 i]
    exact (Cert.InprojRefIdeal.Result.ref_dx _ (fun i => Cert.Norm.isReal_of_abs_lt (congrFun h0 i))
      (fun i => Cert.Norm.isReal_of_abs_lt (congrFun h1 i)) (fun i => Cert.Norm.isReal_of_abs_lt (congrFun h2 i))
      (fun i => Cert.Norm.isReal_of_abs_lt (congrFun h3 i)) _ _).trans (Cert.InprojIdeal.Result.result_dx m c _ _).symm
  · rw [(hag c).1, (hag c).2.2.1, (hag c).2.2.2.1]
    refine (Cert.InprojRefIdeal.Read.val_main_v39_eq (F := Ideal) _ _ _).trans (funext fun i => ?_)
    rw [eq_ix2 i]
    exact (Cert.InprojRefIdeal.Result.ref_dg _ _ _ _ _).trans (Cert.InprojIdeal.Result.result_dg m c _ _).symm

end Cert.Proof.Inproj

end
-- ==== Proof.Tiles.lean ====
/-
  Blocks of two-axis arrays, element by element: a block's element in the array that it was cut from, a load and
  several stores of some of a block's columns or rows.
-/
module

public import proofs.«01_k».proof.Proof.Rows
public import Idealize.ShloMosaic.Lib.Pipeline.ValueKit.Tiles

@[expose] public section

noncomputable section

namespace Cert.Tiles

open Idealize.ShloMosaic Cert.Rows

/-- An array's element at an index is that at its two coordinates. -/
theorem at2 {α : Type} {a b : ℕ} (A : (⟨2, ![a, b]⟩ : Shape).Idx → α) {i : (⟨2, ![a, b]⟩ : Shape).Idx} {p : Fin a} {q : Fin b}
    (hp : (i 0 : ℕ) = p) (hq : (i 1 : ℕ) = q) : A i = A (ix2 p q) :=
  congrArg A (funext fun k => Fin.ext (match k with | ⟨0, _⟩ => hp | ⟨1, _⟩ => hq))

/-- The coordinate of a tile's row, and of an index of a window that holds its whole array. -/
theorem row_at {w t : ℕ} (h : w = t) (ht : t < 16) (j : Fin 512) : w * 512 + 1 * j.val = (row t j : ℕ) := by
  rw [h, row_val ht]; omega

theorem all_at {w n : ℕ} (h : w = 0) (k : Fin n) : w * n + 1 * k.val = (k : ℕ) := by
  rw [h]; omega

/-- A load of columns, and one of rows. -/
theorem ld_cols {Val : EltTy → Type} {a b n off : ℕ} {ty : EltTy} (X : (⟨2, ![a, b]⟩ : Shape).Idx → Val ty)
    (hin : ∀ k, (![0, off] : Fin 2 → Nat) k + (![a, n] : Fin 2 → Nat) k ≤ (![a, b] : Fin 2 → Nat) k) (j : Fin a) (k : Fin n) (hk : off + k < b) :
    View.ld X (Rect.unit (s := (⟨2, ![a, b]⟩ : Shape)) ![0, off] ![a, n] hin) (ix2 j k) = X (ix2 j ⟨off + k, hk⟩) :=
  View.ld_unit_apply_of X _ _ _ _ _ fun x => match x with
    | ⟨0, _⟩ => (Nat.zero_add _).symm
    | ⟨1, _⟩ => rfl

theorem ld_rows {Val : EltTy → Type} {a b n off : ℕ} {ty : EltTy} (X : (⟨2, ![a, b]⟩ : Shape).Idx → Val ty)
    (hin : ∀ k, (![off, 0] : Fin 2 → Nat) k + (![n, b] : Fin 2 → Nat) k ≤ (![a, b] : Fin 2 → Nat) k) (j : Fin n) (k : Fin b) (hj : off + j < a) :
    View.ld X (Rect.unit (s := (⟨2, ![a, b]⟩ : Shape)) ![off, 0] ![n, b] hin) (ix2 j k) = X (ix2 ⟨off + j, hj⟩ k) :=
  View.ld_unit_apply_of X _ _ _ _ _ fun x => match x with
    | ⟨0, _⟩ => rfl
    | ⟨1, _⟩ => (Nat.zero_add _).symm

/-- A store of columns that holds the values of one function of a block's elements holds them at its place. -/
theorem piece_cols {α : Type} {a b n off : ℕ} (G : Fin a → Fin b → α) (P : (⟨2, ![a, n]⟩ : Shape).Idx → α)
    (hin : ∀ k, (![0, off] : Fin 2 → Nat) k + (![a, n] : Fin 2 → Nat) k ≤ (![a, b] : Fin 2 → Nat) k) (hb : off + n ≤ b)
    (h : ∀ (j : Fin a) (k : Fin n), P (ix2 j k) = G j ⟨off + k, by omega⟩) (x : (⟨2, ![a, n]⟩ : Shape).Idx) :
    P x = (fun y : (⟨2, ![a, b]⟩ : Shape).Idx => G (y 0) (y 1)) ((Rect.unit (s := (⟨2, ![a, b]⟩ : Shape)) ![0, off] ![a, n] hin).emb x) := by
  refine (at2 (p := x 0) (q := x 1) P rfl rfl).trans ((h (x 0) (x 1)).trans ?_)
  refine congrArg₂ G (Fin.ext ?_) (Fin.ext ?_)
  · show (x 0 : ℕ) = 0 + 1 * (x 0 : ℕ); omega
  · show off + (x 1 : ℕ) = off + 1 * (x 1 : ℕ); omega

/-- A store of rows likewise. -/
theorem piece_rows {α : Type} {a b n off : ℕ} (G : Fin a → Fin b → α) (P : (⟨2, ![n, b]⟩ : Shape).Idx → α)
    (hin : ∀ k, (![off, 0] : Fin 2 → Nat) k + (![n, b] : Fin 2 → Nat) k ≤ (![a, b] : Fin 2 → Nat) k) (ha : off + n ≤ a)
    (h : ∀ (j : Fin n) (k : Fin b), P (ix2 j k) = G ⟨off + j, by omega⟩ k) (x : (⟨2, ![n, b]⟩ : Shape).Idx) :
    P x = (fun y : (⟨2, ![a, b]⟩ : Shape).Idx => G (y 0) (y 1)) ((Rect.unit (s := (⟨2, ![a, b]⟩ : Shape)) ![off, 0] ![n, b] hin).emb x) := by
  refine (at2 (p := x 0) (q := x 1) P rfl rfl).trans ((h (x 0) (x 1)).trans ?_)
  refine congrArg₂ G (Fin.ext ?_) (Fin.ext ?_)
  · show off + (x 0 : ℕ) = off + 1 * (x 0 : ℕ); omega
  · show (x 1 : ℕ) = 0 + 1 * (x 1 : ℕ); omega

/-- A load of a block at any place. -/
theorem ld_block {Val : EltTy → Type} {a b m n o p : ℕ} {ty : EltTy} (X : (⟨2, ![a, b]⟩ : Shape).Idx → Val ty)
    (hin : ∀ k, (![o, p] : Fin 2 → Nat) k + (![m, n] : Fin 2 → Nat) k ≤ (![a, b] : Fin 2 → Nat) k) (j : Fin m) (k : Fin n) (hj : o + j < a) (hk : p + k < b) :
    View.ld X (Rect.unit (s := (⟨2, ![a, b]⟩ : Shape)) ![o, p] ![m, n] hin) (ix2 j k) = X (ix2 ⟨o + j, hj⟩ ⟨p + k, hk⟩) :=
  View.ld_unit_apply_of X _ _ _ _ _ fun x => match x with
    | ⟨0, _⟩ => rfl
    | ⟨1, _⟩ => rfl

/-- A coordinate of block number `t`, of width `b`. -/
theorem at_tile {w t b j x : ℕ} (h : w = t) (hx : x = t * b + j) : w * b + 1 * j = x := by
  rw [h, hx, Nat.one_mul]

end Cert.Tiles

end
-- ==== Proof.DownBlock.lean ====
/-
  The feed-forward block's three calls, read: what their windows hold and what each tile of rows leaves in the results.
-/
module

public import proofs.«01_k».proof.Proof.Tiles
public import proofs.«01_k».proof.Proof.Gen.DownIdeal.Frame
public import Idealize.ShloMosaic.Lib.Tactic

@[expose] public section

set_option maxRecDepth 16384

noncomputable section

namespace Cert.DownIdeal.Result

open Cert.DownIdeal Cert.DownIdeal.Gen Cert.Rows Cert.Tiles Idealize.ShloMosaic Idealize.ShloMosaic.TcCoe Idealize.SL.Sem
open Idealize.ShloMosaic.Pointwise

variable {F : FTy → Type} [FloatOps F]
variable (V : (c : Dev nD) → (b : Ref sig .tc) → Buf (Elt F) ((c : Thread nD τ).loc b))

/-- Call 0's index maps: the windows of rows move by one tile a point, the others stay. -/
theorem idx0 : ∀ t : Fin grid0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0) := by decide +kernel

theorem blk0_0 (c : Dev nD) (t : Fin cfg0.N) (j : Fin 512) (l : Fin 1024) :
    (iblk0 V c 0 t : Vec F S512x1024 .f32) (ix2 j l) = (V c main_arg0 : Vec F S8192x1024 .f32) (ix2 (row t j) l) := by
  unfold iblk0
  rw [View.read_apply]
  exact at2 (V c main_arg0 : Vec F S8192x1024 .f32) (row_at (idx0 t).1.1 (lt_of_lt_of_eq t.isLt N_0) j) (all_at (idx0 t).1.2 l)

theorem blk0_1 (c : Dev nD) (t : Fin cfg0.N) : (iblk0 V c 1 t : Vec F S1x1024 .f32) = (V c main_v2 : Vec F S1x1024 .f32) := funext fun i => by
  unfold iblk0
  rw [View.read_apply, eq_ix2 i]
  exact at2 (V c main_v2 : Vec F S1x1024 .f32) (all_at (idx0 t).2.1.1 (i 0)) (all_at (idx0 t).2.1.2 (i 1))

theorem blk0_2 (c : Dev nD) (t : Fin cfg0.N) : (iblk0 V c 2 t : Vec F S1024x4096 .bf16) = (V c main_v3 : Vec F S1024x4096 .bf16) := funext fun i => by
  unfold iblk0
  rw [View.read_apply, eq_ix2 i]
  exact at2 (V c main_v3 : Vec F S1024x4096 .bf16) (all_at (idx0 t).2.2.1.1 (i 0)) (all_at (idx0 t).2.2.1.2 (i 1))

theorem final0_3 (c : Dev nD) (t : Fin cfg0.N) (j : Fin 512) (l : Fin 1024) :
    ((dat0 V c).arrAt 3 cfg0.N : Vec F S8192x1024 .bf16) (ix2 (row t j) l) = out0_3 (iblk0 V c 0 t) (iblk0 V c 1 t) (iblk0 V c 2 t) (ix2 j l) := by
  have h := (dat0 V c).arrAt_emb_eq_flushed 3 (fun t t' _ _ hne => (cfg0.win 3).disjoint_blk fun h => hne
    ((by decide +kernel : ∀ t t' : Fin grid0.N, win0_3.index t = win0_3.index t' → t = t') t t' h)) t (flush0_3 t) (ix2 j l)
  rw [show (dat0 V c).flushed 3 t = (cfg0.win 3).cut (grid0.coords t) (out0_3 (iblk0 V c 0 t) (iblk0 V c 1 t) (iblk0 V c 2 t)) by
    show (cfg0.win 3).cut (grid0.coords t) ((dat0 V c).after 3 t) = _
    rw [after0_3]] at h
  generalize out0_3 (iblk0 V c 0 t) (iblk0 V c 1 t) (iblk0 V c 2 t) = o at h ⊢
  refine (at2 ((dat0 V c).arrAt 3 cfg0.N : Vec F S8192x1024 .bf16) ?_ ?_).symm.trans h
  · exact row_at (idx0 t).2.2.2.1.1 (lt_of_lt_of_eq t.isLt N_0) j
  · exact all_at (idx0 t).2.2.2.1.2 l

theorem final0_4 (c : Dev nD) (t : Fin cfg0.N) (j : Fin 512) (l : Fin 4096) :
    ((dat0 V c).arrAt 4 cfg0.N : Vec F S8192x4096 .bf16) (ix2 (row t j) l) = out0_4 (iblk0 V c 0 t) (iblk0 V c 1 t) (iblk0 V c 2 t) (ix2 j l) := by
  have h := (dat0 V c).arrAt_emb_eq_flushed 4 (fun t t' _ _ hne => (cfg0.win 4).disjoint_blk fun h => hne
    ((by decide +kernel : ∀ t t' : Fin grid0.N, win0_4.index t = win0_4.index t' → t = t') t t' h)) t (flush0_4 t) (ix2 j l)
  rw [show (dat0 V c).flushed 4 t = (cfg0.win 4).cut (grid0.coords t) (out0_4 (iblk0 V c 0 t) (iblk0 V c 1 t) (iblk0 V c 2 t)) by
    show (cfg0.win 4).cut (grid0.coords t) ((dat0 V c).after 4 t) = _
    rw [after0_4]] at h
  generalize out0_4 (iblk0 V c 0 t) (iblk0 V c 1 t) (iblk0 V c 2 t) = o at h ⊢
  refine (at2 ((dat0 V c).arrAt 4 cfg0.N : Vec F S8192x4096 .bf16) ?_ ?_).symm.trans h
  · exact row_at (idx0 t).2.2.2.2.1.1 (lt_of_lt_of_eq t.isLt N_0) j
  · exact all_at (idx0 t).2.2.2.2.1.2 l

theorem final0_5 (c : Dev nD) (t : Fin cfg0.N) (j : Fin 512) (l : Fin 4096) :
    ((dat0 V c).arrAt 5 cfg0.N : Vec F S8192x4096 .bf16) (ix2 (row t j) l) = out0_5 (iblk0 V c 0 t) (iblk0 V c 1 t) (iblk0 V c 2 t) (ix2 j l) := by
  have h := (dat0 V c).arrAt_emb_eq_flushed 5 (fun t t' _ _ hne => (cfg0.win 5).disjoint_blk fun h => hne
    ((by decide +kernel : ∀ t t' : Fin grid0.N, win0_5.index t = win0_5.index t' → t = t') t t' h)) t (flush0_5 t) (ix2 j l)
  rw [show (dat0 V c).flushed 5 t = (cfg0.win 5).cut (grid0.coords t) (out0_5 (iblk0 V c 0 t) (iblk0 V c 1 t) (iblk0 V c 2 t)) by
    show (cfg0.win 5).cut (grid0.coords t) ((dat0 V c).after 5 t) = _
    rw [after0_5]] at h
  generalize out0_5 (iblk0 V c 0 t) (iblk0 V c 1 t) (iblk0 V c 2 t) = o at h ⊢
  refine (at2 ((dat0 V c).arrAt 5 cfg0.N : Vec F S8192x4096 .bf16) ?_ ?_).symm.trans h
  · exact row_at (idx0 t).2.2.2.2.2.1 (lt_of_lt_of_eq t.isLt N_0) j
  · exact all_at (idx0 t).2.2.2.2.2.2 l

/-- Call 1's index maps: the windows of rows move by one tile a point, the others stay. -/
theorem idx1 : ∀ t : Fin grid1.N, (win1_0.index t 0 = t.val ∧ win1_0.index t 1 = 0)
    ∧ (win1_1.index t 0 = 0 ∧ win1_1.index t 1 = 0)
    ∧ (win1_2.index t 0 = t.val ∧ win1_2.index t 1 = 0)
    ∧ (win1_3.index t 0 = 0 ∧ win1_3.index t 1 = 0)
    ∧ (win1_4.index t 0 = t.val ∧ win1_4.index t 1 = 0)
    ∧ (win1_5.index t 0 = t.val ∧ win1_5.index t 1 = 0) := by decide +kernel

theorem blk1_0 (c : Dev nD) (t : Fin cfg1.N) (j : Fin 512) (l : Fin 4096) :
    (iblk1 V c 0 t : Vec F S512x4096 .bf16) (ix2 j l) = (V c main_v4_1 : Vec F S8192x4096 .bf16) (ix2 (row t j) l) := by
  unfold iblk1
  rw [View.read_apply]
  exact at2 (V c main_v4_1 : Vec F S8192x4096 .bf16) (row_at (idx1 t).1.1 (lt_of_lt_of_eq t.isLt N_1) j) (all_at (idx1 t).1.2 l)

theorem blk1_1 (c : Dev nD) (t : Fin cfg1.N) : (iblk1 V c 1 t : Vec F S4096x1024 .bf16) = (V c main_v0 : Vec F S4096x1024 .bf16) := funext fun i => by
  unfold iblk1
  rw [View.read_apply, eq_ix2 i]
  exact at2 (V c main_v0 : Vec F S4096x1024 .bf16) (all_at (idx1 t).2.1.1 (i 0)) (all_at (idx1 t).2.1.2 (i 1))

theorem blk1_2 (c : Dev nD) (t : Fin cfg1.N) (j : Fin 512) (l : Fin 1024) :
    (iblk1 V c 2 t : Vec F S512x1024 .f32) (ix2 j l) = (V c main_arg0 : Vec F S8192x1024 .f32) (ix2 (row t j) l) := by
  unfold iblk1
  rw [View.read_apply]
  exact at2 (V c main_arg0 : Vec F S8192x1024 .f32) (row_at (idx1 t).2.2.1.1 (lt_of_lt_of_eq t.isLt N_1) j) (all_at (idx1 t).2.2.1.2 l)

theorem blk1_3 (c : Dev nD) (t : Fin cfg1.N) : (iblk1 V c 3 t : Vec F S1x1024 .f32) = (V c main_v1 : Vec F S1x1024 .f32) := funext fun i => by
  unfold iblk1
  rw [View.read_apply, eq_ix2 i]
  exact at2 (V c main_v1 : Vec F S1x1024 .f32) (all_at (idx1 t).2.2.2.1.1 (i 0)) (all_at (idx1 t).2.2.2.1.2 (i 1))

theorem final1_4 (c : Dev nD) (t : Fin cfg1.N) (j : Fin 512) (l : Fin 1024) :
    ((dat1 V c).arrAt 4 cfg1.N : Vec F S8192x1024 .f32) (ix2 (row t j) l) = out1_4 (iblk1 V c 0 t) (iblk1 V c 1 t) (iblk1 V c 2 t) (iblk1 V c 3 t) (ix2 j l) := by
  have h := (dat1 V c).arrAt_emb_eq_flushed 4 (fun t t' _ _ hne => (cfg1.win 4).disjoint_blk fun h => hne
    ((by decide +kernel : ∀ t t' : Fin grid1.N, win1_4.index t = win1_4.index t' → t = t') t t' h)) t (flush1_4 t) (ix2 j l)
  rw [show (dat1 V c).flushed 4 t = (cfg1.win 4).cut (grid1.coords t) (out1_4 (iblk1 V c 0 t) (iblk1 V c 1 t) (iblk1 V c 2 t) (iblk1 V c 3 t)) by
    show (cfg1.win 4).cut (grid1.coords t) ((dat1 V c).after 4 t) = _
    rw [after1_4]] at h
  generalize out1_4 (iblk1 V c 0 t) (iblk1 V c 1 t) (iblk1 V c 2 t) (iblk1 V c 3 t) = o at h ⊢
  refine (at2 ((dat1 V c).arrAt 4 cfg1.N : Vec F S8192x1024 .f32) ?_ ?_).symm.trans h
  · exact row_at (idx1 t).2.2.2.2.1.1 (lt_of_lt_of_eq t.isLt N_1) j
  · exact all_at (idx1 t).2.2.2.2.1.2 l

theorem final1_5 (c : Dev nD) (t : Fin cfg1.N) (j : Fin 512) (l : Fin 1024) :
    ((dat1 V c).arrAt 5 cfg1.N : Vec F S8192x1024 .f32) (ix2 (row t j) l) = out1_5 (iblk1 V c 0 t) (iblk1 V c 1 t) (iblk1 V c 2 t) (iblk1 V c 3 t) (ix2 j l) := by
  have h := (dat1 V c).arrAt_emb_eq_flushed 5 (fun t t' _ _ hne => (cfg1.win 5).disjoint_blk fun h => hne
    ((by decide +kernel : ∀ t t' : Fin grid1.N, win1_5.index t = win1_5.index t' → t = t') t t' h)) t (flush1_5 t) (ix2 j l)
  rw [show (dat1 V c).flushed 5 t = (cfg1.win 5).cut (grid1.coords t) (out1_5 (iblk1 V c 0 t) (iblk1 V c 1 t) (iblk1 V c 2 t) (iblk1 V c 3 t)) by
    show (cfg1.win 5).cut (grid1.coords t) ((dat1 V c).after 5 t) = _
    rw [after1_5]] at h
  generalize out1_5 (iblk1 V c 0 t) (iblk1 V c 1 t) (iblk1 V c 2 t) (iblk1 V c 3 t) = o at h ⊢
  refine (at2 ((dat1 V c).arrAt 5 cfg1.N : Vec F S8192x1024 .f32) ?_ ?_).symm.trans h
  · exact row_at (idx1 t).2.2.2.2.2.1 (lt_of_lt_of_eq t.isLt N_1) j
  · exact all_at (idx1 t).2.2.2.2.2.2 l

/-- Call 2's index maps: the windows of rows move by one tile a point, the others stay. -/
theorem idx2 : ∀ t : Fin grid2.N, (win2_0.index t 0 = t.val ∧ win2_0.index t 1 = 0)
    ∧ (win2_1.index t 0 = t.val ∧ win2_1.index t 1 = 0)
    ∧ (win2_2.index t 0 = 0 ∧ win2_2.index t 1 = 0)
    ∧ (win2_3.index t 0 = 0 ∧ win2_3.index t 1 = 0)
    ∧ (win2_4.index t 0 = t.val ∧ win2_4.index t 1 = 0)
    ∧ (win2_5.index t 0 = t.val ∧ win2_5.index t 1 = 0)
    ∧ (win2_6.index t 0 = t.val ∧ win2_6.index t 1 = 0)
    ∧ (win2_7.index t 0 = 0 ∧ win2_7.index t 1 = 0) := by decide +kernel

theorem blk2_0 (c : Dev nD) (t : Fin cfg2.N) (j : Fin 512) (l : Fin 1024) :
    (iblk2 V c 0 t : Vec F S512x1024 .f32) (ix2 j l) = (V c main_v5_0 : Vec F S8192x1024 .f32) (ix2 (row t j) l) := by
  unfold iblk2
  rw [View.read_apply]
  exact at2 (V c main_v5_0 : Vec F S8192x1024 .f32) (row_at (idx2 t).1.1 (lt_of_lt_of_eq t.isLt N_2) j) (all_at (idx2 t).1.2 l)

theorem blk2_1 (c : Dev nD) (t : Fin cfg2.N) (j : Fin 512) (l : Fin 1024) :
    (iblk2 V c 1 t : Vec F S512x1024 .f32) (ix2 j l) = (V c main_arg5 : Vec F S8192x1024 .f32) (ix2 (row t j) l) := by
  unfold iblk2
  rw [View.read_apply]
  exact at2 (V c main_arg5 : Vec F S8192x1024 .f32) (row_at (idx2 t).2.1.1 (lt_of_lt_of_eq t.isLt N_2) j) (all_at (idx2 t).2.1.2 l)

theorem blk2_2 (c : Dev nD) (t : Fin cfg2.N) : (iblk2 V c 2 t : Vec F S1x1024 .f32) = (V c main_v1 : Vec F S1x1024 .f32) := funext fun i => by
  unfold iblk2
  rw [View.read_apply, eq_ix2 i]
  exact at2 (V c main_v1 : Vec F S1x1024 .f32) (all_at (idx2 t).2.2.1.1 (i 0)) (all_at (idx2 t).2.2.1.2 (i 1))

theorem blk2_3 (c : Dev nD) (t : Fin cfg2.N) : (iblk2 V c 3 t : Vec F S4096x1024 .bf16) = (V c main_v0 : Vec F S4096x1024 .bf16) := funext fun i => by
  unfold iblk2
  rw [View.read_apply, eq_ix2 i]
  exact at2 (V c main_v0 : Vec F S4096x1024 .bf16) (all_at (idx2 t).2.2.2.1.1 (i 0)) (all_at (idx2 t).2.2.2.1.2 (i 1))

theorem blk2_4 (c : Dev nD) (t : Fin cfg2.N) (j : Fin 512) (l : Fin 4096) :
    (iblk2 V c 4 t : Vec F S512x4096 .bf16) (ix2 j l) = (V c main_v4_2 : Vec F S8192x4096 .bf16) (ix2 (row t j) l) := by
  unfold iblk2
  rw [View.read_apply]
  exact at2 (V c main_v4_2 : Vec F S8192x4096 .bf16) (row_at (idx2 t).2.2.2.2.1.1 (lt_of_lt_of_eq t.isLt N_2) j) (all_at (idx2 t).2.2.2.2.1.2 l)

theorem final2_5 (c : Dev nD) (t : Fin cfg2.N) (j : Fin 512) (l : Fin 1024) :
    ((dat2 V c).arrAt 5 cfg2.N : Vec F S8192x1024 .bf16) (ix2 (row t j) l) = (outsAt2 V c t.val t.isLt).1 (ix2 j l) := by
  have h := (dat2 V c).arrAt_emb_eq_flushed 5 (fun t t' _ _ hne => (cfg2.win 5).disjoint_blk fun h => hne
    ((by decide +kernel : ∀ t t' : Fin grid2.N, win2_5.index t = win2_5.index t' → t = t') t t' h)) t (flush2_5 t) (ix2 j l)
  rw [show (dat2 V c).flushed 5 t = (cfg2.win 5).cut (grid2.coords t) ((outsAt2 V c t.val t.isLt).1) by
    show (cfg2.win 5).cut (grid2.coords t) ((dat2 V c).after 5 t) = _
    rw [after2_5]] at h
  generalize (outsAt2 V c t.val t.isLt).1 = o at h ⊢
  refine (at2 ((dat2 V c).arrAt 5 cfg2.N : Vec F S8192x1024 .bf16) ?_ ?_).symm.trans h
  · exact row_at (idx2 t).2.2.2.2.2.1.1 (lt_of_lt_of_eq t.isLt N_2) j
  · exact all_at (idx2 t).2.2.2.2.2.1.2 l

theorem final2_6 (c : Dev nD) (t : Fin cfg2.N) (j : Fin 512) (l : Fin 4096) :
    ((dat2 V c).arrAt 6 cfg2.N : Vec F S8192x4096 .bf16) (ix2 (row t j) l) = (outsAt2 V c t.val t.isLt).2.1 (ix2 j l) := by
  have h := (dat2 V c).arrAt_emb_eq_flushed 6 (fun t t' _ _ hne => (cfg2.win 6).disjoint_blk fun h => hne
    ((by decide +kernel : ∀ t t' : Fin grid2.N, win2_6.index t = win2_6.index t' → t = t') t t' h)) t (flush2_6 t) (ix2 j l)
  rw [show (dat2 V c).flushed 6 t = (cfg2.win 6).cut (grid2.coords t) ((outsAt2 V c t.val t.isLt).2.1) by
    show (cfg2.win 6).cut (grid2.coords t) ((dat2 V c).after 6 t) = _
    rw [after2_6]] at h
  generalize (outsAt2 V c t.val t.isLt).2.1 = o at h ⊢
  refine (at2 ((dat2 V c).arrAt 6 cfg2.N : Vec F S8192x4096 .bf16) ?_ ?_).symm.trans h
  · exact row_at (idx2 t).2.2.2.2.2.2.1.1 (lt_of_lt_of_eq t.isLt N_2) j
  · exact all_at (idx2 t).2.2.2.2.2.2.1.2 l

theorem final2_7 (c : Dev nD) (t : Fin cfg2.N) (ht : t.val = 15) (z : Fin 1) (l : Fin 1024) :
    ((dat2 V c).arrAt 7 cfg2.N : Vec F S1x1024 .f32) (ix2 z l) = (outsAt2 V c t.val t.isLt).2.2 (ix2 z l) := by
  have h := (dat2 V c).arrAt_emb_eq_flushed 7 (fun t t' h h' hne => absurd (Fin.ext (by
    have hN : cfg2.N = 16 := N_2
    have h1 := (flush2_7 t).mp h
    have h2 := (flush2_7 t').mp h'
    omega)) hne) t ((flush2_7 t).mpr (by omega)) (ix2 z l)
  rw [show (dat2 V c).flushed 7 t = (cfg2.win 7).cut (grid2.coords t) ((outsAt2 V c t.val t.isLt).2.2) by
    show (cfg2.win 7).cut (grid2.coords t) ((dat2 V c).after 7 t) = _
    rw [after2_7]] at h
  generalize (outsAt2 V c t.val t.isLt).2.2 = o at h ⊢
  refine (at2 ((dat2 V c).arrAt 7 cfg2.N : Vec F S1x1024 .f32) ?_ ?_).symm.trans h
  · exact all_at (idx2 t).2.2.2.2.2.2.2.1 z
  · exact all_at (idx2 t).2.2.2.2.2.2.2.2 l

end Cert.DownIdeal.Result

end
-- ==== Proof.DownTile.lean ====
/-
  The feed-forward block's three calls on one tile of rows, over the extended reals: each result's elements from what
  the windows hold.
-/
module

public import proofs.«01_k».proof.Proof.DownBlock
public import proofs.«01_k».proof.Proof.Norm

@[expose] public section

set_option maxRecDepth 16384

noncomputable section

namespace Cert.DownIdeal.Result

open Cert.DownIdeal Cert.DownIdeal.Gen Cert.Rows Cert.Tiles Cert.Norm Idealize.ShloMosaic Idealize.ShloMosaic.TcCoe Idealize.SL.Sem
open Idealize.ShloMosaic.Pointwise

/-- A row of a tile, and the gain's row. -/
abbrev tr {a : ℕ} (x : Vec Ideal ⟨2, ![a, 1024]⟩ .f32) (j : Fin a) : Fin 1024 → EReal := fun l => x (ix2 j l)

/-- The first product's element before and after the cut at zero, from one column of the weight. -/
def hid (x : Vec Ideal S512x1024 .f32) (g : Vec Ideal S1x1024 .f32) (j : Fin 512) (w : Fin 1024 → EReal) : EReal :=
  max (∑ l : Fin 1024, normed (1 / 1024) (tr x j) (tr g 0) l * w l) 0

variable (x : Vec Ideal S512x1024 .f32) (g : Vec Ideal S1x1024 .f32) (j : Fin 512)

theorem pay_norm (l : Fin 1024) : k0_pay1 (F := Ideal) x g (ix2 j l) = normed (1 / 1024) (tr x j) (tr g 0) l := by
  pointwise [k0_pay1, ofBits_inv1024, ofBits_eps, rstd, normed]

/-- A column of the first product: cut at zero and squared, or doubled. -/
theorem pay_sq (w : Vec Ideal S1024x1024 .bf16) (k : Fin 1024) : k0_pay3 (F := Ideal) x g w (ix2 j k)
    = hid x g j (fun l => w (ix2 l k)) * hid x g j (fun l => w (ix2 l k)) := by
  pointwise [k0_pay3, k0_pay2, pay_norm, hid]

theorem pay_two (w : Vec Ideal S1024x1024 .bf16) (k : Fin 1024) : k0_pay4 (F := Ideal) x g w (ix2 j k)
    = ((2 : ℝ) : EReal) * hid x g j (fun l => w (ix2 l k)) := by
  pointwise [k0_pay4, k0_pay2, pay_norm, hid, ofBits_two]

/-- The other three quarters of the columns are computed alike. -/
theorem pay_sq1 (w : Vec Ideal S1024x1024 .bf16) : k0_pay6 (F := Ideal) (k0_pay5 x g w) = k0_pay3 x g w := rfl
theorem pay_sq2 (w : Vec Ideal S1024x1024 .bf16) : k0_pay9 (F := Ideal) (k0_pay1 x g) w = k0_pay3 x g w := rfl
theorem pay_sq3 (w : Vec Ideal S1024x1024 .bf16) : k0_pay12 (F := Ideal) (k0_pay1 x g) w = k0_pay3 x g w := rfl
theorem pay_two1 (w : Vec Ideal S1024x1024 .bf16) : k0_pay7 (F := Ideal) (k0_pay5 x g w) = k0_pay4 x g w := rfl
theorem pay_two2 (w : Vec Ideal S1024x1024 .bf16) : k0_pay10 (F := Ideal) (k0_pay1 x g) w = k0_pay4 x g w := rfl
theorem pay_two3 (w : Vec Ideal S1024x1024 .bf16) : k0_pay13 (F := Ideal) (k0_pay1 x g) w = k0_pay4 x g w := rfl

/-- The first call's results on a tile. -/
theorem out_hn (w : Vec Ideal S1024x4096 .bf16) (l : Fin 1024) : out0_3 (F := Ideal) x g w (ix2 j l) = normed (1 / 1024) (tr x j) (tr g 0) l := by
  unfold out0_3
  rw [View.canon_unit_zero hz, ld_all, ld_all]
  exact pay_norm x g j l

/-- A tile put together from four column quarters, each computed from a quarter of the weight's columns alike. -/
theorem quarters (P : Vec Ideal S1024x1024 .bf16 → Vec Ideal S512x1024 .bf16) (φ : Fin 512 → (Fin 1024 → EReal) → EReal)
    (hP : ∀ w j k, P w (ix2 j k) = φ j (fun l => w (ix2 l k))) (w : Vec Ideal S1024x4096 .bf16) (k : Fin 4096) :
    (View.canon [⟨r0_9, P (View.ld w r0_8)⟩, ⟨r0_7, P (View.ld w r0_6)⟩, ⟨r0_5, P (View.ld w r0_4)⟩, ⟨r0_3, P (View.ld w r0_2)⟩]
      : Vec Ideal S512x4096 .bf16) (ix2 j k) = φ j (fun l => w (ix2 l k)) := by
  have hp : ∀ (off : ℕ) (hin) (hb : off + 1024 ≤ 4096) (j : Fin 512) (k : Fin 1024),
      P (View.ld w (Rect.unit (s := S1024x4096) ![0, off] S1024x1024.size hin)) (ix2 j k)
        = (fun j k => φ j (fun l => w (ix2 l k))) j (⟨off + k, by omega⟩ : Fin 4096) :=
    fun off hin hb j k => (hP _ j k).trans (congrArg (φ j) (funext fun l => ld_cols w hin l k (by omega)))
  refine View.canon_apply_of_pieces (Val := Elt Ideal) (e := .bf16) (fun y : S512x4096.Idx => (fun (j : Fin 512) (k : Fin 4096) =>
      φ j (fun l => w (ix2 l k))) (y 0) (y 1)) _ ?_ (ix2 j k) (cover0_4 _ _ _ _ _)
  refine List.forall_mem_cons.mpr ⟨?_, List.forall_mem_cons.mpr ⟨?_, List.forall_mem_cons.mpr ⟨?_, List.forall_mem_cons.mpr
    ⟨?_, fun _ h => absurd h List.not_mem_nil⟩⟩⟩⟩
  · exact piece_cols (a := 512) (b := 4096) (n := 1024) (off := 3072) (fun j k => φ j (fun l => w (ix2 l k))) _ (by decide) (by norm_num) (hp 3072 _ (by norm_num))
  · exact piece_cols (a := 512) (b := 4096) (n := 1024) (off := 2048) (fun j k => φ j (fun l => w (ix2 l k))) _ (by decide) (by norm_num) (hp 2048 _ (by norm_num))
  · exact piece_cols (a := 512) (b := 4096) (n := 1024) (off := 1024) (fun j k => φ j (fun l => w (ix2 l k))) _ (by decide) (by norm_num) (hp 1024 _ (by norm_num))
  · exact piece_cols (a := 512) (b := 4096) (n := 1024) (off := 0) (fun j k => φ j (fun l => w (ix2 l k))) _ (by decide) (by norm_num) (hp 0 _ (by norm_num))

theorem out_a (w : Vec Ideal S1024x4096 .bf16) (k : Fin 4096) : out0_4 (F := Ideal) x g w (ix2 j k)
    = hid x g j (fun l => w (ix2 l k)) * hid x g j (fun l => w (ix2 l k)) := by
  unfold out0_4 k0_pay14 k0_pay15
  rw [ld_all x, ld_all g, pay_sq1, pay_sq2, pay_sq3]
  exact quarters j (k0_pay3 (F := Ideal) x g) (fun j u => hid x g j u * hid x g j u) (fun w j k => pay_sq x g j w k) w k

theorem out_r2 (w : Vec Ideal S1024x4096 .bf16) (k : Fin 4096) : out0_5 (F := Ideal) x g w (ix2 j k)
    = ((2 : ℝ) : EReal) * hid x g j (fun l => w (ix2 l k)) := by
  unfold out0_5 k0_pay14 k0_pay15
  rw [ld_all x, ld_all g, pay_two1, pay_two2, pay_two3]
  exact quarters j (k0_pay4 (F := Ideal) x g) (fun j u => ((2 : ℝ) : EReal) * hid x g j u) (fun w j k => pay_two x g j w k) w k

theorem pay_f (a : Vec Ideal S512x4096 .bf16) (w : Vec Ideal S4096x1024 .bf16) (l : Fin 1024) :
    k1_pay1 (F := Ideal) a w (ix2 j l) = ∑ k : Fin 4096, a (ix2 j k) * w (ix2 k l) := by
  pointwise [k1_pay1]

/-- The second call's results on a tile. -/
theorem out_f (a : Vec Ideal S512x4096 .bf16) (w : Vec Ideal S4096x1024 .bf16) (l : Fin 1024) :
    out1_4 (F := Ideal) a w x g (ix2 j l) = ∑ k : Fin 4096, a (ix2 j k) * w (ix2 k l) := by
  unfold out1_4
  rw [View.canon_unit_zero hz, ld_all, ld_all]
  exact pay_f j a w l

theorem out_x2 (a : Vec Ideal S512x4096 .bf16) (w : Vec Ideal S4096x1024 .bf16) (l : Fin 1024) :
    out1_5 (F := Ideal) a w x g (ix2 j l)
      = x (ix2 j l) + normed (1 / 1024) (fun l => ∑ k : Fin 4096, a (ix2 j k) * w (ix2 k l)) (tr g 0) l := by
  unfold out1_5
  rw [View.canon_unit_zero hz, ld_all, ld_all, ld_all, ld_all]
  pointwise [k1_pay2, pay_f, ofBits_inv1024, ofBits_eps, rstd, normed]

variable (d : Vec Ideal S512x1024 .f32)

/-- The gradient at the second product's result, from the norm's gradient, -/
theorem pay_df (l : Fin 1024) : k2_pay7 (F := Ideal) x g d (ix2 j l)
    = back (1 / 1024) (tr x j) (fun l => d (ix2 j l) * g (ix2 0 l)) l := by
  pointwise [k2_pay7, k2_pay2, k2_pay3, k2_pay4, ofBits_inv1024, ofBits_eps, rstd, back]

/-- the part of the gain's gradient that a tile adds, -/
theorem pay_dg (acc : Vec Ideal S1x1024 .f32) (z : Fin 1) (l : Fin 1024) : k2_pay6 (F := Ideal) x d acc (ix2 z l)
    = acc (ix2 z l) + ∑ j : Fin 512, d (ix2 j l) * (x (ix2 j l) * rstd (1 / 1024) (tr x j)) := by
  pointwise [k2_pay6, k2_pay2, k2_pay3, k2_pay4, ofBits_inv1024, ofBits_eps, rstd, Fin.sum_univ_one]

/-- and a column of the gradient at the first product's result. -/
theorem pay_dh (e : Vec Ideal S512x1024 .bf16) (w : Vec Ideal S1024x1024 .bf16) (r : Vec Ideal S512x1024 .bf16) (k : Fin 1024) :
    k2_pay8 (F := Ideal) e w r (ix2 j k) = (∑ l : Fin 1024, e (ix2 j l) * w (ix2 k l)) * r (ix2 j k) := by
  pointwise [k2_pay8]

theorem pay_dh1 : k2_pay9 (F := Ideal) = k2_pay8 := rfl
theorem pay_dh2 : k2_pay10 (F := Ideal) = k2_pay8 := rfl
theorem pay_dh3 (e : Vec Ideal S512x1024 .bf16) (w : Vec Ideal S1024x1024 .bf16) (r : Vec Ideal S512x1024 .bf16) :
    k2_pay1 (F := Ideal) (k2_pay11 e w) r = k2_pay8 e w r := rfl

section
variable (V : (c : Dev nD) → (b : Ref sig .tc) → Buf (Elt Ideal) ((c : Thread nD τ).loc b)) (c : Dev nD)

/-- What the third call leaves at a point: the gradient at the second product's result, -/
theorem outs_df (t : Fin cfg2.N) : (outsAt2 V c t.val t.isLt).1 = k2_pay7 (iblk2 V c 0 t) (iblk2 V c 2 t) (iblk2 V c 1 t) := by
  by_cases h : t.val % 16 = 0
  · rw [outsAt2_A V c t h]
    dsimp only
    unfold out2_A_5
    rw [View.read_writes_eq_canon _ _ _ (fun _ => cover2_A_5 ..)]
    unfold kernelRun2_A
    dsimp only
    sl_unfold_words
    rw [View.canon_unit_zero hz]
    simp only [View.readAt_eq_ld, (hs2_0 t).read_unread, (hs2_1 t).read_unread, (hs2_2 t).read_unread, ld_all]
  · rw [outsAt2_B V c t h]
    dsimp only
    unfold out2_B_5
    rw [View.read_writes_eq_canon _ _ _ (fun _ => cover2_B_5 ..)]
    unfold kernelRun2_B
    dsimp only
    sl_unfold_words
    rw [View.canon_unit_zero hz]
    simp only [View.readAt_eq_ld, (hs2_0 t).read_unread, (hs2_1 t).read_unread, (hs2_2 t).read_unread, ld_all]

/-- A tile put together from four column quarters, each from a quarter of the weight's rows and of the saved tile's columns. -/
theorem quarters' (e : Vec Ideal S512x1024 .bf16) (w : Vec Ideal S4096x1024 .bf16) (r : Vec Ideal S512x4096 .bf16) (k : Fin 4096)
    {h0 h1 h2 h3} {i0 i1 i2 i3} {o0 o1 o2 o3} :
    (View.canon [
        ⟨Rect.unit (s := S512x4096) ![0, 3072] S512x1024.size o3, k2_pay8 e (View.ld w (Rect.unit (s := S4096x1024) ![3072, 0] S1024x1024.size h3)) (View.ld r (Rect.unit (s := S512x4096) ![0, 3072] S512x1024.size i3))⟩,
        ⟨Rect.unit (s := S512x4096) ![0, 2048] S512x1024.size o2, k2_pay8 e (View.ld w (Rect.unit (s := S4096x1024) ![2048, 0] S1024x1024.size h2)) (View.ld r (Rect.unit (s := S512x4096) ![0, 2048] S512x1024.size i2))⟩,
        ⟨Rect.unit (s := S512x4096) ![0, 1024] S512x1024.size o1, k2_pay8 e (View.ld w (Rect.unit (s := S4096x1024) ![1024, 0] S1024x1024.size h1)) (View.ld r (Rect.unit (s := S512x4096) ![0, 1024] S512x1024.size i1))⟩,
        ⟨Rect.unit (s := S512x4096) ![0, 0] S512x1024.size o0, k2_pay8 e (View.ld w (Rect.unit (s := S4096x1024) ![0, 0] S1024x1024.size h0)) (View.ld r (Rect.unit (s := S512x4096) ![0, 0] S512x1024.size i0))⟩]
      : Vec Ideal S512x4096 .bf16) (ix2 j k) = (∑ l : Fin 1024, e (ix2 j l) * w (ix2 k l)) * r (ix2 j k) := by
  have hp : ∀ (off : ℕ) (hin) (hin') (hb : off + 1024 ≤ 4096) (j : Fin 512) (k : Fin 1024),
      k2_pay8 (F := Ideal) e (View.ld w (Rect.unit (s := S4096x1024) ![off, 0] S1024x1024.size hin)) (View.ld r (Rect.unit (s := S512x4096) ![0, off] S512x1024.size hin')) (ix2 j k)
        = (fun j k => (∑ l : Fin 1024, e (ix2 j l) * w (ix2 k l)) * r (ix2 j k)) j (⟨off + k, by omega⟩ : Fin 4096) :=
    fun off hin hin' hb j k => (pay_dh j e _ _ k).trans
      (congrArg₂ (· * ·) (Finset.sum_congr rfl fun l _ => congrArg (e (ix2 j l) * ·) (ld_rows w hin k l (by omega))) (ld_cols r hin' j k (by omega)))
  refine View.canon_apply_of_pieces (Val := Elt Ideal) (e := .bf16) (fun y : S512x4096.Idx => (fun (j : Fin 512) (k : Fin 4096) =>
      (∑ l : Fin 1024, e (ix2 j l) * w (ix2 k l)) * r (ix2 j k)) (y 0) (y 1)) _ ?_ (ix2 j k) (cover0_4 _ _ _ _ _)
  refine List.forall_mem_cons.mpr ⟨?_, List.forall_mem_cons.mpr ⟨?_, List.forall_mem_cons.mpr ⟨?_, List.forall_mem_cons.mpr
    ⟨?_, fun _ h => absurd h List.not_mem_nil⟩⟩⟩⟩
  · exact piece_cols (a := 512) (b := 4096) (n := 1024) (off := 3072) (fun j k => (∑ l : Fin 1024, e (ix2 j l) * w (ix2 k l)) * r (ix2 j k)) _ (by decide) (by norm_num) (hp 3072 _ _ (by norm_num))
  · exact piece_cols (a := 512) (b := 4096) (n := 1024) (off := 2048) (fun j k => (∑ l : Fin 1024, e (ix2 j l) * w (ix2 k l)) * r (ix2 j k)) _ (by decide) (by norm_num) (hp 2048 _ _ (by norm_num))
  · exact piece_cols (a := 512) (b := 4096) (n := 1024) (off := 1024) (fun j k => (∑ l : Fin 1024, e (ix2 j l) * w (ix2 k l)) * r (ix2 j k)) _ (by decide) (by norm_num) (hp 1024 _ _ (by norm_num))
  · exact piece_cols (a := 512) (b := 4096) (n := 1024) (off := 0) (fun j k => (∑ l : Fin 1024, e (ix2 j l) * w (ix2 k l)) * r (ix2 j k)) _ (by decide) (by norm_num) (hp 0 _ _ (by norm_num))

/-- the gradient at the first product's result, -/
theorem outs_dh (t : Fin cfg2.N) (k : Fin 4096) : (outsAt2 V c t.val t.isLt).2.1 (ix2 j k)
    = (∑ l : Fin 1024, k2_pay7 (iblk2 V c 0 t) (iblk2 V c 2 t) (iblk2 V c 1 t) (ix2 j l) * (iblk2 V c 3 t : Vec Ideal S4096x1024 .bf16) (ix2 k l))
      * (iblk2 V c 4 t : Vec Ideal S512x4096 .bf16) (ix2 j k) := by
  by_cases h : t.val % 16 = 0
  · rw [outsAt2_A V c t h]
    dsimp only
    unfold out2_A_6
    rw [View.read_writes_eq_canon _ _ _ (fun _ => cover2_A_6 ..)]
    unfold kernelRun2_A
    dsimp only
    sl_unfold_words
    simp only [View.readAt_eq_ld, (hs2_0 t).read_unread, (hs2_1 t).read_unread, (hs2_2 t).read_unread, (hs2_3 t).read_unread,
      (hs2_4 t).read_unread, ld_all, pay_dh1, pay_dh2, pay_dh3]
    exact quarters' j _ _ _ k
  · rw [outsAt2_B V c t h]
    dsimp only
    unfold out2_B_6
    rw [View.read_writes_eq_canon _ _ _ (fun _ => cover2_B_6 ..)]
    unfold kernelRun2_B
    dsimp only
    sl_unfold_words
    simp only [View.readAt_eq_ld, (hs2_0 t).read_unread, (hs2_1 t).read_unread, (hs2_2 t).read_unread, (hs2_3 t).read_unread,
      (hs2_4 t).read_unread, ld_all, pay_dh1, pay_dh2, pay_dh3]
    exact quarters' j _ _ _ k

/-- and the gain's gradient: after the first point the first tile's part over zeros, -/
theorem outs_dg_zero (h : 0 < cfg2.N) : (outsAt2 V c 0 h).2.2 = k2_pay6 (iblk2 V c 0 ⟨0, h⟩) (iblk2 V c 1 ⟨0, h⟩) (k2_pay5 (F := Ideal)) := by
  refine (congrArg (fun q => q.2.2) (outsAt2_A V c ⟨0, h⟩ (Nat.zero_mod _))).trans ?_
  dsimp only
  unfold out2_A_7
  rw [View.read_writes_eq_canon _ _ _ (fun _ => cover2_A_7 ..)]
  unfold kernelRun2_A
  dsimp only
  sl_unfold_words
  rw [View.canon_cons_unit_zero hz, View.readCov_unit_zero _ hz]
  simp only [View.readAt_eq_ld, (hs2_0 _).read_unread, (hs2_1 _).read_unread, ld_all]

/-- and after a later point that tile's part over what was there. -/
theorem outs_dg_succ (n : ℕ) (h : n + 1 < cfg2.N) : (outsAt2 V c (n + 1) h).2.2
    = k2_pay6 (iblk2 V c 0 ⟨n + 1, h⟩) (iblk2 V c 1 ⟨n + 1, h⟩) (outsAt2 V c n (Nat.lt_of_succ_lt h)).2.2 := by
  have hN : cfg2.N = 16 := N_2
  have hB : ¬(⟨n + 1, h⟩ : Fin cfg2.N).val % 16 = 0 := by dsimp only; omega
  refine (congrArg (fun q => q.2.2) (outsAt2_B V c ⟨n + 1, h⟩ hB)).trans ?_
  dsimp only
  unfold out2_B_7
  rw [View.read_writes_eq_canon _ _ _ (fun _ => cover2_B_7 ..)]
  unfold kernelRun2_B
  dsimp only
  sl_unfold_words
  rw [View.canon_unit_zero hz]
  simp only [View.readAt_eq_ld, (hs2_0 _).read_unread, (hs2_1 _).read_unread, (hs2_7 _).read_unread, ld_all]
  rfl

end

end Cert.DownIdeal.Result

end
-- ==== Proof.DownRun.lean ====
/-
  The feed-forward block's program of three calls, run: what every buffer holds at its end.
-/
module

public import proofs.«01_k».proof.Proof.Gen.DownIdeal.Frame

@[expose] public section

noncomputable section

namespace Cert.DownIdeal.Result

open Cert.DownIdeal Cert.DownIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's arguments are found by unification through plain definitions
set_option backward.isDefEq.respectTransparency.types false in
/-- The whole program's run: it ends with every buffer at what the last call leaves (`W4`) and every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame, from that run: the arguments as launched. -/
theorem args (c : Dev nD) {s : (ℓ : Loc nD τ sig) → Buf (Elt F) ℓ} (h : ∀ b ∈ Pipeline.ucRefs τ sig, s (((c : Thread nD τ)).1, b) = W4 m ρ c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5) :=
  ⟨(h _ (mem_uc main_arg0 (by decide))).trans (W4_main_arg0 m ρ c),
    (h _ (mem_uc main_arg1 (by decide))).trans (W4_main_arg1 m ρ c),
    (h _ (mem_uc main_arg2 (by decide))).trans (W4_main_arg2 m ρ c),
    (h _ (mem_uc main_arg3 (by decide))).trans (W4_main_arg3 m ρ c),
    (h _ (mem_uc main_arg4 (by decide))).trans (W4_main_arg4 m ρ c),
    (h _ (mem_uc main_arg5 (by decide))).trans (W4_main_arg5 m ρ c)⟩

end Cert.DownIdeal.Result

end
-- ==== Proof.DownValue.lean ====
/-
  The feed-forward block with the gradient of its second half, over the extended reals: the arrays the three calls
  leave, as functions of the program's arguments.
-/
module

public import proofs.«01_k».proof.Proof.DownTile
public import proofs.«01_k».proof.Proof.DownRun

@[expose] public section

set_option maxRecDepth 16384

noncomputable section

namespace Cert.DownIdeal.Result

open Cert.DownIdeal Cert.DownIdeal.Gen Cert.Rows Cert.Tiles Cert.Norm Idealize.ShloMosaic Idealize.ShloMosaic.TcCoe Idealize.SL.Sem
open Idealize.ShloMosaic.Pointwise Idealize.ShloMosaic.StableHlo

section
variable (x : Vec Ideal S8192x1024 .f32) (g : Vec Ideal S1024 .f32) (w : Vec Ideal S1024x4096 .f32) (wd : Vec Ideal S4096x1024 .f32)
  (g4 : Vec Ideal S1024 .f32) (dx2 : Vec Ideal S8192x1024 .f32) (r : Fin 8192)

/-- The normed rows, -/
def hn (l : Fin 1024) : EReal := normed (1 / 1024) (fun l => x (ix2 r l)) (fun l => g (ix1 l)) l
/-- the first product cut at zero, -/
def hd (k : Fin 4096) : EReal := max (∑ l : Fin 1024, hn x g r l * w (ix2 l k)) 0
/-- the second product, -/
def ff (l : Fin 1024) : EReal := ∑ k : Fin 4096, hd x g w r k * hd x g w r k * wd (ix2 k l)
/-- the block's output, -/
def out (l : Fin 1024) : EReal := x (ix2 r l) + normed (1 / 1024) (ff x g w wd r) (fun l => g4 (ix1 l)) l
/-- the gradient at the second product's result, -/
def df (l : Fin 1024) : EReal := back (1 / 1024) (ff x g w wd r) (fun l => dx2 (ix2 r l) * g4 (ix1 l)) l
/-- the gradient at the first product's result, -/
def dh (k : Fin 4096) : EReal := (∑ l : Fin 1024, df x g w wd g4 dx2 r l * wd (ix2 k l)) * (((2 : ℝ) : EReal) * hd x g w r k)
/-- and the gradient of the second norm's gain. -/
def dg (l : Fin 1024) : EReal := ∑ r : Fin 8192, dx2 (ix2 r l) * (ff x g w wd r l * rstd (1 / 1024) (ff x g w wd r))
end

/-- The point whose tile holds a row. -/
abbrev tile (N : ℕ) (hN : N = 16) (r : Fin 8192) : Fin N := ⟨r / 512, by rw [hN]; have := r.isLt; omega⟩

section
variable (V : (c : Dev nD) → (b : Ref sig .tc) → Buf (Elt Ideal) ((c : Thread nD τ).loc b)) (c : Dev nD)
  {A : Fin 8192 → Fin 4096 → EReal} {B : Fin 4096 → Fin 1024 → EReal} {e y f : Fin 8192 → Fin 1024 → EReal} {γ : Fin 1024 → EReal}

/-- The second call's arrays, from what the arrays that it reads hold. -/
theorem call_f (hA : ∀ r k, (V c main_v4_1 : Vec Ideal S8192x4096 .bf16) (ix2 r k) = A r k)
    (hB : ∀ k l, (V c main_v0 : Vec Ideal S4096x1024 .bf16) (ix2 k l) = B k l) (r : Fin 8192) (l : Fin 1024) :
    ((dat1 V c).arrAt 4 cfg1.N : Vec Ideal S8192x1024 .f32) (ix2 r l) = ∑ k : Fin 4096, A r k * B k l := by
  have h := final1_4 V c (tile _ N_1 r) (place r) l
  rw [out_f] at h
  simp only [blk1_0, blk1_1, hA, hB, row_place] at h
  exact h

theorem call_x2 (hA : ∀ r k, (V c main_v4_1 : Vec Ideal S8192x4096 .bf16) (ix2 r k) = A r k)
    (hB : ∀ k l, (V c main_v0 : Vec Ideal S4096x1024 .bf16) (ix2 k l) = B k l)
    (hy : ∀ r l, (V c main_arg0 : Vec Ideal S8192x1024 .f32) (ix2 r l) = y r l)
    (hγ : ∀ l, (V c main_v1 : Vec Ideal S1x1024 .f32) (ix2 0 l) = γ l) (r : Fin 8192) (l : Fin 1024) :
    ((dat1 V c).arrAt 5 cfg1.N : Vec Ideal S8192x1024 .f32) (ix2 r l)
      = y r l + normed (1 / 1024) (fun l => ∑ k : Fin 4096, A r k * B k l) γ l := by
  have h := final1_5 V c (tile _ N_1 r) (place r) l
  rw [out_x2, show tr (iblk1 V c 3 (tile _ N_1 r)) 0 = γ from funext fun l => (congrFun (blk1_3 V c _) (ix2 0 l)).trans (hγ l)] at h
  simp only [blk1_0, blk1_1, blk1_2, hA, hB, hy, row_place] at h
  exact h

/-- The third call's arrays, from what the arrays that it reads hold: on a tile, -/
theorem tile_df (hf : ∀ r l, (V c main_v5_0 : Vec Ideal S8192x1024 .f32) (ix2 r l) = f r l)
    (hy : ∀ r l, (V c main_arg5 : Vec Ideal S8192x1024 .f32) (ix2 r l) = y r l)
    (hγ : ∀ l, (V c main_v1 : Vec Ideal S1x1024 .f32) (ix2 0 l) = γ l) (t : Fin cfg2.N) (j : Fin 512) (l : Fin 1024) :
    k2_pay7 (F := Ideal) (iblk2 V c 0 t) (iblk2 V c 2 t) (iblk2 V c 1 t) (ix2 j l)
      = back (1 / 1024) (f (row t j)) (fun l => y (row t j) l * γ l) l := by
  rw [pay_df, show tr (iblk2 V c 0 t) j = f (row t j) from funext fun l => (blk2_0 V c t j l).trans (hf _ l)]
  simp only [blk2_1, blk2_2, hy, hγ]

/-- and whole. -/
theorem call_df (hf : ∀ r l, (V c main_v5_0 : Vec Ideal S8192x1024 .f32) (ix2 r l) = f r l)
    (hy : ∀ r l, (V c main_arg5 : Vec Ideal S8192x1024 .f32) (ix2 r l) = y r l)
    (hγ : ∀ l, (V c main_v1 : Vec Ideal S1x1024 .f32) (ix2 0 l) = γ l) (r : Fin 8192) (l : Fin 1024) :
    ((dat2 V c).arrAt 5 cfg2.N : Vec Ideal S8192x1024 .bf16) (ix2 r l) = back (1 / 1024) (f r) (fun l => y r l * γ l) l := by
  have h := final2_5 V c (tile _ N_2 r) (place r) l
  rw [outs_df, tile_df V c hf hy hγ, row_place] at h
  exact h

theorem call_dh (hf : ∀ r l, (V c main_v5_0 : Vec Ideal S8192x1024 .f32) (ix2 r l) = f r l)
    (hy : ∀ r l, (V c main_arg5 : Vec Ideal S8192x1024 .f32) (ix2 r l) = y r l)
    (hγ : ∀ l, (V c main_v1 : Vec Ideal S1x1024 .f32) (ix2 0 l) = γ l)
    (hB : ∀ k l, (V c main_v0 : Vec Ideal S4096x1024 .bf16) (ix2 k l) = B k l)
    (hA : ∀ r k, (V c main_v4_2 : Vec Ideal S8192x4096 .bf16) (ix2 r k) = A r k) (r : Fin 8192) (k : Fin 4096) :
    ((dat2 V c).arrAt 6 cfg2.N : Vec Ideal S8192x4096 .bf16) (ix2 r k)
      = (∑ l : Fin 1024, back (1 / 1024) (f r) (fun l => y r l * γ l) l * B k l) * A r k := by
  have h := final2_6 V c (tile _ N_2 r) (place r) k
  rw [outs_dh] at h
  simp only [tile_df V c hf hy hγ, blk2_3, blk2_4, hA, hB, row_place] at h
  exact h

/-- The gain's gradient after point `n`: the sum over the rows so far, -/
theorem call_dg_upto (hf : ∀ r l, (V c main_v5_0 : Vec Ideal S8192x1024 .f32) (ix2 r l) = f r l)
    (hy : ∀ r l, (V c main_arg5 : Vec Ideal S8192x1024 .f32) (ix2 r l) = y r l) (z : Fin 1) (l : Fin 1024) : ∀ (n : ℕ) (h : n < cfg2.N),
    ((outsAt2 V c n h).2.2 : Vec Ideal S1x1024 .f32) (ix2 z l) = ∑ t ∈ Finset.range (n + 1), ∑ j : Fin 512,
      y (row t j) l * (f (row t j) l * rstd (1 / 1024) (f (row t j)))
  | 0, h => by
    have ht : ∀ t j, tr (iblk2 V c 0 t) j = f (row t j) := fun t j => funext fun l => (blk2_0 V c t j l).trans (hf _ l)
    rw [outs_dg_zero, pay_dg, show k2_pay5 (F := Ideal) (ix2 z l) = 0 by pointwise [k2_pay5], zero_add, Finset.sum_range_one]
    simp only [ht, blk2_0, blk2_1, hf, hy]
  | n + 1, h => by
    have ht : ∀ t j, tr (iblk2 V c 0 t) j = f (row t j) := fun t j => funext fun l => (blk2_0 V c t j l).trans (hf _ l)
    rw [outs_dg_succ, pay_dg, Finset.sum_range_succ]
    simp only [ht, blk2_0, blk2_1, hf, hy]
    exact congrArg (· + _) (call_dg_upto hf hy z l n _)

/-- and at the end over all rows. -/
theorem call_dg (hf : ∀ r l, (V c main_v5_0 : Vec Ideal S8192x1024 .f32) (ix2 r l) = f r l)
    (hy : ∀ r l, (V c main_arg5 : Vec Ideal S8192x1024 .f32) (ix2 r l) = y r l) (z : Fin 1) (l : Fin 1024) :
    ((dat2 V c).arrAt 7 cfg2.N : Vec Ideal S1x1024 .f32) (ix2 z l) = ∑ r : Fin 8192, y r l * (f r l * rstd (1 / 1024) (f r)) := by
  refine (final2_7 V c ⟨15, by rw [show cfg2.N = 16 from N_2]; decide⟩ rfl z l).trans ?_
  rw [call_dg_upto V c hf hy z l 15]
  exact sum_rows fun r => y r l * (f r l * rstd (1 / 1024) (f r))

end

variable (m : (ℓ : Loc nD τ sig) → Buf (Elt Ideal) ℓ) (ρ : Dev nD → PrngReg) (c : Dev nD)

/-- The program's arguments. -/
abbrev X : Vec Ideal S8192x1024 .f32 := m ((c : Thread nD τ).loc main_arg0)
abbrev G : Vec Ideal S1024 .f32 := m ((c : Thread nD τ).loc main_arg1)
abbrev W : Vec Ideal S1024x4096 .f32 := m ((c : Thread nD τ).loc main_arg2)
abbrev WD : Vec Ideal S4096x1024 .f32 := m ((c : Thread nD τ).loc main_arg3)
abbrev G4 : Vec Ideal S1024 .f32 := m ((c : Thread nD τ).loc main_arg4)
abbrev DX2 : Vec Ideal S8192x1024 .f32 := m ((c : Thread nD τ).loc main_arg5)

/-- What the host operations leave. -/
theorem at1_wd (k : Fin 4096) (l : Fin 1024) : (V1 m ρ c main_v0 : Vec Ideal S4096x1024 .bf16) (ix2 k l) = WD m c (ix2 k l) := by
  have h : (V1 m ρ c main_v0 : Vec Ideal S4096x1024 .bf16) = truncf (F := Ideal) (φ := .f32) .bf16 (WD m c) bitsLt_bf16_f32 := by
    dsimp only [V1, W1]; unfold hostOps0; after_results
  rw [h]; rfl
theorem at1_g4 (l : Fin 1024) : (V1 m ρ c main_v1 : Vec Ideal S1x1024 .f32) (ix2 0 l) = G4 m c (ix1 l) := by
  have h : V1 m ρ c main_v1 = shapeCast _ (G4 m c) shapeCasts_S1024_S1x1024 := by
    dsimp only [V1, W1]; unfold hostOps0; after_results; rfl
  rw [h]; pointwise []
theorem at1_g (l : Fin 1024) : (V1 m ρ c main_v2 : Vec Ideal S1x1024 .f32) (ix2 0 l) = G m c (ix1 l) := by
  have h : V1 m ρ c main_v2 = shapeCast _ (G m c) shapeCasts_S1024_S1x1024 := by
    dsimp only [V1, W1]; unfold hostOps0; after_results; rfl
  rw [h]; pointwise []
theorem at1_w (l : Fin 1024) (k : Fin 4096) : (V1 m ρ c main_v3 : Vec Ideal S1024x4096 .bf16) (ix2 l k) = W m c (ix2 l k) := by
  have h : (V1 m ρ c main_v3 : Vec Ideal S1024x4096 .bf16) = truncf (F := Ideal) (φ := .f32) .bf16 (W m c) bitsLt_bf16_f32 := by
    dsimp only [V1, W1]; unfold hostOps0; after_results
  rw [h]; rfl

/-- A row of the first call's input and the gain, as its windows hold them. -/
theorem row_x (r : Fin 8192) : tr (iblk0 (V1 m ρ) c 0 (tile _ N_0 r)) (place r) = fun l => X m c (ix2 r l) :=
  funext fun l => (blk0_0 (V1 m ρ) c (tile _ N_0 r) (place r) l).trans
    ((congrArg (fun q => (V1 m ρ c main_arg0 : Vec Ideal S8192x1024 .f32) (ix2 q l)) (row_place r)).trans
      (congrFun (W1_args m ρ c main_arg0 (by decide +kernel)) (ix2 r l)))
theorem row_g (t : Fin cfg0.N) : tr (iblk0 (V1 m ρ) c 1 t) 0 = fun l => G m c (ix1 l) :=
  funext fun l => (congrFun (blk0_1 (V1 m ρ) c t) (ix2 0 l)).trans (at1_g m ρ c l)

/-- The first call's arrays. -/
theorem result_hn (r : Fin 8192) (l : Fin 1024) :
    (V2 m ρ c main_v4_0 : Vec Ideal S8192x1024 .bf16) (ix2 r l) = hn (X m c) (G m c) r l := by
  refine (congrFun (W2_arr m ρ c 3) (ix2 r l)).trans ?_
  have h := final0_3 (V1 m ρ) c (tile _ N_0 r) (place r) l
  rw [out_hn, row_x, row_g, row_place] at h
  exact h

theorem hid_row (r : Fin 8192) (k : Fin 4096) :
    hid (iblk0 (V1 m ρ) c 0 (tile _ N_0 r)) (iblk0 (V1 m ρ) c 1 (tile _ N_0 r)) (place r)
      (fun l => (iblk0 (V1 m ρ) c 2 (tile _ N_0 r) : Vec Ideal S1024x4096 .bf16) (ix2 l k)) = hd (X m c) (G m c) (W m c) r k := by
  unfold hid hd hn
  rw [row_x, row_g]
  exact congrArg (max · 0) (Finset.sum_congr rfl fun l _ => congrArg (_ * ·)
    ((congrFun (blk0_2 (V1 m ρ) c (tile _ N_0 r)) (ix2 l k)).trans (at1_w m ρ c l k)))

theorem result_a (r : Fin 8192) (k : Fin 4096) : (V2 m ρ c main_v4_1 : Vec Ideal S8192x4096 .bf16) (ix2 r k)
    = hd (X m c) (G m c) (W m c) r k * hd (X m c) (G m c) (W m c) r k := by
  refine (congrFun (W2_arr m ρ c 4) (ix2 r k)).trans ?_
  have h := final0_4 (V1 m ρ) c (tile _ N_0 r) (place r) k
  rw [out_a, hid_row, row_place] at h
  exact h

theorem result_r2 (r : Fin 8192) (k : Fin 4096) : (V2 m ρ c main_v4_2 : Vec Ideal S8192x4096 .bf16) (ix2 r k)
    = ((2 : ℝ) : EReal) * hd (X m c) (G m c) (W m c) r k := by
  refine (congrFun (W2_arr m ρ c 5) (ix2 r k)).trans ?_
  have h := final0_5 (V1 m ρ) c (tile _ N_0 r) (place r) k
  rw [out_r2, hid_row, row_place] at h
  exact h

/-- The arrays that the first call leaves alone. -/
theorem at2_wd (k : Fin 4096) (l : Fin 1024) : (V2 m ρ c main_v0 : Vec Ideal S4096x1024 .bf16) (ix2 k l) = WD m c (ix2 k l) :=
  (congrFun (W2_of m ρ c main_v0 (by decide +kernel)) _).trans (at1_wd m ρ c k l)
theorem at2_g4 (l : Fin 1024) : (V2 m ρ c main_v1 : Vec Ideal S1x1024 .f32) (ix2 0 l) = G4 m c (ix1 l) :=
  (congrFun (W2_of m ρ c main_v1 (by decide +kernel)) _).trans (at1_g4 m ρ c l)
theorem at2_x : V2 m ρ c main_arg0 = X m c := W2_args m ρ c _ (by decide +kernel)

/-- The second call's arrays. -/
theorem result_f (r : Fin 8192) (l : Fin 1024) :
    (V3 m ρ c main_v5_0 : Vec Ideal S8192x1024 .f32) (ix2 r l) = ff (X m c) (G m c) (W m c) (WD m c) r l :=
  (congrFun (W3_arr m ρ c 4) (ix2 r l)).trans (call_f (V2 m ρ) c (result_a m ρ c) (at2_wd m ρ c) r l)

theorem result_x2 (r : Fin 8192) (l : Fin 1024) :
    (V3 m ρ c main_v5_1 : Vec Ideal S8192x1024 .f32) (ix2 r l) = out (X m c) (G m c) (W m c) (WD m c) (G4 m c) r l :=
  (congrFun (W3_arr m ρ c 5) (ix2 r l)).trans (call_x2 (V2 m ρ) c (result_a m ρ c) (at2_wd m ρ c)
    (fun r l => congrFun (at2_x m ρ c) (ix2 r l)) (at2_g4 m ρ c) r l)

/-- The arrays that the second call leaves alone. -/
theorem at3_wd (k : Fin 4096) (l : Fin 1024) : (V3 m ρ c main_v0 : Vec Ideal S4096x1024 .bf16) (ix2 k l) = WD m c (ix2 k l) :=
  (congrFun (W3_of m ρ c main_v0 (by decide +kernel)) _).trans (at2_wd m ρ c k l)
theorem at3_g4 (l : Fin 1024) : (V3 m ρ c main_v1 : Vec Ideal S1x1024 .f32) (ix2 0 l) = G4 m c (ix1 l) :=
  (congrFun (W3_of m ρ c main_v1 (by decide +kernel)) _).trans (at2_g4 m ρ c l)
theorem at3_r2 (r : Fin 8192) (k : Fin 4096) : (V3 m ρ c main_v4_2 : Vec Ideal S8192x4096 .bf16) (ix2 r k)
    = ((2 : ℝ) : EReal) * hd (X m c) (G m c) (W m c) r k :=
  (congrFun (W3_of m ρ c main_v4_2 (by decide +kernel)) _).trans (result_r2 m ρ c r k)
theorem at3_dx2 : V3 m ρ c main_arg5 = DX2 m c := W3_args m ρ c _ (by decide +kernel)

theorem at3_y (r : Fin 8192) (l : Fin 1024) : (V3 m ρ c main_arg5 : Vec Ideal S8192x1024 .f32) (ix2 r l) = DX2 m c (ix2 r l) :=
  congrFun (at3_dx2 m ρ c) (ix2 r l)

/-- The third call's arrays. -/
theorem result_df (r : Fin 8192) (l : Fin 1024) : (V4 m ρ c main_v6_0 : Vec Ideal S8192x1024 .bf16) (ix2 r l)
    = df (X m c) (G m c) (W m c) (WD m c) (G4 m c) (DX2 m c) r l :=
  (congrFun (W4_arr m ρ c 5) (ix2 r l)).trans (call_df (V3 m ρ) c (result_f m ρ c) (at3_y m ρ c) (at3_g4 m ρ c) r l)

theorem result_dh (r : Fin 8192) (k : Fin 4096) : (V4 m ρ c main_v6_1 : Vec Ideal S8192x4096 .bf16) (ix2 r k)
    = dh (X m c) (G m c) (W m c) (WD m c) (G4 m c) (DX2 m c) r k :=
  (congrFun (W4_arr m ρ c 6) (ix2 r k)).trans (call_dh (V3 m ρ) c (result_f m ρ c) (at3_y m ρ c) (at3_g4 m ρ c) (at3_wd m ρ c)
    (at3_r2 m ρ c) r k)

theorem result_dg (z : Fin 1) (l : Fin 1024) : (V4 m ρ c main_v6_2 : Vec Ideal S1x1024 .f32) (ix2 z l)
    = dg (X m c) (G m c) (W m c) (WD m c) (DX2 m c) l :=
  (congrFun (W4_arr m ρ c 7) (ix2 z l)).trans (call_dg (V3 m ρ) c (result_f m ρ c) (at3_y m ρ c) z l)

/-- The arrays that the later calls leave alone. -/
theorem end_hn : V4 m ρ c main_v4_0 = V2 m ρ c main_v4_0 :=
  (W4_of m ρ c main_v4_0 (by decide +kernel)).trans (W3_of m ρ c main_v4_0 (by decide +kernel))
theorem end_a : V4 m ρ c main_v4_1 = V2 m ρ c main_v4_1 :=
  (W4_of m ρ c main_v4_1 (by decide +kernel)).trans (W3_of m ρ c main_v4_1 (by decide +kernel))
theorem end_f : V4 m ρ c main_v5_0 = V3 m ρ c main_v5_0 := W4_of m ρ c main_v5_0 (by decide +kernel)
theorem end_x2 : V4 m ρ c main_v5_1 = V3 m ρ c main_v5_1 := W4_of m ρ c main_v5_1 (by decide +kernel)

end Cert.DownIdeal.Result

end
-- ==== Proof.DownRef.lean ====
/-
  The reference of the feed-forward block and of its gradient, over the extended reals: its results are the functions
  that the three calls compute.
-/
module

public import proofs.«01_k».proof.Proof.DownValue
public import proofs.«01_k».proof.Proof.Gen.DownRefIdeal.Run
public import proofs.«01_k».proof.Proof.Gen.DownRefIdeal.Read

@[expose] public section

set_option maxRecDepth 16384

noncomputable section

namespace Cert.DownRefIdeal.Result

open Cert.DownRefIdeal Cert.DownRefIdeal.Read Cert.Rows Cert.Norm Idealize.ShloMosaic Idealize.ShloMosaic.TcCoe
open Idealize.ShloMosaic.Pointwise Idealize.ShloMosaic.StableHlo
open Cert.DownIdeal.Result (hn hd ff out df dh dg)

variable (x : Vec Ideal S8192x1024 .f32) (g : Vec Ideal S1024 .f32) (w : Vec Ideal S1024x4096 .f32) (wd : Vec Ideal S4096x1024 .f32)
  (g4 : Vec Ideal S1024 .f32) (dx2 : Vec Ideal S8192x1024 .f32) (r : Fin 8192)

/-- The normed rows. -/
theorem ref_hn (l : Fin 1024) : val_main_v12 (F := Ideal) x g (ix2 r l) = hn x g r l := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, ofBits_1024, ofBits_eps, div_1024,
    hn, normed, rstd]

/-- The first product, -/
theorem ref_h (k : Fin 4096) : val_main_v13 (F := Ideal) x g w (ix2 r k) = ∑ l : Fin 1024, hn x g r l * w (ix2 l k) := by
  pointwise [val_main_v13, ref_hn]

/-- cut at zero, -/
theorem ref_hd (k : Fin 4096) : val_main_v14 (F := Ideal) x g w (ix2 r k) = hd x g w r k := by
  pointwise [val_main_v14, val_main_call0_v0, val_main_call0_cst, ref_h, hd]

theorem ref_hd' (k : Fin 4096) : val_main_v64 (F := Ideal) x g w (ix2 r k) = hd x g w r k := by
  pointwise [val_main_v64, val_main_call1_v0, val_main_call1_cst, ref_h, hd]

/-- the second product, -/
theorem ref_ff (l : Fin 1024) : val_main_v21 (F := Ideal) x g w wd (ix2 r l) = ff x g w wd r l := by
  pointwise [val_main_v21, val_main_v18, ref_hd, ff]

/-- its norm's factor. -/
theorem ref_rstd (z : Fin 1) : val_main_v29 (F := Ideal) x g w wd (ix2 r z) = rstd (1 / 1024) (ff x g w wd r) := by
  pointwise [val_main_v29, val_main_v28, val_main_v27, val_main_v26, val_main_v25, val_main_v24, val_main_v23, val_main_v22,
    val_main_cst_5, val_main_cst_6, val_main_cst_7, ref_ff, ofBits_1024, ofBits_eps, div_1024, rstd]

/-- The block's output. -/
theorem ref_out (l : Fin 1024) : val_main_v38 (F := Ideal) x g w wd g4 (ix2 r l) = out x g w wd g4 r l := by
  pointwise [val_main_v38, val_main_v37, val_main_v36, val_main_v35, val_main_v34, val_main_v33, ref_ff, ref_rstd, out, normed]

/-- The factor of a row that comes from the mean square. -/
theorem ref_slope (l : Fin 1024) : val_main_v54 (F := Ideal) x g w wd g4 dx2 (ix2 r l)
    = msPart (1 / 1024) (ff x g w wd r) (fun l => dx2 (ix2 r l) * g4 (ix1 l)) := by
  pointwise [val_main_v54, val_main_v53, val_main_v52, val_main_v51, val_main_v50, val_main_v47, val_main_v46, val_main_v45, val_main_v43,
    val_main_v42, val_main_v35, val_main_v32, val_main_v31, val_main_v30, val_main_cst_8, val_main_cst_11, val_main_cst_12, val_main_cst_13,
    ref_rstd, ref_ff, val_main_v28, val_main_v27, val_main_v26, val_main_v25, val_main_v24, val_main_v23, val_main_v22,
    val_main_cst_5, val_main_cst_6, val_main_cst_7, ofBits_1024, ofBits_eps, ofBits_neg_half, div_1024, msPart, Fin.sum_univ_one]

variable {x g w wd g4 dx2}

section
variable (hx : ∀ i, IsReal (x i)) (hg : ∀ i, IsReal (g i)) (hw : ∀ i, IsReal (w i)) (hwd : ∀ i, IsReal (wd i))
  (hg4 : ∀ i, IsReal (g4 i)) (hdx : ∀ i, IsReal (dx2 i))
include hx hg hw

/-- At real arguments the hidden rows and the second product are real. -/
theorem hd_real (k : Fin 4096) : IsReal (hd x g w r k) :=
  (IsReal.sum _ fun l => (normed_real (by norm_num) (fun l => hx (ix2 r l)) (fun l => hg (ix1 l)) l).mul (hw (ix2 l k))).max_zero

include hwd in
theorem ff_real (l : Fin 1024) : IsReal (ff x g w wd r l) :=
  IsReal.sum _ fun k => ((hd_real r hx hg hw k).mul (hd_real r hx hg hw k)).mul (hwd (ix2 k l))

include hwd hg4 hdx

/-- The gradient at the second product's result. -/
theorem ref_df (l : Fin 1024) : val_main_v58 (F := Ideal) x g w wd g4 dx2 (ix2 r l) = df x g w wd g4 dx2 r l := by
  have h : val_main_v58 (F := Ideal) x g w wd g4 dx2 (ix2 r l) = dx2 (ix2 r l) * g4 (ix1 l) * rstd (1 / 1024) (ff x g w wd r)
      + ff x g w wd r l * val_main_v54 (F := Ideal) x g w wd g4 dx2 (ix2 r l)
      + val_main_v54 (F := Ideal) x g w wd g4 dx2 (ix2 r l) * ff x g w wd r l := by
    pointwise [val_main_v58, val_main_v57, val_main_v56, val_main_v55, val_main_v49, val_main_v48, val_main_v43, val_main_v42, val_main_v35,
      ref_rstd, ref_ff]
  rw [h, ref_slope]
  exact back_eq (by norm_num) (ff_real r hx hg hw hwd) (fun l => (hdx (ix2 r l)).mul (hg4 (ix1 l))) l

/-- The gradient at the first product's result: the reference's choice by sign is the product with the cut value. -/
theorem ref_dh (k : Fin 4096) : val_main_v62 (F := Ideal) x g w wd g4 dx2 (ix2 r k) = dh x g w wd g4 dx2 r k := by
  have h : val_main_v62 (F := Ideal) x g w wd g4 dx2 (ix2 r k) = if 0 < ∑ l : Fin 1024, hn x g r l * w (ix2 l k) then dh x g w wd g4 dx2 r k else 0 := by
    pointwise [val_main_v62, val_main_v61, val_main_v60, val_main_v59, val_main_v20, val_main_v19, val_main_v16, val_main_v15, val_main_cst_2,
      val_main_cst_4, val_main_cst_14, ref_df r hx hg hw hwd hg4 hdx, ref_hd, ref_h, ofBits_two, dh]
  rw [h]
  split
  · rfl
  · next hn => rw [dh, hd, max_eq_right (not_lt.mp hn), mul_zero, mul_zero]

end

/-- The gradient of the second norm's gain. -/
theorem ref_dg (z : Fin 1) (l : Fin 1024) : val_main_v69 (F := Ideal) x g w wd dx2 (ix2 z l) = dg x g w wd dx2 l := by
  unfold dg
  simp only [mul_comm (dx2 (ix2 _ l))]
  pointwise [val_main_v69, val_main_v44, val_main_v41, val_main_v40, val_main_v39, val_main_v34, val_main_v33, val_main_cst_9, val_main_cst_10,
    ref_rstd, ref_ff, Fin.sum_univ_one]

end Cert.DownRefIdeal.Result

end
-- ==== Proof.DownClaim.lean ====
/-
  The feed-forward block with the gradient of its second half: the frames, and the value claim over the extended reals.
-/
module

public import proofs.«01_k».proof.Defs
public import proofs.«01_k».proof.Proof.Gen.Down.Frame
public import proofs.«01_k».proof.Proof.DownRef

@[expose] public section

noncomputable section

namespace Cert.Proof.Down

open Idealize.ShloMosaic Idealize.ShloMosaic.TcCoe Idealize.ShloMosaic.Pointwise Idealize.SL.Sem

/-- The shapes of the precondition's broadcasts fit. -/
theorem preFacts : Cert.Pre_down_finite.Facts where
  bcast_S_S8192x1024 := by decide
  bcast_S_S1024 := by decide
  bcast_S_S1024x4096 := by decide
  bcast_S_S4096x1024 := by decide

theorem frame : Cert.quiescent_Down (hDown := Cert.Down.Gen.facts) := fun m ρ _ => Cert.Down.Gen.frame m ρ

theorem frameIdeal : Cert.quiescent_DownIdeal (hDownIdeal := Cert.DownIdeal.Gen.facts) := fun m ρ _ => Cert.DownIdeal.Gen.frame m ρ

theorem frameIdealPre : Cert.quiescent_DownIdeal_pre_down_finite (hDownIdeal := Cert.DownIdeal.Gen.facts) (hPre_down_finite := preFacts) :=
  fun m ρ _ => Cert.DownIdeal.Gen.frame m ρ

/-- The reference is host operations alone: it has no semaphores. -/
theorem frameRef : Cert.quiescent_DownRefIdeal (hDownRefIdeal := Cert.DownRefIdeal.Gen.facts) := fun m ρ _ =>
  (θ_run Cert.DownRefIdeal.defs _ _).mono (fun r h => ⟨fun c => (h c).2.2.2.2.2.2.2, sem_eq_zero_of_no_sems (by decide) r.2⟩)
    (Cert.DownRefIdeal.Value.run m ρ)

theorem frameRefPre : Cert.quiescent_DownRefIdeal_pre_down_finite (hDownRefIdeal := Cert.DownRefIdeal.Gen.facts) (hPre_down_finite := preFacts) :=
  fun m ρ _ => frameRef m ρ trivial

open Cert.DownIdeal.Gen (V4 mem_uc) in
open Cert.DownIdeal.Result in
open Cert.DownRefIdeal.Result in
/-- Over the extended reals the forward calls' results and the gradients are the reference's, where all arguments are real. -/
theorem value : Cert.algebraic_DownIdeal_DownRefIdeal_pre_down_finite (hDownIdeal := Cert.DownIdeal.Gen.facts)
    (hDownRefIdeal := Cert.DownRefIdeal.Gen.facts) (hPre_down_finite := preFacts) := fun m g m' g' hpre hag => by
  refine ⟨fun c => V4 m g c Cert.DownIdeal.main_v4_0, fun c => V4 m g c Cert.DownIdeal.main_v4_1, fun c => V4 m g c Cert.DownIdeal.main_v5_0,
    fun c => V4 m g c Cert.DownIdeal.main_v5_1, fun c => V4 m g c Cert.DownIdeal.main_v6_0, fun c => V4 m g c Cert.DownIdeal.main_v6_1,
    fun c => V4 m g c Cert.DownIdeal.main_v6_2, ?_, ?_⟩
  · exact (θ_run Cert.DownIdeal.defs _ _).mono (fun r h c => ⟨h.1 c _ (mem_uc _ (by decide)), h.1 c _ (mem_uc _ (by decide)),
      h.1 c _ (mem_uc _ (by decide)), h.1 c _ (mem_uc _ (by decide)), h.1 c _ (mem_uc _ (by decide)), h.1 c _ (mem_uc _ (by decide)),
      h.1 c _ (mem_uc _ (by decide)), args m g c (h.1 c)⟩) (run m g)
  refine (θ_run Cert.DownRefIdeal.defs _ _).mono (fun r h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2.1.trans ?_, (h c).2.2.2.2.2.2.2⟩)
    (Cert.DownRefIdeal.Value.run m' g')
  all_goals
    obtain ⟨a0, a1, a2, a3, a4, a5⟩ := hag c
    obtain ⟨p0, p1, p2, p3, p4, p5⟩ := hpre c
  · rw [a0, a1]
    refine (Cert.DownRefIdeal.Read.val_main_v63_eq (F := Ideal) _ _).trans (funext fun i => ?_)
    rw [eq_ix2 i]
    exact (ref_hn _ _ _ _).trans ((congrFun (end_hn m g c) _).trans (result_hn m g c _ _)).symm
  · rw [a0, a1, a2]
    refine (Cert.DownRefIdeal.Read.val_main_v66_eq (F := Ideal) _ _ _).trans (funext fun i => ?_)
    rw [eq_ix2 i]
    exact (congrArg₂ (· * ·) (ref_hd' _ _ _ _ _) (ref_hd' _ _ _ _ _)).trans ((congrFun (end_a m g c) _).trans (result_a m g c _ _)).symm
  · rw [a0, a1, a2, a3]
    refine (Cert.DownRefIdeal.Read.val_main_v21_eq (F := Ideal) _ _ _ _).trans (funext fun i => ?_)
    rw [eq_ix2 i]
    exact (ref_ff _ _ _ _ _ _).trans ((congrFun (end_f m g c) _).trans (result_f m g c _ _)).symm
  · rw [Cert.DownRefIdeal.Read.val_main_v38_eq, a0, a1, a2, a3, a4]
    refine funext fun i => ?_
    rw [eq_ix2 i]
    exact (ref_out _ _ _ _ _ _ _).trans ((congrFun (end_x2 m g c) _).trans (result_x2 m g c _ _)).symm
  · rw [Cert.DownRefIdeal.Read.val_main_v67_eq, a0, a1, a2, a3, a4, a5]
    refine funext fun i => ?_
    rw [eq_ix2 i]
    exact (ref_df _ (fun i => Cert.Norm.isReal_of_abs_lt (congrFun p0 i)) (fun i => Cert.Norm.isReal_of_abs_lt (congrFun p1 i))
      (fun i => Cert.Norm.isReal_of_abs_lt (congrFun p2 i)) (fun i => Cert.Norm.isReal_of_abs_lt (congrFun p3 i))
      (fun i => Cert.Norm.isReal_of_abs_lt (congrFun p4 i)) (fun i => Cert.Norm.isReal_of_abs_lt (congrFun p5 i)) _).trans
      (result_df m g c _ _).symm
  · rw [Cert.DownRefIdeal.Read.val_main_v68_eq, a0, a1, a2, a3, a4, a5]
    refine funext fun i => ?_
    rw [eq_ix2 i]
    exact (ref_dh _ (fun i => Cert.Norm.isReal_of_abs_lt (congrFun p0 i)) (fun i => Cert.Norm.isReal_of_abs_lt (congrFun p1 i))
      (fun i => Cert.Norm.isReal_of_abs_lt (congrFun p2 i)) (fun i => Cert.Norm.isReal_of_abs_lt (congrFun p3 i))
      (fun i => Cert.Norm.isReal_of_abs_lt (congrFun p4 i)) (fun i => Cert.Norm.isReal_of_abs_lt (congrFun p5 i)) _).trans
      (result_dh m g c _ _).symm
  · rw [Cert.DownRefIdeal.Read.val_main_v69_eq, a0, a1, a2, a3, a5]
    refine funext fun i => ?_
    rw [eq_ix2 i]
    exact (ref_dg _ _).trans (result_dg m g c _ _).symm

end Cert.Proof.Down

end
-- ==== Proof.MlaRun.lean ====
/-
  The latent attention's run: its host lines, its forward call, its backward call, and the host lines after.
-/
module

public import proofs.«01_k».proof.Proof.Gen.MlaIdeal.Frame

@[expose] public section

noncomputable section

namespace Cert.MlaIdeal.Result

open Cert.MlaIdeal Cert.MlaIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch lemma's arguments are found by unification through plain definitions
set_option backward.isDefEq.respectTransparency.types false in
/-- The whole program's run: it ends with every buffer at what the last call leaves (`W16`) and every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W16 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, funext fun g => hz g (.inr (no_unscoped g.2))⟩)

/-- The frame, from that run: the arguments as launched. -/
theorem args (c : Dev nD) {s : (ℓ : Loc nD τ sig) → Buf (Elt F) ℓ} (h : ∀ b ∈ Pipeline.ucRefs τ sig, s (((c : Thread nD τ)).1, b) = W16 m ρ c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3) :=
  ⟨(h _ (mem_uc main_arg0 (by decide))).trans (W16_main_arg0 m ρ c),
    (h _ (mem_uc main_arg1 (by decide))).trans (W16_main_arg1 m ρ c),
    (h _ (mem_uc main_arg2 (by decide))).trans (W16_main_arg2 m ρ c),
    (h _ (mem_uc main_arg3 (by decide))).trans (W16_main_arg3 m ρ c)⟩

end Cert.MlaIdeal.Result

end
-- ==== Proof.MlaBlock.lean ====
/-
  The two calls of the attention over low-rank keys, read: what their windows hold and what each point leaves in the results.
-/
module

public import proofs.«01_k».proof.Proof.Tiles
public import proofs.«01_k».proof.Proof.Gen.MlaIdeal.Frame
public import Idealize.ShloMosaic.Lib.Tactic

@[expose] public section

set_option maxRecDepth 16384

noncomputable section

namespace Cert.MlaIdeal.Result

open Cert.MlaIdeal Cert.MlaIdeal.Gen Cert.Rows Cert.Tiles Idealize.ShloMosaic Idealize.ShloMosaic.TcCoe Idealize.SL.Sem
open Idealize.ShloMosaic.Pointwise

variable {F : FTy → Type} [FloatOps F] [Named F]
variable (V : (c : Dev nD) → (b : Ref sig .tc) → Buf (Elt F) ((c : Thread nD τ).loc b))

/-- The forward call's index maps. -/
theorem idx0 : ∀ t : Fin grid0.N, (win0_0.index t 0 = t.val % 8 ∧ win0_0.index t 1 = t.val / 8)
    ∧ (win0_1.index t 0 = 0 ∧ win0_1.index t 1 = t.val / 8)
    ∧ (win0_2.index t 0 = 0 ∧ win0_2.index t 1 = t.val / 8)
    ∧ (win0_3.index t 0 = t.val % 8 ∧ win0_3.index t 1 = t.val / 8)
    ∧ (win0_4.index t 0 = t.val % 8 ∧ win0_4.index t 1 = t.val / 8) := by decide +kernel

/-- The backward call's index maps. -/
theorem idx1 : ∀ t : Fin grid1.N, (win1_0.index t 0 = t.val % 16 ∧ win1_0.index t 1 = t.val / 16)
    ∧ (win1_1.index t 0 = t.val % 16 ∧ win1_1.index t 1 = t.val / 16)
    ∧ (win1_2.index t 0 = t.val % 16 ∧ win1_2.index t 1 = t.val / 16)
    ∧ (win1_3.index t 0 = t.val % 16 ∧ win1_3.index t 1 = t.val / 16)
    ∧ (win1_4.index t 0 = 0 ∧ win1_4.index t 1 = t.val / 16)
    ∧ (win1_5.index t 0 = 0 ∧ win1_5.index t 1 = t.val / 16)
    ∧ (win1_6.index t 0 = t.val % 16 ∧ win1_6.index t 1 = t.val / 16)
    ∧ (win1_7.index t 0 = t.val / 16 ∧ win1_7.index t 1 = 0)
    ∧ (win1_8.index t 0 = t.val / 16 ∧ win1_8.index t 1 = 0) := by decide +kernel

theorem blk0_0 (c : Dev nD) (t : Fin cfg0.N) (j : Fin 1024) (l : Fin 128) (r : Fin 8192) (p : Fin 1024) (hr : (r : ℕ) = t.val % 8 * 1024 + j) (hp : (p : ℕ) = t.val / 8 * 128 + l) :
    (iblk0 V c 0 t : Vec F S1024x128 .bf16) (ix2 j l) = (V c main_v16 : Vec F S8192x1024 .bf16) (ix2 r p) := by
  unfold iblk0
  rw [View.read_apply]
  exact at2 (V c main_v16 : Vec F S8192x1024 .bf16) (at_tile (idx0 t).1.1 hr) (at_tile (idx0 t).1.2 hp)

theorem blk0_1 (c : Dev nD) (t : Fin cfg0.N) (j : Fin 8192) (l : Fin 128) (p : Fin 1024) (hp : (p : ℕ) = t.val / 8 * 128 + l) :
    (iblk0 V c 1 t : Vec F S8192x128 .bf16) (ix2 j l) = (V c main_v27 : Vec F S8192x1024 .bf16) (ix2 j p) := by
  unfold iblk0
  rw [View.read_apply]
  exact at2 (V c main_v27 : Vec F S8192x1024 .bf16) (all_at (idx0 t).2.1.1 j) (at_tile (idx0 t).2.1.2 hp)

theorem blk0_2 (c : Dev nD) (t : Fin cfg0.N) (j : Fin 8192) (l : Fin 128) (p : Fin 1024) (hp : (p : ℕ) = t.val / 8 * 128 + l) :
    (iblk0 V c 2 t : Vec F S8192x128 .bf16) (ix2 j l) = (V c main_v37 : Vec F S8192x1024 .bf16) (ix2 j p) := by
  unfold iblk0
  rw [View.read_apply]
  exact at2 (V c main_v37 : Vec F S8192x1024 .bf16) (all_at (idx0 t).2.2.1.1 j) (at_tile (idx0 t).2.2.1.2 hp)

theorem blk1_0 (c : Dev nD) (t : Fin cfg1.N) (j : Fin 512) (l : Fin 128) (r : Fin 8192) (p : Fin 1024) (hr : (r : ℕ) = t.val % 16 * 512 + j) (hp : (p : ℕ) = t.val / 16 * 128 + l) :
    (iblk1 V c 0 t : Vec F S512x128 .bf16) (ix2 j l) = (V c main_v16 : Vec F S8192x1024 .bf16) (ix2 r p) := by
  unfold iblk1
  rw [View.read_apply]
  exact at2 (V c main_v16 : Vec F S8192x1024 .bf16) (at_tile (idx1 t).1.1 hr) (at_tile (idx1 t).1.2 hp)

theorem blk1_1 (c : Dev nD) (t : Fin cfg1.N) (j : Fin 512) (l : Fin 128) (r : Fin 8192) (p : Fin 1024) (hr : (r : ℕ) = t.val % 16 * 512 + j) (hp : (p : ℕ) = t.val / 16 * 128 + l) :
    (iblk1 V c 1 t : Vec F S512x128 .bf16) (ix2 j l) = (V c main_v41 : Vec F S8192x1024 .bf16) (ix2 r p) := by
  unfold iblk1
  rw [View.read_apply]
  exact at2 (V c main_v41 : Vec F S8192x1024 .bf16) (at_tile (idx1 t).2.1.1 hr) (at_tile (idx1 t).2.1.2 hp)

theorem blk1_2 (c : Dev nD) (t : Fin cfg1.N) (j : Fin 512) (l : Fin 128) (r : Fin 8192) (p : Fin 1024) (hr : (r : ℕ) = t.val % 16 * 512 + j) (hp : (p : ℕ) = t.val / 16 * 128 + l) :
    (iblk1 V c 2 t : Vec F S512x128 .bf16) (ix2 j l) = (V c main_v42_0 : Vec F S8192x1024 .bf16) (ix2 r p) := by
  unfold iblk1
  rw [View.read_apply]
  exact at2 (V c main_v42_0 : Vec F S8192x1024 .bf16) (at_tile (idx1 t).2.2.1.1 hr) (at_tile (idx1 t).2.2.1.2 hp)

theorem blk1_3 (c : Dev nD) (t : Fin cfg1.N) (j : Fin 512) (l : Fin 128) (r : Fin 8192) (p : Fin 1024) (hr : (r : ℕ) = t.val % 16 * 512 + j) (hp : (p : ℕ) = t.val / 16 * 128 + l) :
    (iblk1 V c 3 t : Vec F S512x128 .f32) (ix2 j l) = (V c main_v42_1 : Vec F S8192x1024 .f32) (ix2 r p) := by
  unfold iblk1
  rw [View.read_apply]
  exact at2 (V c main_v42_1 : Vec F S8192x1024 .f32) (at_tile (idx1 t).2.2.2.1.1 hr) (at_tile (idx1 t).2.2.2.1.2 hp)

theorem blk1_4 (c : Dev nD) (t : Fin cfg1.N) (j : Fin 8192) (l : Fin 128) (p : Fin 1024) (hp : (p : ℕ) = t.val / 16 * 128 + l) :
    (iblk1 V c 4 t : Vec F S8192x128 .bf16) (ix2 j l) = (V c main_v27 : Vec F S8192x1024 .bf16) (ix2 j p) := by
  unfold iblk1
  rw [View.read_apply]
  exact at2 (V c main_v27 : Vec F S8192x1024 .bf16) (all_at (idx1 t).2.2.2.2.1.1 j) (at_tile (idx1 t).2.2.2.2.1.2 hp)

theorem blk1_5 (c : Dev nD) (t : Fin cfg1.N) (j : Fin 8192) (l : Fin 128) (p : Fin 1024) (hp : (p : ℕ) = t.val / 16 * 128 + l) :
    (iblk1 V c 5 t : Vec F S8192x128 .bf16) (ix2 j l) = (V c main_v37 : Vec F S8192x1024 .bf16) (ix2 j p) := by
  unfold iblk1
  rw [View.read_apply]
  exact at2 (V c main_v37 : Vec F S8192x1024 .bf16) (all_at (idx1 t).2.2.2.2.2.1.1 j) (at_tile (idx1 t).2.2.2.2.2.1.2 hp)

theorem final0_3 (c : Dev nD) (t : Fin cfg0.N) (j : Fin 1024) (l : Fin 128) (r : Fin 8192) (p : Fin 1024)
    (hr : (r : ℕ) = t % 8 * 1024 + j) (hp : (p : ℕ) = t / 8 * 128 + l) :
    ((dat0 V c).arrAt 3 cfg0.N : Vec F S8192x1024 .bf16) (ix2 r p) = out0_3 (iblk0 V c 0 t) (iblk0 V c 1 t) (iblk0 V c 2 t) (ix2 j l) := by
  have h := (dat0 V c).arrAt_emb_eq_flushed 3 (fun t t' _ _ hne => (cfg0.win 3).disjoint_blk fun h => hne
    ((by decide +kernel : ∀ t t' : Fin grid0.N, win0_3.index t = win0_3.index t' → t = t') t t' h)) t (flush0_3 t) (ix2 j l)
  rw [show (dat0 V c).flushed 3 t = (cfg0.win 3).cut (grid0.coords t) (out0_3 (iblk0 V c 0 t) (iblk0 V c 1 t) (iblk0 V c 2 t)) by
    show (cfg0.win 3).cut (grid0.coords t) ((dat0 V c).after 3 t) = _
    rw [after0_3]] at h
  generalize out0_3 (iblk0 V c 0 t) (iblk0 V c 1 t) (iblk0 V c 2 t) = o at h ⊢
  refine (at2 ((dat0 V c).arrAt 3 cfg0.N : Vec F S8192x1024 .bf16) ?_ ?_).symm.trans h
  · exact at_tile (idx0 t).2.2.2.1.1 hr
  · exact at_tile (idx0 t).2.2.2.1.2 hp

theorem final0_4 (c : Dev nD) (t : Fin cfg0.N) (j : Fin 1024) (l : Fin 128) (r : Fin 8192) (p : Fin 1024)
    (hr : (r : ℕ) = t % 8 * 1024 + j) (hp : (p : ℕ) = t / 8 * 128 + l) :
    ((dat0 V c).arrAt 4 cfg0.N : Vec F S8192x1024 .f32) (ix2 r p) = out0_4 (iblk0 V c 0 t) (iblk0 V c 1 t) (iblk0 V c 2 t) (ix2 j l) := by
  have h := (dat0 V c).arrAt_emb_eq_flushed 4 (fun t t' _ _ hne => (cfg0.win 4).disjoint_blk fun h => hne
    ((by decide +kernel : ∀ t t' : Fin grid0.N, win0_4.index t = win0_4.index t' → t = t') t t' h)) t (flush0_4 t) (ix2 j l)
  rw [show (dat0 V c).flushed 4 t = (cfg0.win 4).cut (grid0.coords t) (out0_4 (iblk0 V c 0 t) (iblk0 V c 1 t) (iblk0 V c 2 t)) by
    show (cfg0.win 4).cut (grid0.coords t) ((dat0 V c).after 4 t) = _
    rw [after0_4]] at h
  generalize out0_4 (iblk0 V c 0 t) (iblk0 V c 1 t) (iblk0 V c 2 t) = o at h ⊢
  refine (at2 ((dat0 V c).arrAt 4 cfg0.N : Vec F S8192x1024 .f32) ?_ ?_).symm.trans h
  · exact at_tile (idx0 t).2.2.2.2.1 hr
  · exact at_tile (idx0 t).2.2.2.2.2 hp

theorem final1_6 (c : Dev nD) (t : Fin cfg1.N) (j : Fin 512) (l : Fin 128) (r : Fin 8192) (p : Fin 1024)
    (hr : (r : ℕ) = t % 16 * 512 + j) (hp : (p : ℕ) = t / 16 * 128 + l) :
    ((dat1 V c).arrAt 6 cfg1.N : Vec F S8192x1024 .f32) (ix2 r p) = (outsAt1 V c t.val t.isLt).1 (ix2 j l) := by
  have h := (dat1 V c).arrAt_emb_eq_flushed 6 (fun t t' _ _ hne => (cfg1.win 6).disjoint_blk fun h => hne
    ((by decide +kernel : ∀ t t' : Fin grid1.N, win1_6.index t = win1_6.index t' → t = t') t t' h)) t (flush1_6 t) (ix2 j l)
  rw [show (dat1 V c).flushed 6 t = (cfg1.win 6).cut (grid1.coords t) ((outsAt1 V c t.val t.isLt).1) by
    show (cfg1.win 6).cut (grid1.coords t) ((dat1 V c).after 6 t) = _
    rw [after1_6]] at h
  generalize (outsAt1 V c t.val t.isLt).1 = o at h ⊢
  refine (at2 ((dat1 V c).arrAt 6 cfg1.N : Vec F S8192x1024 .f32) ?_ ?_).symm.trans h
  · exact at_tile (idx1 t).2.2.2.2.2.2.1.1 hr
  · exact at_tile (idx1 t).2.2.2.2.2.2.1.2 hp

theorem final1_7 (c : Dev nD) (t : Fin cfg1.N) (ht : t.val % 16 = 15) (l : Fin 128) (k : Fin 8192) (p : Fin 1024)
    (hp : (p : ℕ) = t / 16 * 128 + l) :
    ((dat1 V c).arrAt 7 cfg1.N : Vec F S1024x8192 .f32) (ix2 p k) = (outsAt1 V c t.val t.isLt).2.1 (ix2 l k) := by
  have h := (dat1 V c).arrAt_emb_eq_flushed 7 (fun t t' ht ht' hne => (cfg1.win 7).disjoint_blk fun h => hne (Fin.ext (by
    have e := (idx1 t).2.2.2.2.2.2.2.1.1.symm.trans ((congrFun h 0).trans (idx1 t').2.2.2.2.2.2.2.1.1)
    have f := (flush1_7 t).mp ht
    have f' := (flush1_7 t').mp ht'
    omega))) t ((flush1_7 t).mpr ht) (ix2 l k)
  rw [show (dat1 V c).flushed 7 t = (cfg1.win 7).cut (grid1.coords t) ((outsAt1 V c t.val t.isLt).2.1) by
    show (cfg1.win 7).cut (grid1.coords t) ((dat1 V c).after 7 t) = _
    rw [after1_7]] at h
  generalize (outsAt1 V c t.val t.isLt).2.1 = o at h ⊢
  refine (at2 ((dat1 V c).arrAt 7 cfg1.N : Vec F S1024x8192 .f32) ?_ ?_).symm.trans h
  · exact at_tile (idx1 t).2.2.2.2.2.2.2.1.1 hp
  · exact all_at (idx1 t).2.2.2.2.2.2.2.1.2 k

theorem final1_8 (c : Dev nD) (t : Fin cfg1.N) (ht : t.val % 16 = 15) (l : Fin 128) (k : Fin 8192) (p : Fin 1024)
    (hp : (p : ℕ) = t / 16 * 128 + l) :
    ((dat1 V c).arrAt 8 cfg1.N : Vec F S1024x8192 .f32) (ix2 p k) = (outsAt1 V c t.val t.isLt).2.2 (ix2 l k) := by
  have h := (dat1 V c).arrAt_emb_eq_flushed 8 (fun t t' ht ht' hne => (cfg1.win 8).disjoint_blk fun h => hne (Fin.ext (by
    have e := (idx1 t).2.2.2.2.2.2.2.2.1.symm.trans ((congrFun h 0).trans (idx1 t').2.2.2.2.2.2.2.2.1)
    have f := (flush1_8 t).mp ht
    have f' := (flush1_8 t').mp ht'
    omega))) t ((flush1_8 t).mpr ht) (ix2 l k)
  rw [show (dat1 V c).flushed 8 t = (cfg1.win 8).cut (grid1.coords t) ((outsAt1 V c t.val t.isLt).2.2) by
    show (cfg1.win 8).cut (grid1.coords t) ((dat1 V c).after 8 t) = _
    rw [after1_8]] at h
  generalize (outsAt1 V c t.val t.isLt).2.2 = o at h ⊢
  refine (at2 ((dat1 V c).arrAt 8 cfg1.N : Vec F S1024x8192 .f32) ?_ ?_).symm.trans h
  · exact at_tile (idx1 t).2.2.2.2.2.2.2.2.1 hp
  · exact all_at (idx1 t).2.2.2.2.2.2.2.2.2 k

end Cert.MlaIdeal.Result

end
-- ==== Proof.Attn.lean ====
/-
  A row of softmax attention over the reals: its weights, its log-sum in base two, and the weights' gradient, from the
  operations over the extended reals that compute them.
-/
module

public import proofs.«01_k».proof.Proof.Norm

@[expose] public section

noncomputable section

namespace Cert.Attn

open Idealize.ShloMosaic Cert.Norm

variable {J : Type} [Fintype J]

/-- The softmax of a row of scores. -/
def prob (s : J → ℝ) (j : J) : ℝ := Real.exp (s j) / ∑ k, Real.exp (s k)

/-- The logarithm in base two of a row's sum of exponentials. -/
def lse (s : J → ℝ) : ℝ := Real.log (∑ k, Real.exp (s k)) * (Real.log 2)⁻¹

/-- The gradient at a row's scores, from that at its weights. -/
def ds (s dp : J → ℝ) (j : J) : ℝ := prob s j * (dp j - ∑ k, prob s k * dp k)

theorem log2_ne : Real.log 2 ≠ 0 := (Real.log_pos (by norm_num)).ne'

theorem sum_pos [Nonempty J] (s : J → ℝ) : 0 < ∑ k, Real.exp (s k) :=
  Finset.sum_pos (fun _ _ => Real.exp_pos _) Finset.univ_nonempty

/-- A shift of all of a row's scores scales the sum of their exponentials. -/
theorem sum_shift (s : J → ℝ) (M : ℝ) : ∑ k, Real.exp (s k - M) = (∑ k, Real.exp (s k)) / Real.exp M := by
  rw [Finset.sum_div]
  exact Finset.sum_congr rfl fun k _ => Real.exp_sub _ _

theorem exp2_coe (x : ℝ) : FloatOps.exp2 (F := Ideal) (φ := .f32) (x : EReal) = ((Real.exp (Real.log 2 * x) : ℝ) : EReal) :=
  congrArg (fun y : ℝ => (y : EReal)) (Real.rpow_def_of_pos (by norm_num) x)

theorem div_real {y : ℝ} (h : y ≠ 0) (x : ℝ) : Ideal.div (x : EReal) (y : EReal) = ((x / y : ℝ) : EReal) := by
  rw [Ideal.div_coe h, ← EReal.coe_mul]
  exact congrArg (fun y : ℝ => (y : EReal)) (by ring)

theorem log_real {y : ℝ} (h : 0 < y) : Ideal.log (y : EReal) = ((Real.log y : ℝ) : EReal) :=
  (Ideal.log_coe y).trans (if_neg (not_le.mpr h))

theorem ofBits_negInf : Ideal.ofBits .f32 0xFF800000#32 = (⊥ : EReal) := by
  simp [Ideal.ofBits, Ideal.ieee]

/-- A row's greatest score is a real number. -/
theorem fold_max_real [Nonempty J] (s : J → ℝ) : ∃ M : ℝ, Finset.fold max (⊥ : EReal) (fun j => (s j : EReal)) Finset.univ = (M : EReal) := by
  have h : ∀ S : Finset J, S.Nonempty → ∃ M : ℝ, Finset.fold max (⊥ : EReal) (fun j => (s j : EReal)) S = (M : EReal) := by
    classical
    intro S hS
    induction hS using Finset.Nonempty.cons_induction with
    | singleton a => exact ⟨s a, by simp⟩
    | cons a S ha _ ih =>
      obtain ⟨M, hM⟩ := ih
      exact ⟨max (s a) M, by rw [Finset.fold_cons, hM]; exact (EReal.coe_strictMono.monotone.map_max).symm⟩
  exact h _ Finset.univ_nonempty

/-- A base-two score. -/
theorem two_score (s M : ℝ) : Real.log 2 * (s * (Real.log 2)⁻¹ - M) = s - Real.log 2 * M := by
  field_simp [log2_ne]

/-- The weighted mean of values under the weights of a row of base-two scores, -/
theorem row_out [Nonempty J] (s v : J → ℝ) (M : ℝ) :
    Ideal.div (∑ j, FloatOps.exp2 (F := Ideal) (φ := .f32) (((s j * (Real.log 2)⁻¹ : ℝ) : EReal) - (M : EReal)) * (v j : EReal))
        (∑ j, FloatOps.exp2 (F := Ideal) (φ := .f32) (((s j * (Real.log 2)⁻¹ : ℝ) : EReal) - (M : EReal)) * ((1 : ℝ) : EReal))
      = ((∑ j, prob s j * v j : ℝ) : EReal) := by
  simp only [← EReal.coe_sub, exp2_coe, ← EReal.coe_mul, coe_sum, two_score, mul_one]
  rw [div_real (sum_pos _).ne', sum_shift, Finset.sum_div]
  refine congrArg (fun y : ℝ => (y : EReal)) (Finset.sum_congr rfl fun j _ => ?_)
  have h := (sum_pos s).ne'
  rw [Real.exp_sub, prob]
  field_simp [(Real.exp_pos (Real.log 2 * M)).ne']

/-- its log-sum, -/
theorem row_lse [Nonempty J] (s : J → ℝ) (M : ℝ) :
    (M : EReal) + Ideal.log (∑ j, FloatOps.exp2 (F := Ideal) (φ := .f32) (((s j * (Real.log 2)⁻¹ : ℝ) : EReal) - (M : EReal)) * ((1 : ℝ) : EReal))
      * (((Real.log 2)⁻¹ : ℝ) : EReal) = ((lse s : ℝ) : EReal) := by
  simp only [← EReal.coe_sub, exp2_coe, ← EReal.coe_mul, coe_sum, two_score, mul_one]
  rw [log_real (sum_pos _), sum_shift, ← EReal.coe_mul, ← EReal.coe_add]
  refine congrArg (fun y : ℝ => (y : EReal)) ?_
  rw [Real.log_div (sum_pos s).ne' (Real.exp_pos _).ne', Real.log_exp, lse]
  field_simp [log2_ne]
  ring

/-- and a weight from the log-sum. -/
theorem weight [Nonempty J] (s : J → ℝ) (j : J) :
    FloatOps.exp2 (F := Ideal) (φ := .f32) (((s j * (Real.log 2)⁻¹ : ℝ) : EReal) - ((lse s : ℝ) : EReal)) = ((prob s j : ℝ) : EReal) := by
  rw [← EReal.coe_sub, exp2_coe, two_score]
  refine congrArg (fun y : ℝ => (y : EReal)) ?_
  rw [Real.exp_sub, prob, lse, mul_comm (Real.log 2), inv_mul_cancel_right₀ log2_ne, Real.exp_log (sum_pos s)]

/-- The weights from a row's shifted exponentials, -/
theorem weight_shift [Nonempty J] (s : J → ℝ) (M : ℝ) (j : J) :
    Ideal.div (((Real.exp (s j - M)) : ℝ) : EReal) ((∑ k, Real.exp (s k - M) : ℝ) : EReal) = ((prob s j : ℝ) : EReal) := by
  rw [div_real (sum_pos _).ne', sum_shift, Real.exp_sub]
  refine congrArg (fun y : ℝ => (y : EReal)) ?_
  have h := (sum_pos s).ne'
  rw [prob]
  field_simp [(Real.exp_pos M).ne']

/-- and the gradient at the scores as a quotient's derivative. -/
theorem ds_quot [Nonempty J] (s dp : J → ℝ) (M : ℝ) (j : J) :
    (dp j / (∑ k, Real.exp (s k - M)) + -(∑ k, dp k * (1 / ((∑ k, Real.exp (s k - M)) * ∑ k, Real.exp (s k - M))) * Real.exp (s k - M)))
      * Real.exp (s j - M) = ds s dp j := by
  have h := (sum_pos s).ne'
  have hM := (Real.exp_pos M).ne'
  have e : ∑ k, dp k * (1 / ((∑ k, Real.exp (s k - M)) * ∑ k, Real.exp (s k - M))) * Real.exp (s k - M)
      = (∑ k, prob s k * dp k) / (∑ k, Real.exp (s k - M)) := by
    rw [Finset.sum_div]
    refine Finset.sum_congr rfl fun k _ => ?_
    rw [sum_shift, Real.exp_sub, prob]
    field_simp
  rw [e, ds, prob, sum_shift, Real.exp_sub]
  field_simp
  ring

/-- The row's sum of a cotangent times its weighted means of values is the weights' sum of the cotangent's products with the values. -/
theorem delta {E : Type} [Fintype E] (p : J → ℝ) (v : J → E → ℝ) (g : E → ℝ) :
    ∑ e, g e * ∑ j, p j * v j e = ∑ j, p j * ∑ e, g e * v j e := by
  simp only [Finset.mul_sum]
  rw [Finset.sum_comm]
  exact Finset.sum_congr rfl fun j _ => Finset.sum_congr rfl fun e _ => by ring

end Cert.Attn

end
-- ==== Proof.Flash.lean ====
/-
  The attention's forward and backward passes on one row of queries, over the extended reals: from base-two scores, with
  the row sum of the exponentials in the product's column 64, and from the saved logarithm.
-/
module

public import proofs.«01_k».proof.Proof.Attn

@[expose] public section

noncomputable section

namespace Cert.Flash

open Idealize.ShloMosaic Cert.Attn Cert.Norm

variable (q : Fin 128 → EReal) (k v : Fin 8192 → Fin 128 → EReal)

/-- A query's scores, -/
def score (j : Fin 8192) : EReal := ∑ l : Fin 128, q l * k j l

/-- their greatest, -/
def top : EReal := Finset.fold max (Ideal.ofBits FTy.f32 4286578688#32) (score q k) Finset.univ

/-- and the sum of the values, column by column, under the shifted exponentials. -/
def mass (l : Fin 128) : EReal := ∑ j : Fin 8192, FloatOps.exp2 (F := Ideal) (φ := .f32) (score q k j - top q k) * v j l

/-- The forward call's two results. -/
def out (l : Fin 128) : EReal := Ideal.div (mass q k v l) (mass q k v 64)
def save (log2e : EReal) : EReal := top q k + Ideal.log (mass q k v 64) * log2e

variable (dy o : Fin 128 → EReal) (m : EReal)

/-- The backward call's weights from the saved logarithm, and the gradient at the scores. -/
def wt (j : Fin 8192) : EReal := FloatOps.exp2 (F := Ideal) (φ := .f32) (score q k j - m)
def grad (j : Fin 8192) : EReal := wt q k m j * ((∑ l : Fin 128, dy l * v j l) - ∑ l : Fin 128, dy l * o l)

/-! Over real rows. -/

section
variable (x : Fin 128 → ℝ) (y z : Fin 8192 → Fin 128 → ℝ)

/-- A query's natural scores from the base-two ones. -/
def nat (j : Fin 8192) : ℝ := Real.log 2 * ∑ l : Fin 128, x l * y j l

variable {x y z} {q k v} (hq : ∀ l, q l = (x l : EReal)) (hk : ∀ j l, k j l = (y j l : EReal)) (hv : ∀ j l, v j l = (z j l : EReal))

include hq hk in
theorem score_real (j : Fin 8192) : score q k j = ((nat x y j * (Real.log 2)⁻¹ : ℝ) : EReal) := by
  unfold score nat
  simp only [hq, hk, ← EReal.coe_mul, coe_sum]
  rw [mul_comm (Real.log 2), mul_inv_cancel_right₀ log2_ne]

include hq hk in
theorem top_real : ∃ M : ℝ, top q k = (M : EReal) := by
  unfold top
  rw [show score q k = fun j => ((nat x y j * (Real.log 2)⁻¹ : ℝ) : EReal) from funext (score_real hq hk),
    show Ideal.ofBits FTy.f32 4286578688#32 = (⊥ : EReal) from ofBits_negInf]
  exact fold_max_real _

include hq hk hv in
theorem out_real (h1 : ∀ j, z j 64 = 1) (l : Fin 128) : out q k v l = ((∑ j, prob (nat x y) j * z j l : ℝ) : EReal) := by
  obtain ⟨M, hM⟩ := top_real hq hk
  unfold out mass
  simp only [hM, score_real hq hk, hv, h1]
  exact row_out (nat x y) (fun j => z j l) M

include hq hk hv in
theorem save_real (h1 : ∀ j, z j 64 = 1) : save q k v (((Real.log 2)⁻¹ : ℝ) : EReal) = ((lse (nat x y) : ℝ) : EReal) := by
  obtain ⟨M, hM⟩ := top_real hq hk
  unfold save mass
  simp only [hM, score_real hq hk, hv, h1]
  exact row_lse (nat x y) M

include hq hk in
theorem wt_real {m : EReal} (hm : m = ((lse (nat x y) : ℝ) : EReal)) (j : Fin 8192) : wt q k m j = ((prob (nat x y) j : ℝ) : EReal) := by
  unfold wt
  rw [score_real hq hk, hm]
  exact weight (nat x y) j

/-- The gradient at the weights. -/
def dpr (g : Fin 128 → ℝ) (z : Fin 8192 → Fin 128 → ℝ) (j : Fin 8192) : ℝ := ∑ l : Fin 128, g l * z j l

include hq hk hv in
theorem grad_real {m : EReal} (hm : m = ((lse (nat x y) : ℝ) : EReal)) {dy o : Fin 128 → EReal} {g : Fin 128 → ℝ} (hg : ∀ l, dy l = (g l : EReal))
    (ho : ∀ l, o l = ((∑ j, prob (nat x y) j * z j l : ℝ) : EReal)) (j : Fin 8192) :
    grad q k v dy o m j = ((ds (nat x y) (dpr g z) j : ℝ) : EReal) := by
  unfold grad
  rw [wt_real hq hk hm]
  simp only [hg, ho, hv, ← EReal.coe_mul, coe_sum, ← EReal.coe_sub]
  rw [delta]
  rfl

end

/-- Two halves of a tile of 512 rows. -/
theorem halves (f : Fin 512 → EReal) : (∑ r : Fin 256, f ⟨0 + r, by omega⟩) + ∑ r : Fin 256, f ⟨256 + r, by omega⟩ = ∑ j : Fin 512, f j := by
  rw [Fin.sum_univ_add (a := 256) (b := 256) f]
  refine congrArg₂ (· + ·) (Finset.sum_congr rfl fun r _ => congrArg f (Fin.ext ?_)) (Finset.sum_congr rfl fun r _ => congrArg f (Fin.ext ?_))
  · show 0 + (r : ℕ) = r; omega
  · rfl

end Cert.Flash

end
-- ==== Proof.MlaTile.lean ====
/-
  The attention over low-rank keys: what each point of its two calls leaves in the results, element by element, from
  what the windows hold.
-/
module

public import proofs.«01_k».proof.Proof.MlaBlock
public import proofs.«01_k».proof.Proof.Flash

@[expose] public section

set_option maxRecDepth 16384

noncomputable section

namespace Cert.MlaIdeal.Result

open Cert.MlaIdeal Cert.MlaIdeal.Gen Cert.Rows Cert.Tiles Cert.Flash Idealize.ShloMosaic Idealize.ShloMosaic.TcCoe Idealize.SL.Sem
open Idealize.ShloMosaic.Pointwise

/-- A block's row, and all of its rows. -/
abbrev br {a : ℕ} {e : EltTy} (x : Vec Ideal ⟨2, ![a, 128]⟩ e) (j : Fin a) : Fin 128 → Elt Ideal e := fun l => x (ix2 j l)

section
variable (q : Vec Ideal S256x128 .bf16) (k v : Vec Ideal S8192x128 .bf16) (r : Fin 256)

theorem pay_score (j : Fin 8192) : k0_pay8 (F := Ideal) q k (ix2 r j) = score (br q r) (br k) j := by
  pointwise [k0_pay8, score]

theorem pay_top (z : Fin 1) : k0_pay9 (F := Ideal) q k (ix2 r z) = top (br q r) (br k) := by
  pointwise [k0_pay9, pay_score, top]

theorem pay_mass (l : Fin 128) : k0_pay10 (F := Ideal) q k v (ix2 r l) = mass (br q r) (br k) (br v) l := by
  pointwise [k0_pay10, pay_score, pay_top, mass]

theorem pay_out (l : Fin 128) : k0_pay12 (F := Ideal) q k v (ix2 r l) = out (br q r) (br k) (br v) l := by
  pointwise [k0_pay12, k0_pay11, pay_mass, out]

theorem pay_save (l : Fin 128) : k0_pay13 (F := Ideal) q k v (ix2 r l)
    = save (br q r) (br k) (br v) (Named.named (F := Ideal) (φ := .f32) κ "log2e" 0x3FB8AA3B#32) := by
  pointwise [k0_pay13, k0_pay11, pay_mass, pay_top, save]

end

variable (q : Vec Ideal S1024x128 .bf16) (k v : Vec Ideal S8192x128 .bf16) (j : Fin 1024)

/-- A tile put together from four blocks of 256 rows, each computed from the same rows of the queries. -/
theorem four {e : EltTy} (P : Vec Ideal S256x128 .bf16 → Vec Ideal S256x128 e) (φ : (Fin 128 → EReal) → Fin 128 → Elt Ideal e)
    (hP : ∀ w r l, P w (ix2 r l) = φ (br w r) l) (l : Fin 128)
    (hc : ∃ p ∈ ([⟨r0_4, P (View.ld q r0_4)⟩, ⟨r0_3, P (View.ld q r0_3)⟩, ⟨r0_2, P (View.ld q r0_2)⟩, ⟨r0_0, P (View.ld q r0_0)⟩]
      : List (View.Piece (Elt Ideal) S1024x128 e)), ix2 j l ∈ p.1.set) :
    (View.canon [⟨r0_4, P (View.ld q r0_4)⟩, ⟨r0_3, P (View.ld q r0_3)⟩, ⟨r0_2, P (View.ld q r0_2)⟩, ⟨r0_0, P (View.ld q r0_0)⟩]
      : Vec Ideal S1024x128 e) (ix2 j l) = φ (br q j) l := by
  have hp : ∀ (off : ℕ) (hin) (hb : off + 256 ≤ 1024) (j : Fin 256) (l : Fin 128),
      P (View.ld q (Rect.unit (s := S1024x128) ![off, 0] S256x128.size hin)) (ix2 j l)
        = (fun j l => φ (br q j) l) (⟨off + j, by omega⟩ : Fin 1024) l :=
    fun off hin hb j l => (hP _ j l).trans (congrArg (φ · l) (funext fun l => ld_rows q hin j l (by omega)))
  refine View.canon_apply_of_pieces (Val := Elt Ideal) (e := e) (fun y : S1024x128.Idx => (fun (j : Fin 1024) (l : Fin 128) =>
      φ (br q j) l) (y 0) (y 1)) _ ?_ (ix2 j l) hc
  refine List.forall_mem_cons.mpr ⟨?_, List.forall_mem_cons.mpr ⟨?_, List.forall_mem_cons.mpr ⟨?_, List.forall_mem_cons.mpr
    ⟨?_, fun _ h => absurd h List.not_mem_nil⟩⟩⟩⟩
  · exact piece_rows (a := 1024) (b := 128) (n := 256) (off := 768) (fun j l => φ (br q j) l) _ (by decide) (by norm_num) (hp 768 _ (by norm_num))
  · exact piece_rows (a := 1024) (b := 128) (n := 256) (off := 512) (fun j l => φ (br q j) l) _ (by decide) (by norm_num) (hp 512 _ (by norm_num))
  · exact piece_rows (a := 1024) (b := 128) (n := 256) (off := 256) (fun j l => φ (br q j) l) _ (by decide) (by norm_num) (hp 256 _ (by norm_num))
  · exact piece_rows (a := 1024) (b := 128) (n := 256) (off := 0) (fun j l => φ (br q j) l) _ (by decide) (by norm_num) (hp 0 _ (by norm_num))

theorem out_o (l : Fin 128) : out0_3 (F := Ideal) q k v (ix2 j l) = out (br q j) (br k) (br v) l := by
  unfold out0_3 k0_pay28
  rw [ld_all k, ld_all v]
  exact four q j (fun w => k0_pay12 (F := Ideal) w k v) (fun x l => out x (br k) (br v) l) (fun w r l => pay_out w k v r l) l (cover0_3 _ _ _ _ _)

theorem out_lse (l : Fin 128) : out0_4 (F := Ideal) q k v (ix2 j l)
    = save (br q j) (br k) (br v) (Named.named (F := Ideal) (φ := .f32) κ "log2e" 0x3FB8AA3B#32) := by
  unfold out0_4 k0_pay28
  rw [ld_all k, ld_all v]
  exact four q j (fun w => k0_pay13 (F := Ideal) w k v) (fun x _ => save x (br k) (br v) (Named.named (F := Ideal) (φ := .f32) κ "log2e" 0x3FB8AA3B#32))
    (fun w r l => pay_save w k v r l) l (cover0_4 _ _ _ _ _)

section
variable (q dy o : Vec Ideal S256x128 .bf16) (m : Vec Ideal S256x1 .f32) (k v : Vec Ideal S8192x128 .bf16) (r : Fin 256)

theorem pay_wt (j : Fin 8192) : k1_pay8 (F := Ideal) q k m (ix2 r j) = wt (br q r) (br k) (m (ix2 r 0)) j := by
  pointwise [k1_pay8, k1_pay6, wt, score]

theorem pay_grad (j : Fin 8192) : k1_pay9 (F := Ideal) q dy o k m v (ix2 r j)
    = grad (br q r) (br k) (br v) (br dy r) (br o r) (m (ix2 r 0)) j := by
  pointwise [k1_pay9, k1_pay7, pay_wt, grad]

/-- The gradient of the queries from that at the scores, -/
theorem pay_dq (s : Vec Ideal S256x8192 .bf16) (l : Fin 128) : k1_pay1 (F := Ideal) s k (ix2 r l)
    = (∑ j : Fin 8192, s (ix2 r j) * k (ix2 j l)) * Named.named (F := Ideal) (φ := .f32) κ "scale_mla" 0x3DD105EC#32 := by
  pointwise [k1_pay1]

end

/-- and what a tile adds to the gradients of values and keys. -/
theorem pay_dv (a : Vec Ideal S256x128 .bf16) (p : Vec Ideal S256x8192 .f32) (b : Vec Ideal S256x128 .bf16) (p' : Vec Ideal S256x8192 .f32)
    (acc : Vec Ideal S128x8192 .f32) (l : Fin 128) (j : Fin 8192) : k1_pay2 (F := Ideal) (k1_pay12 a p) b p' acc (ix2 l j)
    = acc (ix2 l j) + ((∑ r : Fin 256, a (ix2 r l) * p (ix2 r j)) + ∑ r : Fin 256, b (ix2 r l) * p' (ix2 r j)) := by
  pointwise [k1_pay2, k1_pay12]

theorem pay_dk (a : Vec Ideal S256x128 .bf16) (p : Vec Ideal S256x8192 .bf16) (b : Vec Ideal S256x128 .bf16) (p' : Vec Ideal S256x8192 .bf16)
    (acc : Vec Ideal S128x8192 .f32) (l : Fin 128) (j : Fin 8192) : k1_pay3 (F := Ideal) (k1_pay13 a p) b p' acc (ix2 l j)
    = acc (ix2 l j) + ((∑ r : Fin 256, a (ix2 r l) * p (ix2 r j)) + ∑ r : Fin 256, b (ix2 r l) * p' (ix2 r j))
      * Named.named (F := Ideal) (φ := .f32) κ "ln2" 0x3F317218#32 := by
  pointwise [k1_pay3, k1_pay13]

end Cert.MlaIdeal.Result

end
-- ==== Proof.MlaOut.lean ====
/-
  The attention over low-rank keys: what each point of the backward call leaves in its results.
-/
module

public import proofs.«01_k».proof.Proof.MlaTile

@[expose] public section

set_option maxRecDepth 16384

noncomputable section

namespace Cert.MlaIdeal.Result

open Cert.MlaIdeal Cert.MlaIdeal.Gen Cert.Rows Cert.Tiles Cert.Flash Idealize.ShloMosaic Idealize.ShloMosaic.TcCoe Idealize.SL.Sem
open Idealize.ShloMosaic.Pointwise

variable (V : (c : Dev nD) → (b : Ref sig .tc) → Buf (Elt Ideal) ((c : Thread nD τ).loc b)) (c : Dev nD)

theorem pay_wt1 : k1_pay16 (F := Ideal) = k1_pay8 := rfl
theorem pay_grad1 : k1_pay17 (F := Ideal) = k1_pay9 := rfl

/-- The first part of the gradient of the queries has the second's form. -/
theorem pay_dq1 (q dy o : Vec Ideal S256x128 .bf16) (m : Vec Ideal S256x1 .f32) (k v k' : Vec Ideal S8192x128 .bf16) :
    k1_pay11 (F := Ideal) (k1_pay10 q dy o k m v k') (Named.named (F := Ideal) (φ := .f32) κ "scale_mla" 0x3DD105EC#32)
      = k1_pay1 (k1_pay9 q dy o k m v) k' := rfl

theorem pay_id0 (q : Vec Ideal S256x128 .bf16) : k1_pay6 (F := Ideal) q = q := funext fun i => by
  rw [eq_ix2 i]; pointwise [k1_pay6]
theorem pay_id1 : k1_pay7 (F := Ideal) = k1_pay6 := rfl
theorem pay_id2 : k1_pay14 (F := Ideal) = k1_pay6 := rfl
theorem pay_id3 : k1_pay15 (F := Ideal) = k1_pay6 := rfl

theorem pay_zero4 (l : Fin 128) (k : Fin 8192) : k1_pay4 (F := Ideal) (ix2 l k) = 0 := by pointwise [k1_pay4]
theorem pay_zero5 (l : Fin 128) (k : Fin 8192) : k1_pay5 (F := Ideal) (ix2 l k) = 0 := by pointwise [k1_pay5]

section
variable (q dy o : Vec Ideal S512x128 .bf16) (m : Vec Ideal S512x128 .f32) (k v : Vec Ideal S8192x128 .bf16)

/-- A row's weights and the gradient at its scores, from a tile's blocks. -/
def wrow (i : Fin 512) : Fin 8192 → EReal := wt (br q i) (br k) (m (ix2 i 0))
def grow (i : Fin 512) : Fin 8192 → EReal := grad (br q i) (br k) (br v) (br dy i) (br o i) (m (ix2 i 0))

theorem half_wt {off : ℕ} {h0 h1} (hb : off + 256 ≤ 512) (r : Fin 256) (j : Fin 8192) :
    k1_pay8 (F := Ideal) (View.ld q (Rect.unit (s := S512x128) ![off, 0] S256x128.size h0)) k
      (View.ld m (Rect.unit (s := S512x128) ![off, 0] S256x1.size h1)) (ix2 r j) = wrow q m k ⟨off + r, by omega⟩ j :=
  (pay_wt _ _ _ r j).trans (congrArg₂ (fun x y => wt x (br k) y j) (funext fun l => ld_rows q h0 r l (by omega))
    (ld_block m h1 r 0 (by omega) (by norm_num)))

theorem half_grad {off : ℕ} {h0 h1} (hb : off + 256 ≤ 512) (r : Fin 256) (j : Fin 8192) :
    k1_pay9 (F := Ideal) (View.ld q (Rect.unit (s := S512x128) ![off, 0] S256x128.size h0)) (View.ld dy (Rect.unit (s := S512x128) ![off, 0] S256x128.size h0))
      (View.ld o (Rect.unit (s := S512x128) ![off, 0] S256x128.size h0)) k
      (View.ld m (Rect.unit (s := S512x128) ![off, 0] S256x1.size h1)) v (ix2 r j) = grow q dy o m k v ⟨off + r, by omega⟩ j := by
  refine (pay_grad _ _ _ _ _ _ r j).trans ?_
  unfold grow
  rw [show br (View.ld q (Rect.unit (s := S512x128) ![off, 0] S256x128.size h0)) r = br q ⟨off + r, by omega⟩ from funext fun l => ld_rows q h0 r l (by omega),
    show br (View.ld dy (Rect.unit (s := S512x128) ![off, 0] S256x128.size h0)) r = br dy ⟨off + r, by omega⟩ from funext fun l => ld_rows dy h0 r l (by omega),
    show br (View.ld o (Rect.unit (s := S512x128) ![off, 0] S256x128.size h0)) r = br o ⟨off + r, by omega⟩ from funext fun l => ld_rows o h0 r l (by omega)]
  exact congrArg (fun y => grad (br q ⟨off + r, by omega⟩) (br k) (br v) (br dy ⟨off + r, by omega⟩) (br o ⟨off + r, by omega⟩) y j)
    (ld_block m h1 r 0 (by omega) (by norm_num))

/-- What a tile adds to the gradients of the keys and of the values. -/
theorem tile_dk {h0 h1 h2 h3} (acc : Vec Ideal S128x8192 .f32) (l : Fin 128) (j : Fin 8192) :
    k1_pay3 (F := Ideal) (k1_pay13 (k1_pay6 (View.ld q (Rect.unit (s := S512x128) ![0, 0] S256x128.size h0)))
        (k1_pay9 (View.ld q (Rect.unit (s := S512x128) ![0, 0] S256x128.size h0)) (View.ld dy (Rect.unit (s := S512x128) ![0, 0] S256x128.size h0))
          (View.ld o (Rect.unit (s := S512x128) ![0, 0] S256x128.size h0)) k (View.ld m (Rect.unit (s := S512x128) ![0, 0] S256x1.size h1)) v))
      (k1_pay6 (View.ld q (Rect.unit (s := S512x128) ![256, 0] S256x128.size h2)))
      (k1_pay9 (View.ld q (Rect.unit (s := S512x128) ![256, 0] S256x128.size h2)) (View.ld dy (Rect.unit (s := S512x128) ![256, 0] S256x128.size h2))
          (View.ld o (Rect.unit (s := S512x128) ![256, 0] S256x128.size h2)) k (View.ld m (Rect.unit (s := S512x128) ![256, 0] S256x1.size h3)) v)
      acc (ix2 l j) = acc (ix2 l j) + (∑ i : Fin 512, q (ix2 i l) * grow q dy o m k v i j) * Named.named (F := Ideal) (φ := .f32) κ "ln2" 0x3F317218#32 := by
  rw [pay_dk, ← halves, pay_id0, pay_id0]
  refine congrArg (fun y => acc (ix2 l j) + y * Named.named (F := Ideal) (φ := .f32) κ "ln2" 0x3F317218#32)
    (congrArg₂ (· + ·) (Finset.sum_congr rfl fun r _ => ?_) (Finset.sum_congr rfl fun r _ => ?_))
  · exact congrArg₂ (· * ·) (ld_rows q h0 r l (by omega)) (half_grad q dy o m k v (by norm_num) r j)
  · exact congrArg₂ (· * ·) (ld_rows q h2 r l (by omega)) (half_grad q dy o m k v (by norm_num) r j)

theorem tile_dv {h0 h1 h2 h3} (acc : Vec Ideal S128x8192 .f32) (l : Fin 128) (j : Fin 8192) :
    k1_pay2 (F := Ideal) (k1_pay12 (k1_pay6 (View.ld dy (Rect.unit (s := S512x128) ![0, 0] S256x128.size h0)))
        (k1_pay8 (View.ld q (Rect.unit (s := S512x128) ![0, 0] S256x128.size h0)) k (View.ld m (Rect.unit (s := S512x128) ![0, 0] S256x1.size h1))))
      (k1_pay6 (View.ld dy (Rect.unit (s := S512x128) ![256, 0] S256x128.size h2)))
      (k1_pay8 (View.ld q (Rect.unit (s := S512x128) ![256, 0] S256x128.size h2)) k (View.ld m (Rect.unit (s := S512x128) ![256, 0] S256x1.size h3)))
      acc (ix2 l j) = acc (ix2 l j) + ∑ i : Fin 512, dy (ix2 i l) * wrow q m k i j := by
  rw [pay_dv, ← halves, pay_id0, pay_id0]
  refine congrArg (fun y => acc (ix2 l j) + y)
    (congrArg₂ (· + ·) (Finset.sum_congr rfl fun r _ => ?_) (Finset.sum_congr rfl fun r _ => ?_))
  · exact congrArg₂ (· * ·) (ld_rows dy h0 r l (by omega)) (half_wt q m k (by norm_num) r j)
  · exact congrArg₂ (· * ·) (ld_rows dy h2 r l (by omega)) (half_wt q m k (by norm_num) r j)

/-- Two halves make a tile. -/
theorem cover_halves {h0 h2} (P1 P0 : Vec Ideal S256x128 .f32) (y : S512x128.Idx) :
    ∃ p ∈ ([⟨Rect.unit (s := S512x128) ![256, 0] S256x128.size h2, P1⟩, ⟨Rect.unit (s := S512x128) ![0, 0] S256x128.size h0, P0⟩]
      : List (View.Piece (Elt Ideal) S512x128 .f32)), y ∈ p.1.set :=
  View.cover_of_tiledL (s := S512x128) [⟨Rect.unit (s := S512x128) ![256, 0] S256x128.size h2, P1⟩, ⟨Rect.unit (s := S512x128) ![0, 0] S256x128.size h0, P0⟩]
    S256x128.size (by sl_kernel_rfl) y

/-- A half of the gradient of the queries, -/
theorem half_dq {off : ℕ} {h0 h1} (hb : off + 256 ≤ 512) (σ : EReal) (r : Fin 256) (l : Fin 128) :
    (∑ j : Fin 8192, k1_pay9 (F := Ideal) (View.ld q (Rect.unit (s := S512x128) ![off, 0] S256x128.size h0)) (View.ld dy (Rect.unit (s := S512x128) ![off, 0] S256x128.size h0))
      (View.ld o (Rect.unit (s := S512x128) ![off, 0] S256x128.size h0)) k
      (View.ld m (Rect.unit (s := S512x128) ![off, 0] S256x1.size h1)) v (ix2 r j) * k (ix2 j l)) * σ
      = (∑ j : Fin 8192, grow q dy o m k v ⟨off + r, by omega⟩ j * k (ix2 j l)) * σ :=
  congrArg (· * σ) (Finset.sum_congr rfl fun j _ => congrArg (· * k (ix2 j l)) (half_grad q dy o m k v hb r j))

end

/-- and a tile put together from two. -/
theorem tile_halves {h0 h2} (f : Fin 512 → Fin 128 → EReal) (P1 P0 : Vec Ideal S256x128 .f32)
    (e1 : ∀ (r : Fin 256) l, P1 (ix2 r l) = f ⟨256 + r, by omega⟩ l) (e0 : ∀ (r : Fin 256) l, P0 (ix2 r l) = f ⟨0 + r, by omega⟩ l)
    (i : Fin 512) (l : Fin 128) :
    (View.canon [⟨Rect.unit (s := S512x128) ![256, 0] S256x128.size h2, P1⟩, ⟨Rect.unit (s := S512x128) ![0, 0] S256x128.size h0, P0⟩]
      : Vec Ideal S512x128 .f32) (ix2 i l) = f i l := by
  refine View.canon_apply_of_pieces (Val := Elt Ideal) (e := .f32) (fun y : S512x128.Idx => f (y 0) (y 1)) _ ?_ (ix2 i l) (cover_halves _ _ _)
  refine List.forall_mem_cons.mpr ⟨?_, List.forall_mem_cons.mpr ⟨?_, fun _ h => absurd h List.not_mem_nil⟩⟩
  · exact piece_rows (a := 512) (b := 128) (n := 256) (off := 256) f _ (by decide) (by norm_num) e1
  · exact piece_rows (a := 512) (b := 128) (n := 256) (off := 0) f _ (by decide) (by norm_num) e0

/-- The blocks of queries, of the cotangent and of keys at a point of the backward call. -/
abbrev qB (t : Fin cfg1.N) : Vec Ideal S512x128 .bf16 := iblk1 V c 0 t
abbrev yB (t : Fin cfg1.N) : Vec Ideal S512x128 .bf16 := iblk1 V c 1 t
abbrev kB (t : Fin cfg1.N) : Vec Ideal S8192x128 .bf16 := iblk1 V c 4 t

/-- The tile's row of weights and of the gradient at the scores, at a point of the backward call. -/
def wAt (t : Fin cfg1.N) (i : Fin 512) : Fin 8192 → EReal := wrow (iblk1 V c 0 t) (iblk1 V c 3 t) (iblk1 V c 4 t) i
def gAt (t : Fin cfg1.N) (i : Fin 512) : Fin 8192 → EReal :=
  grow (iblk1 V c 0 t) (iblk1 V c 1 t) (iblk1 V c 2 t) (iblk1 V c 3 t) (iblk1 V c 4 t) (iblk1 V c 5 t) i

theorem outs_dq (t : Fin cfg1.N) (i : Fin 512) (l : Fin 128) : (outsAt1 V c t.val t.isLt).1 (ix2 i l)
    = (∑ j : Fin 8192, gAt V c t i j * kB V c t (ix2 j l)) * Named.named (F := Ideal) (φ := .f32) κ "scale_mla" 0x3DD105EC#32 := by
  by_cases h : t.val % 16 = 0
  · rw [outsAt1_A V c t h]
    dsimp only
    unfold out1_A_6
    rw [View.read_writes_eq_canon _ _ _ (fun _ => cover1_A_6 ..)]
    unfold kernelRun1_A
    dsimp only
    sl_unfold_words
    simp only [View.readAt_eq_ld, (hs1_0 t).read_unread, (hs1_1 t).read_unread, (hs1_2 t).read_unread, (hs1_3 t).read_unread,
      (hs1_4 t).read_unread, (hs1_5 t).read_unread, ld_all, pay_wt1, pay_grad1, pay_dq1]
    exact tile_halves (fun i l => (∑ j : Fin 8192, gAt V c t i j * kB V c t (ix2 j l)) * Named.named (F := Ideal) (φ := .f32) κ "scale_mla" 0x3DD105EC#32) _ _
      (fun r l => (pay_dq _ r _ l).trans (half_dq _ _ _ _ _ _ (by norm_num) _ r l))
      (fun r l => (pay_dq _ r _ l).trans (half_dq _ _ _ _ _ _ (by norm_num) _ r l)) i l
  · rw [outsAt1_B V c t h]
    dsimp only
    unfold out1_B_6
    rw [View.read_writes_eq_canon _ _ _ (fun _ => cover1_B_6 ..)]
    unfold kernelRun1_B
    dsimp only
    sl_unfold_words
    simp only [View.readAt_eq_ld, (hs1_0 t).read_unread, (hs1_1 t).read_unread, (hs1_2 t).read_unread, (hs1_3 t).read_unread,
      (hs1_4 t).read_unread, (hs1_5 t).read_unread, ld_all, pay_wt1, pay_grad1, pay_dq1]
    exact tile_halves (fun i l => (∑ j : Fin 8192, gAt V c t i j * kB V c t (ix2 j l)) * Named.named (F := Ideal) (φ := .f32) κ "scale_mla" 0x3DD105EC#32) _ _
      (fun r l => (pay_dq _ r _ l).trans (half_dq _ _ _ _ _ _ (by norm_num) _ r l))
      (fun r l => (pay_dq _ r _ l).trans (half_dq _ _ _ _ _ _ (by norm_num) _ r l)) i l

/-- The gradient of the keys at a head's first tile, and at a later one over what the tile before left. -/
theorem outs_dk_first (t : Fin cfg1.N) (h : t.val % 16 = 0) (l : Fin 128) (k : Fin 8192) : (outsAt1 V c t.val t.isLt).2.1 (ix2 l k) = (∑ i : Fin 512, qB V c t (ix2 i l) * gAt V c t i k) * Named.named (F := Ideal) (φ := .f32) κ "ln2" 0x3F317218#32 := by
  rw [outsAt1_A V c t h]
  dsimp only
  unfold out1_A_7
  rw [View.read_writes_eq_canon _ _ _ (fun _ => cover1_A_7 ..)]
  unfold kernelRun1_A
  dsimp only
  sl_unfold_words
  rw [View.canon_cons_unit_zero hz, View.readCov_unit_zero _ hz]
  simp only [View.readAt_eq_ld, (hs1_0 t).read_unread, (hs1_1 t).read_unread, (hs1_2 t).read_unread, (hs1_3 t).read_unread,
    (hs1_4 t).read_unread, (hs1_5 t).read_unread, ld_all, pay_wt1, pay_grad1, pay_id1, pay_id2, pay_id3]
  refine (tile_dk _ _ _ _ _ _ _ l k).trans ?_
  refine (congrArg (· + _) (pay_zero4 l k)).trans (zero_add _)

theorem outs_dk_next (n : ℕ) (hn : n + 1 < cfg1.N) (h : ¬ (n + 1) % 16 = 0) (l : Fin 128) (k : Fin 8192) : (outsAt1 V c (n + 1) hn).2.1 (ix2 l k)
    = (outsAt1 V c n (Nat.lt_of_succ_lt hn)).2.1 (ix2 l k) + (∑ i : Fin 512, qB V c ⟨n + 1, hn⟩ (ix2 i l) * gAt V c ⟨n + 1, hn⟩ i k) * Named.named (F := Ideal) (φ := .f32) κ "ln2" 0x3F317218#32 := by
  refine (congrArg (fun q : Vec Ideal S512x128 .f32 × Vec Ideal S128x8192 .f32 × Vec Ideal S128x8192 .f32 => q.2.1 (ix2 l k)) (outsAt1_B V c ⟨n + 1, hn⟩ h)).trans ?_
  dsimp only
  unfold out1_B_7
  rw [View.read_writes_eq_canon _ _ _ (fun _ => cover1_B_7 ..)]
  unfold kernelRun1_B
  dsimp only
  sl_unfold_words
  rw [View.canon_unit_zero hz]
  simp only [View.readAt_eq_ld, (hs1_0 _).read_unread, (hs1_1 _).read_unread, (hs1_2 _).read_unread, (hs1_3 _).read_unread,
    (hs1_4 _).read_unread, (hs1_5 _).read_unread, (hs1_7 _).read_unread, ld_all, pay_wt1, pay_grad1, pay_id1, pay_id2, pay_id3]
  exact tile_dk _ _ _ _ _ _ _ l k

/-- The gradient of the values at a head's first tile, and at a later one over what the tile before left. -/
theorem outs_dv_first (t : Fin cfg1.N) (h : t.val % 16 = 0) (l : Fin 128) (k : Fin 8192) : (outsAt1 V c t.val t.isLt).2.2 (ix2 l k) = ∑ i : Fin 512, yB V c t (ix2 i l) * wAt V c t i k := by
  rw [outsAt1_A V c t h]
  dsimp only
  unfold out1_A_8
  rw [View.read_writes_eq_canon _ _ _ (fun _ => cover1_A_8 ..)]
  unfold kernelRun1_A
  dsimp only
  sl_unfold_words
  rw [View.canon_cons_unit_zero hz, View.readCov_unit_zero _ hz]
  simp only [View.readAt_eq_ld, (hs1_0 t).read_unread, (hs1_1 t).read_unread, (hs1_2 t).read_unread, (hs1_3 t).read_unread,
    (hs1_4 t).read_unread, (hs1_5 t).read_unread, ld_all, pay_wt1, pay_grad1, pay_id1, pay_id2, pay_id3]
  refine (tile_dv _ _ _ _ _ l k).trans ?_
  refine (congrArg (· + _) (pay_zero5 l k)).trans (zero_add _)

theorem outs_dv_next (n : ℕ) (hn : n + 1 < cfg1.N) (h : ¬ (n + 1) % 16 = 0) (l : Fin 128) (k : Fin 8192) : (outsAt1 V c (n + 1) hn).2.2 (ix2 l k)
    = (outsAt1 V c n (Nat.lt_of_succ_lt hn)).2.2 (ix2 l k) + ∑ i : Fin 512, yB V c ⟨n + 1, hn⟩ (ix2 i l) * wAt V c ⟨n + 1, hn⟩ i k := by
  refine (congrArg (fun q : Vec Ideal S512x128 .f32 × Vec Ideal S128x8192 .f32 × Vec Ideal S128x8192 .f32 => q.2.2 (ix2 l k)) (outsAt1_B V c ⟨n + 1, hn⟩ h)).trans ?_
  dsimp only
  unfold out1_B_8
  rw [View.read_writes_eq_canon _ _ _ (fun _ => cover1_B_8 ..)]
  unfold kernelRun1_B
  dsimp only
  sl_unfold_words
  rw [View.canon_unit_zero hz]
  simp only [View.readAt_eq_ld, (hs1_0 _).read_unread, (hs1_1 _).read_unread, (hs1_2 _).read_unread, (hs1_3 _).read_unread,
    (hs1_4 _).read_unread, (hs1_5 _).read_unread, (hs1_8 _).read_unread, ld_all, pay_wt1, pay_grad1, pay_id1, pay_id2, pay_id3]
  exact tile_dv _ _ _ _ _ l k

end Cert.MlaIdeal.Result

end
-- ==== Proof.MlaValue.lean ====
/-
  The attention over low-rank keys: the two calls' results as whole arrays, from real arrays at their entry.
-/
module

public import proofs.«01_k».proof.Proof.MlaOut

@[expose] public section

set_option maxRecDepth 16384

noncomputable section

namespace Cert.MlaIdeal.Result

open Cert.MlaIdeal Cert.MlaIdeal.Gen Cert.Rows Cert.Tiles Cert.Flash Cert.Attn Cert.Norm Idealize.ShloMosaic Idealize.ShloMosaic.TcCoe Idealize.SL.Sem
open Idealize.ShloMosaic.Pointwise

/-- The named constants' values. -/
theorem named_log2e : Named.named (F := Ideal) (φ := .f32) κ "log2e" 0x3FB8AA3B#32 = (((Real.log 2)⁻¹ : ℝ) : EReal) :=
  IdealRules.named_const.ideal_named_scalar _ _ _ _ rfl
theorem named_ln2 : Named.named (F := Ideal) (φ := .f32) κ "ln2" 0x3F317218#32 = ((Real.log 2 : ℝ) : EReal) :=
  IdealRules.named_const.ideal_named_scalar _ _ _ _ rfl
theorem named_scale : Named.named (F := Ideal) (φ := .f32) κ "scale_mla" 0x3DD105EC#32 = (((Real.sqrt 96)⁻¹ : ℝ) : EReal) :=
  IdealRules.named_const.ideal_named_scalar _ _ _ _ rfl

/-- Column `l` of head `h`. -/
def ln (h : Fin 8) (l : Fin 128) : Fin 1024 := ⟨h * 128 + l, by omega⟩

variable (q2 k2 v2 ct : Fin 8192 → Fin 1024 → ℝ)

/-- The scores of a head's query, and the gradient at its weights. -/
def sc (h : Fin 8) (i : Fin 8192) : Fin 8192 → ℝ := nat (fun l => q2 i (ln h l)) fun j l => k2 j (ln h l)
def dp (h : Fin 8) (i : Fin 8192) : Fin 8192 → ℝ := dpr (fun l => ct i (ln h l)) fun j l => v2 j (ln h l)

variable (V : (c : Dev nD) → (b : Ref sig .tc) → Buf (Elt Ideal) ((c : Thread nD τ).loc b)) (c : Dev nD)
variable {q2 k2 v2 ct}
  (hq : ∀ r p, (V c main_v16 : Vec Ideal S8192x1024 .bf16) (ix2 r p) = (q2 r p : EReal))
  (hk : ∀ r p, (V c main_v27 : Vec Ideal S8192x1024 .bf16) (ix2 r p) = (k2 r p : EReal))
  (hv : ∀ r p, (V c main_v37 : Vec Ideal S8192x1024 .bf16) (ix2 r p) = (v2 r p : EReal))

section
variable (h1 : ∀ r h, v2 r (ln h 64) = 1)

/-- The forward call's point of a head and a row, and the row's place there. -/
def t0 (h : Fin 8) (i : Fin 8192) : Fin cfg0.N := ⟨h * 8 + i / 1024, by rw [show cfg0.N = 64 from N_0]; omega⟩
def j0 (i : Fin 8192) : Fin 1024 := ⟨i % 1024, by omega⟩

theorem t0_row (h : Fin 8) (i : Fin 8192) : (i : ℕ) = (t0 h i : ℕ) % 8 * 1024 + (j0 i : ℕ) := by
  show (i : ℕ) = (h * 8 + i / 1024) % 8 * 1024 + i % 1024
  omega
theorem t0_head (h : Fin 8) (i : Fin 8192) (l : Fin 128) : ((ln h l : Fin 1024) : ℕ) = (t0 h i : ℕ) / 8 * 128 + l := by
  show (h * 128 + l : ℕ) = (h * 8 + i / 1024) / 8 * 128 + l
  omega

include hq in
theorem q0 (h : Fin 8) (i : Fin 8192) (l : Fin 128) : br (iblk0 V c 0 (t0 h i) : Vec Ideal S1024x128 .bf16) (j0 i) l = (q2 i (ln h l) : EReal) :=
  (blk0_0 V c _ _ _ _ _ (t0_row h i) (t0_head h i l)).trans (hq _ _)
include hk in
theorem k0 (h : Fin 8) (i : Fin 8192) (j : Fin 8192) (l : Fin 128) : br (iblk0 V c 1 (t0 h i) : Vec Ideal S8192x128 .bf16) j l = (k2 j (ln h l) : EReal) :=
  (blk0_1 V c _ _ _ _ (t0_head h i l)).trans (hk _ _)
include hv in
theorem v0 (h : Fin 8) (i : Fin 8192) (j : Fin 8192) (l : Fin 128) : br (iblk0 V c 2 (t0 h i) : Vec Ideal S8192x128 .bf16) j l = (v2 j (ln h l) : EReal) :=
  (blk0_2 V c _ _ _ _ (t0_head h i l)).trans (hv _ _)

include hq hk hv h1 in
/-- The forward call: the weighted mean of the values, and the logarithm of the row's sum. -/
theorem call_o (h : Fin 8) (i : Fin 8192) (l : Fin 128) : ((dat0 V c).arrAt 3 cfg0.N : Vec Ideal S8192x1024 .bf16) (ix2 i (ln h l))
    = ((∑ j, prob (sc q2 k2 h i) j * v2 j (ln h l) : ℝ) : EReal) :=
  (final0_3 V c (t0 h i) (j0 i) l i (ln h l) (t0_row h i) (t0_head h i l)).trans ((out_o _ _ _ _ l).trans
    (out_real (q0 V c hq h i) (k0 V c hk h i) (v0 V c hv h i) (fun j => h1 j h) l))

include hq hk hv h1 in
theorem call_lse (h : Fin 8) (i : Fin 8192) (l : Fin 128) : ((dat0 V c).arrAt 4 cfg0.N : Vec Ideal S8192x1024 .f32) (ix2 i (ln h l))
    = ((lse (sc q2 k2 h i) : ℝ) : EReal) := by
  refine (final0_4 V c (t0 h i) (j0 i) l i (ln h l) (t0_row h i) (t0_head h i l)).trans ((out_lse _ _ _ _ l).trans ?_)
  rw [named_log2e]
  exact save_real (q0 V c hq h i) (k0 V c hk h i) (v0 V c hv h i) (fun j => h1 j h)

end

section
variable
  (hy : ∀ r p, (V c main_v41 : Vec Ideal S8192x1024 .bf16) (ix2 r p) = (ct r p : EReal))
  (ho : ∀ h i l, (V c main_v42_0 : Vec Ideal S8192x1024 .bf16) (ix2 i (ln h l)) = ((∑ j, prob (sc q2 k2 h i) j * v2 j (ln h l) : ℝ) : EReal))
  (hm : ∀ h i l, (V c main_v42_1 : Vec Ideal S8192x1024 .f32) (ix2 i (ln h l)) = ((lse (sc q2 k2 h i) : ℝ) : EReal))

/-- The backward call's point of a head and a tile. -/
def t1 (h : Fin 8) (t : ℕ) (ht : t < 16) : Fin cfg1.N := ⟨h * 16 + t, by rw [show cfg1.N = 128 from N_1]; omega⟩

variable (h : Fin 8) (t : ℕ) (ht : t < 16) (i : Fin 512)

theorem t1_row : (row t i : ℕ) = (t1 h t ht : ℕ) % 16 * 512 + i := by
  rw [row_val ht]
  show t * 512 + (i : ℕ) = (h * 16 + t) % 16 * 512 + i
  omega
theorem t1_head (l : Fin 128) : ((ln h l : Fin 1024) : ℕ) = (t1 h t ht : ℕ) / 16 * 128 + l := by
  show (h * 128 + l : ℕ) = (h * 16 + t) / 16 * 128 + l
  omega

include hq in
theorem q1 (l : Fin 128) : br (iblk1 V c 0 (t1 h t ht) : Vec Ideal S512x128 .bf16) i l = (q2 (row t i) (ln h l) : EReal) :=
  (blk1_0 V c _ _ _ _ _ (t1_row h t ht i) (t1_head h t ht l)).trans (hq _ _)
include hy in
theorem y1 (l : Fin 128) : br (iblk1 V c 1 (t1 h t ht) : Vec Ideal S512x128 .bf16) i l = (ct (row t i) (ln h l) : EReal) :=
  (blk1_1 V c _ _ _ _ _ (t1_row h t ht i) (t1_head h t ht l)).trans (hy _ _)
include ho in
theorem o1 (l : Fin 128) : br (iblk1 V c 2 (t1 h t ht) : Vec Ideal S512x128 .bf16) i l
    = ((∑ j, prob (sc q2 k2 h (row t i)) j * v2 j (ln h l) : ℝ) : EReal) :=
  (blk1_2 V c _ _ _ _ _ (t1_row h t ht i) (t1_head h t ht l)).trans (ho _ _ _)
include hm in
theorem m1 : (iblk1 V c 3 (t1 h t ht) : Vec Ideal S512x128 .f32) (ix2 i 0) = ((lse (sc q2 k2 h (row t i)) : ℝ) : EReal) :=
  (blk1_3 V c _ _ _ _ _ (t1_row h t ht i) (t1_head h t ht 0)).trans (hm _ _ _)
include hk in
theorem k1 (j : Fin 8192) (l : Fin 128) : br (iblk1 V c 4 (t1 h t ht) : Vec Ideal S8192x128 .bf16) j l = (k2 j (ln h l) : EReal) :=
  (blk1_4 V c _ _ _ _ (t1_head h t ht l)).trans (hk _ _)
include hv in
theorem v1 (j : Fin 8192) (l : Fin 128) : br (iblk1 V c 5 (t1 h t ht) : Vec Ideal S8192x128 .bf16) j l = (v2 j (ln h l) : EReal) :=
  (blk1_5 V c _ _ _ _ (t1_head h t ht l)).trans (hv _ _)

include hq hk hm in
theorem w_real (j : Fin 8192) : wAt V c (t1 h t ht) i j = ((prob (sc q2 k2 h (row t i)) j : ℝ) : EReal) :=
  wt_real (q1 V c hq h t ht i) (k1 V c hk h t ht) (m1 V c hm h t ht i) j

include hq hk hv hy ho hm in
theorem g_real (j : Fin 8192) : gAt V c (t1 h t ht) i j = ((ds (sc q2 k2 h (row t i)) (dp v2 ct h (row t i)) j : ℝ) : EReal) :=
  grad_real (q1 V c hq h t ht i) (k1 V c hk h t ht) (v1 V c hv h t ht) (m1 V c hm h t ht i) (y1 V c hy h t ht i) (o1 V c ho h t ht i) j

include hq hk hv hy ho hm in
/-- The backward call: the gradient of the queries, -/
theorem call_dq (h : Fin 8) (r : Fin 8192) (l : Fin 128) : ((dat1 V c).arrAt 6 cfg1.N : Vec Ideal S8192x1024 .f32) (ix2 r (ln h l))
    = (((∑ j, ds (sc q2 k2 h r) (dp v2 ct h r) j * k2 j (ln h l)) * (Real.sqrt 96)⁻¹ : ℝ) : EReal) := by
  have ht : (r : ℕ) / 512 < 16 := by omega
  have e := final1_6 V c (t1 h (r / 512) ht) (place r) l r (ln h l)
    ((congrArg Fin.val (row_place r)).symm.trans (t1_row h _ ht _)) (t1_head h _ ht l)
  rw [outs_dq, named_scale] at e
  refine e.trans ?_
  rw [EReal.coe_mul, ← coe_sum]
  refine congrArg (· * _) (Finset.sum_congr rfl fun j _ => ?_)
  rw [g_real V c hq hk hv hy ho hm h _ ht, row_place, EReal.coe_mul]
  exact congrArg (_ * ·) (k1 V c hk h _ ht j l)

include hq hk hv hy ho hm in
/-- of the keys, after tile `n` and at the end, -/
theorem call_dk_upto (h : Fin 8) (l : Fin 128) (k : Fin 8192) : ∀ (n : ℕ) (hn : n < 16),
    (outsAt1 V c (t1 h n hn) (t1 h n hn).isLt).2.1 (ix2 l k) = ∑ t ∈ Finset.range (n + 1), ∑ i : Fin 512,
      ((q2 (row t i) (ln h l) * ds (sc q2 k2 h (row t i)) (dp v2 ct h (row t i)) k * Real.log 2 : ℝ) : EReal) := by
  have tile : ∀ (n : ℕ) (hn : n < 16), (∑ i : Fin 512, qB V c (t1 h n hn) (ix2 i l) * gAt V c (t1 h n hn) i k) * ((Real.log 2 : ℝ) : EReal)
      = ∑ i : Fin 512, ((q2 (row n i) (ln h l) * ds (sc q2 k2 h (row n i)) (dp v2 ct h (row n i)) k * Real.log 2 : ℝ) : EReal) := fun n hn => by
    rw [sum_mul_coe (Real.log_pos (by norm_num)).le]
    refine Finset.sum_congr rfl fun i _ => ?_
    rw [g_real V c hq hk hv hy ho hm h n hn, EReal.coe_mul, EReal.coe_mul]
    exact congrArg (· * _ * _) (q1 V c hq h n hn i l)
  intro n
  induction n with
  | zero =>
    intro hn
    rw [outs_dk_first V c (t1 h 0 hn) (by show ((h : ℕ) * 16 + 0) % 16 = 0; omega), named_ln2, tile, Finset.sum_range_one]
  | succ n ih =>
    intro hn
    have hN : (h : ℕ) * 16 + n + 1 < cfg1.N := by rw [show cfg1.N = 128 from N_1]; omega
    have e := outs_dk_next V c (h * 16 + n) hN (by omega) l k
    rw [named_ln2] at e
    rw [Finset.sum_range_succ, ← ih (by omega), ← tile (n + 1) hn]
    exact e

include hq hk hv hy ho hm in
theorem call_dk (h : Fin 8) (l : Fin 128) (k : Fin 8192) : ((dat1 V c).arrAt 7 cfg1.N : Vec Ideal S1024x8192 .f32) (ix2 (ln h l) k)
    = (((∑ i, q2 i (ln h l) * ds (sc q2 k2 h i) (dp v2 ct h i) k) * Real.log 2 : ℝ) : EReal) := by
  refine (final1_7 V c (t1 h 15 (by decide)) (by show ((h : ℕ) * 16 + 15) % 16 = 15; omega) l k (ln h l) (t1_head h _ _ l)).trans ?_
  rw [call_dk_upto V c hq hk hv hy ho hm h l k 15 (by decide)]
  refine (sum_rows fun i => ((q2 i (ln h l) * ds (sc q2 k2 h i) (dp v2 ct h i) k * Real.log 2 : ℝ) : EReal)).trans ?_
  rw [coe_sum, Finset.sum_mul]

include hq hk hy hm in
/-- and of the values. -/
theorem call_dv_upto (h : Fin 8) (l : Fin 128) (k : Fin 8192) : ∀ (n : ℕ) (hn : n < 16),
    (outsAt1 V c (t1 h n hn) (t1 h n hn).isLt).2.2 (ix2 l k) = ∑ t ∈ Finset.range (n + 1), ∑ i : Fin 512,
      ((ct (row t i) (ln h l) * prob (sc q2 k2 h (row t i)) k : ℝ) : EReal) := by
  have tile : ∀ (n : ℕ) (hn : n < 16), ∑ i : Fin 512, yB V c (t1 h n hn) (ix2 i l) * wAt V c (t1 h n hn) i k
      = ∑ i : Fin 512, ((ct (row n i) (ln h l) * prob (sc q2 k2 h (row n i)) k : ℝ) : EReal) := fun n hn => by
    refine Finset.sum_congr rfl fun i _ => ?_
    rw [w_real V c hq hk hm h n hn, EReal.coe_mul]
    exact congrArg (· * _) (y1 V c hy h n hn i l)
  intro n
  induction n with
  | zero =>
    intro hn
    rw [outs_dv_first V c (t1 h 0 hn) (by show ((h : ℕ) * 16 + 0) % 16 = 0; omega), tile, Finset.sum_range_one]
  | succ n ih =>
    intro hn
    have hN : (h : ℕ) * 16 + n + 1 < cfg1.N := by rw [show cfg1.N = 128 from N_1]; omega
    have e := outs_dv_next V c (h * 16 + n) hN (by omega) l k
    rw [Finset.sum_range_succ, ← ih (by omega), ← tile (n + 1) hn]
    exact e

include hq hk hy hm in
theorem call_dv (h : Fin 8) (l : Fin 128) (k : Fin 8192) : ((dat1 V c).arrAt 8 cfg1.N : Vec Ideal S1024x8192 .f32) (ix2 (ln h l) k)
    = ((∑ i, ct i (ln h l) * prob (sc q2 k2 h i) k : ℝ) : EReal) := by
  refine (final1_8 V c (t1 h 15 (by decide)) (by show ((h : ℕ) * 16 + 15) % 16 = 15; omega) l k (ln h l) (t1_head h _ _ l)).trans ?_
  rw [call_dv_upto V c hq hk hy hm h l k 15 (by decide)]
  refine (sum_rows fun i => ((ct i (ln h l) * prob (sc q2 k2 h i) k : ℝ) : EReal)).trans ?_
  rw [coe_sum]

end

end Cert.MlaIdeal.Result

end
-- ==== Proof.Lanes.lean ====
/-
  A head's columns and the 128 lanes in which the attention's kernels hold them, and sums over them.
-/
module

public import proofs.«01_k».proof.Proof.Rows

@[expose] public section

noncomputable section

open Idealize.ShloMosaic

namespace Cert.Lanes

/-- The column of a head of 96 in lane `l`, the last 32 rotated: two halves of 64 lanes, in each 16 rotated columns and
    then 32 others; 96 where there is none. -/
def mcol (l : ℕ) : ℕ := if l % 64 < 16 then 64 + l % 64 / 8 * 16 + l / 64 * 8 + l % 8 else if l % 64 < 48 then l / 64 * 32 + (l % 64 - 16) else 96

/-- The lane of a column. -/
def mlane (d : Fin 96) : Fin 128 :=
  ⟨(if d.val < 64 then d.val / 32 * 64 + 16 + d.val % 32 else (d.val - 64) / 8 % 2 * 64 + (d.val - 64) / 16 * 8 + d.val % 8) % 128, Nat.mod_lt _ (by decide)⟩

theorem mcol_mlane : ∀ d : Fin 96, mcol (mlane d) = d := by decide +kernel
theorem mlane_mcol : ∀ l : Fin 128, mcol l < 96 → ∀ d : Fin 96, mcol l = d → mlane d = l := by decide +kernel

/-- The columns of a head of 64 with all of them rotated, likewise. -/
def rcol (l : ℕ) : ℕ := if l % 64 < 32 then l % 64 / 16 * 32 + l / 64 * 16 + l % 16 else 64
def rlane (d : Fin 64) : Fin 128 := ⟨(d.val / 16 % 2 * 64 + d.val / 32 * 16 + d.val % 16) % 128, Nat.mod_lt _ (by decide)⟩

theorem rcol_rlane : ∀ d : Fin 64, rcol (rlane d) = d := by decide +kernel
theorem rlane_rcol : ∀ l : Fin 128, rcol l < 64 → ∀ d : Fin 64, rcol l = d → rlane d = l := by decide +kernel

/-- Column `e` of head `h`, heads of 64 side by side. -/
def vcol (h : Fin 8) (e : Fin 64) : Fin 512 := ⟨h.val * 64 + e.val, by omega⟩

theorem vcol_of (p : Fin 512) : p = vcol ⟨p.val / 64, by omega⟩ ⟨p.val % 64, by omega⟩ :=
  Fin.ext (by show p.val = p.val / 64 * 64 + p.val % 64; omega)

/-- The plain columns of a head of 64. -/
def plane (e : Fin 64) : Fin 128 := ⟨e, by omega⟩

/-- A sum over lanes that hold nothing but a head's columns. -/
theorem sum_lanes {n : ℕ} (col : ℕ → ℕ) (lane : Fin n → Fin 128) (h : ∀ d, col (lane d) = d)
    (h' : ∀ l : Fin 128, col l < n → ∀ d : Fin n, col l = d → lane d = l) (f : Fin 128 → ℝ) (g : Fin n → ℝ) (hf : ∀ d, f (lane d) = g d)
    (h0 : ∀ l : Fin 128, ¬ col l < n → f l = 0) : ∑ l, f l = ∑ d, g d := by
  refine (Fintype.sum_of_injective lane (fun a b e => Fin.ext ?_) g f (fun l hl => ?_) (fun d => (hf d).symm)).symm
  · rw [← h a, ← h b, e]
  · refine h0 l fun hlt => hl ⟨⟨col l, hlt⟩, h' l hlt _ rfl⟩

/-- A head's columns in their lanes, zero in the others; lane `p` of all heads side by side. -/
def spread {H n : ℕ} (col : ℕ → ℕ) (A : Fin H → Fin n → ℝ) (p : ℕ) : ℝ :=
  if h : p / 128 < H ∧ col (p % 128) < n then A ⟨p / 128, h.1⟩ ⟨col (p % 128), h.2⟩ else 0

theorem spread_lane {H n : ℕ} (col : ℕ → ℕ) (A : Fin H → Fin n → ℝ) (h : Fin H) (l : Fin 128) :
    spread col A (h * 128 + l) = if hl : col l < n then A h ⟨col l, hl⟩ else 0 := by
  have e1 : ((h : ℕ) * 128 + l) / 128 = h := by omega
  have e2 : ((h : ℕ) * 128 + l) % 128 = l := by omega
  unfold spread
  by_cases hl : col l < n
  · rw [dif_pos ⟨by rw [e1]; exact h.isLt, by rw [e2]; exact hl⟩, dif_pos hl]
    exact congrArg₂ A (Fin.ext e1) (Fin.ext (congrArg col e2))
  · rw [dif_neg (by rw [e2]; exact fun h => hl h.2), dif_neg hl]

/-- An element where the lane holds column `d`, -/
theorem spread_at {H n : ℕ} (col : ℕ → ℕ) (A : Fin H → Fin n → ℝ) (h : Fin H) (l : Fin 128) (d : Fin n) (hd : col l = d) :
    spread col A (h * 128 + l) = A h d := by
  rw [spread_lane, dif_pos (by rw [hd]; exact d.isLt)]
  exact congrArg (A h) (Fin.ext hd)

/-- and the sum over a head's lanes of the products of two. -/
theorem sum_spread {H H' n : ℕ} (col : ℕ → ℕ) (lane : Fin n → Fin 128) (hc : ∀ d, col (lane d) = d)
    (h' : ∀ l : Fin 128, col l < n → ∀ d : Fin n, col l = d → lane d = l) (A : Fin H → Fin n → ℝ) (B : Fin H' → Fin n → ℝ) (h : Fin H) (k : Fin H') :
    ∑ l : Fin 128, spread col A (h * 128 + l) * spread col B (k * 128 + l) = ∑ d, A h d * B k d :=
  sum_lanes col lane hc h' _ _ (fun d => by rw [spread_at col A h _ d (hc d), spread_at col B k _ d (hc d)])
    fun l hl => by rw [spread_lane, dif_neg hl, zero_mul]

theorem plane_col (d : Fin 64) : id ((plane d : Fin 128) : ℕ) = d := rfl
theorem plane_of (l : Fin 128) (_ : id (l : ℕ) < 64) (d : Fin 64) (h : id (l : ℕ) = d) : plane d = l := Fin.ext h.symm

/-- Plain columns with a one in lane 64. -/
def spread1 {H : ℕ} (A : Fin H → Fin 64 → ℝ) (p : ℕ) : ℝ := if p % 128 = 64 then 1 else spread id A p

theorem spread1_one {H : ℕ} (A : Fin H → Fin 64 → ℝ) (h : Fin H) : spread1 A (h * 128 + (64 : Fin 128)) = 1 :=
  if_pos (by show ((h : ℕ) * 128 + 64) % 128 = 64; omega)

theorem spread1_at {H : ℕ} (A : Fin H → Fin 64 → ℝ) (h : Fin H) (e : Fin 64) : spread1 A (h * 128 + (plane e : Fin 128)) = A h e := by
  unfold spread1
  rw [if_neg (by show ¬ ((h : ℕ) * 128 + e) % 128 = 64; omega)]
  exact spread_at id A h (plane e) e rfl

theorem sum_spread1 {H H' : ℕ} (A : Fin H → Fin 64 → ℝ) (B : Fin H' → Fin 64 → ℝ) (h : Fin H) (k : Fin H') :
    ∑ l : Fin 128, spread id A (h * 128 + l) * spread1 B (k * 128 + l) = ∑ e, A h e * B k e :=
  sum_lanes id plane plane_col plane_of _ _ (fun d => by rw [spread1_at, spread_at id A h (plane d) d rfl])
    fun l hl => by rw [spread_lane, dif_neg hl, zero_mul]

/-- Which lanes of the heads side by side hold a column, and which one, halves and places counted apart; -/
theorem mcol_lt : ∀ p : Fin 1024, (p.val / 128 < 8 ∧ p.val / 64 % 2 < 2 ∧ p.val % 64 < 48) ↔ (p.val / 128 < 8 ∧ mcol (p.val % 128) < 96) := by decide +kernel
theorem mcol_parts : ∀ p : Fin 1024, mcol (p.val % 128) < 96 → mcol (p.val % 128) = if p.val % 64 < 16 then
    64 + p.val % 64 / 8 * 16 + p.val / 64 % 2 * 8 + p.val % 64 % 8 else p.val / 64 % 2 * 32 + (p.val % 64 - 16) := by decide +kernel

theorem rcol_lt {n H : ℕ} (p : Fin n) : (p.val / 128 < H ∧ p.val / 64 % 2 < 2 ∧ p.val % 64 < 32) ↔ (p.val / 128 < H ∧ rcol (p.val % 128) < 64) := by
  unfold rcol
  rw [show p.val % 128 % 64 = p.val % 64 by omega]
  split <;> omega
theorem rcol_parts {n : ℕ} (p : Fin n) (h : rcol (p.val % 128) < 64) :
    rcol (p.val % 128) = p.val % 64 / 16 * 32 + p.val / 64 % 2 * 16 + p.val % 64 % 16 := by
  unfold rcol at h ⊢
  split at h
  · rename_i hl
    rw [if_pos hl]
    omega
  · omega

/-- a column's lane from the parts in which they are put together; -/
theorem mlane_lo : ∀ (h : Fin 8) (d : Fin 96), d.val < 64 → h.val * 128 + d.val / 32 * 64 + (16 + d.val % 32) = h.val * 128 + (mlane d).val := by decide +kernel
theorem mlane_hi : ∀ (h : Fin 8) (d : Fin 96), ¬ d.val < 64 → (h.val * 32 + (d.val - 64)) / 32 * 128 + (h.val * 32 + (d.val - 64)) / 8 % 2 * 64
    + ((h.val * 32 + (d.val - 64)) / 16 % 2 * 8 + (h.val * 32 + (d.val - 64)) % 8) = h.val * 128 + (mlane d).val := by decide +kernel

/-- a padded array's element as the spread one; -/
theorem spread_pad {H n N : ℕ} (col : ℕ → ℕ) (A : Fin H → Fin n → ℝ) (p : Fin N) (P : Prop) [Decidable P] (f : P → EReal) (z : EReal)
    (hP : P ↔ (p.val / 128 < H ∧ col (p.val % 128) < n)) (hf : ∀ h h', f h = (A ⟨p.val / 128, (hP.mp h).1⟩ ⟨col (p.val % 128), h'⟩ : EReal)) (hz : z = 0) :
    (if h : P then f h else z) = (spread col A p : EReal) := by
  unfold spread
  by_cases h : P
  · rw [dif_pos h, dif_pos (hP.mp h)]
    exact hf h _
  · rw [dif_neg h, dif_neg (fun x => h (hP.mpr x)), hz]
    rfl

/-- and one with the lane of ones. -/
theorem spread1_sel {H : ℕ} (A : Fin H → Fin 64 → ℝ) (p : ℕ) (x y : EReal) (b : BitVec 1) (hb : b = if p % 128 = 64 then 1#1 else 0#1) (hx : x = 1)
    (hy : y = (spread id A p : EReal)) : Scalar.select b x y = (spread1 A p : EReal) := by
  subst hb hx hy
  unfold spread1
  by_cases h : p % 128 = 64
  · rw [if_pos h, if_pos h]
    rfl
  · rw [if_neg h, if_neg h]
    rfl

end Cert.Lanes

end
-- ==== Proof.MlaPack.lean ====
/-
  The attention over low-rank keys: the order in which a head's columns lie in the kernels' lanes, before the two calls
  and after them.
-/
module

public import proofs.«01_k».proof.Proof.MlaRun
public import proofs.«01_k».proof.Proof.MlaValue
public import proofs.«01_k».proof.Proof.Lanes
public import Idealize.ShloMosaic.Lib.StableHlo.RunRead

@[expose] public section

set_option maxRecDepth 16384

noncomputable section

namespace Cert.MlaIdeal.Result

open Cert.MlaIdeal Cert.MlaIdeal.Gen Cert.Rows Cert.Lanes Idealize.ShloMosaic Idealize.ShloMosaic.TcCoe Idealize.SL.Sem
open Idealize.ShloMosaic.Pointwise

variable (m : (ℓ : Loc nD τ sig) → Buf (Elt Ideal) ℓ) (ρ : Dev nD → PrngReg) (c : Dev nD)

/-- The program's arguments. -/
abbrev Q : Vec Ideal S8192x8x96 .f32 := m ((c : Thread nD τ).loc main_arg0)
abbrev K : Vec Ideal S8192x8x96 .f32 := m ((c : Thread nD τ).loc main_arg1)
abbrev Vv : Vec Ideal S8192x8x64 .f32 := m ((c : Thread nD τ).loc main_arg2)
abbrev DY : Vec Ideal S8192x512 .f32 := m ((c : Thread nD τ).loc main_arg3)

/-- A head's columns in the kernel's order: the rotated ones, then the others. -/
theorem W1_v7 (r : Fin 8192) (h : Fin 8) (a : Fin 2) (d : Fin 48) {o : Fin 96}
    (ho : o.val = if d.val < 16 then 64 + d.val / 8 * 16 + a.val * 8 + d.val % 8 else a.val * 32 + (d.val - 16)) :
    (W1 m ρ c (Proc.devRef .tc main_v7) : Vec Ideal S8192x8x2x48 .f32) (ix4 r h a d) = Q m c (ix3 r h o) := by
  dsimp only [W1]
  unfold hostOps0
  after_results
  pointwise []
  split
  · rename_i hd
    rw [if_pos hd] at ho
    refine congrArg₂ (fun x y => Q m c (ix3 r x y)) (Fin.ext ?_) (Fin.ext ?_)
    · show (h.val * 32 + d.val / 8 * 16 + a.val * 8 + d.val % 8) / 32 = h
      omega
    · show 64 + (h.val * 32 + d.val / 8 * 16 + a.val * 8 + d.val % 8) % 32 = o
      omega
  · rename_i hd
    rw [if_neg hd] at ho
    exact congrArg (fun y => Q m c (ix3 r h y)) (Fin.ext ho.symm)

theorem W3_v24 (r : Fin 8192) (h : Fin 8) (a : Fin 2) (d : Fin 48) {o : Fin 96}
    (ho : o.val = if d.val < 16 then 64 + d.val / 8 * 16 + a.val * 8 + d.val % 8 else a.val * 32 + (d.val - 16)) :
    (W3 m ρ c (Proc.devRef .tc main_v24) : Vec Ideal S8192x8x2x48 .f32) (ix4 r h a d) = K m c (ix3 r h o) := by
  dsimp only [W3]
  unfold hostOps0_2
  after_results
  pointwise []
  split
  · rename_i hd
    rw [if_pos hd] at ho
    refine congrArg₂ (fun x y => K m c (ix3 r x y)) (Fin.ext ?_) (Fin.ext ?_)
    · show (h.val * 32 + d.val / 8 * 16 + a.val * 8 + d.val % 8) / 32 = h
      omega
    · show 64 + (h.val * 32 + d.val / 8 * 16 + a.val * 8 + d.val % 8) % 32 = o
      omega
  · rename_i hd
    rw [if_neg hd] at ho
    exact congrArg (fun y => K m c (ix3 r h y)) (Fin.ext ho.symm)

theorem W1_cst (i) : (W1 m ρ c (Proc.devRef .tc main_cst) : Vec Ideal S_ .f32) i = (0 : EReal) := by
  dsimp only [W1]
  unfold hostOps0
  after_results
  pointwise []
theorem W3_cst3 (i) : (W3 m ρ c (Proc.devRef .tc main_cst_3) : Vec Ideal S_ .f32) i = (0 : EReal) := by
  dsimp only [W3]
  unfold hostOps0_2
  after_results
  pointwise []

/-- The factor of the queries. -/
def cq : ℝ := (Real.sqrt 96 * Real.log 2)⁻¹

theorem sqrt96_pos : 0 < Real.sqrt 96 := Real.sqrt_pos.mpr (by norm_num)

theorem cq_eq : Ideal.div 1 (Ideal.sqrt (Ideal.ofBits FTy.f32 1119879168#32) * Ideal.log (Ideal.ofBits FTy.f32 1073741824#32)) = ((cq : ℝ) : EReal) := by
  have h96 : Ideal.ofBits FTy.f32 1119879168#32 = ((96 : ℝ) : EReal) := by simp [Ideal.ofBits, Ideal.ieee, -EReal.coe_mul]; norm_num
  rw [h96, show Ideal.ofBits FTy.f32 1073741824#32 = ((2 : ℝ) : EReal) from ofBits_two, Ideal.sqrt_coe, if_neg (by norm_num),
    Attn.log_real (by norm_num), ← EReal.coe_mul, show (1 : EReal) = ((1 : ℝ) : EReal) from rfl,
    Attn.div_real (mul_ne_zero sqrt96_pos.ne' Attn.log2_ne)]
  exact congrArg (fun y : ℝ => (y : EReal)) (one_div _)

variable {m c} {qr kr : Fin 8192 → Fin 8 → Fin 96 → ℝ} {vr yr : Fin 8192 → Fin 8 → Fin 64 → ℝ}

section
variable (hQ : ∀ r h d, Q m c (ix3 r h d) = (qr r h d : EReal))
include hQ in
/-- The queries in their lanes, -/
theorem W3_v16 (r : Fin 8192) (p : Fin 1024) : (W3 m ρ c (Proc.devRef .tc main_v16) : Vec Ideal S8192x1024 .bf16) (ix2 r p)
    = ((spread mcol (qr r) p * cq : ℝ) : EReal) := by
  simp only [W3, W2, hostOps0_1, hostOps0_2]
  generalize hU : W1 m ρ c = U
  after_reads_simp
  try simp only [StableHlo.TRef.toBuf, StableHlo.TRef.ofBuf, cast_eq, id_eq]
  pointwise []
  subst hU
  have h1 := spread_pad mcol (qr r) p _
    (fun h => (W1 m ρ c (Proc.devRef .tc main_v7) : Vec Ideal S8192x8x2x48 .f32) (ix4 r ⟨p.val / 128, h.1⟩ ⟨p.val / 64 % 2, h.2.1⟩ ⟨p.val % 64, h.2.2⟩)) _
    (mcol_lt p) (fun h hm => (W1_v7 m ρ c r _ _ _ (o := ⟨mcol (p.val % 128), hm⟩) (mcol_parts p hm)).trans (hQ _ _ _)) (W1_cst m ρ c (Shape.Idx.first h_S_))
  exact (congrArg₂ (fun x y : EReal => x * y) h1 cq_eq).trans (EReal.coe_mul _ _).symm

end

section
variable (hK : ∀ r h d, K m c (ix3 r h d) = (kr r h d : EReal))
include hK in
/-- the keys, -/
theorem W5_v27 (r : Fin 8192) (p : Fin 1024) : (W5 m ρ c (Proc.devRef .tc main_v27) : Vec Ideal S8192x1024 .bf16) (ix2 r p)
    = ((spread mcol (kr r) p : ℝ) : EReal) := by
  simp only [W5, W4, hostOps0_3, hostOps0_4]
  generalize hU : W3 m ρ c = U
  after_reads_simp
  try simp only [StableHlo.TRef.toBuf, StableHlo.TRef.ofBuf, cast_eq, id_eq]
  pointwise []
  subst hU
  exact spread_pad mcol (kr r) p _ _ _ (mcol_lt p) (fun h hm => (W3_v24 m ρ c r _ _ _ (mcol_parts p hm)).trans (hK _ _ _)) (W3_cst3 m ρ c _)

end

section
/-- the lane of the ones, -/
theorem ones_lane : ∀ p : Fin 1024, IntOp.cmpi CmpIPredicate.eq
        (Scalar.select
          (IntOp.andi
            (IntOp.cmpi CmpIPredicate.ne
              (IntOp.cmpi CmpIPredicate.slt
                (IntOp.remsi ArithUnit.host (BitVec.ofNat 32 ↑p)
                  (Scalar.select (IntOp.cmpi CmpIPredicate.eq 128#32 0#32) 1#32 128#32))
                0#32)
              (IntOp.cmpi CmpIPredicate.slt (Scalar.select (IntOp.cmpi CmpIPredicate.eq 128#32 0#32) 1#32 128#32) 0#32))
            (IntOp.cmpi CmpIPredicate.ne
              (IntOp.remsi ArithUnit.host (BitVec.ofNat 32 ↑p)
                (Scalar.select (IntOp.cmpi CmpIPredicate.eq 128#32 0#32) 1#32 128#32))
              0#32))
          (IntOp.addi
            (IntOp.remsi ArithUnit.host (BitVec.ofNat 32 ↑p)
              (Scalar.select (IntOp.cmpi CmpIPredicate.eq 128#32 0#32) 1#32 128#32))
            (Scalar.select (IntOp.cmpi CmpIPredicate.eq 128#32 0#32) 1#32 128#32))
          (IntOp.remsi ArithUnit.host (BitVec.ofNat 32 ↑p)
            (Scalar.select (IntOp.cmpi CmpIPredicate.eq 128#32 0#32) 1#32 128#32)))
        64#32 = if (p : ℕ) % 128 = 64 then 1#1 else 0#1 := by decide +kernel

variable (hV : ∀ r h e, Vv m c (ix3 r h e) = (vr r h e : EReal))
include hV in
/-- the values with it, -/
theorem W11_v37 (r : Fin 8192) (p : Fin 1024) : (W11 m ρ c (Proc.devRef .tc main_v37) : Vec Ideal S8192x1024 .bf16) (ix2 r p)
    = ((spread1 (vr r) p : ℝ) : EReal) := by
  simp only [W11, W10, W9, W8, hostOps0_10, hostOps0_9, hostOps0_8, hostOps0_7]
  after_reads_simp
  try simp only [StableHlo.TRef.toBuf, StableHlo.TRef.ofBuf, cast_eq, id_eq]
  pointwise []
  refine spread1_sel (vr r) p _ _ _ (ones_lane p) rfl (spread_pad id (vr r) p _ _ _ Iff.rfl (fun h h' => ?_) sitofp_zero)
  exact hV r ⟨p.val / 128, h.1⟩ ⟨p.val % 128, h'⟩

end

section
variable (hY : ∀ r (h : Fin 8) (e : Fin 64), DY m c (ix2 r (vcol h e)) = (yr r h e : EReal))
include hY in
/-- and the cotangent. -/
theorem W13_v41 (r : Fin 8192) (p : Fin 1024) : (W13 m ρ c (Proc.devRef .tc main_v41) : Vec Ideal S8192x1024 .bf16) (ix2 r p)
    = ((spread id (yr r) p : ℝ) : EReal) := by
  simp only [W13, W12, W11, hostOps0_10, hostOps0_11, hostOps0_12]
  after_reads_simp
  try simp only [StableHlo.TRef.toBuf, StableHlo.TRef.ofBuf, cast_eq, id_eq]
  pointwise []
  refine spread_pad id (yr r) p _ _ _ Iff.rfl (fun h h' => ?_) sitofp_zero
  exact hY r ⟨p.val / 128, h.1⟩ ⟨p.val % 128, h'⟩

end

variable (m c)

/-- The results from the calls' arrays: the weighted means, -/
theorem W16_y (r : Fin 8192) (h : Fin 8) (e : Fin 64) (p : Fin 512) (hp : p.val = h.val * 64 + e.val) :
    (W16 m ρ c (Proc.devRef .tc main_v46) : Vec Ideal S8192x512 .bf16) (ix2 r p)
      = (W15 m ρ c (Proc.devRef .tc main_v42_0) : Vec Ideal S8192x1024 .bf16) (ix2 r (ln h (plane e))) := by
  dsimp only [W16]
  unfold hostOps2
  after_results
  pointwise []
  refine congrArg (fun x => (W15 m ρ c (Proc.devRef .tc main_v42_0) : Vec Ideal S8192x1024 .bf16) (ix2 r x)) (Fin.ext ?_)
  show p.val / 64 * 128 + p.val % 64 = h.val * 128 + e.val
  omega

/-- and the gradients of queries, -/
theorem W16_dq (r : Fin 8192) (h : Fin 8) (d : Fin 96) : (W16 m ρ c (Proc.devRef .tc main_v56) : Vec Ideal S8192x8x96 .f32) (ix3 r h d)
    = (W15 m ρ c (Proc.devRef .tc main_v43_0) : Vec Ideal S8192x1024 .f32) (ix2 r (ln h (mlane d))) := by
  dsimp only [W16]
  unfold hostOps2
  after_results
  pointwise []
  split
  · rename_i hd
    refine congrArg (fun x => (W15 m ρ c (Proc.devRef .tc main_v43_0) : Vec Ideal S8192x1024 .f32) (ix2 r x)) (Fin.ext ?_)
    exact mlane_lo h d hd
  · rename_i hd
    refine congrArg (fun x => (W15 m ρ c (Proc.devRef .tc main_v43_0) : Vec Ideal S8192x1024 .f32) (ix2 r x)) (Fin.ext ?_)
    exact mlane_hi h d hd

/-- keys -/
theorem W16_dk (r : Fin 8192) (h : Fin 8) (d : Fin 96) : (W16 m ρ c (Proc.devRef .tc main_v67) : Vec Ideal S8192x8x96 .f32) (ix3 r h d)
    = (W15 m ρ c (Proc.devRef .tc main_v43_1) : Vec Ideal S1024x8192 .f32) (ix2 (ln h (mlane d)) r) := by
  dsimp only [W16]
  unfold hostOps2
  after_results
  pointwise []
  split
  · rename_i hd
    refine congrArg (fun x => (W15 m ρ c (Proc.devRef .tc main_v43_1) : Vec Ideal S1024x8192 .f32) (ix2 x r)) (Fin.ext ?_)
    exact mlane_lo h d hd
  · rename_i hd
    refine congrArg (fun x => (W15 m ρ c (Proc.devRef .tc main_v43_1) : Vec Ideal S1024x8192 .f32) (ix2 x r)) (Fin.ext ?_)
    exact mlane_hi h d hd

/-- and values. -/
theorem W16_dv (r : Fin 8192) (h : Fin 8) (e : Fin 64) : (W16 m ρ c (Proc.devRef .tc main_v72) : Vec Ideal S8192x8x64 .f32) (ix3 r h e)
    = (W15 m ρ c (Proc.devRef .tc main_v43_2) : Vec Ideal S1024x8192 .f32) (ix2 (ln h (plane e)) r) := by
  dsimp only [W16]
  unfold hostOps2
  after_results
  pointwise []
  refine congrArg (fun x => (W15 m ρ c (Proc.devRef .tc main_v43_2) : Vec Ideal S1024x8192 .f32) (ix2 x r)) (Fin.ext ?_)
  show (h.val * 64 + e.val) / 64 * 128 + (h.val * 64 + e.val) % 64 = h.val * 128 + e.val
  omega

end Cert.MlaIdeal.Result

end
-- ==== Proof.Heads.lean ====
/-
  Softmax attention of several heads over the reals, and its gradients: what the kernels and the reference compute.
-/
module

public import proofs.«01_k».proof.Proof.Attn
public import proofs.«01_k».proof.Proof.Lanes
public import Idealize.ShloMosaic.Lib.Pointwise

@[expose] public section

noncomputable section

namespace Cert.Heads

open Cert.Attn

variable {T N H n E : ℕ} (σ : ℝ) (q : Fin T → Fin H → Fin n → ℝ) (k : Fin N → Fin H → Fin n → ℝ) (v : Fin N → Fin H → Fin E → ℝ)
  (y : Fin T → Fin H → Fin E → ℝ)

/-- A query's scores in head `h`, -/
def score (h : Fin H) (i : Fin T) (j : Fin N) : ℝ := (∑ d, q i h d * k j h d) * σ

/-- and its cotangent's products with the values. -/
def dprod (h : Fin H) (i : Fin T) (j : Fin N) : ℝ := ∑ e, y i h e * v j h e

/-- The weighted means, -/
def mean (i : Fin T) (h : Fin H) (e : Fin E) : ℝ := ∑ j, prob (score σ q k h i) j * v j h e

/-- and the gradients of queries, -/
def dq (i : Fin T) (h : Fin H) (d : Fin n) : ℝ := (∑ j, ds (score σ q k h i) (dprod v y h i) j * k j h d) * σ

/-- keys -/
def dk (j : Fin N) (h : Fin H) (d : Fin n) : ℝ := (∑ i, q i h d * ds (score σ q k h i) (dprod v y h i) j) * σ

/-- and values. -/
def dv (j : Fin N) (h : Fin H) (e : Fin E) : ℝ := ∑ i, y i h e * prob (score σ q k h i) j

open Idealize.ShloMosaic Idealize.ShloMosaic.TcCoe Idealize.ShloMosaic.Pointwise Idealize.ShloMosaic.StableHlo in
/-- A row's maximum over the last axis is a fold over the row. -/
theorem reduce_max {n0 n1 n2 : ℕ} {u : Shape} (x : FVec Ideal (⟨3, ![n0, n1, n2]⟩ : Shape) .f32) (init : u.Idx → Ideal .f32)
    (h : (⟨3, ![n0, n1, n2]⟩ : Shape).ReducesTo [2] ⟨2, ![n0, n1]⟩) (hu : 0 < u.numel) (a : Fin n0) (b : Fin n1) :
    Host.reduce FloatOps.maximumf x init h hu (ix2 a b) = Finset.fold max (init (Shape.Idx.first hu) : EReal) (fun k => (x (ix3 a b k) : EReal)) Finset.univ := by
  rw [Host.reduce_eq_fold, Shape.ReducesTo.fold_fiber_r3_a2]
  rfl

open Idealize.ShloMosaic Idealize.ShloMosaic.TcCoe Idealize.ShloMosaic.Pointwise Idealize.ShloMosaic.StableHlo in
/-- The same of an array with one axis more. -/
theorem reduce_max4 {n0 n1 n2 n3 : ℕ} {u : Shape} (x : FVec Ideal (⟨4, ![n0, n1, n2, n3]⟩ : Shape) .f32) (init : u.Idx → Ideal .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = Finset.fold max (init (Shape.Idx.first hu) : EReal) (fun k => (x (ix4 a b c k) : EReal)) Finset.univ := by
  rw [Host.reduce_eq_fold, Shape.ReducesTo.fold_fiber_r4_a3]
  rfl

end Cert.Heads

end
-- ==== Proof.MlaResult.lean ====
/-
  The attention over low-rank keys: its weighted means and its gradients, as functions of the arguments.
-/
module

public import proofs.«01_k».proof.Proof.MlaPack
public import proofs.«01_k».proof.Proof.Heads

@[expose] public section

set_option maxRecDepth 16384

noncomputable section

namespace Cert.MlaIdeal.Result

open Cert.MlaIdeal Cert.MlaIdeal.Gen Cert.Rows Cert.Lanes Cert.Attn Cert.Flash Idealize.ShloMosaic Idealize.ShloMosaic.TcCoe Idealize.SL.Sem
open Idealize.ShloMosaic.Pointwise
open Cert.Heads (score dprod mean)

variable {qr kr : Fin 8192 → Fin 8 → Fin 96 → ℝ} {vr yr : Fin 8192 → Fin 8 → Fin 64 → ℝ}

/-- The arrays that the calls find. -/
abbrev q2 (qr : Fin 8192 → Fin 8 → Fin 96 → ℝ) (r : Fin 8192) (p : Fin 1024) : ℝ := spread mcol (qr r) p * cq
abbrev k2 (kr : Fin 8192 → Fin 8 → Fin 96 → ℝ) (r : Fin 8192) (p : Fin 1024) : ℝ := spread mcol (kr r) p
abbrev v2 (vr : Fin 8192 → Fin 8 → Fin 64 → ℝ) (r : Fin 8192) (p : Fin 1024) : ℝ := spread1 (vr r) p
abbrev y2 (yr : Fin 8192 → Fin 8 → Fin 64 → ℝ) (r : Fin 8192) (p : Fin 1024) : ℝ := spread id (yr r) p

theorem cq_log2 : Real.log 2 * cq = (Real.sqrt 96)⁻¹ := by
  rw [cq, mul_inv, mul_comm (Real.sqrt 96)⁻¹, ← mul_assoc, mul_inv_cancel₀ log2_ne, one_mul]

/-- Their scores are those of the heads, -/
theorem sc_eq (h : Fin 8) (i : Fin 8192) : sc (q2 qr) (k2 kr) h i = score (Real.sqrt 96)⁻¹ qr kr h i := funext fun j => by
  have e : ∀ l : Fin 128, spread mcol (qr i) (h * 128 + l) * cq * spread mcol (kr j) (h * 128 + l)
      = cq * (spread mcol (qr i) (h * 128 + l) * spread mcol (kr j) (h * 128 + l)) := fun l => by ring
  show Real.log 2 * ∑ l : Fin 128, spread mcol (qr i) (h * 128 + l) * cq * spread mcol (kr j) (h * 128 + l) = (∑ d, qr i h d * kr j h d) * _
  rw [Finset.sum_congr rfl fun l _ => e l, ← Finset.mul_sum, sum_spread mcol mlane mcol_mlane mlane_mcol, ← mul_assoc, cq_log2, mul_comm]

/-- and so are the cotangent's products. -/
theorem dp_eq (h : Fin 8) (i : Fin 8192) : dp (v2 vr) (y2 yr) h i = dprod vr yr h i := funext fun j => sum_spread1 (yr i) (vr j) h h

theorem k2_lane (j : Fin 8192) (h : Fin 8) (d : Fin 96) : k2 kr j (ln h (mlane d)) = kr j h d := spread_at mcol (kr j) h _ d (mcol_mlane d)
theorem q2_lane (j : Fin 8192) (h : Fin 8) (d : Fin 96) : q2 qr j (ln h (mlane d)) = qr j h d * cq :=
  congrArg (· * cq) (spread_at mcol (qr j) h _ d (mcol_mlane d))
theorem v2_lane (j : Fin 8192) (h : Fin 8) (e : Fin 64) : v2 vr j (ln h (plane e)) = vr j h e := spread1_at (vr j) h e
theorem y2_lane (j : Fin 8192) (h : Fin 8) (e : Fin 64) : y2 yr j (ln h (plane e)) = yr j h e := spread_at id (yr j) h _ e rfl

variable (m : (ℓ : Loc nD τ sig) → Buf (Elt Ideal) ℓ) (ρ : Dev nD → PrngReg) (c : Dev nD)
  (hQ : ∀ r h d, Q m c (ix3 r h d) = (qr r h d : EReal)) (hK : ∀ r h d, K m c (ix3 r h d) = (kr r h d : EReal))
  (hV : ∀ r h e, Vv m c (ix3 r h e) = (vr r h e : EReal))
  (hY : ∀ r (h : Fin 8) (e : Fin 64), DY m c (ix2 r (vcol h e)) = (yr r h e : EReal))

/-- What the forward call finds. -/
theorem keep_q : W13 m ρ c (Proc.devRef .tc main_v16) = W3 m ρ c (Proc.devRef .tc main_v16) :=
  (W13_of m ρ c _ (by decide +kernel)).trans <| (W12_of m ρ c _ (by decide +kernel)).trans <| (W11_of m ρ c _ (by decide +kernel)).trans <|
  (W10_of m ρ c _ (by decide +kernel)).trans <| (W9_of m ρ c _ (by decide +kernel)).trans <| (W8_of m ρ c _ (by decide +kernel)).trans <|
  (W7_of m ρ c _ (by decide +kernel)).trans <| (W6_of m ρ c _ (by decide +kernel)).trans <| (W5_of m ρ c _ (by decide +kernel)).trans <|
  W4_of m ρ c _ (by decide +kernel)
theorem keep_k : W13 m ρ c (Proc.devRef .tc main_v27) = W5 m ρ c (Proc.devRef .tc main_v27) :=
  (W13_of m ρ c _ (by decide +kernel)).trans <| (W12_of m ρ c _ (by decide +kernel)).trans <| (W11_of m ρ c _ (by decide +kernel)).trans <|
  (W10_of m ρ c _ (by decide +kernel)).trans <| (W9_of m ρ c _ (by decide +kernel)).trans <| (W8_of m ρ c _ (by decide +kernel)).trans <|
  (W7_of m ρ c _ (by decide +kernel)).trans <| W6_of m ρ c _ (by decide +kernel)
theorem keep_v : W13 m ρ c (Proc.devRef .tc main_v37) = W11 m ρ c (Proc.devRef .tc main_v37) :=
  (W13_of m ρ c _ (by decide +kernel)).trans <| W12_of m ρ c _ (by decide +kernel)

include hQ in
theorem at0_q (r : Fin 8192) (p : Fin 1024) : (V13 m ρ c main_v16 : Vec Ideal S8192x1024 .bf16) (ix2 r p) = (q2 qr r p : EReal) :=
  (congrFun (keep_q m ρ c) _).trans (W3_v16 ρ hQ r p)
include hK in
theorem at0_k (r : Fin 8192) (p : Fin 1024) : (V13 m ρ c main_v27 : Vec Ideal S8192x1024 .bf16) (ix2 r p) = (k2 kr r p : EReal) :=
  (congrFun (keep_k m ρ c) _).trans (W5_v27 ρ hK r p)
include hV in
theorem at0_v (r : Fin 8192) (p : Fin 1024) : (V13 m ρ c main_v37 : Vec Ideal S8192x1024 .bf16) (ix2 r p) = (v2 vr r p : EReal) :=
  (congrFun (keep_v m ρ c) _).trans (W11_v37 ρ hV r p)
theorem one_v (r : Fin 8192) (h : Fin 8) : v2 vr r (ln h 64) = 1 := spread1_one (vr r) h

include hQ hK hV in
/-- What the backward call finds: the weighted means -/
theorem at1_o (h : Fin 8) (i : Fin 8192) (l : Fin 128) : (V14 m ρ c main_v42_0 : Vec Ideal S8192x1024 .bf16) (ix2 i (ln h l))
    = ((∑ j, prob (sc (q2 qr) (k2 kr) h i) j * v2 vr j (ln h l) : ℝ) : EReal) :=
  (congrFun (W14_arr m ρ c 3) (ix2 i (ln h l))).trans
    (call_o (V13 m ρ) c (at0_q m ρ c hQ) (at0_k m ρ c hK) (at0_v m ρ c hV) one_v h i l)
include hQ hK hV in
/-- and log-sums are those of the forward call. -/
theorem at1_lse (h : Fin 8) (i : Fin 8192) (l : Fin 128) : (V14 m ρ c main_v42_1 : Vec Ideal S8192x1024 .f32) (ix2 i (ln h l))
    = ((lse (sc (q2 qr) (k2 kr) h i) : ℝ) : EReal) :=
  (congrFun (W14_arr m ρ c 4) (ix2 i (ln h l))).trans
    (call_lse (V13 m ρ) c (at0_q m ρ c hQ) (at0_k m ρ c hK) (at0_v m ρ c hV) one_v h i l)
include hQ in
theorem at1_q (r : Fin 8192) (p : Fin 1024) : (V14 m ρ c main_v16 : Vec Ideal S8192x1024 .bf16) (ix2 r p) = (q2 qr r p : EReal) :=
  (congrFun (W14_of m ρ c main_v16 (by decide +kernel)) _).trans (at0_q m ρ c hQ r p)
include hK in
theorem at1_k (r : Fin 8192) (p : Fin 1024) : (V14 m ρ c main_v27 : Vec Ideal S8192x1024 .bf16) (ix2 r p) = (k2 kr r p : EReal) :=
  (congrFun (W14_of m ρ c main_v27 (by decide +kernel)) _).trans (at0_k m ρ c hK r p)
include hV in
theorem at1_v (r : Fin 8192) (p : Fin 1024) : (V14 m ρ c main_v37 : Vec Ideal S8192x1024 .bf16) (ix2 r p) = (v2 vr r p : EReal) :=
  (congrFun (W14_of m ρ c main_v37 (by decide +kernel)) _).trans (at0_v m ρ c hV r p)
include hY in
theorem at1_y (r : Fin 8192) (p : Fin 1024) : (V14 m ρ c main_v41 : Vec Ideal S8192x1024 .bf16) (ix2 r p) = (y2 yr r p : EReal) :=
  (congrFun (W14_of m ρ c main_v41 (by decide +kernel)) _).trans (W13_v41 ρ hY r p)

include hQ hK hV in
/-- The program's results: the weighted means, -/
theorem result_y (r : Fin 8192) (h : Fin 8) (e : Fin 64) : (W16 m ρ c (Proc.devRef .tc main_v46) : Vec Ideal S8192x512 .bf16) (ix2 r (vcol h e))
    = (mean (Real.sqrt 96)⁻¹ qr kr vr r h e : EReal) := by
  rw [W16_y m ρ c r h e _ rfl]
  refine (congrFun (W15_of m ρ c main_v42_0 (by decide +kernel)) _).trans ((at1_o m ρ c hQ hK hV h r _).trans ?_)
  rw [sc_eq]
  simp only [v2_lane]
  rfl

include hQ hK hV hY in
/-- the gradient of the queries, -/
theorem result_dq (r : Fin 8192) (h : Fin 8) (d : Fin 96) : (W16 m ρ c (Proc.devRef .tc main_v56) : Vec Ideal S8192x8x96 .f32) (ix3 r h d)
    = (Heads.dq (Real.sqrt 96)⁻¹ qr kr vr yr r h d : EReal) := by
  rw [W16_dq]
  refine (congrFun (W15_arr m ρ c 6) (ix2 r (ln h (mlane d)))).trans ((call_dq (V14 m ρ) c (at1_q m ρ c hQ) (at1_k m ρ c hK) (at1_v m ρ c hV)
    (at1_y m ρ c hY) (at1_o m ρ c hQ hK hV) (at1_lse m ρ c hQ hK hV) h r _).trans ?_)
  rw [sc_eq, dp_eq]
  simp only [k2_lane]
  rfl

include hQ hK hV hY in
/-- of the keys, -/
theorem result_dk (r : Fin 8192) (h : Fin 8) (d : Fin 96) : (W16 m ρ c (Proc.devRef .tc main_v67) : Vec Ideal S8192x8x96 .f32) (ix3 r h d)
    = (Heads.dk (Real.sqrt 96)⁻¹ qr kr vr yr r h d : EReal) := by
  rw [W16_dk]
  refine (congrFun (W15_arr m ρ c 7) (ix2 (ln h (mlane d)) r)).trans ((call_dk (V14 m ρ) c (at1_q m ρ c hQ) (at1_k m ρ c hK) (at1_v m ρ c hV)
    (at1_y m ρ c hY) (at1_o m ρ c hQ hK hV) (at1_lse m ρ c hQ hK hV) h _ r).trans ?_)
  simp only [q2_lane, sc_eq, dp_eq]
  refine congrArg (fun y : ℝ => (y : EReal)) ?_
  rw [Heads.dk, ← cq_log2, mul_comm (Real.log 2), ← mul_assoc, Finset.sum_mul _ _ cq]
  refine congrArg (· * _) (Finset.sum_congr rfl fun i _ => ?_)
  ring

include hQ hK hV hY in
/-- and of the values. -/
theorem result_dv (r : Fin 8192) (h : Fin 8) (e : Fin 64) : (W16 m ρ c (Proc.devRef .tc main_v72) : Vec Ideal S8192x8x64 .f32) (ix3 r h e)
    = (Heads.dv (Real.sqrt 96)⁻¹ qr kr yr r h e : EReal) := by
  rw [W16_dv]
  refine (congrFun (W15_arr m ρ c 8) (ix2 (ln h (plane e)) r)).trans ((call_dv (V14 m ρ) c (at1_q m ρ c hQ) (at1_k m ρ c hK)
    (at1_y m ρ c hY) (at1_lse m ρ c hQ hK hV) h _ r).trans ?_)
  simp only [y2_lane, sc_eq]
  rfl

end Cert.MlaIdeal.Result

end
-- ==== Proof.MlaRef.lean ====
/-
  The reference of the attention over low-rank keys, over the extended reals: at real arguments its results are the
  weighted means and the gradients of the heads.
-/
module

public import proofs.«01_k».proof.Proof.Heads
public import proofs.«01_k».proof.Proof.Gen.MlaRefIdeal.Run
public import proofs.«01_k».proof.Proof.Gen.MlaRefIdeal.Read

@[expose] public section

set_option maxRecDepth 16384

noncomputable section

namespace Cert.MlaRefIdeal.Result

open Cert.MlaRefIdeal Cert.MlaRefIdeal.Read Cert.Rows Cert.Norm Cert.Attn Cert.Lanes Idealize.ShloMosaic Idealize.ShloMosaic.TcCoe
open Idealize.ShloMosaic.Pointwise Idealize.ShloMosaic.StableHlo
open Cert.Heads (score dprod mean)

variable (x0 x1 : Vec Ideal S8192x8x96 .f32) (x2 : Vec Ideal S8192x8x64 .f32) (x3 : Vec Ideal S8192x512 .f32)
  {qr kr : Fin 8192 → Fin 8 → Fin 96 → ℝ} {vr yr : Fin 8192 → Fin 8 → Fin 64 → ℝ}

/-- The scores' factor. -/
theorem factor : Ideal.div 1 (Ideal.sqrt (Ideal.ofBits FTy.f32 1119879168#32)) = (((Real.sqrt 96)⁻¹ : ℝ) : EReal) := by
  have h96 : Ideal.ofBits FTy.f32 1119879168#32 = ((96 : ℝ) : EReal) := by simp [Ideal.ofBits, Ideal.ieee, -EReal.coe_mul]; norm_num
  rw [h96, Ideal.sqrt_coe, if_neg (by norm_num), show (1 : EReal) = ((1 : ℝ) : EReal) from rfl,
    Attn.div_real (Real.sqrt_pos.mpr (by norm_num)).ne']
  exact congrArg (fun y : ℝ => (y : EReal)) (one_div _)

section
variable (h0 : ∀ r h d, x0 (ix3 r h d) = (qr r h d : EReal)) (h1 : ∀ r h d, x1 (ix3 r h d) = (kr r h d : EReal))
include h0 h1

/-- The scores, -/
theorem ref_score (h : Fin 8) (i j : Fin 8192) : val_main_v4 (F := Ideal) x0 x1 (ix3 h i j) = (score (Real.sqrt 96)⁻¹ qr kr h i j : EReal) := by
  pointwise [val_main_v4, val_main_v3, val_main_v2, val_main_v1, val_main_v0, val_main_cst, val_main_cst_0, factor, h0, h1]
  simp only [← EReal.coe_mul, coe_sum]
  rfl

/-- a row's greatest one, -/
theorem ref_top (h : Fin 8) (i : Fin 8192) : val_main_v5 (F := Ideal) x0 x1 (ix2 h i)
    = Finset.fold max (⊥ : EReal) (fun j => (score (Real.sqrt 96)⁻¹ qr kr h i j : EReal)) Finset.univ := by
  unfold val_main_v5
  rw [Heads.reduce_max]
  refine (congrArg₂ (fun z f => Finset.fold max z f Finset.univ) ?_ (funext fun j => ?_))
  · exact ofBits_negInf
  · exact ref_score x0 x1 h0 h1 h i j

theorem ref_max (h : Fin 8) (i : Fin 8192) : ∃ M : ℝ, val_main_v12 (F := Ideal) x0 x1 (ix2 h i) = (M : EReal) := by
  obtain ⟨M, hM⟩ := fold_max_real (score (Real.sqrt 96)⁻¹ qr kr h i)
  refine ⟨M, ?_⟩
  rw [val_main_v12_apply, val_main_v11_apply, val_main_cst_3_apply, ref_top x0 x1 h0 h1, hM]
  show max (Ideal.ofBits .f32 0xFF800000#32 : EReal) (M : EReal) = (M : EReal)
  rw [ofBits_negInf]
  exact max_eq_right bot_le
end

section
variable {M : Fin 8 → Fin 8192 → ℝ} (hs : ∀ h i j, val_main_v4 (F := Ideal) x0 x1 (ix3 h i j) = (score (Real.sqrt 96)⁻¹ qr kr h i j : EReal))
  (hM : ∀ h i, val_main_v12 (F := Ideal) x0 x1 (ix2 h i) = (M h i : EReal))
include hs hM
/-- the exponentials of the shifted scores, -/
theorem ref_exp (h : Fin 8) (i j : Fin 8192) : val_main_v25 (F := Ideal) x0 x1 (ix3 h i j)
    = ((Real.exp (score (Real.sqrt 96)⁻¹ qr kr h i j - M h i) : ℝ) : EReal) := by
  pointwise [val_main_v25, val_main_v24, val_main_v23, val_main_v22, hs, hM]
  rw [← EReal.coe_sub, Ideal.exp_coe]

/-- a row's sum of them, -/
theorem ref_sum (h : Fin 8) (i : Fin 8192) : val_main_v26 (F := Ideal) x0 x1 (ix2 h i)
    = ((∑ k, Real.exp (score (Real.sqrt 96)⁻¹ qr kr h i k - M h i) : ℝ) : EReal) := by
  pointwise [val_main_v26, ref_exp x0 x1 hs hM, val_main_cst_9]
  rw [coe_sum]

/-- the weights, -/
theorem ref_prob (h : Fin 8) (i j : Fin 8192) : val_main_v29 (F := Ideal) x0 x1 (ix3 h i j) = (prob (score (Real.sqrt 96)⁻¹ qr kr h i) j : EReal) := by
  pointwise [val_main_v29, val_main_v28, val_main_v27, ref_exp x0 x1 hs hM, ref_sum x0 x1 hs hM]
  exact weight_shift _ _ j

/-- the inverse square of a row's sum, -/
theorem ref_sq (h : Fin 8) (i : Fin 8192) (z : Fin 1) : val_main_v32 (F := Ideal) x0 x1 (ix3 h i z)
    = ((1 / ((∑ k, Real.exp (score (Real.sqrt 96)⁻¹ qr kr h i k - M h i)) * ∑ k, Real.exp (score (Real.sqrt 96)⁻¹ qr kr h i k - M h i)) : ℝ) : EReal) := by
  pointwise [val_main_v32, val_main_v31, val_main_v30, val_main_v27, val_main_cst_10, ref_sum x0 x1 hs hM]
  rw [← EReal.coe_mul, show (1 : EReal) = ((1 : ℝ) : EReal) from rfl, Attn.div_real]
  have hp : ∑ k, Real.exp (score (Real.sqrt 96)⁻¹ qr kr h i k - M h i) ≠ 0 := (sum_pos fun k => score (Real.sqrt 96)⁻¹ qr kr h i k - M h i).ne'
  exact mul_ne_zero hp hp

variable (h2 : ∀ r h e, x2 (ix3 r h e) = (vr r h e : EReal))
  (h3 : ∀ r (h : Fin 8) (e : Fin 64), x3 (ix2 r (vcol h e)) = (yr r h e : EReal))
omit hs hM in
include h2 h3 in
/-- the cotangent's products with the values, -/
theorem ref_dp (h : Fin 8) (i j : Fin 8192) : val_main_v39 (F := Ideal) x2 x3 (ix3 h i j) = (dprod vr yr h i j : EReal) := by
  pointwise [val_main_v39, val_main_v38, val_main_v37, h2]
  refine (Finset.sum_congr rfl fun e _ => congrArg (· * _) (h3 i h e)).trans ?_
  simp only [← EReal.coe_mul, coe_sum]
  rfl

include h2 h3
/-- and the gradient at the scores. -/
theorem ref_ds (h : Fin 8) (i j : Fin 8192) : val_main_v53 (F := Ideal) x0 x1 x2 x3 (ix3 h i j)
    = (ds (score (Real.sqrt 96)⁻¹ qr kr h i) (dprod vr yr h i) j : EReal) := by
  pointwise [val_main_v53, val_main_v52, val_main_v51, val_main_v50, val_main_v49, val_main_v48, val_main_v47, val_main_v46, val_main_v45, val_main_v44,
    val_main_v43, val_main_v42, val_main_v27, val_main_cst_11, val_main_cst_12, ref_exp x0 x1 hs hM, ref_sum x0 x1 hs hM, ref_sq x0 x1 hs hM, ref_dp x2 x3 h2 h3, Fin.sum_univ_one]
  have hp : ∑ k, Real.exp (score (Real.sqrt 96)⁻¹ qr kr h i k - M h i) ≠ 0 := (sum_pos fun k => score (Real.sqrt 96)⁻¹ qr kr h i k - M h i).ne'
  rw [Attn.div_real hp]
  simp only [← EReal.coe_mul, coe_sum, ← EReal.coe_neg, ← EReal.coe_add]
  exact congrArg (fun y : ℝ => (y : EReal)) (ds_quot _ _ _ j)

end

section
variable (h0 : ∀ r h d, x0 (ix3 r h d) = (qr r h d : EReal)) (h1 : ∀ r h d, x1 (ix3 r h d) = (kr r h d : EReal))
  (h2 : ∀ r h e, x2 (ix3 r h e) = (vr r h e : EReal)) (h3 : ∀ r (h : Fin 8) (e : Fin 64), x3 (ix2 r (vcol h e)) = (yr r h e : EReal))
include h0 h1

/-- The weights, -/
theorem at_prob (h : Fin 8) (i j : Fin 8192) : val_main_v29 (F := Ideal) x0 x1 (ix3 h i j) = (prob (score (Real.sqrt 96)⁻¹ qr kr h i) j : EReal) := by
  choose M hM using ref_max x0 x1 h0 h1
  exact ref_prob x0 x1 (ref_score x0 x1 h0 h1) hM h i j

include h2 in
/-- the weighted means, -/
theorem ref_y (r : Fin 8192) (h : Fin 8) (e : Fin 64) : val_main_v36 (F := Ideal) x0 x1 x2 (ix2 r (vcol h e)) = (mean (Real.sqrt 96)⁻¹ qr kr vr r h e : EReal) := by
  have e1 : (⟨(vcol h e : ℕ) / 64, by omega⟩ : Fin 8) = h := Fin.ext (by show (h.val * 64 + e.val) / 64 = h; omega)
  have e2 : (⟨(vcol h e : ℕ) % 64, by omega⟩ : Fin 64) = e := Fin.ext (by show (h.val * 64 + e.val) % 64 = e; omega)
  pointwise [val_main_v36, val_main_v35, val_main_v34, val_main_v33, at_prob x0 x1 h0 h1, h2]
  rw [e1, e2]
  simp only [← EReal.coe_mul, coe_sum]
  exact congrArg (fun y : ℝ => (y : EReal)) (Finset.sum_congr rfl fun j _ => mul_comm _ _)

include h3 in
/-- the gradient of the values, -/
theorem ref_dv (r : Fin 8192) (h : Fin 8) (e : Fin 64) : val_main_v41 (F := Ideal) x0 x1 x3 (ix3 r h e) = (Heads.dv (Real.sqrt 96)⁻¹ qr kr yr r h e : EReal) := by
  pointwise [val_main_v41, val_main_v40, val_main_v38, val_main_v37, at_prob x0 x1 h0 h1]
  refine (Finset.sum_congr rfl fun i _ => congrArg (· * _) (h3 i h e)).trans ?_
  simp only [← EReal.coe_mul, coe_sum]
  rfl

include h2 h3

theorem at_ds (h : Fin 8) (i j : Fin 8192) : val_main_v53 (F := Ideal) x0 x1 x2 x3 (ix3 h i j)
    = (ds (score (Real.sqrt 96)⁻¹ qr kr h i) (dprod vr yr h i) j : EReal) := by
  choose M hM using ref_max x0 x1 h0 h1
  exact ref_ds x0 x1 x2 x3 (ref_score x0 x1 h0 h1) hM h2 h3 h i j

/-- of the keys -/
theorem ref_dk (r : Fin 8192) (h : Fin 8) (d : Fin 96) : val_main_v57 (F := Ideal) x0 x1 x2 x3 (ix3 r h d) = (Heads.dk (Real.sqrt 96)⁻¹ qr kr vr yr r h d : EReal) := by
  pointwise [val_main_v57, val_main_v56, val_main_v55, val_main_v54, val_main_v2, val_main_v1, val_main_cst, val_main_cst_0, factor,
    at_ds x0 x1 x2 x3 h0 h1 h2 h3, h0]
  simp only [← EReal.coe_mul, coe_sum]
  refine congrArg (fun y : ℝ => (y : EReal)) ?_
  rw [Heads.dk, Finset.sum_mul]
  exact Finset.sum_congr rfl fun i _ => by ring

/-- and of the queries. -/
theorem ref_dq (r : Fin 8192) (h : Fin 8) (d : Fin 96) : val_main_v59 (F := Ideal) x0 x1 x2 x3 (ix3 r h d) = (Heads.dq (Real.sqrt 96)⁻¹ qr kr vr yr r h d : EReal) := by
  pointwise [val_main_v59, val_main_v58, val_main_v55, val_main_v54, val_main_v2, val_main_v1, val_main_cst, val_main_cst_0, factor,
    at_ds x0 x1 x2 x3 h0 h1 h2 h3, h1]
  simp only [← EReal.coe_mul, coe_sum]
  refine congrArg (fun y : ℝ => (y : EReal)) ?_
  rw [Heads.dq, Finset.sum_mul]
  exact Finset.sum_congr rfl fun i _ => by ring

end

end Cert.MlaRefIdeal.Result

end
-- ==== Proof.MlaClaim.lean ====
/-
  The attention over low-rank keys with its gradient: the frames, and the value claim over the extended reals.
-/
module

public import proofs.«01_k».proof.Defs
public import proofs.«01_k».proof.Proof.Gen.Mla.Frame
public import proofs.«01_k».proof.Proof.MlaResult
public import proofs.«01_k».proof.Proof.MlaRef

@[expose] public section

noncomputable section

namespace Cert.Proof.Mla

open Idealize.ShloMosaic Idealize.ShloMosaic.TcCoe Idealize.ShloMosaic.Pointwise Idealize.SL.Sem
open Cert.Lanes (vcol vcol_of)

/-- The shapes of the precondition's broadcasts fit. -/
theorem preFacts : Cert.Pre_mla_finite.Facts where
  bcast_S_S8192x8x96 := by decide
  bcast_S_S8192x8x64 := by decide
  bcast_S_S8192x512 := by decide

theorem frame : Cert.quiescent_Mla (hMla := Cert.Mla.Gen.facts) := fun m ρ _ => Cert.Mla.Gen.frame m ρ

theorem frameIdeal : Cert.quiescent_MlaIdeal (hMlaIdeal := Cert.MlaIdeal.Gen.facts) := fun m ρ _ => Cert.MlaIdeal.Gen.frame m ρ

theorem frameIdealPre : Cert.quiescent_MlaIdeal_pre_mla_finite (hMlaIdeal := Cert.MlaIdeal.Gen.facts) (hPre_mla_finite := preFacts) :=
  fun m ρ _ => Cert.MlaIdeal.Gen.frame m ρ

/-- The reference is host operations alone: it has no semaphores. -/
theorem frameRef : Cert.quiescent_MlaRefIdeal (hMlaRefIdeal := Cert.MlaRefIdeal.Gen.facts) := fun m ρ _ =>
  (θ_run Cert.MlaRefIdeal.defs _ _).mono (fun r h => ⟨fun c => (h c).2.2.2.2, sem_eq_zero_of_no_sems (by decide) r.2⟩)
    (Cert.MlaRefIdeal.Value.run m ρ)

theorem frameRefPre : Cert.quiescent_MlaRefIdeal_pre_mla_finite (hMlaRefIdeal := Cert.MlaRefIdeal.Gen.facts) (hPre_mla_finite := preFacts) :=
  fun m ρ _ => frameRef m ρ trivial

/-- The named constants stand for the words that the kernel holds. -/
theorem preserves : Cert.preserves_Mla_MlaIdeal :=
  ⟨IdealRules.named_const.statement Cert.MlaIdeal.κ "log2e" .f32 0x3FB8AA3B#32 _ rfl,
    IdealRules.named_const.statement Cert.MlaIdeal.κ "scale_mla" .f32 0x3DD105EC#32 _ rfl,
    IdealRules.named_const.statement Cert.MlaIdeal.κ "ln2" .f32 0x3F317218#32 _ rfl⟩

open Cert.MlaIdeal.Gen (W16 mem_uc) in
open Cert.MlaIdeal.Result in
open Cert.MlaRefIdeal.Result in
/-- Over the extended reals the weighted means and the gradients are the reference's, where all arguments are real. -/
theorem value : Cert.algebraic_MlaIdeal_MlaRefIdeal_pre_mla_finite (hMlaIdeal := Cert.MlaIdeal.Gen.facts)
    (hMlaRefIdeal := Cert.MlaRefIdeal.Gen.facts) (hPre_mla_finite := preFacts) := fun m g m' g' hpre hag => by
  refine ⟨fun c => W16 m g c Cert.MlaIdeal.main_v46, fun c => W16 m g c Cert.MlaIdeal.main_v56, fun c => W16 m g c Cert.MlaIdeal.main_v67,
    fun c => W16 m g c Cert.MlaIdeal.main_v72, ?_, ?_⟩
  · exact (θ_run Cert.MlaIdeal.defs _ _).mono (fun r h c => ⟨h.1 c _ (mem_uc _ (by decide)), h.1 c _ (mem_uc _ (by decide)),
      h.1 c _ (mem_uc _ (by decide)), h.1 c _ (mem_uc _ (by decide)), args m g c (h.1 c)⟩) (run m g)
  refine (θ_run Cert.MlaRefIdeal.defs _ _).mono (fun r h c => ⟨(h c).1.trans ?_, (h c).2.1.trans ?_, (h c).2.2.1.trans ?_,
    (h c).2.2.2.1.trans ?_, (h c).2.2.2.2⟩) (Cert.MlaRefIdeal.Value.run m' g')
  all_goals
    obtain ⟨a0, a1, a2, a3⟩ := hag c
    obtain ⟨p0, p1, p2, p3⟩ := hpre c
    choose qr hq using fun r h d => Cert.Norm.isReal_of_abs_lt (congrFun p0 (ix3 r h d))
    choose kr hk using fun r h d => Cert.Norm.isReal_of_abs_lt (congrFun p1 (ix3 r h d))
    choose vr hv using fun r h e => Cert.Norm.isReal_of_abs_lt (congrFun p2 (ix3 r h e))
    choose yr hy using fun r h e => Cert.Norm.isReal_of_abs_lt (congrFun p3 (ix2 r (vcol h e)))
  · rw [Cert.MlaRefIdeal.Read.val_main_v36_eq, a0, a1, a2]
    refine funext fun i => ?_
    rw [eq_ix2 i, vcol_of (i 1)]
    exact (ref_y _ _ _ hq hk hv _ _ _).trans (result_y m g c hq hk hv _ _ _).symm
  · rw [Cert.MlaRefIdeal.Read.val_main_v59_eq, a0, a1, a2, a3]
    refine funext fun i => ?_
    rw [eq_ix3 i]
    exact (ref_dq _ _ _ _ hq hk hv hy _ _ _).trans (result_dq m g c hq hk hv hy _ _ _).symm
  · rw [Cert.MlaRefIdeal.Read.val_main_v57_eq, a0, a1, a2, a3]
    refine funext fun i => ?_
    rw [eq_ix3 i]
    exact (ref_dk _ _ _ _ hq hk hv hy _ _ _).trans (result_dk m g c hq hk hv hy _ _ _).symm
  · rw [Cert.MlaRefIdeal.Read.val_main_v41_eq, a0, a1, a3]
    refine funext fun i => ?_
    rw [eq_ix3 i]
    exact (ref_dv _ _ _ hq hk hy _ _ _).trans (result_dv m g c hq hk hv hy _ _ _).symm

end Cert.Proof.Mla

end
-- ==== Proof.GqaRun.lean ====
/-
  The run of the attention with grouped queries: its host lines, its forward call, its backward call, and the host lines after.
-/
module

public import proofs.«01_k».proof.Proof.Gen.GqaIdeal.Frame

@[expose] public section

noncomputable section

namespace Cert.GqaIdeal.Result

open Cert.GqaIdeal Cert.GqaIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch lemma's arguments are found by unification through plain definitions
set_option backward.isDefEq.respectTransparency.types false in
/-- The whole program's run: it ends with every buffer at what the last call leaves (`W16`) and every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W16 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, funext fun g => hz g (.inr (no_unscoped g.2))⟩)

/-- The frame, from that run: the arguments as launched. -/
theorem args (c : Dev nD) {s : (ℓ : Loc nD τ sig) → Buf (Elt F) ℓ} (h : ∀ b ∈ Pipeline.ucRefs τ sig, s (((c : Thread nD τ)).1, b) = W16 m ρ c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3) :=
  ⟨(h _ (mem_uc main_arg0 (by decide))).trans (W16_main_arg0 m ρ c),
    (h _ (mem_uc main_arg1 (by decide))).trans (W16_main_arg1 m ρ c),
    (h _ (mem_uc main_arg2 (by decide))).trans (W16_main_arg2 m ρ c),
    (h _ (mem_uc main_arg3 (by decide))).trans (W16_main_arg3 m ρ c)⟩

end Cert.GqaIdeal.Result

end
-- ==== Proof.GqaBlock.lean ====
/-
  The two calls of the attention with grouped queries, read: what their windows hold and what each point leaves in the results.
-/
module

public import proofs.«01_k».proof.Proof.Tiles
public import proofs.«01_k».proof.Proof.Gen.GqaIdeal.Frame
public import Idealize.ShloMosaic.Lib.Tactic

@[expose] public section

set_option maxRecDepth 16384

noncomputable section

namespace Cert.GqaIdeal.Result

open Cert.GqaIdeal Cert.GqaIdeal.Gen Cert.Rows Cert.Tiles Idealize.ShloMosaic Idealize.ShloMosaic.TcCoe Idealize.SL.Sem
open Idealize.ShloMosaic.Pointwise

variable {F : FTy → Type} [FloatOps F] [Named F]
variable (V : (c : Dev nD) → (b : Ref sig .tc) → Buf (Elt F) ((c : Thread nD τ).loc b))

/-- The forward call's index maps. -/
theorem idx0 : ∀ t : Fin grid0.N, (win0_0.index t 0 = t.val % 8 ∧ win0_0.index t 1 = t.val / 8)
    ∧ (win0_1.index t 0 = 0 ∧ win0_1.index t 1 = t.val / 8 / 4)
    ∧ (win0_2.index t 0 = 0 ∧ win0_2.index t 1 = t.val / 8 / 4)
    ∧ (win0_3.index t 0 = t.val % 8 ∧ win0_3.index t 1 = t.val / 8)
    ∧ (win0_4.index t 0 = t.val % 8 ∧ win0_4.index t 1 = t.val / 8) := by decide +kernel

/-- The backward call's index maps. -/
theorem idx1 : ∀ t : Fin grid1.N, (win1_0.index t 0 = t.val % 16 ∧ win1_0.index t 1 = t.val / 16)
    ∧ (win1_1.index t 0 = t.val % 16 ∧ win1_1.index t 1 = t.val / 16)
    ∧ (win1_2.index t 0 = t.val % 16 ∧ win1_2.index t 1 = t.val / 16)
    ∧ (win1_3.index t 0 = t.val % 16 ∧ win1_3.index t 1 = t.val / 16)
    ∧ (win1_4.index t 0 = 0 ∧ win1_4.index t 1 = t.val / 64)
    ∧ (win1_5.index t 0 = 0 ∧ win1_5.index t 1 = t.val / 64)
    ∧ (win1_6.index t 0 = t.val % 16 ∧ win1_6.index t 1 = t.val / 16)
    ∧ (win1_7.index t 0 = t.val / 64 ∧ win1_7.index t 1 = 0)
    ∧ (win1_8.index t 0 = t.val / 64 ∧ win1_8.index t 1 = 0) := by decide +kernel

theorem blk0_0 (c : Dev nD) (t : Fin cfg0.N) (j : Fin 1024) (l : Fin 128) (r : Fin 8192) (p : Fin 1024) (hr : (r : ℕ) = t.val % 8 * 1024 + j) (hp : (p : ℕ) = t.val / 8 * 128 + l) :
    (iblk0 V c 0 t : Vec F S1024x128 .bf16) (ix2 j l) = (V c main_v12 : Vec F S8192x1024 .bf16) (ix2 r p) := by
  unfold iblk0
  rw [View.read_apply]
  exact at2 (V c main_v12 : Vec F S8192x1024 .bf16) (at_tile (idx0 t).1.1 hr) (at_tile (idx0 t).1.2 hp)

theorem blk0_1 (c : Dev nD) (t : Fin cfg0.N) (j : Fin 8192) (l : Fin 128) (p : Fin 256) (hp : (p : ℕ) = t.val / 8 / 4 * 128 + l) :
    (iblk0 V c 1 t : Vec F S8192x128 .bf16) (ix2 j l) = (V c main_v19 : Vec F S8192x256 .bf16) (ix2 j p) := by
  unfold iblk0
  rw [View.read_apply]
  exact at2 (V c main_v19 : Vec F S8192x256 .bf16) (all_at (idx0 t).2.1.1 j) (at_tile (idx0 t).2.1.2 hp)

theorem blk0_2 (c : Dev nD) (t : Fin cfg0.N) (j : Fin 8192) (l : Fin 128) (p : Fin 256) (hp : (p : ℕ) = t.val / 8 / 4 * 128 + l) :
    (iblk0 V c 2 t : Vec F S8192x128 .bf16) (ix2 j l) = (V c main_v29 : Vec F S8192x256 .bf16) (ix2 j p) := by
  unfold iblk0
  rw [View.read_apply]
  exact at2 (V c main_v29 : Vec F S8192x256 .bf16) (all_at (idx0 t).2.2.1.1 j) (at_tile (idx0 t).2.2.1.2 hp)

theorem blk1_0 (c : Dev nD) (t : Fin cfg1.N) (j : Fin 512) (l : Fin 128) (r : Fin 8192) (p : Fin 1024) (hr : (r : ℕ) = t.val % 16 * 512 + j) (hp : (p : ℕ) = t.val / 16 * 128 + l) :
    (iblk1 V c 0 t : Vec F S512x128 .bf16) (ix2 j l) = (V c main_v12 : Vec F S8192x1024 .bf16) (ix2 r p) := by
  unfold iblk1
  rw [View.read_apply]
  exact at2 (V c main_v12 : Vec F S8192x1024 .bf16) (at_tile (idx1 t).1.1 hr) (at_tile (idx1 t).1.2 hp)

theorem blk1_1 (c : Dev nD) (t : Fin cfg1.N) (j : Fin 512) (l : Fin 128) (r : Fin 8192) (p : Fin 1024) (hr : (r : ℕ) = t.val % 16 * 512 + j) (hp : (p : ℕ) = t.val / 16 * 128 + l) :
    (iblk1 V c 1 t : Vec F S512x128 .bf16) (ix2 j l) = (V c main_v33 : Vec F S8192x1024 .bf16) (ix2 r p) := by
  unfold iblk1
  rw [View.read_apply]
  exact at2 (V c main_v33 : Vec F S8192x1024 .bf16) (at_tile (idx1 t).2.1.1 hr) (at_tile (idx1 t).2.1.2 hp)

theorem blk1_2 (c : Dev nD) (t : Fin cfg1.N) (j : Fin 512) (l : Fin 128) (r : Fin 8192) (p : Fin 1024) (hr : (r : ℕ) = t.val % 16 * 512 + j) (hp : (p : ℕ) = t.val / 16 * 128 + l) :
    (iblk1 V c 2 t : Vec F S512x128 .bf16) (ix2 j l) = (V c main_v34_0 : Vec F S8192x1024 .bf16) (ix2 r p) := by
  unfold iblk1
  rw [View.read_apply]
  exact at2 (V c main_v34_0 : Vec F S8192x1024 .bf16) (at_tile (idx1 t).2.2.1.1 hr) (at_tile (idx1 t).2.2.1.2 hp)

theorem blk1_3 (c : Dev nD) (t : Fin cfg1.N) (j : Fin 512) (l : Fin 128) (r : Fin 8192) (p : Fin 1024) (hr : (r : ℕ) = t.val % 16 * 512 + j) (hp : (p : ℕ) = t.val / 16 * 128 + l) :
    (iblk1 V c 3 t : Vec F S512x128 .f32) (ix2 j l) = (V c main_v34_1 : Vec F S8192x1024 .f32) (ix2 r p) := by
  unfold iblk1
  rw [View.read_apply]
  exact at2 (V c main_v34_1 : Vec F S8192x1024 .f32) (at_tile (idx1 t).2.2.2.1.1 hr) (at_tile (idx1 t).2.2.2.1.2 hp)

theorem blk1_4 (c : Dev nD) (t : Fin cfg1.N) (j : Fin 8192) (l : Fin 128) (p : Fin 256) (hp : (p : ℕ) = t.val / 64 * 128 + l) :
    (iblk1 V c 4 t : Vec F S8192x128 .bf16) (ix2 j l) = (V c main_v19 : Vec F S8192x256 .bf16) (ix2 j p) := by
  unfold iblk1
  rw [View.read_apply]
  exact at2 (V c main_v19 : Vec F S8192x256 .bf16) (all_at (idx1 t).2.2.2.2.1.1 j) (at_tile (idx1 t).2.2.2.2.1.2 hp)

theorem blk1_5 (c : Dev nD) (t : Fin cfg1.N) (j : Fin 8192) (l : Fin 128) (p : Fin 256) (hp : (p : ℕ) = t.val / 64 * 128 + l) :
    (iblk1 V c 5 t : Vec F S8192x128 .bf16) (ix2 j l) = (V c main_v29 : Vec F S8192x256 .bf16) (ix2 j p) := by
  unfold iblk1
  rw [View.read_apply]
  exact at2 (V c main_v29 : Vec F S8192x256 .bf16) (all_at (idx1 t).2.2.2.2.2.1.1 j) (at_tile (idx1 t).2.2.2.2.2.1.2 hp)

theorem final0_3 (c : Dev nD) (t : Fin cfg0.N) (j : Fin 1024) (l : Fin 128) (r : Fin 8192) (p : Fin 1024)
    (hr : (r : ℕ) = t % 8 * 1024 + j) (hp : (p : ℕ) = t / 8 * 128 + l) :
    ((dat0 V c).arrAt 3 cfg0.N : Vec F S8192x1024 .bf16) (ix2 r p) = out0_3 (iblk0 V c 0 t) (iblk0 V c 1 t) (iblk0 V c 2 t) (ix2 j l) := by
  have h := (dat0 V c).arrAt_emb_eq_flushed 3 (fun t t' _ _ hne => (cfg0.win 3).disjoint_blk fun h => hne
    ((by decide +kernel : ∀ t t' : Fin grid0.N, win0_3.index t = win0_3.index t' → t = t') t t' h)) t (flush0_3 t) (ix2 j l)
  rw [show (dat0 V c).flushed 3 t = (cfg0.win 3).cut (grid0.coords t) (out0_3 (iblk0 V c 0 t) (iblk0 V c 1 t) (iblk0 V c 2 t)) by
    show (cfg0.win 3).cut (grid0.coords t) ((dat0 V c).after 3 t) = _
    rw [after0_3]] at h
  generalize out0_3 (iblk0 V c 0 t) (iblk0 V c 1 t) (iblk0 V c 2 t) = o at h ⊢
  refine (at2 ((dat0 V c).arrAt 3 cfg0.N : Vec F S8192x1024 .bf16) ?_ ?_).symm.trans h
  · exact at_tile (idx0 t).2.2.2.1.1 hr
  · exact at_tile (idx0 t).2.2.2.1.2 hp

theorem final0_4 (c : Dev nD) (t : Fin cfg0.N) (j : Fin 1024) (l : Fin 128) (r : Fin 8192) (p : Fin 1024)
    (hr : (r : ℕ) = t % 8 * 1024 + j) (hp : (p : ℕ) = t / 8 * 128 + l) :
    ((dat0 V c).arrAt 4 cfg0.N : Vec F S8192x1024 .f32) (ix2 r p) = out0_4 (iblk0 V c 0 t) (iblk0 V c 1 t) (iblk0 V c 2 t) (ix2 j l) := by
  have h := (dat0 V c).arrAt_emb_eq_flushed 4 (fun t t' _ _ hne => (cfg0.win 4).disjoint_blk fun h => hne
    ((by decide +kernel : ∀ t t' : Fin grid0.N, win0_4.index t = win0_4.index t' → t = t') t t' h)) t (flush0_4 t) (ix2 j l)
  rw [show (dat0 V c).flushed 4 t = (cfg0.win 4).cut (grid0.coords t) (out0_4 (iblk0 V c 0 t) (iblk0 V c 1 t) (iblk0 V c 2 t)) by
    show (cfg0.win 4).cut (grid0.coords t) ((dat0 V c).after 4 t) = _
    rw [after0_4]] at h
  generalize out0_4 (iblk0 V c 0 t) (iblk0 V c 1 t) (iblk0 V c 2 t) = o at h ⊢
  refine (at2 ((dat0 V c).arrAt 4 cfg0.N : Vec F S8192x1024 .f32) ?_ ?_).symm.trans h
  · exact at_tile (idx0 t).2.2.2.2.1 hr
  · exact at_tile (idx0 t).2.2.2.2.2 hp

theorem final1_6 (c : Dev nD) (t : Fin cfg1.N) (j : Fin 512) (l : Fin 128) (r : Fin 8192) (p : Fin 1024)
    (hr : (r : ℕ) = t % 16 * 512 + j) (hp : (p : ℕ) = t / 16 * 128 + l) :
    ((dat1 V c).arrAt 6 cfg1.N : Vec F S8192x1024 .f32) (ix2 r p) = (outsAt1 V c t.val t.isLt).1 (ix2 j l) := by
  have h := (dat1 V c).arrAt_emb_eq_flushed 6 (fun t t' _ _ hne => (cfg1.win 6).disjoint_blk fun h => hne
    ((by decide +kernel : ∀ t t' : Fin grid1.N, win1_6.index t = win1_6.index t' → t = t') t t' h)) t (flush1_6 t) (ix2 j l)
  rw [show (dat1 V c).flushed 6 t = (cfg1.win 6).cut (grid1.coords t) ((outsAt1 V c t.val t.isLt).1) by
    show (cfg1.win 6).cut (grid1.coords t) ((dat1 V c).after 6 t) = _
    rw [after1_6]] at h
  generalize (outsAt1 V c t.val t.isLt).1 = o at h ⊢
  refine (at2 ((dat1 V c).arrAt 6 cfg1.N : Vec F S8192x1024 .f32) ?_ ?_).symm.trans h
  · exact at_tile (idx1 t).2.2.2.2.2.2.1.1 hr
  · exact at_tile (idx1 t).2.2.2.2.2.2.1.2 hp

theorem final1_7 (c : Dev nD) (t : Fin cfg1.N) (ht : t.val % 64 = 63) (l : Fin 128) (k : Fin 8192) (p : Fin 256)
    (hp : (p : ℕ) = t / 64 * 128 + l) :
    ((dat1 V c).arrAt 7 cfg1.N : Vec F S256x8192 .f32) (ix2 p k) = (outsAt1 V c t.val t.isLt).2.1 (ix2 l k) := by
  have h := (dat1 V c).arrAt_emb_eq_flushed 7 (fun t t' ht ht' hne => (cfg1.win 7).disjoint_blk fun h => hne (Fin.ext (by
    have e := (idx1 t).2.2.2.2.2.2.2.1.1.symm.trans ((congrFun h 0).trans (idx1 t').2.2.2.2.2.2.2.1.1)
    have f := (flush1_7 t).mp ht
    have f' := (flush1_7 t').mp ht'
    omega))) t ((flush1_7 t).mpr ht) (ix2 l k)
  rw [show (dat1 V c).flushed 7 t = (cfg1.win 7).cut (grid1.coords t) ((outsAt1 V c t.val t.isLt).2.1) by
    show (cfg1.win 7).cut (grid1.coords t) ((dat1 V c).after 7 t) = _
    rw [after1_7]] at h
  generalize (outsAt1 V c t.val t.isLt).2.1 = o at h ⊢
  refine (at2 ((dat1 V c).arrAt 7 cfg1.N : Vec F S256x8192 .f32) ?_ ?_).symm.trans h
  · exact at_tile (idx1 t).2.2.2.2.2.2.2.1.1 hp
  · exact all_at (idx1 t).2.2.2.2.2.2.2.1.2 k

theorem final1_8 (c : Dev nD) (t : Fin cfg1.N) (ht : t.val % 64 = 63) (l : Fin 128) (k : Fin 8192) (p : Fin 256)
    (hp : (p : ℕ) = t / 64 * 128 + l) :
    ((dat1 V c).arrAt 8 cfg1.N : Vec F S256x8192 .f32) (ix2 p k) = (outsAt1 V c t.val t.isLt).2.2 (ix2 l k) := by
  have h := (dat1 V c).arrAt_emb_eq_flushed 8 (fun t t' ht ht' hne => (cfg1.win 8).disjoint_blk fun h => hne (Fin.ext (by
    have e := (idx1 t).2.2.2.2.2.2.2.2.1.symm.trans ((congrFun h 0).trans (idx1 t').2.2.2.2.2.2.2.2.1)
    have f := (flush1_8 t).mp ht
    have f' := (flush1_8 t').mp ht'
    omega))) t ((flush1_8 t).mpr ht) (ix2 l k)
  rw [show (dat1 V c).flushed 8 t = (cfg1.win 8).cut (grid1.coords t) ((outsAt1 V c t.val t.isLt).2.2) by
    show (cfg1.win 8).cut (grid1.coords t) ((dat1 V c).after 8 t) = _
    rw [after1_8]] at h
  generalize (outsAt1 V c t.val t.isLt).2.2 = o at h ⊢
  refine (at2 ((dat1 V c).arrAt 8 cfg1.N : Vec F S256x8192 .f32) ?_ ?_).symm.trans h
  · exact at_tile (idx1 t).2.2.2.2.2.2.2.2.1 hp
  · exact all_at (idx1 t).2.2.2.2.2.2.2.2.2 k

end Cert.GqaIdeal.Result

end
-- ==== Proof.GqaOut.lean ====
/-
  The attention with grouped queries: what each point of its two calls leaves in the results. Its tiles are computed as
  those of the attention over low-rank keys are, but for the factor at the gradient of the queries.
-/
module

public import proofs.«01_k».proof.Proof.GqaBlock
public import proofs.«01_k».proof.Proof.MlaOut

@[expose] public section

set_option maxRecDepth 16384

noncomputable section

namespace Cert.GqaIdeal.Result

open Cert.GqaIdeal Cert.GqaIdeal.Gen Cert.Rows Cert.Tiles Cert.Flash Idealize.ShloMosaic Idealize.ShloMosaic.TcCoe Idealize.SL.Sem
open Idealize.ShloMosaic.Pointwise
open Cert.MlaIdeal.Result (br)

section
variable (q : Vec Ideal S1024x128 .bf16) (k v : Vec Ideal S8192x128 .bf16) (j : Fin 1024) (l : Fin 128)

theorem out_o : out0_3 (F := Ideal) q k v (ix2 j l) = out (br q j) (br k) (br v) l := Cert.MlaIdeal.Result.out_o q k v j l

theorem out_lse : out0_4 (F := Ideal) q k v (ix2 j l)
    = save (br q j) (br k) (br v) (Named.named (F := Ideal) (φ := .f32) Cert.MlaIdeal.κ "log2e" 0x3FB8AA3B#32) :=
  Cert.MlaIdeal.Result.out_lse q k v j l

end

/-- The parts of the backward call's body that both attentions share. -/
theorem same_wt : k1_pay8 (F := Ideal) = Cert.MlaIdeal.Gen.k1_pay8 := rfl
theorem same_wt1 : k1_pay16 (F := Ideal) = Cert.MlaIdeal.Gen.k1_pay8 := rfl
theorem same_grad : k1_pay9 (F := Ideal) = Cert.MlaIdeal.Gen.k1_pay9 := rfl
theorem same_grad1 : k1_pay17 (F := Ideal) = Cert.MlaIdeal.Gen.k1_pay9 := rfl
theorem same1 : k1_pay6 (F := Ideal) = Cert.MlaIdeal.Gen.k1_pay6 := rfl
theorem same2 : k1_pay7 (F := Ideal) = Cert.MlaIdeal.Gen.k1_pay6 := rfl
theorem same3 : k1_pay14 (F := Ideal) = Cert.MlaIdeal.Gen.k1_pay6 := rfl
theorem same4 : k1_pay15 (F := Ideal) = Cert.MlaIdeal.Gen.k1_pay6 := rfl
theorem same5 : k1_pay4 (F := Ideal) = Cert.MlaIdeal.Gen.k1_pay4 := rfl
theorem same6 : k1_pay5 (F := Ideal) = Cert.MlaIdeal.Gen.k1_pay5 := rfl
theorem same_p2 : k1_pay2 (F := Ideal) = Cert.MlaIdeal.Gen.k1_pay2 := rfl
theorem same_p3 : k1_pay3 (F := Ideal) = Cert.MlaIdeal.Gen.k1_pay3 := rfl
theorem same_p12 : k1_pay12 (F := Ideal) = Cert.MlaIdeal.Gen.k1_pay12 := rfl
theorem same_p13 : k1_pay13 (F := Ideal) = Cert.MlaIdeal.Gen.k1_pay13 := rfl

/-- The gradient of the queries from that at the scores: its second part, and its first. -/
theorem pay_dq (k : Vec Ideal S8192x128 .bf16) (r : Fin 256) (s : Vec Ideal S256x8192 .bf16) (l : Fin 128) : k1_pay1 (F := Ideal) s k (ix2 r l)
    = (∑ j : Fin 8192, s (ix2 r j) * k (ix2 j l)) * Ideal.ofBits .f32 0x3E000000#32 := by
  pointwise [k1_pay1]

theorem pay_dq1 (q dy o : Vec Ideal S256x128 .bf16) (m : Vec Ideal S256x1 .f32) (k v k' : Vec Ideal S8192x128 .bf16) :
    k1_pay11 (F := Ideal) (k1_pay10 q dy o k m v k') (Scalar.ofBits .f32 0x3E000000#32) = k1_pay1 (k1_pay9 q dy o k m v) k' := rfl

variable (V : (c : Dev nD) → (b : Ref sig .tc) → Buf (Elt Ideal) ((c : Thread nD τ).loc b)) (c : Dev nD)

/-- The blocks of queries, of the cotangent and of keys at a point of the backward call. -/
abbrev qB (t : Fin cfg1.N) : Vec Ideal S512x128 .bf16 := iblk1 V c 0 t
abbrev yB (t : Fin cfg1.N) : Vec Ideal S512x128 .bf16 := iblk1 V c 1 t
abbrev kB (t : Fin cfg1.N) : Vec Ideal S8192x128 .bf16 := iblk1 V c 4 t

/-- The tile's row of weights and of the gradient at the scores, at a point of the backward call. -/
def wAt (t : Fin cfg1.N) (i : Fin 512) : Fin 8192 → EReal := Cert.MlaIdeal.Result.wrow (iblk1 V c 0 t) (iblk1 V c 3 t) (iblk1 V c 4 t) i
def gAt (t : Fin cfg1.N) (i : Fin 512) : Fin 8192 → EReal :=
  Cert.MlaIdeal.Result.grow (iblk1 V c 0 t) (iblk1 V c 1 t) (iblk1 V c 2 t) (iblk1 V c 3 t) (iblk1 V c 4 t) (iblk1 V c 5 t) i

theorem outs_dq (t : Fin cfg1.N) (i : Fin 512) (l : Fin 128) : (outsAt1 V c t.val t.isLt).1 (ix2 i l)
    = (∑ j : Fin 8192, gAt V c t i j * kB V c t (ix2 j l)) * Ideal.ofBits .f32 0x3E000000#32 := by
  by_cases h : t.val % 64 = 0
  · rw [outsAt1_A V c t h]
    dsimp only
    unfold out1_A_6
    rw [View.read_writes_eq_canon _ _ _ (fun _ => cover1_A_6 ..)]
    unfold kernelRun1_A
    dsimp only
    sl_unfold_words
    simp only [View.readAt_eq_ld, (hs1_0 t).read_unread, (hs1_1 t).read_unread, (hs1_2 t).read_unread, (hs1_3 t).read_unread,
      (hs1_4 t).read_unread, (hs1_5 t).read_unread, ld_all, same_grad1, same_grad, pay_dq1]
    exact Cert.MlaIdeal.Result.tile_halves (fun i l => (∑ j : Fin 8192, gAt V c t i j * kB V c t (ix2 j l)) * Ideal.ofBits .f32 0x3E000000#32) _ _
      (fun r l => (pay_dq _ r _ l).trans (Cert.MlaIdeal.Result.half_dq _ _ _ _ _ _ (by norm_num) _ r l))
      (fun r l => (pay_dq _ r _ l).trans (Cert.MlaIdeal.Result.half_dq _ _ _ _ _ _ (by norm_num) _ r l)) i l
  · rw [outsAt1_B V c t h]
    dsimp only
    unfold out1_B_6
    rw [View.read_writes_eq_canon _ _ _ (fun _ => cover1_B_6 ..)]
    unfold kernelRun1_B
    dsimp only
    sl_unfold_words
    simp only [View.readAt_eq_ld, (hs1_0 t).read_unread, (hs1_1 t).read_unread, (hs1_2 t).read_unread, (hs1_3 t).read_unread,
      (hs1_4 t).read_unread, (hs1_5 t).read_unread, ld_all, same_grad1, same_grad, pay_dq1]
    exact Cert.MlaIdeal.Result.tile_halves (fun i l => (∑ j : Fin 8192, gAt V c t i j * kB V c t (ix2 j l)) * Ideal.ofBits .f32 0x3E000000#32) _ _
      (fun r l => (pay_dq _ r _ l).trans (Cert.MlaIdeal.Result.half_dq _ _ _ _ _ _ (by norm_num) _ r l))
      (fun r l => (pay_dq _ r _ l).trans (Cert.MlaIdeal.Result.half_dq _ _ _ _ _ _ (by norm_num) _ r l)) i l

/-- The gradient of the keys at a head's first tile, and at a later one over what the tile before left. -/
theorem outs_dk_first (t : Fin cfg1.N) (h : t.val % 64 = 0) (l : Fin 128) (k : Fin 8192) : (outsAt1 V c t.val t.isLt).2.1 (ix2 l k) = (∑ i : Fin 512, qB V c t (ix2 i l) * gAt V c t i k) * Named.named (F := Ideal) (φ := .f32) Cert.MlaIdeal.κ "ln2" 0x3F317218#32 := by
  rw [outsAt1_A V c t h]
  dsimp only
  unfold out1_A_7
  rw [View.read_writes_eq_canon _ _ _ (fun _ => cover1_A_7 ..)]
  unfold kernelRun1_A
  dsimp only
  sl_unfold_words
  rw [View.canon_cons_unit_zero hz, View.readCov_unit_zero _ hz]
  simp only [View.readAt_eq_ld, (hs1_0 t).read_unread, (hs1_1 t).read_unread, (hs1_2 t).read_unread, (hs1_3 t).read_unread,
    (hs1_4 t).read_unread, (hs1_5 t).read_unread, ld_all, same1, same2, same3, same4, same5, same6, same_grad1, same_grad, same_wt, same_wt1, same_p2, same_p3, same_p12, same_p13]
  refine (Cert.MlaIdeal.Result.tile_dk _ _ _ _ _ _ _ l k).trans ?_
  refine (congrArg (· + _) (Cert.MlaIdeal.Result.pay_zero4 l k)).trans (zero_add _)

theorem outs_dk_next (n : ℕ) (hn : n + 1 < cfg1.N) (h : ¬ (n + 1) % 64 = 0) (l : Fin 128) (k : Fin 8192) : (outsAt1 V c (n + 1) hn).2.1 (ix2 l k)
    = (outsAt1 V c n (Nat.lt_of_succ_lt hn)).2.1 (ix2 l k) + (∑ i : Fin 512, qB V c ⟨n + 1, hn⟩ (ix2 i l) * gAt V c ⟨n + 1, hn⟩ i k) * Named.named (F := Ideal) (φ := .f32) Cert.MlaIdeal.κ "ln2" 0x3F317218#32 := by
  refine (congrArg (fun q : Vec Ideal S512x128 .f32 × Vec Ideal S128x8192 .f32 × Vec Ideal S128x8192 .f32 => q.2.1 (ix2 l k)) (outsAt1_B V c ⟨n + 1, hn⟩ h)).trans ?_
  dsimp only
  unfold out1_B_7
  rw [View.read_writes_eq_canon _ _ _ (fun _ => cover1_B_7 ..)]
  unfold kernelRun1_B
  dsimp only
  sl_unfold_words
  rw [View.canon_unit_zero hz]
  simp only [View.readAt_eq_ld, (hs1_0 _).read_unread, (hs1_1 _).read_unread, (hs1_2 _).read_unread, (hs1_3 _).read_unread,
    (hs1_4 _).read_unread, (hs1_5 _).read_unread, (hs1_7 _).read_unread, ld_all, same1, same2, same3, same4, same5, same6, same_grad1, same_grad, same_wt, same_wt1, same_p2, same_p3, same_p12, same_p13]
  exact Cert.MlaIdeal.Result.tile_dk _ _ _ _ _ _ _ l k

/-- The gradient of the values at a head's first tile, and at a later one over what the tile before left. -/
theorem outs_dv_first (t : Fin cfg1.N) (h : t.val % 64 = 0) (l : Fin 128) (k : Fin 8192) : (outsAt1 V c t.val t.isLt).2.2 (ix2 l k) = ∑ i : Fin 512, yB V c t (ix2 i l) * wAt V c t i k := by
  rw [outsAt1_A V c t h]
  dsimp only
  unfold out1_A_8
  rw [View.read_writes_eq_canon _ _ _ (fun _ => cover1_A_8 ..)]
  unfold kernelRun1_A
  dsimp only
  sl_unfold_words
  rw [View.canon_cons_unit_zero hz, View.readCov_unit_zero _ hz]
  simp only [View.readAt_eq_ld, (hs1_0 t).read_unread, (hs1_1 t).read_unread, (hs1_2 t).read_unread, (hs1_3 t).read_unread,
    (hs1_4 t).read_unread, (hs1_5 t).read_unread, ld_all, same1, same2, same3, same4, same5, same6, same_grad1, same_grad, same_wt, same_wt1, same_p2, same_p3, same_p12, same_p13]
  refine (Cert.MlaIdeal.Result.tile_dv _ _ _ _ _ l k).trans ?_
  refine (congrArg (· + _) (Cert.MlaIdeal.Result.pay_zero5 l k)).trans (zero_add _)

theorem outs_dv_next (n : ℕ) (hn : n + 1 < cfg1.N) (h : ¬ (n + 1) % 64 = 0) (l : Fin 128) (k : Fin 8192) : (outsAt1 V c (n + 1) hn).2.2 (ix2 l k)
    = (outsAt1 V c n (Nat.lt_of_succ_lt hn)).2.2 (ix2 l k) + ∑ i : Fin 512, yB V c ⟨n + 1, hn⟩ (ix2 i l) * wAt V c ⟨n + 1, hn⟩ i k := by
  refine (congrArg (fun q : Vec Ideal S512x128 .f32 × Vec Ideal S128x8192 .f32 × Vec Ideal S128x8192 .f32 => q.2.2 (ix2 l k)) (outsAt1_B V c ⟨n + 1, hn⟩ h)).trans ?_
  dsimp only
  unfold out1_B_8
  rw [View.read_writes_eq_canon _ _ _ (fun _ => cover1_B_8 ..)]
  unfold kernelRun1_B
  dsimp only
  sl_unfold_words
  rw [View.canon_unit_zero hz]
  simp only [View.readAt_eq_ld, (hs1_0 _).read_unread, (hs1_1 _).read_unread, (hs1_2 _).read_unread, (hs1_3 _).read_unread,
    (hs1_4 _).read_unread, (hs1_5 _).read_unread, (hs1_8 _).read_unread, ld_all, same1, same2, same3, same4, same5, same6, same_grad1, same_grad, same_wt, same_wt1, same_p2, same_p3, same_p12, same_p13]
  exact Cert.MlaIdeal.Result.tile_dv _ _ _ _ _ l k

end Cert.GqaIdeal.Result

end
-- ==== Proof.GqaValue.lean ====
/-
  The attention with grouped queries: the two calls' results as whole arrays, from real arrays at their entry.
-/
module

public import proofs.«01_k».proof.Proof.GqaOut
public import proofs.«01_k».proof.Proof.MlaValue

@[expose] public section

set_option maxRecDepth 16384

noncomputable section

namespace Cert.GqaIdeal.Result

open Cert.GqaIdeal Cert.GqaIdeal.Gen Cert.Rows Cert.Tiles Cert.Flash Cert.Attn Cert.Norm Idealize.ShloMosaic Idealize.ShloMosaic.TcCoe Idealize.SL.Sem
open Idealize.ShloMosaic.Pointwise
open Cert.MlaIdeal.Result (br named_log2e named_ln2)

theorem scale_eq : Ideal.ofBits .f32 0x3E000000#32 = ((8⁻¹ : ℝ) : EReal) := by
  simp [Ideal.ofBits, Ideal.ieee, -EReal.coe_mul]; norm_num

/-- Column `l` of head `h`. -/
def ln (h : Fin 8) (l : Fin 128) : Fin 1024 := ⟨h * 128 + l, by omega⟩
/-- Column `l` of a head of keys, that of head `h` for four heads of queries, -/
def kl (h : Fin 2) (l : Fin 128) : Fin 256 := ⟨h * 128 + l, by omega⟩
def kh (h : Fin 8) : Fin 2 := ⟨h.val / 4, by omega⟩
/-- which are these. -/
def qh (h : Fin 2) (g : Fin 4) : Fin 8 := ⟨h.val * 4 + g.val, by omega⟩
theorem kh_qh (h : Fin 2) (g : Fin 4) : kh (qh h g) = h := Fin.ext (by show (h.val * 4 + g.val) / 4 = h.val; omega)

/-- The points that add to the gradients of a head of keys, the head of queries of each, -/
def t2 (h : Fin 2) (n : ℕ) (hn : n < 64) : Fin cfg1.N := ⟨h.val * 64 + n, by rw [show cfg1.N = 128 from N_1]; omega⟩
def hd (h : Fin 2) (n : ℕ) : Fin 8 := ⟨(h.val * 4 + n / 16) % 8, by omega⟩
/-- and a sum over them. -/
theorem sum_heads (h : Fin 2) (f : Fin 8 → Fin 8192 → ℝ) :
    ∑ t ∈ Finset.range 64, ∑ i : Fin 512, ((f (hd h t) (row (t % 16) i) : ℝ) : EReal) = ((∑ g : Fin 4, ∑ i, f (qh h g) i : ℝ) : EReal) := by
  have hs : ∀ (F : ℕ → EReal) (n : ℕ), ∑ t ∈ Finset.range (n * 16), F t = ∑ g ∈ Finset.range n, ∑ t ∈ Finset.range 16, F (g * 16 + t) := by
    intro F n
    induction n with
    | zero => simp
    | succ n ih => rw [Nat.succ_mul, Finset.sum_range_add, ih, Finset.sum_range_succ (fun g => ∑ t ∈ Finset.range 16, F (g * 16 + t))]
  rw [show 64 = 4 * 16 from rfl, hs, Finset.sum_range, ← coe_sum]
  refine Finset.sum_congr rfl fun g _ => ?_
  rw [← coe_sum, ← sum_rows fun i => ((f (qh h g) i : ℝ) : EReal)]
  refine Finset.sum_congr rfl fun t ht => Finset.sum_congr rfl fun i _ => ?_
  have ht' := Finset.mem_range.mp ht
  rw [show hd h (g.val * 16 + t) = qh h g from Fin.ext (by
      show (h.val * 4 + (g.val * 16 + t) / 16) % 8 = h.val * 4 + g.val
      omega), show (g.val * 16 + t) % 16 = t by omega]

variable (q2 : Fin 8192 → Fin 1024 → ℝ) (k2 v2 : Fin 8192 → Fin 256 → ℝ) (ct : Fin 8192 → Fin 1024 → ℝ)

/-- The scores of a head's query, and the gradient at its weights. -/
def sc (h : Fin 8) (i : Fin 8192) : Fin 8192 → ℝ := nat (fun l => q2 i (ln h l)) fun j l => k2 j (kl (kh h) l)
def dp (h : Fin 8) (i : Fin 8192) : Fin 8192 → ℝ := dpr (fun l => ct i (ln h l)) fun j l => v2 j (kl (kh h) l)

variable (V : (c : Dev nD) → (b : Ref sig .tc) → Buf (Elt Ideal) ((c : Thread nD τ).loc b)) (c : Dev nD)
variable {q2 k2 v2 ct}
  (hq : ∀ r p, (V c main_v12 : Vec Ideal S8192x1024 .bf16) (ix2 r p) = (q2 r p : EReal))
  (hk : ∀ r p, (V c main_v19 : Vec Ideal S8192x256 .bf16) (ix2 r p) = (k2 r p : EReal))
  (hv : ∀ r p, (V c main_v29 : Vec Ideal S8192x256 .bf16) (ix2 r p) = (v2 r p : EReal))

section
variable (h1 : ∀ r h, v2 r (kl h 64) = 1)

/-- The forward call's point of a head and a row, and the row's place there. -/
def t0 (h : Fin 8) (i : Fin 8192) : Fin cfg0.N := ⟨h * 8 + i / 1024, by rw [show cfg0.N = 64 from N_0]; omega⟩
def j0 (i : Fin 8192) : Fin 1024 := ⟨i % 1024, by omega⟩

theorem t0_row (h : Fin 8) (i : Fin 8192) : (i : ℕ) = (t0 h i : ℕ) % 8 * 1024 + (j0 i : ℕ) := by
  show (i : ℕ) = (h * 8 + i / 1024) % 8 * 1024 + i % 1024
  omega
theorem t0_head (h : Fin 8) (i : Fin 8192) (l : Fin 128) : ((ln h l : Fin 1024) : ℕ) = (t0 h i : ℕ) / 8 * 128 + l := by
  show (h * 128 + l : ℕ) = (h * 8 + i / 1024) / 8 * 128 + l
  omega

theorem t0_khead (h : Fin 8) (i : Fin 8192) (l : Fin 128) : ((kl (kh h) l : Fin 256) : ℕ) = (t0 h i : ℕ) / 8 / 4 * 128 + l := by
  show (h.val / 4 * 128 + l.val : ℕ) = (h.val * 8 + i.val / 1024) / 8 / 4 * 128 + l.val
  omega

include hq in
theorem q0 (h : Fin 8) (i : Fin 8192) (l : Fin 128) : br (iblk0 V c 0 (t0 h i) : Vec Ideal S1024x128 .bf16) (j0 i) l = (q2 i (ln h l) : EReal) :=
  (blk0_0 V c _ _ _ _ _ (t0_row h i) (t0_head h i l)).trans (hq _ _)
include hk in
theorem k0 (h : Fin 8) (i : Fin 8192) (j : Fin 8192) (l : Fin 128) : br (iblk0 V c 1 (t0 h i) : Vec Ideal S8192x128 .bf16) j l = (k2 j (kl (kh h) l) : EReal) :=
  (blk0_1 V c _ _ _ _ (t0_khead h i l)).trans (hk _ _)
include hv in
theorem v0 (h : Fin 8) (i : Fin 8192) (j : Fin 8192) (l : Fin 128) : br (iblk0 V c 2 (t0 h i) : Vec Ideal S8192x128 .bf16) j l = (v2 j (kl (kh h) l) : EReal) :=
  (blk0_2 V c _ _ _ _ (t0_khead h i l)).trans (hv _ _)

include hq hk hv h1 in
/-- The forward call: the weighted mean of the values, and the logarithm of the row's sum. -/
theorem call_o (h : Fin 8) (i : Fin 8192) (l : Fin 128) : ((dat0 V c).arrAt 3 cfg0.N : Vec Ideal S8192x1024 .bf16) (ix2 i (ln h l))
    = ((∑ j, prob (sc q2 k2 h i) j * v2 j (kl (kh h) l) : ℝ) : EReal) :=
  (final0_3 V c (t0 h i) (j0 i) l i (ln h l) (t0_row h i) (t0_head h i l)).trans ((out_o _ _ _ _ l).trans
    (out_real (q0 V c hq h i) (k0 V c hk h i) (v0 V c hv h i) (fun j => h1 j (kh h)) l))

include hq hk hv h1 in
theorem call_lse (h : Fin 8) (i : Fin 8192) (l : Fin 128) : ((dat0 V c).arrAt 4 cfg0.N : Vec Ideal S8192x1024 .f32) (ix2 i (ln h l))
    = ((lse (sc q2 k2 h i) : ℝ) : EReal) := by
  refine (final0_4 V c (t0 h i) (j0 i) l i (ln h l) (t0_row h i) (t0_head h i l)).trans ((out_lse _ _ _ _ l).trans ?_)
  rw [named_log2e]
  exact save_real (q0 V c hq h i) (k0 V c hk h i) (v0 V c hv h i) (fun j => h1 j (kh h))

end

section
variable
  (hy : ∀ r p, (V c main_v33 : Vec Ideal S8192x1024 .bf16) (ix2 r p) = (ct r p : EReal))
  (ho : ∀ h i l, (V c main_v34_0 : Vec Ideal S8192x1024 .bf16) (ix2 i (ln h l)) = ((∑ j, prob (sc q2 k2 h i) j * v2 j (kl (kh h) l) : ℝ) : EReal))
  (hm : ∀ h i l, (V c main_v34_1 : Vec Ideal S8192x1024 .f32) (ix2 i (ln h l)) = ((lse (sc q2 k2 h i) : ℝ) : EReal))

/-- The backward call's point of a head and a tile. -/
def t1 (h : Fin 8) (t : ℕ) (ht : t < 16) : Fin cfg1.N := ⟨h * 16 + t, by rw [show cfg1.N = 128 from N_1]; omega⟩

theorem t2_eq (h : Fin 2) (n : ℕ) (hn : n < 64) : t2 h n hn = t1 (hd h n) (n % 16) (by omega) := Fin.ext (by
  show h.val * 64 + n = (h.val * 4 + n / 16) % 8 * 16 + n % 16
  omega)

variable (h : Fin 8) (t : ℕ) (ht : t < 16) (i : Fin 512)

theorem t1_row : (row t i : ℕ) = (t1 h t ht : ℕ) % 16 * 512 + i := by
  rw [row_val ht]
  show t * 512 + (i : ℕ) = (h * 16 + t) % 16 * 512 + i
  omega
theorem t1_head (l : Fin 128) : ((ln h l : Fin 1024) : ℕ) = (t1 h t ht : ℕ) / 16 * 128 + l := by
  show (h * 128 + l : ℕ) = (h * 16 + t) / 16 * 128 + l
  omega
theorem t1_khead (l : Fin 128) : ((kl (kh h) l : Fin 256) : ℕ) = (t1 h t ht : ℕ) / 64 * 128 + l := by
  show (h.val / 4 * 128 + l.val : ℕ) = (h.val * 16 + t) / 64 * 128 + l.val
  omega

include hq in
theorem q1 (l : Fin 128) : br (iblk1 V c 0 (t1 h t ht) : Vec Ideal S512x128 .bf16) i l = (q2 (row t i) (ln h l) : EReal) :=
  (blk1_0 V c _ _ _ _ _ (t1_row h t ht i) (t1_head h t ht l)).trans (hq _ _)
include hy in
theorem y1 (l : Fin 128) : br (iblk1 V c 1 (t1 h t ht) : Vec Ideal S512x128 .bf16) i l = (ct (row t i) (ln h l) : EReal) :=
  (blk1_1 V c _ _ _ _ _ (t1_row h t ht i) (t1_head h t ht l)).trans (hy _ _)
include ho in
theorem o1 (l : Fin 128) : br (iblk1 V c 2 (t1 h t ht) : Vec Ideal S512x128 .bf16) i l
    = ((∑ j, prob (sc q2 k2 h (row t i)) j * v2 j (kl (kh h) l) : ℝ) : EReal) :=
  (blk1_2 V c _ _ _ _ _ (t1_row h t ht i) (t1_head h t ht l)).trans (ho _ _ _)
include hm in
theorem m1 : (iblk1 V c 3 (t1 h t ht) : Vec Ideal S512x128 .f32) (ix2 i 0) = ((lse (sc q2 k2 h (row t i)) : ℝ) : EReal) :=
  (blk1_3 V c _ _ _ _ _ (t1_row h t ht i) (t1_head h t ht 0)).trans (hm _ _ _)
include hk in
theorem k1 (j : Fin 8192) (l : Fin 128) : br (iblk1 V c 4 (t1 h t ht) : Vec Ideal S8192x128 .bf16) j l = (k2 j (kl (kh h) l) : EReal) :=
  (blk1_4 V c _ _ _ _ (t1_khead h t ht l)).trans (hk _ _)
include hv in
theorem v1 (j : Fin 8192) (l : Fin 128) : br (iblk1 V c 5 (t1 h t ht) : Vec Ideal S8192x128 .bf16) j l = (v2 j (kl (kh h) l) : EReal) :=
  (blk1_5 V c _ _ _ _ (t1_khead h t ht l)).trans (hv _ _)

include hq hk hm in
theorem w_real (j : Fin 8192) : wAt V c (t1 h t ht) i j = ((prob (sc q2 k2 h (row t i)) j : ℝ) : EReal) :=
  wt_real (q1 V c hq h t ht i) (k1 V c hk h t ht) (m1 V c hm h t ht i) j

include hq hk hv hy ho hm in
theorem g_real (j : Fin 8192) : gAt V c (t1 h t ht) i j = ((ds (sc q2 k2 h (row t i)) (dp v2 ct h (row t i)) j : ℝ) : EReal) :=
  grad_real (q1 V c hq h t ht i) (k1 V c hk h t ht) (v1 V c hv h t ht) (m1 V c hm h t ht i) (y1 V c hy h t ht i) (o1 V c ho h t ht i) j

include hq hk hv hy ho hm in
/-- The backward call: the gradient of the queries, -/
theorem call_dq (h : Fin 8) (r : Fin 8192) (l : Fin 128) : ((dat1 V c).arrAt 6 cfg1.N : Vec Ideal S8192x1024 .f32) (ix2 r (ln h l))
    = (((∑ j, ds (sc q2 k2 h r) (dp v2 ct h r) j * k2 j (kl (kh h) l)) * 8⁻¹ : ℝ) : EReal) := by
  have ht : (r : ℕ) / 512 < 16 := by omega
  have e := final1_6 V c (t1 h (r / 512) ht) (place r) l r (ln h l)
    ((congrArg Fin.val (row_place r)).symm.trans (t1_row h _ ht _)) (t1_head h _ ht l)
  rw [outs_dq, scale_eq] at e
  refine e.trans ?_
  rw [EReal.coe_mul, ← coe_sum]
  refine congrArg (· * _) (Finset.sum_congr rfl fun j _ => ?_)
  rw [g_real V c hq hk hv hy ho hm h _ ht, row_place, EReal.coe_mul]
  exact congrArg (_ * ·) (k1 V c hk h _ ht j l)

include hq hk hv hy ho hm in
/-- of the keys, after tile `n` and at the end, -/
theorem call_dk_upto (h : Fin 2) (l : Fin 128) (k : Fin 8192) : ∀ (n : ℕ) (hn : n < 64),
    (outsAt1 V c (t2 h n hn) (t2 h n hn).isLt).2.1 (ix2 l k) = ∑ t ∈ Finset.range (n + 1), ∑ i : Fin 512, ((q2 (row (t % 16) i) (ln (hd h t) l) * ds (sc q2 k2 (hd h t) (row (t % 16) i)) (dp v2 ct (hd h t) (row (t % 16) i)) k * Real.log 2 : ℝ) : EReal) := by
  have tile : ∀ (n : ℕ) (hn : n < 64), (∑ i : Fin 512, qB V c (t2 h n hn) (ix2 i l) * gAt V c (t2 h n hn) i k) * ((Real.log 2 : ℝ) : EReal)
      = ∑ i : Fin 512, ((q2 (row (n % 16) i) (ln (hd h n) l) * ds (sc q2 k2 (hd h n) (row (n % 16) i)) (dp v2 ct (hd h n) (row (n % 16) i)) k * Real.log 2 : ℝ) : EReal) := fun n hn => by
    rw [t2_eq h n hn]
    rw [sum_mul_coe (Real.log_pos (by norm_num)).le]
    refine Finset.sum_congr rfl fun i _ => ?_
    rw [g_real V c hq hk hv hy ho hm (hd h n) (n % 16) (by omega), EReal.coe_mul, EReal.coe_mul]
    exact congrArg (· * _ * _) (q1 V c hq (hd h n) (n % 16) (by omega) i l)
  intro n
  induction n with
  | zero =>
    intro hn
    rw [outs_dk_first V c (t2 h 0 hn) (by show (h.val * 64 + 0) % 64 = 0; omega), named_ln2, tile, Finset.sum_range_one]
  | succ n ih =>
    intro hn
    have hN : h.val * 64 + n + 1 < cfg1.N := by rw [show cfg1.N = 128 from N_1]; omega
    have e := outs_dk_next V c (h.val * 64 + n) hN (by omega) l k
    rw [named_ln2] at e
    rw [Finset.sum_range_succ, ← ih (by omega), ← tile (n + 1) hn]
    exact e

include hq hk hv hy ho hm in
theorem call_dk (h : Fin 2) (l : Fin 128) (k : Fin 8192) : ((dat1 V c).arrAt 7 cfg1.N : Vec Ideal S256x8192 .f32) (ix2 (kl h l) k)
    = ((∑ g : Fin 4, ∑ i, q2 i (ln (qh h g) l) * ds (sc q2 k2 (qh h g) i) (dp v2 ct (qh h g) i) k * Real.log 2 : ℝ) : EReal) := by
  refine (final1_7 V c (t2 h 63 (by decide)) (by show (h.val * 64 + 63) % 64 = 63; omega) l k (kl h l)
    (by show h.val * 128 + l.val = (h.val * 64 + 63) / 64 * 128 + l.val; omega)).trans ?_
  rw [call_dk_upto V c hq hk hv hy ho hm h l k 63 (by decide)]
  refine (sum_heads h fun h i => q2 i (ln h l) * ds (sc q2 k2 h i) (dp v2 ct h i) k * Real.log 2).trans ?_
  rfl

include hq hk hy hm in
/-- and of the values. -/
theorem call_dv_upto (h : Fin 2) (l : Fin 128) (k : Fin 8192) : ∀ (n : ℕ) (hn : n < 64),
    (outsAt1 V c (t2 h n hn) (t2 h n hn).isLt).2.2 (ix2 l k) = ∑ t ∈ Finset.range (n + 1), ∑ i : Fin 512, ((ct (row (t % 16) i) (ln (hd h t) l) * prob (sc q2 k2 (hd h t) (row (t % 16) i)) k : ℝ) : EReal) := by
  have tile : ∀ (n : ℕ) (hn : n < 64), ∑ i : Fin 512, yB V c (t2 h n hn) (ix2 i l) * wAt V c (t2 h n hn) i k
      = ∑ i : Fin 512, ((ct (row (n % 16) i) (ln (hd h n) l) * prob (sc q2 k2 (hd h n) (row (n % 16) i)) k : ℝ) : EReal) := fun n hn => by
    rw [t2_eq h n hn]
    refine Finset.sum_congr rfl fun i _ => ?_
    rw [w_real V c hq hk hm (hd h n) (n % 16) (by omega), EReal.coe_mul]
    exact congrArg (· * _) (y1 V c hy (hd h n) (n % 16) (by omega) i l)
  intro n
  induction n with
  | zero =>
    intro hn
    rw [outs_dv_first V c (t2 h 0 hn) (by show (h.val * 64 + 0) % 64 = 0; omega), tile, Finset.sum_range_one]
  | succ n ih =>
    intro hn
    have hN : h.val * 64 + n + 1 < cfg1.N := by rw [show cfg1.N = 128 from N_1]; omega
    have e := outs_dv_next V c (h.val * 64 + n) hN (by omega) l k
    rw [Finset.sum_range_succ, ← ih (by omega), ← tile (n + 1) hn]
    exact e

include hq hk hy hm in
theorem call_dv (h : Fin 2) (l : Fin 128) (k : Fin 8192) : ((dat1 V c).arrAt 8 cfg1.N : Vec Ideal S256x8192 .f32) (ix2 (kl h l) k)
    = ((∑ g : Fin 4, ∑ i, ct i (ln (qh h g) l) * prob (sc q2 k2 (qh h g) i) k : ℝ) : EReal) := by
  refine (final1_8 V c (t2 h 63 (by decide)) (by show (h.val * 64 + 63) % 64 = 63; omega) l k (kl h l)
    (by show h.val * 128 + l.val = (h.val * 64 + 63) / 64 * 128 + l.val; omega)).trans ?_
  rw [call_dv_upto V c hq hk hy hm h l k 63 (by decide)]
  refine (sum_heads h fun h i => ct i (ln h l) * prob (sc q2 k2 h i) k).trans ?_
  rfl

end

end Cert.GqaIdeal.Result

end
-- ==== Proof.GqaPack.lean ====
/-
  The attention with grouped queries: the order in which a head's columns lie in the kernels' lanes, before the two calls
  and after them.
-/
module

public import proofs.«01_k».proof.Proof.GqaRun
public import proofs.«01_k».proof.Proof.GqaValue
public import proofs.«01_k».proof.Proof.MlaPack
public import Idealize.ShloMosaic.Lib.StableHlo.RunRead

@[expose] public section

set_option maxRecDepth 16384

noncomputable section

namespace Cert.GqaIdeal.Result

open Cert.GqaIdeal Cert.GqaIdeal.Gen Cert.Rows Cert.Lanes Idealize.ShloMosaic Idealize.ShloMosaic.TcCoe Idealize.SL.Sem
open Idealize.ShloMosaic.Pointwise

variable (m : (ℓ : Loc nD τ sig) → Buf (Elt Ideal) ℓ) (ρ : Dev nD → PrngReg) (c : Dev nD)

/-- The program's arguments. -/
abbrev Q : Vec Ideal S8192x2x4x64 .f32 := m ((c : Thread nD τ).loc main_arg0)
abbrev K : Vec Ideal S8192x2x64 .f32 := m ((c : Thread nD τ).loc main_arg1)
abbrev Vv : Vec Ideal S8192x2x64 .f32 := m ((c : Thread nD τ).loc main_arg2)
abbrev DY : Vec Ideal S8192x512 .f32 := m ((c : Thread nD τ).loc main_arg3)

/-- A column's lane from the parts in which they are put together. -/
theorem rlane_q : ∀ (h : Fin 2) (g : Fin 4) (d : Fin 64), (h.val * 256 + g.val * 64 + d.val) / 64 * 128 + (h.val * 256 + g.val * 64 + d.val) / 16 % 2 * 64
    + ((h.val * 256 + g.val * 64 + d.val) / 32 % 2 * 16 + (h.val * 256 + g.val * 64 + d.val) % 16) = (h.val * 4 + g.val) * 128 + (rlane d).val := by decide +kernel
theorem rlane_k : ∀ (h : Fin 2) (d : Fin 64), (h.val * 64 + d.val) / 64 * 128 + (h.val * 64 + d.val) / 16 % 2 * 64
    + ((h.val * 64 + d.val) / 32 % 2 * 16 + (h.val * 64 + d.val) % 16) = h.val * 128 + (rlane d).val := by decide +kernel

/-- The place of a head of queries in its group. -/
def gq (h : Fin 8) : Fin 4 := ⟨h.val % 4, by omega⟩

/-- A head's columns in the kernel's order: of each half of the head its first 16, then its last 16. -/
theorem W1_v3 (r : Fin 8192) (h : Fin 8) (a : Fin 2) (d : Fin 32) {o : Fin 64} (ho : o.val = d.val / 16 * 32 + a.val * 16 + d.val % 16) :
    (W1 m ρ c (Proc.devRef .tc main_v3) : Vec Ideal S8192x8x2x32 .f32) (ix4 r h a d) = Q m c (ix4 r (kh h) (gq h) o) := by
  dsimp only [W1]
  unfold hostOps0
  after_results
  pointwise []
  refine congrArg (Q m c) (congr (congrArg₂ (ix4 r) (Fin.ext ?_) (Fin.ext ?_)) (Fin.ext ?_))
  · show (h.val * 64 + d.val / 16 * 32 + a.val * 16 + d.val % 16) / 256 = h.val / 4
    omega
  · show (h.val * 64 + d.val / 16 * 32 + a.val * 16 + d.val % 16) / 64 % 4 = h.val % 4
    omega
  · show (h.val * 64 + d.val / 16 * 32 + a.val * 16 + d.val % 16) % 64 = o.val
    omega

theorem W3_v16 (r : Fin 8192) (h : Fin 2) (a : Fin 2) (d : Fin 32) {o : Fin 64} (ho : o.val = d.val / 16 * 32 + a.val * 16 + d.val % 16) :
    (W3 m ρ c (Proc.devRef .tc main_v16) : Vec Ideal S8192x2x2x32 .f32) (ix4 r h a d) = K m c (ix3 r h o) := by
  dsimp only [W3]
  unfold hostOps0_2
  after_results
  pointwise []
  refine congrArg₂ (fun x y => K m c (ix3 r x y)) (Fin.ext ?_) (Fin.ext ?_)
  · show (h.val * 64 + d.val / 16 * 32 + a.val * 16 + d.val % 16) / 64 = h.val
    omega
  · show (h.val * 64 + d.val / 16 * 32 + a.val * 16 + d.val % 16) % 64 = o.val
    omega

theorem W1_cst (i) : (W1 m ρ c (Proc.devRef .tc main_cst) : Vec Ideal S_ .f32) i = (0 : EReal) := by
  dsimp only [W1]
  unfold hostOps0
  after_results
  pointwise []
theorem W3_cst3 (i) : (W3 m ρ c (Proc.devRef .tc main_cst_3) : Vec Ideal S_ .f32) i = (0 : EReal) := by
  dsimp only [W3]
  unfold hostOps0_2
  after_results
  pointwise []

/-- The factor of the queries. -/
def cq : ℝ := (8 * Real.log 2)⁻¹

theorem cq_eq : Ideal.div 1 (Ideal.sqrt (Ideal.ofBits FTy.f32 1115684864#32) * Ideal.log (Ideal.ofBits FTy.f32 1073741824#32)) = ((cq : ℝ) : EReal) := by
  have h64 : Ideal.ofBits FTy.f32 1115684864#32 = ((64 : ℝ) : EReal) := by simp [Ideal.ofBits, Ideal.ieee, -EReal.coe_mul]; norm_num
  rw [h64, show Ideal.ofBits FTy.f32 1073741824#32 = ((2 : ℝ) : EReal) from ofBits_two, Ideal.sqrt_coe, if_neg (by norm_num),
    Attn.log_real (by norm_num), show Real.sqrt 64 = 8 from (Real.sqrt_eq_iff_mul_self_eq (by norm_num) (by norm_num)).mpr (by norm_num), ← EReal.coe_mul,
    show (1 : EReal) = ((1 : ℝ) : EReal) from rfl, Attn.div_real (mul_ne_zero (by norm_num) Attn.log2_ne)]
  exact congrArg (fun y : ℝ => (y : EReal)) (one_div _)

variable {m c} {qr yr : Fin 8192 → Fin 8 → Fin 64 → ℝ} {kr vr : Fin 8192 → Fin 2 → Fin 64 → ℝ}

section
variable (hQ : ∀ r h d, Q m c (ix4 r (kh h) (gq h) d) = (qr r h d : EReal))
include hQ in
/-- The queries in their lanes, -/
theorem W3_v12 (r : Fin 8192) (p : Fin 1024) : (W3 m ρ c (Proc.devRef .tc main_v12) : Vec Ideal S8192x1024 .bf16) (ix2 r p)
    = ((spread rcol (qr r) p * cq : ℝ) : EReal) := by
  simp only [W3, W2, hostOps0_1, hostOps0_2]
  generalize hU : W1 m ρ c = U
  after_reads_simp
  try simp only [StableHlo.TRef.toBuf, StableHlo.TRef.ofBuf, cast_eq, id_eq]
  pointwise []
  subst hU
  have h1 := spread_pad rcol (qr r) p _
    (fun h => (W1 m ρ c (Proc.devRef .tc main_v3) : Vec Ideal S8192x8x2x32 .f32) (ix4 r ⟨p.val / 128, h.1⟩ ⟨p.val / 64 % 2, h.2.1⟩ ⟨p.val % 64, h.2.2⟩)) _
    (rcol_lt p) (fun h hm => (W1_v3 m ρ c r ⟨p.val / 128, h.1⟩ ⟨p.val / 64 % 2, h.2.1⟩ ⟨p.val % 64, h.2.2⟩ (o := ⟨rcol (p.val % 128), hm⟩) (rcol_parts p hm)).trans (hQ _ _ _)) (W1_cst m ρ c (Shape.Idx.first h_S_))
  exact (congrArg₂ (fun x y : EReal => x * y) h1 cq_eq).trans (EReal.coe_mul _ _).symm

end

section
variable (hK : ∀ r h d, K m c (ix3 r h d) = (kr r h d : EReal))
include hK in
/-- the keys, -/
theorem W5_v19 (r : Fin 8192) (p : Fin 256) : (W5 m ρ c (Proc.devRef .tc main_v19) : Vec Ideal S8192x256 .bf16) (ix2 r p)
    = ((spread rcol (kr r) p : ℝ) : EReal) := by
  simp only [W5, W4, hostOps0_3, hostOps0_4]
  generalize hU : W3 m ρ c = U
  after_reads_simp
  try simp only [StableHlo.TRef.toBuf, StableHlo.TRef.ofBuf, cast_eq, id_eq]
  pointwise []
  subst hU
  exact spread_pad rcol (kr r) p _
    (fun h => (W3 m ρ c (Proc.devRef .tc main_v16) : Vec Ideal S8192x2x2x32 .f32) (ix4 r ⟨p.val / 128, h.1⟩ ⟨p.val / 64 % 2, h.2.1⟩ ⟨p.val % 64, h.2.2⟩)) _
    (rcol_lt p) (fun h hm => (W3_v16 m ρ c r ⟨p.val / 128, h.1⟩ ⟨p.val / 64 % 2, h.2.1⟩ ⟨p.val % 64, h.2.2⟩ (o := ⟨rcol (p.val % 128), hm⟩) (rcol_parts p hm)).trans (hK _ _ _)) (W3_cst3 m ρ c _)

end

section
variable (hV : ∀ r h e, Vv m c (ix3 r h e) = (vr r h e : EReal))
include hV in
/-- the values with it, -/
theorem W11_v29 (r : Fin 8192) (p : Fin 256) : (W11 m ρ c (Proc.devRef .tc main_v29) : Vec Ideal S8192x256 .bf16) (ix2 r p)
    = ((spread1 (vr r) p : ℝ) : EReal) := by
  simp only [W11, W10, W9, W8, hostOps0_10, hostOps0_9, hostOps0_8, hostOps0_7]
  after_reads_simp
  try simp only [StableHlo.TRef.toBuf, StableHlo.TRef.ofBuf, cast_eq, id_eq]
  pointwise []
  refine spread1_sel (vr r) p _ _ _ (Cert.MlaIdeal.Result.ones_lane ⟨p.val, by omega⟩) rfl (spread_pad id (vr r) p _ _ _ Iff.rfl (fun h h' => ?_) sitofp_zero)
  exact hV r ⟨p.val / 128, h.1⟩ ⟨p.val % 128, h'⟩

end

section
variable (hY : ∀ r (h : Fin 8) (e : Fin 64), DY m c (ix2 r (vcol h e)) = (yr r h e : EReal))
include hY in
/-- and the cotangent. -/
theorem W13_v33 (r : Fin 8192) (p : Fin 1024) : (W13 m ρ c (Proc.devRef .tc main_v33) : Vec Ideal S8192x1024 .bf16) (ix2 r p)
    = ((spread id (yr r) p : ℝ) : EReal) := by
  simp only [W13, W12, W11, hostOps0_10, hostOps0_11, hostOps0_12]
  after_reads_simp
  try simp only [StableHlo.TRef.toBuf, StableHlo.TRef.ofBuf, cast_eq, id_eq]
  pointwise []
  refine spread_pad id (yr r) p _ _ _ Iff.rfl (fun h h' => ?_) sitofp_zero
  exact hY r ⟨p.val / 128, h.1⟩ ⟨p.val % 128, h'⟩

end

variable (m c)

/-- The results from the calls' arrays: the weighted means, -/
theorem W16_y (r : Fin 8192) (h : Fin 8) (e : Fin 64) (p : Fin 512) (hp : p.val = h.val * 64 + e.val) :
    (W16 m ρ c (Proc.devRef .tc main_v38) : Vec Ideal S8192x512 .bf16) (ix2 r p)
      = (W15 m ρ c (Proc.devRef .tc main_v34_0) : Vec Ideal S8192x1024 .bf16) (ix2 r (ln h (plane e))) := by
  dsimp only [W16]
  unfold hostOps2
  after_results
  pointwise []
  refine congrArg (fun x => (W15 m ρ c (Proc.devRef .tc main_v34_0) : Vec Ideal S8192x1024 .bf16) (ix2 r x)) (Fin.ext ?_)
  show p.val / 64 * 128 + p.val % 64 = h.val * 128 + e.val
  omega

/-- and the gradients of queries, -/
theorem W16_dq (r : Fin 8192) (h : Fin 2) (g : Fin 4) (d : Fin 64) : (W16 m ρ c (Proc.devRef .tc main_v44) : Vec Ideal S8192x2x4x64 .f32) (ix4 r h g d)
    = (W15 m ρ c (Proc.devRef .tc main_v35_0) : Vec Ideal S8192x1024 .f32) (ix2 r (ln (qh h g) (rlane d))) := by
  dsimp only [W16]
  unfold hostOps2
  after_results
  pointwise []
  refine congrArg (fun x => (W15 m ρ c (Proc.devRef .tc main_v35_0) : Vec Ideal S8192x1024 .f32) (ix2 r x)) (Fin.ext ?_)
  exact rlane_q h g d

/-- keys -/
theorem W16_dk (r : Fin 8192) (h : Fin 2) (d : Fin 64) : (W16 m ρ c (Proc.devRef .tc main_v51) : Vec Ideal S8192x2x64 .f32) (ix3 r h d)
    = (W15 m ρ c (Proc.devRef .tc main_v35_1) : Vec Ideal S256x8192 .f32) (ix2 (kl h (rlane d)) r) := by
  dsimp only [W16]
  unfold hostOps2
  after_results
  pointwise []
  refine congrArg (fun x => (W15 m ρ c (Proc.devRef .tc main_v35_1) : Vec Ideal S256x8192 .f32) (ix2 x r)) (Fin.ext ?_)
  exact rlane_k h d

/-- and values. -/
theorem W16_dv (r : Fin 8192) (h : Fin 2) (e : Fin 64) : (W16 m ρ c (Proc.devRef .tc main_v56) : Vec Ideal S8192x2x64 .f32) (ix3 r h e)
    = (W15 m ρ c (Proc.devRef .tc main_v35_2) : Vec Ideal S256x8192 .f32) (ix2 (kl h (plane e)) r) := by
  dsimp only [W16]
  unfold hostOps2
  after_results
  pointwise []
  refine congrArg (fun x => (W15 m ρ c (Proc.devRef .tc main_v35_2) : Vec Ideal S256x8192 .f32) (ix2 x r)) (Fin.ext ?_)
  show (h.val * 64 + e.val) / 64 * 128 + (h.val * 64 + e.val) % 64 = h.val * 128 + e.val
  omega

end Cert.GqaIdeal.Result

end
-- ==== Proof.GqaResult.lean ====
/-
  The attention with grouped queries: its weighted means and its gradients, as functions of the arguments.
-/
module

public import proofs.«01_k».proof.Proof.GqaPack
public import proofs.«01_k».proof.Proof.Heads

@[expose] public section

set_option maxRecDepth 16384

noncomputable section

namespace Cert.GqaIdeal.Result

open Cert.GqaIdeal Cert.GqaIdeal.Gen Cert.Rows Cert.Lanes Cert.Attn Cert.Flash Idealize.ShloMosaic Idealize.ShloMosaic.TcCoe Idealize.SL.Sem
open Idealize.ShloMosaic.Pointwise
open Cert.Heads (score dprod mean)

variable {qr yr : Fin 8192 → Fin 8 → Fin 64 → ℝ} {kr vr : Fin 8192 → Fin 2 → Fin 64 → ℝ}

/-- The arrays that the calls find. -/
abbrev q2 (qr : Fin 8192 → Fin 8 → Fin 64 → ℝ) (r : Fin 8192) (p : Fin 1024) : ℝ := spread rcol (qr r) p * cq
abbrev k2 (kr : Fin 8192 → Fin 2 → Fin 64 → ℝ) (r : Fin 8192) (p : Fin 256) : ℝ := spread rcol (kr r) p
abbrev v2 (vr : Fin 8192 → Fin 2 → Fin 64 → ℝ) (r : Fin 8192) (p : Fin 256) : ℝ := spread1 (vr r) p
abbrev y2 (yr : Fin 8192 → Fin 8 → Fin 64 → ℝ) (r : Fin 8192) (p : Fin 1024) : ℝ := spread id (yr r) p

/-- Keys or values for each head of queries. -/
abbrev each (kr : Fin 8192 → Fin 2 → Fin 64 → ℝ) (j : Fin 8192) (h : Fin 8) (d : Fin 64) : ℝ := kr j (kh h) d

theorem cq_log2 : Real.log 2 * cq = 8⁻¹ := by
  rw [cq, mul_inv, mul_comm (8 : ℝ)⁻¹, ← mul_assoc, mul_inv_cancel₀ log2_ne, one_mul]

/-- Their scores are those of the heads, -/
theorem sc_eq (h : Fin 8) (i : Fin 8192) : sc (q2 qr) (k2 kr) h i = score 8⁻¹ qr (each kr) h i := funext fun j => by
  have e : ∀ l : Fin 128, spread rcol (qr i) (h.val * 128 + l.val) * cq * spread rcol (kr j) ((kh h).val * 128 + l.val)
      = cq * (spread rcol (qr i) (h.val * 128 + l.val) * spread rcol (kr j) ((kh h).val * 128 + l.val)) := fun l => by ring
  show Real.log 2 * ∑ l : Fin 128, spread rcol (qr i) (h.val * 128 + l.val) * cq * spread rcol (kr j) ((kh h).val * 128 + l.val)
    = (∑ d, qr i h d * kr j (kh h) d) * _
  rw [Finset.sum_congr rfl fun l _ => e l, ← Finset.mul_sum, sum_spread rcol rlane rcol_rlane rlane_rcol, ← mul_assoc, cq_log2, mul_comm]

/-- and so are the cotangent's products. -/
theorem dp_eq (h : Fin 8) (i : Fin 8192) : dp (v2 vr) (y2 yr) h i = dprod (each vr) yr h i := funext fun j => sum_spread1 (yr i) (vr j) h (kh h)

theorem k2_lane (j : Fin 8192) (h : Fin 2) (d : Fin 64) : k2 kr j (kl h (rlane d)) = kr j h d := spread_at rcol (kr j) h _ d (rcol_rlane d)
theorem q2_lane (j : Fin 8192) (h : Fin 8) (d : Fin 64) : q2 qr j (ln h (rlane d)) = qr j h d * cq :=
  congrArg (· * cq) (spread_at rcol (qr j) h _ d (rcol_rlane d))
theorem v2_lane (j : Fin 8192) (h : Fin 2) (e : Fin 64) : v2 vr j (kl h (plane e)) = vr j h e := spread1_at (vr j) h e
theorem y2_lane (j : Fin 8192) (h : Fin 8) (e : Fin 64) : y2 yr j (ln h (plane e)) = yr j h e := spread_at id (yr j) h _ e rfl

variable (m : (ℓ : Loc nD τ sig) → Buf (Elt Ideal) ℓ) (ρ : Dev nD → PrngReg) (c : Dev nD)
  (hQ : ∀ r h d, Q m c (ix4 r (kh h) (gq h) d) = (qr r h d : EReal)) (hK : ∀ r h d, K m c (ix3 r h d) = (kr r h d : EReal))
  (hV : ∀ r h e, Vv m c (ix3 r h e) = (vr r h e : EReal))
  (hY : ∀ r (h : Fin 8) (e : Fin 64), DY m c (ix2 r (vcol h e)) = (yr r h e : EReal))

/-- What the forward call finds. -/
theorem keep_q : W13 m ρ c (Proc.devRef .tc main_v12) = W3 m ρ c (Proc.devRef .tc main_v12) :=
  (W13_of m ρ c _ (by decide +kernel)).trans <| (W12_of m ρ c _ (by decide +kernel)).trans <| (W11_of m ρ c _ (by decide +kernel)).trans <|
  (W10_of m ρ c _ (by decide +kernel)).trans <| (W9_of m ρ c _ (by decide +kernel)).trans <| (W8_of m ρ c _ (by decide +kernel)).trans <|
  (W7_of m ρ c _ (by decide +kernel)).trans <| (W6_of m ρ c _ (by decide +kernel)).trans <| (W5_of m ρ c _ (by decide +kernel)).trans <|
  W4_of m ρ c _ (by decide +kernel)
theorem keep_k : W13 m ρ c (Proc.devRef .tc main_v19) = W5 m ρ c (Proc.devRef .tc main_v19) :=
  (W13_of m ρ c _ (by decide +kernel)).trans <| (W12_of m ρ c _ (by decide +kernel)).trans <| (W11_of m ρ c _ (by decide +kernel)).trans <|
  (W10_of m ρ c _ (by decide +kernel)).trans <| (W9_of m ρ c _ (by decide +kernel)).trans <| (W8_of m ρ c _ (by decide +kernel)).trans <|
  (W7_of m ρ c _ (by decide +kernel)).trans <| W6_of m ρ c _ (by decide +kernel)
theorem keep_v : W13 m ρ c (Proc.devRef .tc main_v29) = W11 m ρ c (Proc.devRef .tc main_v29) :=
  (W13_of m ρ c _ (by decide +kernel)).trans <| W12_of m ρ c _ (by decide +kernel)

include hQ in
theorem at0_q (r : Fin 8192) (p : Fin 1024) : (V13 m ρ c main_v12 : Vec Ideal S8192x1024 .bf16) (ix2 r p) = (q2 qr r p : EReal) :=
  (congrFun (keep_q m ρ c) _).trans (W3_v12 ρ hQ r p)
include hK in
theorem at0_k (r : Fin 8192) (p : Fin 256) : (V13 m ρ c main_v19 : Vec Ideal S8192x256 .bf16) (ix2 r p) = (k2 kr r p : EReal) :=
  (congrFun (keep_k m ρ c) _).trans (W5_v19 ρ hK r p)
include hV in
theorem at0_v (r : Fin 8192) (p : Fin 256) : (V13 m ρ c main_v29 : Vec Ideal S8192x256 .bf16) (ix2 r p) = (v2 vr r p : EReal) :=
  (congrFun (keep_v m ρ c) _).trans (W11_v29 ρ hV r p)
theorem one_v (r : Fin 8192) (h : Fin 2) : v2 vr r (kl h 64) = 1 := spread1_one (vr r) h

include hQ hK hV in
/-- What the backward call finds: the weighted means -/
theorem at1_o (h : Fin 8) (i : Fin 8192) (l : Fin 128) : (V14 m ρ c main_v34_0 : Vec Ideal S8192x1024 .bf16) (ix2 i (ln h l))
    = ((∑ j, prob (sc (q2 qr) (k2 kr) h i) j * v2 vr j (kl (kh h) l) : ℝ) : EReal) :=
  (congrFun (W14_arr m ρ c 3) (ix2 i (ln h l))).trans
    (call_o (V13 m ρ) c (at0_q m ρ c hQ) (at0_k m ρ c hK) (at0_v m ρ c hV) one_v h i l)
include hQ hK hV in
/-- and log-sums are those of the forward call. -/
theorem at1_lse (h : Fin 8) (i : Fin 8192) (l : Fin 128) : (V14 m ρ c main_v34_1 : Vec Ideal S8192x1024 .f32) (ix2 i (ln h l))
    = ((lse (sc (q2 qr) (k2 kr) h i) : ℝ) : EReal) :=
  (congrFun (W14_arr m ρ c 4) (ix2 i (ln h l))).trans
    (call_lse (V13 m ρ) c (at0_q m ρ c hQ) (at0_k m ρ c hK) (at0_v m ρ c hV) one_v h i l)
include hQ in
theorem at1_q (r : Fin 8192) (p : Fin 1024) : (V14 m ρ c main_v12 : Vec Ideal S8192x1024 .bf16) (ix2 r p) = (q2 qr r p : EReal) :=
  (congrFun (W14_of m ρ c main_v12 (by decide +kernel)) _).trans (at0_q m ρ c hQ r p)
include hK in
theorem at1_k (r : Fin 8192) (p : Fin 256) : (V14 m ρ c main_v19 : Vec Ideal S8192x256 .bf16) (ix2 r p) = (k2 kr r p : EReal) :=
  (congrFun (W14_of m ρ c main_v19 (by decide +kernel)) _).trans (at0_k m ρ c hK r p)
include hV in
theorem at1_v (r : Fin 8192) (p : Fin 256) : (V14 m ρ c main_v29 : Vec Ideal S8192x256 .bf16) (ix2 r p) = (v2 vr r p : EReal) :=
  (congrFun (W14_of m ρ c main_v29 (by decide +kernel)) _).trans (at0_v m ρ c hV r p)
include hY in
theorem at1_y (r : Fin 8192) (p : Fin 1024) : (V14 m ρ c main_v33 : Vec Ideal S8192x1024 .bf16) (ix2 r p) = (y2 yr r p : EReal) :=
  (congrFun (W14_of m ρ c main_v33 (by decide +kernel)) _).trans (W13_v33 ρ hY r p)

include hQ hK hV in
/-- The program's results: the weighted means, -/
theorem result_y (r : Fin 8192) (h : Fin 8) (e : Fin 64) : (W16 m ρ c (Proc.devRef .tc main_v38) : Vec Ideal S8192x512 .bf16) (ix2 r (vcol h e))
    = (mean 8⁻¹ qr (each kr) (each vr) r h e : EReal) := by
  rw [W16_y m ρ c r h e _ rfl]
  refine (congrFun (W15_of m ρ c main_v34_0 (by decide +kernel)) _).trans ((at1_o m ρ c hQ hK hV h r _).trans ?_)
  rw [sc_eq]
  simp only [v2_lane]
  rfl

include hQ hK hV hY in
/-- the gradient of the queries, -/
theorem result_dq (r : Fin 8192) (h : Fin 2) (g : Fin 4) (d : Fin 64) : (W16 m ρ c (Proc.devRef .tc main_v44) : Vec Ideal S8192x2x4x64 .f32) (ix4 r h g d)
    = (Heads.dq 8⁻¹ qr (each kr) (each vr) yr r (qh h g) d : EReal) := by
  rw [W16_dq]
  refine (congrFun (W15_arr m ρ c 6) (ix2 r (ln (qh h g) (rlane d)))).trans ((call_dq (V14 m ρ) c (at1_q m ρ c hQ) (at1_k m ρ c hK) (at1_v m ρ c hV)
    (at1_y m ρ c hY) (at1_o m ρ c hQ hK hV) (at1_lse m ρ c hQ hK hV) (qh h g) r _).trans ?_)
  rw [sc_eq, dp_eq]
  simp only [k2_lane]
  rfl

include hQ hK hV hY in
/-- of the keys, which a group of heads shares, -/
theorem result_dk (r : Fin 8192) (h : Fin 2) (d : Fin 64) : (W16 m ρ c (Proc.devRef .tc main_v51) : Vec Ideal S8192x2x64 .f32) (ix3 r h d)
    = ((∑ g : Fin 4, Heads.dk 8⁻¹ qr (each kr) (each vr) yr r (qh h g) d : ℝ) : EReal) := by
  rw [W16_dk]
  refine (congrFun (W15_arr m ρ c 7) (ix2 (kl h (rlane d)) r)).trans ((call_dk (V14 m ρ) c (at1_q m ρ c hQ) (at1_k m ρ c hK) (at1_v m ρ c hV)
    (at1_y m ρ c hY) (at1_o m ρ c hQ hK hV) (at1_lse m ρ c hQ hK hV) h _ r).trans ?_)
  simp only [q2_lane, sc_eq, dp_eq]
  refine congrArg (fun y : ℝ => (y : EReal)) (Finset.sum_congr rfl fun g _ => ?_)
  rw [Heads.dk, ← cq_log2, mul_comm (Real.log 2), ← mul_assoc, Finset.sum_mul _ _ cq, Finset.sum_mul _ _ (Real.log 2)]
  refine Finset.sum_congr rfl fun i _ => ?_
  ring

include hQ hK hV hY in
/-- and of the values. -/
theorem result_dv (r : Fin 8192) (h : Fin 2) (e : Fin 64) : (W16 m ρ c (Proc.devRef .tc main_v56) : Vec Ideal S8192x2x64 .f32) (ix3 r h e)
    = ((∑ g : Fin 4, Heads.dv 8⁻¹ qr (each kr) yr r (qh h g) e : ℝ) : EReal) := by
  rw [W16_dv]
  refine (congrFun (W15_arr m ρ c 8) (ix2 (kl h (plane e)) r)).trans ((call_dv (V14 m ρ) c (at1_q m ρ c hQ) (at1_k m ρ c hK)
    (at1_y m ρ c hY) (at1_lse m ρ c hQ hK hV) h _ r).trans ?_)
  simp only [y2_lane, sc_eq]
  rfl

end Cert.GqaIdeal.Result

end
-- ==== Proof.GqaRef.lean ====
/-
  The reference of the attention with grouped queries, over the extended reals: at real arguments its results are the
  weighted means and the gradients of the heads, those of keys and values summed over a group.
-/
module

public import proofs.«01_k».proof.Proof.GqaResult
public import proofs.«01_k».proof.Proof.Gen.GqaRefIdeal.Run
public import proofs.«01_k».proof.Proof.Gen.GqaRefIdeal.Read

@[expose] public section

set_option maxRecDepth 16384

noncomputable section

namespace Cert.GqaRefIdeal.Result

open Cert.GqaRefIdeal Cert.GqaRefIdeal.Read Cert.Rows Cert.Norm Cert.Attn Cert.Lanes Idealize.ShloMosaic Idealize.ShloMosaic.TcCoe
open Idealize.ShloMosaic.Pointwise Idealize.ShloMosaic.StableHlo
open Cert.Heads (score dprod mean)
open Cert.GqaIdeal.Result (qh kh kh_qh each)

variable (x0 : Vec Ideal S8192x2x4x64 .f32) (x1 x2 : Vec Ideal S8192x2x64 .f32) (x3 : Vec Ideal S8192x512 .f32)
  {qr yr : Fin 8192 → Fin 8 → Fin 64 → ℝ} {kr vr : Fin 8192 → Fin 2 → Fin 64 → ℝ}

/-- A row of scores, and of the cotangent's products with the values. -/
abbrev srow (qr : Fin 8192 → Fin 8 → Fin 64 → ℝ) (kr : Fin 8192 → Fin 2 → Fin 64 → ℝ) (h : Fin 2) (g : Fin 4) (i : Fin 8192) : Fin 8192 → ℝ :=
  score 8⁻¹ qr (each kr) (qh h g) i
abbrev drow (vr : Fin 8192 → Fin 2 → Fin 64 → ℝ) (yr : Fin 8192 → Fin 8 → Fin 64 → ℝ) (h : Fin 2) (g : Fin 4) (i : Fin 8192) : Fin 8192 → ℝ :=
  dprod (each vr) yr (qh h g) i

theorem each_qh (j : Fin 8192) (h : Fin 2) (g : Fin 4) (d : Fin 64) : each kr j (qh h g) d = kr j h d := congrArg (kr j · d) (kh_qh h g)

/-- The scores' factor. -/
theorem factor : Ideal.div 1 (Ideal.sqrt (Ideal.ofBits FTy.f32 1115684864#32)) = ((8⁻¹ : ℝ) : EReal) := by
  have h64 : Ideal.ofBits FTy.f32 1115684864#32 = ((64 : ℝ) : EReal) := by simp [Ideal.ofBits, Ideal.ieee, -EReal.coe_mul]; norm_num
  rw [h64, Ideal.sqrt_coe, if_neg (by norm_num), show (1 : EReal) = ((1 : ℝ) : EReal) from rfl,
    Attn.div_real (Real.sqrt_pos.mpr (by norm_num)).ne', show (64 : ℝ) = 8 ^ 2 by norm_num, Real.sqrt_sq (by norm_num)]
  exact congrArg (fun y : ℝ => (y : EReal)) (one_div _)

/-- The place of a group's head in the merged columns. -/
theorem place (h : Fin 2) (g : Fin 4) (e : Fin 64) :
    ((vcol (qh h g) e : ℕ) / 256 = h.val ∧ (vcol (qh h g) e : ℕ) / 64 % 4 = g.val) ∧ (vcol (qh h g) e : ℕ) % 64 = e.val := by
  have : (vcol (qh h g) e : ℕ) = (h.val * 4 + g.val) * 64 + e.val := rfl
  omega

section
variable (h0 : ∀ r h g d, x0 (ix4 r h g d) = (qr r (qh h g) d : EReal)) (h1 : ∀ r h d, x1 (ix3 r h d) = (kr r h d : EReal))
include h0 h1

/-- The scores, -/
theorem ref_score (h : Fin 2) (g : Fin 4) (i j : Fin 8192) : val_main_v5 (F := Ideal) x0 x1 (ix4 h g i j) = (srow qr kr h g i j : EReal) := by
  pointwise [val_main_v5, val_main_v4, val_main_v3, val_main_v2, val_main_v1, val_main_v0, val_main_cst, val_main_cst_0, factor, h0, h1]
  simp only [← EReal.coe_mul, coe_sum]
  refine congrArg (fun y : ℝ => ((y * 8⁻¹ : ℝ) : EReal)) (Finset.sum_congr rfl fun d _ => ?_)
  rw [each_qh, mul_comm]

/-- a row's greatest one, -/
theorem ref_top (h : Fin 2) (g : Fin 4) (i : Fin 8192) : val_main_v6 (F := Ideal) x0 x1 (ix3 h g i)
    = Finset.fold max (⊥ : EReal) (fun j => (srow qr kr h g i j : EReal)) Finset.univ := by
  unfold val_main_v6
  rw [Heads.reduce_max4]
  refine (congrArg₂ (fun z f => Finset.fold max z f Finset.univ) ?_ (funext fun j => ?_))
  · exact ofBits_negInf
  · exact ref_score x0 x1 h0 h1 h g i j

theorem ref_max (h : Fin 2) (g : Fin 4) (i : Fin 8192) : ∃ M : ℝ, val_main_v13 (F := Ideal) x0 x1 (ix3 h g i) = (M : EReal) := by
  obtain ⟨M, hM⟩ := fold_max_real (srow qr kr h g i)
  refine ⟨M, ?_⟩
  rw [val_main_v13_apply, val_main_v12_apply, val_main_cst_3_apply, ref_top x0 x1 h0 h1, hM]
  show max (Ideal.ofBits .f32 0xFF800000#32 : EReal) (M : EReal) = (M : EReal)
  rw [ofBits_negInf]
  exact max_eq_right bot_le
end

/-- The sum of a row's shifted exponentials. -/
abbrev rsum (s : Fin 8192 → ℝ) (M : ℝ) : ℝ := ∑ k, Real.exp (s k - M)

theorem rsum_ne (s : Fin 8192 → ℝ) (M : ℝ) : rsum s M ≠ 0 := (sum_pos fun k => s k - M).ne'

section
variable {M : Fin 2 → Fin 4 → Fin 8192 → ℝ} (hs : ∀ h g i j, val_main_v5 (F := Ideal) x0 x1 (ix4 h g i j) = (srow qr kr h g i j : EReal))
  (hM : ∀ h g i, val_main_v13 (F := Ideal) x0 x1 (ix3 h g i) = (M h g i : EReal))
include hs hM
/-- the exponentials of the shifted scores, -/
theorem ref_exp (h : Fin 2) (g : Fin 4) (i j : Fin 8192) : val_main_v26 (F := Ideal) x0 x1 (ix4 h g i j)
    = ((Real.exp (srow qr kr h g i j - M h g i) : ℝ) : EReal) := by
  pointwise [val_main_v26, val_main_v25, val_main_v24, val_main_v23, hs, hM]
  rw [← EReal.coe_sub, Ideal.exp_coe]

/-- a row's sum of them, -/
theorem ref_sum (h : Fin 2) (g : Fin 4) (i : Fin 8192) : val_main_v27 (F := Ideal) x0 x1 (ix3 h g i) = (rsum (srow qr kr h g i) (M h g i) : EReal) := by
  pointwise [val_main_v27, ref_exp x0 x1 hs hM, val_main_cst_9]
  rw [coe_sum]

/-- the weights, -/
theorem ref_prob (h : Fin 2) (g : Fin 4) (i j : Fin 8192) : val_main_v30 (F := Ideal) x0 x1 (ix4 h g i j) = (prob (srow qr kr h g i) j : EReal) := by
  pointwise [val_main_v30, val_main_v29, val_main_v28, ref_exp x0 x1 hs hM, ref_sum x0 x1 hs hM]
  exact weight_shift _ _ j

/-- the inverse square of a row's sum, -/
theorem ref_sq (h : Fin 2) (g : Fin 4) (i : Fin 8192) (z : Fin 1) : val_main_v33 (F := Ideal) x0 x1 (ix4 h g i z)
    = ((1 / (rsum (srow qr kr h g i) (M h g i) * rsum (srow qr kr h g i) (M h g i)) : ℝ) : EReal) := by
  pointwise [val_main_v33, val_main_v32, val_main_v31, val_main_v28, val_main_cst_10, ref_sum x0 x1 hs hM]
  rw [← EReal.coe_mul, show (1 : EReal) = ((1 : ℝ) : EReal) from rfl, Attn.div_real]
  exact mul_ne_zero (rsum_ne _ _) (rsum_ne _ _)

variable (h2 : ∀ r h e, x2 (ix3 r h e) = (vr r h e : EReal))
  (h3 : ∀ r h g (e : Fin 64), val_main_v38 (F := Ideal) x3 (ix4 r h g e) = (yr r (qh h g) e : EReal))
omit hs hM in
include h2 h3 in
/-- the cotangent's products with the values, -/
theorem ref_dp (h : Fin 2) (g : Fin 4) (i j : Fin 8192) : val_main_v40 (F := Ideal) x2 x3 (ix4 h g i j) = (drow vr yr h g i j : EReal) := by
  pointwise [val_main_v40, val_main_v39, h2, h3]
  simp only [← EReal.coe_mul, coe_sum]
  exact congrArg (fun y : ℝ => (y : EReal)) (Finset.sum_congr rfl fun e _ => by rw [each_qh])

include h2 h3
/-- and the gradient at the scores. -/
theorem ref_ds (h : Fin 2) (g : Fin 4) (i j : Fin 8192) : val_main_v54 (F := Ideal) x0 x1 x2 x3 (ix4 h g i j)
    = (ds (srow qr kr h g i) (drow vr yr h g i) j : EReal) := by
  pointwise [val_main_v54, val_main_v53, val_main_v52, val_main_v51, val_main_v50, val_main_v49, val_main_v48, val_main_v47, val_main_v46, val_main_v45,
    val_main_v44, val_main_v43, val_main_v28, val_main_cst_11, val_main_cst_12, ref_exp x0 x1 hs hM, ref_sum x0 x1 hs hM, ref_sq x0 x1 hs hM,
    ref_dp x2 x3 h2 h3, Fin.sum_univ_one]
  rw [Attn.div_real (rsum_ne _ _)]
  simp only [← EReal.coe_mul, coe_sum, ← EReal.coe_neg, ← EReal.coe_add]
  exact congrArg (fun y : ℝ => (y : EReal)) (ds_quot _ _ _ j)

end

section
variable (h0 : ∀ r h g d, x0 (ix4 r h g d) = (qr r (qh h g) d : EReal)) (h1 : ∀ r h d, x1 (ix3 r h d) = (kr r h d : EReal))
  (h2 : ∀ r h e, x2 (ix3 r h e) = (vr r h e : EReal)) (h3 : ∀ r (h : Fin 8) (e : Fin 64), x3 (ix2 r (vcol h e)) = (yr r h e : EReal))

include h3 in
/-- The cotangent by heads. -/
theorem ref_ct (r : Fin 8192) (h : Fin 2) (g : Fin 4) (e : Fin 64) : val_main_v38 (F := Ideal) x3 (ix4 r h g e) = (yr r (qh h g) e : EReal) := by
  rw [← h3, val_main_v38_apply]
  refine congrArg x3 (funext fun a => Fin.ext ?_)
  match a with
  | ⟨0, _⟩ => show (((r.val * 2 + h.val) * 4 + g.val) * 64 + e.val) / 512 = r.val; omega
  | ⟨1, _⟩ => show (((r.val * 2 + h.val) * 4 + g.val) * 64 + e.val) % 512 = (h.val * 4 + g.val) * 64 + e.val; omega

include h0 h1

/-- The weights, -/
theorem at_prob (h : Fin 2) (g : Fin 4) (i j : Fin 8192) : val_main_v30 (F := Ideal) x0 x1 (ix4 h g i j) = (prob (srow qr kr h g i) j : EReal) := by
  choose M hM using ref_max x0 x1 h0 h1
  exact ref_prob x0 x1 (ref_score x0 x1 h0 h1) hM h g i j

include h2 in
/-- the weighted means, -/
theorem ref_y (r : Fin 8192) (h : Fin 2) (g : Fin 4) (e : Fin 64) :
    val_main_v37 (F := Ideal) x0 x1 x2 (ix2 r (vcol (qh h g) e)) = (mean 8⁻¹ qr (each kr) (each vr) r (qh h g) e : EReal) := by
  have e1 : (⟨(vcol (qh h g) e : ℕ) / 256, by omega⟩ : Fin 2) = h := Fin.ext (place h g e).1.1
  have e2 : (⟨(vcol (qh h g) e : ℕ) / 64 % 4, by omega⟩ : Fin 4) = g := Fin.ext (place h g e).1.2
  have e3 : (⟨(vcol (qh h g) e : ℕ) % 64, by omega⟩ : Fin 64) = e := Fin.ext (place h g e).2
  pointwise [val_main_v37, val_main_v36, val_main_v35, val_main_v34, at_prob x0 x1 h0 h1, h2]
  rw [e1, e2, e3]
  simp only [← EReal.coe_mul, coe_sum]
  exact congrArg (fun y : ℝ => (y : EReal)) (Finset.sum_congr rfl fun j _ => by rw [each_qh, mul_comm])

include h3 in
/-- the gradient of the values, -/
theorem ref_dv (r : Fin 8192) (h : Fin 2) (e : Fin 64) : val_main_v42 (F := Ideal) x0 x1 x3 (ix3 r h e)
    = ((∑ g : Fin 4, Heads.dv 8⁻¹ qr (each kr) yr r (qh h g) e : ℝ) : EReal) := by
  pointwise [val_main_v42, val_main_v41, val_main_v39, ref_ct x3 h3, at_prob x0 x1 h0 h1]
  simp only [← EReal.coe_mul, coe_sum]
  rfl

include h2 h3

theorem at_ds (h : Fin 2) (g : Fin 4) (i j : Fin 8192) : val_main_v54 (F := Ideal) x0 x1 x2 x3 (ix4 h g i j)
    = (ds (srow qr kr h g i) (drow vr yr h g i) j : EReal) := by
  choose M hM using ref_max x0 x1 h0 h1
  exact ref_ds x0 x1 x2 x3 (ref_score x0 x1 h0 h1) hM h2 (ref_ct x3 h3) h g i j

/-- of the queries -/
theorem ref_dq (r : Fin 8192) (h : Fin 2) (g : Fin 4) (d : Fin 64) :
    val_main_v59 (F := Ideal) x0 x1 x2 x3 (ix4 r h g d) = (Heads.dq 8⁻¹ qr (each kr) (each vr) yr r (qh h g) d : EReal) := by
  pointwise [val_main_v59, val_main_v58, val_main_v57, val_main_v56, val_main_v55, val_main_v3, val_main_v2, val_main_cst, val_main_cst_0, factor,
    at_ds x0 x1 x2 x3 h0 h1 h2 h3, h1]
  simp only [← EReal.coe_mul, coe_sum]
  refine congrArg (fun y : ℝ => (y : EReal)) ?_
  rw [Heads.dq, Finset.sum_mul]
  exact Finset.sum_congr rfl fun i _ => by rw [each_qh]; ring

/-- and of the keys. -/
theorem ref_dk (r : Fin 8192) (h : Fin 2) (d : Fin 64) : val_main_v61 (F := Ideal) x0 x1 x2 x3 (ix3 r h d)
    = ((∑ g : Fin 4, Heads.dk 8⁻¹ qr (each kr) (each vr) yr r (qh h g) d : ℝ) : EReal) := by
  pointwise [val_main_v61, val_main_v60, val_main_v57, val_main_v56, val_main_v55, val_main_v3, val_main_v2, val_main_cst, val_main_cst_0, factor,
    at_ds x0 x1 x2 x3 h0 h1 h2 h3, h0]
  simp only [← EReal.coe_mul, coe_sum]
  refine congrArg (fun y : ℝ => (y : EReal)) ?_
  rw [Finset.sum_comm]
  refine Finset.sum_congr rfl fun g _ => ?_
  rw [Heads.dk, Finset.sum_mul]
  exact Finset.sum_congr rfl fun i _ => by ring

end

end Cert.GqaRefIdeal.Result

end
-- ==== Proof.GqaClaim.lean ====
/-
  The attention with grouped queries with its gradient: the frames, and the value claim over the extended reals.
-/
module

public import proofs.«01_k».proof.Defs
public import proofs.«01_k».proof.Proof.Gen.Gqa.Frame
public import proofs.«01_k».proof.Proof.GqaResult
public import proofs.«01_k».proof.Proof.GqaRef

@[expose] public section

noncomputable section

namespace Cert.Proof.Gqa

open Idealize.ShloMosaic Idealize.ShloMosaic.TcCoe Idealize.ShloMosaic.Pointwise Idealize.SL.Sem
open Cert.Lanes (vcol vcol_of)

/-- The shapes of the precondition's broadcasts fit. -/
theorem preFacts : Cert.Pre_gqa_finite.Facts where
  bcast_S_S8192x2x4x64 := by decide
  bcast_S_S8192x2x64 := by decide
  bcast_S_S8192x512 := by decide

theorem frame : Cert.quiescent_Gqa (hGqa := Cert.Gqa.Gen.facts) := fun m ρ _ => Cert.Gqa.Gen.frame m ρ

theorem frameIdeal : Cert.quiescent_GqaIdeal (hGqaIdeal := Cert.GqaIdeal.Gen.facts) := fun m ρ _ => Cert.GqaIdeal.Gen.frame m ρ

theorem frameIdealPre : Cert.quiescent_GqaIdeal_pre_gqa_finite (hGqaIdeal := Cert.GqaIdeal.Gen.facts) (hPre_gqa_finite := preFacts) :=
  fun m ρ _ => Cert.GqaIdeal.Gen.frame m ρ

/-- The reference is host operations alone: it has no semaphores. -/
theorem frameRef : Cert.quiescent_GqaRefIdeal (hGqaRefIdeal := Cert.GqaRefIdeal.Gen.facts) := fun m ρ _ =>
  (θ_run Cert.GqaRefIdeal.defs _ _).mono (fun r h => ⟨fun c => (h c).2.2.2.2, sem_eq_zero_of_no_sems (by decide) r.2⟩)
    (Cert.GqaRefIdeal.Value.run m ρ)

theorem frameRefPre : Cert.quiescent_GqaRefIdeal_pre_gqa_finite (hGqaRefIdeal := Cert.GqaRefIdeal.Gen.facts) (hPre_gqa_finite := preFacts) :=
  fun m ρ _ => frameRef m ρ trivial

/-- The named constants stand for the words that the kernel holds. -/
theorem preserves : Cert.preserves_Gqa_GqaIdeal :=
  ⟨IdealRules.named_const.statement Cert.GqaIdeal.κ "log2e" .f32 0x3FB8AA3B#32 _ rfl,
    IdealRules.named_const.statement Cert.GqaIdeal.κ "ln2" .f32 0x3F317218#32 _ rfl⟩

open Cert.GqaIdeal.Result (kh gq qh kh_qh)

/-- A head of queries is one of its group's. -/
theorem qh_kh (h : Fin 8) : qh (kh h) (gq h) = h := Fin.ext (by show h.val / 4 * 4 + h.val % 4 = h.val; omega)

theorem gq_qh (h : Fin 2) (g : Fin 4) : gq (qh h g) = g := Fin.ext (by show (h.val * 4 + g.val) % 4 = g.val; omega)

theorem vcol_heads (p : Fin 512) : p = vcol (qh (kh ⟨p.val / 64, by omega⟩) (gq ⟨p.val / 64, by omega⟩)) ⟨p.val % 64, by omega⟩ := by
  rw [qh_kh]
  exact vcol_of p

/-- Real queries, numbered by their heads. -/
theorem by_heads (x : Vec Ideal Cert.GqaIdeal.S8192x2x4x64 .f32) (q4 : Fin 8192 → Fin 2 → Fin 4 → Fin 64 → ℝ)
    (h4 : ∀ r h g d, x (ix4 r h g d) = (q4 r h g d : EReal)) : ∃ qr : Fin 8192 → Fin 8 → Fin 64 → ℝ,
    (∀ r h g d, x (ix4 r h g d) = (qr r (qh h g) d : EReal)) ∧ ∀ r h d, x (ix4 r (kh h) (gq h) d) = (qr r h d : EReal) :=
  ⟨fun r h d => q4 r (kh h) (gq h) d, fun r h g d => by rw [h4]; show _ = (q4 r (kh (qh h g)) (gq (qh h g)) d : EReal); rw [kh_qh, gq_qh],
    fun r h d => h4 _ _ _ _⟩

open Cert.GqaIdeal.Gen (W16 mem_uc) in
open Cert.GqaIdeal.Result in
open Cert.GqaRefIdeal.Result in
/-- Over the extended reals the weighted means and the gradients are the reference's, where all arguments are real. -/
theorem value : Cert.algebraic_GqaIdeal_GqaRefIdeal_pre_gqa_finite (hGqaIdeal := Cert.GqaIdeal.Gen.facts)
    (hGqaRefIdeal := Cert.GqaRefIdeal.Gen.facts) (hPre_gqa_finite := preFacts) := fun m g m' g' hpre hag => by
  refine ⟨fun c => W16 m g c Cert.GqaIdeal.main_v38, fun c => W16 m g c Cert.GqaIdeal.main_v44, fun c => W16 m g c Cert.GqaIdeal.main_v51,
    fun c => W16 m g c Cert.GqaIdeal.main_v56, ?_, ?_⟩
  · exact (θ_run Cert.GqaIdeal.defs _ _).mono (fun r h c => ⟨h.1 c _ (mem_uc _ (by decide)), h.1 c _ (mem_uc _ (by decide)),
      h.1 c _ (mem_uc _ (by decide)), h.1 c _ (mem_uc _ (by decide)), args m g c (h.1 c)⟩) (run m g)
  refine (θ_run Cert.GqaRefIdeal.defs _ _).mono (fun r h c => ⟨(h c).1.trans ?_, (h c).2.1.trans ?_, (h c).2.2.1.trans ?_,
    (h c).2.2.2.1.trans ?_, (h c).2.2.2.2⟩) (Cert.GqaRefIdeal.Value.run m' g')
  all_goals
    obtain ⟨a0, a1, a2, a3⟩ := hag c
    obtain ⟨p0, p1, p2, p3⟩ := hpre c
    choose q4 h4 using fun r h g d => Cert.Norm.isReal_of_abs_lt (congrFun p0 (ix4 r h g d))
    obtain ⟨qr, hq, hQ⟩ := by_heads _ q4 h4
    choose kr hk using fun r h d => Cert.Norm.isReal_of_abs_lt (congrFun p1 (ix3 r h d))
    choose vr hv using fun r h e => Cert.Norm.isReal_of_abs_lt (congrFun p2 (ix3 r h e))
    choose yr hy using fun r h e => Cert.Norm.isReal_of_abs_lt (congrFun p3 (ix2 r (vcol h e)))
  · rw [Cert.GqaRefIdeal.Read.val_main_v37_eq, a0, a1, a2]
    refine funext fun i => ?_
    rw [eq_ix2 i, vcol_heads (i 1)]
    exact (ref_y _ _ _ hq hk hv _ _ _ _).trans (result_y m g c hQ hk hv _ _ _).symm
  · rw [Cert.GqaRefIdeal.Read.val_main_v59_eq, a0, a1, a2, a3]
    refine funext fun i => ?_
    rw [eq_ix4 i]
    exact (ref_dq _ _ _ _ hq hk hv hy _ _ _ _).trans (result_dq m g c hQ hk hv hy _ _ _ _).symm
  · rw [Cert.GqaRefIdeal.Read.val_main_v61_eq, a0, a1, a2, a3]
    refine funext fun i => ?_
    rw [eq_ix3 i]
    exact (ref_dk _ _ _ _ hq hk hv hy _ _ _).trans (result_dk m g c hQ hk hv hy _ _ _).symm
  · rw [Cert.GqaRefIdeal.Read.val_main_v42_eq, a0, a1, a3]
    refine funext fun i => ?_
    rw [eq_ix3 i]
    exact (ref_dv _ _ _ hq hk hy _ _ _).trans (result_dv m g c hQ hk hv hy _ _ _).symm

end Cert.Proof.Gqa

end
-- ==== Proof.MergeBlock.lean ====
/-
  The gates, the merge of the two attentions and the merge's gradient: the blocks that the windows of the three calls read
  and write.
-/
module

public import proofs.«01_k».proof.Proof.Tiles
public import proofs.«01_k».proof.Proof.Gen.MergeIdeal.Frame
public import Idealize.ShloMosaic.Lib.Tactic

@[expose] public section

set_option maxRecDepth 16384

noncomputable section

namespace Cert.MergeIdeal.Result

open Cert.MergeIdeal Cert.MergeIdeal.Gen Cert.Rows Cert.Tiles Idealize.ShloMosaic Idealize.ShloMosaic.TcCoe Idealize.SL.Sem
open Idealize.ShloMosaic.Pointwise

variable {F : FTy → Type} [FloatOps F]
variable (V : (c : Dev nD) → (b : Ref sig .tc) → Buf (Elt F) ((c : Thread nD τ).loc b))

/-- Call 0's index maps: the windows of rows move by one tile a point, the others stay. -/
theorem idx0 : ∀ t : Fin grid0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) := by decide +kernel

theorem blk0_0 (c : Dev nD) (t : Fin cfg0.N) (j : Fin 512) (l : Fin 1024) :
    (iblk0 V c 0 t : Vec F S512x1024 .f32) (ix2 j l) = (V c main_arg0 : Vec F S8192x1024 .f32) (ix2 (row t j) l) := by
  unfold iblk0
  rw [View.read_apply]
  exact at2 (V c main_arg0 : Vec F S8192x1024 .f32) (row_at (idx0 t).1.1 (lt_of_lt_of_eq t.isLt N_0) j) (all_at (idx0 t).1.2 l)

theorem blk0_1 (c : Dev nD) (t : Fin cfg0.N) : (iblk0 V c 1 t : Vec F S1x1024 .f32) = (V c main_v26 : Vec F S1x1024 .f32) := funext fun i => by
  unfold iblk0
  rw [View.read_apply, eq_ix2 i]
  exact at2 (V c main_v26 : Vec F S1x1024 .f32) (all_at (idx0 t).2.1.1 (i 0)) (all_at (idx0 t).2.1.2 (i 1))

theorem blk0_3 (c : Dev nD) (t : Fin cfg0.N) : (iblk0 V c 3 t : Vec F S1024x2048 .bf16) = (V c main_v28 : Vec F S1024x2048 .bf16) := funext fun i => by
  unfold iblk0
  rw [View.read_apply, eq_ix2 i]
  exact at2 (V c main_v28 : Vec F S1024x2048 .bf16) (all_at (idx0 t).2.2.2.1.1 (i 0)) (all_at (idx0 t).2.2.2.1.2 (i 1))

theorem blk0_4 (c : Dev nD) (t : Fin cfg0.N) : (iblk0 V c 4 t : Vec F S1x2048 .f32) = (V c main_v29 : Vec F S1x2048 .f32) := funext fun i => by
  unfold iblk0
  rw [View.read_apply, eq_ix2 i]
  exact at2 (V c main_v29 : Vec F S1x2048 .f32) (all_at (idx0 t).2.2.2.2.1.1 (i 0)) (all_at (idx0 t).2.2.2.2.1.2 (i 1))

theorem final0_5 (c : Dev nD) (t : Fin cfg0.N) (j : Fin 512) (l : Fin 1024) :
    ((dat0 V c).arrAt 5 cfg0.N : Vec F S8192x1024 .bf16) (ix2 (row t j) l) = out0_5 (iblk0 V c 0 t) (iblk0 V c 1 t) (iblk0 V c 2 t) (iblk0 V c 3 t) (iblk0 V c 4 t) (ix2 j l) := by
  have h := (dat0 V c).arrAt_emb_eq_flushed 5 (fun t t' _ _ hne => (cfg0.win 5).disjoint_blk fun h => hne
    ((by decide +kernel : ∀ t t' : Fin grid0.N, win0_5.index t = win0_5.index t' → t = t') t t' h)) t (flush0_5 t) (ix2 j l)
  rw [show (dat0 V c).flushed 5 t = (cfg0.win 5).cut (grid0.coords t) (out0_5 (iblk0 V c 0 t) (iblk0 V c 1 t) (iblk0 V c 2 t) (iblk0 V c 3 t) (iblk0 V c 4 t)) by
    show (cfg0.win 5).cut (grid0.coords t) ((dat0 V c).after 5 t) = _
    rw [after0_5]] at h
  generalize out0_5 (iblk0 V c 0 t) (iblk0 V c 1 t) (iblk0 V c 2 t) (iblk0 V c 3 t) (iblk0 V c 4 t) = o at h ⊢
  refine (at2 ((dat0 V c).arrAt 5 cfg0.N : Vec F S8192x1024 .bf16) ?_ ?_).symm.trans h
  · exact row_at (idx0 t).2.2.2.2.2.1.1 (lt_of_lt_of_eq t.isLt N_0) j
  · exact all_at (idx0 t).2.2.2.2.2.1.2 l

theorem final0_7 (c : Dev nD) (t : Fin cfg0.N) (j : Fin 512) (l : Fin 2048) :
    ((dat0 V c).arrAt 7 cfg0.N : Vec F S8192x2048 .bf16) (ix2 (row t j) l) = out0_7 (iblk0 V c 0 t) (iblk0 V c 1 t) (iblk0 V c 2 t) (iblk0 V c 3 t) (iblk0 V c 4 t) (ix2 j l) := by
  have h := (dat0 V c).arrAt_emb_eq_flushed 7 (fun t t' _ _ hne => (cfg0.win 7).disjoint_blk fun h => hne
    ((by decide +kernel : ∀ t t' : Fin grid0.N, win0_7.index t = win0_7.index t' → t = t') t t' h)) t (flush0_7 t) (ix2 j l)
  rw [show (dat0 V c).flushed 7 t = (cfg0.win 7).cut (grid0.coords t) (out0_7 (iblk0 V c 0 t) (iblk0 V c 1 t) (iblk0 V c 2 t) (iblk0 V c 3 t) (iblk0 V c 4 t)) by
    show (cfg0.win 7).cut (grid0.coords t) ((dat0 V c).after 7 t) = _
    rw [after0_7]] at h
  generalize out0_7 (iblk0 V c 0 t) (iblk0 V c 1 t) (iblk0 V c 2 t) (iblk0 V c 3 t) (iblk0 V c 4 t) = o at h ⊢
  refine (at2 ((dat0 V c).arrAt 7 cfg0.N : Vec F S8192x2048 .bf16) ?_ ?_).symm.trans h
  · exact row_at (idx0 t).2.2.2.2.2.2.2.1 (lt_of_lt_of_eq t.isLt N_0) j
  · exact all_at (idx0 t).2.2.2.2.2.2.2.2 l

/-- Call 1's index maps: the windows of rows move by one tile a point, the others stay. -/
theorem idx1 : ∀ t : Fin grid1.N, (win1_0.index t 0 = t.val ∧ win1_0.index t 1 = 0)
    ∧ (win1_1.index t 0 = t.val ∧ win1_1.index t 1 = 0)
    ∧ (win1_2.index t 0 = t.val ∧ win1_2.index t 1 = 0)
    ∧ (win1_3.index t 0 = 0 ∧ win1_3.index t 1 = 0)
    ∧ (win1_4.index t 0 = 0 ∧ win1_4.index t 1 = 0)
    ∧ (win1_5.index t 0 = 0 ∧ win1_5.index t 1 = 0)
    ∧ (win1_6.index t 0 = t.val ∧ win1_6.index t 1 = 0)
    ∧ (win1_7.index t 0 = 0 ∧ win1_7.index t 1 = 0)
    ∧ (win1_8.index t 0 = t.val ∧ win1_8.index t 1 = 0)
    ∧ (win1_9.index t 0 = t.val ∧ win1_9.index t 1 = 0)
    ∧ (win1_10.index t 0 = t.val ∧ win1_10.index t 1 = 0)
    ∧ (win1_11.index t 0 = t.val ∧ win1_11.index t 1 = 0)
    ∧ (win1_12.index t 0 = t.val ∧ win1_12.index t 1 = 0) := by decide +kernel

theorem blk1_0 (c : Dev nD) (t : Fin cfg1.N) (j : Fin 512) (l : Fin 1024) :
    (iblk1 V c 0 t : Vec F S512x1024 .bf16) (ix2 j l) = (V c main_v34 : Vec F S8192x1024 .bf16) (ix2 (row t j) l) := by
  unfold iblk1
  rw [View.read_apply]
  exact at2 (V c main_v34 : Vec F S8192x1024 .bf16) (row_at (idx1 t).1.1 (lt_of_lt_of_eq t.isLt N_1) j) (all_at (idx1 t).1.2 l)

theorem blk1_1 (c : Dev nD) (t : Fin cfg1.N) (j : Fin 512) (l : Fin 1024) :
    (iblk1 V c 1 t : Vec F S512x1024 .bf16) (ix2 j l) = (V c main_v38 : Vec F S8192x1024 .bf16) (ix2 (row t j) l) := by
  unfold iblk1
  rw [View.read_apply]
  exact at2 (V c main_v38 : Vec F S8192x1024 .bf16) (row_at (idx1 t).2.1.1 (lt_of_lt_of_eq t.isLt N_1) j) (all_at (idx1 t).2.1.2 l)

theorem blk1_2 (c : Dev nD) (t : Fin cfg1.N) (j : Fin 512) (l : Fin 2048) :
    (iblk1 V c 2 t : Vec F S512x2048 .bf16) (ix2 j l) = (V c main_v30_2 : Vec F S8192x2048 .bf16) (ix2 (row t j) l) := by
  unfold iblk1
  rw [View.read_apply]
  exact at2 (V c main_v30_2 : Vec F S8192x2048 .bf16) (row_at (idx1 t).2.2.1.1 (lt_of_lt_of_eq t.isLt N_1) j) (all_at (idx1 t).2.2.1.2 l)

theorem blk1_3 (c : Dev nD) (t : Fin cfg1.N) : (iblk1 V c 3 t : Vec F S1024x1024 .bf16) = (V c main_v42 : Vec F S1024x1024 .bf16) := funext fun i => by
  unfold iblk1
  rw [View.read_apply, eq_ix2 i]
  exact at2 (V c main_v42 : Vec F S1024x1024 .bf16) (all_at (idx1 t).2.2.2.1.1 (i 0)) (all_at (idx1 t).2.2.2.1.2 (i 1))

theorem blk1_4 (c : Dev nD) (t : Fin cfg1.N) : (iblk1 V c 4 t : Vec F S1024x1024 .bf16) = (V c main_v46 : Vec F S1024x1024 .bf16) := funext fun i => by
  unfold iblk1
  rw [View.read_apply, eq_ix2 i]
  exact at2 (V c main_v46 : Vec F S1024x1024 .bf16) (all_at (idx1 t).2.2.2.2.1.1 (i 0)) (all_at (idx1 t).2.2.2.2.1.2 (i 1))

theorem blk1_5 (c : Dev nD) (t : Fin cfg1.N) : (iblk1 V c 5 t : Vec F S1024x1024 .bf16) = (V c main_v47 : Vec F S1024x1024 .bf16) := funext fun i => by
  unfold iblk1
  rw [View.read_apply, eq_ix2 i]
  exact at2 (V c main_v47 : Vec F S1024x1024 .bf16) (all_at (idx1 t).2.2.2.2.2.1.1 (i 0)) (all_at (idx1 t).2.2.2.2.2.1.2 (i 1))

theorem blk1_6 (c : Dev nD) (t : Fin cfg1.N) (j : Fin 512) (l : Fin 1024) :
    (iblk1 V c 6 t : Vec F S512x1024 .f32) (ix2 j l) = (V c main_arg0 : Vec F S8192x1024 .f32) (ix2 (row t j) l) := by
  unfold iblk1
  rw [View.read_apply]
  exact at2 (V c main_arg0 : Vec F S8192x1024 .f32) (row_at (idx1 t).2.2.2.2.2.2.1.1 (lt_of_lt_of_eq t.isLt N_1) j) (all_at (idx1 t).2.2.2.2.2.2.1.2 l)

theorem blk1_7 (c : Dev nD) (t : Fin cfg1.N) : (iblk1 V c 7 t : Vec F S1x1024 .f32) = (V c main_v48 : Vec F S1x1024 .f32) := funext fun i => by
  unfold iblk1
  rw [View.read_apply, eq_ix2 i]
  exact at2 (V c main_v48 : Vec F S1x1024 .f32) (all_at (idx1 t).2.2.2.2.2.2.2.1.1 (i 0)) (all_at (idx1 t).2.2.2.2.2.2.2.1.2 (i 1))

theorem final1_8 (c : Dev nD) (t : Fin cfg1.N) (j : Fin 512) (l : Fin 1024) :
    ((dat1 V c).arrAt 8 cfg1.N : Vec F S8192x1024 .bf16) (ix2 (row t j) l) = out1_8 (iblk1 V c 0 t) (iblk1 V c 1 t) (iblk1 V c 2 t) (iblk1 V c 3 t) (iblk1 V c 4 t) (iblk1 V c 5 t) (iblk1 V c 6 t) (iblk1 V c 7 t) (ix2 j l) := by
  have h := (dat1 V c).arrAt_emb_eq_flushed 8 (fun t t' _ _ hne => (cfg1.win 8).disjoint_blk fun h => hne
    ((by decide +kernel : ∀ t t' : Fin grid1.N, win1_8.index t = win1_8.index t' → t = t') t t' h)) t (flush1_8 t) (ix2 j l)
  rw [show (dat1 V c).flushed 8 t = (cfg1.win 8).cut (grid1.coords t) (out1_8 (iblk1 V c 0 t) (iblk1 V c 1 t) (iblk1 V c 2 t) (iblk1 V c 3 t) (iblk1 V c 4 t) (iblk1 V c 5 t) (iblk1 V c 6 t) (iblk1 V c 7 t)) by
    show (cfg1.win 8).cut (grid1.coords t) ((dat1 V c).after 8 t) = _
    rw [after1_8]] at h
  generalize out1_8 (iblk1 V c 0 t) (iblk1 V c 1 t) (iblk1 V c 2 t) (iblk1 V c 3 t) (iblk1 V c 4 t) (iblk1 V c 5 t) (iblk1 V c 6 t) (iblk1 V c 7 t) = o at h ⊢
  refine (at2 ((dat1 V c).arrAt 8 cfg1.N : Vec F S8192x1024 .bf16) ?_ ?_).symm.trans h
  · exact row_at (idx1 t).2.2.2.2.2.2.2.2.1.1 (lt_of_lt_of_eq t.isLt N_1) j
  · exact all_at (idx1 t).2.2.2.2.2.2.2.2.1.2 l

theorem final1_9 (c : Dev nD) (t : Fin cfg1.N) (j : Fin 512) (l : Fin 1024) :
    ((dat1 V c).arrAt 9 cfg1.N : Vec F S8192x1024 .bf16) (ix2 (row t j) l) = out1_9 (iblk1 V c 0 t) (iblk1 V c 1 t) (iblk1 V c 2 t) (iblk1 V c 3 t) (iblk1 V c 4 t) (iblk1 V c 5 t) (iblk1 V c 6 t) (iblk1 V c 7 t) (ix2 j l) := by
  have h := (dat1 V c).arrAt_emb_eq_flushed 9 (fun t t' _ _ hne => (cfg1.win 9).disjoint_blk fun h => hne
    ((by decide +kernel : ∀ t t' : Fin grid1.N, win1_9.index t = win1_9.index t' → t = t') t t' h)) t (flush1_9 t) (ix2 j l)
  rw [show (dat1 V c).flushed 9 t = (cfg1.win 9).cut (grid1.coords t) (out1_9 (iblk1 V c 0 t) (iblk1 V c 1 t) (iblk1 V c 2 t) (iblk1 V c 3 t) (iblk1 V c 4 t) (iblk1 V c 5 t) (iblk1 V c 6 t) (iblk1 V c 7 t)) by
    show (cfg1.win 9).cut (grid1.coords t) ((dat1 V c).after 9 t) = _
    rw [after1_9]] at h
  generalize out1_9 (iblk1 V c 0 t) (iblk1 V c 1 t) (iblk1 V c 2 t) (iblk1 V c 3 t) (iblk1 V c 4 t) (iblk1 V c 5 t) (iblk1 V c 6 t) (iblk1 V c 7 t) = o at h ⊢
  refine (at2 ((dat1 V c).arrAt 9 cfg1.N : Vec F S8192x1024 .bf16) ?_ ?_).symm.trans h
  · exact row_at (idx1 t).2.2.2.2.2.2.2.2.2.1.1 (lt_of_lt_of_eq t.isLt N_1) j
  · exact all_at (idx1 t).2.2.2.2.2.2.2.2.2.1.2 l

theorem final1_10 (c : Dev nD) (t : Fin cfg1.N) (j : Fin 512) (l : Fin 1024) :
    ((dat1 V c).arrAt 10 cfg1.N : Vec F S8192x1024 .bf16) (ix2 (row t j) l) = out1_10 (iblk1 V c 0 t) (iblk1 V c 1 t) (iblk1 V c 2 t) (iblk1 V c 3 t) (iblk1 V c 4 t) (iblk1 V c 5 t) (iblk1 V c 6 t) (iblk1 V c 7 t) (ix2 j l) := by
  have h := (dat1 V c).arrAt_emb_eq_flushed 10 (fun t t' _ _ hne => (cfg1.win 10).disjoint_blk fun h => hne
    ((by decide +kernel : ∀ t t' : Fin grid1.N, win1_10.index t = win1_10.index t' → t = t') t t' h)) t (flush1_10 t) (ix2 j l)
  rw [show (dat1 V c).flushed 10 t = (cfg1.win 10).cut (grid1.coords t) (out1_10 (iblk1 V c 0 t) (iblk1 V c 1 t) (iblk1 V c 2 t) (iblk1 V c 3 t) (iblk1 V c 4 t) (iblk1 V c 5 t) (iblk1 V c 6 t) (iblk1 V c 7 t)) by
    show (cfg1.win 10).cut (grid1.coords t) ((dat1 V c).after 10 t) = _
    rw [after1_10]] at h
  generalize out1_10 (iblk1 V c 0 t) (iblk1 V c 1 t) (iblk1 V c 2 t) (iblk1 V c 3 t) (iblk1 V c 4 t) (iblk1 V c 5 t) (iblk1 V c 6 t) (iblk1 V c 7 t) = o at h ⊢
  refine (at2 ((dat1 V c).arrAt 10 cfg1.N : Vec F S8192x1024 .bf16) ?_ ?_).symm.trans h
  · exact row_at (idx1 t).2.2.2.2.2.2.2.2.2.2.1.1 (lt_of_lt_of_eq t.isLt N_1) j
  · exact all_at (idx1 t).2.2.2.2.2.2.2.2.2.2.1.2 l

theorem final1_11 (c : Dev nD) (t : Fin cfg1.N) (j : Fin 512) (l : Fin 1024) :
    ((dat1 V c).arrAt 11 cfg1.N : Vec F S8192x1024 .f32) (ix2 (row t j) l) = out1_11 (iblk1 V c 0 t) (iblk1 V c 1 t) (iblk1 V c 2 t) (iblk1 V c 3 t) (iblk1 V c 4 t) (iblk1 V c 5 t) (iblk1 V c 6 t) (iblk1 V c 7 t) (ix2 j l) := by
  have h := (dat1 V c).arrAt_emb_eq_flushed 11 (fun t t' _ _ hne => (cfg1.win 11).disjoint_blk fun h => hne
    ((by decide +kernel : ∀ t t' : Fin grid1.N, win1_11.index t = win1_11.index t' → t = t') t t' h)) t (flush1_11 t) (ix2 j l)
  rw [show (dat1 V c).flushed 11 t = (cfg1.win 11).cut (grid1.coords t) (out1_11 (iblk1 V c 0 t) (iblk1 V c 1 t) (iblk1 V c 2 t) (iblk1 V c 3 t) (iblk1 V c 4 t) (iblk1 V c 5 t) (iblk1 V c 6 t) (iblk1 V c 7 t)) by
    show (cfg1.win 11).cut (grid1.coords t) ((dat1 V c).after 11 t) = _
    rw [after1_11]] at h
  generalize out1_11 (iblk1 V c 0 t) (iblk1 V c 1 t) (iblk1 V c 2 t) (iblk1 V c 3 t) (iblk1 V c 4 t) (iblk1 V c 5 t) (iblk1 V c 6 t) (iblk1 V c 7 t) = o at h ⊢
  refine (at2 ((dat1 V c).arrAt 11 cfg1.N : Vec F S8192x1024 .f32) ?_ ?_).symm.trans h
  · exact row_at (idx1 t).2.2.2.2.2.2.2.2.2.2.2.1.1 (lt_of_lt_of_eq t.isLt N_1) j
  · exact all_at (idx1 t).2.2.2.2.2.2.2.2.2.2.2.1.2 l

theorem final1_12 (c : Dev nD) (t : Fin cfg1.N) (j : Fin 512) (l : Fin 1024) :
    ((dat1 V c).arrAt 12 cfg1.N : Vec F S8192x1024 .f32) (ix2 (row t j) l) = out1_12 (iblk1 V c 0 t) (iblk1 V c 1 t) (iblk1 V c 2 t) (iblk1 V c 3 t) (iblk1 V c 4 t) (iblk1 V c 5 t) (iblk1 V c 6 t) (iblk1 V c 7 t) (ix2 j l) := by
  have h := (dat1 V c).arrAt_emb_eq_flushed 12 (fun t t' _ _ hne => (cfg1.win 12).disjoint_blk fun h => hne
    ((by decide +kernel : ∀ t t' : Fin grid1.N, win1_12.index t = win1_12.index t' → t = t') t t' h)) t (flush1_12 t) (ix2 j l)
  rw [show (dat1 V c).flushed 12 t = (cfg1.win 12).cut (grid1.coords t) (out1_12 (iblk1 V c 0 t) (iblk1 V c 1 t) (iblk1 V c 2 t) (iblk1 V c 3 t) (iblk1 V c 4 t) (iblk1 V c 5 t) (iblk1 V c 6 t) (iblk1 V c 7 t)) by
    show (cfg1.win 12).cut (grid1.coords t) ((dat1 V c).after 12 t) = _
    rw [after1_12]] at h
  generalize out1_12 (iblk1 V c 0 t) (iblk1 V c 1 t) (iblk1 V c 2 t) (iblk1 V c 3 t) (iblk1 V c 4 t) (iblk1 V c 5 t) (iblk1 V c 6 t) (iblk1 V c 7 t) = o at h ⊢
  refine (at2 ((dat1 V c).arrAt 12 cfg1.N : Vec F S8192x1024 .f32) ?_ ?_).symm.trans h
  · exact row_at (idx1 t).2.2.2.2.2.2.2.2.2.2.2.2.1 (lt_of_lt_of_eq t.isLt N_1) j
  · exact all_at (idx1 t).2.2.2.2.2.2.2.2.2.2.2.2.2 l

/-- Call 2's index maps: the windows of rows move by one tile a point, the others stay. -/
theorem idx2 : ∀ t : Fin grid2.N, (win2_0.index t 0 = t.val ∧ win2_0.index t 1 = 0)
    ∧ (win2_1.index t 0 = t.val ∧ win2_1.index t 1 = 0)
    ∧ (win2_2.index t 0 = 0 ∧ win2_2.index t 1 = 0)
    ∧ (win2_3.index t 0 = 0 ∧ win2_3.index t 1 = 0)
    ∧ (win2_4.index t 0 = t.val ∧ win2_4.index t 1 = 0)
    ∧ (win2_5.index t 0 = t.val ∧ win2_5.index t 1 = 0)
    ∧ (win2_6.index t 0 = t.val ∧ win2_6.index t 1 = 0)
    ∧ (win2_7.index t 0 = 0 ∧ win2_7.index t 1 = 0)
    ∧ (win2_8.index t 0 = 0 ∧ win2_8.index t 1 = 0)
    ∧ (win2_9.index t 0 = t.val ∧ win2_9.index t 1 = 0)
    ∧ (win2_10.index t 0 = t.val ∧ win2_10.index t 1 = 0)
    ∧ (win2_11.index t 0 = t.val ∧ win2_11.index t 1 = 0)
    ∧ (win2_12.index t 0 = t.val ∧ win2_12.index t 1 = 0)
    ∧ (win2_13.index t 0 = t.val ∧ win2_13.index t 1 = 0)
    ∧ (win2_14.index t 0 = t.val ∧ win2_14.index t 1 = 0)
    ∧ (win2_15.index t 0 = 0 ∧ win2_15.index t 1 = 0)
    ∧ (win2_16.index t 0 = 0 ∧ win2_16.index t 1 = 0) := by decide +kernel

theorem blk2_0 (c : Dev nD) (t : Fin cfg2.N) (j : Fin 512) (l : Fin 1024) :
    (iblk2 V c 0 t : Vec F S512x1024 .f32) (ix2 j l) = (V c main_v49_3 : Vec F S8192x1024 .f32) (ix2 (row t j) l) := by
  unfold iblk2
  rw [View.read_apply]
  exact at2 (V c main_v49_3 : Vec F S8192x1024 .f32) (row_at (idx2 t).1.1 (lt_of_lt_of_eq t.isLt N_2) j) (all_at (idx2 t).1.2 l)

theorem blk2_1 (c : Dev nD) (t : Fin cfg2.N) (j : Fin 512) (l : Fin 1024) :
    (iblk2 V c 1 t : Vec F S512x1024 .f32) (ix2 j l) = (V c main_arg10 : Vec F S8192x1024 .f32) (ix2 (row t j) l) := by
  unfold iblk2
  rw [View.read_apply]
  exact at2 (V c main_arg10 : Vec F S8192x1024 .f32) (row_at (idx2 t).2.1.1 (lt_of_lt_of_eq t.isLt N_2) j) (all_at (idx2 t).2.1.2 l)

theorem blk2_2 (c : Dev nD) (t : Fin cfg2.N) : (iblk2 V c 2 t : Vec F S1x1024 .f32) = (V c main_v48 : Vec F S1x1024 .f32) := funext fun i => by
  unfold iblk2
  rw [View.read_apply, eq_ix2 i]
  exact at2 (V c main_v48 : Vec F S1x1024 .f32) (all_at (idx2 t).2.2.1.1 (i 0)) (all_at (idx2 t).2.2.1.2 (i 1))

theorem blk2_3 (c : Dev nD) (t : Fin cfg2.N) : (iblk2 V c 3 t : Vec F S1024x1024 .bf16) = (V c main_v47 : Vec F S1024x1024 .bf16) := funext fun i => by
  unfold iblk2
  rw [View.read_apply, eq_ix2 i]
  exact at2 (V c main_v47 : Vec F S1024x1024 .bf16) (all_at (idx2 t).2.2.2.1.1 (i 0)) (all_at (idx2 t).2.2.2.1.2 (i 1))

theorem blk2_4 (c : Dev nD) (t : Fin cfg2.N) (j : Fin 512) (l : Fin 2048) :
    (iblk2 V c 4 t : Vec F S512x2048 .bf16) (ix2 j l) = (V c main_v30_2 : Vec F S8192x2048 .bf16) (ix2 (row t j) l) := by
  unfold iblk2
  rw [View.read_apply]
  exact at2 (V c main_v30_2 : Vec F S8192x2048 .bf16) (row_at (idx2 t).2.2.2.2.1.1 (lt_of_lt_of_eq t.isLt N_2) j) (all_at (idx2 t).2.2.2.2.1.2 l)

theorem blk2_5 (c : Dev nD) (t : Fin cfg2.N) (j : Fin 512) (l : Fin 1024) :
    (iblk2 V c 5 t : Vec F S512x1024 .bf16) (ix2 j l) = (V c main_v49_0 : Vec F S8192x1024 .bf16) (ix2 (row t j) l) := by
  unfold iblk2
  rw [View.read_apply]
  exact at2 (V c main_v49_0 : Vec F S8192x1024 .bf16) (row_at (idx2 t).2.2.2.2.2.1.1 (lt_of_lt_of_eq t.isLt N_2) j) (all_at (idx2 t).2.2.2.2.2.1.2 l)

theorem blk2_6 (c : Dev nD) (t : Fin cfg2.N) (j : Fin 512) (l : Fin 1024) :
    (iblk2 V c 6 t : Vec F S512x1024 .bf16) (ix2 j l) = (V c main_v49_1 : Vec F S8192x1024 .bf16) (ix2 (row t j) l) := by
  unfold iblk2
  rw [View.read_apply]
  exact at2 (V c main_v49_1 : Vec F S8192x1024 .bf16) (row_at (idx2 t).2.2.2.2.2.2.1.1 (lt_of_lt_of_eq t.isLt N_2) j) (all_at (idx2 t).2.2.2.2.2.2.1.2 l)

theorem blk2_7 (c : Dev nD) (t : Fin cfg2.N) : (iblk2 V c 7 t : Vec F S1024x1024 .bf16) = (V c main_v42 : Vec F S1024x1024 .bf16) := funext fun i => by
  unfold iblk2
  rw [View.read_apply, eq_ix2 i]
  exact at2 (V c main_v42 : Vec F S1024x1024 .bf16) (all_at (idx2 t).2.2.2.2.2.2.2.1.1 (i 0)) (all_at (idx2 t).2.2.2.2.2.2.2.1.2 (i 1))

theorem blk2_8 (c : Dev nD) (t : Fin cfg2.N) : (iblk2 V c 8 t : Vec F S1024x1024 .bf16) = (V c main_v46 : Vec F S1024x1024 .bf16) := funext fun i => by
  unfold iblk2
  rw [View.read_apply, eq_ix2 i]
  exact at2 (V c main_v46 : Vec F S1024x1024 .bf16) (all_at (idx2 t).2.2.2.2.2.2.2.2.1.1 (i 0)) (all_at (idx2 t).2.2.2.2.2.2.2.2.1.2 (i 1))

theorem final2_9 (c : Dev nD) (t : Fin cfg2.N) (j : Fin 512) (l : Fin 1024) :
    ((dat2 V c).arrAt 9 cfg2.N : Vec F S8192x1024 .bf16) (ix2 (row t j) l) = (outsAt2 V c t.val t.isLt).1 (ix2 j l) := by
  have h := (dat2 V c).arrAt_emb_eq_flushed 9 (fun t t' _ _ hne => (cfg2.win 9).disjoint_blk fun h => hne
    ((by decide +kernel : ∀ t t' : Fin grid2.N, win2_9.index t = win2_9.index t' → t = t') t t' h)) t (flush2_9 t) (ix2 j l)
  rw [show (dat2 V c).flushed 9 t = (cfg2.win 9).cut (grid2.coords t) ((outsAt2 V c t.val t.isLt).1) by
    show (cfg2.win 9).cut (grid2.coords t) ((dat2 V c).after 9 t) = _
    rw [after2_9]] at h
  generalize (outsAt2 V c t.val t.isLt).1 = o at h ⊢
  refine (at2 ((dat2 V c).arrAt 9 cfg2.N : Vec F S8192x1024 .bf16) ?_ ?_).symm.trans h
  · exact row_at (idx2 t).2.2.2.2.2.2.2.2.2.1.1 (lt_of_lt_of_eq t.isLt N_2) j
  · exact all_at (idx2 t).2.2.2.2.2.2.2.2.2.1.2 l

theorem final2_10 (c : Dev nD) (t : Fin cfg2.N) (j : Fin 512) (l : Fin 1024) :
    ((dat2 V c).arrAt 10 cfg2.N : Vec F S8192x1024 .bf16) (ix2 (row t j) l) = (outsAt2 V c t.val t.isLt).2.1 (ix2 j l) := by
  have h := (dat2 V c).arrAt_emb_eq_flushed 10 (fun t t' _ _ hne => (cfg2.win 10).disjoint_blk fun h => hne
    ((by decide +kernel : ∀ t t' : Fin grid2.N, win2_10.index t = win2_10.index t' → t = t') t t' h)) t (flush2_10 t) (ix2 j l)
  rw [show (dat2 V c).flushed 10 t = (cfg2.win 10).cut (grid2.coords t) ((outsAt2 V c t.val t.isLt).2.1) by
    show (cfg2.win 10).cut (grid2.coords t) ((dat2 V c).after 10 t) = _
    rw [after2_10]] at h
  generalize (outsAt2 V c t.val t.isLt).2.1 = o at h ⊢
  refine (at2 ((dat2 V c).arrAt 10 cfg2.N : Vec F S8192x1024 .bf16) ?_ ?_).symm.trans h
  · exact row_at (idx2 t).2.2.2.2.2.2.2.2.2.2.1.1 (lt_of_lt_of_eq t.isLt N_2) j
  · exact all_at (idx2 t).2.2.2.2.2.2.2.2.2.2.1.2 l

theorem final2_11 (c : Dev nD) (t : Fin cfg2.N) (j : Fin 512) (l : Fin 1024) :
    ((dat2 V c).arrAt 11 cfg2.N : Vec F S8192x1024 .bf16) (ix2 (row t j) l) = (outsAt2 V c t.val t.isLt).2.2.1 (ix2 j l) := by
  have h := (dat2 V c).arrAt_emb_eq_flushed 11 (fun t t' _ _ hne => (cfg2.win 11).disjoint_blk fun h => hne
    ((by decide +kernel : ∀ t t' : Fin grid2.N, win2_11.index t = win2_11.index t' → t = t') t t' h)) t (flush2_11 t) (ix2 j l)
  rw [show (dat2 V c).flushed 11 t = (cfg2.win 11).cut (grid2.coords t) ((outsAt2 V c t.val t.isLt).2.2.1) by
    show (cfg2.win 11).cut (grid2.coords t) ((dat2 V c).after 11 t) = _
    rw [after2_11]] at h
  generalize (outsAt2 V c t.val t.isLt).2.2.1 = o at h ⊢
  refine (at2 ((dat2 V c).arrAt 11 cfg2.N : Vec F S8192x1024 .bf16) ?_ ?_).symm.trans h
  · exact row_at (idx2 t).2.2.2.2.2.2.2.2.2.2.2.1.1 (lt_of_lt_of_eq t.isLt N_2) j
  · exact all_at (idx2 t).2.2.2.2.2.2.2.2.2.2.2.1.2 l

theorem final2_12 (c : Dev nD) (t : Fin cfg2.N) (j : Fin 512) (l : Fin 2048) :
    ((dat2 V c).arrAt 12 cfg2.N : Vec F S8192x2048 .bf16) (ix2 (row t j) l) = (outsAt2 V c t.val t.isLt).2.2.2.1 (ix2 j l) := by
  have h := (dat2 V c).arrAt_emb_eq_flushed 12 (fun t t' _ _ hne => (cfg2.win 12).disjoint_blk fun h => hne
    ((by decide +kernel : ∀ t t' : Fin grid2.N, win2_12.index t = win2_12.index t' → t = t') t t' h)) t (flush2_12 t) (ix2 j l)
  rw [show (dat2 V c).flushed 12 t = (cfg2.win 12).cut (grid2.coords t) ((outsAt2 V c t.val t.isLt).2.2.2.1) by
    show (cfg2.win 12).cut (grid2.coords t) ((dat2 V c).after 12 t) = _
    rw [after2_12]] at h
  generalize (outsAt2 V c t.val t.isLt).2.2.2.1 = o at h ⊢
  refine (at2 ((dat2 V c).arrAt 12 cfg2.N : Vec F S8192x2048 .bf16) ?_ ?_).symm.trans h
  · exact row_at (idx2 t).2.2.2.2.2.2.2.2.2.2.2.2.1.1 (lt_of_lt_of_eq t.isLt N_2) j
  · exact all_at (idx2 t).2.2.2.2.2.2.2.2.2.2.2.2.1.2 l

theorem final2_13 (c : Dev nD) (t : Fin cfg2.N) (j : Fin 512) (l : Fin 1024) :
    ((dat2 V c).arrAt 13 cfg2.N : Vec F S8192x1024 .bf16) (ix2 (row t j) l) = (outsAt2 V c t.val t.isLt).2.2.2.2.1 (ix2 j l) := by
  have h := (dat2 V c).arrAt_emb_eq_flushed 13 (fun t t' _ _ hne => (cfg2.win 13).disjoint_blk fun h => hne
    ((by decide +kernel : ∀ t t' : Fin grid2.N, win2_13.index t = win2_13.index t' → t = t') t t' h)) t (flush2_13 t) (ix2 j l)
  rw [show (dat2 V c).flushed 13 t = (cfg2.win 13).cut (grid2.coords t) ((outsAt2 V c t.val t.isLt).2.2.2.2.1) by
    show (cfg2.win 13).cut (grid2.coords t) ((dat2 V c).after 13 t) = _
    rw [after2_13]] at h
  generalize (outsAt2 V c t.val t.isLt).2.2.2.2.1 = o at h ⊢
  refine (at2 ((dat2 V c).arrAt 13 cfg2.N : Vec F S8192x1024 .bf16) ?_ ?_).symm.trans h
  · exact row_at (idx2 t).2.2.2.2.2.2.2.2.2.2.2.2.2.1.1 (lt_of_lt_of_eq t.isLt N_2) j
  · exact all_at (idx2 t).2.2.2.2.2.2.2.2.2.2.2.2.2.1.2 l

theorem final2_14 (c : Dev nD) (t : Fin cfg2.N) (j : Fin 512) (l : Fin 1024) :
    ((dat2 V c).arrAt 14 cfg2.N : Vec F S8192x1024 .bf16) (ix2 (row t j) l) = (outsAt2 V c t.val t.isLt).2.2.2.2.2.1 (ix2 j l) := by
  have h := (dat2 V c).arrAt_emb_eq_flushed 14 (fun t t' _ _ hne => (cfg2.win 14).disjoint_blk fun h => hne
    ((by decide +kernel : ∀ t t' : Fin grid2.N, win2_14.index t = win2_14.index t' → t = t') t t' h)) t (flush2_14 t) (ix2 j l)
  rw [show (dat2 V c).flushed 14 t = (cfg2.win 14).cut (grid2.coords t) ((outsAt2 V c t.val t.isLt).2.2.2.2.2.1) by
    show (cfg2.win 14).cut (grid2.coords t) ((dat2 V c).after 14 t) = _
    rw [after2_14]] at h
  generalize (outsAt2 V c t.val t.isLt).2.2.2.2.2.1 = o at h ⊢
  refine (at2 ((dat2 V c).arrAt 14 cfg2.N : Vec F S8192x1024 .bf16) ?_ ?_).symm.trans h
  · exact row_at (idx2 t).2.2.2.2.2.2.2.2.2.2.2.2.2.2.1.1 (lt_of_lt_of_eq t.isLt N_2) j
  · exact all_at (idx2 t).2.2.2.2.2.2.2.2.2.2.2.2.2.2.1.2 l

theorem final2_15 (c : Dev nD) (t : Fin cfg2.N) (ht : t.val = 15) (z : Fin 1) (l : Fin 1024) :
    ((dat2 V c).arrAt 15 cfg2.N : Vec F S1x1024 .f32) (ix2 z l) = (outsAt2 V c t.val t.isLt).2.2.2.2.2.2.1 (ix2 z l) := by
  have h := (dat2 V c).arrAt_emb_eq_flushed 15 (fun t t' h h' hne => absurd (Fin.ext (by
    have hN : cfg2.N = 16 := N_2
    have h1 := (flush2_15 t).mp h
    have h2 := (flush2_15 t').mp h'
    omega)) hne) t ((flush2_15 t).mpr (by omega)) (ix2 z l)
  rw [show (dat2 V c).flushed 15 t = (cfg2.win 15).cut (grid2.coords t) ((outsAt2 V c t.val t.isLt).2.2.2.2.2.2.1) by
    show (cfg2.win 15).cut (grid2.coords t) ((dat2 V c).after 15 t) = _
    rw [after2_15]] at h
  generalize (outsAt2 V c t.val t.isLt).2.2.2.2.2.2.1 = o at h ⊢
  refine (at2 ((dat2 V c).arrAt 15 cfg2.N : Vec F S1x1024 .f32) ?_ ?_).symm.trans h
  · exact all_at (idx2 t).2.2.2.2.2.2.2.2.2.2.2.2.2.2.2.1.1 z
  · exact all_at (idx2 t).2.2.2.2.2.2.2.2.2.2.2.2.2.2.2.1.2 l

theorem final2_16 (c : Dev nD) (t : Fin cfg2.N) (ht : t.val = 15) (z : Fin 1) (l : Fin 2048) :
    ((dat2 V c).arrAt 16 cfg2.N : Vec F S1x2048 .f32) (ix2 z l) = (outsAt2 V c t.val t.isLt).2.2.2.2.2.2.2 (ix2 z l) := by
  have h := (dat2 V c).arrAt_emb_eq_flushed 16 (fun t t' h h' hne => absurd (Fin.ext (by
    have hN : cfg2.N = 16 := N_2
    have h1 := (flush2_16 t).mp h
    have h2 := (flush2_16 t').mp h'
    omega)) hne) t ((flush2_16 t).mpr (by omega)) (ix2 z l)
  rw [show (dat2 V c).flushed 16 t = (cfg2.win 16).cut (grid2.coords t) ((outsAt2 V c t.val t.isLt).2.2.2.2.2.2.2) by
    show (cfg2.win 16).cut (grid2.coords t) ((dat2 V c).after 16 t) = _
    rw [after2_16]] at h
  generalize (outsAt2 V c t.val t.isLt).2.2.2.2.2.2.2 = o at h ⊢
  refine (at2 ((dat2 V c).arrAt 16 cfg2.N : Vec F S1x2048 .f32) ?_ ?_).symm.trans h
  · exact all_at (idx2 t).2.2.2.2.2.2.2.2.2.2.2.2.2.2.2.2.1 z
  · exact all_at (idx2 t).2.2.2.2.2.2.2.2.2.2.2.2.2.2.2.2.2 l

end Cert.MergeIdeal.Result

end
-- ==== Proof.MergeTile.lean ====
/-
  The gates, the merge of the two attentions and the merge's gradient on one tile of rows, over the extended reals:
  each result's elements from what the windows hold.
-/
module

public import Idealize.ShloMosaic.Lib.Pipeline.ReadBack
public import proofs.«01_k».proof.Proof.MergeBlock
public import proofs.«01_k».proof.Proof.Norm

@[expose] public section

set_option maxRecDepth 16384

noncomputable section

namespace Cert.MergeIdeal.Result

open Cert.MergeIdeal Cert.MergeIdeal.Gen Cert.Rows Cert.Tiles Cert.Norm Idealize.ShloMosaic Idealize.ShloMosaic.TcCoe Idealize.SL.Sem
open Idealize.ShloMosaic.Pointwise

/-- A row of a tile, and the gain's row. -/
abbrev tr {a : ℕ} (x : Vec Ideal ⟨2, ![a, 1024]⟩ .f32) (j : Fin a) : Fin 1024 → EReal := fun l => x (ix2 j l)

/-- The columns of the two halves of the gates. -/
def lo (l : Fin 1024) : Fin 2048 := ⟨0 + l, by omega⟩
def hi (l : Fin 1024) : Fin 2048 := ⟨1024 + l, by omega⟩

/-- The logistic function. -/
def sg (z : EReal) : EReal := Ideal.div 1 (1 + Ideal.exp (-z))

variable (x : Vec Ideal S512x1024 .f32) (g : Vec Ideal S1x1024 .f32) (j : Fin 512)

theorem pay_u (l : Fin 1024) : k0_pay3 (F := Ideal) x g (ix2 j l) = normed (1 / 1024) (tr x j) (tr g 0) l := by
  pointwise [k0_pay3, ofBits_inv1024, ofBits_eps, rstd, normed]

/-- A column of the gates. -/
theorem pay_gate (u : Vec Ideal S512x1024 .bf16) (w : Vec Ideal S1024x512 .bf16) (b : Vec Ideal S1x512 .f32) (k : Fin 512) :
    k0_pay7 (F := Ideal) u w b (ix2 j k) = sg ((∑ l : Fin 1024, u (ix2 j l) * w (ix2 l k)) + b (ix2 0 k)) := by
  pointwise [k0_pay7, ofBits_one, sg, EReal.coe_one, zero_sub]

/-- The other three quarters of the columns are computed alike. -/
theorem pay_gate1 : k0_pay8 (F := Ideal) = k0_pay7 := rfl
theorem pay_gate2 (u : Vec Ideal S512x1024 .bf16) (w : Vec Ideal S1024x512 .bf16) (b : Vec Ideal S1x512 .f32) :
    k0_pay1 (F := Ideal) (k0_pay9 u w) b = k0_pay7 u w b := rfl
theorem pay_gate3 : k0_pay2 (F := Ideal) = k0_pay7 := rfl

/-- The first call's results on a tile. -/
theorem out_u (w1 : Vec Ideal S1024x2304 .bf16) (w : Vec Ideal S1024x2048 .bf16) (b : Vec Ideal S1x2048 .f32) (l : Fin 1024) :
    out0_5 (F := Ideal) x g w1 w b (ix2 j l) = normed (1 / 1024) (tr x j) (tr g 0) l := by
  unfold out0_5
  rw [View.canon_unit_zero hz, ld_all, ld_all]
  exact pay_u x g j l

/-- The gates of a tile. -/
def tile_gate (w : Vec Ideal S1024x2048 .bf16) (b : Vec Ideal S1x2048 .f32) (j : Fin 512) (k : Fin 2048) : EReal :=
  sg ((∑ l : Fin 1024, normed (1 / 1024) (tr x j) (tr g 0) l * w (ix2 l k)) + b (ix2 0 k))

theorem out_gate (w1 : Vec Ideal S1024x2304 .bf16) (w : Vec Ideal S1024x2048 .bf16) (b : Vec Ideal S1x2048 .f32) (k : Fin 2048) :
    out0_7 (F := Ideal) x g w1 w b (ix2 j k) = tile_gate x g w b j k := by
  have hp : ∀ (off : ℕ) (hin) (hin') (hb : off + 512 ≤ 2048) (j : Fin 512) (k : Fin 512),
      k0_pay7 (F := Ideal) (k0_pay3 x g) (View.ld w (Rect.unit (s := S1024x2048) ![0, off] S1024x512.size hin)) (View.ld b (Rect.unit (s := S1x2048) ![0, off] S1x512.size hin')) (ix2 j k)
        = tile_gate x g w b j (⟨off + k, by omega⟩ : Fin 2048) :=
    fun off hin hin' hb j k => (pay_gate j _ _ _ k).trans (congrArg sg (congrArg₂ (· + ·)
      (Finset.sum_congr rfl fun l _ => congrArg₂ (· * ·) (pay_u x g j l) (ld_cols w hin l k (by omega))) (ld_cols b hin' 0 k (by omega))))
  unfold out0_7 k0_pay10
  rw [ld_all x, ld_all g, pay_gate1, pay_gate2, pay_gate3]
  refine View.canon_apply_of_pieces (Val := Elt Ideal) (e := .bf16) (fun y : S512x2048.Idx => tile_gate x g w b (y 0) (y 1)) _ ?_
    (ix2 j k) (cover0_7 _ _ _ _ _)
  refine List.forall_mem_cons.mpr ⟨?_, List.forall_mem_cons.mpr ⟨?_, List.forall_mem_cons.mpr ⟨?_, List.forall_mem_cons.mpr
    ⟨?_, fun _ h => absurd h List.not_mem_nil⟩⟩⟩⟩
  · exact piece_cols (a := 512) (b := 2048) (n := 512) (off := 1536) (tile_gate x g w b) _ (by decide) (by norm_num) (hp 1536 _ _ (by norm_num))
  · exact piece_cols (a := 512) (b := 2048) (n := 512) (off := 1024) (tile_gate x g w b) _ (by decide) (by norm_num) (hp 1024 _ _ (by norm_num))
  · exact piece_cols (a := 512) (b := 2048) (n := 512) (off := 512) (tile_gate x g w b) _ (by decide) (by norm_num) (hp 512 _ _ (by norm_num))
  · exact piece_cols (a := 512) (b := 2048) (n := 512) (off := 0) (tile_gate x g w b) _ (by decide) (by norm_num) (hp 0 _ _ (by norm_num))

section
variable (ya yb : Vec Ideal S512x1024 .bf16) (s : Vec Ideal S512x2048 .bf16) (wa wb wo : Vec Ideal S1024x1024 .bf16)

/-- The rows of the two attentions' outputs times their weights, and the gated sum. -/
def row_p (y : Vec Ideal S512x1024 .bf16) (w : Vec Ideal S1024x1024 .bf16) (j : Fin 512) (l : Fin 1024) : EReal :=
  ∑ p : Fin 1024, y (ix2 j p) * w (ix2 p l)
def row_mg (j : Fin 512) (l : Fin 1024) : EReal := s (ix2 j (lo l)) * row_p ya wa j l + s (ix2 j (hi l)) * row_p yb wb j l
def row_m (j : Fin 512) (l : Fin 1024) : EReal := ∑ k : Fin 1024, row_mg ya yb s wa wb j k * wo (ix2 k l)

theorem pay_p (l : Fin 1024) : k1_pay2 (F := Ideal) ya wa (ix2 j l) = row_p ya wa j l := by
  pointwise [k1_pay2, row_p]

theorem pay_p' : k1_pay3 (F := Ideal) = k1_pay2 := rfl

theorem pay_mg (p q : Vec Ideal S512x1024 .bf16) (l : Fin 1024) : k1_pay6 (F := Ideal) ya wa yb wb p q (ix2 j l)
    = p (ix2 j l) * row_p ya wa j l + q (ix2 j l) * row_p yb wb j l := by
  pointwise [k1_pay6, pay_p', pay_p]

theorem pay_m (p q : Vec Ideal S512x1024 .bf16) (l : Fin 1024) : k1_pay7 (F := Ideal) ya wa yb wb p q wo (ix2 j l)
    = ∑ k : Fin 1024, (p (ix2 j k) * row_p ya wa j k + q (ix2 j k) * row_p yb wb j k) * wo (ix2 k l) := by
  pointwise [k1_pay7, pay_mg]

theorem pay_x1 (f : Vec Ideal S512x1024 .f32) (l : Fin 1024) : k1_pay1 (F := Ideal) f x g (ix2 j l)
    = x (ix2 j l) + normed (1 / 1024) (tr f j) (tr g 0) l := by
  pointwise [k1_pay1, ofBits_inv1024, ofBits_eps, rstd, normed]

/-- The second call's results on a tile. -/
theorem out_pa (l : Fin 1024) : out1_8 (F := Ideal) ya yb s wa wb wo x g (ix2 j l) = row_p ya wa j l := by
  unfold out1_8
  rw [View.canon_unit_zero hz, ld_all, ld_all]
  exact pay_p j ya wa l

theorem out_pb (l : Fin 1024) : out1_9 (F := Ideal) ya yb s wa wb wo x g (ix2 j l) = row_p yb wb j l := by
  unfold out1_9
  rw [View.canon_unit_zero hz, ld_all, ld_all]
  exact pay_p j yb wb l

/-- The halves of the gates as loaded. -/
theorem ld_lo (hin) (l : Fin 1024) : View.ld s (Rect.unit (s := S512x2048) ![0, 0] S512x1024.size hin) (ix2 j l) = s (ix2 j (lo l)) :=
  ld_cols s hin j l _
theorem ld_hi (hin) (l : Fin 1024) : View.ld s (Rect.unit (s := S512x2048) ![0, 1024] S512x1024.size hin) (ix2 j l) = s (ix2 j (hi l)) :=
  ld_cols s hin j l _

theorem out_mg (l : Fin 1024) : out1_10 (F := Ideal) ya yb s wa wb wo x g (ix2 j l) = row_mg ya yb s wa wb j l := by
  unfold out1_10
  rw [View.canon_unit_zero hz, ld_all, ld_all, ld_all, ld_all, pay_mg, ld_lo, ld_hi]
  rfl

theorem tile_m (l : Fin 1024) (h0) (h1) : k1_pay7 (F := Ideal) ya wa yb wb (View.ld s (Rect.unit (s := S512x2048) ![0, 0] S512x1024.size h0))
    (View.ld s (Rect.unit (s := S512x2048) ![0, 1024] S512x1024.size h1)) wo (ix2 j l) = row_m ya yb s wa wb wo j l := by
  rw [pay_m]
  exact Finset.sum_congr rfl fun k _ => congrArg (· * wo (ix2 k l))
    (congrArg₂ (fun p q => p * row_p ya wa j k + q * row_p yb wb j k) (ld_lo j s h0 k) (ld_hi j s h1 k))

theorem out_m (l : Fin 1024) : out1_11 (F := Ideal) ya yb s wa wb wo x g (ix2 j l) = row_m ya yb s wa wb wo j l := by
  unfold out1_11
  rw [View.canon_unit_zero hz, ld_all, ld_all, ld_all, ld_all, ld_all]
  exact tile_m j ya yb s wa wb wo l _ _

theorem out_x1 (l : Fin 1024) : out1_12 (F := Ideal) ya yb s wa wb wo x g (ix2 j l)
    = x (ix2 j l) + normed (1 / 1024) (row_m ya yb s wa wb wo j) (tr g 0) l := by
  unfold out1_12
  rw [View.canon_unit_zero hz, ld_all, ld_all, ld_all, ld_all, ld_all, ld_all, ld_all, pay_x1]
  exact congrArg (fun q => x (ix2 j l) + normed (1 / 1024) q (tr g 0) l) (funext fun l => tile_m j ya yb s wa wb wo l _ _)

/-- The third call on a tile. The gradient at the merge's product, from the norm's gradient; -/
theorem pay_dm (d : Vec Ideal S512x1024 .f32) (l : Fin 1024) : k2_pay11 (F := Ideal) x g d (ix2 j l)
    = back (1 / 1024) (tr x j) (fun l => d (ix2 j l) * g (ix2 0 l)) l := by
  pointwise [k2_pay11, k2_pay6, k2_pay7, k2_pay8, ofBits_inv1024, ofBits_eps, rstd, back]

/-- the part of the gain's gradient that a tile adds; -/
theorem pay_dg (d : Vec Ideal S512x1024 .f32) (acc : Vec Ideal S1x1024 .f32) (z : Fin 1) (l : Fin 1024) : k2_pay10 (F := Ideal) x d acc (ix2 z l)
    = acc (ix2 z l) + ∑ j : Fin 512, d (ix2 j l) * (x (ix2 j l) * rstd (1 / 1024) (tr x j)) := by
  pointwise [k2_pay10, k2_pay6, k2_pay7, k2_pay8, ofBits_inv1024, ofBits_eps, rstd, Fin.sum_univ_one]

variable (e p q : Vec Ideal S512x1024 .bf16)

/-- the gradient at the gated sum; -/
def row_t (e : Vec Ideal S512x1024 .bf16) (w : Vec Ideal S1024x1024 .bf16) (j : Fin 512) (l : Fin 1024) : EReal :=
  ∑ k : Fin 1024, e (ix2 j k) * w (ix2 l k)

theorem pay_dmg (l : Fin 1024) : k2_pay12 (F := Ideal) e wo (ix2 j l) = row_t e wo j l := by
  pointwise [k2_pay12, row_t]

/-- the gradients at the two attentions' products; -/
theorem pay_dp (l : Fin 1024) : k2_pay15 (F := Ideal) e wo p (ix2 j l) = row_t e wo j l * p (ix2 j l) := by
  pointwise [k2_pay15, k2_pay13, pay_dmg]
theorem pay_dp' : k2_pay16 (F := Ideal) = k2_pay15 := rfl

/-- the gradients at the gates' arguments; -/
theorem pay_dz (l : Fin 1024) : k2_pay17 (F := Ideal) e wo p q (ix2 j l)
    = row_t e wo j l * q (ix2 j l) * (p (ix2 j l) * (1 - p (ix2 j l))) := by
  pointwise [k2_pay17, k2_pay13, pay_dmg, ofBits_one, EReal.coe_one]
theorem pay_dz' : k2_pay18 (F := Ideal) = k2_pay17 := rfl
theorem pay_dz_cast : k2_pay19 (F := Ideal) e wo p q = k2_pay17 e wo p q := rfl
theorem pay_dz_cast' : k2_pay20 (F := Ideal) e wo p q = k2_pay17 e wo p q := rfl

/-- the part of the bias's gradient that a tile adds; -/
theorem pay_db (f : Vec Ideal S512x1024 .f32) (acc : Vec Ideal S1x1024 .f32) (z : Fin 1) (l : Fin 1024) : k2_pay2 (F := Ideal) f acc (ix2 z l)
    = acc (ix2 z l) + ∑ j : Fin 512, f (ix2 j l) := by
  pointwise [k2_pay2]
theorem pay_db' : k2_pay3 (F := Ideal) = k2_pay2 := rfl

/-- and the gradients at the two attentions' outputs. -/
theorem pay_dy (l : Fin 1024) : k2_pay4 (F := Ideal) e wa (ix2 j l) = row_t e wa j l := by
  pointwise [k2_pay4, row_t]
theorem pay_dy' : k2_pay5 (F := Ideal) = k2_pay4 := rfl

/-- The place of a column of a slice of columns. -/
theorem emb_cols {a b n o : ℕ} (hin) (j : Fin a) (l : Fin n) (hk : o + l.val < b) :
    (Rect.unit (s := ⟨2, ![a, b]⟩) ![0, o] ![a, n] hin).emb (ix2 j l) = ix2 j ⟨o + l, hk⟩ := by
  funext i
  refine Fin.ext ?_
  match i with
  | ⟨0, _⟩ => show 0 + 1 * j.val = j.val; omega
  | ⟨1, _⟩ => show o + 1 * l.val = o + l.val; omega

/-- An array that was written in two halves of its columns, read back at a column of either half. -/
theorem canon_hi {a : ℕ} {e : EltTy} (hin) (P : Vec Ideal ⟨2, ![a, 1024]⟩ e) (L : List (View.Piece (Elt Ideal) ⟨2, ![a, 2048]⟩ e)) (j : Fin a) (l : Fin 1024) :
    View.canon (⟨Rect.unit (s := ⟨2, ![a, 2048]⟩) ![0, 1024] ![a, 1024] hin, P⟩ :: L) (ix2 j (hi l)) = P (ix2 j l) :=
  (congrArg _ (emb_cols hin j l (hi l).isLt).symm).trans
    (View.canon_cons_emb (Rect.unit (s := ⟨2, ![a, 2048]⟩) ![0, 1024] ![a, 1024] hin) P L (ix2 j l))
theorem canon_lo {a : ℕ} {e : EltTy} (hin hin') (P Q : Vec Ideal ⟨2, ![a, 1024]⟩ e) (L : List (View.Piece (Elt Ideal) ⟨2, ![a, 2048]⟩ e)) (j : Fin a) (l : Fin 1024) :
    View.canon (⟨Rect.unit (s := ⟨2, ![a, 2048]⟩) ![0, 1024] ![a, 1024] hin, P⟩ :: ⟨Rect.unit (s := ⟨2, ![a, 2048]⟩) ![0, 0] ![a, 1024] hin', Q⟩ :: L)
      (ix2 j (lo l)) = Q (ix2 j l) := by
  refine (View.canon_cons_of_not_mem _ _ fun h => ?_).trans ((congrArg _ (emb_cols hin' j l (lo l).isLt).symm).trans
    (View.canon_cons_emb (Rect.unit (s := ⟨2, ![a, 2048]⟩) ![0, 0] ![a, 1024] hin') Q L (ix2 j l)))
  have h1 : 1024 ≤ 0 + l.val := ((Rect.mem_set_unit (inb := hin) (i := ix2 j (lo l))).mp h (1 : Fin 2)).1
  omega

section
variable (V : (c : Dev nD) → (b : Ref sig .tc) → Buf (Elt Ideal) ((c : Thread nD τ).loc b)) (c : Dev nD)

/-- The tiles that the third call's windows hold, the gradient at the merge's product from them, and the gates' halves as loaded. -/
abbrev tdm (t : Fin cfg2.N) : Vec Ideal S512x1024 .bf16 := k2_pay11 (iblk2 V c 0 t) (iblk2 V c 2 t) (iblk2 V c 1 t)
abbrev two (t : Fin cfg2.N) : Vec Ideal S1024x1024 .bf16 := iblk2 V c 3 t
abbrev tga (t : Fin cfg2.N) : Vec Ideal S512x1024 .bf16 := View.ld (iblk2 V c 4 t : Vec Ideal S512x2048 .bf16) (Rect.unit (s := S512x2048) ![0, 0] S512x1024.size inb_S512x2048_S512x1024_0_0)
abbrev tgb (t : Fin cfg2.N) : Vec Ideal S512x1024 .bf16 := View.ld (iblk2 V c 4 t : Vec Ideal S512x2048 .bf16) (Rect.unit (s := S512x2048) ![0, 1024] S512x1024.size inb_S512x2048_S512x1024_0_1024)

/-- What the third call leaves at a point. -/
theorem outs_dm (t : Fin cfg2.N) : (outsAt2 V c t.val t.isLt).1 = tdm V c t := by
  by_cases h : t.val % 16 = 0
  · rw [outsAt2_A V c t h h]
    dsimp only
    unfold out2_A_9
    rw [View.read_writes_eq_canon _ _ _ (fun _ => cover2_A_9 ..)]
    unfold kernelRun2_A
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
  · rw [outsAt2_B V c t h h]
    dsimp only
    unfold out2_B_9
    rw [View.read_writes_eq_canon _ _ _ (fun _ => cover2_B_9 ..)]
    unfold kernelRun2_B
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]

theorem outs_dpa (t : Fin cfg2.N) : (outsAt2 V c t.val t.isLt).2.1 = k2_pay15 (tdm V c t) (two V c t) (tga V c t) := by
  by_cases h : t.val % 16 = 0
  · rw [outsAt2_A V c t h h]
    dsimp only
    unfold out2_A_10
    rw [View.read_writes_eq_canon _ _ _ (fun _ => cover2_A_10 ..)]
    unfold kernelRun2_A
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    rfl
  · rw [outsAt2_B V c t h h]
    dsimp only
    unfold out2_B_10
    rw [View.read_writes_eq_canon _ _ _ (fun _ => cover2_B_10 ..)]
    unfold kernelRun2_B
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    rfl

theorem outs_dpb (t : Fin cfg2.N) : (outsAt2 V c t.val t.isLt).2.2.1 = k2_pay15 (tdm V c t) (two V c t) (tgb V c t) := by
  by_cases h : t.val % 16 = 0
  · rw [outsAt2_A V c t h h]
    dsimp only
    unfold out2_A_11
    rw [View.read_writes_eq_canon _ _ _ (fun _ => cover2_A_11 ..)]
    unfold kernelRun2_A
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    rfl
  · rw [outsAt2_B V c t h h]
    dsimp only
    unfold out2_B_11
    rw [View.read_writes_eq_canon _ _ _ (fun _ => cover2_B_11 ..)]
    unfold kernelRun2_B
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    rfl

theorem outs_dya (t : Fin cfg2.N) : (outsAt2 V c t.val t.isLt).2.2.2.2.1 = k2_pay4 (k2_pay15 (tdm V c t) (two V c t) (tga V c t)) (iblk2 V c 7 t) := by
  by_cases h : t.val % 16 = 0
  · rw [outsAt2_A V c t h h]
    dsimp only
    unfold out2_A_13
    rw [View.read_writes_eq_canon _ _ _ (fun _ => cover2_A_13 ..)]
    unfold kernelRun2_A
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    rfl
  · rw [outsAt2_B V c t h h]
    dsimp only
    unfold out2_B_13
    rw [View.read_writes_eq_canon _ _ _ (fun _ => cover2_B_13 ..)]
    unfold kernelRun2_B
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    rfl

theorem outs_dyb (t : Fin cfg2.N) : (outsAt2 V c t.val t.isLt).2.2.2.2.2.1 = k2_pay4 (k2_pay15 (tdm V c t) (two V c t) (tgb V c t)) (iblk2 V c 8 t) := by
  by_cases h : t.val % 16 = 0
  · rw [outsAt2_A V c t h h]
    dsimp only
    unfold out2_A_14
    rw [View.read_writes_eq_canon _ _ _ (fun _ => cover2_A_14 ..)]
    unfold kernelRun2_A
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    rfl
  · rw [outsAt2_B V c t h h]
    dsimp only
    unfold out2_B_14
    rw [View.read_writes_eq_canon _ _ _ (fun _ => cover2_B_14 ..)]
    unfold kernelRun2_B
    dsimp only
    sl_unfold_words
    rw [View.canon_unit_zero hz]
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    rfl

/-- The gradient at the gates' arguments, in the two halves of its columns; -/
theorem outs_dzg_lo (t : Fin cfg2.N) (j : Fin 512) (l : Fin 1024) : ((outsAt2 V c t.val t.isLt).2.2.2.1 : Vec Ideal S512x2048 .bf16) (ix2 j (lo l))
    = k2_pay17 (tdm V c t) (two V c t) (tga V c t) (iblk2 V c 5 t) (ix2 j l) := by
  by_cases h : t.val % 16 = 0
  · rw [outsAt2_A V c t h h]
    dsimp only
    unfold out2_A_12
    rw [View.read_writes_eq_canon _ _ _ (fun _ => cover2_A_12 ..)]
    unfold kernelRun2_A
    dsimp only
    sl_unfold_words
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    exact canon_lo _ _ _ _ _ j l
  · rw [outsAt2_B V c t h h]
    dsimp only
    unfold out2_B_12
    rw [View.read_writes_eq_canon _ _ _ (fun _ => cover2_B_12 ..)]
    unfold kernelRun2_B
    dsimp only
    sl_unfold_words
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    exact canon_lo _ _ _ _ _ j l
theorem outs_dzg_hi (t : Fin cfg2.N) (j : Fin 512) (l : Fin 1024) : ((outsAt2 V c t.val t.isLt).2.2.2.1 : Vec Ideal S512x2048 .bf16) (ix2 j (hi l))
    = k2_pay17 (tdm V c t) (two V c t) (tgb V c t) (iblk2 V c 6 t) (ix2 j l) := by
  by_cases h : t.val % 16 = 0
  · rw [outsAt2_A V c t h h]
    dsimp only
    unfold out2_A_12
    rw [View.read_writes_eq_canon _ _ _ (fun _ => cover2_A_12 ..)]
    unfold kernelRun2_A
    dsimp only
    sl_unfold_words
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    exact canon_hi _ _ _ j l
  · rw [outsAt2_B V c t h h]
    dsimp only
    unfold out2_B_12
    rw [View.read_writes_eq_canon _ _ _ (fun _ => cover2_B_12 ..)]
    unfold kernelRun2_B
    dsimp only
    sl_unfold_words
    simp only [View.readAt_eq_ld, (hs2_0 t).read_unread, (hs2_1 t).read_unread, (hs2_2 t).read_unread, (hs2_3 t).read_unread, (hs2_4 t).read_unread, (hs2_5 t).read_unread, (hs2_6 t).read_unread, (hs2_7 t).read_unread, (hs2_8 t).read_unread, ld_all]
    exact canon_hi _ _ _ j l

/-- the gain's gradient: after the first point the first tile's part over zeros, -/
theorem outs_dg_zero (h : 0 < cfg2.N) : (outsAt2 V c 0 h).2.2.2.2.2.2.1 = k2_pay10 (iblk2 V c 0 ⟨0, h⟩) (iblk2 V c 1 ⟨0, h⟩) (k2_pay9 (F := Ideal)) := by
  refine (congrArg (fun q => q.2.2.2.2.2.2.1) (outsAt2_A V c ⟨0, h⟩ (Nat.zero_mod _) (Nat.zero_mod _))).trans ?_
  dsimp only
  unfold out2_A_15
  rw [View.read_writes_eq_canon _ _ _ (fun _ => cover2_A_15 ..)]
  unfold kernelRun2_A
  dsimp only
  sl_unfold_words
  rw [View.canon_cons_unit_zero hz, View.readCov_unit_zero _ hz]
  simp only [View.readAt_eq_ld, (hs2_0 _).read_unread, (hs2_1 _).read_unread, ld_all]

/-- and after a later point that tile's part over what was there; -/
theorem outs_dg_succ (n : ℕ) (h : n + 1 < cfg2.N) : (outsAt2 V c (n + 1) h).2.2.2.2.2.2.1
    = k2_pay10 (iblk2 V c 0 ⟨n + 1, h⟩) (iblk2 V c 1 ⟨n + 1, h⟩) (outsAt2 V c n (Nat.lt_of_succ_lt h)).2.2.2.2.2.2.1 := by
  have hN : cfg2.N = 16 := N_2
  have hB : ¬(⟨n + 1, h⟩ : Fin cfg2.N).val % 16 = 0 := by dsimp only; omega
  refine (congrArg (fun q => q.2.2.2.2.2.2.1) (outsAt2_B V c ⟨n + 1, h⟩ hB hB)).trans ?_
  dsimp only
  unfold out2_B_15
  rw [View.read_writes_eq_canon _ _ _ (fun _ => cover2_B_15 ..)]
  unfold kernelRun2_B
  dsimp only
  sl_unfold_words
  rw [View.canon_unit_zero hz]
  simp only [View.readAt_eq_ld, (hs2_0 _).read_unread, (hs2_1 _).read_unread, (hs2_15 _).read_unread, ld_all]
  rfl

/-- and the bias's gradient, in its two halves, likewise. -/
theorem ld_zero (r : Rect S1x2048) : View.ld (Val := Elt Ideal) (e' := .f32) (k2_pay1 (F := Ideal)) r = fun _ => (0 : EReal) := funext fun i => by
  show k2_pay1 (F := Ideal) (r.emb i) = 0
  pointwise [k2_pay1]
theorem outs_db_zero_lo (h : 0 < cfg2.N) (z : Fin 1) (l : Fin 1024) : ((outsAt2 V c 0 h).2.2.2.2.2.2.2 : Vec Ideal S1x2048 .f32) (ix2 z (lo l))
    = k2_pay2 (k2_pay17 (tdm V c ⟨0, h⟩) (two V c ⟨0, h⟩) (tga V c ⟨0, h⟩) (iblk2 V c 5 ⟨0, h⟩)) (fun _ => 0) (ix2 z l) := by
  rw [congrArg (fun q => q.2.2.2.2.2.2.2) (outsAt2_A V c ⟨0, h⟩ (Nat.zero_mod _) (Nat.zero_mod _))]
  dsimp only
  unfold out2_A_16
  rw [View.read_writes_eq_canon _ _ _ (fun _ => cover2_A_16 ..)]
  unfold kernelRun2_A
  dsimp only
  sl_unfold_words
  simp only [View.readAt_eq_ld, (hs2_0 _).read_unread, (hs2_1 _).read_unread, (hs2_2 _).read_unread, (hs2_3 _).read_unread, (hs2_4 _).read_unread, (hs2_5 _).read_unread, (hs2_6 _).read_unread, (hs2_7 _).read_unread, (hs2_8 _).read_unread, ld_all]
  refine (canon_lo _ _ _ _ _ z l).trans (congrFun (congrArg (k2_pay2 _) ?_) _)
  exact (View.readCov_fill _ _ _ _ _ (by decide)).trans (ld_zero _)
theorem outs_db_zero_hi (h : 0 < cfg2.N) (z : Fin 1) (l : Fin 1024) : ((outsAt2 V c 0 h).2.2.2.2.2.2.2 : Vec Ideal S1x2048 .f32) (ix2 z (hi l))
    = k2_pay2 (k2_pay17 (tdm V c ⟨0, h⟩) (two V c ⟨0, h⟩) (tgb V c ⟨0, h⟩) (iblk2 V c 6 ⟨0, h⟩)) (fun _ => 0) (ix2 z l) := by
  rw [congrArg (fun q => q.2.2.2.2.2.2.2) (outsAt2_A V c ⟨0, h⟩ (Nat.zero_mod _) (Nat.zero_mod _))]
  dsimp only
  unfold out2_A_16
  rw [View.read_writes_eq_canon _ _ _ (fun _ => cover2_A_16 ..)]
  unfold kernelRun2_A
  dsimp only
  sl_unfold_words
  simp only [View.readAt_eq_ld, (hs2_0 _).read_unread, (hs2_1 _).read_unread, (hs2_2 _).read_unread, (hs2_3 _).read_unread, (hs2_4 _).read_unread, (hs2_5 _).read_unread, (hs2_6 _).read_unread, (hs2_7 _).read_unread, (hs2_8 _).read_unread, ld_all]
  refine (canon_hi _ _ _ z l).trans (congrFun (congrArg (k2_pay3 _) ?_) _)
  exact (View.readCov_skip _ _ _ _ _ (by decide)).trans ((View.readCov_fill _ _ _ _ _ (by decide)).trans (ld_zero _))
theorem outs_db_succ_lo (n : ℕ) (h : n + 1 < cfg2.N) (z : Fin 1) (l : Fin 1024) : ((outsAt2 V c (n + 1) h).2.2.2.2.2.2.2 : Vec Ideal S1x2048 .f32) (ix2 z (lo l))
    = ((outsAt2 V c n (Nat.lt_of_succ_lt h)).2.2.2.2.2.2.2 : Vec Ideal S1x2048 .f32) (ix2 z (lo l))
      + ∑ j : Fin 512, k2_pay17 (tdm V c ⟨n + 1, h⟩) (two V c ⟨n + 1, h⟩) (tga V c ⟨n + 1, h⟩) (iblk2 V c 5 ⟨n + 1, h⟩) (ix2 j l) := by
  have hN : cfg2.N = 16 := N_2
  have hB : ¬(⟨n + 1, h⟩ : Fin cfg2.N).val % 16 = 0 := by dsimp only; omega
  rw [congrArg (fun q => q.2.2.2.2.2.2.2) (outsAt2_B V c ⟨n + 1, h⟩ hB hB)]
  dsimp only
  unfold out2_B_16
  rw [View.read_writes_eq_canon _ _ _ (fun _ => cover2_B_16 ..)]
  unfold kernelRun2_B
  dsimp only
  sl_unfold_words
  simp only [View.readAt_eq_ld, (hs2_0 _).read_unread, (hs2_1 _).read_unread, (hs2_2 _).read_unread, (hs2_3 _).read_unread, (hs2_4 _).read_unread, (hs2_5 _).read_unread, (hs2_6 _).read_unread, (hs2_7 _).read_unread, (hs2_8 _).read_unread, (hs2_16 _).read_unread, ld_all]
  refine (canon_lo _ _ _ _ _ z l).trans ((pay_db _ _ z l).trans (congrArg (· + _) ?_))
  exact ld_cols _ _ z l _
theorem outs_db_succ_hi (n : ℕ) (h : n + 1 < cfg2.N) (z : Fin 1) (l : Fin 1024) : ((outsAt2 V c (n + 1) h).2.2.2.2.2.2.2 : Vec Ideal S1x2048 .f32) (ix2 z (hi l))
    = ((outsAt2 V c n (Nat.lt_of_succ_lt h)).2.2.2.2.2.2.2 : Vec Ideal S1x2048 .f32) (ix2 z (hi l))
      + ∑ j : Fin 512, k2_pay17 (tdm V c ⟨n + 1, h⟩) (two V c ⟨n + 1, h⟩) (tgb V c ⟨n + 1, h⟩) (iblk2 V c 6 ⟨n + 1, h⟩) (ix2 j l) := by
  have hN : cfg2.N = 16 := N_2
  have hB : ¬(⟨n + 1, h⟩ : Fin cfg2.N).val % 16 = 0 := by dsimp only; omega
  rw [congrArg (fun q => q.2.2.2.2.2.2.2) (outsAt2_B V c ⟨n + 1, h⟩ hB hB)]
  dsimp only
  unfold out2_B_16
  rw [View.read_writes_eq_canon _ _ _ (fun _ => cover2_B_16 ..)]
  unfold kernelRun2_B
  dsimp only
  sl_unfold_words
  simp only [View.readAt_eq_ld, (hs2_0 _).read_unread, (hs2_1 _).read_unread, (hs2_2 _).read_unread, (hs2_3 _).read_unread, (hs2_4 _).read_unread, (hs2_5 _).read_unread, (hs2_6 _).read_unread, (hs2_7 _).read_unread, (hs2_8 _).read_unread, (hs2_16 _).read_unread, ld_all]
  refine (canon_hi _ _ _ z l).trans ((pay_db _ _ z l).trans (congrArg (· + _) ?_))
  exact ld_cols _ _ z l _

end

end

end Cert.MergeIdeal.Result

end
-- ==== Proof.MergeValue.lean ====
/-
  The merge of the two attentions' outputs by their gates, with its gradients, over the extended reals: what each of the
  three calls leaves, from what the arrays that it reads hold.
-/
module

public import proofs.«01_k».proof.Proof.MergeTile

@[expose] public section

set_option maxRecDepth 16384

noncomputable section

namespace Cert.MergeIdeal.Result

open Cert.MergeIdeal Cert.MergeIdeal.Gen Cert.Rows Cert.Tiles Cert.Norm Idealize.ShloMosaic Idealize.ShloMosaic.TcCoe Idealize.SL.Sem
open Idealize.ShloMosaic.Pointwise Idealize.ShloMosaic.StableHlo

/-- The point whose tile holds a row. -/
abbrev tile (N : ℕ) (hN : N = 16) (r : Fin 8192) : Fin N := ⟨r / 512, by rw [hN]; have := r.isLt; omega⟩

variable (V : (c : Dev nD) → (b : Ref sig .tc) → Buf (Elt Ideal) ((c : Thread nD τ).loc b)) (c : Dev nD)

/-! The first call's arrays. -/
section
variable {x : Fin 8192 → Fin 1024 → EReal} {g : Fin 1024 → EReal} {w : Fin 1024 → Fin 2048 → EReal} {b : Fin 2048 → EReal}
  (hx : ∀ r l, (V c main_arg0 : Vec Ideal S8192x1024 .f32) (ix2 r l) = x r l)
  (hg : ∀ l, (V c main_v26 : Vec Ideal S1x1024 .f32) (ix2 0 l) = g l)
include hx hg

theorem call_u (r : Fin 8192) (l : Fin 1024) : ((dat0 V c).arrAt 5 cfg0.N : Vec Ideal S8192x1024 .bf16) (ix2 r l) = normed (1 / 1024) (x r) g l := by
  have h := final0_5 V c (tile _ N_0 r) (place r) l
  rw [out_u, show tr (iblk0 V c 0 (tile _ N_0 r)) (place r) = x (row (tile _ N_0 r) (place r)) from funext fun l => (blk0_0 V c _ _ l).trans (hx _ l),
    show tr (iblk0 V c 1 (tile _ N_0 r)) 0 = g from funext fun l => (congrFun (blk0_1 V c _) (ix2 0 l)).trans (hg l), row_place] at h
  exact h

theorem call_gate (hw : ∀ l k, (V c main_v28 : Vec Ideal S1024x2048 .bf16) (ix2 l k) = w l k)
    (hb : ∀ k, (V c main_v29 : Vec Ideal S1x2048 .f32) (ix2 0 k) = b k) (r : Fin 8192) (k : Fin 2048) :
    ((dat0 V c).arrAt 7 cfg0.N : Vec Ideal S8192x2048 .bf16) (ix2 r k)
      = sg ((∑ l : Fin 1024, normed (1 / 1024) (x r) g l * w l k) + b k) := by
  have h := final0_7 V c (tile _ N_0 r) (place r) k
  rw [out_gate] at h
  unfold tile_gate at h
  rw [show tr (iblk0 V c 0 (tile _ N_0 r)) (place r) = x (row (tile _ N_0 r) (place r)) from funext fun l => (blk0_0 V c _ _ l).trans (hx _ l),
    show tr (iblk0 V c 1 (tile _ N_0 r)) 0 = g from funext fun l => (congrFun (blk0_1 V c _) (ix2 0 l)).trans (hg l)] at h
  simp only [blk0_3, blk0_4, hw, hb, row_place] at h
  exact h
end

/-- The padded arrays that the host prepares: the attentions' outputs and their weights. -/
abbrev pad34 (r : Fin 8192) (p : Fin 1024) : EReal := (V c main_v34 : Vec Ideal S8192x1024 .bf16) (ix2 r p)
abbrev pad38 (r : Fin 8192) (p : Fin 1024) : EReal := (V c main_v38 : Vec Ideal S8192x1024 .bf16) (ix2 r p)
abbrev pad42 (p l : Fin 1024) : EReal := (V c main_v42 : Vec Ideal S1024x1024 .bf16) (ix2 p l)
abbrev pad46 (p l : Fin 1024) : EReal := (V c main_v46 : Vec Ideal S1024x1024 .bf16) (ix2 p l)

/-! The second call's arrays. -/
section
variable {pa pb : Fin 8192 → Fin 1024 → EReal} {s : Fin 8192 → Fin 2048 → EReal} {O : Fin 1024 → Fin 1024 → EReal}
  {x : Fin 8192 → Fin 1024 → EReal} {g : Fin 1024 → EReal}

/-- The gated sum of two rows. -/
def gated (pa pb : Fin 8192 → Fin 1024 → EReal) (s : Fin 8192 → Fin 2048 → EReal) (r : Fin 8192) (l : Fin 1024) : EReal :=
  s r (lo l) * pa r l + s r (hi l) * pb r l
/-- Rows times a weight. -/
def times (A : Fin 8192 → Fin 1024 → EReal) (O : Fin 1024 → Fin 1024 → EReal) (r : Fin 8192) (l : Fin 1024) : EReal := ∑ k : Fin 1024, A r k * O k l

section
variable (hpa : ∀ r l, ∑ p : Fin 1024, pad34 V c r p * pad42 V c p l = pa r l)
include hpa
theorem tile_pa (t : Fin cfg1.N) (j : Fin 512) (l : Fin 1024) : row_p (iblk1 V c 0 t) (iblk1 V c 3 t) j l = pa (row t j) l := by
  unfold row_p
  simp only [blk1_0, blk1_3]
  exact hpa _ l

theorem call_pa (r : Fin 8192) (l : Fin 1024) : ((dat1 V c).arrAt 8 cfg1.N : Vec Ideal S8192x1024 .bf16) (ix2 r l) = pa r l := by
  have h := final1_8 V c (tile _ N_1 r) (place r) l
  rw [out_pa, tile_pa V c hpa, row_place] at h
  exact h
end

section
variable (hpb : ∀ r l, ∑ p : Fin 1024, pad38 V c r p * pad46 V c p l = pb r l)
include hpb
theorem tile_pb (t : Fin cfg1.N) (j : Fin 512) (l : Fin 1024) : row_p (iblk1 V c 1 t) (iblk1 V c 4 t) j l = pb (row t j) l := by
  unfold row_p
  simp only [blk1_1, blk1_4]
  exact hpb _ l

theorem call_pb (r : Fin 8192) (l : Fin 1024) : ((dat1 V c).arrAt 9 cfg1.N : Vec Ideal S8192x1024 .bf16) (ix2 r l) = pb r l := by
  have h := final1_9 V c (tile _ N_1 r) (place r) l
  rw [out_pb, tile_pb V c hpb, row_place] at h
  exact h

section
variable (hpa : ∀ r l, ∑ p : Fin 1024, pad34 V c r p * pad42 V c p l = pa r l)
  (hs : ∀ r k, (V c main_v30_2 : Vec Ideal S8192x2048 .bf16) (ix2 r k) = s r k)
include hpa hs
theorem tile_mg (t : Fin cfg1.N) (j : Fin 512) (l : Fin 1024) :
    row_mg (iblk1 V c 0 t) (iblk1 V c 1 t) (iblk1 V c 2 t) (iblk1 V c 3 t) (iblk1 V c 4 t) j l = gated pa pb s (row t j) l := by
  unfold row_mg gated
  rw [tile_pa V c hpa, tile_pb V c hpb, blk1_2, blk1_2, hs, hs]

theorem call_mg (r : Fin 8192) (l : Fin 1024) : ((dat1 V c).arrAt 10 cfg1.N : Vec Ideal S8192x1024 .bf16) (ix2 r l) = gated pa pb s r l := by
  have h := final1_10 V c (tile _ N_1 r) (place r) l
  rw [out_mg, tile_mg V c hpb hpa hs, row_place] at h
  exact h

variable (hO : ∀ k l, (V c main_v47 : Vec Ideal S1024x1024 .bf16) (ix2 k l) = O k l)
include hO
theorem tile_times (t : Fin cfg1.N) (j : Fin 512) (l : Fin 1024) :
    row_m (iblk1 V c 0 t) (iblk1 V c 1 t) (iblk1 V c 2 t) (iblk1 V c 3 t) (iblk1 V c 4 t) (iblk1 V c 5 t) j l = times (gated pa pb s) O (row t j) l := by
  unfold row_m times
  simp only [tile_mg V c hpb hpa hs, blk1_5, hO]

theorem call_m (r : Fin 8192) (l : Fin 1024) : ((dat1 V c).arrAt 11 cfg1.N : Vec Ideal S8192x1024 .f32) (ix2 r l) = times (gated pa pb s) O r l := by
  have h := final1_11 V c (tile _ N_1 r) (place r) l
  rw [out_m, tile_times V c hpb hpa hs hO, row_place] at h
  exact h

theorem call_x1 (hx : ∀ r l, (V c main_arg0 : Vec Ideal S8192x1024 .f32) (ix2 r l) = x r l)
    (hg : ∀ l, (V c main_v48 : Vec Ideal S1x1024 .f32) (ix2 0 l) = g l) (r : Fin 8192) (l : Fin 1024) :
    ((dat1 V c).arrAt 12 cfg1.N : Vec Ideal S8192x1024 .f32) (ix2 r l) = x r l + normed (1 / 1024) (times (gated pa pb s) O r) g l := by
  have h := final1_12 V c (tile _ N_1 r) (place r) l
  rw [out_x1, show row_m (iblk1 V c 0 (tile _ N_1 r)) (iblk1 V c 1 (tile _ N_1 r)) (iblk1 V c 2 (tile _ N_1 r)) (iblk1 V c 3 (tile _ N_1 r))
      (iblk1 V c 4 (tile _ N_1 r)) (iblk1 V c 5 (tile _ N_1 r)) (place r) = times (gated pa pb s) O (row (tile _ N_1 r) (place r)) from
      funext fun l => tile_times V c hpb hpa hs hO _ _ l,
    show tr (iblk1 V c 7 (tile _ N_1 r)) 0 = g from funext fun l => (congrFun (blk1_7 V c _) (ix2 0 l)).trans (hg l), blk1_6, hx, row_place] at h
  exact h
end
end
end

/-! The third call's arrays. -/
section
variable {f y : Fin 8192 → Fin 1024 → EReal} {γ : Fin 1024 → EReal} {O : Fin 1024 → Fin 1024 → EReal} {s : Fin 8192 → Fin 2048 → EReal}
  {pa pb : Fin 8192 → Fin 1024 → EReal}

/-- The gradient at the rows that the norm took, -/
def dnorm (f y : Fin 8192 → Fin 1024 → EReal) (γ : Fin 1024 → EReal) (r : Fin 8192) : Fin 1024 → EReal :=
  back (1 / 1024) (f r) (fun l => y r l * γ l)
/-- rows times a weight's transpose, -/
def timesT (A : Fin 8192 → Fin 1024 → EReal) (O : Fin 1024 → Fin 1024 → EReal) (r : Fin 8192) (l : Fin 1024) : EReal := ∑ k : Fin 1024, A r k * O l k
/-- and the gradient at a gate's argument. -/
def dgate (d p : Fin 8192 → Fin 1024 → EReal) (s : Fin 8192 → Fin 1024 → EReal) (r : Fin 8192) (l : Fin 1024) : EReal :=
  d r l * p r l * (s r l * (1 - s r l))

variable (hf : ∀ r l, (V c main_v49_3 : Vec Ideal S8192x1024 .f32) (ix2 r l) = f r l)
  (hy : ∀ r l, (V c main_arg10 : Vec Ideal S8192x1024 .f32) (ix2 r l) = y r l)
include hf hy

theorem call_dg_upto (z : Fin 1) (l : Fin 1024) : ∀ (n : ℕ) (h : n < cfg2.N),
    ((outsAt2 V c n h).2.2.2.2.2.2.1 : Vec Ideal S1x1024 .f32) (ix2 z l) = ∑ t ∈ Finset.range (n + 1), ∑ j : Fin 512,
      y (row t j) l * (f (row t j) l * rstd (1 / 1024) (f (row t j)))
  | 0, h => by
    have ht : ∀ t j, tr (iblk2 V c 0 t) j = f (row t j) := fun t j => funext fun l => (blk2_0 V c t j l).trans (hf _ l)
    rw [outs_dg_zero, pay_dg, show k2_pay9 (F := Ideal) (ix2 z l) = 0 by pointwise [k2_pay9], zero_add, Finset.sum_range_one]
    simp only [ht, blk2_0, blk2_1, hf, hy]
  | n + 1, h => by
    have ht : ∀ t j, tr (iblk2 V c 0 t) j = f (row t j) := fun t j => funext fun l => (blk2_0 V c t j l).trans (hf _ l)
    rw [outs_dg_succ, pay_dg, Finset.sum_range_succ]
    simp only [ht, blk2_0, blk2_1, hf, hy]
    exact congrArg (· + _) (call_dg_upto z l n _)

theorem call_dg (z : Fin 1) (l : Fin 1024) :
    ((dat2 V c).arrAt 15 cfg2.N : Vec Ideal S1x1024 .f32) (ix2 z l) = ∑ r : Fin 8192, y r l * (f r l * rstd (1 / 1024) (f r)) := by
  refine (final2_15 V c ⟨15, by rw [show cfg2.N = 16 from N_2]; decide⟩ rfl z l).trans ?_
  rw [call_dg_upto V c hf hy z l 15]
  exact sum_rows fun r => y r l * (f r l * rstd (1 / 1024) (f r))

variable (hγ : ∀ l, (V c main_v48 : Vec Ideal S1x1024 .f32) (ix2 0 l) = γ l)
include hγ
theorem tile_dm (t : Fin cfg2.N) (j : Fin 512) (l : Fin 1024) : tdm V c t (ix2 j l) = dnorm f y γ (row t j) l := by
  refine (pay_dm _ _ _ _ _).trans ?_
  rw [show tr (iblk2 V c 0 t) j = f (row t j) from funext fun l => (blk2_0 V c t j l).trans (hf _ l)]
  simp only [blk2_1, blk2_2, hy, hγ]
  rfl

theorem call_dm (r : Fin 8192) (l : Fin 1024) : ((dat2 V c).arrAt 9 cfg2.N : Vec Ideal S8192x1024 .bf16) (ix2 r l) = dnorm f y γ r l := by
  have h := final2_9 V c (tile _ N_2 r) (place r) l
  rw [outs_dm, tile_dm V c hf hy hγ, row_place] at h
  exact h

variable (hO : ∀ k l, (V c main_v47 : Vec Ideal S1024x1024 .bf16) (ix2 k l) = O k l)
include hO
theorem tile_dmg (t : Fin cfg2.N) (j : Fin 512) (l : Fin 1024) : row_t (tdm V c t) (two V c t) j l = timesT (dnorm f y γ) O (row t j) l :=
  Finset.sum_congr rfl fun k _ => congrArg₂ (· * ·) (tile_dm V c hf hy hγ t j k) ((congrFun (blk2_3 V c t) (ix2 l k)).trans (hO l k))

variable (hs : ∀ r k, (V c main_v30_2 : Vec Ideal S8192x2048 .bf16) (ix2 r k) = s r k)

section
include hs
theorem tile_dpa (t : Fin cfg2.N) (j : Fin 512) (l : Fin 1024) :
    k2_pay15 (tdm V c t) (two V c t) (tga V c t) (ix2 j l) = timesT (dnorm f y γ) O (row t j) l * s (row t j) (lo l) := by
  rw [pay_dp, tile_dmg V c hf hy hγ hO]
  exact congrArg (_ * ·) ((ld_lo j (iblk2 V c 4 t) _ l).trans ((blk2_4 V c t j _).trans (hs _ _)))
theorem tile_dpb (t : Fin cfg2.N) (j : Fin 512) (l : Fin 1024) :
    k2_pay15 (tdm V c t) (two V c t) (tgb V c t) (ix2 j l) = timesT (dnorm f y γ) O (row t j) l * s (row t j) (hi l) := by
  rw [pay_dp, tile_dmg V c hf hy hγ hO]
  exact congrArg (_ * ·) ((ld_hi j (iblk2 V c 4 t) _ l).trans ((blk2_4 V c t j _).trans (hs _ _)))

theorem call_dpa (r : Fin 8192) (l : Fin 1024) :
    ((dat2 V c).arrAt 10 cfg2.N : Vec Ideal S8192x1024 .bf16) (ix2 r l) = timesT (dnorm f y γ) O r l * s r (lo l) := by
  have h := final2_10 V c (tile _ N_2 r) (place r) l
  rw [outs_dpa, tile_dpa V c hf hy hγ hO hs, row_place] at h
  exact h
theorem call_dpb (r : Fin 8192) (l : Fin 1024) :
    ((dat2 V c).arrAt 11 cfg2.N : Vec Ideal S8192x1024 .bf16) (ix2 r l) = timesT (dnorm f y γ) O r l * s r (hi l) := by
  have h := final2_11 V c (tile _ N_2 r) (place r) l
  rw [outs_dpb, tile_dpb V c hf hy hγ hO hs, row_place] at h
  exact h

theorem call_dya (r : Fin 8192) (p : Fin 1024) : ((dat2 V c).arrAt 13 cfg2.N : Vec Ideal S8192x1024 .f32) (ix2 r p)
    = ∑ l : Fin 1024, timesT (dnorm f y γ) O r l * s r (lo l) * pad42 V c p l := by
  have h := final2_13 V c (tile _ N_2 r) (place r) p
  rw [outs_dya, pay_dy] at h
  unfold row_t at h
  simp only [tile_dpa V c hf hy hγ hO hs, blk2_7, row_place] at h
  exact h
theorem call_dyb (r : Fin 8192) (p : Fin 1024) : ((dat2 V c).arrAt 14 cfg2.N : Vec Ideal S8192x1024 .f32) (ix2 r p)
    = ∑ l : Fin 1024, timesT (dnorm f y γ) O r l * s r (hi l) * pad46 V c p l := by
  have h := final2_14 V c (tile _ N_2 r) (place r) p
  rw [outs_dyb, pay_dy] at h
  unfold row_t at h
  simp only [tile_dpb V c hf hy hγ hO hs, blk2_8, row_place] at h
  exact h

section
variable (hpa : ∀ r l, (V c main_v49_0 : Vec Ideal S8192x1024 .bf16) (ix2 r l) = pa r l)
include hpa
theorem tile_dza (t : Fin cfg2.N) (j : Fin 512) (l : Fin 1024) : k2_pay17 (tdm V c t) (two V c t) (tga V c t) (iblk2 V c 5 t) (ix2 j l)
    = dgate (timesT (dnorm f y γ) O) pa (fun r l => s r (lo l)) (row t j) l := by
  have hl : tga V c t (ix2 j l) = s (row t j) (lo l) := (ld_lo j (iblk2 V c 4 t) _ l).trans ((blk2_4 V c t j _).trans (hs _ _))
  rw [pay_dz, tile_dmg V c hf hy hγ hO, hl, blk2_5, hpa]
  rfl

theorem call_dza (r : Fin 8192) (l : Fin 1024) : ((dat2 V c).arrAt 12 cfg2.N : Vec Ideal S8192x2048 .bf16) (ix2 r (lo l))
    = dgate (timesT (dnorm f y γ) O) pa (fun r l => s r (lo l)) r l := by
  have h := final2_12 V c (tile _ N_2 r) (place r) (lo l)
  rw [outs_dzg_lo, tile_dza V c hf hy hγ hO hs hpa, row_place] at h
  exact h

theorem call_dba_upto (z : Fin 1) (l : Fin 1024) : ∀ (n : ℕ) (h : n < cfg2.N),
    ((outsAt2 V c n h).2.2.2.2.2.2.2 : Vec Ideal S1x2048 .f32) (ix2 z (lo l)) = ∑ t ∈ Finset.range (n + 1), ∑ j : Fin 512,
      dgate (timesT (dnorm f y γ) O) pa (fun r l => s r (lo l)) (row t j) l
  | 0, h => by
    rw [outs_db_zero_lo, pay_db, Finset.sum_range_one]
    simp only [zero_add, tile_dza V c hf hy hγ hO hs hpa]
  | n + 1, h => by
    rw [outs_db_succ_lo, Finset.sum_range_succ]
    simp only [tile_dza V c hf hy hγ hO hs hpa]
    exact congrArg (· + _) (call_dba_upto z l n _)

theorem call_dba (z : Fin 1) (l : Fin 1024) : ((dat2 V c).arrAt 16 cfg2.N : Vec Ideal S1x2048 .f32) (ix2 z (lo l))
    = ∑ r : Fin 8192, dgate (timesT (dnorm f y γ) O) pa (fun r l => s r (lo l)) r l := by
  refine (final2_16 V c ⟨15, by rw [show cfg2.N = 16 from N_2]; decide⟩ rfl z (lo l)).trans ?_
  rw [call_dba_upto V c hf hy hγ hO hs hpa z l 15]
  exact sum_rows fun r => dgate (timesT (dnorm f y γ) O) pa (fun r l => s r (lo l)) r l
end

section
variable (hpb : ∀ r l, (V c main_v49_1 : Vec Ideal S8192x1024 .bf16) (ix2 r l) = pb r l)
include hpb
theorem tile_dzb (t : Fin cfg2.N) (j : Fin 512) (l : Fin 1024) : k2_pay17 (tdm V c t) (two V c t) (tgb V c t) (iblk2 V c 6 t) (ix2 j l)
    = dgate (timesT (dnorm f y γ) O) pb (fun r l => s r (hi l)) (row t j) l := by
  have hl : tgb V c t (ix2 j l) = s (row t j) (hi l) := (ld_hi j (iblk2 V c 4 t) _ l).trans ((blk2_4 V c t j _).trans (hs _ _))
  rw [pay_dz, tile_dmg V c hf hy hγ hO, hl, blk2_6, hpb]
  rfl

theorem call_dzb (r : Fin 8192) (l : Fin 1024) : ((dat2 V c).arrAt 12 cfg2.N : Vec Ideal S8192x2048 .bf16) (ix2 r (hi l))
    = dgate (timesT (dnorm f y γ) O) pb (fun r l => s r (hi l)) r l := by
  have h := final2_12 V c (tile _ N_2 r) (place r) (hi l)
  rw [outs_dzg_hi, tile_dzb V c hf hy hγ hO hs hpb, row_place] at h
  exact h

theorem call_dbb_upto (z : Fin 1) (l : Fin 1024) : ∀ (n : ℕ) (h : n < cfg2.N),
    ((outsAt2 V c n h).2.2.2.2.2.2.2 : Vec Ideal S1x2048 .f32) (ix2 z (hi l)) = ∑ t ∈ Finset.range (n + 1), ∑ j : Fin 512,
      dgate (timesT (dnorm f y γ) O) pb (fun r l => s r (hi l)) (row t j) l
  | 0, h => by
    rw [outs_db_zero_hi, pay_db, Finset.sum_range_one]
    simp only [zero_add, tile_dzb V c hf hy hγ hO hs hpb]
  | n + 1, h => by
    rw [outs_db_succ_hi, Finset.sum_range_succ]
    simp only [tile_dzb V c hf hy hγ hO hs hpb]
    exact congrArg (· + _) (call_dbb_upto z l n _)

theorem call_dbb (z : Fin 1) (l : Fin 1024) : ((dat2 V c).arrAt 16 cfg2.N : Vec Ideal S1x2048 .f32) (ix2 z (hi l))
    = ∑ r : Fin 8192, dgate (timesT (dnorm f y γ) O) pb (fun r l => s r (hi l)) r l := by
  refine (final2_16 V c ⟨15, by rw [show cfg2.N = 16 from N_2]; decide⟩ rfl z (hi l)).trans ?_
  rw [call_dbb_upto V c hf hy hγ hO hs hpb z l 15]
  exact sum_rows fun r => dgate (timesT (dnorm f y γ) O) pb (fun r l => s r (hi l)) r l
end
end
end

end Cert.MergeIdeal.Result

end
-- ==== Proof.MergePad.lean ====
/-
  Eight heads of 64 columns, each in a slot of 128: what the padded arrays hold, and a sum over the padded columns.
-/
module

public import proofs.«01_k».proof.Proof.Norm

@[expose] public section

noncomputable section

namespace Cert.Slots

/-- The padded column of a column, -/
def lane (q : Fin 512) : Fin 1024 := ⟨q / 64 * 128 + q % 64, by omega⟩

/-- and a row with its columns moved there and zeros between. -/
def slots (A : Fin 512 → EReal) (p : Fin 1024) : EReal := if p.val % 128 < 64 then A ⟨p / 128 * 64 + p % 64, by omega⟩ else 0

theorem slots_lane (A : Fin 512 → EReal) (q : Fin 512) : slots A (lane q) = A q := by
  have h : (lane q).val = q / 64 * 128 + q % 64 := rfl
  unfold slots
  rw [if_pos (by rw [h]; omega)]
  exact congrArg A (Fin.ext (by show (lane q).val / 128 * 64 + (lane q).val % 64 = q; rw [h]; omega))

theorem lane_injective : Function.Injective lane := fun a b h => by
  have h : a.val / 64 * 128 + a.val % 64 = b.val / 64 * 128 + b.val % 64 := congrArg Fin.val h
  exact Fin.ext (by omega)

/-- A product of two padded rows, summed: the zeros add nothing. -/
theorem sum_slots (A B : Fin 512 → EReal) : ∑ p, slots A p * slots B p = ∑ q, A q * B q := by
  refine (Fintype.sum_of_injective lane lane_injective (fun q => A q * B q) (fun p => slots A p * slots B p) (fun p hp => ?_) fun q => ?_).symm
  · have h : ¬ p.val % 128 < 64 := fun h => hp ⟨⟨p / 128 * 64 + p % 64, by omega⟩, Fin.ext (by
      show (p.val / 128 * 64 + p.val % 64) / 64 * 128 + (p.val / 128 * 64 + p.val % 64) % 64 = p.val
      omega)⟩
    simp only [slots, if_neg h, mul_zero]
  · simp only [slots_lane]

/-- A padded array's element as the slots' one. -/
theorem slots_eq (A : Fin 512 → EReal) (p : Fin 1024) {z : EReal} {f : (p.val / 128 < 8 ∧ p.val % 128 < 64) → EReal}
    (hf : ∀ h q, q.val = p.val / 128 * 64 + p.val % 128 → f h = A q) (hz : z = 0) :
    (if h : p.val / 128 < 8 ∧ p.val % 128 < 64 then f h else z) = slots A p := by
  unfold slots
  by_cases h : p.val % 128 < 64
  · rw [dif_pos ⟨by omega, h⟩, if_pos h]
    exact hf _ _ (by dsimp only; omega)
  · rw [dif_neg (fun h' => h h'.2), if_neg h, hz]

end Cert.Slots

end
-- ==== Proof.MergeRun.lean ====
/-
  The run of the gates, the merge and the merge's gradient: every buffer at what the program leaves.
-/
module

public import proofs.«01_k».proof.Proof.Gen.MergeIdeal.Frame

@[expose] public section

noncomputable section

namespace Cert.MergeIdeal.Result

open Cert.MergeIdeal Cert.MergeIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's arguments are found by unification through plain definitions
set_option backward.isDefEq.respectTransparency.types false in
/-- The whole program's run: it ends with every buffer at what the last call leaves (`W22`) and every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W22 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h hz => ⟨h, funext fun g => hz g (.inr (no_unscoped g.2))⟩)

/-- The frame, from that run: the arguments as launched. -/
theorem args (c : Dev nD) {s : (ℓ : Loc nD τ sig) → Buf (Elt F) ℓ} (h : ∀ b ∈ Pipeline.ucRefs τ sig, s (((c : Thread nD τ)).1, b) = W22 m ρ c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10) :=
  ⟨(h _ (mem_uc main_arg0 (by decide))).trans (W22_main_arg0 m ρ c),
    (h _ (mem_uc main_arg1 (by decide))).trans (W22_main_arg1 m ρ c),
    (h _ (mem_uc main_arg2 (by decide))).trans (W22_main_arg2 m ρ c),
    (h _ (mem_uc main_arg3 (by decide))).trans (W22_main_arg3 m ρ c),
    (h _ (mem_uc main_arg4 (by decide))).trans (W22_main_arg4 m ρ c),
    (h _ (mem_uc main_arg5 (by decide))).trans (W22_main_arg5 m ρ c),
    (h _ (mem_uc main_arg6 (by decide))).trans (W22_main_arg6 m ρ c),
    (h _ (mem_uc main_arg7 (by decide))).trans (W22_main_arg7 m ρ c),
    (h _ (mem_uc main_arg8 (by decide))).trans (W22_main_arg8 m ρ c),
    (h _ (mem_uc main_arg9 (by decide))).trans (W22_main_arg9 m ρ c),
    (h _ (mem_uc main_arg10 (by decide))).trans (W22_main_arg10 m ρ c)⟩

end Cert.MergeIdeal.Result

end
-- ==== Proof.MergePack.lean ====
/-
  The merge of the two attentions' outputs by their gates, with its gradients, over the extended reals: what the host
  operations leave, as functions of the program's arguments.
-/
module

public import proofs.«01_k».proof.Proof.MergeValue
public import proofs.«01_k».proof.Proof.MergePad
public import proofs.«01_k».proof.Proof.Lanes
public import proofs.«01_k».proof.Proof.MergeRun
public import Idealize.ShloMosaic.Lib.StableHlo.RunRead

@[expose] public section

set_option maxRecDepth 16384

noncomputable section

namespace Cert.MergeIdeal.Result

open Cert.MergeIdeal Cert.MergeIdeal.Gen Cert.Rows Cert.Tiles Cert.Norm Cert.Slots Idealize.ShloMosaic Idealize.ShloMosaic.TcCoe Idealize.SL.Sem
open Idealize.ShloMosaic.Pointwise Idealize.ShloMosaic.StableHlo

variable (m : (ℓ : Loc nD τ sig) → Buf (Elt Ideal) ℓ) (ρ : Dev nD → PrngReg) (c : Dev nD)

/-- The program's arguments. -/
abbrev X (r : Fin 8192) (l : Fin 1024) : EReal := (m ((c : Thread nD τ).loc main_arg0) : Vec Ideal S8192x1024 .f32) (ix2 r l)
abbrev G (l : Fin 1024) : EReal := (m ((c : Thread nD τ).loc main_arg1) : Vec Ideal S1024 .f32) (ix1 l)
abbrev W (l : Fin 1024) (k : Fin 3488) : EReal := (m ((c : Thread nD τ).loc main_arg2) : Vec Ideal S1024x3488 .f32) (ix2 l k)
abbrev B (k : Fin 2048) : EReal := (m ((c : Thread nD τ).loc main_arg3) : Vec Ideal S2048 .f32) (ix1 k)
abbrev YA (r : Fin 8192) (q : Fin 512) : EReal := (m ((c : Thread nD τ).loc main_arg4) : Vec Ideal S8192x512 .f32) (ix2 r q)
abbrev YB (r : Fin 8192) (q : Fin 512) : EReal := (m ((c : Thread nD τ).loc main_arg5) : Vec Ideal S8192x512 .f32) (ix2 r q)
abbrev WA (q : Fin 512) (l : Fin 1024) : EReal := (m ((c : Thread nD τ).loc main_arg6) : Vec Ideal S512x1024 .f32) (ix2 q l)
abbrev WB (q : Fin 512) (l : Fin 1024) : EReal := (m ((c : Thread nD τ).loc main_arg7) : Vec Ideal S512x1024 .f32) (ix2 q l)
abbrev WO (k l : Fin 1024) : EReal := (m ((c : Thread nD τ).loc main_arg8) : Vec Ideal S1024x1024 .f32) (ix2 k l)
abbrev G2 (l : Fin 1024) : EReal := (m ((c : Thread nD τ).loc main_arg9) : Vec Ideal S1024 .f32) (ix1 l)
abbrev DX1 (r : Fin 8192) (l : Fin 1024) : EReal := (m ((c : Thread nD τ).loc main_arg10) : Vec Ideal S8192x1024 .f32) (ix2 r l)

/-- The gates' columns of the weight. -/
def gcol (k : Fin 2048) : Fin 3488 := ⟨1440 + k, by omega⟩

/-- Before the first call. -/
theorem at9_x (r : Fin 8192) (l : Fin 1024) : (V9 m ρ c main_arg0 : Vec Ideal S8192x1024 .f32) (ix2 r l) = X m c r l :=
  congrFun (W9_args m ρ c main_arg0 (by decide +kernel)) (ix2 r l)
theorem at9_g (l : Fin 1024) : (V9 m ρ c main_v26 : Vec Ideal S1x1024 .f32) (ix2 0 l) = G m c l := by
  have hA := W8_args m ρ c main_arg1 (by decide +kernel)
  simp only [V9, W9, hostOps0_8]
  generalize W8 m ρ c = U at hA ⊢
  after_reads_simp
  try simp only [StableHlo.TRef.toBuf, StableHlo.TRef.ofBuf, cast_eq, id_eq]
  pointwise []
  exact congrFun hA (ix1 l)
theorem at9_w (l : Fin 1024) (k : Fin 2048) : (V9 m ρ c main_v28 : Vec Ideal S1024x2048 .bf16) (ix2 l k) = W m c l (gcol k) := by
  have hA := W8_args m ρ c main_arg2 (by decide +kernel)
  simp only [V9, W9, hostOps0_8]
  generalize W8 m ρ c = U at hA ⊢
  after_reads_simp
  try simp only [StableHlo.TRef.toBuf, StableHlo.TRef.ofBuf, cast_eq, id_eq]
  pointwise []
  exact congrFun hA (ix2 l (gcol k))
theorem at9_b (k : Fin 2048) : (V9 m ρ c main_v29 : Vec Ideal S1x2048 .f32) (ix2 0 k) = B m c k := by
  have hA := W8_args m ρ c main_arg3 (by decide +kernel)
  simp only [V9, W9, hostOps0_8]
  generalize W8 m ρ c = U at hA ⊢
  after_reads_simp
  try simp only [StableHlo.TRef.toBuf, StableHlo.TRef.ofBuf, cast_eq, id_eq]
  pointwise []
  exact congrFun hA (ix1 k)

/-- A buffer that the host operations between the first two calls leave alone. -/
theorem keep19 (b : Ref sig .tc) (h : ∀ L ∈ [hostOps1_W, hostOps1_1_W, hostOps1_2_W, hostOps1_3_W, hostOps1_4_W, hostOps1_5_W, hostOps1_6_W, hostOps1_7_W, hostOps1_8_W], b ∉ L) :
    V19 m ρ c b = W10 m ρ c (Proc.devRef .tc b) := by
  simp only [List.forall_mem_cons] at h
  obtain ⟨h0, h1, h2, h3, h4, h5, h6, h7, h8, -⟩ := h
  exact (W19_of m ρ c b h8).trans ((W18_of m ρ c b h7).trans ((W17_of m ρ c b h6).trans ((W16_of m ρ c b h5).trans ((W15_of m ρ c b h4).trans
    ((W14_of m ρ c b h3).trans ((W13_of m ρ c b h2).trans ((W12_of m ρ c b h1).trans (W11_of m ρ c b h0))))))))

theorem W13_v34 (r : Fin 8192) (p : Fin 1024) : (W13 m ρ c (Proc.devRef .tc main_v34) : Vec Ideal S8192x1024 .bf16) (ix2 r p) = slots (YA m c r) p := by
  have hA := W10_args m ρ c main_arg4 (by decide +kernel)
  simp only [W13, W12, W11, hostOps1, hostOps1_1, hostOps1_2]
  generalize W10 m ρ c = U at hA ⊢
  after_reads_simp
  try simp only [StableHlo.TRef.toBuf, StableHlo.TRef.ofBuf, cast_eq, id_eq]
  pointwise []
  exact slots_eq (YA m c r) p (fun h q hq => (congrFun hA _).trans (congrArg (YA m c r) (Fin.ext hq.symm))) sitofp_zero
theorem W15_v38 (r : Fin 8192) (p : Fin 1024) : (W15 m ρ c (Proc.devRef .tc main_v38) : Vec Ideal S8192x1024 .bf16) (ix2 r p) = slots (YB m c r) p := by
  have hA := W12_args m ρ c main_arg5 (by decide +kernel)
  simp only [W15, W14, W13, hostOps1_2, hostOps1_3, hostOps1_4]
  generalize W12 m ρ c = U at hA ⊢
  after_reads_simp
  try simp only [StableHlo.TRef.toBuf, StableHlo.TRef.ofBuf, cast_eq, id_eq]
  pointwise []
  exact slots_eq (YB m c r) p (fun h q hq => (congrFun hA _).trans (congrArg (YB m c r) (Fin.ext hq.symm))) sitofp_zero
theorem W17_v42 (p : Fin 1024) (l : Fin 1024) : (W17 m ρ c (Proc.devRef .tc main_v42) : Vec Ideal S1024x1024 .bf16) (ix2 p l) = slots (fun q => WA m c q l) p := by
  have hA := W14_args m ρ c main_arg6 (by decide +kernel)
  simp only [W17, W16, W15, hostOps1_4, hostOps1_5, hostOps1_6]
  generalize W14 m ρ c = U at hA ⊢
  after_reads_simp
  try simp only [StableHlo.TRef.toBuf, StableHlo.TRef.ofBuf, cast_eq, id_eq]
  pointwise []
  exact slots_eq (fun q => WA m c q l) p (fun h q hq => (congrFun hA _).trans (congrArg (fun q => WA m c q l) (Fin.ext hq.symm))) sitofp_zero
theorem W19_v46 (p : Fin 1024) (l : Fin 1024) : (W19 m ρ c (Proc.devRef .tc main_v46) : Vec Ideal S1024x1024 .bf16) (ix2 p l) = slots (fun q => WB m c q l) p := by
  have hA := W16_args m ρ c main_arg7 (by decide +kernel)
  simp only [W19, W18, W17, hostOps1_6, hostOps1_7, hostOps1_8]
  generalize W16 m ρ c = U at hA ⊢
  after_reads_simp
  try simp only [StableHlo.TRef.toBuf, StableHlo.TRef.ofBuf, cast_eq, id_eq]
  pointwise []
  exact slots_eq (fun q => WB m c q l) p (fun h q hq => (congrFun hA _).trans (congrArg (fun q => WB m c q l) (Fin.ext hq.symm))) sitofp_zero
theorem W19_v47 (k l : Fin 1024) : (V19 m ρ c main_v47 : Vec Ideal S1024x1024 .bf16) (ix2 k l) = WO m c k l := by
  have hA := W18_args m ρ c main_arg8 (by decide +kernel)
  simp only [V19, W19, hostOps1_8]
  generalize W18 m ρ c = U at hA ⊢
  after_reads_simp
  try simp only [StableHlo.TRef.toBuf, StableHlo.TRef.ofBuf, cast_eq, id_eq]
  pointwise []
  exact congrFun hA (ix2 k l)
theorem W19_v48 (l : Fin 1024) : (V19 m ρ c main_v48 : Vec Ideal S1x1024 .f32) (ix2 0 l) = G2 m c l := by
  have hA := W18_args m ρ c main_arg9 (by decide +kernel)
  simp only [V19, W19, hostOps1_8]
  generalize W18 m ρ c = U at hA ⊢
  after_reads_simp
  try simp only [StableHlo.TRef.toBuf, StableHlo.TRef.ofBuf, cast_eq, id_eq]
  pointwise []
  exact congrFun hA (ix1 l)

/-- Before the second call. -/
theorem at19_v34 (r : Fin 8192) (p : Fin 1024) : pad34 (V19 m ρ) c r p = slots (YA m c r) p :=
  (congrFun ((W19_of m ρ c main_v34 (by decide +kernel)).trans ((W18_of m ρ c main_v34 (by decide +kernel)).trans ((W17_of m ρ c main_v34 (by decide +kernel)).trans
    ((W16_of m ρ c main_v34 (by decide +kernel)).trans ((W15_of m ρ c main_v34 (by decide +kernel)).trans (W14_of m ρ c main_v34 (by decide +kernel))))))) _).trans (W13_v34 m ρ c r p)
theorem at19_v38 (r : Fin 8192) (p : Fin 1024) : pad38 (V19 m ρ) c r p = slots (YB m c r) p :=
  (congrFun ((W19_of m ρ c main_v38 (by decide +kernel)).trans ((W18_of m ρ c main_v38 (by decide +kernel)).trans ((W17_of m ρ c main_v38 (by decide +kernel)).trans
    (W16_of m ρ c main_v38 (by decide +kernel))))) _).trans (W15_v38 m ρ c r p)
theorem at19_v42 (p l : Fin 1024) : pad42 (V19 m ρ) c p l = slots (fun q => WA m c q l) p :=
  (congrFun ((W19_of m ρ c main_v42 (by decide +kernel)).trans (W18_of m ρ c main_v42 (by decide +kernel))) _).trans (W17_v42 m ρ c p l)
theorem at19_v46 (p l : Fin 1024) : pad46 (V19 m ρ) c p l = slots (fun q => WB m c q l) p := W19_v46 m ρ c p l

/-- The two padded products are the plain ones. -/
theorem at19_pa (r : Fin 8192) (l : Fin 1024) : ∑ p : Fin 1024, pad34 (V19 m ρ) c r p * pad42 (V19 m ρ) c p l = ∑ q, YA m c r q * WA m c q l :=
  (Finset.sum_congr rfl fun p _ => congrArg₂ (· * ·) (at19_v34 m ρ c r p) (at19_v42 m ρ c p l)).trans (sum_slots _ _)
theorem at19_pb (r : Fin 8192) (l : Fin 1024) : ∑ p : Fin 1024, pad38 (V19 m ρ) c r p * pad46 (V19 m ρ) c p l = ∑ q, YB m c r q * WB m c q l :=
  (Finset.sum_congr rfl fun p _ => congrArg₂ (· * ·) (at19_v38 m ρ c r p) (at19_v46 m ρ c p l)).trans (sum_slots _ _)

/-- After the last call: the columns of the heads' slots alone. -/
theorem end_dya (r : Fin 8192) (q : Fin 512) : (W22 m ρ c (Proc.devRef .tc main_v53) : Vec Ideal S8192x512 .f32) (ix2 r q)
    = (V21 m ρ c main_v50_4 : Vec Ideal S8192x1024 .f32) (ix2 r (lane q)) := by
  simp only [W22, hostOps3, V21]
  generalize W21 m ρ c = U
  after_reads_simp
  try simp only [StableHlo.TRef.toBuf, StableHlo.TRef.ofBuf, cast_eq, id_eq]
  pointwise []
  rfl
theorem end_dyb (r : Fin 8192) (q : Fin 512) : (W22 m ρ c (Proc.devRef .tc main_v56) : Vec Ideal S8192x512 .f32) (ix2 r q)
    = (V21 m ρ c main_v50_5 : Vec Ideal S8192x1024 .f32) (ix2 r (lane q)) := by
  simp only [W22, hostOps3, V21]
  generalize W21 m ρ c = U
  after_reads_simp
  try simp only [StableHlo.TRef.toBuf, StableHlo.TRef.ofBuf, cast_eq, id_eq]
  pointwise []
  rfl

end Cert.MergeIdeal.Result

end
-- ==== Proof.MergeResult.lean ====
/-
  The merge of the two attentions' outputs by their gates, with its gradients, over the extended reals: the arrays that
  the program leaves, as functions of its arguments.
-/
module

public import proofs.«01_k».proof.Proof.MergePack

@[expose] public section

set_option maxRecDepth 16384

noncomputable section

namespace Cert.MergeIdeal.Result

open Cert.MergeIdeal Cert.MergeIdeal.Gen Cert.Rows Cert.Tiles Cert.Norm Cert.Slots Idealize.ShloMosaic Idealize.ShloMosaic.TcCoe Idealize.SL.Sem
open Idealize.ShloMosaic.Pointwise Idealize.ShloMosaic.StableHlo

variable (m : (ℓ : Loc nD τ sig) → Buf (Elt Ideal) ℓ) (ρ : Dev nD → PrngReg) (c : Dev nD)

/-- The normed rows and the gates, -/
def un : Fin 8192 → Fin 1024 → EReal := fun r => normed (1 / 1024) (X m c r) (G m c)
def gt : Fin 8192 → Fin 2048 → EReal := fun r k => sg ((∑ l : Fin 1024, un m c r l * W m c l (gcol k)) + B m c k)
/-- the two attentions' outputs times their weights, their gated sum and its product with the last weight, -/
def pa : Fin 8192 → Fin 1024 → EReal := fun r l => ∑ q : Fin 512, YA m c r q * WA m c q l
def pb : Fin 8192 → Fin 1024 → EReal := fun r l => ∑ q : Fin 512, YB m c r q * WB m c q l
def mg : Fin 8192 → Fin 1024 → EReal := gated (pa m c) (pb m c) (gt m c)
def mo : Fin 8192 → Fin 1024 → EReal := times (mg m c) (WO m c)
/-- the gradients at that product and at the gated sum. -/
def dm : Fin 8192 → Fin 1024 → EReal := dnorm (mo m c) (DX1 m c) (G2 m c)
def dmg : Fin 8192 → Fin 1024 → EReal := timesT (dm m c) (WO m c)

/-- The first call's arrays, -/
theorem res_u (r : Fin 8192) (l : Fin 1024) : (W10 m ρ c (Proc.devRef .tc main_v30_0) : Vec Ideal S8192x1024 .bf16) (ix2 r l) = un m c r l :=
  (congrFun (W10_arr m ρ c 5) (ix2 r l)).trans (call_u (V9 m ρ) c (at9_x m ρ c) (at9_g m ρ c) r l)
theorem res_gate (r : Fin 8192) (k : Fin 2048) : (W10 m ρ c (Proc.devRef .tc main_v30_2) : Vec Ideal S8192x2048 .bf16) (ix2 r k) = gt m c r k :=
  (congrFun (W10_arr m ρ c 7) (ix2 r k)).trans (call_gate (V9 m ρ) c (at9_x m ρ c) (at9_g m ρ c) (at9_w m ρ c) (at9_b m ρ c) r k)

theorem at19_gate (r : Fin 8192) (k : Fin 2048) : (V19 m ρ c main_v30_2 : Vec Ideal S8192x2048 .bf16) (ix2 r k) = gt m c r k :=
  (congrFun (keep19 m ρ c main_v30_2 (by decide +kernel)) _).trans (res_gate m ρ c r k)
theorem at19_x (r : Fin 8192) (l : Fin 1024) : (V19 m ρ c main_arg0 : Vec Ideal S8192x1024 .f32) (ix2 r l) = X m c r l :=
  congrFun (W19_args m ρ c main_arg0 (by decide +kernel)) (ix2 r l)

/-- the second call's, -/
theorem res_pa (r : Fin 8192) (l : Fin 1024) : (V20 m ρ c main_v49_0 : Vec Ideal S8192x1024 .bf16) (ix2 r l) = pa m c r l :=
  (congrFun (W20_arr m ρ c 8) (ix2 r l)).trans (call_pa (V19 m ρ) c (at19_pa m ρ c) r l)
theorem res_pb (r : Fin 8192) (l : Fin 1024) : (V20 m ρ c main_v49_1 : Vec Ideal S8192x1024 .bf16) (ix2 r l) = pb m c r l :=
  (congrFun (W20_arr m ρ c 9) (ix2 r l)).trans (call_pb (V19 m ρ) c (at19_pb m ρ c) r l)
theorem res_mg (r : Fin 8192) (l : Fin 1024) : (V20 m ρ c main_v49_2 : Vec Ideal S8192x1024 .bf16) (ix2 r l) = mg m c r l :=
  (congrFun (W20_arr m ρ c 10) (ix2 r l)).trans (call_mg (V19 m ρ) c (at19_pb m ρ c) (at19_pa m ρ c) (at19_gate m ρ c) r l)
theorem res_m (r : Fin 8192) (l : Fin 1024) : (V20 m ρ c main_v49_3 : Vec Ideal S8192x1024 .f32) (ix2 r l) = mo m c r l :=
  (congrFun (W20_arr m ρ c 11) (ix2 r l)).trans (call_m (V19 m ρ) c (at19_pb m ρ c) (at19_pa m ρ c) (at19_gate m ρ c) (W19_v47 m ρ c) r l)
theorem res_x1 (r : Fin 8192) (l : Fin 1024) : (V20 m ρ c main_v49_4 : Vec Ideal S8192x1024 .f32) (ix2 r l) = X m c r l + normed (1 / 1024) (mo m c r) (G2 m c) l :=
  (congrFun (W20_arr m ρ c 12) (ix2 r l)).trans (call_x1 (V19 m ρ) c (at19_pb m ρ c) (at19_pa m ρ c) (at19_gate m ρ c) (W19_v47 m ρ c) (at19_x m ρ c) (W19_v48 m ρ c) r l)

theorem at20_dx1 (r : Fin 8192) (l : Fin 1024) : (V20 m ρ c main_arg10 : Vec Ideal S8192x1024 .f32) (ix2 r l) = DX1 m c r l :=
  congrFun (W20_args m ρ c main_arg10 (by decide +kernel)) (ix2 r l)
theorem at20_g2 (l : Fin 1024) : (V20 m ρ c main_v48 : Vec Ideal S1x1024 .f32) (ix2 0 l) = G2 m c l :=
  (congrFun (W20_of m ρ c main_v48 (by decide +kernel)) _).trans (W19_v48 m ρ c l)
theorem at20_wo (k l : Fin 1024) : (V20 m ρ c main_v47 : Vec Ideal S1024x1024 .bf16) (ix2 k l) = WO m c k l :=
  (congrFun (W20_of m ρ c main_v47 (by decide +kernel)) _).trans (W19_v47 m ρ c k l)
theorem at20_gate (r : Fin 8192) (k : Fin 2048) : (V20 m ρ c main_v30_2 : Vec Ideal S8192x2048 .bf16) (ix2 r k) = gt m c r k :=
  (congrFun (W20_of m ρ c main_v30_2 (by decide +kernel)) _).trans (at19_gate m ρ c r k)
theorem at20_wa (p l : Fin 1024) : pad42 (V20 m ρ) c p l = slots (fun q => WA m c q l) p :=
  (congrFun (W20_of m ρ c main_v42 (by decide +kernel)) _).trans (at19_v42 m ρ c p l)
theorem at20_wb (p l : Fin 1024) : pad46 (V20 m ρ) c p l = slots (fun q => WB m c q l) p :=
  (congrFun (W20_of m ρ c main_v46 (by decide +kernel)) _).trans (at19_v46 m ρ c p l)

/-- and the third call's. -/
theorem res_dm (r : Fin 8192) (l : Fin 1024) : (W21 m ρ c (Proc.devRef .tc main_v50_0) : Vec Ideal S8192x1024 .bf16) (ix2 r l) = dm m c r l :=
  (congrFun (W21_arr m ρ c 9) (ix2 r l)).trans (call_dm (V20 m ρ) c (res_m m ρ c) (at20_dx1 m ρ c) (at20_g2 m ρ c) r l)
theorem res_dpa (r : Fin 8192) (l : Fin 1024) : (W21 m ρ c (Proc.devRef .tc main_v50_1) : Vec Ideal S8192x1024 .bf16) (ix2 r l) = dmg m c r l * gt m c r (lo l) :=
  (congrFun (W21_arr m ρ c 10) (ix2 r l)).trans (call_dpa (V20 m ρ) c (res_m m ρ c) (at20_dx1 m ρ c) (at20_g2 m ρ c) (at20_wo m ρ c) (at20_gate m ρ c) r l)
theorem res_dpb (r : Fin 8192) (l : Fin 1024) : (W21 m ρ c (Proc.devRef .tc main_v50_2) : Vec Ideal S8192x1024 .bf16) (ix2 r l) = dmg m c r l * gt m c r (hi l) :=
  (congrFun (W21_arr m ρ c 11) (ix2 r l)).trans (call_dpb (V20 m ρ) c (res_m m ρ c) (at20_dx1 m ρ c) (at20_g2 m ρ c) (at20_wo m ρ c) (at20_gate m ρ c) r l)
theorem res_dza (r : Fin 8192) (l : Fin 1024) : (W21 m ρ c (Proc.devRef .tc main_v50_3) : Vec Ideal S8192x2048 .bf16) (ix2 r (lo l)) = dgate (dmg m c) (pa m c) (fun r l => gt m c r (lo l)) r l :=
  (congrFun (W21_arr m ρ c 12) (ix2 r (lo l))).trans (call_dza (V20 m ρ) c (res_m m ρ c) (at20_dx1 m ρ c) (at20_g2 m ρ c) (at20_wo m ρ c) (at20_gate m ρ c) (res_pa m ρ c) r l)
theorem res_dzb (r : Fin 8192) (l : Fin 1024) : (W21 m ρ c (Proc.devRef .tc main_v50_3) : Vec Ideal S8192x2048 .bf16) (ix2 r (hi l)) = dgate (dmg m c) (pb m c) (fun r l => gt m c r (hi l)) r l :=
  (congrFun (W21_arr m ρ c 12) (ix2 r (hi l))).trans (call_dzb (V20 m ρ) c (res_m m ρ c) (at20_dx1 m ρ c) (at20_g2 m ρ c) (at20_wo m ρ c) (at20_gate m ρ c) (res_pb m ρ c) r l)
theorem res_dg (z : Fin 1) (l : Fin 1024) : (W21 m ρ c (Proc.devRef .tc main_v50_6) : Vec Ideal S1x1024 .f32) (ix2 z l) = ∑ r : Fin 8192, DX1 m c r l * (mo m c r l * rstd (1 / 1024) (mo m c r)) :=
  (congrFun (W21_arr m ρ c 15) (ix2 z l)).trans (call_dg (V20 m ρ) c (res_m m ρ c) (at20_dx1 m ρ c) z l)
theorem res_dba (z : Fin 1) (l : Fin 1024) : (W21 m ρ c (Proc.devRef .tc main_v50_7) : Vec Ideal S1x2048 .f32) (ix2 z (lo l)) = ∑ r : Fin 8192, dgate (dmg m c) (pa m c) (fun r l => gt m c r (lo l)) r l :=
  (congrFun (W21_arr m ρ c 16) (ix2 z (lo l))).trans (call_dba (V20 m ρ) c (res_m m ρ c) (at20_dx1 m ρ c) (at20_g2 m ρ c) (at20_wo m ρ c) (at20_gate m ρ c) (res_pa m ρ c) z l)
theorem res_dbb (z : Fin 1) (l : Fin 1024) : (W21 m ρ c (Proc.devRef .tc main_v50_7) : Vec Ideal S1x2048 .f32) (ix2 z (hi l)) = ∑ r : Fin 8192, dgate (dmg m c) (pb m c) (fun r l => gt m c r (hi l)) r l :=
  (congrFun (W21_arr m ρ c 16) (ix2 z (hi l))).trans (call_dbb (V20 m ρ) c (res_m m ρ c) (at20_dx1 m ρ c) (at20_g2 m ρ c) (at20_wo m ρ c) (at20_gate m ρ c) (res_pb m ρ c) z l)

theorem res_dya (r : Fin 8192) (q : Fin 512) : (W22 m ρ c (Proc.devRef .tc main_v53) : Vec Ideal S8192x512 .f32) (ix2 r q)
    = ∑ l : Fin 1024, dmg m c r l * gt m c r (lo l) * WA m c q l :=
  (end_dya m ρ c r q).trans ((congrFun (W21_arr m ρ c 13) (ix2 r (lane q))).trans ((call_dya (V20 m ρ) c (res_m m ρ c) (at20_dx1 m ρ c) (at20_g2 m ρ c) (at20_wo m ρ c) (at20_gate m ρ c) r (lane q)).trans
    (Finset.sum_congr (M := EReal) rfl fun l _ => congrArg (dmg m c r l * gt m c r (lo l) * ·) ((at20_wa m ρ c (lane q) l).trans (slots_lane _ q)))))

theorem res_dyb (r : Fin 8192) (q : Fin 512) : (W22 m ρ c (Proc.devRef .tc main_v56) : Vec Ideal S8192x512 .f32) (ix2 r q)
    = ∑ l : Fin 1024, dmg m c r l * gt m c r (hi l) * WB m c q l :=
  (end_dyb m ρ c r q).trans ((congrFun (W21_arr m ρ c 14) (ix2 r (lane q))).trans ((call_dyb (V20 m ρ) c (res_m m ρ c) (at20_dx1 m ρ c) (at20_g2 m ρ c) (at20_wo m ρ c) (at20_gate m ρ c) r (lane q)).trans
    (Finset.sum_congr (M := EReal) rfl fun l _ => congrArg (dmg m c r l * gt m c r (hi l) * ·) ((at20_wb m ρ c (lane q) l).trans (slots_lane _ q)))))

/-- The arrays that the later steps leave alone. -/
theorem end_v30_0 : W22 m ρ c (Proc.devRef .tc main_v30_0) = W10 m ρ c (Proc.devRef .tc main_v30_0) :=
  (W22_of m ρ c main_v30_0 (by decide +kernel)).trans ((W21_of m ρ c main_v30_0 (by decide +kernel)).trans
    ((W20_of m ρ c main_v30_0 (by decide +kernel)).trans (keep19 m ρ c main_v30_0 (by decide +kernel))))
theorem end_v30_2 : W22 m ρ c (Proc.devRef .tc main_v30_2) = W10 m ρ c (Proc.devRef .tc main_v30_2) :=
  (W22_of m ρ c main_v30_2 (by decide +kernel)).trans ((W21_of m ρ c main_v30_2 (by decide +kernel)).trans
    ((W20_of m ρ c main_v30_2 (by decide +kernel)).trans (keep19 m ρ c main_v30_2 (by decide +kernel))))
theorem end_of (b : Ref sig .tc) (h : b ∉ hostOps3_W) (h' : ∀ w : Fin cfg2.W, Pipeline.arrRef spec2 w = b → (cfg2.win w).isOut = false) :
    W22 m ρ c (Proc.devRef .tc b) = V20 m ρ c b := (W22_of m ρ c b h).trans (W21_of m ρ c b h')

end Cert.MergeIdeal.Result

end
-- ==== Proof.MergeRef.lean ====
/-
  The merge of the two attentions' outputs by their gates, with its gradients, over the extended reals: what the
  reference leaves, element by element.
-/
module

public import proofs.«01_k».proof.Proof.MergeResult
public import proofs.«01_k».proof.Proof.Gen.MergeRefIdeal.Run
public import proofs.«01_k».proof.Proof.Gen.MergeRefIdeal.Read

@[expose] public section

set_option maxRecDepth 16384

noncomputable section

namespace Cert.MergeRefIdeal.Result

open Cert.MergeRefIdeal Cert.MergeRefIdeal.Read Cert.Rows Cert.Norm Idealize.ShloMosaic Idealize.ShloMosaic.TcCoe
open Idealize.ShloMosaic.Pointwise Idealize.ShloMosaic.StableHlo
open Cert.MergeIdeal.Result (sg lo hi gcol gated times dnorm timesT dgate)

variable (x0 : Vec Ideal S8192x1024 .f32) (x1 : Vec Ideal S1024 .f32) (x2 : Vec Ideal S1024x3488 .f32) (x3 : Vec Ideal S2048 .f32)
  (x4 x5 : Vec Ideal S8192x512 .f32) (x6 x7 : Vec Ideal S512x1024 .f32) (x8 : Vec Ideal S1024x1024 .f32) (x9 : Vec Ideal S1024 .f32)
  (x10 : Vec Ideal S8192x1024 .f32)

/-- The gates, -/
def gates (r : Fin 8192) (k : Fin 2048) : EReal :=
  sg ((∑ l : Fin 1024, normed (1 / 1024) (fun l => x0 (ix2 r l)) (fun l => x1 (ix1 l)) l * x2 (ix2 l (gcol k))) + x3 (ix1 k))
/-- an attention's output times its weight, -/
def part (y : Vec Ideal S8192x512 .f32) (w : Vec Ideal S512x1024 .f32) (r : Fin 8192) (l : Fin 1024) : EReal :=
  ∑ q : Fin 512, y (ix2 r q) * w (ix2 q l)
/-- the gated sum's product with the last weight, -/
def merged : Fin 8192 → Fin 1024 → EReal := times (gated (part x4 x6) (part x5 x7) (gates x0 x1 x2 x3)) (fun k l => x8 (ix2 k l))
/-- the gradient at it, and that at the gated sum. -/
def dmerged : Fin 8192 → Fin 1024 → EReal := dnorm (merged x0 x1 x2 x3 x4 x5 x6 x7 x8) (fun r l => x10 (ix2 r l)) (fun l => x9 (ix1 l))
def dsum : Fin 8192 → Fin 1024 → EReal := timesT (dmerged x0 x1 x2 x3 x4 x5 x6 x7 x8 x9 x10) (fun k l => x8 (ix2 k l))

variable (r : Fin 8192)

theorem ref_un (l : Fin 1024) : val_main_v12 (F := Ideal) x0 x1 (ix2 r l) = normed (1 / 1024) (fun l => x0 (ix2 r l)) (fun l => x1 (ix1 l)) l := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, ofBits_1024, ofBits_eps, div_1024,
    normed, rstd]

theorem ref_gates (k : Fin 2048) : val_main_v23 (F := Ideal) x0 x1 x2 x3 (ix2 r k) = gates x0 x1 x2 x3 r k := by
  pointwise [val_main_v23, val_main_v22, val_main_v21, val_main_v20, val_main_v19, val_main_v18, val_main_v17, val_main_v16, val_main_v15,
    val_main_v14, val_main_v13, val_main_cst_2, val_main_cst_3, ref_un, ofBits_one, EReal.coe_one, gates, gcol, sg]

theorem ref_pa (l : Fin 1024) : val_main_v27 (F := Ideal) x4 x6 (ix2 r l) = part x4 x6 r l := by
  pointwise [val_main_v27, part]
theorem ref_pb (l : Fin 1024) : val_main_v28 (F := Ideal) x5 x7 (ix2 r l) = part x5 x7 r l := by
  pointwise [val_main_v28, part]
theorem ref_lo (l : Fin 1024) : val_main_v29 (F := Ideal) x0 x1 x2 x3 (ix2 r l) = gates x0 x1 x2 x3 r (lo l) := by
  pointwise [val_main_v29, ref_gates, lo]
theorem ref_hi (l : Fin 1024) : val_main_v31 (F := Ideal) x0 x1 x2 x3 (ix2 r l) = gates x0 x1 x2 x3 r (hi l) := by
  pointwise [val_main_v31, ref_gates, hi]
theorem ref_gated (l : Fin 1024) : val_main_v33 (F := Ideal) x0 x1 x2 x3 x4 x5 x6 x7 (ix2 r l) = gated (part x4 x6) (part x5 x7) (gates x0 x1 x2 x3) r l := by
  pointwise [val_main_v33, val_main_v32, val_main_v30, ref_lo, ref_hi, ref_pa, ref_pb, gated]
theorem ref_merged (l : Fin 1024) : val_main_v34 (F := Ideal) x0 x1 x2 x3 x4 x5 x6 x7 x8 (ix2 r l) = merged x0 x1 x2 x3 x4 x5 x6 x7 x8 r l := by
  pointwise [val_main_v34, ref_gated, merged, times]

/-- The norm's argument and factor. -/
theorem ref_arg (z : Fin 1) : val_main_v41 (F := Ideal) x0 x1 x2 x3 x4 x5 x6 x7 x8 (ix2 r z)
    = (∑ l, merged x0 x1 x2 x3 x4 x5 x6 x7 x8 r l * merged x0 x1 x2 x3 x4 x5 x6 x7 x8 r l) * ((1 / 1024 : ℝ) : EReal) + (eps : EReal) := by
  pointwise [val_main_v41, val_main_v40, val_main_v39, val_main_v38, val_main_v37, val_main_v36, val_main_v35, val_main_cst_5, val_main_cst_6,
    val_main_cst_7, ref_merged, ofBits_1024, ofBits_eps, div_1024]
theorem ref_rstd (z : Fin 1) : val_main_v42 (F := Ideal) x0 x1 x2 x3 x4 x5 x6 x7 x8 (ix2 r z) = rstd (1 / 1024) (merged x0 x1 x2 x3 x4 x5 x6 x7 x8 r) := by
  pointwise [val_main_v42, ref_arg, rstd]

theorem ref_x1 (l : Fin 1024) : val_main_v51 (F := Ideal) x0 x1 x2 x3 x4 x5 x6 x7 x8 x9 (ix2 r l)
    = x0 (ix2 r l) + normed (1 / 1024) (merged x0 x1 x2 x3 x4 x5 x6 x7 x8 r) (fun l => x9 (ix1 l)) l := by
  pointwise [val_main_v51, val_main_v50, val_main_v49, val_main_v48, val_main_v47, val_main_v46, ref_merged, ref_rstd, normed]

/-- The factor of a row that comes from the mean square. -/
theorem ref_slope (l : Fin 1024) : val_main_v67 (F := Ideal) x0 x1 x2 x3 x4 x5 x6 x7 x8 x9 x10 (ix2 r l)
    = msPart (1 / 1024) (merged x0 x1 x2 x3 x4 x5 x6 x7 x8 r) (fun l => x10 (ix2 r l) * x9 (ix1 l)) := by
  pointwise [val_main_v67, val_main_v66, val_main_v65, val_main_v64, val_main_v63, val_main_v60, val_main_v59, val_main_v58, val_main_v56,
    val_main_v55, val_main_v48, val_main_v45, val_main_v44, val_main_v43, val_main_cst_8, val_main_cst_11, val_main_cst_12, val_main_cst_13,
    ref_rstd, ref_arg, ref_merged, ofBits_1024, ofBits_neg_half, div_1024, msPart, Fin.sum_univ_one]

variable {x0 x1 x2 x3 x4 x5 x6 x7 x8 x9 x10}

section
variable (h0 : ∀ i, IsReal (x0 i)) (h1 : ∀ i, IsReal (x1 i)) (h2 : ∀ i, IsReal (x2 i)) (h3 : ∀ i, IsReal (x3 i)) (h4 : ∀ i, IsReal (x4 i))
  (h5 : ∀ i, IsReal (x5 i)) (h6 : ∀ i, IsReal (x6 i)) (h7 : ∀ i, IsReal (x7 i)) (h8 : ∀ i, IsReal (x8 i)) (h9 : ∀ i, IsReal (x9 i))
  (h10 : ∀ i, IsReal (x10 i))

/-- At real arguments the gates and the merged rows are real. -/
theorem sg_real {z : EReal} (h : IsReal z) : IsReal (sg z) := by
  obtain ⟨a, rfl⟩ := h
  have hp : (1 + Real.exp (-a)) ≠ 0 := by positivity
  refine ⟨1 / (1 + Real.exp (-a)), ?_⟩
  unfold sg
  rw [← EReal.coe_neg, Ideal.exp_coe, ← EReal.coe_one, ← EReal.coe_add, Ideal.div_coe hp, ← EReal.coe_mul, one_mul]

include h0 h1 h2 h3 in
theorem gates_real (k : Fin 2048) : IsReal (gates x0 x1 x2 x3 r k) :=
  sg_real ((IsReal.sum _ fun l => (normed_real (by norm_num) (fun l => h0 (ix2 r l)) (fun l => h1 (ix1 l)) l).mul (h2 _)).add (h3 _))

theorem part_real {y : Vec Ideal S8192x512 .f32} {w : Vec Ideal S512x1024 .f32} (hy : ∀ i, IsReal (y i)) (hw : ∀ i, IsReal (w i)) (l : Fin 1024) :
    IsReal (part y w r l) := IsReal.sum _ fun q => (hy _).mul (hw _)

include h0 h1 h2 h3 h4 h5 h6 h7 h8
theorem merged_real (l : Fin 1024) : IsReal (merged x0 x1 x2 x3 x4 x5 x6 x7 x8 r l) :=
  IsReal.sum Finset.univ (f := fun k => gated (part x4 x6) (part x5 x7) (gates x0 x1 x2 x3) r k * x8 (ix2 k l)) fun k => (((gates_real r h0 h1 h2 h3 _).mul (part_real r h4 h6 k)).add ((gates_real r h0 h1 h2 h3 _).mul (part_real r h5 h7 k))).mul (h8 _)

include h9 h10
/-- The gradient at the merged rows; -/
theorem ref_dm (l : Fin 1024) : val_main_v71 (F := Ideal) x0 x1 x2 x3 x4 x5 x6 x7 x8 x9 x10 (ix2 r l)
    = dmerged x0 x1 x2 x3 x4 x5 x6 x7 x8 x9 x10 r l := by
  have h : val_main_v71 (F := Ideal) x0 x1 x2 x3 x4 x5 x6 x7 x8 x9 x10 (ix2 r l)
      = x10 (ix2 r l) * x9 (ix1 l) * rstd (1 / 1024) (merged x0 x1 x2 x3 x4 x5 x6 x7 x8 r)
        + merged x0 x1 x2 x3 x4 x5 x6 x7 x8 r l * val_main_v67 (F := Ideal) x0 x1 x2 x3 x4 x5 x6 x7 x8 x9 x10 (ix2 r l)
        + val_main_v67 (F := Ideal) x0 x1 x2 x3 x4 x5 x6 x7 x8 x9 x10 (ix2 r l) * merged x0 x1 x2 x3 x4 x5 x6 x7 x8 r l := by
    pointwise [val_main_v71, val_main_v70, val_main_v69, val_main_v68, val_main_v62, val_main_v61, val_main_v56, val_main_v55, val_main_v48,
      ref_rstd, ref_merged]
  rw [h, ref_slope]
  exact back_eq (by norm_num) (merged_real r h0 h1 h2 h3 h4 h5 h6 h7 h8) (fun l => (h10 (ix2 r l)).mul (h9 (ix1 l))) l

/-- at the gated sum; -/
theorem ref_dsum (l : Fin 1024) : val_main_v72 (F := Ideal) x0 x1 x2 x3 x4 x5 x6 x7 x8 x9 x10 (ix2 r l) = dsum x0 x1 x2 x3 x4 x5 x6 x7 x8 x9 x10 r l := by
  pointwise [val_main_v72, ref_dm _ h0 h1 h2 h3 h4 h5 h6 h7 h8 h9 h10, dsum, timesT]

/-- at the two parts; -/
theorem ref_dpa (l : Fin 1024) : val_main_v76 (F := Ideal) x0 x1 x2 x3 x4 x5 x6 x7 x8 x9 x10 (ix2 r l)
    = dsum x0 x1 x2 x3 x4 x5 x6 x7 x8 x9 x10 r l * gates x0 x1 x2 x3 r (lo l) := by
  rw [mul_comm]
  pointwise [val_main_v76, ref_dsum _ h0 h1 h2 h3 h4 h5 h6 h7 h8 h9 h10, ref_lo]
theorem ref_dpb (l : Fin 1024) : val_main_v73 (F := Ideal) x0 x1 x2 x3 x4 x5 x6 x7 x8 x9 x10 (ix2 r l)
    = dsum x0 x1 x2 x3 x4 x5 x6 x7 x8 x9 x10 r l * gates x0 x1 x2 x3 r (hi l) := by
  rw [mul_comm]
  pointwise [val_main_v73, ref_dsum _ h0 h1 h2 h3 h4 h5 h6 h7 h8 h9 h10, ref_hi]

/-- at the gates' arguments, in the two halves of the columns; -/
theorem ref_dza (l : Fin 1024) : val_main_v80 (F := Ideal) x0 x1 x2 x3 x4 x5 x6 x7 x8 x9 x10 (ix2 r (lo l))
    = dgate (dsum x0 x1 x2 x3 x4 x5 x6 x7 x8 x9 x10) (part x4 x6) (fun r l => gates x0 x1 x2 x3 r (lo l)) r l := by
  pointwise [val_main_v80, val_main_v79, val_main_v78, val_main_v77, val_main_v75, val_main_v74, val_main_v26, val_main_v25, val_main_v24,
    val_main_cst_4, val_main_cst_14, val_main_cst_15, ref_dsum _ h0 h1 h2 h3 h4 h5 h6 h7 h8 h9 h10, ref_gates, ref_pa, ref_pb, ofBits_one, EReal.coe_one]
  have hv : (lo l).val = l.val := Nat.zero_add _
  have he : ∀ h, (⟨(lo l).val, h⟩ : Fin 1024) = l := fun h => Fin.ext hv
  have hlt := l.isLt
  rw [dif_neg (by omega), dif_pos (by omega), zero_add, he]
  rfl
theorem ref_dzb (l : Fin 1024) : val_main_v80 (F := Ideal) x0 x1 x2 x3 x4 x5 x6 x7 x8 x9 x10 (ix2 r (hi l))
    = dgate (dsum x0 x1 x2 x3 x4 x5 x6 x7 x8 x9 x10) (part x5 x7) (fun r l => gates x0 x1 x2 x3 r (hi l)) r l := by
  pointwise [val_main_v80, val_main_v79, val_main_v78, val_main_v77, val_main_v75, val_main_v74, val_main_v26, val_main_v25, val_main_v24,
    val_main_cst_4, val_main_cst_14, val_main_cst_15, ref_dsum _ h0 h1 h2 h3 h4 h5 h6 h7 h8 h9 h10, ref_gates, ref_pa, ref_pb, ofBits_one, EReal.coe_one]
  have hv : (hi l).val = 1024 + l.val := rfl
  have he : ∀ h, (⟨(hi l).val - 1024, h⟩ : Fin 1024) = l := fun h => Fin.ext (by dsimp only; omega)
  have hlt := l.isLt
  rw [dif_pos (by omega), dif_neg (by omega), add_zero, he]
  rfl

/-- at the bias, -/
theorem ref_dba (z : Fin 1) (l : Fin 1024) : val_main_v98 (F := Ideal) x0 x1 x2 x3 x4 x5 x6 x7 x8 x9 x10 (ix2 z (lo l))
    = ∑ r, dgate (dsum x0 x1 x2 x3 x4 x5 x6 x7 x8 x9 x10) (part x4 x6) (fun r l => gates x0 x1 x2 x3 r (lo l)) r l := by
  simp only [← ref_dza _ h0 h1 h2 h3 h4 h5 h6 h7 h8 h9 h10]
  pointwise [val_main_v98, val_main_v83, val_main_v82, val_main_v81, val_main_cst_16, val_main_cst_17, Fin.sum_univ_one]
theorem ref_dbb (z : Fin 1) (l : Fin 1024) : val_main_v98 (F := Ideal) x0 x1 x2 x3 x4 x5 x6 x7 x8 x9 x10 (ix2 z (hi l))
    = ∑ r, dgate (dsum x0 x1 x2 x3 x4 x5 x6 x7 x8 x9 x10) (part x5 x7) (fun r l => gates x0 x1 x2 x3 r (hi l)) r l := by
  simp only [← ref_dzb _ h0 h1 h2 h3 h4 h5 h6 h7 h8 h9 h10]
  pointwise [val_main_v98, val_main_v83, val_main_v82, val_main_v81, val_main_cst_16, val_main_cst_17, Fin.sum_univ_one]

/-- and at the two attentions' outputs. -/
theorem ref_dya (q : Fin 512) : val_main_v84 (F := Ideal) x0 x1 x2 x3 x4 x5 x6 x7 x8 x9 x10 (ix2 r q)
    = ∑ l : Fin 1024, dsum x0 x1 x2 x3 x4 x5 x6 x7 x8 x9 x10 r l * gates x0 x1 x2 x3 r (lo l) * x6 (ix2 q l) := by
  pointwise [val_main_v84, ref_dpa _ h0 h1 h2 h3 h4 h5 h6 h7 h8 h9 h10]
theorem ref_dyb (q : Fin 512) : val_main_v85 (F := Ideal) x0 x1 x2 x3 x4 x5 x6 x7 x8 x9 x10 (ix2 r q)
    = ∑ l : Fin 1024, dsum x0 x1 x2 x3 x4 x5 x6 x7 x8 x9 x10 r l * gates x0 x1 x2 x3 r (hi l) * x7 (ix2 q l) := by
  pointwise [val_main_v85, ref_dpb _ h0 h1 h2 h3 h4 h5 h6 h7 h8 h9 h10]

end

/-- The gradient of the norm's gain. -/
theorem ref_dg (z : Fin 1) (l : Fin 1024) : val_main_v97 (F := Ideal) x0 x1 x2 x3 x4 x5 x6 x7 x8 x10 (ix2 z l)
    = ∑ r, x10 (ix2 r l) * (merged x0 x1 x2 x3 x4 x5 x6 x7 x8 r l * rstd (1 / 1024) (merged x0 x1 x2 x3 x4 x5 x6 x7 x8 r)) := by
  simp only [mul_comm (x10 (ix2 _ l))]
  pointwise [val_main_v97, val_main_v57, val_main_v54, val_main_v53, val_main_v52, val_main_v47, val_main_v46, val_main_cst_9, val_main_cst_10,
    ref_rstd, ref_merged, Fin.sum_univ_one]

end Cert.MergeRefIdeal.Result

end
-- ==== Proof.MergeClaim.lean ====
/-
  The merge of the two attentions' outputs by their gates, with its gradients: the claims, assembled.
-/
module

public import proofs.«01_k».proof.Defs
public import proofs.«01_k».proof.Proof.MergeRef
public import proofs.«01_k».proof.Proof.Gen.Merge.Frame
public import proofs.«01_k».proof.Proof.Gen.MergeIdeal.Frame

@[expose] public section

set_option maxRecDepth 16384

noncomputable section

namespace Cert.Proof.Merge

open Idealize.ShloMosaic Idealize.ShloMosaic.TcCoe Idealize.ShloMosaic.Pointwise Idealize.SL.Sem

/-- The shapes of the precondition's broadcasts fit. -/
theorem preFacts : Cert.Pre_merge_finite.Facts where
  bcast_S_S8192x1024 := by decide
  bcast_S_S1024 := by decide
  bcast_S_S1024x3488 := by decide
  bcast_S_S2048 := by decide
  bcast_S_S8192x512 := by decide
  bcast_S_S512x1024 := by decide
  bcast_S_S1024x1024 := by decide

theorem frame : Cert.quiescent_Merge (hMerge := Cert.Merge.Gen.facts) := fun m ρ _ => Cert.Merge.Gen.frame m ρ

theorem frameIdeal : Cert.quiescent_MergeIdeal (hMergeIdeal := Cert.MergeIdeal.Gen.facts) := fun m ρ _ => Cert.MergeIdeal.Gen.frame m ρ

theorem frameIdealPre : Cert.quiescent_MergeIdeal_pre_merge_finite (hMergeIdeal := Cert.MergeIdeal.Gen.facts) (hPre_merge_finite := preFacts) :=
  fun m ρ _ => Cert.MergeIdeal.Gen.frame m ρ

/-- The reference is host operations alone: it has no semaphores. -/
theorem frameRef : Cert.quiescent_MergeRefIdeal (hMergeRefIdeal := Cert.MergeRefIdeal.Gen.facts) := fun m ρ _ =>
  (θ_run Cert.MergeRefIdeal.defs _ _).mono (fun r h => ⟨fun c => (h c).2.2.2.2.2.2.2.2.2.2.2.2.2.2.2, sem_eq_zero_of_no_sems (by decide) r.2⟩)
    (Cert.MergeRefIdeal.Value.run m ρ)

theorem frameRefPre : Cert.quiescent_MergeRefIdeal_pre_merge_finite (hMergeRefIdeal := Cert.MergeRefIdeal.Gen.facts) (hPre_merge_finite := preFacts) :=
  fun m ρ _ => frameRef m ρ trivial

/-- A column of the doubled width lies in the left half or the right one. -/
theorem lo_or_hi (k : Fin 2048) : (∃ l, k = Cert.MergeIdeal.Result.lo l) ∨ ∃ l, k = Cert.MergeIdeal.Result.hi l := by
  by_cases h : k.val < 1024
  · exact .inl ⟨⟨k.val, h⟩, Fin.ext (Nat.zero_add _).symm⟩
  · exact .inr ⟨⟨k.val - 1024, by omega⟩, Fin.ext (by show k.val = 1024 + (k.val - 1024); omega)⟩

set_option maxHeartbeats 2000000 in
open Cert.MergeIdeal.Gen (W22 mem_uc) in
open Cert.MergeIdeal.Result in
open Cert.MergeRefIdeal.Result in
/-- Over the extended reals the forward calls' results and the gradients are the reference's, where all arguments are real. -/
theorem value : Cert.algebraic_MergeIdeal_MergeRefIdeal_pre_merge_finite (hMergeIdeal := Cert.MergeIdeal.Gen.facts)
    (hMergeRefIdeal := Cert.MergeRefIdeal.Gen.facts) (hPre_merge_finite := preFacts) := fun m g m' g' hpre hag => by
  refine ⟨fun c => W22 m g c (Proc.devRef .tc Cert.MergeIdeal.main_v30_0), fun c => W22 m g c (Proc.devRef .tc Cert.MergeIdeal.main_v30_2), fun c => W22 m g c (Proc.devRef .tc Cert.MergeIdeal.main_v49_0), fun c => W22 m g c (Proc.devRef .tc Cert.MergeIdeal.main_v49_1), fun c => W22 m g c (Proc.devRef .tc Cert.MergeIdeal.main_v49_2), fun c => W22 m g c (Proc.devRef .tc Cert.MergeIdeal.main_v49_3), fun c => W22 m g c (Proc.devRef .tc Cert.MergeIdeal.main_v49_4), fun c => W22 m g c (Proc.devRef .tc Cert.MergeIdeal.main_v50_0), fun c => W22 m g c (Proc.devRef .tc Cert.MergeIdeal.main_v50_1), fun c => W22 m g c (Proc.devRef .tc Cert.MergeIdeal.main_v50_2), fun c => W22 m g c (Proc.devRef .tc Cert.MergeIdeal.main_v50_3), fun c => W22 m g c (Proc.devRef .tc Cert.MergeIdeal.main_v53), fun c => W22 m g c (Proc.devRef .tc Cert.MergeIdeal.main_v56), fun c => W22 m g c (Proc.devRef .tc Cert.MergeIdeal.main_v50_6), fun c => W22 m g c (Proc.devRef .tc Cert.MergeIdeal.main_v50_7), ?_, ?_⟩
  · exact (θ_run Cert.MergeIdeal.defs _ _).mono (fun r h c => ⟨h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), h.1 c _ (mem_uc _ (by decide)), args m g c (h.1 c)⟩) (run m g)
  refine (θ_run Cert.MergeRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2.1.trans ?_, (h c).2.2.2.2.2.2.2.2.2.2.2.2.2.1.trans ?_, (h c).2.2.2.2.2.2.2.2.2.2.2.2.2.2.1.trans ?_, (h c).2.2.2.2.2.2.2.2.2.2.2.2.2.2.2⟩)
    (Cert.MergeRefIdeal.Value.run m' g')
  all_goals
    obtain ⟨a0, a1, a2, a3, a4, a5, a6, a7, a8, a9, a10⟩ := hag c
    obtain ⟨p0, p1, p2, p3, p4, p5, p6, p7, p8, p9, p10⟩ := hpre c
    have h0 := fun i => Cert.Norm.isReal_of_abs_lt (congrFun p0 i)
    have h1 := fun i => Cert.Norm.isReal_of_abs_lt (congrFun p1 i)
    have h2 := fun i => Cert.Norm.isReal_of_abs_lt (congrFun p2 i)
    have h3 := fun i => Cert.Norm.isReal_of_abs_lt (congrFun p3 i)
    have h4 := fun i => Cert.Norm.isReal_of_abs_lt (congrFun p4 i)
    have h5 := fun i => Cert.Norm.isReal_of_abs_lt (congrFun p5 i)
    have h6 := fun i => Cert.Norm.isReal_of_abs_lt (congrFun p6 i)
    have h7 := fun i => Cert.Norm.isReal_of_abs_lt (congrFun p7 i)
    have h8 := fun i => Cert.Norm.isReal_of_abs_lt (congrFun p8 i)
    have h9 := fun i => Cert.Norm.isReal_of_abs_lt (congrFun p9 i)
    have h10 := fun i => Cert.Norm.isReal_of_abs_lt (congrFun p10 i)
  · rw [Cert.MergeRefIdeal.Read.val_main_v86_eq, a0, a1]
    refine funext fun i => ?_
    rw [eq_ix2 i]
    exact (ref_un _ _ _ _).trans ((congrFun (end_v30_0 m g c) _).trans (res_u m g c _ _)).symm
  · rw [Cert.MergeRefIdeal.Read.val_main_v87_eq, a0, a1, a2, a3]
    refine funext fun i => ?_
    rw [eq_ix2 i]
    exact (ref_gates _ _ _ _ _ _).trans ((congrFun (end_v30_2 m g c) _).trans (res_gate m g c _ _)).symm
  · rw [Cert.MergeRefIdeal.Read.val_main_v88_eq, a4, a6]
    refine funext fun i => ?_
    rw [eq_ix2 i]
    exact (ref_pa _ _ _ _).trans ((congrFun (end_of m g c _ (by decide +kernel) (by decide +kernel)) _).trans (res_pa m g c _ _)).symm
  · rw [Cert.MergeRefIdeal.Read.val_main_v89_eq, a5, a7]
    refine funext fun i => ?_
    rw [eq_ix2 i]
    exact (ref_pb _ _ _ _).trans ((congrFun (end_of m g c _ (by decide +kernel) (by decide +kernel)) _).trans (res_pb m g c _ _)).symm
  · rw [Cert.MergeRefIdeal.Read.val_main_v90_eq, a0, a1, a2, a3, a4, a5, a6, a7]
    refine funext fun i => ?_
    rw [eq_ix2 i]
    exact (ref_gated _ _ _ _ _ _ _ _ _ _).trans ((congrFun (end_of m g c _ (by decide +kernel) (by decide +kernel)) _).trans (res_mg m g c _ _)).symm
  · rw [Cert.MergeRefIdeal.Read.val_main_v34_eq, a0, a1, a2, a3, a4, a5, a6, a7, a8]
    refine funext fun i => ?_
    rw [eq_ix2 i]
    exact (ref_merged _ _ _ _ _ _ _ _ _ _ _).trans ((congrFun (end_of m g c _ (by decide +kernel) (by decide +kernel)) _).trans (res_m m g c _ _)).symm
  · rw [Cert.MergeRefIdeal.Read.val_main_v51_eq, a0, a1, a2, a3, a4, a5, a6, a7, a8, a9]
    refine funext fun i => ?_
    rw [eq_ix2 i]
    exact (ref_x1 _ _ _ _ _ _ _ _ _ _ _ _).trans ((congrFun (end_of m g c _ (by decide +kernel) (by decide +kernel)) _).trans (res_x1 m g c _ _)).symm
  · rw [Cert.MergeRefIdeal.Read.val_main_v91_eq, a0, a1, a2, a3, a4, a5, a6, a7, a8, a9, a10]
    refine funext fun i => ?_
    rw [eq_ix2 i]
    exact (ref_dm _ h0 h1 h2 h3 h4 h5 h6 h7 h8 h9 h10 _).trans ((congrFun (Cert.MergeIdeal.Gen.W22_of m g c _ (by decide +kernel)) _).trans (res_dm m g c _ _)).symm
  · rw [Cert.MergeRefIdeal.Read.val_main_v92_eq, a0, a1, a2, a3, a4, a5, a6, a7, a8, a9, a10]
    refine funext fun i => ?_
    rw [eq_ix2 i]
    exact (ref_dpa _ h0 h1 h2 h3 h4 h5 h6 h7 h8 h9 h10 _).trans ((congrFun (Cert.MergeIdeal.Gen.W22_of m g c _ (by decide +kernel)) _).trans (res_dpa m g c _ _)).symm
  · rw [Cert.MergeRefIdeal.Read.val_main_v93_eq, a0, a1, a2, a3, a4, a5, a6, a7, a8, a9, a10]
    refine funext fun i => ?_
    rw [eq_ix2 i]
    exact (ref_dpb _ h0 h1 h2 h3 h4 h5 h6 h7 h8 h9 h10 _).trans ((congrFun (Cert.MergeIdeal.Gen.W22_of m g c _ (by decide +kernel)) _).trans (res_dpb m g c _ _)).symm
  · rw [Cert.MergeRefIdeal.Read.val_main_v94_eq, a0, a1, a2, a3, a4, a5, a6, a7, a8, a9, a10]
    refine funext fun i => ?_
    rw [eq_ix2 i]
    obtain ⟨l, hl⟩ | ⟨l, hl⟩ := lo_or_hi (i 1)
    · rw [hl]
      exact (ref_dza _ h0 h1 h2 h3 h4 h5 h6 h7 h8 h9 h10 l).trans ((congrFun (Cert.MergeIdeal.Gen.W22_of m g c _ (by decide +kernel)) _).trans (res_dza m g c _ l)).symm
    · rw [hl]
      exact (ref_dzb _ h0 h1 h2 h3 h4 h5 h6 h7 h8 h9 h10 l).trans ((congrFun (Cert.MergeIdeal.Gen.W22_of m g c _ (by decide +kernel)) _).trans (res_dzb m g c _ l)).symm
  · rw [Cert.MergeRefIdeal.Read.val_main_v95_eq, a0, a1, a2, a3, a4, a5, a6, a7, a8, a9, a10]
    refine funext fun i => ?_
    rw [eq_ix2 i]
    exact (ref_dya _ h0 h1 h2 h3 h4 h5 h6 h7 h8 h9 h10 _).trans (res_dya m g c _ _).symm
  · rw [Cert.MergeRefIdeal.Read.val_main_v96_eq, a0, a1, a2, a3, a4, a5, a6, a7, a8, a9, a10]
    refine funext fun i => ?_
    rw [eq_ix2 i]
    exact (ref_dyb _ h0 h1 h2 h3 h4 h5 h6 h7 h8 h9 h10 _).trans (res_dyb m g c _ _).symm
  · rw [Cert.MergeRefIdeal.Read.val_main_v97_eq, a0, a1, a2, a3, a4, a5, a6, a7, a8, a10]
    refine funext fun i => ?_
    rw [eq_ix2 i]
    exact (ref_dg _ _).trans ((congrFun (Cert.MergeIdeal.Gen.W22_of m g c _ (by decide +kernel)) _).trans (res_dg m g c _ _)).symm
  · rw [Cert.MergeRefIdeal.Read.val_main_v98_eq, a0, a1, a2, a3, a4, a5, a6, a7, a8, a9, a10]
    refine funext fun i => ?_
    rw [eq_ix2 i]
    obtain ⟨l, hl⟩ | ⟨l, hl⟩ := lo_or_hi (i 1)
    · rw [hl]
      exact (ref_dba h0 h1 h2 h3 h4 h5 h6 h7 h8 h9 h10 _ l).trans ((congrFun (Cert.MergeIdeal.Gen.W22_of m g c _ (by decide +kernel)) _).trans (res_dba m g c _ l)).symm
    · rw [hl]
      exact (ref_dbb h0 h1 h2 h3 h4 h5 h6 h7 h8 h9 h10 _ l).trans ((congrFun (Cert.MergeIdeal.Gen.W22_of m g c _ (by decide +kernel)) _).trans (res_dbb m g c _ l)).symm

end Cert.Proof.Merge

end

end
-- ==== Proof.MidTile.lean ====
/-
  A tile of rows of the latent queries: the rotation's gradient lane by lane, the product and the norm's gradient.
-/
module

public import proofs.«01_k».proof.Proof.Tiles
public import proofs.«01_k».proof.Proof.Norm
public import proofs.«01_k».proof.Proof.Gen.MidIdeal.Frame
public import Idealize.ShloMosaic.Lib.Tactic

@[expose] public section

set_option maxRecDepth 16384

noncomputable section

namespace Cert.MidIdeal.Result

open Cert.MidIdeal Cert.MidIdeal.Gen Cert.Rows Cert.Tiles Cert.Norm Idealize.ShloMosaic Idealize.ShloMosaic.TcCoe Idealize.SL.Sem
open Idealize.ShloMosaic.Pointwise

/-- The lane 64 places on in a head's 128 lanes, and the sign with which the rotation puts one half in the other. -/
def other (p : ℕ) : ℕ := p / 128 * 128 + (p % 128 + 64) % 128
def sgn (p : ℕ) : EReal := if p % 128 < 64 then -1 else 1

theorem other_lt (p : Fin 1024) : other p < 1024 := by unfold other; omega

/-- A tile's rotated gradient, lane by lane. -/
def tileQ (x : Vec Ideal S512x1024 .f32) (cc ss : Vec Ideal S512x128 .f32) (j : Fin 512) (p : Fin 1024) : EReal :=
  x (ix2 j p) * cc (ix2 j ⟨p % 128, by omega⟩) - sgn p * (x (ix2 j ⟨other p, other_lt p⟩) * ss (ix2 j ⟨other p % 128, by omega⟩))

theorem sgn_sel (l : Fin 128) : Scalar.select (α := EReal) (IntOp.cmpi CmpIPredicate.slt (BitVec.ofNat 32 l.val) 64#32) (Ideal.ofBits FTy.f32 3212836864#32) 1 = sgn l := by
  have h : ∀ l : Fin 128, IntOp.cmpi CmpIPredicate.slt (BitVec.ofNat 32 l.val) 64#32 = if l.val % 128 < 64 then 1#1 else 0#1 := by decide +kernel
  rw [h l]
  unfold sgn
  split
  · show Ideal.ofBits FTy.f32 3212836864#32 = -1
    simp [Ideal.ofBits, Ideal.ieee]
    rw [← EReal.coe_mul, ← EReal.coe_one]
    norm_num
  · rfl

theorem pay_rot (cc ss x : Vec Ideal S512x128 .f32) (j : Fin 512) (l : Fin 128) :
    k0_pay101 (F := Ideal) (k0_pay5 cc) (k0_pay6 ss) x (ix2 j l)
      = x (ix2 j l) * cc (ix2 j l) - sgn l * (x (ix2 j ⟨(l + 128 - 64) % 128, Nat.mod_lt _ (by decide)⟩) * ss (ix2 j ⟨(l + 128 - 64) % 128, Nat.mod_lt _ (by decide)⟩)) := by
  pointwise [k0_pay101, k0_pay5, k0_pay6, sgn_sel]

/-- A head's lanes of it, as the body computes them, -/
theorem rot_cols (x : Vec Ideal S512x1024 .f32) (cc ss : Vec Ideal S512x128 .f32) (h : ℕ) (hin) (hh : h < 8) (j : Fin 512) (l : Fin 128) :
    k0_pay101 (F := Ideal) (k0_pay5 cc) (k0_pay6 ss) (View.ld x (Rect.unit (s := S512x1024) ![0, 128 * h] ![512, 128] hin)) (ix2 j l)
      = tileQ x cc ss j (⟨128 * h + l, by omega⟩ : Fin 1024) := by
  have e1 : (128 * h + l.val) % 128 = l.val := by omega
  have e2 : other (128 * h + l.val) = 128 * h + (l.val + 128 - 64) % 128 := by unfold other; omega
  have e4 : sgn (128 * h + l.val) = sgn l.val := by unfold sgn; rw [e1, Nat.mod_eq_of_lt l.isLt]
  rw [pay_rot, ld_cols x hin j l (by omega), ld_cols x hin j _ (by omega)]
  unfold tileQ
  have e5 : (128 * h + (l.val + 128 - 64) % 128) % 128 = (l.val + 128 - 64) % 128 := by omega
  simp only [e1, e2, e4, e5]

/-- The eight stores of the heads' lanes, the last one first; -/
abbrev storesQ (x : Vec Ideal S512x1024 .f32) (cc ss : Vec Ideal S512x128 .f32) : List (View.Piece (Elt Ideal) S512x1024 .bf16) :=
    [⟨Rect.unit ![0, 896] ![512, 128] inb_S512x1024_S512x128_0_896, k0_pay112 (k0_pay111 (k0_pay5 cc) (k0_pay6 ss) (View.ld x (Rect.unit ![0, 896] ![512, 128] inb_S512x1024_S512x128_0_896)))⟩,
      ⟨Rect.unit ![0, 768] ![512, 128] inb_S512x1024_S512x128_0_768, k0_pay110 (k0_pay5 cc) (k0_pay6 ss) (View.ld x (Rect.unit ![0, 768] ![512, 128] inb_S512x1024_S512x128_0_768))⟩,
      ⟨Rect.unit ![0, 640] ![512, 128] inb_S512x1024_S512x128_0_640, k0_pay109 (k0_pay107 (k0_pay5 cc) (View.ld x (Rect.unit ![0, 640] ![512, 128] inb_S512x1024_S512x128_0_640)))
        (k0_pay108 (k0_pay6 ss) (View.ld x (Rect.unit ![0, 640] ![512, 128] inb_S512x1024_S512x128_0_640))) (iota Kind.tc S512x128 32 [1] iota_S512x128_d1_w32)⟩,
      ⟨Rect.unit ![0, 512] ![512, 128] inb_S512x1024_S512x128_0_512, k0_pay105 (k0_pay5 cc) (k0_pay6 ss) (View.ld x (Rect.unit ![0, 512] ![512, 128] inb_S512x1024_S512x128_0_512))⟩,
      ⟨Rect.unit ![0, 384] ![512, 128] inb_S512x1024_S512x128_0_384, k0_pay104 (k0_pay5 cc) (k0_pay6 ss) (View.ld x (Rect.unit ![0, 384] ![512, 128] inb_S512x1024_S512x128_0_384))⟩,
      ⟨Rect.unit ![0, 256] ![512, 128] inb_S512x1024_S512x128_0_256, k0_pay103 (k0_pay102 (k0_pay5 cc) (k0_pay6 ss) (View.ld x (Rect.unit ![0, 256] ![512, 128] inb_S512x1024_S512x128_0_256)))⟩,
      ⟨Rect.unit ![0, 128] ![512, 128] inb_S512x1024_S512x128_0_128, k0_pay101 (k0_pay5 cc) (k0_pay6 ss) (View.ld x (Rect.unit ![0, 128] ![512, 128] inb_S512x1024_S512x128_0_128))⟩,
      ⟨Rect.unit ![0, 0] ![512, 128] inb_S512x1024_S512x128_0_0, k0_pay100 (k0_pay98 (k0_pay5 cc) (View.ld x (Rect.unit ![0, 0] ![512, 128] inb_S512x1024_S512x128_0_0)))
        (k0_pay99 (k0_pay6 ss) (View.ld x (Rect.unit ![0, 0] ![512, 128] inb_S512x1024_S512x128_0_0))) (iota Kind.tc S512x128 32 [1] iota_S512x128_d1_w32)⟩]

theorem cover_q (x : Vec Ideal S512x1024 .f32) (cc ss : Vec Ideal S512x128 .f32) (y : S512x1024.Idx) : ∃ p ∈ storesQ x cc ss, y ∈ p.1.set :=
  View.cover_of_tiledL (s := S512x1024) _ ![512, 128] (by sl_kernel_rfl) y

/-- all of them put together. -/
theorem canon_q (x : Vec Ideal S512x1024 .f32) (cc ss : Vec Ideal S512x128 .f32) : View.canon (Val := Elt Ideal) (storesQ x cc ss)
    = fun y : S512x1024.Idx => tileQ x cc ss (y 0) (y 1) := by
  funext y
  refine View.canon_apply_of_pieces (Val := Elt Ideal) (e := .bf16) (fun y : S512x1024.Idx => tileQ x cc ss (y 0) (y 1)) _ ?_ y (cover_q x cc ss y)
  have hp := fun h hin hh => piece_cols (a := 512) (b := 1024) (n := 128) (off := 128 * h) (tileQ x cc ss) _ hin (by omega) (rot_cols x cc ss h hin hh)
  refine List.forall_mem_cons.mpr ⟨hp 7 (by decide) (by decide), List.forall_mem_cons.mpr ⟨hp 6 (by decide) (by decide), List.forall_mem_cons.mpr ⟨hp 5 (by decide) (by decide),
    List.forall_mem_cons.mpr ⟨hp 4 (by decide) (by decide), List.forall_mem_cons.mpr ⟨hp 3 (by decide) (by decide), List.forall_mem_cons.mpr ⟨hp 2 (by decide) (by decide),
    List.forall_mem_cons.mpr ⟨hp 1 (by decide) (by decide), List.forall_mem_cons.mpr ⟨hp 0 (by decide) (by decide), fun _ h => absurd h List.not_mem_nil⟩⟩⟩⟩⟩⟩⟩⟩

theorem named_rank : Named.named (F := Ideal) (φ := .f32) κ "inv_rank" 992651947#32 = ((1 / 384 : ℝ) : EReal) :=
  (IdealRules.named_const.ideal_named_scalar _ _ _ _ rfl).trans (by norm_num)

/-- An element of the product of a tile with the weight's transpose. -/
def tileN (q : Vec Ideal S512x1024 .bf16) (w : Vec Ideal S384x1024 .bf16) (j : Fin 512) (l : Fin 384) : EReal :=
  ∑ p : Fin 1024, q (ix2 j p) * w (ix2 l p)

theorem pay_dot (q : Vec Ideal S512x1024 .bf16) (w : Vec Ideal S384x1024 .bf16) (j : Fin 512) (l : Fin 384) :
    k0_pay113 (F := Ideal) q w (ix2 j l) = tileN q w j l := by
  pointwise [k0_pay113, tileN]

theorem pay_rstd (x : Vec Ideal S512x384 .f32) (j : Fin 512) (z : Fin 1) :
    k0_pay115 (F := Ideal) x (ix2 j z) = rstd (1 / 384) fun l : Fin 384 => x (ix2 j l) := by
  pointwise [k0_pay115, k0_pay114, ofBits_eps, rstd, named_rank]

theorem pay_normed (x : Vec Ideal S512x384 .f32) (j : Fin 512) (l : Fin 384) :
    k0_pay116 (F := Ideal) x (ix2 j l) = x (ix2 j l) * rstd (1 / 384) fun l : Fin 384 => x (ix2 j l) := by
  pointwise [k0_pay116, k0_pay114, pay_rstd]

/-- The norm's gradient at a tile's rows, -/
theorem pay_back (q : Vec Ideal S512x1024 .bf16) (w : Vec Ideal S384x1024 .bf16) (x : Vec Ideal S512x384 .f32) (g : Vec Ideal S1x384 .f32)
    (j : Fin 512) (l : Fin 384) : k0_pay118 (F := Ideal) q w x g (ix2 j l)
      = back (1 / 384) (fun l => x (ix2 j l)) (fun l => tileN q w j l * g (ix2 0 l)) l := by
  pointwise [k0_pay118, pay_dot, pay_normed, pay_rstd, named_rank, back]

/-- and the tile's part of the gain's gradient, over what was there. -/
theorem pay_gain (q : Vec Ideal S512x1024 .bf16) (w : Vec Ideal S384x1024 .bf16) (x : Vec Ideal S512x384 .f32) (o : Vec Ideal S1x384 .f32)
    (z : Fin 1) (l : Fin 384) : k0_pay120 (F := Ideal) (k0_pay117 q w x) o (ix2 z l)
      = o (ix2 z l) + ∑ j : Fin 512, tileN q w j l * (x (ix2 j l) * rstd (1 / 384) fun l : Fin 384 => x (ix2 j l)) := by
  pointwise [k0_pay120, k0_pay117, pay_dot, pay_normed]

theorem pay_zero (z : Fin 1) (l : Fin 384) : k0_pay119 (F := Ideal) (ix2 z l) = 0 := by
  pointwise [k0_pay119]

end Cert.MidIdeal.Result

end
-- ==== Proof.MidBlock.lean ====
/-
  The call between the attentions' gradients and the projections' gradients: what a tile of rows leaves in three of its results.
-/
module

public import proofs.«01_k».proof.Proof.MidTile
public import proofs.«01_k».proof.Proof.Host
public import Idealize.ShloMosaic.Lib.Tactic
public import Idealize.ShloMosaic.Lib.Pipeline.ReadBack

@[expose] public section

set_option maxRecDepth 16384

noncomputable section

namespace Cert.MidIdeal.Result

open Cert.MidIdeal Cert.MidIdeal.Gen Cert.Rows Cert.Tiles Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ)

/-- What the call's blocks make of the rotated gradient at a point. -/
def blkQ (c : Dev nD) (t : Fin cfg0.N) : Vec Ideal S512x1024 .bf16 := fun y => tileQ (iblk m c 4 t) (iblk m c 16 t) (iblk m c 17 t) (y 0) (y 1)

/-- The latent queries' columns of a block of all columns. -/
def latent (x : Vec Ideal S512x2304 .f32) : Vec Ideal S512x384 .f32 := View.ld x (Rect.unit ![0, 1536] ![512, 384] inb_S512x2304_S512x384_0_1536)

theorem read_q (c : Dev nD) (t : Fin cfg0.N) :
    (ms0_19 t).view.readCov (storesQ (iblk m c 4 t) (iblk m c 16 t) (iblk m c 17 t)) (Rect.unit ![0, 0] ![512, 1024] inb_S512x1024_S512x1024_0_0).toLoadRect = blkQ m c t := by
  rw [View.readCov_eq_canon_ld _ _ _ (cover_q _ _ _), canon_q]
  exact ld_all _ _

/-- After any point the second result's block is that. -/
theorem outs_q (c : Dev nD) (t : Fin cfg0.N) : (outsAt0 m c t.val t.isLt).2.1 = blkQ m c t := by
  by_cases h : t.val % 16 = 0
  · rw [outsAt0_A m c t h h h h]
    dsimp only
    unfold out0_A_19
    rw [View.read_writes_eq_canon _ _ _ (fun _ => cover0_A_19 ..)]
    unfold kernelRun0_A
    dsimp only
    sl_unfold_words
    simp only [View.readAt_eq_ld, (hs0_0 _).read_unread, (hs0_4 _).read_unread, (hs0_9 _).read_unread, (hs0_11 _).read_unread, (hs0_16 _).read_unread, (hs0_17 _).read_unread, ld_all]
    exact canon_q _ _ _
  · rw [outsAt0_B m c t h h h h]
    dsimp only
    unfold out0_B_19
    rw [View.read_writes_eq_canon _ _ _ (fun _ => cover0_B_19 ..)]
    unfold kernelRun0_B
    dsimp only
    sl_unfold_words
    simp only [View.readAt_eq_ld, (hs0_0 _).read_unread, (hs0_4 _).read_unread, (hs0_9 _).read_unread, (hs0_11 _).read_unread, (hs0_16 _).read_unread, (hs0_17 _).read_unread, ld_all]
    exact canon_q _ _ _

/-- After the first point the gain's gradient is the first tile's part over zeros, -/
theorem outs_g_zero (c : Dev nD) (h : 0 < cfg0.N) : (outsAt0 m c 0 h).2.2.2.2.2.2.1
    = k0_pay120 (k0_pay117 (blkQ m c ⟨0, h⟩) (iblk m c 11 ⟨0, h⟩) (latent (iblk m c 0 ⟨0, h⟩))) (k0_pay119 (F := Ideal)) := by
  refine (congrArg (fun o => o.2.2.2.2.2.2.1) (outsAt0_A m c ⟨0, h⟩ (Nat.zero_mod _) (Nat.zero_mod _) (Nat.zero_mod _) (Nat.zero_mod _))).trans ?_
  dsimp only
  unfold out0_A_24
  rw [View.read_writes_eq_canon _ _ _ (fun _ => cover0_A_24 ..)]
  unfold kernelRun0_A
  dsimp only
  sl_unfold_words
  rw [View.canon_cons_unit_zero hz, View.readCov_unit_zero _ hz]
  simp only [View.readAt_eq_ld, (hs0_0 _).read_unread, (hs0_4 _).read_unread, (hs0_9 _).read_unread, (hs0_11 _).read_unread, (hs0_16 _).read_unread, (hs0_17 _).read_unread, ld_all]
  rw [read_q m c ⟨0, h⟩]
  rfl

/-- and after a later point that tile's part over what was there. -/
theorem outs_g_succ (c : Dev nD) (n : ℕ) (h : n + 1 < cfg0.N) : (outsAt0 m c (n + 1) h).2.2.2.2.2.2.1
    = k0_pay120 (k0_pay117 (blkQ m c ⟨n + 1, h⟩) (iblk m c 11 ⟨n + 1, h⟩) (latent (iblk m c 0 ⟨n + 1, h⟩)))
        (outsAt0 m c n (Nat.lt_of_succ_lt h)).2.2.2.2.2.2.1 := by
  have hN : cfg0.N = 16 := N_0
  have hB : ¬(⟨n + 1, h⟩ : Fin cfg0.N).val % 16 = 0 := by dsimp only; omega
  refine (congrArg (fun o => o.2.2.2.2.2.2.1) (outsAt0_B m c ⟨n + 1, h⟩ hB hB hB hB)).trans ?_
  dsimp only
  unfold out0_B_24
  rw [View.read_writes_eq_canon _ _ _ (fun _ => cover0_B_24 ..)]
  unfold kernelRun0_B
  dsimp only
  sl_unfold_words
  rw [View.canon_unit_zero hz]
  simp only [View.readAt_eq_ld, (hs0_0 _).read_unread, (hs0_4 _).read_unread, (hs0_9 _).read_unread, (hs0_11 _).read_unread, (hs0_16 _).read_unread, (hs0_17 _).read_unread, (hs0_24 _).read_unread, ld_all]
  rw [read_q m c ⟨n + 1, h⟩]
  rfl

/-- The latent queries' columns of the first result's block after any point. -/
theorem canon_latent (j : Fin 512) (l : Fin 384) (hi₁ hi₂ hi₃) (P₁ P₂ P₃) (L : List (View.Piece (Elt Ideal) S512x2304 .bf16)) :
    View.canon (⟨Rect.unit (s := S512x2304) ![0, 1920] ![512, 256] hi₁, P₁⟩ :: ⟨Rect.unit (s := S512x2304) ![0, 2176] ![512, 128] hi₂, P₂⟩
      :: ⟨Rect.unit (s := S512x2304) ![0, 1536] ![512, 384] hi₃, P₃⟩ :: L) (ix2 j ⟨1536 + l, by omega⟩) = P₃ (ix2 j l) := by
  have e : (Rect.unit (s := S512x2304) ![0, 1536] ![512, 384] hi₃).emb (ix2 j l) = ix2 j ⟨1536 + l, by omega⟩ := by
    funext i
    refine Fin.ext ?_
    match i with
    | ⟨0, _⟩ => show 0 + 1 * j.val = j.val; omega
    | ⟨1, _⟩ => show 1536 + 1 * l.val = 1536 + l.val; omega
  refine (View.canon_cons_of_not_mem _ _ fun h => ?_).trans ((View.canon_cons_of_not_mem _ _ fun h => ?_).trans ((congrArg _ e.symm).trans
    (View.canon_cons_emb (Rect.unit (s := S512x2304) ![0, 1536] ![512, 384] hi₃) P₃ L (ix2 j l))))
  · have h1 : 1920 ≤ 1536 + l.val := ((Rect.mem_set_unit (inb := hi₁) (i := ix2 j ⟨1536 + l, by omega⟩)).mp h (1 : Fin 2)).1
    omega
  · have h1 : 2176 ≤ 1536 + l.val := ((Rect.mem_set_unit (inb := hi₂) (i := ix2 j ⟨1536 + l, by omega⟩)).mp h (1 : Fin 2)).1
    omega

theorem outs_z (c : Dev nD) (t : Fin cfg0.N) (j : Fin 512) (l : Fin 384) : ((outsAt0 m c t.val t.isLt).1 : Vec Ideal S512x2304 .bf16) (ix2 j ⟨1536 + l, by omega⟩)
    = k0_pay118 (blkQ m c t) (iblk m c 11 t) (latent (iblk m c 0 t)) (iblk m c 9 t) (ix2 j l) := by
  by_cases h : t.val % 16 = 0
  · rw [outsAt0_A m c t h h h h]
    dsimp only
    unfold out0_A_18
    rw [View.read_writes_eq_canon _ _ _ (fun _ => cover0_A_18 ..)]
    unfold kernelRun0_A
    dsimp only
    sl_unfold_words
    refine (canon_latent j l _ _ _ _ _ _ _).trans ?_
    simp only [View.readAt_eq_ld, (hs0_0 _).read_unread, (hs0_4 _).read_unread, (hs0_9 _).read_unread, (hs0_11 _).read_unread, (hs0_16 _).read_unread, (hs0_17 _).read_unread, ld_all]
    rw [read_q m c t]
    rfl
  · rw [outsAt0_B m c t h h h h]
    dsimp only
    unfold out0_B_18
    rw [View.read_writes_eq_canon _ _ _ (fun _ => cover0_B_18 ..)]
    unfold kernelRun0_B
    dsimp only
    sl_unfold_words
    refine (canon_latent j l _ _ _ _ _ _ _).trans ?_
    simp only [View.readAt_eq_ld, (hs0_0 _).read_unread, (hs0_4 _).read_unread, (hs0_9 _).read_unread, (hs0_11 _).read_unread, (hs0_16 _).read_unread, (hs0_17 _).read_unread, ld_all]
    rw [read_q m c t]
    rfl

end Cert.MidIdeal.Result

end
-- ==== Proof.MidWin.lean ====
/-
  The call between the attentions' gradients and the projections' gradients: the blocks of the windows it reads, and its
  results over the whole arrays.
-/
module

public import proofs.«01_k».proof.Proof.MidBlock

@[expose] public section

set_option maxRecDepth 16384

noncomputable section

namespace Cert.MidIdeal.Result

open Cert.MidIdeal Cert.MidIdeal.Gen Cert.Rows Cert.Tiles Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ)

/-- The index maps: the windows of rows move by one tile a point, the others stay. -/
theorem idx : ∀ t : Fin grid0.N, (win0_0.index t 0 = t.val ∧ win0_0.index t 1 = 0)
    ∧ (win0_4.index t 0 = t.val ∧ win0_4.index t 1 = 0)
    ∧ (win0_9.index t 0 = 0 ∧ win0_9.index t 1 = 0)
    ∧ (win0_11.index t 0 = 0 ∧ win0_11.index t 1 = 0)
    ∧ (win0_16.index t 0 = t.val ∧ win0_16.index t 1 = 0)
    ∧ (win0_17.index t 0 = t.val ∧ win0_17.index t 1 = 0)
    ∧ (win0_18.index t 0 = t.val ∧ win0_18.index t 1 = 0)
    ∧ (win0_19.index t 0 = t.val ∧ win0_19.index t 1 = 0)
    ∧ (win0_24.index t 0 = 0 ∧ win0_24.index t 1 = 0) := by decide +kernel

/-- A tile of a window of rows is its rows; the other windows hold their whole arrays. -/
theorem blk_0 (c : Dev nD) (t : Fin cfg0.N) (j : Fin 512) (l : Fin 2304) :
    (iblk m c 0 t : Vec Ideal S512x2304 .f32) (ix2 j l) = (V m c main_v18 : Vec Ideal S8192x2304 .f32) (ix2 (row t j) l) := by
  unfold iblk
  rw [View.read_apply]
  exact at2 (V m c main_v18 : Vec Ideal S8192x2304 .f32) (row_at (idx t).1.1 (lt_of_lt_of_eq t.isLt N_0) j) (all_at (idx t).1.2 l)

theorem blk_4 (c : Dev nD) (t : Fin cfg0.N) (j : Fin 512) (l : Fin 1024) :
    (iblk m c 4 t : Vec Ideal S512x1024 .f32) (ix2 j l) = (V m c main_v100 : Vec Ideal S8192x1024 .f32) (ix2 (row t j) l) := by
  unfold iblk
  rw [View.read_apply]
  exact at2 (V m c main_v100 : Vec Ideal S8192x1024 .f32) (row_at (idx t).2.1.1 (lt_of_lt_of_eq t.isLt N_0) j) (all_at (idx t).2.1.2 l)

theorem blk_16 (c : Dev nD) (t : Fin cfg0.N) (j : Fin 512) (l : Fin 128) :
    (iblk m c 16 t : Vec Ideal S512x128 .f32) (ix2 j l) = (V m c main_v45 : Vec Ideal S8192x128 .f32) (ix2 (row t j) l) := by
  unfold iblk
  rw [View.read_apply]
  exact at2 (V m c main_v45 : Vec Ideal S8192x128 .f32) (row_at (idx t).2.2.2.2.1.1 (lt_of_lt_of_eq t.isLt N_0) j) (all_at (idx t).2.2.2.2.1.2 l)

theorem blk_17 (c : Dev nD) (t : Fin cfg0.N) (j : Fin 512) (l : Fin 128) :
    (iblk m c 17 t : Vec Ideal S512x128 .f32) (ix2 j l) = (V m c main_v50 : Vec Ideal S8192x128 .f32) (ix2 (row t j) l) := by
  unfold iblk
  rw [View.read_apply]
  exact at2 (V m c main_v50 : Vec Ideal S8192x128 .f32) (row_at (idx t).2.2.2.2.2.1.1 (lt_of_lt_of_eq t.isLt N_0) j) (all_at (idx t).2.2.2.2.2.1.2 l)

theorem blk_9 (c : Dev nD) (t : Fin cfg0.N) (j : Fin 1) (l : Fin 384) :
    (iblk m c 9 t : Vec Ideal S1x384 .f32) (ix2 j l) = (V m c main_v112 : Vec Ideal S1x384 .f32) (ix2 j l) := by
  unfold iblk
  rw [View.read_apply]
  exact at2 (V m c main_v112 : Vec Ideal S1x384 .f32) (all_at (idx t).2.2.1.1 j) (all_at (idx t).2.2.1.2 l)

theorem blk_11 (c : Dev nD) (t : Fin cfg0.N) (j : Fin 384) (l : Fin 1024) :
    (iblk m c 11 t : Vec Ideal S384x1024 .bf16) (ix2 j l) = (V m c main_v114 : Vec Ideal S384x1024 .bf16) (ix2 j l) := by
  unfold iblk
  rw [View.read_apply]
  exact at2 (V m c main_v114 : Vec Ideal S384x1024 .bf16) (all_at (idx t).2.2.2.1.1 j) (all_at (idx t).2.2.2.1.2 l)

/-- The gradient of the projections' columns after the run, row by row, -/
theorem final_z (c : Dev nD) (t : Fin cfg0.N) (j : Fin 512) (l : Fin 2304) :
    ((dats m 0 c).arrAt 18 cfg0.N : Vec Ideal S8192x2304 .bf16) (ix2 (row t j) l) = (outsAt0 m c t.val t.isLt).1 (ix2 j l) := by
  have h := (dats m 0 c).arrAt_emb_eq_flushed 18 (fun t t' _ _ hne => (cfg0.win 18).disjoint_blk fun h => hne
    ((by decide +kernel : ∀ t t' : Fin grid0.N, win0_18.index t = win0_18.index t' → t = t') t t' h)) t (flush0_18 t) (ix2 j l)
  rw [show (dats m 0 c).flushed 18 t = (cfg0.win 18).cut (grid0.coords t) (outsAt0 m c t.val t.isLt).1 by
    show (cfg0.win 18).cut (grid0.coords t) ((dats m 0 c).after 18 t) = _
    rw [after0_18]] at h
  generalize (outsAt0 m c t.val t.isLt).1 = o at h ⊢
  refine (at2 ((dats m 0 c).arrAt 18 cfg0.N : Vec Ideal S8192x2304 .bf16) ?_ ?_).symm.trans h
  · exact row_at (idx t).2.2.2.2.2.2.1.1 (lt_of_lt_of_eq t.isLt N_0) j
  · exact all_at (idx t).2.2.2.2.2.2.1.2 l

/-- that of the queries before their rotation, -/
theorem final_q (c : Dev nD) (t : Fin cfg0.N) (j : Fin 512) (l : Fin 1024) :
    ((dats m 0 c).arrAt 19 cfg0.N : Vec Ideal S8192x1024 .bf16) (ix2 (row t j) l) = (outsAt0 m c t.val t.isLt).2.1 (ix2 j l) := by
  have h := (dats m 0 c).arrAt_emb_eq_flushed 19 (fun t t' _ _ hne => (cfg0.win 19).disjoint_blk fun h => hne
    ((by decide +kernel : ∀ t t' : Fin grid0.N, win0_19.index t = win0_19.index t' → t = t') t t' h)) t (flush0_19 t) (ix2 j l)
  rw [show (dats m 0 c).flushed 19 t = (cfg0.win 19).cut (grid0.coords t) (outsAt0 m c t.val t.isLt).2.1 by
    show (cfg0.win 19).cut (grid0.coords t) ((dats m 0 c).after 19 t) = _
    rw [after0_19]] at h
  generalize (outsAt0 m c t.val t.isLt).2.1 = o at h ⊢
  refine (at2 ((dats m 0 c).arrAt 19 cfg0.N : Vec Ideal S8192x1024 .bf16) ?_ ?_).symm.trans h
  · exact row_at (idx t).2.2.2.2.2.2.2.1.1 (lt_of_lt_of_eq t.isLt N_0) j
  · exact all_at (idx t).2.2.2.2.2.2.2.1.2 l

/-- The last point, the only one that writes the gain's gradient back. -/
abbrev tl : Fin cfg0.N := ⟨15, by rw [show cfg0.N = 16 from N_0]; decide⟩

/-- and the gain's gradient, which the last point left. -/
theorem final_g (c : Dev nD) (z : Fin 1) (l : Fin 384) :
    ((dats m 0 c).arrAt 24 cfg0.N : Vec Ideal S1x384 .f32) (ix2 z l) = (outsAt0 m c tl.val tl.isLt).2.2.2.2.2.2.1 (ix2 z l) := by
  have h := (dats m 0 c).arrAt_emb_eq_flushed 24 (fun t t' h h' hne => by
    have hN : cfg0.N = 16 := N_0
    have h1 := (flush0_24 t).mp h
    have h2 := (flush0_24 t').mp h'
    exact absurd (Fin.ext (by omega)) hne) tl ((flush0_24 tl).mpr rfl) (ix2 z l)
  rw [show (dats m 0 c).flushed 24 tl = (cfg0.win 24).cut (grid0.coords tl) (outsAt0 m c tl.val tl.isLt).2.2.2.2.2.2.1 by
    show (cfg0.win 24).cut (grid0.coords tl) ((dats m 0 c).after 24 tl) = _
    rw [after0_24]] at h
  generalize (outsAt0 m c tl.val tl.isLt).2.2.2.2.2.2.1 = o at h ⊢
  refine (at2 ((dats m 0 c).arrAt 24 cfg0.N : Vec Ideal S1x384 .f32) ?_ ?_).symm.trans h
  · exact all_at (idx tl).2.2.2.2.2.2.2.2.1 z
  · exact all_at (idx tl).2.2.2.2.2.2.2.2.2 l

end Cert.MidIdeal.Result

end
-- ==== Proof.MidPack.lean ====
/-
  The call between the attentions' gradients and the projections' gradients: the order in which the columns lie in its
  lanes.
-/
module

public import proofs.«01_k».proof.Proof.MidWin
public import proofs.«01_k».proof.Proof.Lanes

@[expose] public section

set_option maxRecDepth 16384

noncomputable section

namespace Cert.MidIdeal.Result

open Cert.MidIdeal Cert.MidIdeal.Gen Cert.Rows Cert.Tiles Cert.Lanes Idealize.ShloMosaic Idealize.ShloMosaic.TcCoe Idealize.SL.Sem
open Idealize.ShloMosaic.Pointwise

variable (m : (ℓ : Loc nD τ sig) → Buf (Elt Ideal) ℓ) (c : Dev nD)

/-- The arguments: the low-rank queries' latents, their gain and weight, the tables of the rotation and the cotangent. -/
abbrev CQ : Vec Ideal S8192x384 .f32 := m ((c : Thread nD τ).loc main_arg3)
abbrev GQ : Vec Ideal S384 .f32 := m ((c : Thread nD τ).loc main_arg8)
abbrev WQ : Vec Ideal S384x768 .f32 := m ((c : Thread nD τ).loc main_arg10)
abbrev CB : Vec Ideal S8192x32 .f32 := m ((c : Thread nD τ).loc main_arg14)
abbrev SB : Vec Ideal S8192x32 .f32 := m ((c : Thread nD τ).loc main_arg15)
abbrev DQ : Vec Ideal S8192x8x96 .f32 := m ((c : Thread nD τ).loc main_arg19)

/-- The host's operations before the call, in order. -/
abbrev line : List (HloOp τ sig (Elt Ideal)) :=
  List.flatten [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, hostOps0_23, hostOps0_24, hostOps0_25, hostOps0_26, hostOps0_27, hostOps0_28, hostOps0_29, hostOps0_30, hostOps0_31, hostOps0_32,
    hostOps0_33, hostOps0_34, hostOps0_35, hostOps0_36, hostOps0_37, hostOps0_38]

/-- A lane's column, from the two parts of which a head's half is put together. -/
theorem mcol_lo (p : Fin 1024) (h' : mcol (p.val % 128) < 96) (h : p.val % 64 < 16) :
    64 + (p.val % 64 / 8 * 16 + p.val / 64 % 2 * 8 + p.val % 64 % 8) = mcol (p.val % 128) := by
  have e := mcol_parts p h'
  rw [if_pos h] at e
  omega
theorem mcol_hi (p : Fin 1024) (h' : mcol (p.val % 128) < 96) (h : ¬ p.val % 64 < 16) :
    p.val / 64 % 2 * 32 + (p.val % 64 - 16) = mcol (p.val % 128) := by
  have e := mcol_parts p h'
  rw [if_neg h] at e
  omega

/-- The cotangent in its lanes. -/
theorem dq_lanes (A : Fin 8192 → Fin 8 → Fin 96 → ℝ) (hA : ∀ r h d, DQ m c (ix3 r h d) = (A r h d : EReal)) (r : Fin 8192) (p : Fin 1024) :
    (V m c main_v100 : Vec Ideal S8192x1024 .f32) (ix2 r p) = (spread mcol (A r) p : EReal) := by
  simp only [V, List.flatten_cons, List.flatten_nil, List.append_nil, List.cons_append, List.nil_append]
  after_reads_simp
  try simp only [StableHlo.TRef.toBuf, StableHlo.TRef.ofBuf, cast_eq, id_eq]
  pointwise []
  refine spread_pad mcol (A r) p _ _ _ (mcol_lt p) (fun h h' => ?_) (by first | rfl | simp [Ideal.ofBits, Ideal.ieee])
  after_reads_simp
  try simp only [StableHlo.TRef.toBuf, StableHlo.TRef.ofBuf, cast_eq, id_eq]
  pointwise []
  refine Eq.trans ?_ (hA _ _ _)
  split
  · rename_i hl
    exact congrArg (fun d => DQ m c (ix3 r ⟨p.val / 128, by omega⟩ d)) (Fin.ext (mcol_lo p h' hl))
  · rename_i hl
    exact congrArg (fun d => DQ m c (ix3 r ⟨p.val / 128, by omega⟩ d)) (Fin.ext (mcol_hi p h' hl))

/-- The weight, likewise. -/
theorem wq_lanes (B : Fin 384 → Fin 8 → Fin 96 → ℝ) (hB : ∀ l h d, WQ m c (ix2 l ⟨h.val * 96 + d.val, by omega⟩) = (B l h d : EReal))
    (l : Fin 384) (p : Fin 1024) : (V m c main_v114 : Vec Ideal S384x1024 .bf16) (ix2 l p) = (spread mcol (B l) p : EReal) := by
  simp only [V, List.flatten_cons, List.flatten_nil, List.append_nil, List.cons_append, List.nil_append]
  after_reads_simp
  try simp only [StableHlo.TRef.toBuf, StableHlo.TRef.ofBuf, cast_eq, id_eq]
  pointwise []
  refine spread_pad mcol (B l) p _ _ _ (mcol_lt p) (fun h h' => ?_) (by first | rfl | simp [Ideal.ofBits, Ideal.ieee])
  after_reads_simp
  try simp only [StableHlo.TRef.toBuf, StableHlo.TRef.ofBuf, cast_eq, id_eq]
  pointwise []
  refine Eq.trans ?_ (hB _ _ _)
  split
  · rename_i hl
    exact congrArg (fun k => WQ m c (ix2 l k)) (Fin.ext (congrArg (p.val / 128 * 96 + ·) (mcol_lo p h' hl)))
  · rename_i hl
    exact congrArg (fun k => WQ m c (ix2 l k)) (Fin.ext (congrArg (p.val / 128 * 96 + ·) (mcol_hi p h' hl)))

/-- A rotation's table in its lanes, `z` in those of no rotated column. -/
def tabl (C : Fin 32 → ℝ) (z : ℝ) (l : ℕ) : ℝ := if h : 64 ≤ mcol l ∧ mcol l < 96 then C ⟨mcol l - 64, by omega⟩ else z

theorem mcol_rot : ∀ l : Fin 128, (l.val / 64 < 2 ∧ l.val % 64 < 16) ↔ (64 ≤ mcol l ∧ mcol l < 96) := by decide +kernel
theorem mcol_rot_parts : ∀ l : Fin 128, 64 ≤ mcol l ∧ mcol l < 96 → mcol l - 64 = l.val % 64 / 8 * 16 + l.val / 64 * 8 + l.val % 64 % 8 := by decide +kernel

theorem tabl_of (C : Fin 32 → ℝ) (z : ℝ) (l : Fin 128) (f : l.val / 64 < 2 ∧ l.val % 64 < 16 → EReal) (w : EReal)
    (hf : ∀ h (e : Fin 32), e.val = l.val % 64 / 8 * 16 + l.val / 64 * 8 + l.val % 64 % 8 → f h = (C e : EReal)) (hw : w = (z : EReal)) :
    (if h : l.val / 64 < 2 ∧ l.val % 64 < 16 then f h else w) = (tabl C z l : EReal) := by
  unfold tabl
  by_cases h : l.val / 64 < 2 ∧ l.val % 64 < 16
  · rw [dif_pos h, dif_pos ((mcol_rot l).mp h)]
    exact hf h _ (mcol_rot_parts l ((mcol_rot l).mp h))
  · rw [dif_neg h, dif_neg fun x => h ((mcol_rot l).mpr x), hw]

theorem cb_lanes (C : Fin 8192 → Fin 32 → ℝ) (hC : ∀ r e, CB m c (ix2 r e) = (C r e : EReal)) (r : Fin 8192) (l : Fin 128) :
    (V m c main_v45 : Vec Ideal S8192x128 .f32) (ix2 r l) = (tabl (C r) 1 l : EReal) := by
  simp only [V, List.flatten_cons, List.flatten_nil, List.append_nil, List.cons_append, List.nil_append]
  after_reads_simp
  try simp only [StableHlo.TRef.toBuf, StableHlo.TRef.ofBuf, cast_eq, id_eq]
  pointwise []
  refine tabl_of (C r) _ l _ _ (fun h e he => Eq.trans ?_ (hC r e)) EReal.coe_one.symm
  exact congrArg (fun k => CB m c (ix2 r k)) (Fin.ext he.symm)

theorem sb_lanes (C : Fin 8192 → Fin 32 → ℝ) (hC : ∀ r e, SB m c (ix2 r e) = (C r e : EReal)) (r : Fin 8192) (l : Fin 128) :
    (V m c main_v50 : Vec Ideal S8192x128 .f32) (ix2 r l) = (tabl (C r) 0 l : EReal) := by
  simp only [V, List.flatten_cons, List.flatten_nil, List.append_nil, List.cons_append, List.nil_append]
  after_reads_simp
  try simp only [StableHlo.TRef.toBuf, StableHlo.TRef.ofBuf, cast_eq, id_eq]
  pointwise []
  refine tabl_of (C r) _ l _ _ (fun h e he => Eq.trans ?_ (hC r e)) EReal.coe_zero.symm
  exact congrArg (fun k => SB m c (ix2 r k)) (Fin.ext he.symm)

/-- The columns of the latents in the projections' rows. -/
theorem cq_lanes (r : Fin 8192) (l : Fin 384) :
    (V m c main_v18 : Vec Ideal S8192x2304 .f32) (ix2 r ⟨1536 + l.val, by omega⟩) = CQ m c (ix2 r l) := by
  rw [show (V m c main_v18 : Vec Ideal S8192x2304 .f32)
    = concatenate S8192x2304 1 [⟨S8192x1024, V m c main_v4⟩, ⟨S8192x256, V m c main_v9⟩, ⟨S8192x256, V m c main_v12⟩,
        ⟨S8192x384, V m c main_arg3⟩, ⟨S8192x256, V m c main_arg4⟩, ⟨S8192x128, V m c main_v17⟩]
        concatenates_S8192x1024_S8192x256_S8192x256_S8192x384_S8192x256_S8192x128_S8192x2304_d1 by
    refine Host.after_nary (ops := line) (xs := ![main_v4, main_v9, main_v12, main_arg3, main_arg4, main_v17]) (y := main_v18) 26 rfl ?_ ?_ ?_ _ <;> decide]
  pointwise []
  rw [dif_neg (by omega), dif_neg (by omega), dif_neg (by omega), dif_pos (by omega)]
  refine Eq.trans ?_ (show (V m c main_arg3 : Vec Ideal S8192x384 .f32) (ix2 r l) = CQ m c (ix2 r l) by
    simp only [V, List.flatten_cons, List.flatten_nil, List.append_nil, List.cons_append, List.nil_append]
    after_reads_simp)
  exact congrArg (fun k => (V m c main_arg3 : Vec Ideal S8192x384 .f32) (ix2 r k)) (Fin.ext (by show 1536 + l.val - 1024 - 256 - 256 = l; omega))

/-- The gain. -/
theorem gain (z : Fin 1) (l : Fin 384) : (V m c main_v112 : Vec Ideal S1x384 .f32) (ix2 z l) = GQ m c (ix1 l) := by
  simp only [V, List.flatten_cons, List.flatten_nil, List.append_nil, List.cons_append, List.nil_append]
  after_reads_simp
  try simp only [StableHlo.TRef.toBuf, StableHlo.TRef.ofBuf, cast_eq, id_eq]
  pointwise []

end Cert.MidIdeal.Result

end
-- ==== Proof.MidRun.lean ====
/-
  The call between the attentions' gradients and the projections' gradients: the program's results, the host's operations
  after the call included.
-/
module

public import proofs.«01_k».proof.Proof.MidPack

@[expose] public section

set_option maxRecDepth 16384

noncomputable section

namespace Cert.MidIdeal.Result

open Cert.MidIdeal Cert.MidIdeal.Gen Cert.Rows Cert.Lanes Idealize.ShloMosaic Idealize.ShloMosaic.TcCoe Idealize.SL.Sem
open Idealize.ShloMosaic.Pointwise

/-- After the call the host takes the latents' columns, -/
theorem tail_z (W : Valuation τ sig (Elt Ideal)) (r : Fin 8192) (l : Fin 384) :
    (StableHlo.after (hostOps1 (F := Ideal)) W (Proc.devRef .tc main_v118) : Vec Ideal S8192x384 .bf16) (ix2 r l)
      = (W (Proc.devRef .tc main_v117_0) : Vec Ideal S8192x2304 .bf16) (ix2 r ⟨1536 + l.val, by omega⟩) := by
  after_reads_simp
  pointwise []

/-- and the queries' columns in the problem's order. -/
theorem tail_q (W : Valuation τ sig (Elt Ideal)) (r : Fin 8192) (h : Fin 8) (d : Fin 96) :
    (StableHlo.after (hostOps1 (F := Ideal)) W (Proc.devRef .tc main_v128) : Vec Ideal S8192x8x96 .bf16) (ix3 r h d)
      = (W (Proc.devRef .tc main_v117_1) : Vec Ideal S8192x1024 .bf16) (ix2 r ⟨h.val * 128 + (mlane d).val, by omega⟩) := by
  unfold hostOps1
  after_results
  pointwise []
  split
  · rename_i hd
    refine congrArg (fun x => (W (Proc.devRef .tc main_v117_1) : Vec Ideal S8192x1024 .bf16) (ix2 r x)) (Fin.ext ?_)
    exact mlane_lo h d hd
  · rename_i hd
    refine congrArg (fun x => (W (Proc.devRef .tc main_v117_1) : Vec Ideal S8192x1024 .bf16) (ix2 r x)) (Fin.ext ?_)
    exact mlane_hi h d hd

variable (m : (ℓ : Loc nD τ sig) → Buf (Elt Ideal) ℓ) (ρ : Dev nD → PrngReg)

/-- The program's first two results, from the call's arrays. -/
def latents (c : Dev nD) : Vec Ideal S8192x384 .bf16 := fun y =>
  ((dats m 0 c).arrAt 18 cfg0.N : Vec Ideal S8192x2304 .bf16) (ix2 (y 0) ⟨1536 + (y 1).val, by have : (y 1).val < 384 := (y 1).isLt; omega⟩)
def queries (c : Dev nD) : Vec Ideal S8192x8x96 .bf16 := fun y =>
  ((dats m 0 c).arrAt 19 cfg0.N : Vec Ideal S8192x1024 .bf16) (ix2 (y 0) ⟨(y 1).val * 128 + (mlane (y 2)).val, by have : (y 1).val < 8 := (y 1).isLt; omega⟩)

/-- The program's results. -/
theorem results : θ_run defs (onTc (τ := τ) (main (F := Ideal))) ⟨m, fun _ => 0, ρ⟩ (fun r => ∀ c : Dev nD,
    r.2.mem ((c.tc : Thread nD τ).loc main_v118) = latents m c
    ∧ r.2.mem ((c.tc : Thread nD τ).loc main_v128) = queries m c
    ∧ r.2.mem ((c.tc : Thread nD τ).loc main_v117_6) = (dats m 0 c).arrAt 24 cfg0.N) := by
  refine (θ_run defs _ _).mono (fun r h c => ⟨?_, ?_, (h c).1 24⟩) (run_main m ρ)
  · refine ((h c).2 main_v118 (Pipeline.mem_restRefs_of main_v118 rfl (by decide))).trans (funext fun y => ?_)
    rw [eq_ix2 y]
    unfold Pipeline.afterTail₀
    refine (tail_z _ _ _).trans ?_
    have e := Pipeline.withArrays_arr spec0 winFacts0.arr_inj c (V0 m c) (fun w => (dats m 0 c).arrAt w cfg0.N) 18
    exact congrFun e _
  · refine ((h c).2 main_v128 (Pipeline.mem_restRefs_of main_v128 rfl (by decide))).trans (funext fun y => ?_)
    rw [eq_ix3 y]
    unfold Pipeline.afterTail₀
    refine (tail_q _ _ _ _).trans ?_
    have e := Pipeline.withArrays_arr spec0 winFacts0.arr_inj c (V0 m c) (fun w => (dats m 0 c).arrAt w cfg0.N) 19
    exact congrFun e _

end Cert.MidIdeal.Result

end
-- ==== Proof.MidValue.lean ====
/-
  The call between the attentions' gradients and the projections' gradients: the gradient of the low-rank queries before
  their rotation, of their latents and of the norm's gain, over the whole arrays.
-/
module

public import proofs.«01_k».proof.Proof.MidPack
public import proofs.«01_k».proof.Proof.Norm

@[expose] public section

set_option maxRecDepth 16384

noncomputable section

namespace Cert.MidIdeal.Result

open Cert.MidIdeal Cert.MidIdeal.Gen Cert.Rows Cert.Tiles Cert.Lanes Cert.Norm Idealize.ShloMosaic Idealize.ShloMosaic.TcCoe Idealize.SL.Sem
open Idealize.ShloMosaic.Pointwise

/-- The column that a rotation mixes with column `d`: of the 32 last columns two blocks of 16, in each the first 8 with the
    other 8. -/
def pair (d : Fin 96) : Fin 96 := ⟨(if (d.val - 64) / 8 % 2 = 0 then d.val + 8 else d.val - 8) % 96, Nat.mod_lt _ (by decide)⟩

/-- The transposed rotation of a head's 32 last columns, the others as they are. -/
def unrot (C S : Fin 32 → ℝ) (A : Fin 96 → ℝ) (d : Fin 96) : ℝ :=
  if d.val < 64 then A d
  else A d * C ⟨d.val - 64, by omega⟩ - (if (d.val - 64) / 8 % 2 = 0 then -1 else 1) * (A (pair d) * S ⟨(pair d).val - 64, by omega⟩)

theorem mcol_other_lt : ∀ l : Fin 128, mcol ((l.val + 64) % 128) < 96 ↔ mcol l < 96 := by decide +kernel
theorem mcol_other : ∀ l : Fin 128, 64 ≤ mcol l ∧ mcol l < 96 →
    mcol ((l.val + 64) % 128) = (if (mcol l - 64) / 8 % 2 = 0 then mcol l + 8 else mcol l - 8) % 96 ∧ 64 ≤ mcol ((l.val + 64) % 128)
      ∧ (l.val < 64 ↔ (mcol l - 64) / 8 % 2 = 0) := by decide +kernel
theorem mcol_other_lo : ∀ l : Fin 128, mcol l < 64 → mcol ((l.val + 64) % 128) < 64 := by decide +kernel

/-- In lanes the rotation is a product with one table and one of the other half's lane with the other. -/
theorem unrot_lanes (C S : Fin 32 → ℝ) (A : Fin 8 → Fin 96 → ℝ) (h : Fin 8) (l : Fin 128) :
    spread mcol A (h * 128 + l) * tabl C 1 l
        - (if l.val < 64 then -1 else 1) * (spread mcol A (h * 128 + (l.val + 64) % 128) * tabl S 0 ((l.val + 64) % 128))
      = spread mcol (fun h => unrot C S (A h)) (h * 128 + l) := by
  have ho := spread_lane mcol A h ⟨(l.val + 64) % 128, Nat.mod_lt _ (by decide)⟩
  dsimp only at ho
  rw [ho, spread_lane, spread_lane]
  by_cases hl : mcol l < 96
  · rw [dif_pos hl, dif_pos hl, dif_pos ((mcol_other_lt l).mpr hl)]
    unfold tabl unrot
    by_cases h64 : 64 ≤ mcol l
    · obtain ⟨e1, e2, e3⟩ := mcol_other l ⟨h64, hl⟩
      rw [dif_pos ⟨h64, hl⟩, dif_pos ⟨e2, (mcol_other_lt l).mpr hl⟩]
      have ep : (⟨mcol ((l.val + 64) % 128), (mcol_other_lt l).mpr hl⟩ : Fin 96) = pair ⟨mcol l, hl⟩ := Fin.ext e1
      have es : (⟨mcol ((l.val + 64) % 128) - 64, by omega⟩ : Fin 32) = ⟨(pair ⟨mcol l, hl⟩).val - 64, by omega⟩ := Fin.ext (by
        show mcol ((l.val + 64) % 128) - 64 = (pair ⟨mcol l, hl⟩).val - 64
        rw [← ep])
      rw [ep, es]
      simp only [e3]
      rw [if_neg (show ¬ mcol l.val < 64 by omega)]
    · have e4 := mcol_other_lo l (by omega)
      rw [dif_neg (fun x => h64 x.1), dif_neg (fun x => absurd x.1 (by omega))]
      dsimp only
      rw [if_pos (show mcol l.val < 64 by omega)]
      ring
  · rw [dif_neg hl, dif_neg hl, dif_neg (fun x => hl ((mcol_other_lt l).mp x))]
    ring

/-- So is a tile's rotated gradient. -/
theorem tileQ_lanes (x : Vec Ideal S512x1024 .f32) (cc ss : Vec Ideal S512x128 .f32) (C S : Fin 32 → ℝ) (A : Fin 8 → Fin 96 → ℝ) (j : Fin 512)
    (hx : ∀ p : Fin 1024, x (ix2 j p) = (spread mcol A p : EReal)) (hc : ∀ l : Fin 128, cc (ix2 j l) = (tabl C 1 l : EReal))
    (hs : ∀ l : Fin 128, ss (ix2 j l) = (tabl S 0 l : EReal)) (p : Fin 1024) :
    tileQ x cc ss j p = (spread mcol (fun h => unrot C S (A h)) p : EReal) := by
  have e := unrot_lanes C S A ⟨p.val / 128, by omega⟩ ⟨p.val % 128, by omega⟩
  dsimp only at e
  rw [show p.val / 128 * 128 + p.val % 128 = p.val by omega] at e
  rw [← e]
  unfold tileQ
  rw [hx, hc, hx, hs, show sgn p = ((if p.val % 128 < 64 then -1 else 1 : ℝ) : EReal) by unfold sgn; split <;> simp]
  have e1 : other p = p.val / 128 * 128 + (p.val % 128 + 64) % 128 := rfl
  have e2 : other p % 128 = (p.val % 128 + 64) % 128 := by unfold other; omega
  dsimp only
  rw [e2, e1, ← EReal.coe_mul, ← EReal.coe_mul, ← EReal.coe_mul, ← EReal.coe_sub]

/-- A sum over the lanes of eight heads side by side, head by head; likewise over their columns. -/
theorem sum_heads {M : Type} [AddCommMonoid M] {n N : ℕ} (hN : 8 * n = N) (f : Fin N → M) :
    ∑ p, f p = ∑ h : Fin 8, ∑ l : Fin n, f ⟨h.val * n + l.val, by have := h.isLt; have := l.isLt; subst hN; nlinarith⟩ := by
  subst hN
  rw [← finProdFinEquiv.sum_comp f, Fintype.sum_prod_type]
  exact Finset.sum_congr rfl fun h _ => Finset.sum_congr rfl fun l _ => congrArg f (Fin.ext (by show l.val + n * h.val = h.val * n + l.val; ring))

/-- The gradient at the normed latents: the product of the gradient before the rotation with the weight's transpose. -/
def dlat (C S : Fin 32 → ℝ) (A B : Fin 8 → Fin 96 → ℝ) : ℝ := ∑ h : Fin 8, ∑ d : Fin 96, unrot C S (A h) d * B h d

theorem tileN_lanes (q : Vec Ideal S512x1024 .bf16) (w : Vec Ideal S384x1024 .bf16) (C S : Fin 32 → ℝ) (A B : Fin 8 → Fin 96 → ℝ) (j : Fin 512) (l : Fin 384)
    (hq : ∀ p : Fin 1024, q (ix2 j p) = (spread mcol (fun h => unrot C S (A h)) p : EReal)) (hw : ∀ p : Fin 1024, w (ix2 l p) = (spread mcol B p : EReal)) :
    tileN q w j l = (dlat C S A B : EReal) := by
  unfold tileN dlat
  simp only [hq, hw, ← EReal.coe_mul]
  rw [coe_sum, sum_heads (n := 128) rfl]
  refine congrArg _ (Finset.sum_congr rfl fun h _ => ?_)
  exact sum_spread mcol mlane mcol_mlane mlane_mcol _ _ h h

section

variable (m : (ℓ : Loc nD τ sig) → Buf (Elt Ideal) ℓ) (c : Dev nD)
variable (C S : Fin 8192 → Fin 32 → ℝ) (A : Fin 8192 → Fin 8 → Fin 96 → ℝ) (B : Fin 384 → Fin 8 → Fin 96 → ℝ)
variable (hC : ∀ r e, CB m c (ix2 r e) = (C r e : EReal)) (hS : ∀ r e, SB m c (ix2 r e) = (S r e : EReal))
variable (hA : ∀ r h d, DQ m c (ix3 r h d) = (A r h d : EReal))
variable (hB : ∀ l h d (p : Fin 768), p.val = h.val * 96 + d.val → WQ m c (ix2 l p) = (B l h d : EReal))

include hC hS hA in
/-- A tile's rotated gradient from the program's arguments, -/
theorem blkQ_lanes (t : Fin cfg0.N) (j : Fin 512) (p : Fin 1024) :
    blkQ m c t (ix2 j p) = (spread mcol (fun h => unrot (C (row t j)) (S (row t j)) (A (row t j) h)) p : EReal) :=
  tileQ_lanes _ _ _ _ _ _ j (fun p => (blk_4 m c t j p).trans (dq_lanes m c A hA _ p)) (fun l => (blk_16 m c t j l).trans (cb_lanes m c C hC _ l))
    (fun l => (blk_17 m c t j l).trans (sb_lanes m c S hS _ l)) p

include hC hS hA hB in
/-- the gradient at the normed latents, -/
theorem blk_dlat (t : Fin cfg0.N) (j : Fin 512) (l : Fin 384) :
    tileN (blkQ m c t) (iblk m c 11 t) j l = (dlat (C (row t j)) (S (row t j)) (A (row t j)) (B l) : EReal) :=
  tileN_lanes _ _ _ _ _ _ j l (blkQ_lanes m c C S A hC hS hA t j) fun p => (blk_11 m c t l p).trans (wq_lanes m c B (fun l h d => hB l h d _ rfl) l p)

/-- the latents and the gain. -/
theorem blk_x (t : Fin cfg0.N) (j : Fin 512) (l : Fin 384) : latent (iblk m c 0 t) (ix2 j l) = CQ m c (ix2 (row t j) l) := by
  unfold latent
  rw [ld_cols (iblk m c 0 t) _ j l (by omega)]
  exact (blk_0 m c t j _).trans (cq_lanes m c _ l)

theorem blk_g (t : Fin cfg0.N) (l : Fin 384) : (iblk m c 9 t : Vec Ideal S1x384 .f32) (ix2 0 l) = GQ m c (ix1 l) :=
  (blk_9 m c t 0 l).trans (gain m c 0 l)

include hC hS hA in
/-- The gradient of the queries before their rotation, in its array. -/
theorem result_q (r : Fin 8192) (p : Fin 1024) : ((dats m 0 c).arrAt 19 cfg0.N : Vec Ideal S8192x1024 .bf16) (ix2 r p)
    = (spread mcol (fun h => unrot (C r) (S r) (A r h)) p : EReal) := by
  have ht : (r : ℕ) / 512 < cfg0.N := by rw [show cfg0.N = 16 from N_0]; have := r.isLt; omega
  have h := final_q m c ⟨r / 512, ht⟩ (place r) p
  rw [outs_q, blkQ_lanes m c C S A hC hS hA] at h
  simp only [row_place] at h
  exact h

/-- The gradient of a row of latents, through the norm. -/
def dcq (x : Vec Ideal S8192x384 .f32) (g : Vec Ideal S384 .f32) (r : Fin 8192) (l : Fin 384) : EReal :=
  back (1 / 384) (fun l => x (ix2 r l)) (fun l => (dlat (C r) (S r) (A r) (B l) : EReal) * g (ix1 l)) l

/-- The gain's gradient: a sum over all rows. -/
def dgq (x : Vec Ideal S8192x384 .f32) (l : Fin 384) : EReal :=
  ∑ r : Fin 8192, (dlat (C r) (S r) (A r) (B l) : EReal) * (x (ix2 r l) * rstd (1 / 384) fun l : Fin 384 => x (ix2 r l))

include hC hS hA hB in
/-- The gradient of the latents, in its columns of the first array. -/
theorem result_z (r : Fin 8192) (l : Fin 384) : ((dats m 0 c).arrAt 18 cfg0.N : Vec Ideal S8192x2304 .bf16) (ix2 r ⟨1536 + l.val, by omega⟩)
    = dcq C S A B (CQ m c) (GQ m c) r l := by
  have ht : (r : ℕ) / 512 < cfg0.N := by rw [show cfg0.N = 16 from N_0]; have := r.isLt; omega
  have h := final_z m c ⟨r / 512, ht⟩ (place r) ⟨1536 + l.val, by omega⟩
  rw [outs_z, pay_back] at h
  simp only [blk_dlat m c C S A B hC hS hA hB, blk_x, blk_g, row_place] at h
  exact h

include hC hS hA hB in
/-- The gain's gradient after point `n`: the sum over the rows so far. -/
theorem outs_g (z : Fin 1) (l : Fin 384) : ∀ (n : ℕ) (h : n < cfg0.N),
    ((outsAt0 m c n h).2.2.2.2.2.2.1 : Vec Ideal S1x384 .f32) (ix2 z l) = ∑ t ∈ Finset.range (n + 1), ∑ j : Fin 512,
      (dlat (C (row t j)) (S (row t j)) (A (row t j)) (B l) : EReal) * (CQ m c (ix2 (row t j) l) * rstd (1 / 384) fun l : Fin 384 => CQ m c (ix2 (row t j) l))
  | 0, h => by
    rw [outs_g_zero, pay_gain, pay_zero, zero_add, Finset.sum_range_one]
    simp only [blk_dlat m c C S A B hC hS hA hB, blk_x]
  | n + 1, h => by
    rw [outs_g_succ, pay_gain, Finset.sum_range_succ]
    simp only [blk_dlat m c C S A B hC hS hA hB, blk_x]
    exact congrArg (· + _) (outs_g z l n _)

include hC hS hA hB in
theorem result_g (z : Fin 1) (l : Fin 384) :
    ((dats m 0 c).arrAt 24 cfg0.N : Vec Ideal S1x384 .f32) (ix2 z l) = dgq C S A B (CQ m c) l := by
  rw [final_g, outs_g m c C S A B hC hS hA hB z l 15]
  exact sum_rows fun r => (dlat (C r) (S r) (A r) (B l) : EReal) * (CQ m c (ix2 r l) * rstd (1 / 384) fun l : Fin 384 => CQ m c (ix2 r l))

end

end Cert.MidIdeal.Result

end
-- ==== Proof.MidRef.lean ====
/-
  The gradient of the low-rank queries' latents as the reference computes it.
-/
module

public import proofs.«01_k».proof.Proof.MidValue
public import proofs.«01_k».proof.Proof.Gen.MidRefIdeal.Read

@[expose] public section

set_option maxRecDepth 16384

noncomputable section

namespace Cert.MidRefIdeal.Result

open Cert.MidRefIdeal Cert.MidRefIdeal.Read Cert.Rows Cert.Norm Idealize.ShloMosaic Idealize.ShloMosaic.TcCoe
open Idealize.ShloMosaic.Pointwise Idealize.ShloMosaic.StableHlo
open Cert.MidIdeal.Result (unrot dlat dcq dgq pair sum_heads)

variable {cb sb : Vec Ideal S8192x32 .f32} {dq : Vec Ideal S8192x8x96 .f32} {w : Vec Ideal S384x768 .f32}
variable (C S : Fin 8192 → Fin 32 → ℝ) (A : Fin 8192 → Fin 8 → Fin 96 → ℝ) (B : Fin 384 → Fin 8 → Fin 96 → ℝ)
variable (hC : ∀ r e, cb (ix2 r e) = (C r e : EReal)) (hS : ∀ r e, sb (ix2 r e) = (S r e : EReal))
variable (hA : ∀ r h d, dq (ix3 r h d) = (A r h d : EReal))
variable (hB : ∀ l h d (p : Fin 768), p.val = h.val * 96 + d.val → w (ix2 l p) = (B l h d : EReal))

/-- Padding the last of three axes with zeros. -/
theorem pad_last {a b n N lo hi : ℕ} (x : Vec Ideal ⟨3, ![a, b, n]⟩ .f32) (h) (hu) (i : Fin a) (j : Fin b) (k : Fin N) :
    pad (⟨3, ![a, b, N]⟩ : Shape) ![0, 0, lo] ![0, 0, hi] ![0, 0, 0] x (constant (F := Ideal) S_ .f32 0x00000000#32) h hu (ix3 i j k)
      = if hk : lo ≤ k.val ∧ k.val - lo < n then x (ix3 i j ⟨k.val - lo, hk.2⟩) else (0 : EReal) := by
  rw [pad_apply]
  by_cases hk : lo ≤ k.val ∧ k.val - lo < n
  · rw [dif_pos hk, dif_pos fun c => by
      match c with
      | 0 => exact ⟨Nat.zero_le _, Nat.mod_one _, show (i.val - 0) / (0 + 1) < a by have := i.isLt; omega⟩
      | 1 => exact ⟨Nat.zero_le _, Nat.mod_one _, show (j.val - 0) / (0 + 1) < b by have := j.isLt; omega⟩
      | 2 => exact ⟨hk.1, Nat.mod_one _, show (k.val - lo) / (0 + 1) < n by have := hk.2; omega⟩]
    refine congrArg x (funext fun c => ?_)
    match c with
    | 0 => exact Fin.ext (show (i.val - 0) / (0 + 1) = i.val by omega)
    | 1 => exact Fin.ext (show (j.val - 0) / (0 + 1) = j.val by omega)
    | 2 => exact Fin.ext (show (k.val - lo) / (0 + 1) = k.val - lo by omega)
  · rw [dif_neg hk, dif_neg fun hin => hk ⟨(hin 2).1, by
      have h2 : (k.val - lo) / (0 + 1) < n := (hin 2).2.2
      omega⟩]
    first | rfl | exact (by simp [Ideal.ofBits, Ideal.ieee] : Ideal.ofBits .f32 0x00000000#32 = 0)

include hS hA in
/-- A rotated column's gradient times the table. -/
theorem ref_part (r : Fin 8192) (h : Fin 8) (e : Fin 32) (d : Fin 96) (q : Fin 32) (hd : d.val = 64 + e.val) (hq : q.val = e.val) :
    val_main_v42 (F := Ideal) sb dq (ix3 r h e) = ((A r h d * S r q : ℝ) : EReal) := by
  have hl : ∀ e : Fin 32, 64 + e.val < 96 := fun e => by have := e.isLt; omega
  obtain rfl : q = e := Fin.ext hq
  obtain rfl : d = ⟨64 + q.val, hl q⟩ := Fin.ext hd
  rw [EReal.coe_mul, ← hA, ← hS]
  pointwise [val_main_v42, val_main_v41, val_main_v40, val_main_v34]

include hS hA in
/-- The upper sixteen columns' halves change places, one of them negated. -/
theorem ref_upper (r : Fin 8192) (h : Fin 8) (k : Fin 16) :
    val_main_v50 (F := Ideal) sb dq (ix3 r h k)
      = ((if h8 : k.val < 8 then A r h ⟨88 + k.val, by omega⟩ * S r ⟨24 + k.val, by omega⟩
          else -(A r h ⟨72 + k.val, by omega⟩ * S r ⟨8 + k.val, by omega⟩) : ℝ) : EReal) := by
  have e1 : ∀ j : Fin 8, val_main_v46 (F := Ideal) sb dq (ix3 r h j) = val_main_v42 (F := Ideal) sb dq (ix3 r h ⟨24 + j.val, by omega⟩) := fun j => by
    pointwise [val_main_v46, val_main_v44]
    exact congrArg (fun y => val_main_v42 (F := Ideal) sb dq (ix3 r h y)) (Fin.ext (by dsimp only; omega))
  have e2 : ∀ j : Fin 8, val_main_v48 (F := Ideal) sb dq (ix3 r h j) = -(val_main_v42 (F := Ideal) sb dq (ix3 r h ⟨16 + j.val, by omega⟩) : EReal) := fun j => by
    pointwise [val_main_v48, val_main_v45, val_main_v44]
  rw [val_main_v50_apply]
  show (val_main_v47 (F := Ideal) sb dq (ix3 r h k) : EReal) + val_main_v49 (F := Ideal) sb dq (ix3 r h k) = _
  rw [val_main_v47, val_main_v49, val_main_cst_3, val_main_cst_4, pad_last, pad_last]
  by_cases h8 : k.val < 8
  · rw [dif_pos (by omega), dif_neg (by omega), dif_pos h8, add_zero, e1]
    exact ref_part S A hS hA _ _ _ _ _ (by dsimp only; omega) (by dsimp only; omega)
  · rw [dif_neg (by omega), dif_pos (by omega), dif_neg h8, zero_add, e2, EReal.coe_neg]
    exact congrArg (fun y : EReal => -y) (ref_part S A hS hA _ _ _ _ _ (by dsimp only; omega) (by dsimp only; omega))

include hS hA in
/-- So do the lower sixteen columns'. -/
theorem ref_lower (r : Fin 8192) (h : Fin 8) (k : Fin 16) :
    val_main_v56 (F := Ideal) sb dq (ix3 r h k)
      = ((if h8 : k.val < 8 then A r h ⟨72 + k.val, by omega⟩ * S r ⟨8 + k.val, by omega⟩
          else -(A r h ⟨56 + k.val, by omega⟩ * S r ⟨k.val - 8, by omega⟩) : ℝ) : EReal) := by
  have e1 : ∀ j : Fin 8, val_main_v52 (F := Ideal) sb dq (ix3 r h j) = val_main_v42 (F := Ideal) sb dq (ix3 r h ⟨8 + j.val, by omega⟩) := fun j => by
    pointwise [val_main_v52, val_main_v43]
  have e2 : ∀ j : Fin 8, val_main_v54 (F := Ideal) sb dq (ix3 r h j) = -(val_main_v42 (F := Ideal) sb dq (ix3 r h ⟨j.val, by omega⟩) : EReal) := fun j => by
    pointwise [val_main_v54, val_main_v51, val_main_v43]
  rw [val_main_v56_apply]
  show (val_main_v53 (F := Ideal) sb dq (ix3 r h k) : EReal) + val_main_v55 (F := Ideal) sb dq (ix3 r h k) = _
  rw [val_main_v53, val_main_v55, val_main_cst_5, val_main_cst_6, pad_last, pad_last]
  by_cases h8 : k.val < 8
  · rw [dif_pos (by omega), dif_neg (by omega), dif_pos h8, add_zero, e1]
    exact ref_part S A hS hA _ _ _ _ _ (by dsimp only; omega) (by dsimp only; omega)
  · rw [dif_neg (by omega), dif_pos (by omega), dif_neg h8, zero_add, e2, EReal.coe_neg]
    exact congrArg (fun y : EReal => -y) (ref_part S A hS hA _ _ _ _ _ (by dsimp only; omega) rfl)

include hC hS hA in
/-- The gradient of the rotated columns. -/
theorem ref_rot (r : Fin 8192) (h : Fin 8) (e : Fin 32) :
    val_main_v62 (F := Ideal) cb sb dq (ix3 r h e) = (unrot (C r) (S r) (A r h) ⟨64 + e.val, by omega⟩ : EReal) := by
  have e1 : val_main_v58 (F := Ideal) cb dq (ix3 r h e) = ((A r h ⟨64 + e.val, by omega⟩ * C r e : ℝ) : EReal) := by
    rw [EReal.coe_mul, ← hA, ← hC]
    pointwise [val_main_v58, val_main_v57, val_main_v40, val_main_v22]
  rw [val_main_v62_apply]
  show ((val_main_v58 (F := Ideal) cb dq (ix3 r h e) : EReal) + val_main_v59 (F := Ideal) sb dq (ix3 r h e))
    + val_main_v61 (F := Ideal) sb dq (ix3 r h e) = _
  rw [e1, val_main_v59, val_main_v61, val_main_cst_7, val_main_cst_8, pad_last, pad_last]
  unfold unrot
  rw [if_neg (show ¬ (64 + e.val < 64) by omega)]
  have e2 : (⟨64 + e.val - 64, by omega⟩ : Fin 32) = e := Fin.ext (by dsimp only; omega)
  dsimp only
  rw [e2]
  have hp : ∀ (d : Fin 96) (q : Fin 32), (pair ⟨64 + e.val, by omega⟩).val = d.val → d.val = 64 + q.val →
      A r h (pair ⟨64 + e.val, by omega⟩) * S r ⟨(pair ⟨64 + e.val, by omega⟩).val - 64, by omega⟩ = A r h d * S r q := fun d q h1 h2 => by
    congr 2
    · exact Fin.ext h1
    · exact Fin.ext (by dsimp only; omega)
  by_cases h16 : 16 ≤ e.val
  · rw [dif_pos ⟨h16, by omega⟩, dif_neg (by omega), add_zero, ref_upper S A hS hA, ← EReal.coe_add]
    by_cases h8 : e.val - 16 < 8
    · rw [dif_pos h8, if_pos (by omega), hp ⟨88 + (e.val - 16), by omega⟩ ⟨24 + (e.val - 16), by omega⟩ (by unfold pair; dsimp only; split <;> omega) (by dsimp only; omega)]
      congr 1; ring
    · rw [dif_neg h8, if_neg (by omega), hp ⟨72 + (e.val - 16), by omega⟩ ⟨8 + (e.val - 16), by omega⟩ (by unfold pair; dsimp only; split <;> omega) (by dsimp only; omega)]
      congr 1; ring
  · rw [dif_neg (by omega), dif_pos (by omega), add_zero, ref_lower S A hS hA, ← EReal.coe_add]
    by_cases h8 : e.val - 0 < 8
    · rw [dif_pos h8, if_pos (by omega), hp ⟨72 + (e.val - 0), by omega⟩ ⟨8 + (e.val - 0), by omega⟩ (by unfold pair; dsimp only; split <;> omega) (by dsimp only; omega)]
      congr 1; ring
    · rw [dif_neg h8, if_neg (by omega), hp ⟨56 + (e.val - 0), by omega⟩ ⟨e.val - 0 - 8, by omega⟩ (by unfold pair; dsimp only; split <;> omega) (by dsimp only; omega)]
      congr 1; ring

include hC hS hA in
/-- The reference's gradient of the queries before the rotation. -/
theorem ref_dq (r : Fin 8192) (h : Fin 8) (d : Fin 96) :
    val_main_v65 (F := Ideal) cb sb dq (ix3 r h d) = (unrot (C r) (S r) (A r h) d : EReal) := by
  rw [val_main_v65_apply]
  show (val_main_v63 (F := Ideal) cb sb dq (ix3 r h d) : EReal) + val_main_v64 (F := Ideal) dq (ix3 r h d) = _
  rw [val_main_v63, val_main_v64, val_main_cst_9, val_main_cst_10, pad_last, pad_last]
  by_cases h64 : d.val < 64
  · rw [dif_neg (by omega), dif_pos (by omega), zero_add]
    unfold unrot
    rw [if_pos h64, ← hA]
    pointwise [val_main_v39]
  · rw [dif_pos (by omega), dif_neg (by omega), add_zero, ref_rot C S A hC hS hA]
    congr 2
    exact Fin.ext (by dsimp only; omega)

include hC hS hA hB in
/-- The reference's gradient at the normed latents. -/
theorem ref_dlat (r : Fin 8192) (l : Fin 384) :
    val_main_v67 (F := Ideal) w cb sb dq (ix2 r l) = (dlat (C r) (S r) (A r) (B l) : EReal) := by
  have e : ∀ (h : Fin 8) (d : Fin 96), val_main_v66 (F := Ideal) cb sb dq (ix2 r ⟨h.val * 96 + d.val, by omega⟩) = val_main_v65 (F := Ideal) cb sb dq (ix3 r h d) := fun h d => by
    pointwise [val_main_v66]
  have e0 : val_main_v67 (F := Ideal) w cb sb dq (ix2 r l) = ∑ p : Fin 768, val_main_v66 (F := Ideal) cb sb dq (ix2 r p) * w (ix2 l p) := by
    pointwise [val_main_v67]
  rw [e0, sum_heads (M := EReal) (n := 96) (by norm_num)]
  unfold dlat
  rw [← coe_sum]
  refine Finset.sum_congr (M := EReal) rfl fun h _ => ?_
  rw [← coe_sum]
  refine Finset.sum_congr (M := EReal) rfl fun d _ => ?_
  rw [e, ref_dq C S A hC hS hA, hB l h d _ rfl, EReal.coe_mul]

theorem ofBits_384 : Ideal.ofBits .f32 0x43C00000#32 = ((384 : ℝ) : EReal) := by
  simp [Ideal.ofBits, Ideal.ieee, -EReal.coe_mul]; norm_num

theorem div_384 (x : EReal) : Ideal.div x ((384 : ℝ) : EReal) = x * ((1 / 384 : ℝ) : EReal) := Ideal.div_coe (by norm_num) x

theorem ref_rstd (x : Vec Ideal S8192x384 .f32) (r : Fin 8192) (z : Fin 1) :
    val_main_v7 (F := Ideal) x (ix2 r z) = rstd (1 / 384) fun l : Fin 384 => x (ix2 r l) := by
  pointwise [val_main_v7, val_main_v6, val_main_v5, val_main_v4, val_main_v3, val_main_v2, val_main_v1, val_main_v0,
    val_main_cst, val_main_cst_0, val_main_cst_1, ofBits_384, ofBits_eps, div_384, rstd]

include hC hS hA hB in
/-- The factor of a row that comes from the mean square. -/
theorem ref_slope (x : Vec Ideal S8192x384 .f32) (g : Vec Ideal S384 .f32) (r : Fin 8192) (l : Fin 384) :
    val_main_v83 (F := Ideal) x g w cb sb dq (ix2 r l)
      = msPart (1 / 384) (fun l : Fin 384 => x (ix2 r l)) (fun l => (dlat (C r) (S r) (A r) (B l) : EReal) * g (ix1 l)) := by
  pointwise [val_main_v83, val_main_v82, val_main_v81, val_main_v80, val_main_v79, val_main_v76, val_main_v75, val_main_v74, val_main_v72,
    val_main_v71, val_main_v13, val_main_v10, val_main_v9, val_main_v8, val_main_cst_15, val_main_cst_14, val_main_cst_13, val_main_cst_2,
    ref_rstd, ref_dlat C S A B hC hS hA hB, val_main_v6, val_main_v5, val_main_v4, val_main_v3, val_main_v2, val_main_v1, val_main_v0,
    val_main_cst, val_main_cst_0, val_main_cst_1, ofBits_384, ofBits_eps, ofBits_neg_half, div_384, msPart, Fin.sum_univ_one]

include hC hS hA hB in
/-- The reference's gradient of the latents. -/
theorem ref_dcq {x : Vec Ideal S8192x384 .f32} {g : Vec Ideal S384 .f32} (hx : ∀ i, IsReal (x i)) (hg : ∀ i, IsReal (g i))
    (r : Fin 8192) (l : Fin 384) : val_main_v88 (F := Ideal) x g w cb sb dq (ix2 r l) = dcq C S A B x g r l := by
  have h : val_main_v88 (F := Ideal) x g w cb sb dq (ix2 r l)
      = (dlat (C r) (S r) (A r) (B l) : EReal) * g (ix1 l) * (rstd (1 / 384) fun l : Fin 384 => x (ix2 r l))
      + x (ix2 r l) * val_main_v83 (F := Ideal) x g w cb sb dq (ix2 r l) + val_main_v83 (F := Ideal) x g w cb sb dq (ix2 r l) * x (ix2 r l) := by
    pointwise [val_main_v88, val_main_v87, val_main_v86, val_main_v85, val_main_v84, val_main_v78, val_main_v77, val_main_v72, val_main_v71,
      val_main_v13, ref_rstd, ref_dlat C S A B hC hS hA hB]
  rw [h, ref_slope C S A B hC hS hA hB]
  unfold dcq
  exact back_eq (q := 1 / 384) (by norm_num) (fun l => hx (ix2 r l)) (fun l => (IsReal.coe (dlat (C r) (S r) (A r) (B l))).mul (hg (ix1 l))) l

include hC hS hA hB in
/-- The reference's gradient of the gain. -/
theorem ref_dgq (x : Vec Ideal S8192x384 .f32) (z : Fin 1) (l : Fin 384) :
    val_main_v90 (F := Ideal) x w cb sb dq (ix2 z l) = dgq C S A B x l := by
  unfold dgq
  simp only [mul_comm ((dlat _ _ _ _ : ℝ) : EReal)]
  pointwise [val_main_v90, val_main_v73, val_main_v70, val_main_v69, val_main_v68, val_main_v12, val_main_v11, val_main_cst_12, val_main_cst_11,
    ref_rstd, ref_dlat C S A B hC hS hA hB, Fin.sum_univ_one]

end Cert.MidRefIdeal.Result

end
-- ==== Proof.MidClaim.lean ====
/-
  The claims of the middle backward call's latent queries: the frames, and the equation with the reference.
-/
module

public import proofs.«01_k».proof.Defs
public import proofs.«01_k».proof.Proof.MidRun
public import proofs.«01_k».proof.Proof.MidRef
public import proofs.«01_k».proof.Proof.Gen.Mid.Frame
public import proofs.«01_k».proof.Proof.Gen.MidRefIdeal.Run
public import Idealize.ShloMosaic.Lib.Quiescent

@[expose] public section

set_option maxRecDepth 16384

noncomputable section

namespace Cert.Proof.Mid

open Idealize.ShloMosaic Idealize.ShloMosaic.TcCoe Idealize.ShloMosaic.Pointwise Idealize.SL.Sem
open Cert.Rows Cert.Norm Cert.Lanes

/-- The shapes of the precondition's broadcasts fit. -/
theorem preFacts : Cert.Pre_mid_finite.Facts where
  bcast_S_S8192x384 := by decide
  bcast_S_S384 := by decide
  bcast_S_S384x768 := by decide
  bcast_S_S8192x32 := by decide
  bcast_S_S8192x8x96 := by decide

theorem frame : Cert.quiescent_Mid (hMid := Cert.Mid.Gen.facts) := fun m ρ _ => Cert.Mid.Gen.frame m ρ

theorem frameIdeal : Cert.quiescent_MidIdeal (hMidIdeal := Cert.MidIdeal.Gen.facts) := fun m ρ _ => Cert.MidIdeal.Gen.frame m ρ

theorem frameIdealPre : Cert.quiescent_MidIdeal_pre_mid_finite (hMidIdeal := Cert.MidIdeal.Gen.facts) (hPre_mid_finite := preFacts) :=
  fun m ρ _ => Cert.MidIdeal.Gen.frame m ρ

/-- The reference is host operations alone: it has no semaphores. -/
theorem frameRef : Cert.quiescent_MidRefIdeal (hMidRefIdeal := Cert.MidRefIdeal.Gen.facts) := fun m ρ _ =>
  (θ_run Cert.MidRefIdeal.defs _ _).mono (fun r h => ⟨fun c => (h c).2.2.2, sem_eq_zero_of_no_sems (by decide) r.2⟩)
    (Cert.MidRefIdeal.Value.run m ρ)

theorem frameRefPre : Cert.quiescent_MidRefIdeal_pre_mid_finite (hMidRefIdeal := Cert.MidRefIdeal.Gen.facts) (hPre_mid_finite := preFacts) :=
  fun m ρ _ => frameRef m ρ trivial

/-- The named constant stands for the word that the kernel holds. -/
theorem preserves : Cert.preserves_Mid_MidIdeal :=
  IdealRules.named_const.statement Cert.MidIdeal.κ "inv_rank" .f32 0x3B2AAAAB#32 _ rfl

open Cert.MidIdeal.Result Cert.MidRefIdeal.Result in
/-- Over the extended reals the three gradients are the reference's, where the arguments that they depend on are real. -/
theorem value : Cert.algebraic_MidIdeal_MidRefIdeal_pre_mid_finite (hMidIdeal := Cert.MidIdeal.Gen.facts)
    (hMidRefIdeal := Cert.MidRefIdeal.Gen.facts) (hPre_mid_finite := preFacts) := fun m g m' g' hpre hag => by
  refine ⟨fun c => latents m c, fun c => queries m c, fun c => (Cert.MidIdeal.Gen.dats m 0 c).arrAt 24 Cert.MidIdeal.cfg0.N, ?_, ?_⟩
  · exact (θ_run Cert.MidIdeal.defs _ _).mono (fun r h c => ⟨(h.1 c).1, (h.1 c).2.1, (h.1 c).2.2, h.2 c⟩)
      (θ_run_and (results m g) (Cert.MidIdeal.Gen.unchanged m g))
  refine (θ_run Cert.MidRefIdeal.defs _ _).mono (fun r h c => ?_) (Cert.MidRefIdeal.Value.run m' g')
  obtain ⟨h0, h1, h2, h3⟩ := h c
  obtain ⟨p0, p1, p2, p3, p4, p5⟩ := hpre c
  obtain ⟨-, -, -, g3, -, -, -, -, g8, -, g10, -, -, -, g14, g15, -, -, -, g19, -, -⟩ := hag c
  obtain ⟨C, hC⟩ : ∃ C : Fin 8192 → Fin 32 → ℝ, ∀ r e, CB m c (ix2 r e) = (C r e : EReal) :=
    ⟨fun r e => (isReal_of_abs_lt (congrFun p3 (ix2 r e))).choose, fun r e => (isReal_of_abs_lt (congrFun p3 (ix2 r e))).choose_spec⟩
  obtain ⟨S, hS⟩ : ∃ S : Fin 8192 → Fin 32 → ℝ, ∀ r e, SB m c (ix2 r e) = (S r e : EReal) :=
    ⟨fun r e => (isReal_of_abs_lt (congrFun p4 (ix2 r e))).choose, fun r e => (isReal_of_abs_lt (congrFun p4 (ix2 r e))).choose_spec⟩
  obtain ⟨A, hA⟩ : ∃ A : Fin 8192 → Fin 8 → Fin 96 → ℝ, ∀ r h d, DQ m c (ix3 r h d) = (A r h d : EReal) :=
    ⟨fun r h d => (isReal_of_abs_lt (congrFun p5 (ix3 r h d))).choose, fun r h d => (isReal_of_abs_lt (congrFun p5 (ix3 r h d))).choose_spec⟩
  obtain ⟨B, hB⟩ : ∃ B : Fin 384 → Fin 8 → Fin 96 → ℝ, ∀ l h d, WQ m c (ix2 l ⟨h.val * 96 + d.val, by omega⟩) = (B l h d : EReal) :=
    ⟨fun l h d => (isReal_of_abs_lt (congrFun p2 (ix2 l ⟨h.val * 96 + d.val, by omega⟩))).choose,
      fun l h d => (isReal_of_abs_lt (congrFun p2 (ix2 l ⟨h.val * 96 + d.val, by omega⟩))).choose_spec⟩
  have hB' : ∀ l h d (p : Fin 768), p.val = h.val * 96 + d.val → WQ m c (ix2 l p) = (B l h d : EReal) := fun l h d p hp =>
    (congrArg (fun p => WQ m c (ix2 l p)) (Fin.ext hp)).trans (hB l h d)
  refine ⟨h0.trans ?_, h1.trans ?_, h2.trans ?_, h3⟩
  · rw [Cert.MidRefIdeal.Read.val_main_v88_eq, g3, g8, g10, g14, g15, g19]
    refine funext fun i => ?_
    rw [eq_ix2 i]
    exact (ref_dcq C S A B hC hS hA hB' (fun i => isReal_of_abs_lt (congrFun p0 i)) (fun i => isReal_of_abs_lt (congrFun p1 i)) _ _).trans
      (result_z m c C S A B hC hS hA hB' _ _).symm
  · rw [g14, g15, g19]
    refine (Cert.MidRefIdeal.Read.val_main_v89_eq (F := Ideal) _ _ _).trans (funext fun i => ?_)
    rw [eq_ix3 i]
    refine (ref_dq C S A hC hS hA _ _ _).trans (Eq.trans ?_ (result_q m c C S A hC hS hA _ _).symm)
    exact congrArg _ (spread_at mcol (fun h => unrot (C (i 0)) (S (i 0)) (A (i 0) h)) (i 1) (mlane (i 2)) (i 2) (mcol_mlane _)).symm
  · rw [Cert.MidRefIdeal.Read.val_main_v90_eq, g3, g10, g14, g15, g19]
    refine funext fun i => ?_
    rw [eq_ix2 i]
    exact (ref_dgq C S A B hC hS hA hB' _ _ _).trans (result_g m c C S A B hC hS hA hB' _ _).symm

end Cert.Proof.Mid

end
-- ==== Proof.lean ====
/-
  All the claims, each from the module that proves it.
-/
module

public import proofs.«01_k».proof.Defs
public import proofs.«01_k».proof.Proof.LossClaim
public import proofs.«01_k».proof.Proof.UpClaim
public import proofs.«01_k».proof.Proof.InprojClaim
public import proofs.«01_k».proof.Proof.DownClaim
public import proofs.«01_k».proof.Proof.MlaClaim
public import proofs.«01_k».proof.Proof.GqaClaim
public import proofs.«01_k».proof.Proof.MergeClaim
public import proofs.«01_k».proof.Proof.MidClaim

@[expose] public section

noncomputable section

namespace Cert.Proof

theorem claim : Cert.Claim := ⟨Cert.Loss.Gen.facts, Cert.LossIdeal.Gen.facts, Cert.LossRefIdeal.Gen.facts,
  Cert.Up.Gen.facts, Cert.UpIdeal.Gen.facts, Cert.UpRefIdeal.Gen.facts, Cert.Inproj.Gen.facts, Cert.InprojIdeal.Gen.facts, Cert.InprojRefIdeal.Gen.facts,
  Cert.Down.Gen.facts, Cert.DownIdeal.Gen.facts, Cert.DownRefIdeal.Gen.facts,
  Cert.Mla.Gen.facts, Cert.MlaIdeal.Gen.facts, Cert.MlaRefIdeal.Gen.facts,
  Cert.Gqa.Gen.facts, Cert.GqaIdeal.Gen.facts, Cert.GqaRefIdeal.Gen.facts,
  Cert.Merge.Gen.facts, Cert.MergeIdeal.Gen.facts, Cert.MergeRefIdeal.Gen.facts,
  Cert.Mid.Gen.facts, Cert.MidIdeal.Gen.facts, Cert.MidRefIdeal.Gen.facts,
  Up.preFacts, Inproj.preFacts, Down.preFacts, Mla.preFacts, Gqa.preFacts, Merge.preFacts, Mid.preFacts,
  Loss.frame, Loss.frameIdeal, Loss.frameRef, Up.frame, Up.frameIdeal, Up.frameIdealPre, Up.frameRef, Up.frameRefPre,
  Inproj.frame, Inproj.frameIdeal, Inproj.frameIdealPre, Inproj.frameRef, Inproj.frameRefPre,
  Down.frame, Down.frameIdeal, Down.frameIdealPre, Down.frameRef, Down.frameRefPre,
  Mla.frame, Mla.frameIdeal, Mla.frameIdealPre, Mla.frameRef, Mla.frameRefPre,
  Gqa.frame, Gqa.frameIdeal, Gqa.frameIdealPre, Gqa.frameRef, Gqa.frameRefPre,
  Merge.frame, Merge.frameIdeal, Merge.frameIdealPre, Merge.frameRef, Merge.frameRefPre,
  Mid.frame, Mid.frameIdeal, Mid.frameIdealPre, Mid.frameRef, Mid.frameRefPre,
  trivial, Loss.value, trivial, Up.value, trivial, Inproj.value, trivial, Down.value,
  Mla.preserves, Mla.value, Gqa.preserves, Gqa.value, trivial, Merge.value, Mid.preserves, Mid.value⟩

end Cert.Proof

end
